-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_gains_finite [hPre_gains_finite : Cert.Pre_gains_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_gains_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_gains_finite [hPre_gains_finite : Cert.Pre_gains_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_gains_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_gains_finite11 [hPre_gains_finite11 : Cert.Pre_gains_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_gains_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_gains_finite11 [hPre_gains_finite11 : Cert.Pre_gains_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_gains_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_gains_and_sinks_finite [hPre_gains_and_sinks_finite : Cert.Pre_gains_and_sinks_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_gains_and_sinks_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_gains_and_sinks_finite [hPre_gains_and_sinks_finite : Cert.Pre_gains_and_sinks_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_gains_and_sinks_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_pool_input_and_gains_finite [hPre_pool_input_and_gains_finite : Cert.Pre_pool_input_and_gains_finite.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_pool_input_and_gains_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_pool_input_and_gains_finite [hPre_pool_input_and_gains_finite : Cert.Pre_pool_input_and_gains_finite.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_pool_input_and_gains_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_pool_input_and_gains_finite19 [hPre_pool_input_and_gains_finite19 : Cert.Pre_pool_input_and_gains_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_pool_input_and_gains_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_pool_input_and_gains_finite19 [hPre_pool_input_and_gains_finite19 : Cert.Pre_pool_input_and_gains_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_pool_input_and_gains_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_gains_finite [hKernel6Ideal : Cert.Kernel6Ideal.Facts] [hPre_gains_finite : Cert.Pre_gains_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_gains_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_gains_finite [hReference6Ideal : Cert.Reference6Ideal.Facts] [hPre_gains_finite : Cert.Pre_gains_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_gains_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_gains_finite11 [hKernel11Ideal : Cert.Kernel11Ideal.Facts] [hPre_gains_finite11 : Cert.Pre_gains_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_gains_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_gains_finite11 [hReference11Ideal : Cert.Reference11Ideal.Facts] [hPre_gains_finite11 : Cert.Pre_gains_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_gains_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_gains_and_sinks_finite [hKernel13Ideal : Cert.Kernel13Ideal.Facts] [hPre_gains_and_sinks_finite : Cert.Pre_gains_and_sinks_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_gains_and_sinks_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_gains_and_sinks_finite [hReference13Ideal : Cert.Reference13Ideal.Facts] [hPre_gains_and_sinks_finite : Cert.Pre_gains_and_sinks_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_gains_and_sinks_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_pool_input_and_gains_finite [hKernel14Ideal : Cert.Kernel14Ideal.Facts] [hPre_pool_input_and_gains_finite : Cert.Pre_pool_input_and_gains_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_pool_input_and_gains_finite m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_pool_input_and_gains_finite [hReference14Ideal : Cert.Reference14Ideal.Facts] [hPre_pool_input_and_gains_finite : Cert.Pre_pool_input_and_gains_finite.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_pool_input_and_gains_finite m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Kernel19Ideal_pre_pool_input_and_gains_finite19 [hKernel19Ideal : Cert.Kernel19Ideal.Facts] [hPre_pool_input_and_gains_finite19 : Cert.Pre_pool_input_and_gains_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_pool_input_and_gains_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Reference19Ideal_pre_pool_input_and_gains_finite19 [hReference19Ideal : Cert.Reference19Ideal.Facts] [hPre_pool_input_and_gains_finite19 : Cert.Pre_pool_input_and_gains_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_pool_input_and_gains_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v27)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_gains_finite [hKernel6Ideal : Cert.Kernel6Ideal.Facts] [hReference6Ideal : Cert.Reference6Ideal.Facts] [hPre_gains_finite : Cert.Pre_gains_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_gains_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v51_0)) (v1 : (c : Dev Cert.Kernel6Ideal.nD) → Buf (Elt Ideal) ((c.tc : Thread Cert.Kernel6Ideal.nD Cert.Kernel6Ideal.τ).loc Cert.Kernel6Ideal.main_v51_1)) (v2 : (c : Dev Cert.Kernel6Ideal.nD) → Buf (Elt Ideal) ((c.tc : Thread Cert.Kernel6Ideal.nD Cert.Kernel6Ideal.τ).loc Cert.Kernel6Ideal.main_v51_2)) (v3 : (c : Dev Cert.Kernel6Ideal.nD) → Buf (Elt Ideal) ((c.tc : Thread Cert.Kernel6Ideal.nD Cert.Kernel6Ideal.τ).loc Cert.Kernel6Ideal.main_v51_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v51_0) = v0 c
          ∧ r.2.mem ((c.tc : Thread Cert.Kernel6Ideal.nD Cert.Kernel6Ideal.τ).loc Cert.Kernel6Ideal.main_v51_1) = v1 c
          ∧ r.2.mem ((c.tc : Thread Cert.Kernel6Ideal.nD Cert.Kernel6Ideal.τ).loc Cert.Kernel6Ideal.main_v51_2) = v2 c
          ∧ r.2.mem ((c.tc : Thread Cert.Kernel6Ideal.nD Cert.Kernel6Ideal.τ).loc Cert.Kernel6Ideal.main_v51_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v144) = v0 c
          ∧ r.2.mem ((c.tc : Thread Cert.Reference6Ideal.nD Cert.Reference6Ideal.τ).loc Cert.Reference6Ideal.main_v141) = v1 c
          ∧ r.2.mem ((c.tc : Thread Cert.Reference6Ideal.nD Cert.Reference6Ideal.τ).loc Cert.Reference6Ideal.main_v145) = v2 c
          ∧ r.2.mem ((c.tc : Thread Cert.Reference6Ideal.nD Cert.Reference6Ideal.τ).loc Cert.Reference6Ideal.main_v146) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_gains_finite11 [hKernel11Ideal : Cert.Kernel11Ideal.Facts] [hReference11Ideal : Cert.Reference11Ideal.Facts] [hPre_gains_finite11 : Cert.Pre_gains_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_gains_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v51) = v0 c
          ∧ r.2.mem ((c.tc : Thread Cert.Reference11Ideal.nD Cert.Reference11Ideal.τ).loc Cert.Reference11Ideal.main_v100) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal_pre_gains_and_sinks_finite [hKernel13Ideal : Cert.Kernel13Ideal.Facts] [hReference13Ideal : Cert.Reference13Ideal.Facts] [hPre_gains_and_sinks_finite : Cert.Pre_gains_and_sinks_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_gains_and_sinks_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v61)) (v1 : (c : Dev Cert.Kernel13Ideal.nD) → Buf (Elt Ideal) ((c.tc : Thread Cert.Kernel13Ideal.nD Cert.Kernel13Ideal.τ).loc Cert.Kernel13Ideal.main_v60_1)) (v2 : (c : Dev Cert.Kernel13Ideal.nD) → Buf (Elt Ideal) ((c.tc : Thread Cert.Kernel13Ideal.nD Cert.Kernel13Ideal.τ).loc Cert.Kernel13Ideal.main_v60_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v61) = v0 c
          ∧ r.2.mem ((c.tc : Thread Cert.Kernel13Ideal.nD Cert.Kernel13Ideal.τ).loc Cert.Kernel13Ideal.main_v60_1) = v1 c
          ∧ r.2.mem ((c.tc : Thread Cert.Kernel13Ideal.nD Cert.Kernel13Ideal.τ).loc Cert.Kernel13Ideal.main_v60_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v156) = v0 c
          ∧ r.2.mem ((c.tc : Thread Cert.Reference13Ideal.nD Cert.Reference13Ideal.τ).loc Cert.Reference13Ideal.main_v160) = v1 c
          ∧ r.2.mem ((c.tc : Thread Cert.Reference13Ideal.nD Cert.Reference13Ideal.τ).loc Cert.Reference13Ideal.main_v161) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_pool_input_and_gains_finite [hKernel14Ideal : Cert.Kernel14Ideal.Facts] [hReference14Ideal : Cert.Reference14Ideal.Facts] [hPre_pool_input_and_gains_finite : Cert.Pre_pool_input_and_gains_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_pool_input_and_gains_finite m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v16_0)) (v1 : (c : Dev Cert.Kernel14Ideal.nD) → Buf (Elt Ideal) ((c.tc : Thread Cert.Kernel14Ideal.nD Cert.Kernel14Ideal.τ).loc Cert.Kernel14Ideal.main_v16_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v16_0) = v0 c
          ∧ r.2.mem ((c.tc : Thread Cert.Kernel14Ideal.nD Cert.Kernel14Ideal.τ).loc Cert.Kernel14Ideal.main_v16_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v113) = v0 c
          ∧ r.2.mem ((c.tc : Thread Cert.Reference14Ideal.nD Cert.Reference14Ideal.τ).loc Cert.Reference14Ideal.main_v162) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal_pre_pool_input_and_gains_finite19 [hKernel19Ideal : Cert.Kernel19Ideal.Facts] [hReference19Ideal : Cert.Reference19Ideal.Facts] [hPre_pool_input_and_gains_finite19 : Cert.Pre_pool_input_and_gains_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_pool_input_and_gains_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v65_1)) (v1 : (c : Dev Cert.Kernel19Ideal.nD) → Buf (Elt Ideal) ((c.tc : Thread Cert.Kernel19Ideal.nD Cert.Kernel19Ideal.τ).loc Cert.Kernel19Ideal.main_v65_2)) (v2 : (c : Dev Cert.Kernel19Ideal.nD) → Buf (Elt Ideal) ((c.tc : Thread Cert.Kernel19Ideal.nD Cert.Kernel19Ideal.τ).loc Cert.Kernel19Ideal.main_v65_3)) (v3 : (c : Dev Cert.Kernel19Ideal.nD) → Buf (Elt Ideal) ((c.tc : Thread Cert.Kernel19Ideal.nD Cert.Kernel19Ideal.τ).loc Cert.Kernel19Ideal.main_v65_4)) (v4 : (c : Dev Cert.Kernel19Ideal.nD) → Buf (Elt Ideal) ((c.tc : Thread Cert.Kernel19Ideal.nD Cert.Kernel19Ideal.τ).loc Cert.Kernel19Ideal.main_v65_5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v65_1) = v0 c
          ∧ r.2.mem ((c.tc : Thread Cert.Kernel19Ideal.nD Cert.Kernel19Ideal.τ).loc Cert.Kernel19Ideal.main_v65_2) = v1 c
          ∧ r.2.mem ((c.tc : Thread Cert.Kernel19Ideal.nD Cert.Kernel19Ideal.τ).loc Cert.Kernel19Ideal.main_v65_3) = v2 c
          ∧ r.2.mem ((c.tc : Thread Cert.Kernel19Ideal.nD Cert.Kernel19Ideal.τ).loc Cert.Kernel19Ideal.main_v65_4) = v3 c
          ∧ r.2.mem ((c.tc : Thread Cert.Kernel19Ideal.nD Cert.Kernel19Ideal.τ).loc Cert.Kernel19Ideal.main_v65_5) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v209) = v0 c
          ∧ r.2.mem ((c.tc : Thread Cert.Reference19Ideal.nD Cert.Reference19Ideal.τ).loc Cert.Reference19Ideal.main_v220) = v1 c
          ∧ r.2.mem ((c.tc : Thread Cert.Reference19Ideal.nD Cert.Reference19Ideal.τ).loc Cert.Reference19Ideal.main_v141) = v2 c
          ∧ r.2.mem ((c.tc : Thread Cert.Reference19Ideal.nD Cert.Reference19Ideal.τ).loc Cert.Reference19Ideal.main_v221) = v3 c
          ∧ r.2.mem ((c.tc : Thread Cert.Reference19Ideal.nD Cert.Reference19Ideal.τ).loc Cert.Reference19Ideal.main_v222) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_gains_finite : Cert.Pre_gains_finite.Facts) (hPre_gains_finite11 : Cert.Pre_gains_finite11.Facts) (hPre_gains_and_sinks_finite : Cert.Pre_gains_and_sinks_finite.Facts) (hPre_pool_input_and_gains_finite : Cert.Pre_pool_input_and_gains_finite.Facts) (hPre_pool_input_and_gains_finite19 : Cert.Pre_pool_input_and_gains_finite19.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_gains_finite (hKernel6Ideal := hKernel6Ideal) (hPre_gains_finite := hPre_gains_finite)
    ∧ quiescent_Reference6Ideal (hReference6Ideal := hReference6Ideal)
    ∧ quiescent_Reference6Ideal_pre_gains_finite (hReference6Ideal := hReference6Ideal) (hPre_gains_finite := hPre_gains_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_gains_finite11 (hKernel11Ideal := hKernel11Ideal) (hPre_gains_finite11 := hPre_gains_finite11)
    ∧ quiescent_Reference11Ideal (hReference11Ideal := hReference11Ideal)
    ∧ quiescent_Reference11Ideal_pre_gains_finite11 (hReference11Ideal := hReference11Ideal) (hPre_gains_finite11 := hPre_gains_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_gains_and_sinks_finite (hKernel13Ideal := hKernel13Ideal) (hPre_gains_and_sinks_finite := hPre_gains_and_sinks_finite)
    ∧ quiescent_Reference13Ideal (hReference13Ideal := hReference13Ideal)
    ∧ quiescent_Reference13Ideal_pre_gains_and_sinks_finite (hReference13Ideal := hReference13Ideal) (hPre_gains_and_sinks_finite := hPre_gains_and_sinks_finite)
    ∧ quiescent_Kernel14 (hKernel14 := hKernel14)
    ∧ quiescent_Kernel14Ideal (hKernel14Ideal := hKernel14Ideal)
    ∧ quiescent_Kernel14Ideal_pre_pool_input_and_gains_finite (hKernel14Ideal := hKernel14Ideal) (hPre_pool_input_and_gains_finite := hPre_pool_input_and_gains_finite)
    ∧ quiescent_Reference14Ideal (hReference14Ideal := hReference14Ideal)
    ∧ quiescent_Reference14Ideal_pre_pool_input_and_gains_finite (hReference14Ideal := hReference14Ideal) (hPre_pool_input_and_gains_finite := hPre_pool_input_and_gains_finite)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_pool_input_and_gains_finite19 (hKernel19Ideal := hKernel19Ideal) (hPre_pool_input_and_gains_finite19 := hPre_pool_input_and_gains_finite19)
    ∧ quiescent_Reference19Ideal (hReference19Ideal := hReference19Ideal)
    ∧ quiescent_Reference19Ideal_pre_pool_input_and_gains_finite19 (hReference19Ideal := hReference19Ideal) (hPre_pool_input_and_gains_finite19 := hPre_pool_input_and_gains_finite19)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_gains_finite (hKernel6Ideal := hKernel6Ideal) (hReference6Ideal := hReference6Ideal) (hPre_gains_finite := hPre_gains_finite)
    ∧ preserves_Kernel7_Kernel7Ideal
    ∧ preserves_Kernel8_Kernel8Ideal
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_gains_finite11 (hKernel11Ideal := hKernel11Ideal) (hReference11Ideal := hReference11Ideal) (hPre_gains_finite11 := hPre_gains_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_gains_and_sinks_finite (hKernel13Ideal := hKernel13Ideal) (hReference13Ideal := hReference13Ideal) (hPre_gains_and_sinks_finite := hPre_gains_and_sinks_finite)
    ∧ preserves_Kernel14_Kernel14Ideal
    ∧ algebraic_Kernel14Ideal_Reference14Ideal_pre_pool_input_and_gains_finite (hKernel14Ideal := hKernel14Ideal) (hReference14Ideal := hReference14Ideal) (hPre_pool_input_and_gains_finite := hPre_pool_input_and_gains_finite)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_pool_input_and_gains_finite19 (hKernel19Ideal := hKernel19Ideal) (hReference19Ideal := hReference19Ideal) (hPre_pool_input_and_gains_finite19 := hPre_pool_input_and_gains_finite19)
-- ==== Pre_gains_and_sinks_finite.lean ====
abbrev S4096x1024 : Shape := ⟨2, ![4096, 1024]⟩
abbrev S4096x512 : Shape := ⟨2, ![4096, 512]⟩
abbrev S64 : Shape := ⟨1, ![64]⟩
abbrev S12 : Shape := ⟨1, ![12]⟩
abbrev S_ : Shape := ⟨0, ![]⟩

class Facts : Prop where
  bcast_S_S64 : S_.BroadcastsInDim S64 (![] : Fin 0 → Fin S64.rank)
  bcast_S_S12 : S_.BroadcastsInDim S12 (![] : Fin 0 → Fin S12.rank)
  reducesTo_S12_S_d0 : S12.ReducesTo [0] S_
  h_S_ : 0 < S_.numel

variable [Facts]

def fn {F : FTy → Type} [FloatOps F] (main_arg0 : FVec F S4096x1024 .f32) (main_arg1 : FVec F S4096x512 .f32) (main_arg2 : FVec F S64 .f32) (main_arg3 : FVec F S64 .f32) (main_arg4 : FVec F S12 .f32) : IVec S64 1 :=
  let main_v0 : FVec F S64 .f32 := Host.absf main_arg2
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg3
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : IVec S64 1 := andi main_v2 main_v5
  let main_v7 : FVec F S12 .f32 := Host.absf main_arg4
  let main_cst_1 : FVec F S_ .f32 := constant S_ .f32 0x7F800000#32
  let main_v8 : FVec F S12 .f32 := broadcastInDim S12 ![] bcast_S_S12 main_cst_1
  let main_v9 : IVec S12 1 := cmpf .olt main_v7 main_v8
  let main_c : IVec S_ 1 := constantI S_ 1 1#1
  let main_v10 : IVec S_ 1 := (fun x v => Host.reduce IntOp.andi x v reducesTo_S12_S_d0 h_S_) main_v9 main_c
  let main_v11 : IVec S64 1 := broadcastInDim S64 ![] bcast_S_S64 main_v10
  let main_v12 : IVec S64 1 := andi main_v6 main_v11
  main_v12
-- ==== Pre_gains_finite.lean ====
abbrev S4096x1024 : Shape := ⟨2, ![4096, 1024]⟩
abbrev S256x512 : Shape := ⟨2, ![256, 512]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S4096x1024 .f32) (main_arg1 : FVec F S4096x1024 .f32) (main_arg2 : FVec F S256x512 .f32) (main_arg3 : FVec F S64 .f32) (main_arg4 : FVec F S64 .f32) (main_arg5 : FVec F S4096x1024 .bf16) : IVec S64 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg4
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : IVec S64 1 := andi main_v2 main_v5
  main_v6
-- ==== Pre_gains_finite11.lean ====
abbrev S4096x1024 : Shape := ⟨2, ![4096, 1024]⟩
abbrev S256x512 : Shape := ⟨2, ![256, 512]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S4096x1024 .f32) (main_arg1 : FVec F S256x512 .f32) (main_arg2 : FVec F S64 .f32) (main_arg3 : FVec F S64 .f32) (main_arg4 : FVec F S4096x1024 .bf16) : IVec S64 1 :=
  let main_v0 : FVec F S64 .f32 := Host.absf main_arg2
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg3
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : IVec S64 1 := andi main_v2 main_v5
  main_v6
-- ==== Pre_pool_input_and_gains_finite.lean ====
abbrev S4096x1024 : Shape := ⟨2, ![4096, 1024]⟩
abbrev S256x512 : Shape := ⟨2, ![256, 512]⟩
abbrev S4x192x192 : Shape := ⟨3, ![4, 192, 192]⟩
abbrev S768 : Shape := ⟨1, ![768]⟩
abbrev S64 : Shape := ⟨1, ![64]⟩
abbrev S4096x768 : Shape := ⟨2, ![4096, 768]⟩
abbrev S4096x12x64 : Shape := ⟨3, ![4096, 12, 64]⟩
abbrev S_ : Shape := ⟨0, ![]⟩
abbrev S1x1x64 : Shape := ⟨3, ![1, 1, 64]⟩

class Facts : Prop where
  slices_S4096x1024_S4096x768_0_0 : S4096x1024.Slices ![0, 0] S4096x768
  shapeCasts_S4096x768_S4096x12x64 : S4096x768.ShapeCasts S4096x12x64
  bcast_S_S4096x12x64 : S_.BroadcastsInDim S4096x12x64 (![] : Fin 0 → Fin S4096x12x64.rank)
  bcast_S_S64 : S_.BroadcastsInDim S64 (![] : Fin 0 → Fin S64.rank)
  bcast_S64_S1x1x64_2 : S64.BroadcastsInDim S1x1x64 (![2] : Fin 1 → Fin S1x1x64.rank)
  bcast_S1x1x64_S4096x12x64_0_1_2 : S1x1x64.BroadcastsInDim S4096x12x64 (![0, 1, 2] : Fin 3 → Fin S4096x12x64.rank)

variable [Facts]

def fn {F : FTy → Type} [FloatOps F] (main_arg0 : FVec F S4096x1024 .f32) (main_arg1 : FVec F S256x512 .f32) (main_arg2 : FVec F S4x192x192 .f32) (main_arg3 : FVec F S768 .f32) (main_arg4 : FVec F S64 .f32) (main_arg5 : FVec F S64 .f32) : IVec S4096x12x64 1 :=
  let main_v0 : FVec F S4096x768 .f32 := (extractStridedSlice S4096x768 ![0, 0] · slices_S4096x1024_S4096x768_0_0) main_arg0
  let main_v1 : FVec F S4096x12x64 .f32 := shapeCast S4096x12x64 main_v0 shapeCasts_S4096x768_S4096x12x64
  let main_v2 : FVec F S4096x12x64 .f32 := Host.absf main_v1
  let main_cst : FVec F S_ .f32 := constant S_ .f32 0x7F800000#32
  let main_v3 : FVec F S4096x12x64 .f32 := broadcastInDim S4096x12x64 ![] bcast_S_S4096x12x64 main_cst
  let main_v4 : IVec S4096x12x64 1 := cmpf .olt main_v2 main_v3
  let main_v5 : FVec F S64 .f32 := Host.absf main_arg4
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_v8 : IVec S1x1x64 1 := broadcastInDim S1x1x64 ![2] bcast_S64_S1x1x64_2 main_v7
  let main_v9 : IVec S4096x12x64 1 := broadcastInDim S4096x12x64 ![0, 1, 2] bcast_S1x1x64_S4096x12x64_0_1_2 main_v8
  let main_v10 : IVec S4096x12x64 1 := andi main_v4 main_v9
  let main_v11 : FVec F S64 .f32 := Host.absf main_arg5
  let main_cst_1 : FVec F S_ .f32 := constant S_ .f32 0x7F800000#32
  let main_v12 : FVec F S64 .f32 := broadcastInDim S64 ![] bcast_S_S64 main_cst_1
  let main_v13 : IVec S64 1 := cmpf .olt main_v11 main_v12
  let main_v14 : IVec S1x1x64 1 := broadcastInDim S1x1x64 ![2] bcast_S64_S1x1x64_2 main_v13
  let main_v15 : IVec S4096x12x64 1 := broadcastInDim S4096x12x64 ![0, 1, 2] bcast_S1x1x64_S4096x12x64_0_1_2 main_v14
  let main_v16 : IVec S4096x12x64 1 := andi main_v10 main_v15
  main_v16
-- ==== Pre_pool_input_and_gains_finite19.lean ====
abbrev S4096x1024 : Shape := ⟨2, ![4096, 1024]⟩
abbrev S256x512 : Shape := ⟨2, ![256, 512]⟩
abbrev S4x192x192 : Shape := ⟨3, ![4, 192, 192]⟩
abbrev S768 : Shape := ⟨1, ![768]⟩
abbrev S64 : Shape := ⟨1, ![64]⟩
abbrev S4096x768 : Shape := ⟨2, ![4096, 768]⟩
abbrev S4096x12x64 : Shape := ⟨3, ![4096, 12, 64]⟩
abbrev S_ : Shape := ⟨0, ![]⟩
abbrev S1x1x64 : Shape := ⟨3, ![1, 1, 64]⟩

class Facts : Prop where
  slices_S4096x1024_S4096x768_0_0 : S4096x1024.Slices ![0, 0] S4096x768
  shapeCasts_S4096x768_S4096x12x64 : S4096x768.ShapeCasts S4096x12x64
  bcast_S_S4096x12x64 : S_.BroadcastsInDim S4096x12x64 (![] : Fin 0 → Fin S4096x12x64.rank)
  bcast_S_S64 : S_.BroadcastsInDim S64 (![] : Fin 0 → Fin S64.rank)
  bcast_S64_S1x1x64_2 : S64.BroadcastsInDim S1x1x64 (![2] : Fin 1 → Fin S1x1x64.rank)
  bcast_S1x1x64_S4096x12x64_0_1_2 : S1x1x64.BroadcastsInDim S4096x12x64 (![0, 1, 2] : Fin 3 → Fin S4096x12x64.rank)

variable [Facts]

def fn {F : FTy → Type} [FloatOps F] (main_arg0 : FVec F S4096x1024 .f32) (main_arg1 : FVec F S4096x1024 .f32) (main_arg2 : FVec F S256x512 .f32) (main_arg3 : FVec F S4x192x192 .f32) (main_arg4 : FVec F S768 .f32) (main_arg5 : FVec F S64 .f32) (main_arg6 : FVec F S64 .f32) : IVec S4096x12x64 1 :=
  let main_v0 : FVec F S4096x768 .f32 := (extractStridedSlice S4096x768 ![0, 0] · slices_S4096x1024_S4096x768_0_0) main_arg0
  let main_v1 : FVec F S4096x12x64 .f32 := shapeCast S4096x12x64 main_v0 shapeCasts_S4096x768_S4096x12x64
  let main_v2 : FVec F S4096x12x64 .f32 := Host.absf main_v1
  let main_cst : FVec F S_ .f32 := constant S_ .f32 0x7F800000#32
  let main_v3 : FVec F S4096x12x64 .f32 := broadcastInDim S4096x12x64 ![] bcast_S_S4096x12x64 main_cst
  let main_v4 : IVec S4096x12x64 1 := cmpf .olt main_v2 main_v3
  let main_v5 : FVec F S64 .f32 := Host.absf main_arg5
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_v8 : IVec S1x1x64 1 := broadcastInDim S1x1x64 ![2] bcast_S64_S1x1x64_2 main_v7
  let main_v9 : IVec S4096x12x64 1 := broadcastInDim S4096x12x64 ![0, 1, 2] bcast_S1x1x64_S4096x12x64_0_1_2 main_v8
  let main_v10 : IVec S4096x12x64 1 := andi main_v4 main_v9
  let main_v11 : FVec F S64 .f32 := Host.absf main_arg6
  let main_cst_1 : FVec F S_ .f32 := constant S_ .f32 0x7F800000#32
  let main_v12 : FVec F S64 .f32 := broadcastInDim S64 ![] bcast_S_S64 main_cst_1
  let main_v13 : IVec S64 1 := cmpf .olt main_v11 main_v12
  let main_v14 : IVec S1x1x64 1 := broadcastInDim S1x1x64 ![2] bcast_S64_S1x1x64_2 main_v13
  let main_v15 : IVec S4096x12x64 1 := broadcastInDim S4096x12x64 ![0, 1, 2] bcast_S1x1x64_S4096x12x64_0_1_2 main_v14
  let main_v16 : IVec S4096x12x64 1 := andi main_v10 main_v15
  main_v16
-- ==== Kernel.lean ====
abbrev S4096x1024 : Shape := ⟨2, ![4096, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S1024x1024 : Shape := ⟨2, ![1024, 1024]⟩
abbrev S1024 : Shape := ⟨1, ![1024]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S1x1024 : Shape := ⟨2, ![1, 1024]⟩
abbrev S1024x1 : Shape := ⟨2, ![1024, 1]⟩

abbrev nBuf : Space → Nat
  | .hbm => 19
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4x1024x1024, .f32⟩
  | .hbm, ⟨9, _⟩ => ⟨S1024x4x1024, .f32⟩
  | .hbm, ⟨10, _⟩ => ⟨S4x1024x1024, .f32⟩
  | .hbm, ⟨11, _⟩ => ⟨S4x256x1024, .f32⟩
  | .hbm, ⟨12, _⟩ => ⟨S4x256x1024, .f32⟩
  | .hbm, ⟨13, _⟩ => ⟨S4x2560x1024, .f32⟩
  | .hbm, ⟨14, _⟩ => ⟨S4x2560x1024, .bf16⟩
  | .hbm, ⟨15, _⟩ => ⟨S1x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![c0_i32.toNat, c8_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4096x1024 : Shape := ⟨2, ![4096, 1024]⟩
abbrev S1024x4096 : Shape := ⟨2, ![1024, 4096]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩
abbrev S1024 : Shape := ⟨1, ![1024]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S1x1024 : Shape := ⟨2, ![1, 1024]⟩
abbrev S512x4096 : Shape := ⟨2, ![512, 4096]⟩
abbrev S512x1024 : Shape := ⟨2, ![512, 1024]⟩
abbrev S1x1024x1024 : Shape := ⟨3, ![1, 1024, 1024]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4x1024x1024, .f32⟩
  | .hbm, ⟨9, _⟩ => ⟨S1024x4x1024, .f32⟩
  | .hbm, ⟨10, _⟩ => ⟨S4x1024x1024, .f32⟩
  | .hbm, ⟨11, _⟩ => ⟨S4x256x1024, .f32⟩
  | .hbm, ⟨12, _⟩ => ⟨S4x256x1024, .f32⟩
  | .hbm, ⟨13, _⟩ => ⟨S4x2560x1024, .f32⟩
  | .hbm, ⟨14, _⟩ => ⟨S4x2560x1024, .bf16⟩
  | .hbm, ⟨15, _⟩ => ⟨S1x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel4.lean ====
abbrev S4096x512 : Shape := ⟨2, ![4096, 512]⟩
abbrev S4096x256 : Shape := ⟨2, ![4096, 256]⟩
abbrev S64 : Shape := ⟨1, ![64]⟩
abbrev S1x64 : Shape := ⟨2, ![1, 64]⟩
abbrev S1024x512 : Shape := ⟨2, ![1024, 512]⟩
abbrev S1024x256 : Shape := ⟨2, ![1024, 256]⟩
abbrev S1024x64 : Shape := ⟨2, ![1024, 64]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S64, .f32⟩
  | .hbm, ⟨6, _⟩ => ⟨S1x64, .f32⟩
  | .hbm, ⟨7, _⟩ => ⟨S4096x512, .bf16⟩
  | .hbm, ⟨8, _⟩ => ⟨S1x64, .f32⟩
  | .local _ .vmem, ⟨0, _⟩ => ⟨S1024x512, .f32⟩
  | .local _ .vmem, ⟨1, _⟩ => ⟨S1024x512, .f32⟩
  | .local _ .vmem, ⟨2, _⟩ => ⟨S1x64, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x512, .bf16⟩
  | .local _ .vmem, ⟨12, _⟩ => ⟨S1024x512, .bf16⟩
  | .local _ .vmem, ⟨13, _⟩ => ⟨S1x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S4096x512 : Shape := ⟨2, ![4096, 512]⟩
abbrev S4096x256 : Shape := ⟨2, ![4096, 256]⟩
abbrev S64 : Shape := ⟨1, ![64]⟩
abbrev S4096x4x64 : Shape := ⟨3, ![4096, 4, 64]⟩
abbrev S_ : Shape := ⟨0, ![]⟩
abbrev S4096x4 : Shape := ⟨2, ![4096, 4]⟩
abbrev S4096x4x1 : Shape := ⟨3, ![4096, 4, 1]⟩
abbrev S1x1x64 : Shape := ⟨3, ![1, 1, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S64, .f32⟩
  | .hbm, ⟨6, _⟩ => ⟨S4096x256, .f32⟩
  | .hbm, ⟨7, _⟩ => ⟨S4096x4x64, .f32⟩
  | .hbm, ⟨8, _⟩ => ⟨S4096x4x64, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x64, .f32⟩
  | .hbm, ⟨24, _⟩ => ⟨S4096x4x64, .f32⟩
  | .hbm, ⟨25, _⟩ => ⟨S1x1x64, .f32⟩
  | .hbm, ⟨26, _⟩ => ⟨S4096x4x64, .f32⟩
  | .hbm, ⟨27, _⟩ => ⟨S4096x4x64, .f32⟩
  | .hbm, ⟨28, _⟩ => ⟨S4096x256, .f32⟩
  | .hbm, ⟨29, _⟩ => ⟨S4096x4x64, .f32⟩
  | .hbm, ⟨30, _⟩ => ⟨S4096x4x64, .f32⟩
  | .hbm, ⟨31, _⟩ => ⟨S4096x4x64, .f32⟩
  | .hbm, ⟨32, _⟩ => ⟨S4096x4x64, .f32⟩
  | .hbm, ⟨33, _⟩ => ⟨S4096x4x64, .f32⟩
  | .hbm, ⟨34, _⟩ => ⟨S4096x4x64, .f32⟩
  | .hbm, ⟨35, _⟩ => ⟨S4096x4x64, .f32⟩
  | .hbm, ⟨36, _⟩ => ⟨S4096x256, .f32⟩
  | .hbm, ⟨37, _⟩ => ⟨S_, .f32⟩
  | .hbm, ⟨38, _⟩ => ⟨S4096x512, .f32⟩
  | .hbm, ⟨39, _⟩ => ⟨S4096x4x64, .f32⟩
  | .hbm, ⟨40, _⟩ => ⟨S_, .f32⟩
  | .hbm, ⟨41, _⟩ => ⟨S64, .f32⟩
  | .hbm, ⟨42, _⟩ => ⟨S1x1x64, .f32⟩
  | .hbm, ⟨43, _⟩ => ⟨S4096x4x64, .f32⟩
  | .hbm, ⟨44, _⟩ => ⟨S4096x4x64, .f32⟩
  | .hbm, ⟨45, _⟩ => ⟨S_, .f32⟩
  | .hbm, ⟨46, _⟩ => ⟨S64, .f32⟩
  | .hbm, ⟨47, _⟩ => ⟨S4096x4x64, .f32⟩
  | .hbm, ⟨48, _⟩ => ⟨S_, .f32⟩
  | .hbm, ⟨49, _⟩ => ⟨S4096x4, .f32⟩
  | .hbm, ⟨50, _⟩ => ⟨S4096x4x1, .f32⟩
  | .hbm, ⟨51, _⟩ => ⟨S4096x4x64, .f32⟩
  | .hbm, ⟨52, _⟩ => ⟨S4096x4x64, .f32⟩
  | .hbm, ⟨53, _⟩ => ⟨S4096x4x1, .f32⟩
  | .hbm, ⟨54, _⟩ => ⟨S_, .f32⟩
  | .hbm, ⟨55, _⟩ => ⟨S4096x4x1, .f32⟩
  | .hbm, ⟨56, _⟩ => ⟨S4096x4x1, .f32⟩
  | .hbm, ⟨57, _⟩ => ⟨S_, .f32⟩
  | .hbm, ⟨58, _⟩ => ⟨S4096x4, .f32⟩
  | .hbm, ⟨59, _⟩ => ⟨S4096x4x64, .f32⟩
  | .hbm, ⟨60, _⟩ => ⟨S4096x4x64, .f32⟩
  | .hbm, ⟨61, _⟩ => ⟨S4096x4x64, .f32⟩
  | .hbm, ⟨62, _⟩ => ⟨S4096x4x64, .f32⟩
  | .hbm, ⟨63, _⟩ => ⟨S4096x4x64, .f32⟩
  | .hbm, ⟨64, _⟩ => ⟨S4096x256, .f32⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S4096x512, .bf16⟩
  | .hbm, ⟨69, _⟩ => ⟨S1x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1x1024x1024 : Shape := ⟨3, ![1, 1024, 1024]⟩

abbrev nBuf : Space → Nat
  | .hbm => 39
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .f32⟩
  | .hbm, ⟨6, _⟩ => ⟨S4096x1024, .bf16⟩
  | .hbm, ⟨7, _⟩ => ⟨S4x1024x1024, .f32⟩
  | .hbm, ⟨8, _⟩ => ⟨S1024x4x1024, .f32⟩
  | .hbm, ⟨9, _⟩ => ⟨S4x1024x1024, .f32⟩
  | .hbm, ⟨10, _⟩ => ⟨S4x256x1024, .f32⟩
  | .hbm, ⟨11, _⟩ => ⟨S4x256x1024, .f32⟩
  | .hbm, ⟨12, _⟩ => ⟨S4x2560x1024, .f32⟩
  | .hbm, ⟨13, _⟩ => ⟨S4x2560x1024, .bf16⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S1024x4096, .bf16⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .bf16⟩
  | .hbm, ⟨38, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S4x1024x1024, .bf16⟩
  | .local _ .vmem, ⟨5, _⟩ => ⟨S1024x4096, .bf16⟩
  | .local _ .vmem, ⟨6, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .f32⟩
  | .hbm, ⟨6, _⟩ => ⟨S4096x1024, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .i1⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x1024, .f32⟩
  | .hbm, ⟨34, _⟩ => ⟨S4096x1024, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel6.lean ====
abbrev S4096x1024 : Shape := ⟨2, ![4096, 1024]⟩
abbrev S256x512 : Shape := ⟨2, ![256, 512]⟩
abbrev S64 : Shape := ⟨1, ![64]⟩
abbrev S1x64 : Shape := ⟨2, ![1, 64]⟩
abbrev S4096x256 : Shape := ⟨2, ![4096, 256]⟩
abbrev S256x256 : Shape := ⟨2, ![256, 256]⟩
abbrev S256x4x64 : Shape := ⟨3, ![256, 4, 64]⟩
abbrev S_ : Shape := ⟨0, ![]⟩
abbrev S256x4 : Shape := ⟨2, ![256, 4]⟩
abbrev S256x4x1 : Shape := ⟨3, ![256, 4, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4096x4x256 : Shape := ⟨3, ![4096, 4, 256]⟩
abbrev S1024x256 : Shape := ⟨2, ![1024, 256]⟩
abbrev S1024x1024 : Shape := ⟨2, ![1024, 1024]⟩
abbrev S256x64 : Shape := ⟨2, ![256, 64]⟩
abbrev S256 : Shape := ⟨1, ![256]⟩
abbrev S256x1 : Shape := ⟨2, ![256, 1]⟩
abbrev S1024x64 : Shape := ⟨2, ![1024, 64]⟩
abbrev S1024 : Shape := ⟨1, ![1024]⟩
abbrev S1024x1 : Shape := ⟨2, ![1024, 1]⟩

abbrev nBuf : Space → Nat
  | .hbm => 71
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S256x512, .f32⟩
  | .hbm, ⟨3, _⟩ => ⟨S64, .f32⟩
  | .hbm, ⟨4, _⟩ => ⟨S64, .f32⟩
  | .hbm, ⟨5, _⟩ => ⟨S4096x1024, .bf16⟩
  | .hbm, ⟨6, _⟩ => ⟨S1x64, .f32⟩
  | .hbm, ⟨7, _⟩ => ⟨S1x64, .f32⟩
  | .hbm, ⟨8, _⟩ => ⟨S4096x256, .f32⟩
  | .hbm, ⟨9, _⟩ => ⟨S256x256, .f32⟩
  | .hbm, ⟨10, _⟩ => ⟨S256x4x64, .f32⟩
  | .hbm, ⟨11, _⟩ => ⟨S256x4x64, .f32⟩
  | .hbm, ⟨12, _⟩ => ⟨S_, .f32⟩
  | .hbm, ⟨13, _⟩ => ⟨S256x4, .f32⟩
  | .hbm, ⟨14, _⟩ => ⟨S256x4x1, .f32⟩
  | .hbm, ⟨15, _⟩ => ⟨S_, .f32⟩
  | .hbm, ⟨16, _⟩ => ⟨S256x4x1, .f32⟩
  | .hbm, ⟨17, _⟩ => ⟨S256x4x1, .f32⟩
  | .hbm, ⟨18, _⟩ => ⟨S_, .f32⟩
  | .hbm, ⟨19, _⟩ => ⟨S256x4x1, .f32⟩
  | .hbm, ⟨20, _⟩ => ⟨S256x4x1, .f32⟩
  | .hbm, ⟨21, _⟩ => ⟨S256x4x1, .f32⟩
  | .hbm, ⟨22, _⟩ => ⟨S256x4x64, .f32⟩
  | .hbm, ⟨23, _⟩ => ⟨S256x4x64, .f32⟩
  | .hbm, ⟨24, _⟩ => ⟨S1x1x64, .f32⟩
  | .hbm, ⟨25, _⟩ => ⟨S256x4x64, .f32⟩
  | .hbm, ⟨26, _⟩ => ⟨S256x4x64, .f32⟩
  | .hbm, ⟨27, _⟩ => ⟨S256x256, .f32⟩
  | .hbm, ⟨28, _⟩ => ⟨S256x4x64, .f32⟩
  | .hbm, ⟨29, _⟩ => ⟨S4096x4x64, .f32⟩
  | .hbm, ⟨30, _⟩ => ⟨S4096x4x64, .f32⟩
  | .hbm, ⟨31, _⟩ => ⟨S_, .f32⟩
  | .hbm, ⟨32, _⟩ => ⟨S4096x4, .f32⟩
  | .hbm, ⟨33, _⟩ => ⟨S4096x4x1, .f32⟩
  | .hbm, ⟨34, _⟩ => ⟨S_, .f32⟩
  | .hbm, ⟨35, _⟩ => ⟨S4096x4x1, .f32⟩
  | .hbm, ⟨36, _⟩ => ⟨S4096x4x1, .f32⟩
  | .hbm, ⟨37, _⟩ => ⟨S_, .f32⟩
  | .hbm, ⟨38, _⟩ => ⟨S4096x4x1, .f32⟩
  | .hbm, ⟨39, _⟩ => ⟨S4096x4x1, .f32⟩
  | .hbm, ⟨40, _⟩ => ⟨S4096x4x1, .f32⟩
  | .hbm, ⟨41, _⟩ => ⟨S4096x4x64, .f32⟩
  | .hbm, ⟨42, _⟩ => ⟨S4096x4x64, .f32⟩
  | .hbm, ⟨43, _⟩ => ⟨S1x1x64, .f32⟩
  | .hbm, ⟨44, _⟩ => ⟨S4096x4x64, .f32⟩
  | .hbm, ⟨45, _⟩ => ⟨S4096x4x64, .f32⟩
  | .hbm, ⟨46, _⟩ => ⟨S4x4096x256, .f32⟩
  | .hbm, ⟨47, _⟩ => ⟨S_, .f32⟩
  | .hbm, ⟨48, _⟩ => ⟨S4x4096x256, .f32⟩
  | .hbm, ⟨49, _⟩ => ⟨S4x4096x256, .f32⟩
  | .hbm, ⟨50, _⟩ => ⟨S_, .f32⟩
  | .hbm, ⟨51, _⟩ => ⟨S4x4096, .f32⟩
  | .hbm, ⟨52, _⟩ => ⟨S_, .f32⟩
  | .hbm, ⟨53, _⟩ => ⟨S4x4096, .f32⟩
  | .hbm, ⟨54, _⟩ => ⟨S4x4096, .f32⟩
  | .hbm, ⟨55, _⟩ => ⟨S4x4096x1, .f32⟩
  | .hbm, ⟨56, _⟩ => ⟨S4x4096x256, .f32⟩
  | .hbm, ⟨57, _⟩ => ⟨S4x4096x256, .f32⟩
  | .hbm, ⟨58, _⟩ => ⟨S4x4096x256, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S4x4096x256, .f32⟩
  | .hbm, ⟨63, _⟩ => ⟨S4x4096x256, .f32⟩
  | .hbm, ⟨64, _⟩ => ⟨S4096x4x256, .f32⟩
  | .hbm, ⟨65, _⟩ => ⟨S4096x1024, .f32⟩
  | .hbm, ⟨66, _⟩ => ⟨S4096x1024, .bf16⟩
  | .hbm, ⟨67, _⟩ => ⟨S4096x1024, .bf16⟩
  | .hbm, ⟨68, _⟩ => ⟨S256x512, .f32⟩
  | .hbm, ⟨69, _⟩ => ⟨S1x64, .f32⟩
  | .hbm, ⟨70, _⟩ => ⟨S1x64, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x512, .f32⟩
  | .local _ .vmem, ⟨5, _⟩ => ⟨S1x64, .f32⟩
  | .local _ .vmem, ⟨6, _⟩ => ⟨S1x64, .f32⟩
  | .local _ .vmem, ⟨7, _⟩ => ⟨S1024x1024, .bf16⟩
  | .local _ .vmem, ⟨8, _⟩ => ⟨S1024x1024, .bf16⟩
  | .local _ .vmem, ⟨9, _⟩ => ⟨S1024x256, .bf16⟩
  | .local _ .vmem, ⟨10, _⟩ => ⟨S1024x256, .bf16⟩
  | .local _ .vmem, ⟨11, _⟩ => ⟨S256x512, .f32⟩
  | .local _ .vmem, ⟨12, _⟩ => ⟨S1x64, .f32⟩
  | .local _ .vmem, ⟨13, _⟩ => ⟨S1x64, .f32⟩
  | .local _ .vmem, ⟨14, _⟩ => ⟨S256x256, .bf16⟩
  | .local _ .vmem, ⟨15, _⟩ => ⟨S256x256, .bf16⟩
  | .local _ .vmem, ⟨16, _⟩ => ⟨S256x256, .f32⟩
  | .local _ .vmem, ⟨17, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51_0 : Ref sig .tc := ⟨.hbm, 67, rfl⟩
abbrev main_v51_1 : Ref sig .tc := ⟨.hbm, 68, rfl⟩
abbrev main_v51_2 : Ref sig .tc := ⟨.hbm, 69, rfl⟩
abbrev main_v51_3 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v235 : BitVec 1 := Scalar.cmpi .eq arg0 c3_i32
  let v236 : BitVec 32 := Scalar.extui v235
  let c0_i32_78 : BitVec 32 := 0#32
  let v237 : BitVec 1 := Scalar.cmpi .ne v236 c0_i32_78
  v237

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4096x1024 : Shape := ⟨2, ![4096, 1024]⟩
abbrev S256x512 : Shape := ⟨2, ![256, 512]⟩
abbrev S64 : Shape := ⟨1, ![64]⟩
abbrev S4096x256 : Shape := ⟨2, ![4096, 256]⟩
abbrev S256x256 : Shape := ⟨2, ![256, 256]⟩
abbrev S256x4x64 : Shape := ⟨3, ![256, 4, 64]⟩
abbrev S_ : Shape := ⟨0, ![]⟩
abbrev S256x4 : Shape := ⟨2, ![256, 4]⟩
abbrev S256x4x1 : Shape := ⟨3, ![256, 4, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩
abbrev S4096x768 : Shape := ⟨2, ![4096, 768]⟩
abbrev S1x64 : Shape := ⟨2, ![1, 64]⟩

abbrev nBuf : Space → Nat
  | .hbm => 187
  | .vmem => 0
  | .smem => 0
  | _ => 0

abbrev hbmTy0_0 (i : Nat) : BufTy := match i % 128 with
  | 0 => ⟨S4096x1024, .f32⟩
  | 1 => ⟨S4096x1024, .f32⟩
  | 2 => ⟨S256x512, .f32⟩
  | 3 => ⟨S64, .f32⟩
  | 4 => ⟨S64, .f32⟩
  | 5 => ⟨S4096x1024, .bf16⟩
  | 6 => ⟨S4096x256, .f32⟩
  | 7 => ⟨S256x256, .f32⟩
  | 8 => ⟨S256x4x64, .f32⟩
  | 9 => ⟨S256x4x64, .f32⟩
  | 10 => ⟨S_, .f32⟩
  | 11 => ⟨S256x4, .f32⟩
  | 12 => ⟨S256x4x1, .f32⟩
  | 13 => ⟨S_, .f32⟩
  | 14 => ⟨S256x4x1, .f32⟩
  | 15 => ⟨S256x4x1, .f32⟩
  | 16 => ⟨S_, .f32⟩
  | 17 => ⟨S256x4x1, .f32⟩
  | 18 => ⟨S256x4x1, .f32⟩
  | 19 => ⟨S256x4x1, .f32⟩
  | 20 => ⟨S256x4x1, .f32⟩
  | 21 => ⟨S_, .f32⟩
  | 22 => ⟨S256x4x1, .f32⟩
  | 23 => ⟨S256x4x1, .f32⟩
  | 24 => ⟨S256x4x64, .f32⟩
  | 25 => ⟨S256x4x64, .f32⟩
  | 26 => ⟨S1x1x64, .f32⟩
  | 27 => ⟨S256x4x64, .f32⟩
  | 28 => ⟨S256x4x64, .f32⟩
  | 29 => ⟨S256x256, .f32⟩
  | 30 => ⟨S256x4x64, .f32⟩
  | 31 => ⟨S4096x4x64, .f32⟩
  | 32 => ⟨S4096x4x64, .f32⟩
  | 33 => ⟨S_, .f32⟩
  | 34 => ⟨S4096x4, .f32⟩
  | 35 => ⟨S4096x4x1, .f32⟩
  | 36 => ⟨S_, .f32⟩
  | 37 => ⟨S4096x4x1, .f32⟩
  | 38 => ⟨S4096x4x1, .f32⟩
  | 39 => ⟨S_, .f32⟩
  | 40 => ⟨S4096x4x1, .f32⟩
  | 41 => ⟨S4096x4x1, .f32⟩
  | 42 => ⟨S4096x4x1, .f32⟩
  | 43 => ⟨S4096x4x1, .f32⟩
  | 44 => ⟨S_, .f32⟩
  | 45 => ⟨S4096x4x1, .f32⟩
  | 46 => ⟨S4096x4x1, .f32⟩
  | 47 => ⟨S4096x4x64, .f32⟩
  | 48 => ⟨S4096x4x64, .f32⟩
  | 49 => ⟨S1x1x64, .f32⟩
  | 50 => ⟨S4096x4x64, .f32⟩
  | 51 => ⟨S4096x4x64, .f32⟩
  | 52 => ⟨S4x4096x256, .f32⟩
  | 53 => ⟨S_, .f32⟩
  | 54 => ⟨S4x4096x256, .f32⟩
  | 55 => ⟨S4x4096x256, .f32⟩
  | 56 => ⟨S_, .f32⟩
  | 57 => ⟨S4x4096, .f32⟩
  | 58 => ⟨S4x4096x1, .f32⟩
  | 59 => ⟨S4x4096x256, .f32⟩
  | 60 => ⟨S4x4096x256, .i1⟩
  | 61 => ⟨S4x4096x256, .f32⟩
  | 62 => ⟨S_, .f32⟩
  | 63 => ⟨S4x4096, .f32⟩
  | 64 => ⟨S_, .f32⟩
  | 65 => ⟨S4x4096, .f32⟩
  | 66 => ⟨S4x4096, .f32⟩
  | 67 => ⟨S_, .f32⟩
  | 68 => ⟨S4x4096, .f32⟩
  | 69 => ⟨S4x4096, .i1⟩
  | 70 => ⟨S_, .f32⟩
  | 71 => ⟨S4x4096, .f32⟩
  | 72 => ⟨S4x4096, .i1⟩
  | 73 => ⟨S_, .f32⟩
  | 74 => ⟨S4x4096, .f32⟩
  | 75 => ⟨S_, .f32⟩
  | 76 => ⟨S4x4096, .f32⟩
  | 77 => ⟨S_, .f32⟩
  | 78 => ⟨S4x4096, .f32⟩
  | 79 => ⟨S4x4096, .f32⟩
  | 80 => ⟨S4x4096, .f32⟩
  | 81 => ⟨S4x4096x1, .f32⟩
  | 82 => ⟨S4x4096x256, .f32⟩
  | 83 => ⟨S4x4096x256, .f32⟩
  | 84 => ⟨S4x4096x256, .f32⟩
  | 85 => ⟨S_, .f32⟩
  | 86 => ⟨S4x4096, .f32⟩
  | 87 => ⟨S4x4096x1, .f32⟩
  | 88 => ⟨S4x4096x256, .f32⟩
  | 89 => ⟨S4x4096x256, .f32⟩
  | 90 => ⟨S4x4096x1, .f32⟩
  | 91 => ⟨S_, .f32⟩
  | 92 => ⟨S4x4096x1, .f32⟩
  | 93 => ⟨S4x4096x1, .f32⟩
  | 94 => ⟨S4x64x4096, .f32⟩
  | 95 => ⟨S4096x4x64, .f32⟩
  | 96 => ⟨S4096x256, .f32⟩
  | 97 => ⟨S4096x256, .f32⟩
  | 98 => ⟨S4096x4x64, .f32⟩
  | 99 => ⟨S4x64x4096, .f32⟩
  | 100 => ⟨S4x4096x256, .f32⟩
  | 101 => ⟨S4x64x256, .f32⟩
  | 102 => ⟨S256x4x64, .f32⟩
  | 103 => ⟨S4x4096x256, .f32⟩
  | 104 => ⟨S4x4096x256, .f32⟩
  | 105 => ⟨S4x4096x256, .f32⟩
  | 106 => ⟨S_, .f32⟩
  | 107 => ⟨S4x4096, .f32⟩
  | 108 => ⟨S4x4096x1, .f32⟩
  | 109 => ⟨S4x4096x1, .f32⟩
  | 110 => ⟨S4x4096x256, .f32⟩
  | 111 => ⟨S4x4096x256, .f32⟩
  | 112 => ⟨S_, .f32⟩
  | 113 => ⟨S4x4096, .f32⟩
  | 114 => ⟨S4x4096x256, .f32⟩
  | 115 => ⟨S4x4096x256, .f32⟩
  | 116 => ⟨S4x4096x256, .f32⟩
  | 117 => ⟨S_, .f32⟩
  | 118 => ⟨S4x4096x256, .f32⟩
  | 119 => ⟨S4x4096x256, .f32⟩
  | 120 => ⟨S4x256x64, .f32⟩
  | 121 => ⟨S256x4x64, .f32⟩
  | 122 => ⟨S4x4096x64, .f32⟩
  | 123 => ⟨S4096x4x64, .f32⟩
  | 124 => ⟨S4096x4x64, .f32⟩
  | 125 => ⟨S_, .f32⟩
  | 126 => ⟨S64, .f32⟩
  | 127 => ⟨S1x1x64, .f32⟩
  | _ => ⟨S4096x1024, .f32⟩

abbrev hbmTy0_1 (i : Nat) : BufTy := match i % 128 with
  | 0 => ⟨S4096x4x64, .f32⟩
  | 1 => ⟨S4096x4x64, .f32⟩
  | 2 => ⟨S_, .f32⟩
  | 3 => ⟨S64, .f32⟩
  | 4 => ⟨S4096x4x64, .f32⟩
  | 5 => ⟨S_, .f32⟩
  | 6 => ⟨S4096x4, .f32⟩
  | 7 => ⟨S4096x4x1, .f32⟩
  | 8 => ⟨S4096x4x64, .f32⟩
  | 9 => ⟨S4096x4x64, .f32⟩
  | 10 => ⟨S4096x4x1, .f32⟩
  | 11 => ⟨S_, .f32⟩
  | 12 => ⟨S4096x4x1, .f32⟩
  | 13 => ⟨S4096x4x1, .f32⟩
  | 14 => ⟨S_, .f32⟩
  | 15 => ⟨S4096x4, .f32⟩
  | 16 => ⟨S4096x4x64, .f32⟩
  | 17 => ⟨S4096x4x64, .f32⟩
  | 18 => ⟨S4096x4x64, .f32⟩
  | 19 => ⟨S4096x4x64, .f32⟩
  | 20 => ⟨S4096x4x64, .f32⟩
  | 21 => ⟨S4096x256, .f32⟩
  | 22 => ⟨S256x256, .f32⟩
  | 23 => ⟨S_, .f32⟩
  | 24 => ⟨S256x512, .f32⟩
  | 25 => ⟨S256x4x64, .f32⟩
  | 26 => ⟨S_, .f32⟩
  | 27 => ⟨S64, .f32⟩
  | 28 => ⟨S1x1x64, .f32⟩
  | 29 => ⟨S256x4x64, .f32⟩
  | 30 => ⟨S256x4x64, .f32⟩
  | 31 => ⟨S_, .f32⟩
  | 32 => ⟨S64, .f32⟩
  | 33 => ⟨S256x4x64, .f32⟩
  | 34 => ⟨S_, .f32⟩
  | 35 => ⟨S256x4, .f32⟩
  | 36 => ⟨S256x4x1, .f32⟩
  | 37 => ⟨S256x4x64, .f32⟩
  | 38 => ⟨S256x4x64, .f32⟩
  | 39 => ⟨S256x4x1, .f32⟩
  | 40 => ⟨S_, .f32⟩
  | 41 => ⟨S256x4x1, .f32⟩
  | 42 => ⟨S256x4x1, .f32⟩
  | 43 => ⟨S_, .f32⟩
  | 44 => ⟨S256x4, .f32⟩
  | 45 => ⟨S256x4x64, .f32⟩
  | 46 => ⟨S256x4x64, .f32⟩
  | 47 => ⟨S256x4x64, .f32⟩
  | 48 => ⟨S256x4x64, .f32⟩
  | 49 => ⟨S256x4x64, .f32⟩
  | 50 => ⟨S256x256, .f32⟩
  | 51 => ⟨S_, .f32⟩
  | 52 => ⟨S256x512, .f32⟩
  | 53 => ⟨S256x512, .f32⟩
  | 54 => ⟨S4096x768, .bf16⟩
  | 55 => ⟨S4096x256, .bf16⟩
  | 56 => ⟨S4096x1024, .bf16⟩
  | 57 => ⟨S1x64, .f32⟩
  | 58 => ⟨S1x64, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_18 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_19 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_21 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_22 : Ref sig .tc := ⟨.hbm, 130, rfl⟩
abbrev main_v101 : Ref sig .tc := ⟨.hbm, 131, rfl⟩
abbrev main_v102 : Ref sig .tc := ⟨.hbm, 132, rfl⟩
abbrev main_cst_23 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_24 : Ref sig .tc := ⟨.hbm, 139, rfl⟩
abbrev main_v108 : Ref sig .tc := ⟨.hbm, 140, rfl⟩
abbrev main_v109 : Ref sig .tc := ⟨.hbm, 141, rfl⟩
abbrev main_cst_25 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_26 : Ref sig .tc := ⟨.hbm, 151, rfl⟩
abbrev main_v118 : Ref sig .tc := ⟨.hbm, 152, rfl⟩
abbrev main_v119 : Ref sig .tc := ⟨.hbm, 153, rfl⟩
abbrev main_cst_27 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_28 : Ref sig .tc := ⟨.hbm, 159, rfl⟩
abbrev main_v124 : Ref sig .tc := ⟨.hbm, 160, rfl⟩
abbrev main_v125 : Ref sig .tc := ⟨.hbm, 161, rfl⟩
abbrev main_cst_29 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_30 : Ref sig .tc := ⟨.hbm, 168, rfl⟩
abbrev main_v131 : Ref sig .tc := ⟨.hbm, 169, rfl⟩
abbrev main_v132 : Ref sig .tc := ⟨.hbm, 170, rfl⟩
abbrev main_cst_31 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_32 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩

abbrev nD : Nat := 1
abbrev τ : Topo := Topo.v7x

variable {F : FTy → Type} [FloatOps F]
-- ==== Kernel7.lean ====
abbrev S4096x1024 : Shape := ⟨2, ![4096, 1024]⟩
abbrev S256x512 : Shape := ⟨2, ![256, 512]⟩
abbrev S4x192x192 : Shape := ⟨3, ![4, 192, 192]⟩
abbrev S768 : Shape := ⟨1, ![768]⟩
abbrev S64 : Shape := ⟨1, ![64]⟩
abbrev S1x64 : Shape := ⟨2, ![1, 64]⟩
abbrev S4096x256 : Shape := ⟨2, ![4096, 256]⟩
abbrev S256x256 : Shape := ⟨2, ![256, 256]⟩
abbrev S256x4x64 : Shape := ⟨3, ![256, 4, 64]⟩
abbrev S_ : Shape := ⟨0, ![]⟩
abbrev S256x4 : Shape := ⟨2, ![256, 4]⟩
abbrev S256x4x1 : Shape := ⟨3, ![256, 4, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4096x4x256 : Shape := ⟨3, ![4096, 4, 256]⟩
abbrev S4x4 : Shape := ⟨2, ![4, 4]⟩
abbrev S4x1x4x1 : Shape := ⟨4, ![4, 1, 4, 1]⟩
abbrev S4x192x1x192 : Shape := ⟨4, ![4, 192, 1, 192]⟩
abbrev S4x192x4x192 : Shape := ⟨4, ![4, 192, 4, 192]⟩
abbrev S768x768 : Shape := ⟨2, ![768, 768]⟩
abbrev S1x768 : Shape := ⟨2, ![1, 768]⟩
abbrev S1024x768 : Shape := ⟨2, ![1024, 768]⟩
abbrev S16x768 : Shape := ⟨2, ![16, 768]⟩
abbrev S1024x256 : Shape := ⟨2, ![1024, 256]⟩
abbrev S1024x1024 : Shape := ⟨2, ![1024, 1024]⟩
abbrev S256x64 : Shape := ⟨2, ![256, 64]⟩
abbrev S256 : Shape := ⟨1, ![256]⟩
abbrev S256x1 : Shape := ⟨2, ![256, 1]⟩
abbrev S1040x768 : Shape := ⟨2, ![1040, 768]⟩
abbrev S1024x64 : Shape := ⟨2, ![1024, 64]⟩
abbrev S1024 : Shape := ⟨1, ![1024]⟩
abbrev S1024x1 : Shape := ⟨2, ![1024, 1]⟩
abbrev S192x192 : Shape := ⟨2, ![192, 192]⟩
abbrev S1x192x192 : Shape := ⟨3, ![1, 192, 192]⟩

abbrev nBuf : Space → Nat
  | .hbm => 98
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S256x512, .f32⟩
  | .hbm, ⟨3, _⟩ => ⟨S4x192x192, .f32⟩
  | .hbm, ⟨4, _⟩ => ⟨S768, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S4096x256, .f32⟩
  | .hbm, ⟨10, _⟩ => ⟨S256x256, .f32⟩
  | .hbm, ⟨11, _⟩ => ⟨S256x4x64, .f32⟩
  | .hbm, ⟨12, _⟩ => ⟨S256x4x64, .f32⟩
  | .hbm, ⟨13, _⟩ => ⟨S_, .f32⟩
  | .hbm, ⟨14, _⟩ => ⟨S256x4, .f32⟩
  | .hbm, ⟨15, _⟩ => ⟨S256x4x1, .f32⟩
  | .hbm, ⟨16, _⟩ => ⟨S_, .f32⟩
  | .hbm, ⟨17, _⟩ => ⟨S256x4x1, .f32⟩
  | .hbm, ⟨18, _⟩ => ⟨S256x4x1, .f32⟩
  | .hbm, ⟨19, _⟩ => ⟨S_, .f32⟩
  | .hbm, ⟨20, _⟩ => ⟨S256x4x1, .f32⟩
  | .hbm, ⟨21, _⟩ => ⟨S256x4x1, .f32⟩
  | .hbm, ⟨22, _⟩ => ⟨S256x4x1, .f32⟩
  | .hbm, ⟨23, _⟩ => ⟨S256x4x64, .f32⟩
  | .hbm, ⟨24, _⟩ => ⟨S256x4x64, .f32⟩
  | .hbm, ⟨25, _⟩ => ⟨S1x1x64, .f32⟩
  | .hbm, ⟨26, _⟩ => ⟨S256x4x64, .f32⟩
  | .hbm, ⟨27, _⟩ => ⟨S256x4x64, .f32⟩
  | .hbm, ⟨28, _⟩ => ⟨S256x256, .f32⟩
  | .hbm, ⟨29, _⟩ => ⟨S256x4x64, .f32⟩
  | .hbm, ⟨30, _⟩ => ⟨S4096x4x64, .f32⟩
  | .hbm, ⟨31, _⟩ => ⟨S4096x4x64, .f32⟩
  | .hbm, ⟨32, _⟩ => ⟨S_, .f32⟩
  | .hbm, ⟨33, _⟩ => ⟨S4096x4, .f32⟩
  | .hbm, ⟨34, _⟩ => ⟨S4096x4x1, .f32⟩
  | .hbm, ⟨35, _⟩ => ⟨S_, .f32⟩
  | .hbm, ⟨36, _⟩ => ⟨S4096x4x1, .f32⟩
  | .hbm, ⟨37, _⟩ => ⟨S4096x4x1, .f32⟩
  | .hbm, ⟨38, _⟩ => ⟨S_, .f32⟩
  | .hbm, ⟨39, _⟩ => ⟨S4096x4x1, .f32⟩
  | .hbm, ⟨40, _⟩ => ⟨S4096x4x1, .f32⟩
  | .hbm, ⟨41, _⟩ => ⟨S4096x4x1, .f32⟩
  | .hbm, ⟨42, _⟩ => ⟨S4096x4x64, .f32⟩
  | .hbm, ⟨43, _⟩ => ⟨S4096x4x64, .f32⟩
  | .hbm, ⟨44, _⟩ => ⟨S1x1x64, .f32⟩
  | .hbm, ⟨45, _⟩ => ⟨S4096x4x64, .f32⟩
  | .hbm, ⟨46, _⟩ => ⟨S4096x4x64, .f32⟩
  | .hbm, ⟨47, _⟩ => ⟨S4x4096x256, .f32⟩
  | .hbm, ⟨48, _⟩ => ⟨S_, .f32⟩
  | .hbm, ⟨49, _⟩ => ⟨S4x4096x256, .f32⟩
  | .hbm, ⟨50, _⟩ => ⟨S4x4096x256, .f32⟩
  | .hbm, ⟨51, _⟩ => ⟨S_, .f32⟩
  | .hbm, ⟨52, _⟩ => ⟨S4x4096, .f32⟩
  | .hbm, ⟨53, _⟩ => ⟨S_, .f32⟩
  | .hbm, ⟨54, _⟩ => ⟨S4x4096, .f32⟩
  | .hbm, ⟨55, _⟩ => ⟨S4x4096, .f32⟩
  | .hbm, ⟨56, _⟩ => ⟨S4x4096x1, .f32⟩
  | .hbm, ⟨57, _⟩ => ⟨S4x4096x256, .f32⟩
  | .hbm, ⟨58, _⟩ => ⟨S4x4096x256, .f32⟩
  | .hbm, ⟨59, _⟩ => ⟨S4x4096x256, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S4x4096x256, .f32⟩
  | .hbm, ⟨64, _⟩ => ⟨S4x4096x256, .f32⟩
  | .hbm, ⟨65, _⟩ => ⟨S4096x4x256, .f32⟩
  | .hbm, ⟨66, _⟩ => ⟨S4096x1024, .f32⟩
  | .hbm, ⟨67, _⟩ => ⟨S4096x1024, .bf16⟩
  | .hbm, ⟨68, _⟩ => ⟨S4x4, .i32⟩
  | .hbm, ⟨69, _⟩ => ⟨S4x4, .i32⟩
  | .hbm, ⟨70, _⟩ => ⟨S_, .i32⟩
  | .hbm, ⟨71, _⟩ => ⟨S4x4, .i32⟩
  | .hbm, ⟨72, _⟩ => ⟨S4x4, .i32⟩
  | .hbm, ⟨73, _⟩ => ⟨S4x4, .i1⟩
  | .hbm, ⟨74, _⟩ => ⟨S4x4, .f32⟩
  | .hbm, ⟨75, _⟩ => ⟨S4x1x4x1, .f32⟩
  | .hbm, ⟨76, _⟩ => ⟨S4x192x1x192, .f32⟩
  | .hbm, ⟨77, _⟩ => ⟨S4x192x4x192, .f32⟩
  | .hbm, ⟨78, _⟩ => ⟨S4x192x4x192, .f32⟩
  | .hbm, ⟨79, _⟩ => ⟨S4x192x4x192, .f32⟩
  | .hbm, ⟨80, _⟩ => ⟨S768x768, .f32⟩
  | .hbm, ⟨81, _⟩ => ⟨S768x768, .bf16⟩
  | .hbm, ⟨82, _⟩ => ⟨S1x768, .f32⟩
  | .hbm, ⟨83, _⟩ => ⟨S4096x1024, .bf16⟩
  | .hbm, ⟨84, _⟩ => ⟨S768x768, .f32⟩
  | .hbm, ⟨85, _⟩ => ⟨S1x768, .f32⟩
  | .hbm, ⟨86, _⟩ => ⟨S256x512, .f32⟩
  | .hbm, ⟨87, _⟩ => ⟨S1x64, .f32⟩
  | .hbm, ⟨88, _⟩ => ⟨S1x64, .f32⟩
  | .hbm, ⟨89, _⟩ => ⟨S192x192, .f32⟩
  | .hbm, ⟨90, _⟩ => ⟨S192x192, .f32⟩
  | .hbm, ⟨91, _⟩ => ⟨S192x192, .f32⟩
  | .hbm, ⟨92, _⟩ => ⟨S192x192, .f32⟩
  | .hbm, ⟨93, _⟩ => ⟨S1x192x192, .f32⟩
  | .hbm, ⟨94, _⟩ => ⟨S1x192x192, .f32⟩
  | .hbm, ⟨95, _⟩ => ⟨S1x192x192, .f32⟩
  | .hbm, ⟨96, _⟩ => ⟨S1x192x192, .f32⟩
  | .hbm, ⟨97, _⟩ => ⟨S4x192x192, .f32⟩
  | .local _ .vmem, ⟨0, _⟩ => ⟨S1024x768, .f32⟩
  | .local _ .vmem, ⟨1, _⟩ => ⟨S1024x768, .f32⟩
  | .local _ .vmem, ⟨2, _⟩ => ⟨S16x768, .f32⟩
  | .local _ .vmem, ⟨3, _⟩ => ⟨S16x768, .f32⟩
  | .local _ .vmem, ⟨4, _⟩ => ⟨S1024x256, .f32⟩
  | .local _ .vmem, ⟨5, _⟩ => ⟨S1024x256, .f32⟩
  | .local _ .vmem, ⟨6, _⟩ => ⟨S1024x768, .f32⟩
  | .local _ .vmem, ⟨7, _⟩ => ⟨S1024x768, .f32⟩
  | .local _ .vmem, ⟨8, _⟩ => ⟨S16x768, .f32⟩
  | .local _ .vmem, ⟨9, _⟩ => ⟨S16x768, .f32⟩
  | .local _ .vmem, ⟨10, _⟩ => ⟨S1024x256, .f32⟩
  | .local _ .vmem, ⟨11, _⟩ => ⟨S1024x256, .f32⟩
  | .local _ .vmem, ⟨12, _⟩ => ⟨S256x512, .f32⟩
  | .local _ .vmem, ⟨13, _⟩ => ⟨S768x768, .bf16⟩
  | .local _ .vmem, ⟨14, _⟩ => ⟨S1x768, .f32⟩
  | .local _ .vmem, ⟨15, _⟩ => ⟨S1x64, .f32⟩
  | .local _ .vmem, ⟨16, _⟩ => ⟨S1x64, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S768x768, .f32⟩
  | .local _ .vmem, ⟨22, _⟩ => ⟨S1x768, .f32⟩
  | .local _ .vmem, ⟨23, _⟩ => ⟨S256x512, .f32⟩
  | .local _ .vmem, ⟨24, _⟩ => ⟨S1x64, .f32⟩
  | .local _ .vmem, ⟨25, _⟩ => ⟨S1x64, .f32⟩
  | .local _ .vmem, ⟨26, _⟩ => ⟨S256x256, .bf16⟩
  | .local _ .vmem, ⟨27, _⟩ => ⟨S256x256, .bf16⟩
  | .local _ .vmem, ⟨28, _⟩ => ⟨S256x256, .f32⟩
  | .local _ .vmem, ⟨29, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65_0 : Ref sig .tc := ⟨.hbm, 83, rfl⟩
abbrev main_v65_1 : Ref sig .tc := ⟨.hbm, 84, rfl⟩
abbrev main_v65_2 : Ref sig .tc := ⟨.hbm, 85, rfl⟩
abbrev main_v65_3 : Ref sig .tc := ⟨.hbm, 86, rfl⟩
abbrev main_v65_4 : Ref sig .tc := ⟨.hbm, 87, rfl⟩
abbrev main_v65_5 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_134 : BitVec 32 := 3#32
  let v383 : BitVec 1 := Scalar.cmpi .eq arg0 c3_i32_134
  let v384 : BitVec 32 := Scalar.extui v383
  let c0_i32_135 : BitVec 32 := 0#32
  let v385 : BitVec 1 := Scalar.cmpi .ne v384 c0_i32_135
  v385

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S768x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference7Ideal.lean ====
abbrev S4096x1024 : Shape := ⟨2, ![4096, 1024]⟩
abbrev S256x512 : Shape := ⟨2, ![256, 512]⟩
abbrev S4x192x192 : Shape := ⟨3, ![4, 192, 192]⟩
abbrev S768 : Shape := ⟨1, ![768]⟩
abbrev S64 : Shape := ⟨1, ![64]⟩
abbrev S4096x768 : Shape := ⟨2, ![4096, 768]⟩
abbrev S4096x4x192 : Shape := ⟨3, ![4096, 4, 192]⟩
abbrev S_ : Shape := ⟨0, ![]⟩
abbrev S1x4x192 : Shape := ⟨3, ![1, 4, 192]⟩
abbrev S4097x4x192 : Shape := ⟨3, ![4097, 4, 192]⟩
abbrev S4 : Shape := ⟨1, ![4]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S4x192x4096 : Shape := ⟨3, ![4, 192, 4096]⟩
abbrev S1x768 : Shape := ⟨2, ![1, 768]⟩
abbrev S4096x256 : Shape := ⟨2, ![4096, 256]⟩
abbrev S256x256 : Shape := ⟨2, ![256, 256]⟩
abbrev S256x4x64 : Shape := ⟨3, ![256, 4, 64]⟩
abbrev S256x4 : Shape := ⟨2, ![256, 4]⟩
abbrev S256x4x1 : Shape := ⟨3, ![256, 4, 1]⟩
abbrev S1x1x64 : Shape := ⟨3, ![1, 1, 64]⟩
abbrev S4096x4x64 : Shape := ⟨3, ![4096, 4, 64]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩
abbrev S4x4096x192 : Shape := ⟨3, ![4, 4096, 192]⟩
abbrev S1x64 : Shape := ⟨2, ![1, 64]⟩

abbrev nBuf : Space → Nat
  | .hbm => 311
  | .vmem => 0
  | .smem => 0
  | _ => 0

abbrev hbmTy0_0 (i : Nat) : BufTy := match i % 128 with
  | 0 => ⟨S4096x1024, .f32⟩
  | 1 => ⟨S4096x1024, .f32⟩
  | 2 => ⟨S256x512, .f32⟩
  | 3 => ⟨S4x192x192, .f32⟩
  | 4 => ⟨S768, .f32⟩
  | 5 => ⟨S64, .f32⟩
  | 6 => ⟨S64, .f32⟩
  | 7 => ⟨S4096x768, .f32⟩
  | 8 => ⟨S4096x4x192, .f32⟩
  | 9 => ⟨S_, .f32⟩
  | 10 => ⟨S1x4x192, .f32⟩
  | 11 => ⟨S_, .f32⟩
  | 12 => ⟨S_, .f32⟩
  | 13 => ⟨S4096x4x192, .f32⟩
  | 14 => ⟨S4097x4x192, .f32⟩
  | 15 => ⟨S_, .f32⟩
  | 16 => ⟨S1x4x192, .f32⟩
  | 17 => ⟨S4, .i32⟩
  | 18 => ⟨S_, .i32⟩
  | 19 => ⟨S4, .i32⟩
  | 20 => ⟨S4, .i1⟩
  | 21 => ⟨S_, .i32⟩
  | 22 => ⟨S4, .i32⟩
  | 23 => ⟨S4, .i1⟩
  | 24 => ⟨S_, .i32⟩
  | 25 => ⟨S4, .i32⟩
  | 26 => ⟨S4, .i1⟩
  | 27 => ⟨S_, .i32⟩
  | 28 => ⟨S_, .i32⟩
  | 29 => ⟨S4, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S4096, .i32⟩
  | 39 => ⟨S4096x1, .i32⟩
  | 40 => ⟨S_, .i32⟩
  | 41 => ⟨S4096x1, .i32⟩
  | 42 => ⟨S4096x1, .i32⟩
  | 43 => ⟨S1x4, .i32⟩
  | 44 => ⟨S1x4, .i32⟩
  | 45 => ⟨S4096x4, .i32⟩
  | 46 => ⟨S4096x4, .i32⟩
  | 47 => ⟨S4096x4, .i32⟩
  | 48 => ⟨S_, .i32⟩
  | 49 => ⟨S4096x4, .i32⟩
  | 50 => ⟨S4096x4, .i32⟩
  | 51 => ⟨S_, .i32⟩
  | 52 => ⟨S4096x1, .i32⟩
  | 53 => ⟨S4096x1, .i32⟩
  | 54 => ⟨S1x4, .i32⟩
  | 55 => ⟨S1x4, .i32⟩
  | 56 => ⟨S4096x4, .i32⟩
  | 57 => ⟨S4096x4, .i32⟩
  | 58 => ⟨S4096x4, .i32⟩
  | 59 => ⟨S4096x4, .f32⟩
  | 60 => ⟨S4096x4x192, .f32⟩
  | 61 => ⟨S4, .i32⟩
  | 62 => ⟨S1x4, .i32⟩
  | 63 => ⟨S_, .i32⟩
  | 64 => ⟨S4096x4, .i32⟩
  | 65 => ⟨S4096x4, .i1⟩
  | 66 => ⟨S_, .i32⟩
  | 67 => ⟨S4096x4, .i32⟩
  | 68 => ⟨S4096x4, .i32⟩
  | 69 => ⟨S4096x4, .i32⟩
  | 70 => ⟨S_, .i32⟩
  | 71 => ⟨S1x4, .i32⟩
  | 72 => ⟨S1x4, .i1⟩
  | 73 => ⟨S_, .i32⟩
  | 74 => ⟨S1x4, .i32⟩
  | 75 => ⟨S1x4, .i32⟩
  | 76 => ⟨S1x4, .i32⟩
  | 77 => ⟨S4096x4, .i32⟩
  | 78 => ⟨S4096x4x1, .i32⟩
  | 79 => ⟨S4096x4x1, .i32⟩
  | 80 => ⟨S4096x4x2, .i32⟩
  | 81 => ⟨S4096x4x192, .f32⟩
  | 82 => ⟨S4096x4x192, .f32⟩
  | 83 => ⟨S4096x4x1, .f32⟩
  | 84 => ⟨S4096x4x192, .f32⟩
  | 85 => ⟨S4096x4x192, .f32⟩
  | 86 => ⟨S4096x4x192, .f32⟩
  | 87 => ⟨S4x192x4096, .f32⟩
  | 88 => ⟨S4096x4x192, .f32⟩
  | 89 => ⟨S4096x768, .f32⟩
  | 90 => ⟨S1x768, .f32⟩
  | 91 => ⟨S4096x768, .f32⟩
  | 92 => ⟨S4096x768, .f32⟩
  | 93 => ⟨S4096x256, .f32⟩
  | 94 => ⟨S256x256, .f32⟩
  | 95 => ⟨S256x4x64, .f32⟩
  | 96 => ⟨S256x4x64, .f32⟩
  | 97 => ⟨S_, .f32⟩
  | 98 => ⟨S256x4, .f32⟩
  | 99 => ⟨S256x4x1, .f32⟩
  | 100 => ⟨S_, .f32⟩
  | 101 => ⟨S256x4x1, .f32⟩
  | 102 => ⟨S256x4x1, .f32⟩
  | 103 => ⟨S_, .f32⟩
  | 104 => ⟨S256x4x1, .f32⟩
  | 105 => ⟨S256x4x1, .f32⟩
  | 106 => ⟨S256x4x1, .f32⟩
  | 107 => ⟨S256x4x1, .f32⟩
  | 108 => ⟨S_, .f32⟩
  | 109 => ⟨S256x4x1, .f32⟩
  | 110 => ⟨S256x4x1, .f32⟩
  | 111 => ⟨S256x4x64, .f32⟩
  | 112 => ⟨S256x4x64, .f32⟩
  | 113 => ⟨S1x1x64, .f32⟩
  | 114 => ⟨S256x4x64, .f32⟩
  | 115 => ⟨S256x4x64, .f32⟩
  | 116 => ⟨S256x256, .f32⟩
  | 117 => ⟨S256x4x64, .f32⟩
  | 118 => ⟨S4096x4x64, .f32⟩
  | 119 => ⟨S4096x4x64, .f32⟩
  | 120 => ⟨S_, .f32⟩
  | 121 => ⟨S4096x4, .f32⟩
  | 122 => ⟨S4096x4x1, .f32⟩
  | 123 => ⟨S_, .f32⟩
  | 124 => ⟨S4096x4x1, .f32⟩
  | 125 => ⟨S4096x4x1, .f32⟩
  | 126 => ⟨S_, .f32⟩
  | 127 => ⟨S4096x4x1, .f32⟩
  | _ => ⟨S4096x1024, .f32⟩

abbrev hbmTy0_1 (i : Nat) : BufTy := match i % 128 with
  | 0 => ⟨S4096x4x1, .f32⟩
  | 1 => ⟨S4096x4x1, .f32⟩
  | 2 => ⟨S4096x4x1, .f32⟩
  | 3 => ⟨S_, .f32⟩
  | 4 => ⟨S4096x4x1, .f32⟩
  | 5 => ⟨S4096x4x1, .f32⟩
  | 6 => ⟨S4096x4x64, .f32⟩
  | 7 => ⟨S4096x4x64, .f32⟩
  | 8 => ⟨S1x1x64, .f32⟩
  | 9 => ⟨S4096x4x64, .f32⟩
  | 10 => ⟨S4096x4x64, .f32⟩
  | 11 => ⟨S4x4096x256, .f32⟩
  | 12 => ⟨S_, .f32⟩
  | 13 => ⟨S4x4096x256, .f32⟩
  | 14 => ⟨S4x4096x256, .f32⟩
  | 15 => ⟨S_, .f32⟩
  | 16 => ⟨S4x4096, .f32⟩
  | 17 => ⟨S4x4096x1, .f32⟩
  | 18 => ⟨S4x4096x256, .f32⟩
  | 19 => ⟨S4x4096x256, .i1⟩
  | 20 => ⟨S4x4096x256, .f32⟩
  | 21 => ⟨S_, .f32⟩
  | 22 => ⟨S4x4096, .f32⟩
  | 23 => ⟨S_, .f32⟩
  | 24 => ⟨S4x4096, .f32⟩
  | 25 => ⟨S4x4096, .f32⟩
  | 26 => ⟨S_, .f32⟩
  | 27 => ⟨S4x4096, .f32⟩
  | 28 => ⟨S4x4096, .i1⟩
  | 29 => ⟨S_, .f32⟩
  | 30 => ⟨S4x4096, .f32⟩
  | 31 => ⟨S4x4096, .i1⟩
  | 32 => ⟨S_, .f32⟩
  | 33 => ⟨S4x4096, .f32⟩
  | 34 => ⟨S_, .f32⟩
  | 35 => ⟨S4x4096, .f32⟩
  | 36 => ⟨S_, .f32⟩
  | 37 => ⟨S4x4096, .f32⟩
  | 38 => ⟨S4x4096, .f32⟩
  | 39 => ⟨S4x4096, .f32⟩
  | 40 => ⟨S4x4096x1, .f32⟩
  | 41 => ⟨S4x4096x256, .f32⟩
  | 42 => ⟨S4x4096x256, .f32⟩
  | 43 => ⟨S4x4096x256, .f32⟩
  | 44 => ⟨S_, .f32⟩
  | 45 => ⟨S4x4096, .f32⟩
  | 46 => ⟨S4x4096x1, .f32⟩
  | 47 => ⟨S4x4096x256, .f32⟩
  | 48 => ⟨S4x4096x256, .f32⟩
  | 49 => ⟨S4x4096x1, .f32⟩
  | 50 => ⟨S_, .f32⟩
  | 51 => ⟨S4x4096x1, .f32⟩
  | 52 => ⟨S4x4096x1, .f32⟩
  | 53 => ⟨S4x64x4096, .f32⟩
  | 54 => ⟨S4096x4x64, .f32⟩
  | 55 => ⟨S4096x256, .f32⟩
  | 56 => ⟨S4096x1024, .f32⟩
  | 57 => ⟨S4096x768, .f32⟩
  | 58 => ⟨S4096x256, .f32⟩
  | 59 => ⟨S4096x4x64, .f32⟩
  | 60 => ⟨S4x64x4096, .f32⟩
  | 61 => ⟨S4x4096x256, .f32⟩
  | 62 => ⟨S4x64x256, .f32⟩
  | 63 => ⟨S256x4x64, .f32⟩
  | 64 => ⟨S4x4096x256, .f32⟩
  | 65 => ⟨S4x4096x256, .f32⟩
  | 66 => ⟨S4x4096x256, .f32⟩
  | 67 => ⟨S_, .f32⟩
  | 68 => ⟨S4x4096, .f32⟩
  | 69 => ⟨S4x4096x1, .f32⟩
  | 70 => ⟨S4x4096x1, .f32⟩
  | 71 => ⟨S4x4096x256, .f32⟩
  | 72 => ⟨S4x4096x256, .f32⟩
  | 73 => ⟨S_, .f32⟩
  | 74 => ⟨S4x4096, .f32⟩
  | 75 => ⟨S4x4096x256, .f32⟩
  | 76 => ⟨S4x4096x256, .f32⟩
  | 77 => ⟨S4x4096x256, .f32⟩
  | 78 => ⟨S_, .f32⟩
  | 79 => ⟨S4x4096x256, .f32⟩
  | 80 => ⟨S4x4096x256, .f32⟩
  | 81 => ⟨S4x256x64, .f32⟩
  | 82 => ⟨S256x4x64, .f32⟩
  | 83 => ⟨S4x4096x64, .f32⟩
  | 84 => ⟨S4096x4x64, .f32⟩
  | 85 => ⟨S4096x4x64, .f32⟩
  | 86 => ⟨S_, .f32⟩
  | 87 => ⟨S64, .f32⟩
  | 88 => ⟨S1x1x64, .f32⟩
  | 89 => ⟨S4096x4x64, .f32⟩
  | 90 => ⟨S4096x4x64, .f32⟩
  | 91 => ⟨S_, .f32⟩
  | 92 => ⟨S64, .f32⟩
  | 93 => ⟨S4096x4x64, .f32⟩
  | 94 => ⟨S_, .f32⟩
  | 95 => ⟨S4096x4, .f32⟩
  | 96 => ⟨S4096x4x1, .f32⟩
  | 97 => ⟨S4096x4x64, .f32⟩
  | 98 => ⟨S4096x4x64, .f32⟩
  | 99 => ⟨S4096x4x1, .f32⟩
  | 100 => ⟨S_, .f32⟩
  | 101 => ⟨S4096x4x1, .f32⟩
  | 102 => ⟨S4096x4x1, .f32⟩
  | 103 => ⟨S_, .f32⟩
  | 104 => ⟨S4096x4, .f32⟩
  | 105 => ⟨S4096x4x64, .f32⟩
  | 106 => ⟨S4096x4x64, .f32⟩
  | 107 => ⟨S4096x4x64, .f32⟩
  | 108 => ⟨S4096x4x64, .f32⟩
  | 109 => ⟨S4096x4x64, .f32⟩
  | 110 => ⟨S4096x256, .f32⟩
  | 111 => ⟨S256x256, .f32⟩
  | 112 => ⟨S_, .f32⟩
  | 113 => ⟨S256x512, .f32⟩
  | 114 => ⟨S256x4x64, .f32⟩
  | 115 => ⟨S_, .f32⟩
  | 116 => ⟨S64, .f32⟩
  | 117 => ⟨S1x1x64, .f32⟩
  | 118 => ⟨S256x4x64, .f32⟩
  | 119 => ⟨S256x4x64, .f32⟩
  | 120 => ⟨S_, .f32⟩
  | 121 => ⟨S64, .f32⟩
  | 122 => ⟨S256x4x64, .f32⟩
  | 123 => ⟨S_, .f32⟩
  | 124 => ⟨S256x4, .f32⟩
  | 125 => ⟨S256x4x1, .f32⟩
  | 126 => ⟨S256x4x64, .f32⟩
  | 127 => ⟨S256x4x64, .f32⟩
  | _ => ⟨S4096x1024, .f32⟩

abbrev hbmTy0_2 (i : Nat) : BufTy := match i % 128 with
  | 0 => ⟨S256x4x1, .f32⟩
  | 1 => ⟨S_, .f32⟩
  | 2 => ⟨S256x4x1, .f32⟩
  | 3 => ⟨S256x4x1, .f32⟩
  | 4 => ⟨S_, .f32⟩
  | 5 => ⟨S256x4, .f32⟩
  | 6 => ⟨S256x4x64, .f32⟩
  | 7 => ⟨S256x4x64, .f32⟩
  | 8 => ⟨S256x4x64, .f32⟩
  | 9 => ⟨S256x4x64, .f32⟩
  | 10 => ⟨S256x4x64, .f32⟩
  | 11 => ⟨S256x256, .f32⟩
  | 12 => ⟨S_, .f32⟩
  | 13 => ⟨S256x512, .f32⟩
  | 14 => ⟨S256x512, .f32⟩
  | 15 => ⟨S_, .f32⟩
  | 16 => ⟨S4096x1024, .f32⟩
  | 17 => ⟨S4096x768, .f32⟩
  | 18 => ⟨S_, .f32⟩
  | 19 => ⟨S768, .f32⟩
  | 20 => ⟨S1x768, .f32⟩
  | 21 => ⟨S4096x768, .f32⟩
  | 22 => ⟨S4096x768, .f32⟩
  | 23 => ⟨S_, .f32⟩
  | 24 => ⟨S768, .f32⟩
  | 25 => ⟨S4096x4x192, .f32⟩
  | 26 => ⟨S4x192x4096, .f32⟩
  | 27 => ⟨S4x4096x192, .f32⟩
  | 28 => ⟨S4096x4x192, .f32⟩
  | 29 => ⟨S4x192x192, .f32⟩
  | 30 => ⟨S4x192x192, .f32⟩
  | 31 => ⟨S4096x4x192, .f32⟩
  | 32 => ⟨S4096x4x192, .f32⟩
  | 33 => ⟨S4096x4x192, .f32⟩
  | 34 => ⟨S4096x4x192, .f32⟩
  | 35 => ⟨S_, .f32⟩
  | 36 => ⟨S4097x4x192, .f32⟩
  | 37 => ⟨S4097x4x192, .f32⟩
  | 38 => ⟨S_, .f32⟩
  | 39 => ⟨S4097x4x192, .f32⟩
  | 40 => ⟨S4097x4x192, .f32⟩
  | 41 => ⟨S1x4x192, .f32⟩
  | 42 => ⟨S4096x4x192, .f32⟩
  | 43 => ⟨S_, .f32⟩
  | 44 => ⟨S_, .f32⟩
  | 45 => ⟨S4096x4x192, .f32⟩
  | 46 => ⟨S4096x4x192, .f32⟩
  | 47 => ⟨S4096x768, .f32⟩
  | 48 => ⟨S_, .f32⟩
  | 49 => ⟨S4096x1024, .f32⟩
  | 50 => ⟨S4096x1024, .f32⟩
  | 51 => ⟨S4096x1024, .bf16⟩
  | 52 => ⟨S1x768, .f32⟩
  | 53 => ⟨S1x64, .f32⟩
  | 54 => ⟨S1x64, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_call0_call0_cst : Ref sig .tc := ⟨.hbm, 11, rfl⟩
abbrev main_call0_call0_v0 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_v13 : Ref sig .tc := ⟨.hbm, 31, rfl⟩
abbrev main_c_5 : Ref sig .tc := ⟨.hbm, 32, rfl⟩
abbrev main_call2_v0 : Ref sig .tc := ⟨.hbm, 33, rfl⟩
abbrev main_v14 : Ref sig .tc := ⟨.hbm, 34, rfl⟩
abbrev main_c_6 : Ref sig .tc := ⟨.hbm, 35, rfl⟩
abbrev main_call3_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_7 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_c_9 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_c_13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_cst_25 : Ref sig .tc := ⟨.hbm, 151, rfl⟩
abbrev main_v111 : Ref sig .tc := ⟨.hbm, 152, rfl⟩
abbrev main_v112 : Ref sig .tc := ⟨.hbm, 153, rfl⟩
abbrev main_cst_26 : Ref sig .tc := ⟨.hbm, 154, rfl⟩
abbrev main_v113 : Ref sig .tc := ⟨.hbm, 155, rfl⟩
abbrev main_v114 : Ref sig .tc := ⟨.hbm, 156, rfl⟩
abbrev main_cst_27 : Ref sig .tc := ⟨.hbm, 157, rfl⟩
abbrev main_v115 : Ref sig .tc := ⟨.hbm, 158, rfl⟩
abbrev main_v116 : Ref sig .tc := ⟨.hbm, 159, rfl⟩
abbrev main_cst_28 : Ref sig .tc := ⟨.hbm, 160, rfl⟩
abbrev main_v117 : Ref sig .tc := ⟨.hbm, 161, rfl⟩
abbrev main_cst_29 : Ref sig .tc := ⟨.hbm, 162, rfl⟩
abbrev main_v118 : Ref sig .tc := ⟨.hbm, 163, rfl⟩
abbrev main_cst_30 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_31 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_32 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_33 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_34 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_35 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_36 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_37 : Ref sig .tc := ⟨.hbm, 219, rfl⟩
abbrev main_v167 : Ref sig .tc := ⟨.hbm, 220, rfl⟩
abbrev main_v168 : Ref sig .tc := ⟨.hbm, 221, rfl⟩
abbrev main_cst_38 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_39 : Ref sig .tc := ⟨.hbm, 228, rfl⟩
abbrev main_v174 : Ref sig .tc := ⟨.hbm, 229, rfl⟩
abbrev main_v175 : Ref sig .tc := ⟨.hbm, 230, rfl⟩
abbrev main_cst_40 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_cst_41 : Ref sig .tc := ⟨.hbm, 240, rfl⟩
abbrev main_v184 : Ref sig .tc := ⟨.hbm, 241, rfl⟩
abbrev main_v185 : Ref sig .tc := ⟨.hbm, 242, rfl⟩
abbrev main_cst_42 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_cst_43 : Ref sig .tc := ⟨.hbm, 248, rfl⟩
abbrev main_v190 : Ref sig .tc := ⟨.hbm, 249, rfl⟩
abbrev main_v191 : Ref sig .tc := ⟨.hbm, 250, rfl⟩
abbrev main_cst_44 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_cst_45 : Ref sig .tc := ⟨.hbm, 257, rfl⟩
abbrev main_v197 : Ref sig .tc := ⟨.hbm, 258, rfl⟩
abbrev main_v198 : Ref sig .tc := ⟨.hbm, 259, rfl⟩
abbrev main_cst_46 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_cst_47 : Ref sig .tc := ⟨.hbm, 268, rfl⟩
abbrev main_v206 : Ref sig .tc := ⟨.hbm, 269, rfl⟩
abbrev main_v207 : Ref sig .tc := ⟨.hbm, 270, rfl⟩
abbrev main_cst_48 : Ref sig .tc := ⟨.hbm, 271, rfl⟩
abbrev main_v208 : Ref sig .tc := ⟨.hbm, 272, rfl⟩
abbrev main_v209 : Ref sig .tc := ⟨.hbm, 273, rfl⟩
abbrev main_cst_49 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_cst_50 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_cst_51 : Ref sig .tc := ⟨.hbm, 291, rfl⟩
abbrev main_v225 : Ref sig .tc := ⟨.hbm, 292, rfl⟩
abbrev main_v226 : Ref sig .tc := ⟨.hbm, 293, rfl⟩
abbrev main_cst_52 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_call4_call0_cst : Ref sig .tc := ⟨.hbm, 299, rfl⟩
abbrev main_call4_call0_v0 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_cst_53 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩

abbrev nD : Nat := 1
abbrev τ : Topo := Topo.v7x

variable {F : FTy → Type} [FloatOps F]
-- ==== Kernel8.lean ====
abbrev S4096x1024 : Shape := ⟨2, ![4096, 1024]⟩
abbrev S4096x512 : Shape := ⟨2, ![4096, 512]⟩
abbrev S64 : Shape := ⟨1, ![64]⟩
abbrev S12 : Shape := ⟨1, ![12]⟩
abbrev S4096x768 : Shape := ⟨2, ![4096, 768]⟩
abbrev S4096x12x64 : Shape := ⟨3, ![4096, 12, 64]⟩
abbrev S_ : Shape := ⟨0, ![]⟩
abbrev S4096x12 : Shape := ⟨2, ![4096, 12]⟩
abbrev S4096x12x1 : Shape := ⟨3, ![4096, 12, 1]⟩
abbrev S1x1x64 : Shape := ⟨3, ![1, 1, 64]⟩
abbrev S4096x256 : Shape := ⟨2, ![4096, 256]⟩
abbrev S4096x4x64 : Shape := ⟨3, ![4096, 4, 64]⟩
abbrev S4096x4 : Shape := ⟨2, ![4096, 4]⟩
abbrev S4096x4x1 : Shape := ⟨3, ![4096, 4, 1]⟩
abbrev S32x128x4x3x64 : Shape := ⟨5, ![32, 128, 4, 3, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x3 : Shape := ⟨5, ![32, 4, 256, 128, 3]⟩
abbrev S32x4x3x128x256 : Shape := ⟨5, ![32, 4, 3, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S4x3 : Shape := ⟨2, ![4, 3]⟩
abbrev S1x4x3x1x1 : Shape := ⟨5, ![1, 4, 3, 1, 1]⟩
abbrev S32x1x1x128x256 : Shape := ⟨5, ![32, 1, 1, 128, 256]⟩
abbrev S32x4x3x128 : Shape := ⟨4, ![32, 4, 3, 128]⟩
abbrev S32x4x3x128x1 : Shape := ⟨5, ![32, 4, 3, 128, 1]⟩
abbrev S32x128x4x3x1 : Shape := ⟨5, ![32, 128, 4, 3, 1]⟩
abbrev S32x4x384x256 : Shape := ⟨4, ![32, 4, 384, 256]⟩
abbrev S4096x128 : Shape := ⟨2, ![4096, 128]⟩
abbrev S1x64 : Shape := ⟨2, ![1, 64]⟩
abbrev S4096x64 : Shape := ⟨2, ![4096, 64]⟩
abbrev S4096 : Shape := ⟨1, ![4096]⟩
abbrev S4096x1 : Shape := ⟨2, ![4096, 1]⟩
abbrev S128x768 : Shape := ⟨2, ![128, 768]⟩
abbrev S128x256 : Shape := ⟨2, ![128, 256]⟩
abbrev S1x4x384x256 : Shape := ⟨4, ![1, 4, 384, 256]⟩
abbrev S128x128 : Shape := ⟨2, ![128, 128]⟩
abbrev S256x256 : Shape := ⟨2, ![256, 256]⟩
abbrev S1x1x384x256 : Shape := ⟨4, ![1, 1, 384, 256]⟩
abbrev S384x256 : Shape := ⟨2, ![384, 256]⟩
abbrev S128x64 : Shape := ⟨2, ![128, 64]⟩
abbrev S384x64 : Shape := ⟨2, ![384, 64]⟩
abbrev S384 : Shape := ⟨1, ![384]⟩
abbrev S384x1 : Shape := ⟨2, ![384, 1]⟩
abbrev S128x1 : Shape := ⟨2, ![128, 1]⟩
abbrev S256x64 : Shape := ⟨2, ![256, 64]⟩
abbrev S1 : Shape := ⟨1, ![1]⟩
abbrev S1x1 : Shape := ⟨2, ![1, 1]⟩
abbrev S1x12 : Shape := ⟨2, ![1, 12]⟩

abbrev nBuf : Space → Nat
  | .hbm => 277
  | .vmem => 23
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S64, .f32⟩
  | 4 => ⟨S64, .f32⟩
  | 5 => ⟨S12, .f32⟩
  | 6 => ⟨S4096x768, .f32⟩
  | 7 => ⟨S4096x12x64, .f32⟩
  | 8 => ⟨S4096x12x64, .f32⟩
  | 9 => ⟨S_, .f32⟩
  | 10 => ⟨S4096x12, .f32⟩
  | 11 => ⟨S4096x12x1, .f32⟩
  | 12 => ⟨S_, .f32⟩
  | 13 => ⟨S4096x12x1, .f32⟩
  | 14 => ⟨S4096x12x1, .f32⟩
  | 15 => ⟨S_, .f32⟩
  | 16 => ⟨S4096x12x1, .f32⟩
  | 17 => ⟨S4096x12x1, .f32⟩
  | 18 => ⟨S4096x12x1, .f32⟩
  | 19 => ⟨S4096x12x64, .f32⟩
  | 20 => ⟨S4096x12x64, .f32⟩
  | 21 => ⟨S1x1x64, .f32⟩
  | 22 => ⟨S4096x12x64, .f32⟩
  | 23 => ⟨S4096x12x64, .f32⟩
  | 24 => ⟨S4096x256, .f32⟩
  | 25 => ⟨S4096x4x64, .f32⟩
  | 26 => ⟨S4096x4x64, .f32⟩
  | 27 => ⟨S_, .f32⟩
  | 28 => ⟨S4096x4, .f32⟩
  | 29 => ⟨S4096x4x1, .f32⟩
  | 30 => ⟨S_, .f32⟩
  | 31 => ⟨S4096x4x1, .f32⟩
  | 32 => ⟨S4096x4x1, .f32⟩
  | 33 => ⟨S_, .f32⟩
  | 34 => ⟨S4096x4x1, .f32⟩
  | 35 => ⟨S4096x4x1, .f32⟩
  | 36 => ⟨S4096x4x1, .f32⟩
  | 37 => ⟨S4096x4x64, .f32⟩
  | 38 => ⟨S4096x4x64, .f32⟩
  | 39 => ⟨S1x1x64, .f32⟩
  | 40 => ⟨S4096x4x64, .f32⟩
  | 41 => ⟨S4096x4x64, .f32⟩
  | 42 => ⟨S32x128x4x3x64, .f32⟩
  | 43 => ⟨S32x128x4x64, .f32⟩
  | 44 => ⟨S_, .f32⟩
  | 45 => ⟨S1x128x4x64, .f32⟩
  | 46 => ⟨S31x128x4x64, .f32⟩
  | 47 => ⟨S32x128x4x64, .f32⟩
  | 48 => ⟨S32x256x4x64, .f32⟩
  | 49 => ⟨S32x4x256x128x3, .f32⟩
  | 50 => ⟨S32x4x3x128x256, .f32⟩
  | 51 => ⟨S_, .f32⟩
  | 52 => ⟨S32x4x3x128x256, .f32⟩
  | 53 => ⟨S32x4x3x128x256, .f32⟩
  | 54 => ⟨S32, .i32⟩
  | 55 => ⟨S32x1, .i32⟩
  | 56 => ⟨S_, .i32⟩
  | 57 => ⟨S32x1, .i32⟩
  | 58 => ⟨S32x1, .i32⟩
  | 59 => ⟨S128, .i32⟩
  | 60 => ⟨S1x128, .i32⟩
  | 61 => ⟨S32x128, .i32⟩
  | 62 => ⟨S32x128, .i32⟩
  | 63 => ⟨S32x128, .i32⟩
  | 64 => ⟨S_, .i32⟩
  | 65 => ⟨S32x1, .i32⟩
  | 66 => ⟨S32x1, .i32⟩
  | 67 => ⟨S256, .i32⟩
  | 68 => ⟨S1x256, .i32⟩
  | 69 => ⟨S32x256, .i32⟩
  | 70 => ⟨S32x256, .i32⟩
  | 71 => ⟨S32x256, .i32⟩
  | 72 => ⟨S32x128x1, .i32⟩
  | 73 => ⟨S32x1x256, .i32⟩
  | 74 => ⟨S32x128x256, .i32⟩
  | 75 => ⟨S32x128x256, .i32⟩
  | 76 => ⟨S32x128x256, .i32⟩
  | 77 => ⟨S_, .i32⟩
  | 78 => ⟨S32x128x256, .i32⟩
  | 79 => ⟨S32x128x256, .i1⟩
  | 80 => ⟨S_, .i32⟩
  | 81 => ⟨S32x128x256, .i32⟩
  | 82 => ⟨S32x128x256, .i1⟩
  | 83 => ⟨S32x128x256, .i1⟩
  | 84 => ⟨S32x1x256, .i32⟩
  | 85 => ⟨S_, .i32⟩
  | 86 => ⟨S32x1x256, .i32⟩
  | 87 => ⟨S32x1x256, .i1⟩
  | 88 => ⟨S32x128x256, .i1⟩
  | 89 => ⟨S32x128x256, .i1⟩
  | 90 => ⟨S12, .i32⟩
  | 91 => ⟨S_, .f32⟩
  | 92 => ⟨S12, .f32⟩
  | 93 => ⟨S_, .i32⟩
  | 94 => ⟨S12, .i32⟩
  | 95 => ⟨S12, .i1⟩
  | 96 => ⟨S_, .f32⟩
  | 97 => ⟨S12, .f32⟩
  | 98 => ⟨S12, .f32⟩
  | 99 => ⟨S_, .i32⟩
  | 100 => ⟨S12, .i32⟩
  | 101 => ⟨S12, .i1⟩
  | 102 => ⟨S_, .f32⟩
  | 103 => ⟨S12, .f32⟩
  | 104 => ⟨S12, .f32⟩
  | 105 => ⟨S_, .i32⟩
  | 106 => ⟨S12, .i32⟩
  | 107 => ⟨S12, .i1⟩
  | 108 => ⟨S_, .f32⟩
  | 109 => ⟨S12, .f32⟩
  | 110 => ⟨S12, .f32⟩
  | 111 => ⟨S_, .i32⟩
  | 112 => ⟨S12, .i32⟩
  | 113 => ⟨S12, .i1⟩
  | 114 => ⟨S_, .f32⟩
  | 115 => ⟨S12, .f32⟩
  | 116 => ⟨S12, .f32⟩
  | 117 => ⟨S_, .i32⟩
  | 118 => ⟨S12, .i32⟩
  | 119 => ⟨S12, .i1⟩
  | 120 => ⟨S_, .f32⟩
  | 121 => ⟨S12, .f32⟩
  | 122 => ⟨S12, .f32⟩
  | 123 => ⟨S_, .i32⟩
  | 124 => ⟨S12, .i32⟩
  | 125 => ⟨S12, .i1⟩
  | 126 => ⟨S_, .f32⟩
  | 127 => ⟨S12, .f32⟩
  | _ => ⟨S4096x1024, .f32⟩

abbrev hbmTy0_1 (i : Nat) : BufTy := match i % 128 with
  | 0 => ⟨S12, .f32⟩
  | 1 => ⟨S_, .i32⟩
  | 2 => ⟨S12, .i32⟩
  | 3 => ⟨S12, .i1⟩
  | 4 => ⟨S_, .f32⟩
  | 5 => ⟨S12, .f32⟩
  | 6 => ⟨S12, .f32⟩
  | 7 => ⟨S_, .i32⟩
  | 8 => ⟨S12, .i32⟩
  | 9 => ⟨S12, .i1⟩
  | 10 => ⟨S_, .f32⟩
  | 11 => ⟨S12, .f32⟩
  | 12 => ⟨S12, .f32⟩
  | 13 => ⟨S_, .i32⟩
  | 14 => ⟨S12, .i32⟩
  | 15 => ⟨S12, .i1⟩
  | 16 => ⟨S_, .f32⟩
  | 17 => ⟨S12, .f32⟩
  | 18 => ⟨S12, .f32⟩
  | 19 => ⟨S_, .i32⟩
  | 20 => ⟨S12, .i32⟩
  | 21 => ⟨S12, .i1⟩
  | 22 => ⟨S_, .f32⟩
  | 23 => ⟨S12, .f32⟩
  | 24 => ⟨S12, .f32⟩
  | 25 => ⟨S_, .i32⟩
  | 26 => ⟨S12, .i32⟩
  | 27 => ⟨S12, .i1⟩
  | 28 => ⟨S_, .f32⟩
  | 29 => ⟨S12, .f32⟩
  | 30 => ⟨S12, .f32⟩
  | 31 => ⟨S4x3, .f32⟩
  | 32 => ⟨S1x4x3x1x1, .f32⟩
  | 33 => ⟨S32x128x256, .f32⟩
  | 34 => ⟨S32x1x1x128x256, .f32⟩
  | 35 => ⟨S32x4x3x128x256, .f32⟩
  | 36 => ⟨S32x4x3x128x256, .f32⟩
  | 37 => ⟨S32x4x3x128x256, .f32⟩
  | 38 => ⟨S32x4x3x128x256, .f32⟩
  | 39 => ⟨S32x1x1x128x256, .i1⟩
  | 40 => ⟨S_, .f32⟩
  | 41 => ⟨S_, .f32⟩
  | 42 => ⟨S32x4x3x128x256, .i1⟩
  | 43 => ⟨S32x4x3x128x256, .f32⟩
  | 44 => ⟨S32x4x3x128x256, .f32⟩
  | 45 => ⟨S4x3, .f32⟩
  | 46 => ⟨S1x4x3x1x1, .f32⟩
  | 47 => ⟨S_, .f32⟩
  | 48 => ⟨S32x4x3x128, .f32⟩
  | 49 => ⟨S32x4x3x128x1, .f32⟩
  | 50 => ⟨S32x4x3x128x1, .f32⟩
  | 51 => ⟨S32x4x3x128x1, .f32⟩
  | 52 => ⟨S32x4x3x128x256, .f32⟩
  | 53 => ⟨S32x4x3x128x256, .f32⟩
  | 54 => ⟨S32x4x3x128x256, .f32⟩
  | 55 => ⟨S32x4x3x128x1, .f32⟩
  | 56 => ⟨S32x4x3x128x1, .f32⟩
  | 57 => ⟨S32x4x3x128x1, .f32⟩
  | 58 => ⟨S_, .f32⟩
  | 59 => ⟨S32x4x3x128, .f32⟩
  | 60 => ⟨S32x4x3x128x1, .f32⟩
  | 61 => ⟨S32x4x3x128x1, .f32⟩
  | 62 => ⟨S32x4x3x128x256, .f32⟩
  | 63 => ⟨S32x4x3x128x256, .f32⟩
  | 64 => ⟨S32x4x3x128x1, .f32⟩
  | 65 => ⟨S32x128x4x3x1, .f32⟩
  | 66 => ⟨S4096x12, .f32⟩
  | 67 => ⟨S32x4x384x256, .f32⟩
  | 68 => ⟨S32x4x384x256, .bf16⟩
  | 69 => ⟨S_, .i32⟩
  | 70 => ⟨S_, .f32⟩
  | 71 => ⟨S4096x128, .f32⟩
  | 72 => ⟨S1x64, .f32⟩
  | 73 => ⟨S4096x64, .f32⟩
  | 74 => ⟨S4096x64, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x64, .f32⟩
  | 86 => ⟨S4096x64, .f32⟩
  | 87 => ⟨S4096x64, .f32⟩
  | 88 => ⟨S4096x64, .f32⟩
  | 89 => ⟨S4096x64, .f32⟩
  | 90 => ⟨S4096x64, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096x1, .f32⟩
  | 99 => ⟨S4096x1, .f32⟩
  | 100 => ⟨S4096x1, .f32⟩
  | 101 => ⟨S4096x64, .f32⟩
  | 102 => ⟨S4096x64, .f32⟩
  | 103 => ⟨S4096x64, .f32⟩
  | 104 => ⟨S4096x64, .f32⟩
  | 105 => ⟨S4096x64, .f32⟩
  | 106 => ⟨S4096x64, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096x1, .f32⟩
  | 115 => ⟨S4096x1, .f32⟩
  | 116 => ⟨S4096x1, .f32⟩
  | 117 => ⟨S4096x64, .f32⟩
  | 118 => ⟨S4096x64, .f32⟩
  | 119 => ⟨S4096x64, .f32⟩
  | 120 => ⟨S4096x64, .f32⟩
  | 121 => ⟨S4096x64, .f32⟩
  | 122 => ⟨S4096x64, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x1024, .f32⟩

abbrev hbmTy0_2 (i : Nat) : BufTy := match i % 128 with
  | 0 => ⟨S4096x1, .f32⟩
  | 1 => ⟨S_, .f32⟩
  | 2 => ⟨S4096x1, .f32⟩
  | 3 => ⟨S4096x1, .f32⟩
  | 4 => ⟨S4096x1, .f32⟩
  | 5 => ⟨S4096x64, .f32⟩
  | 6 => ⟨S4096x64, .f32⟩
  | 7 => ⟨S4096x64, .f32⟩
  | 8 => ⟨S4096x64, .f32⟩
  | 9 => ⟨S4096x256, .f32⟩
  | 10 => ⟨S4096x256, .bf16⟩
  | 11 => ⟨S4096x256, .f32⟩
  | 12 => ⟨S4096x256, .bf16⟩
  | 13 => ⟨S1x64, .f32⟩
  | 14 => ⟨S4096x1024, .bf16⟩
  | 15 => ⟨S4096x256, .f32⟩
  | 16 => ⟨S4096x256, .f32⟩
  | 17 => ⟨S1x64, .f32⟩
  | 18 => ⟨S1x128, .f32⟩
  | 19 => ⟨S4096x768, .bf16⟩
  | 20 => ⟨S1x12, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S1x64, .f32⟩
  | .local _ .vmem, ⟨13, _⟩ => ⟨S1x4x384x256, .bf16⟩
  | .local _ .vmem, ⟨14, _⟩ => ⟨S1x4x384x256, .bf16⟩
  | .local _ .vmem, ⟨15, _⟩ => ⟨S128x128, .f32⟩
  | .local _ .vmem, ⟨16, _⟩ => ⟨S128x128, .f32⟩
  | .local _ .vmem, ⟨17, _⟩ => ⟨S128x768, .bf16⟩
  | .local _ .vmem, ⟨18, _⟩ => ⟨S128x768, .bf16⟩
  | .local _ .vmem, ⟨19, _⟩ => ⟨S4096x256, .f32⟩
  | .local _ .vmem, ⟨20, _⟩ => ⟨S4096x256, .f32⟩
  | .local _ .vmem, ⟨21, _⟩ => ⟨S1x64, .f32⟩
  | .local _ .vmem, ⟨22, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_8 : Ref sig .tc := ⟨.hbm, 77, rfl⟩
abbrev main_v61 : Ref sig .tc := ⟨.hbm, 78, rfl⟩
abbrev main_v62 : Ref sig .tc := ⟨.hbm, 79, rfl⟩
abbrev main_c_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_c_12 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_v75 : Ref sig .tc := ⟨.hbm, 97, rfl⟩
abbrev main_v76 : Ref sig .tc := ⟨.hbm, 98, rfl⟩
abbrev main_c_14 : Ref sig .tc := ⟨.hbm, 99, rfl⟩
abbrev main_v77 : Ref sig .tc := ⟨.hbm, 100, rfl⟩
abbrev main_v78 : Ref sig .tc := ⟨.hbm, 101, rfl⟩
abbrev main_cst_15 : Ref sig .tc := ⟨.hbm, 102, rfl⟩
abbrev main_v79 : Ref sig .tc := ⟨.hbm, 103, rfl⟩
abbrev main_v80 : Ref sig .tc := ⟨.hbm, 104, rfl⟩
abbrev main_c_16 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_c_18 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_v87 : Ref sig .tc := ⟨.hbm, 115, rfl⟩
abbrev main_v88 : Ref sig .tc := ⟨.hbm, 116, rfl⟩
abbrev main_c_20 : Ref sig .tc := ⟨.hbm, 117, rfl⟩
abbrev main_v89 : Ref sig .tc := ⟨.hbm, 118, rfl⟩
abbrev main_v90 : Ref sig .tc := ⟨.hbm, 119, rfl⟩
abbrev main_cst_21 : Ref sig .tc := ⟨.hbm, 120, rfl⟩
abbrev main_v91 : Ref sig .tc := ⟨.hbm, 121, rfl⟩
abbrev main_v92 : Ref sig .tc := ⟨.hbm, 122, rfl⟩
abbrev main_c_22 : Ref sig .tc := ⟨.hbm, 123, rfl⟩
abbrev main_v93 : Ref sig .tc := ⟨.hbm, 124, rfl⟩
abbrev main_v94 : Ref sig .tc := ⟨.hbm, 125, rfl⟩
abbrev main_cst_23 : Ref sig .tc := ⟨.hbm, 126, rfl⟩
abbrev main_v95 : Ref sig .tc := ⟨.hbm, 127, rfl⟩
abbrev main_v96 : Ref sig .tc := ⟨.hbm, 128, rfl⟩
abbrev main_c_24 : Ref sig .tc := ⟨.hbm, 129, rfl⟩
abbrev main_v97 : Ref sig .tc := ⟨.hbm, 130, rfl⟩
abbrev main_v98 : Ref sig .tc := ⟨.hbm, 131, rfl⟩
abbrev main_cst_25 : Ref sig .tc := ⟨.hbm, 132, rfl⟩
abbrev main_v99 : Ref sig .tc := ⟨.hbm, 133, rfl⟩
abbrev main_v100 : Ref sig .tc := ⟨.hbm, 134, rfl⟩
abbrev main_c_26 : Ref sig .tc := ⟨.hbm, 135, rfl⟩
abbrev main_v101 : Ref sig .tc := ⟨.hbm, 136, rfl⟩
abbrev main_v102 : Ref sig .tc := ⟨.hbm, 137, rfl⟩
abbrev main_cst_27 : Ref sig .tc := ⟨.hbm, 138, rfl⟩
abbrev main_v103 : Ref sig .tc := ⟨.hbm, 139, rfl⟩
abbrev main_v104 : Ref sig .tc := ⟨.hbm, 140, rfl⟩
abbrev main_c_28 : Ref sig .tc := ⟨.hbm, 141, rfl⟩
abbrev main_v105 : Ref sig .tc := ⟨.hbm, 142, rfl⟩
abbrev main_v106 : Ref sig .tc := ⟨.hbm, 143, rfl⟩
abbrev main_cst_29 : Ref sig .tc := ⟨.hbm, 144, rfl⟩
abbrev main_v107 : Ref sig .tc := ⟨.hbm, 145, rfl⟩
abbrev main_v108 : Ref sig .tc := ⟨.hbm, 146, rfl⟩
abbrev main_c_30 : Ref sig .tc := ⟨.hbm, 147, rfl⟩
abbrev main_v109 : Ref sig .tc := ⟨.hbm, 148, rfl⟩
abbrev main_v110 : Ref sig .tc := ⟨.hbm, 149, rfl⟩
abbrev main_cst_31 : Ref sig .tc := ⟨.hbm, 150, rfl⟩
abbrev main_v111 : Ref sig .tc := ⟨.hbm, 151, rfl⟩
abbrev main_v112 : Ref sig .tc := ⟨.hbm, 152, rfl⟩
abbrev main_c_32 : Ref sig .tc := ⟨.hbm, 153, rfl⟩
abbrev main_v113 : Ref sig .tc := ⟨.hbm, 154, rfl⟩
abbrev main_v114 : Ref sig .tc := ⟨.hbm, 155, rfl⟩
abbrev main_cst_33 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_34 : Ref sig .tc := ⟨.hbm, 168, rfl⟩
abbrev main_call0_v0 : Ref sig .tc := ⟨.hbm, 169, rfl⟩
abbrev main_call0_v1 : Ref sig .tc := ⟨.hbm, 170, rfl⟩
abbrev main_call0_v2 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_35 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_36 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_37 : Ref sig .tc := ⟨.hbm, 197, rfl⟩
abbrev main_call1_v0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_38 : Ref sig .tc := ⟨.hbm, 203, rfl⟩
abbrev main_v153 : Ref sig .tc := ⟨.hbm, 204, rfl⟩
abbrev main_v154 : Ref sig .tc := ⟨.hbm, 205, rfl⟩
abbrev main_cst_39 : Ref sig .tc := ⟨.hbm, 206, rfl⟩
abbrev main_v155 : Ref sig .tc := ⟨.hbm, 207, rfl⟩
abbrev main_v156 : Ref sig .tc := ⟨.hbm, 208, rfl⟩
abbrev main_cst_40 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_41 : Ref sig .tc := ⟨.hbm, 219, rfl⟩
abbrev main_v166 : Ref sig .tc := ⟨.hbm, 220, rfl⟩
abbrev main_v167 : Ref sig .tc := ⟨.hbm, 221, rfl⟩
abbrev main_cst_42 : Ref sig .tc := ⟨.hbm, 222, rfl⟩
abbrev main_v168 : Ref sig .tc := ⟨.hbm, 223, rfl⟩
abbrev main_v169 : Ref sig .tc := ⟨.hbm, 224, rfl⟩
abbrev main_cst_43 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_44 : Ref sig .tc := ⟨.hbm, 235, rfl⟩
abbrev main_v179 : Ref sig .tc := ⟨.hbm, 236, rfl⟩
abbrev main_v180 : Ref sig .tc := ⟨.hbm, 237, rfl⟩
abbrev main_cst_45 : Ref sig .tc := ⟨.hbm, 238, rfl⟩
abbrev main_v181 : Ref sig .tc := ⟨.hbm, 239, rfl⟩
abbrev main_v182 : Ref sig .tc := ⟨.hbm, 240, rfl⟩
abbrev main_cst_46 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_cst_47 : Ref sig .tc := ⟨.hbm, 251, rfl⟩
abbrev main_v192 : Ref sig .tc := ⟨.hbm, 252, rfl⟩
abbrev main_v193 : Ref sig .tc := ⟨.hbm, 253, rfl⟩
abbrev main_cst_48 : Ref sig .tc := ⟨.hbm, 254, rfl⟩
abbrev main_v194 : Ref sig .tc := ⟨.hbm, 255, rfl⟩
abbrev main_v195 : Ref sig .tc := ⟨.hbm, 256, rfl⟩
abbrev main_cst_49 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208_0 : Ref sig .tc := ⟨.hbm, 270, rfl⟩
abbrev main_v208_1 : Ref sig .tc := ⟨.hbm, 271, rfl⟩
abbrev main_v208_2 : Ref sig .tc := ⟨.hbm, 272, rfl⟩
abbrev main_v208_3 : Ref sig .tc := ⟨.hbm, 273, rfl⟩
abbrev main_v208_4 : Ref sig .tc := ⟨.hbm, 274, rfl⟩
abbrev main_v209 : Ref sig .tc := ⟨.hbm, 275, rfl⟩
abbrev main_v210 : Ref sig .tc := ⟨.hbm, 276, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c1_i32_119 : BitVec 32 := 1#32
  let v430 : BitVec 32 := Scalar.subi arg0 c1_i32_119
  let c0_i32_120 : BitVec 32 := 0#32
  let v431 : BitVec 32 := Scalar.maxsi v430 c0_i32_120
  let c128_i32 : BitVec 32 := 128#32
  let v432 : BitVec 32 := Scalar.muli v431 c128_i32
  v432
def k0_mult2 (i : grid0.Coords) : BitVec 32 :=
  let arg0 : BitVec 32 := BitVec.ofNat 32 (i 0).val
  let c128_i32_121 : BitVec 32 := 128#32
  let v434 : BitVec 32 := Scalar.muli arg0 c128_i32_121
  v434
def k0_off1 (i : grid0.Coords) : Fin 2 → Nat :=
  let arg0 : BitVec 32 := BitVec.ofNat 32 (i 0).val
  let c1_i32_119 : BitVec 32 := 1#32
  let v430 : BitVec 32 := Scalar.subi arg0 c1_i32_119
  let c0_i32_120 : BitVec 32 := 0#32
  let v431 : BitVec 32 := Scalar.maxsi v430 c0_i32_120
  let c128_i32 : BitVec 32 := 128#32
  let v432 : BitVec 32 := Scalar.muli v431 c128_i32
  let v433 : BitVec 32 := v432
  let v436 : Index := Scalar.indexCast v433
  let c0_122 : Index := 0#32
  ![v436.toNat, 0]
def k0_off2 (i : grid0.Coords) : Fin 2 → Nat :=
  let arg0 : BitVec 32 := BitVec.ofNat 32 (i 0).val
  let c128_i32_121 : BitVec 32 := 128#32
  let v434 : BitVec 32 := Scalar.muli arg0 c128_i32_121
  let v435 : BitVec 32 := v434
  let v443 : Index := Scalar.indexCast v435
  let c0_124 : Index := 0#32
  ![v443.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x384x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4096x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference8Ideal.lean ====
abbrev S4096x1024 : Shape := ⟨2, ![4096, 1024]⟩
abbrev S4096x512 : Shape := ⟨2, ![4096, 512]⟩
abbrev S64 : Shape := ⟨1, ![64]⟩
abbrev S12 : Shape := ⟨1, ![12]⟩
abbrev S4096x256 : Shape := ⟨2, ![4096, 256]⟩
abbrev S4096x4x64 : Shape := ⟨3, ![4096, 4, 64]⟩
abbrev S_ : Shape := ⟨0, ![]⟩
abbrev S4096x4 : Shape := ⟨2, ![4096, 4]⟩
abbrev S4096x4x1 : Shape := ⟨3, ![4096, 4, 1]⟩
abbrev S1x1x64 : Shape := ⟨3, ![1, 1, 64]⟩
abbrev S4096x768 : Shape := ⟨2, ![4096, 768]⟩
abbrev S4096x12x64 : Shape := ⟨3, ![4096, 12, 64]⟩
abbrev S4096x12 : Shape := ⟨2, ![4096, 12]⟩
abbrev S4096x12x1 : Shape := ⟨3, ![4096, 12, 1]⟩
abbrev S32x128x4x3x64 : Shape := ⟨5, ![32, 128, 4, 3, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x3 : Shape := ⟨5, ![32, 4, 256, 128, 3]⟩
abbrev S32x4x3x128x256 : Shape := ⟨5, ![32, 4, 3, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S4x3 : Shape := ⟨2, ![4, 3]⟩
abbrev S1x4x3x1x1 : Shape := ⟨5, ![1, 4, 3, 1, 1]⟩
abbrev S32x1x1x128x256 : Shape := ⟨5, ![32, 1, 1, 128, 256]⟩
abbrev S32x4x3x128 : Shape := ⟨4, ![32, 4, 3, 128]⟩
abbrev S32x4x3x128x1 : Shape := ⟨5, ![32, 4, 3, 128, 1]⟩
abbrev S32x4x64x3x128 : Shape := ⟨5, ![32, 4, 64, 3, 128]⟩
abbrev S32x4x64x256 : Shape := ⟨4, ![32, 4, 64, 256]⟩
abbrev S4x3x1 : Shape := ⟨3, ![4, 3, 1]⟩
abbrev S32x4x128x3x64 : Shape := ⟨5, ![32, 4, 128, 3, 64]⟩
abbrev S32x4x256x64 : Shape := ⟨4, ![32, 4, 256, 64]⟩
abbrev S1x64 : Shape := ⟨2, ![1, 64]⟩
abbrev S1x12 : Shape := ⟨2, ![1, 12]⟩

abbrev nBuf : Space → Nat
  | .hbm => 356
  | .vmem => 0
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S64, .f32⟩
  | 4 => ⟨S64, .f32⟩
  | 5 => ⟨S12, .f32⟩
  | 6 => ⟨S4096x256, .f32⟩
  | 7 => ⟨S4096x4x64, .f32⟩
  | 8 => ⟨S4096x4x64, .f32⟩
  | 9 => ⟨S_, .f32⟩
  | 10 => ⟨S4096x4, .f32⟩
  | 11 => ⟨S4096x4x1, .f32⟩
  | 12 => ⟨S_, .f32⟩
  | 13 => ⟨S4096x4x1, .f32⟩
  | 14 => ⟨S4096x4x1, .f32⟩
  | 15 => ⟨S_, .f32⟩
  | 16 => ⟨S4096x4x1, .f32⟩
  | 17 => ⟨S4096x4x1, .f32⟩
  | 18 => ⟨S4096x4x1, .f32⟩
  | 19 => ⟨S4096x4x64, .f32⟩
  | 20 => ⟨S4096x4x64, .f32⟩
  | 21 => ⟨S1x1x64, .f32⟩
  | 22 => ⟨S4096x4x64, .f32⟩
  | 23 => ⟨S4096x4x64, .f32⟩
  | 24 => ⟨S4096x256, .f32⟩
  | 25 => ⟨S4096x4x64, .f32⟩
  | 26 => ⟨S4096x768, .f32⟩
  | 27 => ⟨S4096x12x64, .f32⟩
  | 28 => ⟨S4096x12x64, .f32⟩
  | 29 => ⟨S_, .f32⟩
  | 30 => ⟨S4096x12, .f32⟩
  | 31 => ⟨S4096x12x1, .f32⟩
  | 32 => ⟨S_, .f32⟩
  | 33 => ⟨S4096x12x1, .f32⟩
  | 34 => ⟨S4096x12x1, .f32⟩
  | 35 => ⟨S_, .f32⟩
  | 36 => ⟨S4096x12x1, .f32⟩
  | 37 => ⟨S4096x12x1, .f32⟩
  | 38 => ⟨S4096x12x1, .f32⟩
  | 39 => ⟨S4096x12x1, .f32⟩
  | 40 => ⟨S_, .f32⟩
  | 41 => ⟨S4096x12x1, .f32⟩
  | 42 => ⟨S4096x12x1, .f32⟩
  | 43 => ⟨S4096x12x64, .f32⟩
  | 44 => ⟨S4096x12x64, .f32⟩
  | 45 => ⟨S1x1x64, .f32⟩
  | 46 => ⟨S4096x12x64, .f32⟩
  | 47 => ⟨S4096x12x64, .f32⟩
  | 48 => ⟨S32x128x4x3x64, .f32⟩
  | 49 => ⟨S32x128x4x64, .f32⟩
  | 50 => ⟨S_, .f32⟩
  | 51 => ⟨S1x128x4x64, .f32⟩
  | 52 => ⟨S31x128x4x64, .f32⟩
  | 53 => ⟨S32x128x4x64, .f32⟩
  | 54 => ⟨S_, .f32⟩
  | 55 => ⟨S1x128x4x64, .f32⟩
  | 56 => ⟨S32x256x4x64, .f32⟩
  | 57 => ⟨S32x4x256x128x3, .f32⟩
  | 58 => ⟨S32x4x3x128x256, .f32⟩
  | 59 => ⟨S_, .f32⟩
  | 60 => ⟨S32x4x3x128x256, .f32⟩
  | 61 => ⟨S32x4x3x128x256, .f32⟩
  | 62 => ⟨S32, .i32⟩
  | 63 => ⟨S32x1, .i32⟩
  | 64 => ⟨S_, .i32⟩
  | 65 => ⟨S32x1, .i32⟩
  | 66 => ⟨S32x1, .i32⟩
  | 67 => ⟨S128, .i32⟩
  | 68 => ⟨S1x128, .i32⟩
  | 69 => ⟨S32x128, .i32⟩
  | 70 => ⟨S32x128, .i32⟩
  | 71 => ⟨S32x128, .i32⟩
  | 72 => ⟨S_, .i32⟩
  | 73 => ⟨S32x1, .i32⟩
  | 74 => ⟨S32x1, .i32⟩
  | 75 => ⟨S256, .i32⟩
  | 76 => ⟨S1x256, .i32⟩
  | 77 => ⟨S32x256, .i32⟩
  | 78 => ⟨S32x256, .i32⟩
  | 79 => ⟨S32x256, .i32⟩
  | 80 => ⟨S32x128x1, .i32⟩
  | 81 => ⟨S32x1x256, .i32⟩
  | 82 => ⟨S32x128x256, .i32⟩
  | 83 => ⟨S32x128x256, .i32⟩
  | 84 => ⟨S32x128x256, .i32⟩
  | 85 => ⟨S_, .i32⟩
  | 86 => ⟨S32x128x256, .i32⟩
  | 87 => ⟨S32x128x256, .i1⟩
  | 88 => ⟨S_, .i32⟩
  | 89 => ⟨S32x128x256, .i32⟩
  | 90 => ⟨S32x128x256, .i1⟩
  | 91 => ⟨S32x128x256, .i1⟩
  | 92 => ⟨S32x1x256, .i32⟩
  | 93 => ⟨S_, .i32⟩
  | 94 => ⟨S32x1x256, .i32⟩
  | 95 => ⟨S32x1x256, .i1⟩
  | 96 => ⟨S32x128x256, .i1⟩
  | 97 => ⟨S32x128x256, .i1⟩
  | 98 => ⟨S12, .i32⟩
  | 99 => ⟨S_, .f32⟩
  | 100 => ⟨S12, .f32⟩
  | 101 => ⟨S_, .i32⟩
  | 102 => ⟨S12, .i32⟩
  | 103 => ⟨S12, .i1⟩
  | 104 => ⟨S_, .f32⟩
  | 105 => ⟨S12, .f32⟩
  | 106 => ⟨S12, .f32⟩
  | 107 => ⟨S_, .i32⟩
  | 108 => ⟨S12, .i32⟩
  | 109 => ⟨S12, .i1⟩
  | 110 => ⟨S_, .f32⟩
  | 111 => ⟨S12, .f32⟩
  | 112 => ⟨S12, .f32⟩
  | 113 => ⟨S_, .i32⟩
  | 114 => ⟨S12, .i32⟩
  | 115 => ⟨S12, .i1⟩
  | 116 => ⟨S_, .f32⟩
  | 117 => ⟨S12, .f32⟩
  | 118 => ⟨S12, .f32⟩
  | 119 => ⟨S_, .i32⟩
  | 120 => ⟨S12, .i32⟩
  | 121 => ⟨S12, .i1⟩
  | 122 => ⟨S_, .f32⟩
  | 123 => ⟨S12, .f32⟩
  | 124 => ⟨S12, .f32⟩
  | 125 => ⟨S_, .i32⟩
  | 126 => ⟨S12, .i32⟩
  | 127 => ⟨S12, .i1⟩
  | _ => ⟨S4096x1024, .f32⟩

abbrev hbmTy0_1 (i : Nat) : BufTy := match i % 128 with
  | 0 => ⟨S_, .f32⟩
  | 1 => ⟨S12, .f32⟩
  | 2 => ⟨S12, .f32⟩
  | 3 => ⟨S_, .i32⟩
  | 4 => ⟨S12, .i32⟩
  | 5 => ⟨S12, .i1⟩
  | 6 => ⟨S_, .f32⟩
  | 7 => ⟨S12, .f32⟩
  | 8 => ⟨S12, .f32⟩
  | 9 => ⟨S_, .i32⟩
  | 10 => ⟨S12, .i32⟩
  | 11 => ⟨S12, .i1⟩
  | 12 => ⟨S_, .f32⟩
  | 13 => ⟨S12, .f32⟩
  | 14 => ⟨S12, .f32⟩
  | 15 => ⟨S_, .i32⟩
  | 16 => ⟨S12, .i32⟩
  | 17 => ⟨S12, .i1⟩
  | 18 => ⟨S_, .f32⟩
  | 19 => ⟨S12, .f32⟩
  | 20 => ⟨S12, .f32⟩
  | 21 => ⟨S_, .i32⟩
  | 22 => ⟨S12, .i32⟩
  | 23 => ⟨S12, .i1⟩
  | 24 => ⟨S_, .f32⟩
  | 25 => ⟨S12, .f32⟩
  | 26 => ⟨S12, .f32⟩
  | 27 => ⟨S_, .i32⟩
  | 28 => ⟨S12, .i32⟩
  | 29 => ⟨S12, .i1⟩
  | 30 => ⟨S_, .f32⟩
  | 31 => ⟨S12, .f32⟩
  | 32 => ⟨S12, .f32⟩
  | 33 => ⟨S_, .i32⟩
  | 34 => ⟨S12, .i32⟩
  | 35 => ⟨S12, .i1⟩
  | 36 => ⟨S_, .f32⟩
  | 37 => ⟨S12, .f32⟩
  | 38 => ⟨S12, .f32⟩
  | 39 => ⟨S4x3, .f32⟩
  | 40 => ⟨S1x4x3x1x1, .f32⟩
  | 41 => ⟨S32x128x256, .f32⟩
  | 42 => ⟨S32x1x1x128x256, .f32⟩
  | 43 => ⟨S32x4x3x128x256, .f32⟩
  | 44 => ⟨S32x4x3x128x256, .f32⟩
  | 45 => ⟨S32x4x3x128x256, .f32⟩
  | 46 => ⟨S32x4x3x128x256, .f32⟩
  | 47 => ⟨S32x1x1x128x256, .i1⟩
  | 48 => ⟨S_, .f32⟩
  | 49 => ⟨S_, .f32⟩
  | 50 => ⟨S32x4x3x128x256, .i1⟩
  | 51 => ⟨S32x4x3x128x256, .f32⟩
  | 52 => ⟨S32x4x3x128x256, .f32⟩
  | 53 => ⟨S_, .f32⟩
  | 54 => ⟨S32x4x3x128x256, .f32⟩
  | 55 => ⟨S4x3, .f32⟩
  | 56 => ⟨S1x4x3x1x1, .f32⟩
  | 57 => ⟨S_, .f32⟩
  | 58 => ⟨S32x4x3x128, .f32⟩
  | 59 => ⟨S32x4x3x128x1, .f32⟩
  | 60 => ⟨S32x4x3x128x256, .f32⟩
  | 61 => ⟨S32x4x3x128x256, .i1⟩
  | 62 => ⟨S32x4x3x128x256, .f32⟩
  | 63 => ⟨S_, .f32⟩
  | 64 => ⟨S32x4x3x128, .f32⟩
  | 65 => ⟨S32x4x3x128x1, .f32⟩
  | 66 => ⟨S32x4x3x128x1, .f32⟩
  | 67 => ⟨S32x4x3x128x1, .f32⟩
  | 68 => ⟨S32x4x3x128x1, .f32⟩
  | 69 => ⟨S32x4x3x128x1, .i1⟩
  | 70 => ⟨S32x4x3x128x1, .f32⟩
  | 71 => ⟨S32x4x3x128x1, .i1⟩
  | 72 => ⟨S_, .f32⟩
  | 73 => ⟨S32x4x3x128x1, .f32⟩
  | 74 => ⟨S_, .f32⟩
  | 75 => ⟨S32x4x3x128x1, .f32⟩
  | 76 => ⟨S_, .f32⟩
  | 77 => ⟨S32x4x3x128x1, .f32⟩
  | 78 => ⟨S32x4x3x128x1, .f32⟩
  | 79 => ⟨S32x4x3x128x1, .f32⟩
  | 80 => ⟨S32x4x3x128x1, .f32⟩
  | 81 => ⟨S32x4x3x128x1, .i1⟩
  | 82 => ⟨S32x4x3x128x1, .f32⟩
  | 83 => ⟨S32x4x3x128x1, .i1⟩
  | 84 => ⟨S_, .f32⟩
  | 85 => ⟨S32x4x3x128x1, .f32⟩
  | 86 => ⟨S_, .f32⟩
  | 87 => ⟨S32x4x3x128x1, .f32⟩
  | 88 => ⟨S_, .f32⟩
  | 89 => ⟨S32x4x3x128x1, .f32⟩
  | 90 => ⟨S32x4x3x128x1, .f32⟩
  | 91 => ⟨S32x4x3x128x1, .f32⟩
  | 92 => ⟨S32x4x3x128x256, .f32⟩
  | 93 => ⟨S32x4x3x128x256, .f32⟩
  | 94 => ⟨S32x4x3x128x256, .f32⟩
  | 95 => ⟨S32x4x3x128x1, .f32⟩
  | 96 => ⟨S32x4x3x128x1, .f32⟩
  | 97 => ⟨S32x4x3x128x1, .f32⟩
  | 98 => ⟨S_, .f32⟩
  | 99 => ⟨S32x4x3x128, .f32⟩
  | 100 => ⟨S32x4x3x128x1, .f32⟩
  | 101 => ⟨S32x4x3x128x1, .f32⟩
  | 102 => ⟨S32x4x3x128x256, .f32⟩
  | 103 => ⟨S32x4x3x128x256, .f32⟩
  | 104 => ⟨S32x4x3x128x1, .f32⟩
  | 105 => ⟨S_, .f32⟩
  | 106 => ⟨S32x4x3x128x1, .f32⟩
  | 107 => ⟨S32x4x3x128x1, .f32⟩
  | 108 => ⟨S32x4x3x128x1, .f32⟩
  | 109 => ⟨S32x4x3x128x1, .f32⟩
  | 110 => ⟨S_, .f32⟩
  | 111 => ⟨S32x4x3x128x1, .f32⟩
  | 112 => ⟨S32x4x3x128x1, .f32⟩
  | 113 => ⟨S32x128x4x64, .f32⟩
  | 114 => ⟨S_, .f32⟩
  | 115 => ⟨S1x128x4x64, .f32⟩
  | 116 => ⟨S31x128x4x64, .f32⟩
  | 117 => ⟨S32x128x4x64, .f32⟩
  | 118 => ⟨S_, .f32⟩
  | 119 => ⟨S1x128x4x64, .f32⟩
  | 120 => ⟨S32x256x4x64, .f32⟩
  | 121 => ⟨S32x4x64x3x128, .f32⟩
  | 122 => ⟨S32x128x4x3x64, .f32⟩
  | 123 => ⟨S4096x768, .f32⟩
  | 124 => ⟨S4096x768, .f32⟩
  | 125 => ⟨S32x128x4x3x64, .f32⟩
  | 126 => ⟨S32x4x64x3x128, .f32⟩
  | 127 => ⟨S32x4x3x128x256, .f32⟩
  | _ => ⟨S4096x1024, .f32⟩

abbrev hbmTy0_2 (i : Nat) : BufTy := match i % 128 with
  | 0 => ⟨S32x4x64x256, .f32⟩
  | 1 => ⟨S32x256x4x64, .f32⟩
  | 2 => ⟨S32x128x4x64, .f32⟩
  | 3 => ⟨S32x128x4x64, .f32⟩
  | 4 => ⟨S1x128x4x64, .f32⟩
  | 5 => ⟨S31x128x4x64, .f32⟩
  | 6 => ⟨S_, .f32⟩
  | 7 => ⟨S32x128x4x64, .f32⟩
  | 8 => ⟨S32x128x4x64, .f32⟩
  | 9 => ⟨S4096x4x64, .f32⟩
  | 10 => ⟨S32x4x3x128x256, .f32⟩
  | 11 => ⟨S32x4x3x128x256, .f32⟩
  | 12 => ⟨S32x4x3x128x256, .f32⟩
  | 13 => ⟨S_, .f32⟩
  | 14 => ⟨S32x4x3x128, .f32⟩
  | 15 => ⟨S32x4x3x128x1, .f32⟩
  | 16 => ⟨S32x4x3x128x1, .f32⟩
  | 17 => ⟨S32x4x3x128x256, .f32⟩
  | 18 => ⟨S32x4x3x128x256, .f32⟩
  | 19 => ⟨S_, .f32⟩
  | 20 => ⟨S32x4x3x128, .f32⟩
  | 21 => ⟨S32x4x3x128x256, .f32⟩
  | 22 => ⟨S32x4x3x128x256, .f32⟩
  | 23 => ⟨S32x4x3x128x1, .f32⟩
  | 24 => ⟨S_, .f32⟩
  | 25 => ⟨S4x3x1, .f32⟩
  | 26 => ⟨S1x4x3x1x1, .f32⟩
  | 27 => ⟨S32x4x3x128x1, .f32⟩
  | 28 => ⟨S32x4x3x128x256, .f32⟩
  | 29 => ⟨S32x4x3x128x256, .f32⟩
  | 30 => ⟨S_, .f32⟩
  | 31 => ⟨S32x4x3x128, .f32⟩
  | 32 => ⟨S32x4x3x128x1, .f32⟩
  | 33 => ⟨S32x4x3x128x1, .f32⟩
  | 34 => ⟨S32x4x3x128x1, .f32⟩
  | 35 => ⟨S_, .f32⟩
  | 36 => ⟨S4x3x1, .f32⟩
  | 37 => ⟨S1x4x3x1x1, .f32⟩
  | 38 => ⟨S1x4x3x1x1, .f32⟩
  | 39 => ⟨S32x4x3x128x1, .f32⟩
  | 40 => ⟨S_, .f32⟩
  | 41 => ⟨S32x4x3x128, .f32⟩
  | 42 => ⟨S32x4x3x128, .f32⟩
  | 43 => ⟨S32x4x3x128x256, .f32⟩
  | 44 => ⟨S32x4x3x128x256, .f32⟩
  | 45 => ⟨S32x4x3x128x256, .f32⟩
  | 46 => ⟨S_, .f32⟩
  | 47 => ⟨S4x3, .f32⟩
  | 48 => ⟨S12, .f32⟩
  | 49 => ⟨S_, .f32⟩
  | 50 => ⟨S32x4x3x128x256, .f32⟩
  | 51 => ⟨S32x4x3x128x256, .f32⟩
  | 52 => ⟨S_, .f32⟩
  | 53 => ⟨S32x4x3x128x256, .f32⟩
  | 54 => ⟨S32x4x3x128x256, .f32⟩
  | 55 => ⟨S32x4x256x128x3, .f32⟩
  | 56 => ⟨S32x4x128x3x64, .f32⟩
  | 57 => ⟨S32x128x4x3x64, .f32⟩
  | 58 => ⟨S32x4x256x64, .f32⟩
  | 59 => ⟨S32x256x4x64, .f32⟩
  | 60 => ⟨S32x128x4x64, .f32⟩
  | 61 => ⟨S32x128x4x64, .f32⟩
  | 62 => ⟨S1x128x4x64, .f32⟩
  | 63 => ⟨S31x128x4x64, .f32⟩
  | 64 => ⟨S_, .f32⟩
  | 65 => ⟨S32x128x4x64, .f32⟩
  | 66 => ⟨S32x128x4x64, .f32⟩
  | 67 => ⟨S4096x4x64, .f32⟩
  | 68 => ⟨S4096x12x64, .f32⟩
  | 69 => ⟨S4096x12x64, .f32⟩
  | 70 => ⟨S_, .f32⟩
  | 71 => ⟨S64, .f32⟩
  | 72 => ⟨S1x1x64, .f32⟩
  | 73 => ⟨S4096x12x64, .f32⟩
  | 74 => ⟨S4096x12x64, .f32⟩
  | 75 => ⟨S_, .f32⟩
  | 76 => ⟨S64, .f32⟩
  | 77 => ⟨S4096x12x64, .f32⟩
  | 78 => ⟨S_, .f32⟩
  | 79 => ⟨S4096x12, .f32⟩
  | 80 => ⟨S4096x12x1, .f32⟩
  | 81 => ⟨S4096x12x64, .f32⟩
  | 82 => ⟨S4096x12x64, .f32⟩
  | 83 => ⟨S4096x12x1, .f32⟩
  | 84 => ⟨S_, .f32⟩
  | 85 => ⟨S4096x12x1, .f32⟩
  | 86 => ⟨S4096x12x1, .f32⟩
  | 87 => ⟨S_, .f32⟩
  | 88 => ⟨S4096x12, .f32⟩
  | 89 => ⟨S4096x12x64, .f32⟩
  | 90 => ⟨S4096x12x64, .f32⟩
  | 91 => ⟨S4096x12x64, .f32⟩
  | 92 => ⟨S4096x12x64, .f32⟩
  | 93 => ⟨S4096x12x64, .f32⟩
  | 94 => ⟨S4096x768, .f32⟩
  | 95 => ⟨S4096x768, .bf16⟩
  | 96 => ⟨S4096x256, .f32⟩
  | 97 => ⟨S4096x256, .f32⟩
  | 98 => ⟨S1x64, .f32⟩
  | 99 => ⟨S1x12, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_10 : Ref sig .tc := ⟨.hbm, 85, rfl⟩
abbrev main_v67 : Ref sig .tc := ⟨.hbm, 86, rfl⟩
abbrev main_v68 : Ref sig .tc := ⟨.hbm, 87, rfl⟩
abbrev main_c_11 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_c_14 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_v82 : Ref sig .tc := ⟨.hbm, 106, rfl⟩
abbrev main_c_16 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_c_18 : Ref sig .tc := ⟨.hbm, 113, rfl⟩
abbrev main_v87 : Ref sig .tc := ⟨.hbm, 114, rfl⟩
abbrev main_v88 : Ref sig .tc := ⟨.hbm, 115, rfl⟩
abbrev main_cst_19 : Ref sig .tc := ⟨.hbm, 116, rfl⟩
abbrev main_v89 : Ref sig .tc := ⟨.hbm, 117, rfl⟩
abbrev main_v90 : Ref sig .tc := ⟨.hbm, 118, rfl⟩
abbrev main_c_20 : Ref sig .tc := ⟨.hbm, 119, rfl⟩
abbrev main_v91 : Ref sig .tc := ⟨.hbm, 120, rfl⟩
abbrev main_v92 : Ref sig .tc := ⟨.hbm, 121, rfl⟩
abbrev main_cst_21 : Ref sig .tc := ⟨.hbm, 122, rfl⟩
abbrev main_v93 : Ref sig .tc := ⟨.hbm, 123, rfl⟩
abbrev main_v94 : Ref sig .tc := ⟨.hbm, 124, rfl⟩
abbrev main_c_22 : Ref sig .tc := ⟨.hbm, 125, rfl⟩
abbrev main_v95 : Ref sig .tc := ⟨.hbm, 126, rfl⟩
abbrev main_v96 : Ref sig .tc := ⟨.hbm, 127, rfl⟩
abbrev main_cst_23 : Ref sig .tc := ⟨.hbm, 128, rfl⟩
abbrev main_v97 : Ref sig .tc := ⟨.hbm, 129, rfl⟩
abbrev main_v98 : Ref sig .tc := ⟨.hbm, 130, rfl⟩
abbrev main_c_24 : Ref sig .tc := ⟨.hbm, 131, rfl⟩
abbrev main_v99 : Ref sig .tc := ⟨.hbm, 132, rfl⟩
abbrev main_v100 : Ref sig .tc := ⟨.hbm, 133, rfl⟩
abbrev main_cst_25 : Ref sig .tc := ⟨.hbm, 134, rfl⟩
abbrev main_v101 : Ref sig .tc := ⟨.hbm, 135, rfl⟩
abbrev main_v102 : Ref sig .tc := ⟨.hbm, 136, rfl⟩
abbrev main_c_26 : Ref sig .tc := ⟨.hbm, 137, rfl⟩
abbrev main_v103 : Ref sig .tc := ⟨.hbm, 138, rfl⟩
abbrev main_v104 : Ref sig .tc := ⟨.hbm, 139, rfl⟩
abbrev main_cst_27 : Ref sig .tc := ⟨.hbm, 140, rfl⟩
abbrev main_v105 : Ref sig .tc := ⟨.hbm, 141, rfl⟩
abbrev main_v106 : Ref sig .tc := ⟨.hbm, 142, rfl⟩
abbrev main_c_28 : Ref sig .tc := ⟨.hbm, 143, rfl⟩
abbrev main_v107 : Ref sig .tc := ⟨.hbm, 144, rfl⟩
abbrev main_v108 : Ref sig .tc := ⟨.hbm, 145, rfl⟩
abbrev main_cst_29 : Ref sig .tc := ⟨.hbm, 146, rfl⟩
abbrev main_v109 : Ref sig .tc := ⟨.hbm, 147, rfl⟩
abbrev main_v110 : Ref sig .tc := ⟨.hbm, 148, rfl⟩
abbrev main_c_30 : Ref sig .tc := ⟨.hbm, 149, rfl⟩
abbrev main_v111 : Ref sig .tc := ⟨.hbm, 150, rfl⟩
abbrev main_v112 : Ref sig .tc := ⟨.hbm, 151, rfl⟩
abbrev main_cst_31 : Ref sig .tc := ⟨.hbm, 152, rfl⟩
abbrev main_v113 : Ref sig .tc := ⟨.hbm, 153, rfl⟩
abbrev main_v114 : Ref sig .tc := ⟨.hbm, 154, rfl⟩
abbrev main_c_32 : Ref sig .tc := ⟨.hbm, 155, rfl⟩
abbrev main_v115 : Ref sig .tc := ⟨.hbm, 156, rfl⟩
abbrev main_v116 : Ref sig .tc := ⟨.hbm, 157, rfl⟩
abbrev main_cst_33 : Ref sig .tc := ⟨.hbm, 158, rfl⟩
abbrev main_v117 : Ref sig .tc := ⟨.hbm, 159, rfl⟩
abbrev main_v118 : Ref sig .tc := ⟨.hbm, 160, rfl⟩
abbrev main_c_34 : Ref sig .tc := ⟨.hbm, 161, rfl⟩
abbrev main_v119 : Ref sig .tc := ⟨.hbm, 162, rfl⟩
abbrev main_v120 : Ref sig .tc := ⟨.hbm, 163, rfl⟩
abbrev main_cst_35 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_36 : Ref sig .tc := ⟨.hbm, 176, rfl⟩
abbrev main_call0_v0 : Ref sig .tc := ⟨.hbm, 177, rfl⟩
abbrev main_v132_1 : Ref sig .tc := ⟨.hbm, 178, rfl⟩
abbrev main_call0_v2 : Ref sig .tc := ⟨.hbm, 179, rfl⟩
abbrev main_v132_0 : Ref sig .tc := ⟨.hbm, 180, rfl⟩
abbrev main_call0_cst : Ref sig .tc := ⟨.hbm, 181, rfl⟩
abbrev main_v132_2 : Ref sig .tc := ⟨.hbm, 182, rfl⟩
abbrev main_v133 : Ref sig .tc := ⟨.hbm, 183, rfl⟩
abbrev main_v134 : Ref sig .tc := ⟨.hbm, 184, rfl⟩
abbrev main_cst_37 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_38 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_39 : Ref sig .tc := ⟨.hbm, 200, rfl⟩
abbrev main_v148 : Ref sig .tc := ⟨.hbm, 201, rfl⟩
abbrev main_cst_40 : Ref sig .tc := ⟨.hbm, 202, rfl⟩
abbrev main_v149 : Ref sig .tc := ⟨.hbm, 203, rfl⟩
abbrev main_cst_41 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_42 : Ref sig .tc := ⟨.hbm, 212, rfl⟩
abbrev main_v157 : Ref sig .tc := ⟨.hbm, 213, rfl⟩
abbrev main_cst_43 : Ref sig .tc := ⟨.hbm, 214, rfl⟩
abbrev main_v158 : Ref sig .tc := ⟨.hbm, 215, rfl⟩
abbrev main_cst_44 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_45 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_46 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_47 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_cst_48 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_cst_49 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_cst_50 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_cst_51 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_cst_52 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_cst_53 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_cst_54 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_cst_55 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_cst_56 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_cst_57 : Ref sig .tc := ⟨.hbm, 302, rfl⟩
abbrev main_v232 : Ref sig .tc := ⟨.hbm, 303, rfl⟩
abbrev main_v233 : Ref sig .tc := ⟨.hbm, 304, rfl⟩
abbrev main_call1_cst : Ref sig .tc := ⟨.hbm, 305, rfl⟩
abbrev main_call1_v0 : Ref sig .tc := ⟨.hbm, 306, rfl⟩
abbrev main_v234 : Ref sig .tc := ⟨.hbm, 307, rfl⟩
abbrev main_cst_58 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_cst_59 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_cst_60 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_cst_61 : Ref sig .tc := ⟨.hbm, 331, rfl⟩
abbrev main_v255 : Ref sig .tc := ⟨.hbm, 332, rfl⟩
abbrev main_v256 : Ref sig .tc := ⟨.hbm, 333, rfl⟩
abbrev main_cst_62 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_cst_63 : Ref sig .tc := ⟨.hbm, 340, rfl⟩
abbrev main_v262 : Ref sig .tc := ⟨.hbm, 341, rfl⟩
abbrev main_v263 : Ref sig .tc := ⟨.hbm, 342, rfl⟩
abbrev main_cst_64 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S1x1024 : Shape := ⟨2, ![1, 1024]⟩
abbrev S4096x4096 : Shape := ⟨2, ![4096, 4096]⟩
abbrev S1024x1 : Shape := ⟨2, ![1024, 1]⟩
abbrev S1x1024x1024 : Shape := ⟨3, ![1, 1024, 1024]⟩

abbrev nBuf : Space → Nat
  | .hbm => 16
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .f32⟩
  | .hbm, ⟨6, _⟩ => ⟨S4x1024x1024, .f32⟩
  | .hbm, ⟨7, _⟩ => ⟨S1024x4x1024, .f32⟩
  | .hbm, ⟨8, _⟩ => ⟨S4x1024x1024, .f32⟩
  | .hbm, ⟨9, _⟩ => ⟨S4x256x1024, .f32⟩
  | .hbm, ⟨10, _⟩ => ⟨S4x256x1024, .f32⟩
  | .hbm, ⟨11, _⟩ => ⟨S4x2560x1024, .f32⟩
  | .hbm, ⟨12, _⟩ => ⟨S4x2560x1024, .bf16⟩
  | .hbm, ⟨13, _⟩ => ⟨S1x1024, .f32⟩
  | .hbm, ⟨14, _⟩ => ⟨S4096x4096, .bf16⟩
  | .hbm, ⟨15, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x1024, .bf16⟩
  | .local _ .vmem, ⟨4, _⟩ => ⟨S1024x4096, .bf16⟩
  | .local _ .vmem, ⟨5, _⟩ => ⟨S1024x4096, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .bf16⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel10.lean ====
abbrev S4096x512 : Shape := ⟨2, ![4096, 512]⟩
abbrev S64 : Shape := ⟨1, ![64]⟩
abbrev S1x64 : Shape := ⟨2, ![1, 64]⟩
abbrev S4096x256 : Shape := ⟨2, ![4096, 256]⟩
abbrev S1024x512 : Shape := ⟨2, ![1024, 512]⟩
abbrev S1024x256 : Shape := ⟨2, ![1024, 256]⟩
abbrev S1024x64 : Shape := ⟨2, ![1024, 64]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S64, .f32⟩
  | .hbm, ⟨2, _⟩ => ⟨S1x64, .f32⟩
  | .hbm, ⟨3, _⟩ => ⟨S4096x256, .bf16⟩
  | .hbm, ⟨4, _⟩ => ⟨S4096x256, .bf16⟩
  | .local _ .vmem, ⟨0, _⟩ => ⟨S1024x512, .f32⟩
  | .local _ .vmem, ⟨1, _⟩ => ⟨S1024x512, .f32⟩
  | .local _ .vmem, ⟨2, _⟩ => ⟨S1x64, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S4096x512 : Shape := ⟨2, ![4096, 512]⟩
abbrev S64 : Shape := ⟨1, ![64]⟩
abbrev S4096x256 : Shape := ⟨2, ![4096, 256]⟩
abbrev S4096x4x64 : Shape := ⟨3, ![4096, 4, 64]⟩
abbrev S_ : Shape := ⟨0, ![]⟩
abbrev S4096x4 : Shape := ⟨2, ![4096, 4]⟩
abbrev S4096x4x1 : Shape := ⟨3, ![4096, 4, 1]⟩
abbrev S1x1x64 : Shape := ⟨3, ![1, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S64, .f32⟩
  | .hbm, ⟨2, _⟩ => ⟨S4096x256, .f32⟩
  | .hbm, ⟨3, _⟩ => ⟨S4096x4x64, .f32⟩
  | .hbm, ⟨4, _⟩ => ⟨S4096x4x64, .f32⟩
  | .hbm, ⟨5, _⟩ => ⟨S_, .f32⟩
  | .hbm, ⟨6, _⟩ => ⟨S4096x4, .f32⟩
  | .hbm, ⟨7, _⟩ => ⟨S4096x4x1, .f32⟩
  | .hbm, ⟨8, _⟩ => ⟨S_, .f32⟩
  | .hbm, ⟨9, _⟩ => ⟨S4096x4x1, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S4096x4x1, .f32⟩
  | .hbm, ⟨15, _⟩ => ⟨S4096x4x64, .f32⟩
  | .hbm, ⟨16, _⟩ => ⟨S4096x4x64, .f32⟩
  | .hbm, ⟨17, _⟩ => ⟨S1x1x64, .f32⟩
  | .hbm, ⟨18, _⟩ => ⟨S4096x4x64, .f32⟩
  | .hbm, ⟨19, _⟩ => ⟨S4096x4x64, .f32⟩
  | .hbm, ⟨20, _⟩ => ⟨S4096x256, .f32⟩
  | .hbm, ⟨21, _⟩ => ⟨S4096x256, .bf16⟩
  | .hbm, ⟨22, _⟩ => ⟨S4096x256, .f32⟩
  | .hbm, ⟨23, _⟩ => ⟨S4096x256, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel11.lean ====
abbrev S4096x1024 : Shape := ⟨2, ![4096, 1024]⟩
abbrev S256x512 : Shape := ⟨2, ![256, 512]⟩
abbrev S64 : Shape := ⟨1, ![64]⟩
abbrev S1x64 : Shape := ⟨2, ![1, 64]⟩
abbrev S1024x256 : Shape := ⟨2, ![1024, 256]⟩
abbrev S1024x1024 : Shape := ⟨2, ![1024, 1024]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S1024x64 : Shape := ⟨2, ![1024, 64]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S256x512, .f32⟩
  | .hbm, ⟨2, _⟩ => ⟨S64, .f32⟩
  | .hbm, ⟨3, _⟩ => ⟨S64, .f32⟩
  | .hbm, ⟨4, _⟩ => ⟨S4096x1024, .bf16⟩
  | .hbm, ⟨5, _⟩ => ⟨S1x64, .f32⟩
  | .hbm, ⟨6, _⟩ => ⟨S1x64, .f32⟩
  | .hbm, ⟨7, _⟩ => ⟨S4096x1024, .bf16⟩
  | .hbm, ⟨8, _⟩ => ⟨S4096x1024, .bf16⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x64, .f32⟩
  | .local _ .vmem, ⟨4, _⟩ => ⟨S1x64, .f32⟩
  | .local _ .vmem, ⟨5, _⟩ => ⟨S1024x256, .bf16⟩
  | .local _ .vmem, ⟨6, _⟩ => ⟨S1024x256, .bf16⟩
  | .local _ .vmem, ⟨7, _⟩ => ⟨S1024x1024, .bf16⟩
  | .local _ .vmem, ⟨8, _⟩ => ⟨S1024x1024, .bf16⟩
  | .local _ .vmem, ⟨9, _⟩ => ⟨S256x256, .bf16⟩
  | .local _ .vmem, ⟨10, _⟩ => ⟨S256x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x1024 : Shape := ⟨2, ![4096, 1024]⟩
abbrev S256x512 : Shape := ⟨2, ![256, 512]⟩
abbrev S64 : Shape := ⟨1, ![64]⟩
abbrev S4096x256 : Shape := ⟨2, ![4096, 256]⟩
abbrev S256x256 : Shape := ⟨2, ![256, 256]⟩
abbrev S256x4x64 : Shape := ⟨3, ![256, 4, 64]⟩
abbrev S_ : Shape := ⟨0, ![]⟩
abbrev S256x4 : Shape := ⟨2, ![256, 4]⟩
abbrev S256x4x1 : Shape := ⟨3, ![256, 4, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4096x768 : Shape := ⟨2, ![4096, 768]⟩
abbrev S4096x4x256 : Shape := ⟨3, ![4096, 4, 256]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x512, .f32⟩
  | .hbm, ⟨2, _⟩ => ⟨S64, .f32⟩
  | .hbm, ⟨3, _⟩ => ⟨S64, .f32⟩
  | .hbm, ⟨4, _⟩ => ⟨S4096x1024, .bf16⟩
  | .hbm, ⟨5, _⟩ => ⟨S4096x256, .f32⟩
  | .hbm, ⟨6, _⟩ => ⟨S256x256, .f32⟩
  | .hbm, ⟨7, _⟩ => ⟨S256x4x64, .f32⟩
  | .hbm, ⟨8, _⟩ => ⟨S256x4x64, .f32⟩
  | .hbm, ⟨9, _⟩ => ⟨S_, .f32⟩
  | .hbm, ⟨10, _⟩ => ⟨S256x4, .f32⟩
  | .hbm, ⟨11, _⟩ => ⟨S256x4x1, .f32⟩
  | .hbm, ⟨12, _⟩ => ⟨S_, .f32⟩
  | .hbm, ⟨13, _⟩ => ⟨S256x4x1, .f32⟩
  | .hbm, ⟨14, _⟩ => ⟨S256x4x1, .f32⟩
  | .hbm, ⟨15, _⟩ => ⟨S_, .f32⟩
  | .hbm, ⟨16, _⟩ => ⟨S256x4x1, .f32⟩
  | .hbm, ⟨17, _⟩ => ⟨S256x4x1, .f32⟩
  | .hbm, ⟨18, _⟩ => ⟨S256x4x1, .f32⟩
  | .hbm, ⟨19, _⟩ => ⟨S256x4x64, .f32⟩
  | .hbm, ⟨20, _⟩ => ⟨S256x4x64, .f32⟩
  | .hbm, ⟨21, _⟩ => ⟨S1x1x64, .f32⟩
  | .hbm, ⟨22, _⟩ => ⟨S256x4x64, .f32⟩
  | .hbm, ⟨23, _⟩ => ⟨S256x4x64, .f32⟩
  | .hbm, ⟨24, _⟩ => ⟨S256x256, .f32⟩
  | .hbm, ⟨25, _⟩ => ⟨S256x4x64, .f32⟩
  | .hbm, ⟨26, _⟩ => ⟨S4096x4x64, .f32⟩
  | .hbm, ⟨27, _⟩ => ⟨S4096x4x64, .f32⟩
  | .hbm, ⟨28, _⟩ => ⟨S_, .f32⟩
  | .hbm, ⟨29, _⟩ => ⟨S4096x4, .f32⟩
  | .hbm, ⟨30, _⟩ => ⟨S4096x4x1, .f32⟩
  | .hbm, ⟨31, _⟩ => ⟨S_, .f32⟩
  | .hbm, ⟨32, _⟩ => ⟨S4096x4x1, .f32⟩
  | .hbm, ⟨33, _⟩ => ⟨S4096x4x1, .f32⟩
  | .hbm, ⟨34, _⟩ => ⟨S_, .f32⟩
  | .hbm, ⟨35, _⟩ => ⟨S4096x4x1, .f32⟩
  | .hbm, ⟨36, _⟩ => ⟨S4096x4x1, .f32⟩
  | .hbm, ⟨37, _⟩ => ⟨S4096x4x1, .f32⟩
  | .hbm, ⟨38, _⟩ => ⟨S4096x4x64, .f32⟩
  | .hbm, ⟨39, _⟩ => ⟨S4096x4x64, .f32⟩
  | .hbm, ⟨40, _⟩ => ⟨S1x1x64, .f32⟩
  | .hbm, ⟨41, _⟩ => ⟨S4096x4x64, .f32⟩
  | .hbm, ⟨42, _⟩ => ⟨S4096x4x64, .f32⟩
  | .hbm, ⟨43, _⟩ => ⟨S4x4096x256, .f32⟩
  | .hbm, ⟨44, _⟩ => ⟨S_, .f32⟩
  | .hbm, ⟨45, _⟩ => ⟨S4x4096x256, .f32⟩
  | .hbm, ⟨46, _⟩ => ⟨S4x4096x256, .f32⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S4x4096, .f32⟩
  | .hbm, ⟨52, _⟩ => ⟨S4x4096x1, .f32⟩
  | .hbm, ⟨53, _⟩ => ⟨S4x4096x256, .f32⟩
  | .hbm, ⟨54, _⟩ => ⟨S4x4096x256, .f32⟩
  | .hbm, ⟨55, _⟩ => ⟨S4x4096x256, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x256, .f32⟩
  | .hbm, ⟨60, _⟩ => ⟨S4x4096x256, .f32⟩
  | .hbm, ⟨61, _⟩ => ⟨S4x64x4096, .f32⟩
  | .hbm, ⟨62, _⟩ => ⟨S4096x4x64, .f32⟩
  | .hbm, ⟨63, _⟩ => ⟨S4096x256, .f32⟩
  | .hbm, ⟨64, _⟩ => ⟨S4096x768, .bf16⟩
  | .hbm, ⟨65, _⟩ => ⟨S4096x256, .bf16⟩
  | .hbm, ⟨66, _⟩ => ⟨S4096x1024, .bf16⟩
  | .hbm, ⟨67, _⟩ => ⟨S4096x256, .f32⟩
  | .hbm, ⟨68, _⟩ => ⟨S256x256, .f32⟩
  | .hbm, ⟨69, _⟩ => ⟨S256x4x64, .f32⟩
  | .hbm, ⟨70, _⟩ => ⟨S256x4x64, .f32⟩
  | .hbm, ⟨71, _⟩ => ⟨S_, .f32⟩
  | .hbm, ⟨72, _⟩ => ⟨S256x4, .f32⟩
  | .hbm, ⟨73, _⟩ => ⟨S256x4x1, .f32⟩
  | .hbm, ⟨74, _⟩ => ⟨S_, .f32⟩
  | .hbm, ⟨75, _⟩ => ⟨S256x4x1, .f32⟩
  | .hbm, ⟨76, _⟩ => ⟨S256x4x1, .f32⟩
  | .hbm, ⟨77, _⟩ => ⟨S_, .f32⟩
  | .hbm, ⟨78, _⟩ => ⟨S256x4x1, .f32⟩
  | .hbm, ⟨79, _⟩ => ⟨S256x4x1, .f32⟩
  | .hbm, ⟨80, _⟩ => ⟨S256x4x1, .f32⟩
  | .hbm, ⟨81, _⟩ => ⟨S256x4x64, .f32⟩
  | .hbm, ⟨82, _⟩ => ⟨S256x4x64, .f32⟩
  | .hbm, ⟨83, _⟩ => ⟨S1x1x64, .f32⟩
  | .hbm, ⟨84, _⟩ => ⟨S256x4x64, .f32⟩
  | .hbm, ⟨85, _⟩ => ⟨S256x4x64, .f32⟩
  | .hbm, ⟨86, _⟩ => ⟨S256x256, .f32⟩
  | .hbm, ⟨87, _⟩ => ⟨S256x4x64, .f32⟩
  | .hbm, ⟨88, _⟩ => ⟨S4096x4x64, .f32⟩
  | .hbm, ⟨89, _⟩ => ⟨S4096x4x64, .f32⟩
  | .hbm, ⟨90, _⟩ => ⟨S_, .f32⟩
  | .hbm, ⟨91, _⟩ => ⟨S4096x4, .f32⟩
  | .hbm, ⟨92, _⟩ => ⟨S4096x4x1, .f32⟩
  | .hbm, ⟨93, _⟩ => ⟨S_, .f32⟩
  | .hbm, ⟨94, _⟩ => ⟨S4096x4x1, .f32⟩
  | .hbm, ⟨95, _⟩ => ⟨S4096x4x1, .f32⟩
  | .hbm, ⟨96, _⟩ => ⟨S_, .f32⟩
  | .hbm, ⟨97, _⟩ => ⟨S4096x4x1, .f32⟩
  | .hbm, ⟨98, _⟩ => ⟨S4096x4x1, .f32⟩
  | .hbm, ⟨99, _⟩ => ⟨S4096x4x1, .f32⟩
  | .hbm, ⟨100, _⟩ => ⟨S4096x4x64, .f32⟩
  | .hbm, ⟨101, _⟩ => ⟨S4096x4x64, .f32⟩
  | .hbm, ⟨102, _⟩ => ⟨S1x1x64, .f32⟩
  | .hbm, ⟨103, _⟩ => ⟨S4096x4x64, .f32⟩
  | .hbm, ⟨104, _⟩ => ⟨S4096x4x64, .f32⟩
  | .hbm, ⟨105, _⟩ => ⟨S4x4096x256, .f32⟩
  | .hbm, ⟨106, _⟩ => ⟨S_, .f32⟩
  | .hbm, ⟨107, _⟩ => ⟨S4x4096x256, .f32⟩
  | .hbm, ⟨108, _⟩ => ⟨S4x4096x256, .f32⟩
  | .hbm, ⟨109, _⟩ => ⟨S_, .f32⟩
  | .hbm, ⟨110, _⟩ => ⟨S4x4096, .f32⟩
  | .hbm, ⟨111, _⟩ => ⟨S_, .f32⟩
  | .hbm, ⟨112, _⟩ => ⟨S4x4096, .f32⟩
  | .hbm, ⟨113, _⟩ => ⟨S4x4096, .f32⟩
  | .hbm, ⟨114, _⟩ => ⟨S4x4096x1, .f32⟩
  | .hbm, ⟨115, _⟩ => ⟨S4x4096x256, .f32⟩
  | .hbm, ⟨116, _⟩ => ⟨S4x4096x256, .f32⟩
  | .hbm, ⟨117, _⟩ => ⟨S4x4096x256, .f32⟩
  | .hbm, ⟨118, _⟩ => ⟨S_, .f32⟩
  | .hbm, ⟨119, _⟩ => ⟨S4x4096, .f32⟩
  | .hbm, ⟨120, _⟩ => ⟨S4x4096x1, .f32⟩
  | .hbm, ⟨121, _⟩ => ⟨S4x4096x256, .f32⟩
  | .hbm, ⟨122, _⟩ => ⟨S4x4096x256, .f32⟩
  | .hbm, ⟨123, _⟩ => ⟨S4096x4x256, .f32⟩
  | .hbm, ⟨124, _⟩ => ⟨S4096x1024, .f32⟩
  | .hbm, ⟨125, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_v75 : Ref sig .tc := ⟨.hbm, 95, rfl⟩
abbrev main_cst_14 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_15 : Ref sig .tc := ⟨.hbm, 106, rfl⟩
abbrev main_v85 : Ref sig .tc := ⟨.hbm, 107, rfl⟩
abbrev main_v86 : Ref sig .tc := ⟨.hbm, 108, rfl⟩
abbrev main_cst_16 : Ref sig .tc := ⟨.hbm, 109, rfl⟩
abbrev main_v87 : Ref sig .tc := ⟨.hbm, 110, rfl⟩
abbrev main_cst_17 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_18 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S1x1024 : Shape := ⟨2, ![1, 1024]⟩
abbrev S1024x1 : Shape := ⟨2, ![1024, 1]⟩

abbrev nBuf : Space → Nat
  | .hbm => 16
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .f32⟩
  | .hbm, ⟨6, _⟩ => ⟨S4x1024x1024, .f32⟩
  | .hbm, ⟨7, _⟩ => ⟨S1024x4x1024, .f32⟩
  | .hbm, ⟨8, _⟩ => ⟨S4x1024x1024, .f32⟩
  | .hbm, ⟨9, _⟩ => ⟨S4x256x1024, .f32⟩
  | .hbm, ⟨10, _⟩ => ⟨S4x256x1024, .f32⟩
  | .hbm, ⟨11, _⟩ => ⟨S4x2560x1024, .f32⟩
  | .hbm, ⟨12, _⟩ => ⟨S4x2560x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![c0_i32.toNat, c8_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S4096x1024 : Shape := ⟨2, ![4096, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel13.lean ====
abbrev S4096x1024 : Shape := ⟨2, ![4096, 1024]⟩
abbrev S4096x512 : Shape := ⟨2, ![4096, 512]⟩
abbrev S64 : Shape := ⟨1, ![64]⟩
abbrev S12 : Shape := ⟨1, ![12]⟩
abbrev S1x64 : Shape := ⟨2, ![1, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S1x12 : Shape := ⟨2, ![1, 12]⟩
abbrev S1x128 : Shape := ⟨2, ![1, 128]⟩
abbrev S32x4x384x256 : Shape := ⟨4, ![32, 4, 384, 256]⟩
abbrev S4096x128 : Shape := ⟨2, ![4096, 128]⟩
abbrev S128x768 : Shape := ⟨2, ![128, 768]⟩
abbrev S128x256 : Shape := ⟨2, ![128, 256]⟩
abbrev S1x4x384x256 : Shape := ⟨4, ![1, 4, 384, 256]⟩
abbrev S128x128 : Shape := ⟨2, ![128, 128]⟩
abbrev S256x256 : Shape := ⟨2, ![256, 256]⟩
abbrev S1x1 : Shape := ⟨2, ![1, 1]⟩
abbrev S128x1 : Shape := ⟨2, ![128, 1]⟩
abbrev S384x1 : Shape := ⟨2, ![384, 1]⟩
abbrev S128x64 : Shape := ⟨2, ![128, 64]⟩
abbrev S384x64 : Shape := ⟨2, ![384, 64]⟩
abbrev S384x256 : Shape := ⟨2, ![384, 256]⟩
abbrev S384 : Shape := ⟨1, ![384]⟩
abbrev S256x64 : Shape := ⟨2, ![256, 64]⟩
abbrev S1x1x384x256 : Shape := ⟨4, ![1, 1, 384, 256]⟩
abbrev S3968x768 : Shape := ⟨2, ![3968, 768]⟩

abbrev nBuf : Space → Nat
  | .hbm => 83
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S64, .f32⟩
  | .hbm, ⟨3, _⟩ => ⟨S64, .f32⟩
  | .hbm, ⟨4, _⟩ => ⟨S12, .f32⟩
  | .hbm, ⟨5, _⟩ => ⟨S1x64, .f32⟩
  | .hbm, ⟨6, _⟩ => ⟨S4096x64, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x64, .f32⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S4096x64, .f32⟩
  | .hbm, ⟨70, _⟩ => ⟨S4096x256, .f32⟩
  | .hbm, ⟨71, _⟩ => ⟨S4096x256, .bf16⟩
  | .hbm, ⟨72, _⟩ => ⟨S4096x256, .f32⟩
  | .hbm, ⟨73, _⟩ => ⟨S4096x256, .bf16⟩
  | .hbm, ⟨74, _⟩ => ⟨S1x12, .f32⟩
  | .hbm, ⟨75, _⟩ => ⟨S_, .i32⟩
  | .hbm, ⟨76, _⟩ => ⟨S_, .f32⟩
  | .hbm, ⟨77, _⟩ => ⟨S1x128, .f32⟩
  | .hbm, ⟨78, _⟩ => ⟨S1x64, .f32⟩
  | .hbm, ⟨79, _⟩ => ⟨S4096x1024, .bf16⟩
  | .hbm, ⟨80, _⟩ => ⟨S32x4x384x256, .bf16⟩
  | .hbm, ⟨81, _⟩ => ⟨S4096x128, .f32⟩
  | .hbm, ⟨82, _⟩ => ⟨S3968x768, .bf16⟩
  | .local _ .vmem, ⟨0, _⟩ => ⟨S128x768, .f32⟩
  | .local _ .vmem, ⟨1, _⟩ => ⟨S128x768, .f32⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S1x64, .f32⟩
  | .local _ .vmem, ⟨11, _⟩ => ⟨S1x128, .f32⟩
  | .local _ .vmem, ⟨12, _⟩ => ⟨S128x768, .bf16⟩
  | .local _ .vmem, ⟨13, _⟩ => ⟨S128x768, .bf16⟩
  | .local _ .vmem, ⟨14, _⟩ => ⟨S1x4x384x256, .bf16⟩
  | .local _ .vmem, ⟨15, _⟩ => ⟨S1x4x384x256, .bf16⟩
  | .local _ .vmem, ⟨16, _⟩ => ⟨S128x128, .f32⟩
  | .local _ .vmem, ⟨17, _⟩ => ⟨S128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c : Ref sig .tc := ⟨.hbm, 75, rfl⟩
abbrev main_call0_v0 : Ref sig .tc := ⟨.hbm, 76, rfl⟩
abbrev main_v58 : Ref sig .tc := ⟨.hbm, 77, rfl⟩
abbrev main_v59 : Ref sig .tc := ⟨.hbm, 78, rfl⟩
abbrev main_v60_0 : Ref sig .tc := ⟨.hbm, 79, rfl⟩
abbrev main_v60_1 : Ref sig .tc := ⟨.hbm, 80, rfl⟩
abbrev main_v60_2 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S4096x1024 : Shape := ⟨2, ![4096, 1024]⟩
abbrev S4096x512 : Shape := ⟨2, ![4096, 512]⟩
abbrev S64 : Shape := ⟨1, ![64]⟩
abbrev S12 : Shape := ⟨1, ![12]⟩
abbrev S4096x768 : Shape := ⟨2, ![4096, 768]⟩
abbrev S4096x12x64 : Shape := ⟨3, ![4096, 12, 64]⟩
abbrev S_ : Shape := ⟨0, ![]⟩
abbrev S4096x12 : Shape := ⟨2, ![4096, 12]⟩
abbrev S4096x12x1 : Shape := ⟨3, ![4096, 12, 1]⟩
abbrev S1x1x64 : Shape := ⟨3, ![1, 1, 64]⟩
abbrev S4096x256 : Shape := ⟨2, ![4096, 256]⟩
abbrev S4096x4x64 : Shape := ⟨3, ![4096, 4, 64]⟩
abbrev S4096x4 : Shape := ⟨2, ![4096, 4]⟩
abbrev S4096x4x1 : Shape := ⟨3, ![4096, 4, 1]⟩
abbrev S32x128x4x3x64 : Shape := ⟨5, ![32, 128, 4, 3, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x3 : Shape := ⟨5, ![32, 4, 256, 128, 3]⟩
abbrev S32x4x3x128x256 : Shape := ⟨5, ![32, 4, 3, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S4x3 : Shape := ⟨2, ![4, 3]⟩
abbrev S1x4x3x1x1 : Shape := ⟨5, ![1, 4, 3, 1, 1]⟩
abbrev S32x1x1x128x256 : Shape := ⟨5, ![32, 1, 1, 128, 256]⟩
abbrev S32x4x3x128 : Shape := ⟨4, ![32, 4, 3, 128]⟩
abbrev S32x4x3x128x1 : Shape := ⟨5, ![32, 4, 3, 128, 1]⟩
abbrev S32x4x64x3x128 : Shape := ⟨5, ![32, 4, 64, 3, 128]⟩
abbrev S3968x768 : Shape := ⟨2, ![3968, 768]⟩
abbrev S32x128x4x3x1 : Shape := ⟨5, ![32, 128, 4, 3, 1]⟩
abbrev S32x4x384x256 : Shape := ⟨4, ![32, 4, 384, 256]⟩
abbrev S4096x128 : Shape := ⟨2, ![4096, 128]⟩

abbrev nBuf : Space → Nat
  | .hbm => 212
  | .vmem => 0
  | .smem => 0
  | _ => 0

abbrev hbmTy0_0 (i : Nat) : BufTy := match i % 128 with
  | 0 => ⟨S4096x1024, .f32⟩
  | 1 => ⟨S4096x512, .f32⟩
  | 2 => ⟨S64, .f32⟩
  | 3 => ⟨S64, .f32⟩
  | 4 => ⟨S12, .f32⟩
  | 5 => ⟨S4096x768, .f32⟩
  | 6 => ⟨S4096x12x64, .f32⟩
  | 7 => ⟨S4096x12x64, .f32⟩
  | 8 => ⟨S_, .f32⟩
  | 9 => ⟨S4096x12, .f32⟩
  | 10 => ⟨S4096x12x1, .f32⟩
  | 11 => ⟨S_, .f32⟩
  | 12 => ⟨S4096x12x1, .f32⟩
  | 13 => ⟨S4096x12x1, .f32⟩
  | 14 => ⟨S_, .f32⟩
  | 15 => ⟨S4096x12x1, .f32⟩
  | 16 => ⟨S4096x12x1, .f32⟩
  | 17 => ⟨S4096x12x1, .f32⟩
  | 18 => ⟨S4096x12x64, .f32⟩
  | 19 => ⟨S4096x12x64, .f32⟩
  | 20 => ⟨S1x1x64, .f32⟩
  | 21 => ⟨S4096x12x64, .f32⟩
  | 22 => ⟨S4096x12x64, .f32⟩
  | 23 => ⟨S4096x256, .f32⟩
  | 24 => ⟨S4096x4x64, .f32⟩
  | 25 => ⟨S4096x4x64, .f32⟩
  | 26 => ⟨S_, .f32⟩
  | 27 => ⟨S4096x4, .f32⟩
  | 28 => ⟨S4096x4x1, .f32⟩
  | 29 => ⟨S_, .f32⟩
  | 30 => ⟨S4096x4x1, .f32⟩
  | 31 => ⟨S4096x4x1, .f32⟩
  | 32 => ⟨S_, .f32⟩
  | 33 => ⟨S4096x4x1, .f32⟩
  | 34 => ⟨S4096x4x1, .f32⟩
  | 35 => ⟨S4096x4x1, .f32⟩
  | 36 => ⟨S4096x4x64, .f32⟩
  | 37 => ⟨S4096x4x64, .f32⟩
  | 38 => ⟨S1x1x64, .f32⟩
  | 39 => ⟨S4096x4x64, .f32⟩
  | 40 => ⟨S4096x4x64, .f32⟩
  | 41 => ⟨S32x128x4x3x64, .f32⟩
  | 42 => ⟨S32x128x4x64, .f32⟩
  | 43 => ⟨S_, .f32⟩
  | 44 => ⟨S1x128x4x64, .f32⟩
  | 45 => ⟨S31x128x4x64, .f32⟩
  | 46 => ⟨S32x128x4x64, .f32⟩
  | 47 => ⟨S32x256x4x64, .f32⟩
  | 48 => ⟨S32x4x256x128x3, .f32⟩
  | 49 => ⟨S32x4x3x128x256, .f32⟩
  | 50 => ⟨S_, .f32⟩
  | 51 => ⟨S32x4x3x128x256, .f32⟩
  | 52 => ⟨S32x4x3x128x256, .f32⟩
  | 53 => ⟨S32, .i32⟩
  | 54 => ⟨S32x1, .i32⟩
  | 55 => ⟨S_, .i32⟩
  | 56 => ⟨S32x1, .i32⟩
  | 57 => ⟨S32x1, .i32⟩
  | 58 => ⟨S128, .i32⟩
  | 59 => ⟨S1x128, .i32⟩
  | 60 => ⟨S32x128, .i32⟩
  | 61 => ⟨S32x128, .i32⟩
  | 62 => ⟨S32x128, .i32⟩
  | 63 => ⟨S_, .i32⟩
  | 64 => ⟨S32x1, .i32⟩
  | 65 => ⟨S32x1, .i32⟩
  | 66 => ⟨S256, .i32⟩
  | 67 => ⟨S1x256, .i32⟩
  | 68 => ⟨S32x256, .i32⟩
  | 69 => ⟨S32x256, .i32⟩
  | 70 => ⟨S32x256, .i32⟩
  | 71 => ⟨S32x128x1, .i32⟩
  | 72 => ⟨S32x1x256, .i32⟩
  | 73 => ⟨S32x128x256, .i32⟩
  | 74 => ⟨S32x128x256, .i32⟩
  | 75 => ⟨S32x128x256, .i32⟩
  | 76 => ⟨S_, .i32⟩
  | 77 => ⟨S32x128x256, .i32⟩
  | 78 => ⟨S32x128x256, .i1⟩
  | 79 => ⟨S_, .i32⟩
  | 80 => ⟨S32x128x256, .i32⟩
  | 81 => ⟨S32x128x256, .i1⟩
  | 82 => ⟨S32x128x256, .i1⟩
  | 83 => ⟨S32x1x256, .i32⟩
  | 84 => ⟨S_, .i32⟩
  | 85 => ⟨S32x1x256, .i32⟩
  | 86 => ⟨S32x1x256, .i1⟩
  | 87 => ⟨S32x128x256, .i1⟩
  | 88 => ⟨S32x128x256, .i1⟩
  | 89 => ⟨S12, .i32⟩
  | 90 => ⟨S_, .f32⟩
  | 91 => ⟨S12, .f32⟩
  | 92 => ⟨S_, .i32⟩
  | 93 => ⟨S12, .i32⟩
  | 94 => ⟨S12, .i1⟩
  | 95 => ⟨S_, .f32⟩
  | 96 => ⟨S12, .f32⟩
  | 97 => ⟨S12, .f32⟩
  | 98 => ⟨S_, .i32⟩
  | 99 => ⟨S12, .i32⟩
  | 100 => ⟨S12, .i1⟩
  | 101 => ⟨S_, .f32⟩
  | 102 => ⟨S12, .f32⟩
  | 103 => ⟨S12, .f32⟩
  | 104 => ⟨S_, .i32⟩
  | 105 => ⟨S12, .i32⟩
  | 106 => ⟨S12, .i1⟩
  | 107 => ⟨S_, .f32⟩
  | 108 => ⟨S12, .f32⟩
  | 109 => ⟨S12, .f32⟩
  | 110 => ⟨S_, .i32⟩
  | 111 => ⟨S12, .i32⟩
  | 112 => ⟨S12, .i1⟩
  | 113 => ⟨S_, .f32⟩
  | 114 => ⟨S12, .f32⟩
  | 115 => ⟨S12, .f32⟩
  | 116 => ⟨S_, .i32⟩
  | 117 => ⟨S12, .i32⟩
  | 118 => ⟨S12, .i1⟩
  | 119 => ⟨S_, .f32⟩
  | 120 => ⟨S12, .f32⟩
  | 121 => ⟨S12, .f32⟩
  | 122 => ⟨S_, .i32⟩
  | 123 => ⟨S12, .i32⟩
  | 124 => ⟨S12, .i1⟩
  | 125 => ⟨S_, .f32⟩
  | 126 => ⟨S12, .f32⟩
  | 127 => ⟨S12, .f32⟩
  | _ => ⟨S4096x1024, .f32⟩

abbrev hbmTy0_1 (i : Nat) : BufTy := match i % 128 with
  | 0 => ⟨S_, .i32⟩
  | 1 => ⟨S12, .i32⟩
  | 2 => ⟨S12, .i1⟩
  | 3 => ⟨S_, .f32⟩
  | 4 => ⟨S12, .f32⟩
  | 5 => ⟨S12, .f32⟩
  | 6 => ⟨S_, .i32⟩
  | 7 => ⟨S12, .i32⟩
  | 8 => ⟨S12, .i1⟩
  | 9 => ⟨S_, .f32⟩
  | 10 => ⟨S12, .f32⟩
  | 11 => ⟨S12, .f32⟩
  | 12 => ⟨S_, .i32⟩
  | 13 => ⟨S12, .i32⟩
  | 14 => ⟨S12, .i1⟩
  | 15 => ⟨S_, .f32⟩
  | 16 => ⟨S12, .f32⟩
  | 17 => ⟨S12, .f32⟩
  | 18 => ⟨S_, .i32⟩
  | 19 => ⟨S12, .i32⟩
  | 20 => ⟨S12, .i1⟩
  | 21 => ⟨S_, .f32⟩
  | 22 => ⟨S12, .f32⟩
  | 23 => ⟨S12, .f32⟩
  | 24 => ⟨S_, .i32⟩
  | 25 => ⟨S12, .i32⟩
  | 26 => ⟨S12, .i1⟩
  | 27 => ⟨S_, .f32⟩
  | 28 => ⟨S12, .f32⟩
  | 29 => ⟨S12, .f32⟩
  | 30 => ⟨S4x3, .f32⟩
  | 31 => ⟨S1x4x3x1x1, .f32⟩
  | 32 => ⟨S32x128x256, .f32⟩
  | 33 => ⟨S32x1x1x128x256, .f32⟩
  | 34 => ⟨S32x4x3x128x256, .f32⟩
  | 35 => ⟨S32x4x3x128x256, .f32⟩
  | 36 => ⟨S32x4x3x128x256, .f32⟩
  | 37 => ⟨S32x4x3x128x256, .f32⟩
  | 38 => ⟨S32x1x1x128x256, .i1⟩
  | 39 => ⟨S_, .f32⟩
  | 40 => ⟨S_, .f32⟩
  | 41 => ⟨S32x4x3x128x256, .i1⟩
  | 42 => ⟨S32x4x3x128x256, .f32⟩
  | 43 => ⟨S32x4x3x128x256, .f32⟩
  | 44 => ⟨S4x3, .f32⟩
  | 45 => ⟨S1x4x3x1x1, .f32⟩
  | 46 => ⟨S_, .f32⟩
  | 47 => ⟨S32x4x3x128, .f32⟩
  | 48 => ⟨S32x4x3x128x1, .f32⟩
  | 49 => ⟨S32x4x3x128x1, .f32⟩
  | 50 => ⟨S32x4x3x128x1, .f32⟩
  | 51 => ⟨S32x4x3x128x256, .f32⟩
  | 52 => ⟨S32x4x3x128x256, .f32⟩
  | 53 => ⟨S32x4x3x128x256, .f32⟩
  | 54 => ⟨S32x4x3x128x1, .f32⟩
  | 55 => ⟨S32x4x3x128x1, .f32⟩
  | 56 => ⟨S32x4x3x128x1, .f32⟩
  | 57 => ⟨S_, .f32⟩
  | 58 => ⟨S32x4x3x128, .f32⟩
  | 59 => ⟨S32x4x3x128x1, .f32⟩
  | 60 => ⟨S32x4x3x128x1, .f32⟩
  | 61 => ⟨S32x4x3x128x256, .f32⟩
  | 62 => ⟨S32x4x3x128x256, .f32⟩
  | 63 => ⟨S32x4x3x128x1, .f32⟩
  | 64 => ⟨S4096x256, .f32⟩
  | 65 => ⟨S4096x4x64, .f32⟩
  | 66 => ⟨S32x128x4x64, .f32⟩
  | 67 => ⟨S_, .f32⟩
  | 68 => ⟨S1x128x4x64, .f32⟩
  | 69 => ⟨S31x128x4x64, .f32⟩
  | 70 => ⟨S32x128x4x64, .f32⟩
  | 71 => ⟨S32x256x4x64, .f32⟩
  | 72 => ⟨S32x4x64x3x128, .f32⟩
  | 73 => ⟨S32x128x4x3x64, .f32⟩
  | 74 => ⟨S4096x768, .f32⟩
  | 75 => ⟨S3968x768, .f32⟩
  | 76 => ⟨S3968x768, .bf16⟩
  | 77 => ⟨S32x128x4x3x1, .f32⟩
  | 78 => ⟨S4096x12, .f32⟩
  | 79 => ⟨S32x4x384x256, .f32⟩
  | 80 => ⟨S32x4x384x256, .bf16⟩
  | 81 => ⟨S_, .i32⟩
  | 82 => ⟨S_, .f32⟩
  | 83 => ⟨S4096x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_c_12 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_c_14 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_c_16 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_c_18 : Ref sig .tc := ⟨.hbm, 110, rfl⟩
abbrev main_v85 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_c_20 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_v92 : Ref sig .tc := ⟨.hbm, 121, rfl⟩
abbrev main_c_22 : Ref sig .tc := ⟨.hbm, 122, rfl⟩
abbrev main_v93 : Ref sig .tc := ⟨.hbm, 123, rfl⟩
abbrev main_v94 : Ref sig .tc := ⟨.hbm, 124, rfl⟩
abbrev main_cst_23 : Ref sig .tc := ⟨.hbm, 125, rfl⟩
abbrev main_v95 : Ref sig .tc := ⟨.hbm, 126, rfl⟩
abbrev main_v96 : Ref sig .tc := ⟨.hbm, 127, rfl⟩
abbrev main_c_24 : Ref sig .tc := ⟨.hbm, 128, rfl⟩
abbrev main_v97 : Ref sig .tc := ⟨.hbm, 129, rfl⟩
abbrev main_v98 : Ref sig .tc := ⟨.hbm, 130, rfl⟩
abbrev main_cst_25 : Ref sig .tc := ⟨.hbm, 131, rfl⟩
abbrev main_v99 : Ref sig .tc := ⟨.hbm, 132, rfl⟩
abbrev main_v100 : Ref sig .tc := ⟨.hbm, 133, rfl⟩
abbrev main_c_26 : Ref sig .tc := ⟨.hbm, 134, rfl⟩
abbrev main_v101 : Ref sig .tc := ⟨.hbm, 135, rfl⟩
abbrev main_v102 : Ref sig .tc := ⟨.hbm, 136, rfl⟩
abbrev main_cst_27 : Ref sig .tc := ⟨.hbm, 137, rfl⟩
abbrev main_v103 : Ref sig .tc := ⟨.hbm, 138, rfl⟩
abbrev main_v104 : Ref sig .tc := ⟨.hbm, 139, rfl⟩
abbrev main_c_28 : Ref sig .tc := ⟨.hbm, 140, rfl⟩
abbrev main_v105 : Ref sig .tc := ⟨.hbm, 141, rfl⟩
abbrev main_v106 : Ref sig .tc := ⟨.hbm, 142, rfl⟩
abbrev main_cst_29 : Ref sig .tc := ⟨.hbm, 143, rfl⟩
abbrev main_v107 : Ref sig .tc := ⟨.hbm, 144, rfl⟩
abbrev main_v108 : Ref sig .tc := ⟨.hbm, 145, rfl⟩
abbrev main_c_30 : Ref sig .tc := ⟨.hbm, 146, rfl⟩
abbrev main_v109 : Ref sig .tc := ⟨.hbm, 147, rfl⟩
abbrev main_v110 : Ref sig .tc := ⟨.hbm, 148, rfl⟩
abbrev main_cst_31 : Ref sig .tc := ⟨.hbm, 149, rfl⟩
abbrev main_v111 : Ref sig .tc := ⟨.hbm, 150, rfl⟩
abbrev main_v112 : Ref sig .tc := ⟨.hbm, 151, rfl⟩
abbrev main_c_32 : Ref sig .tc := ⟨.hbm, 152, rfl⟩
abbrev main_v113 : Ref sig .tc := ⟨.hbm, 153, rfl⟩
abbrev main_v114 : Ref sig .tc := ⟨.hbm, 154, rfl⟩
abbrev main_cst_33 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_34 : Ref sig .tc := ⟨.hbm, 167, rfl⟩
abbrev main_call0_v0 : Ref sig .tc := ⟨.hbm, 168, rfl⟩
abbrev main_call0_v1 : Ref sig .tc := ⟨.hbm, 169, rfl⟩
abbrev main_call0_v2 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_35 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_36 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_37 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_c_38 : Ref sig .tc := ⟨.hbm, 209, rfl⟩
abbrev main_call1_v0 : Ref sig .tc := ⟨.hbm, 210, rfl⟩
abbrev main_v161 : Ref sig .tc := ⟨.hbm, 211, rfl⟩

abbrev nD : Nat := 1
abbrev τ : Topo := Topo.v7x

variable {F : FTy → Type} [FloatOps F]
-- ==== Kernel14.lean ====
abbrev S4096x1024 : Shape := ⟨2, ![4096, 1024]⟩
abbrev S256x512 : Shape := ⟨2, ![256, 512]⟩
abbrev S4x192x192 : Shape := ⟨3, ![4, 192, 192]⟩
abbrev S768 : Shape := ⟨1, ![768]⟩
abbrev S64 : Shape := ⟨1, ![64]⟩
abbrev S1x64 : Shape := ⟨2, ![1, 64]⟩
abbrev S4x4 : Shape := ⟨2, ![4, 4]⟩
abbrev S_ : Shape := ⟨0, ![]⟩
abbrev S4x1x4x1 : Shape := ⟨4, ![4, 1, 4, 1]⟩
abbrev S4x192x1x192 : Shape := ⟨4, ![4, 192, 1, 192]⟩
abbrev S4x192x4x192 : Shape := ⟨4, ![4, 192, 4, 192]⟩
abbrev S768x768 : Shape := ⟨2, ![768, 768]⟩
abbrev S1x768 : Shape := ⟨2, ![1, 768]⟩
abbrev S1024x768 : Shape := ⟨2, ![1024, 768]⟩
abbrev S16x768 : Shape := ⟨2, ![16, 768]⟩
abbrev S1024x256 : Shape := ⟨2, ![1024, 256]⟩
abbrev S1024x1024 : Shape := ⟨2, ![1024, 1024]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S1040x768 : Shape := ⟨2, ![1040, 768]⟩
abbrev S1024x64 : Shape := ⟨2, ![1024, 64]⟩
abbrev S1024 : Shape := ⟨1, ![1024]⟩
abbrev S1024x1 : Shape := ⟨2, ![1024, 1]⟩

abbrev nBuf : Space → Nat
  | .hbm => 25
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S256x512, .f32⟩
  | .hbm, ⟨2, _⟩ => ⟨S4x192x192, .f32⟩
  | .hbm, ⟨3, _⟩ => ⟨S768, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x1x4x1, .f32⟩
  | .hbm, ⟨16, _⟩ => ⟨S4x192x1x192, .f32⟩
  | .hbm, ⟨17, _⟩ => ⟨S4x192x4x192, .f32⟩
  | .hbm, ⟨18, _⟩ => ⟨S4x192x4x192, .f32⟩
  | .hbm, ⟨19, _⟩ => ⟨S4x192x4x192, .f32⟩
  | .hbm, ⟨20, _⟩ => ⟨S768x768, .f32⟩
  | .hbm, ⟨21, _⟩ => ⟨S768x768, .bf16⟩
  | .hbm, ⟨22, _⟩ => ⟨S1x768, .f32⟩
  | .hbm, ⟨23, _⟩ => ⟨S4096x1024, .bf16⟩
  | .hbm, ⟨24, _⟩ => ⟨S4096x1024, .bf16⟩
  | .local _ .vmem, ⟨0, _⟩ => ⟨S1024x768, .f32⟩
  | .local _ .vmem, ⟨1, _⟩ => ⟨S1024x768, .f32⟩
  | .local _ .vmem, ⟨2, _⟩ => ⟨S16x768, .f32⟩
  | .local _ .vmem, ⟨3, _⟩ => ⟨S16x768, .f32⟩
  | .local _ .vmem, ⟨4, _⟩ => ⟨S1024x256, .f32⟩
  | .local _ .vmem, ⟨5, _⟩ => ⟨S1024x256, .f32⟩
  | .local _ .vmem, ⟨6, _⟩ => ⟨S256x512, .f32⟩
  | .local _ .vmem, ⟨7, _⟩ => ⟨S768x768, .bf16⟩
  | .local _ .vmem, ⟨8, _⟩ => ⟨S1x768, .f32⟩
  | .local _ .vmem, ⟨9, _⟩ => ⟨S1x64, .f32⟩
  | .local _ .vmem, ⟨10, _⟩ => ⟨S1x64, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x256, .bf16⟩
  | .local _ .vmem, ⟨16, _⟩ => ⟨S256x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S4096x1024 : Shape := ⟨2, ![4096, 1024]⟩
abbrev S256x512 : Shape := ⟨2, ![256, 512]⟩
abbrev S4x192x192 : Shape := ⟨3, ![4, 192, 192]⟩
abbrev S768 : Shape := ⟨1, ![768]⟩
abbrev S64 : Shape := ⟨1, ![64]⟩
abbrev S4096x768 : Shape := ⟨2, ![4096, 768]⟩
abbrev S4096x4x192 : Shape := ⟨3, ![4096, 4, 192]⟩
abbrev S_ : Shape := ⟨0, ![]⟩
abbrev S1x4x192 : Shape := ⟨3, ![1, 4, 192]⟩
abbrev S4097x4x192 : Shape := ⟨3, ![4097, 4, 192]⟩
abbrev S4 : Shape := ⟨1, ![4]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S4x192x4096 : Shape := ⟨3, ![4, 192, 4096]⟩
abbrev S1x768 : Shape := ⟨2, ![1, 768]⟩
abbrev S4096x256 : Shape := ⟨2, ![4096, 256]⟩
abbrev S256x256 : Shape := ⟨2, ![256, 256]⟩
abbrev S256x4x64 : Shape := ⟨3, ![256, 4, 64]⟩
abbrev S256x4 : Shape := ⟨2, ![256, 4]⟩
abbrev S256x4x1 : Shape := ⟨3, ![256, 4, 1]⟩
abbrev S1x1x64 : Shape := ⟨3, ![1, 1, 64]⟩
abbrev S4096x4x64 : Shape := ⟨3, ![4096, 4, 64]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4096x4x256 : Shape := ⟨3, ![4096, 4, 256]⟩

abbrev nBuf : Space → Nat
  | .hbm => 210
  | .vmem => 0
  | .smem => 0
  | _ => 0

abbrev hbmTy0_0 (i : Nat) : BufTy := match i % 128 with
  | 0 => ⟨S4096x1024, .f32⟩
  | 1 => ⟨S256x512, .f32⟩
  | 2 => ⟨S4x192x192, .f32⟩
  | 3 => ⟨S768, .f32⟩
  | 4 => ⟨S64, .f32⟩
  | 5 => ⟨S64, .f32⟩
  | 6 => ⟨S4096x768, .f32⟩
  | 7 => ⟨S4096x4x192, .f32⟩
  | 8 => ⟨S_, .f32⟩
  | 9 => ⟨S1x4x192, .f32⟩
  | 10 => ⟨S_, .f32⟩
  | 11 => ⟨S_, .f32⟩
  | 12 => ⟨S4096x4x192, .f32⟩
  | 13 => ⟨S4097x4x192, .f32⟩
  | 14 => ⟨S4, .i32⟩
  | 15 => ⟨S_, .i32⟩
  | 16 => ⟨S4, .i32⟩
  | 17 => ⟨S4, .i1⟩
  | 18 => ⟨S_, .i32⟩
  | 19 => ⟨S4, .i32⟩
  | 20 => ⟨S4, .i1⟩
  | 21 => ⟨S_, .i32⟩
  | 22 => ⟨S4, .i32⟩
  | 23 => ⟨S4, .i1⟩
  | 24 => ⟨S_, .i32⟩
  | 25 => ⟨S_, .i32⟩
  | 26 => ⟨S4, .i32⟩
  | 27 => ⟨S4, .i32⟩
  | 28 => ⟨S4, .i32⟩
  | 29 => ⟨S_, .i32⟩
  | 30 => ⟨S4, .i32⟩
  | 31 => ⟨S4, .i32⟩
  | 32 => ⟨S_, .i32⟩
  | 33 => ⟨S4, .i32⟩
  | 34 => ⟨S4, .i32⟩
  | 35 => ⟨S4096, .i32⟩
  | 36 => ⟨S4096x1, .i32⟩
  | 37 => ⟨S_, .i32⟩
  | 38 => ⟨S4096x1, .i32⟩
  | 39 => ⟨S4096x1, .i32⟩
  | 40 => ⟨S1x4, .i32⟩
  | 41 => ⟨S1x4, .i32⟩
  | 42 => ⟨S4096x4, .i32⟩
  | 43 => ⟨S4096x4, .i32⟩
  | 44 => ⟨S4096x4, .i32⟩
  | 45 => ⟨S_, .i32⟩
  | 46 => ⟨S4096x4, .i32⟩
  | 47 => ⟨S4096x4, .i32⟩
  | 48 => ⟨S_, .i32⟩
  | 49 => ⟨S4096x1, .i32⟩
  | 50 => ⟨S4096x1, .i32⟩
  | 51 => ⟨S1x4, .i32⟩
  | 52 => ⟨S1x4, .i32⟩
  | 53 => ⟨S4096x4, .i32⟩
  | 54 => ⟨S4096x4, .i32⟩
  | 55 => ⟨S4096x4, .i32⟩
  | 56 => ⟨S4096x4, .f32⟩
  | 57 => ⟨S4096x4x192, .f32⟩
  | 58 => ⟨S4, .i32⟩
  | 59 => ⟨S1x4, .i32⟩
  | 60 => ⟨S_, .i32⟩
  | 61 => ⟨S4096x4, .i32⟩
  | 62 => ⟨S4096x4, .i1⟩
  | 63 => ⟨S_, .i32⟩
  | 64 => ⟨S4096x4, .i32⟩
  | 65 => ⟨S4096x4, .i32⟩
  | 66 => ⟨S4096x4, .i32⟩
  | 67 => ⟨S_, .i32⟩
  | 68 => ⟨S1x4, .i32⟩
  | 69 => ⟨S1x4, .i1⟩
  | 70 => ⟨S_, .i32⟩
  | 71 => ⟨S1x4, .i32⟩
  | 72 => ⟨S1x4, .i32⟩
  | 73 => ⟨S1x4, .i32⟩
  | 74 => ⟨S4096x4, .i32⟩
  | 75 => ⟨S4096x4x1, .i32⟩
  | 76 => ⟨S4096x4x1, .i32⟩
  | 77 => ⟨S4096x4x2, .i32⟩
  | 78 => ⟨S4096x4x192, .f32⟩
  | 79 => ⟨S4096x4x192, .f32⟩
  | 80 => ⟨S4096x4x1, .f32⟩
  | 81 => ⟨S4096x4x192, .f32⟩
  | 82 => ⟨S4096x4x192, .f32⟩
  | 83 => ⟨S4096x4x192, .f32⟩
  | 84 => ⟨S4x192x4096, .f32⟩
  | 85 => ⟨S4096x4x192, .f32⟩
  | 86 => ⟨S4096x768, .f32⟩
  | 87 => ⟨S1x768, .f32⟩
  | 88 => ⟨S4096x768, .f32⟩
  | 89 => ⟨S4096x768, .f32⟩
  | 90 => ⟨S4096x256, .f32⟩
  | 91 => ⟨S256x256, .f32⟩
  | 92 => ⟨S256x4x64, .f32⟩
  | 93 => ⟨S256x4x64, .f32⟩
  | 94 => ⟨S_, .f32⟩
  | 95 => ⟨S256x4, .f32⟩
  | 96 => ⟨S256x4x1, .f32⟩
  | 97 => ⟨S_, .f32⟩
  | 98 => ⟨S256x4x1, .f32⟩
  | 99 => ⟨S256x4x1, .f32⟩
  | 100 => ⟨S_, .f32⟩
  | 101 => ⟨S256x4x1, .f32⟩
  | 102 => ⟨S256x4x1, .f32⟩
  | 103 => ⟨S256x4x1, .f32⟩
  | 104 => ⟨S256x4x64, .f32⟩
  | 105 => ⟨S256x4x64, .f32⟩
  | 106 => ⟨S1x1x64, .f32⟩
  | 107 => ⟨S256x4x64, .f32⟩
  | 108 => ⟨S256x4x64, .f32⟩
  | 109 => ⟨S256x256, .f32⟩
  | 110 => ⟨S256x4x64, .f32⟩
  | 111 => ⟨S4096x4x64, .f32⟩
  | 112 => ⟨S4096x4x64, .f32⟩
  | 113 => ⟨S_, .f32⟩
  | 114 => ⟨S4096x4, .f32⟩
  | 115 => ⟨S4096x4x1, .f32⟩
  | 116 => ⟨S_, .f32⟩
  | 117 => ⟨S4096x4x1, .f32⟩
  | 118 => ⟨S4096x4x1, .f32⟩
  | 119 => ⟨S_, .f32⟩
  | 120 => ⟨S4096x4x1, .f32⟩
  | 121 => ⟨S4096x4x1, .f32⟩
  | 122 => ⟨S4096x4x1, .f32⟩
  | 123 => ⟨S4096x4x64, .f32⟩
  | 124 => ⟨S4096x4x64, .f32⟩
  | 125 => ⟨S1x1x64, .f32⟩
  | 126 => ⟨S4096x4x64, .f32⟩
  | 127 => ⟨S4096x4x64, .f32⟩
  | _ => ⟨S4096x1024, .f32⟩

abbrev hbmTy0_1 (i : Nat) : BufTy := match i % 128 with
  | 0 => ⟨S4x4096x256, .f32⟩
  | 1 => ⟨S_, .f32⟩
  | 2 => ⟨S4x4096x256, .f32⟩
  | 3 => ⟨S4x4096x256, .f32⟩
  | 4 => ⟨S_, .f32⟩
  | 5 => ⟨S4x4096, .f32⟩
  | 6 => ⟨S_, .f32⟩
  | 7 => ⟨S4x4096, .f32⟩
  | 8 => ⟨S4x4096, .f32⟩
  | 9 => ⟨S4x4096x1, .f32⟩
  | 10 => ⟨S4x4096x256, .f32⟩
  | 11 => ⟨S4x4096x256, .f32⟩
  | 12 => ⟨S4x4096x256, .f32⟩
  | 13 => ⟨S_, .f32⟩
  | 14 => ⟨S4x4096, .f32⟩
  | 15 => ⟨S4x4096x1, .f32⟩
  | 16 => ⟨S4x4096x256, .f32⟩
  | 17 => ⟨S4x4096x256, .f32⟩
  | 18 => ⟨S4x64x4096, .f32⟩
  | 19 => ⟨S4096x4x64, .f32⟩
  | 20 => ⟨S4096x256, .f32⟩
  | 21 => ⟨S4096x1024, .f32⟩
  | 22 => ⟨S4096x1024, .bf16⟩
  | 23 => ⟨S4096x256, .f32⟩
  | 24 => ⟨S256x256, .f32⟩
  | 25 => ⟨S256x4x64, .f32⟩
  | 26 => ⟨S256x4x64, .f32⟩
  | 27 => ⟨S_, .f32⟩
  | 28 => ⟨S256x4, .f32⟩
  | 29 => ⟨S256x4x1, .f32⟩
  | 30 => ⟨S_, .f32⟩
  | 31 => ⟨S256x4x1, .f32⟩
  | 32 => ⟨S256x4x1, .f32⟩
  | 33 => ⟨S_, .f32⟩
  | 34 => ⟨S256x4x1, .f32⟩
  | 35 => ⟨S256x4x1, .f32⟩
  | 36 => ⟨S256x4x1, .f32⟩
  | 37 => ⟨S256x4x64, .f32⟩
  | 38 => ⟨S256x4x64, .f32⟩
  | 39 => ⟨S1x1x64, .f32⟩
  | 40 => ⟨S256x4x64, .f32⟩
  | 41 => ⟨S256x4x64, .f32⟩
  | 42 => ⟨S256x256, .f32⟩
  | 43 => ⟨S256x4x64, .f32⟩
  | 44 => ⟨S4096x4x64, .f32⟩
  | 45 => ⟨S4096x4x64, .f32⟩
  | 46 => ⟨S_, .f32⟩
  | 47 => ⟨S4096x4, .f32⟩
  | 48 => ⟨S4096x4x1, .f32⟩
  | 49 => ⟨S_, .f32⟩
  | 50 => ⟨S4096x4x1, .f32⟩
  | 51 => ⟨S4096x4x1, .f32⟩
  | 52 => ⟨S_, .f32⟩
  | 53 => ⟨S4096x4x1, .f32⟩
  | 54 => ⟨S4096x4x1, .f32⟩
  | 55 => ⟨S4096x4x1, .f32⟩
  | 56 => ⟨S4096x4x64, .f32⟩
  | 57 => ⟨S4096x4x64, .f32⟩
  | 58 => ⟨S1x1x64, .f32⟩
  | 59 => ⟨S4096x4x64, .f32⟩
  | 60 => ⟨S4096x4x64, .f32⟩
  | 61 => ⟨S4x4096x256, .f32⟩
  | 62 => ⟨S_, .f32⟩
  | 63 => ⟨S4x4096x256, .f32⟩
  | 64 => ⟨S4x4096x256, .f32⟩
  | 65 => ⟨S_, .f32⟩
  | 66 => ⟨S4x4096, .f32⟩
  | 67 => ⟨S_, .f32⟩
  | 68 => ⟨S4x4096, .f32⟩
  | 69 => ⟨S4x4096, .f32⟩
  | 70 => ⟨S4x4096x1, .f32⟩
  | 71 => ⟨S4x4096x256, .f32⟩
  | 72 => ⟨S4x4096x256, .f32⟩
  | 73 => ⟨S4x4096x256, .f32⟩
  | 74 => ⟨S_, .f32⟩
  | 75 => ⟨S4x4096, .f32⟩
  | 76 => ⟨S4x4096x1, .f32⟩
  | 77 => ⟨S4x4096x256, .f32⟩
  | 78 => ⟨S4x4096x256, .f32⟩
  | 79 => ⟨S4096x4x256, .f32⟩
  | 80 => ⟨S4096x1024, .f32⟩
  | 81 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_c_3 : Ref sig .tc := ⟨.hbm, 25, rfl⟩
abbrev main_call1_v0 : Ref sig .tc := ⟨.hbm, 26, rfl⟩
abbrev main_call1_v1 : Ref sig .tc := ⟨.hbm, 27, rfl⟩
abbrev main_v12 : Ref sig .tc := ⟨.hbm, 28, rfl⟩
abbrev main_c_4 : Ref sig .tc := ⟨.hbm, 29, rfl⟩
abbrev main_call2_v0 : Ref sig .tc := ⟨.hbm, 30, rfl⟩
abbrev main_v13 : Ref sig .tc := ⟨.hbm, 31, rfl⟩
abbrev main_c_5 : Ref sig .tc := ⟨.hbm, 32, rfl⟩
abbrev main_call3_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_cst_20 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_22 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_23 : Ref sig .tc := ⟨.hbm, 155, rfl⟩
abbrev main_v118 : Ref sig .tc := ⟨.hbm, 156, rfl⟩
abbrev main_v119 : Ref sig .tc := ⟨.hbm, 157, rfl⟩
abbrev main_cst_24 : Ref sig .tc := ⟨.hbm, 158, rfl⟩
abbrev main_v120 : Ref sig .tc := ⟨.hbm, 159, rfl⟩
abbrev main_v121 : Ref sig .tc := ⟨.hbm, 160, rfl⟩
abbrev main_cst_25 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_26 : Ref sig .tc := ⟨.hbm, 174, rfl⟩
abbrev main_v134 : Ref sig .tc := ⟨.hbm, 175, rfl⟩
abbrev main_v135 : Ref sig .tc := ⟨.hbm, 176, rfl⟩
abbrev main_cst_27 : Ref sig .tc := ⟨.hbm, 177, rfl⟩
abbrev main_v136 : Ref sig .tc := ⟨.hbm, 178, rfl⟩
abbrev main_v137 : Ref sig .tc := ⟨.hbm, 179, rfl⟩
abbrev main_cst_28 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_29 : Ref sig .tc := ⟨.hbm, 190, rfl⟩
abbrev main_v147 : Ref sig .tc := ⟨.hbm, 191, rfl⟩
abbrev main_v148 : Ref sig .tc := ⟨.hbm, 192, rfl⟩
abbrev main_cst_30 : Ref sig .tc := ⟨.hbm, 193, rfl⟩
abbrev main_v149 : Ref sig .tc := ⟨.hbm, 194, rfl⟩
abbrev main_cst_31 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_32 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩

abbrev nD : Nat := 1
abbrev τ : Topo := Topo.v7x

variable {F : FTy → Type} [FloatOps F]
-- ==== Kernel15.lean ====
abbrev S4096x1024 : Shape := ⟨2, ![4096, 1024]⟩
abbrev S1024x4096 : Shape := ⟨2, ![1024, 4096]⟩
abbrev S1024x1024 : Shape := ⟨2, ![1024, 1024]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩

abbrev nBuf : Space → Nat
  | .hbm => 13
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .f32⟩
  | .hbm, ⟨5, _⟩ => ⟨S4x1024x1024, .f32⟩
  | .hbm, ⟨6, _⟩ => ⟨S1024x4x1024, .f32⟩
  | .hbm, ⟨7, _⟩ => ⟨S4x1024x1024, .f32⟩
  | .hbm, ⟨8, _⟩ => ⟨S4x256x1024, .f32⟩
  | .hbm, ⟨9, _⟩ => ⟨S4x256x1024, .f32⟩
  | .hbm, ⟨10, _⟩ => ⟨S4x2560x1024, .f32⟩
  | .hbm, ⟨11, _⟩ => ⟨S4x2560x1024, .bf16⟩
  | .hbm, ⟨12, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  let c0_i32_1 : BitVec 32 := 0#32
  ![c0_i32.toNat, c9_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x1024 : Shape := ⟨2, ![4096, 1024]⟩
abbrev S1024x4096 : Shape := ⟨2, ![1024, 4096]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Kernel16.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩
abbrev S4x1024x1024 : Shape := ⟨3, ![4, 1024, 1024]⟩
abbrev S1024x4x1024 : Shape := ⟨3, ![1024, 4, 1024]⟩
abbrev S4x256x1024 : Shape := ⟨3, ![4, 256, 1024]⟩
abbrev S4x2560x1024 : Shape := ⟨3, ![4, 2560, 1024]⟩
abbrev S512x1024 : Shape := ⟨2, ![512, 1024]⟩
abbrev S512x4096 : Shape := ⟨2, ![512, 4096]⟩

abbrev nBuf : Space → Nat
  | .hbm => 14
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .f32⟩
  | .hbm, ⟨6, _⟩ => ⟨S4x1024x1024, .f32⟩
  | .hbm, ⟨7, _⟩ => ⟨S1024x4x1024, .f32⟩
  | .hbm, ⟨8, _⟩ => ⟨S4x1024x1024, .f32⟩
  | .hbm, ⟨9, _⟩ => ⟨S4x256x1024, .f32⟩
  | .hbm, ⟨10, _⟩ => ⟨S4x256x1024, .f32⟩
  | .hbm, ⟨11, _⟩ => ⟨S4x2560x1024, .f32⟩
  | .hbm, ⟨12, _⟩ => ⟨S4x2560x1024, .bf16⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .f32⟩
  | .hbm, ⟨6, _⟩ => ⟨S4096x4096, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Kernel17.lean ====
abbrev S4096x4096 : Shape := ⟨2, ![4096, 4096]⟩
abbrev S4096x1024 : Shape := ⟨2, ![4096, 1024]⟩
abbrev S4x2560x1024 : Shape := ⟨3, ![4, 2560, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2560x1024, .f32⟩
  | .hbm, ⟨3, _⟩ => ⟨S4x2560x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference17Ideal.lean ====
abbrev S4096x4096 : Shape := ⟨2, ![4096, 4096]⟩
abbrev S4096x1024 : Shape := ⟨2, ![4096, 1024]⟩
abbrev S4x2560x1024 : Shape := ⟨3, ![4, 2560, 1024]⟩
abbrev S_ : Shape := ⟨0, ![]⟩
abbrev S1024x4096 : Shape := ⟨2, ![1024, 4096]⟩
abbrev S4x1024x1024 : Shape := ⟨3, ![4, 1024, 1024]⟩
abbrev S4x1536x1024 : Shape := ⟨3, ![4, 1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2560x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x1536x1024, .f32⟩
  | .hbm, ⟨12, _⟩ => ⟨S4x2560x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel18.lean ====
abbrev S4x512x512 : Shape := ⟨3, ![4, 512, 512]⟩
abbrev S256x512 : Shape := ⟨2, ![256, 512]⟩
abbrev S1x256x512 : Shape := ⟨3, ![1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S1x256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c1_i32_11 : BitVec 32 := 1#32
  let v28 : BitVec 32 := Scalar.addi c1_i32_11 v27
  let c0_i32_12 : BitVec 32 := 0#32
  let c0_i32_13 : BitVec 32 := 0#32
  ![v17.toNat, v28.toNat, c0_i32_12.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S4x512x512 : Shape := ⟨3, ![4, 512, 512]⟩
abbrev S256x512 : Shape := ⟨2, ![256, 512]⟩
abbrev S1x256x512 : Shape := ⟨3, ![1, 256, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S1x256x512, .f32⟩
  | .hbm, ⟨5, _⟩ => ⟨S256x512, .f32⟩
  | .hbm, ⟨6, _⟩ => ⟨S_, .f32⟩
  | .hbm, ⟨7, _⟩ => ⟨S256x512, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256x512, .f32⟩
  | .hbm, ⟨38, _⟩ => ⟨S256x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel19.lean ====
abbrev S4096x1024 : Shape := ⟨2, ![4096, 1024]⟩
abbrev S256x512 : Shape := ⟨2, ![256, 512]⟩
abbrev S4x192x192 : Shape := ⟨3, ![4, 192, 192]⟩
abbrev S768 : Shape := ⟨1, ![768]⟩
abbrev S64 : Shape := ⟨1, ![64]⟩
abbrev S1x64 : Shape := ⟨2, ![1, 64]⟩
abbrev S4096x256 : Shape := ⟨2, ![4096, 256]⟩
abbrev S256x256 : Shape := ⟨2, ![256, 256]⟩
abbrev S256x4x64 : Shape := ⟨3, ![256, 4, 64]⟩
abbrev S_ : Shape := ⟨0, ![]⟩
abbrev S256x4 : Shape := ⟨2, ![256, 4]⟩
abbrev S256x4x1 : Shape := ⟨3, ![256, 4, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4096x4x256 : Shape := ⟨3, ![4096, 4, 256]⟩
abbrev S4x4 : Shape := ⟨2, ![4, 4]⟩
abbrev S4x1x4x1 : Shape := ⟨4, ![4, 1, 4, 1]⟩
abbrev S4x192x1x192 : Shape := ⟨4, ![4, 192, 1, 192]⟩
abbrev S4x192x4x192 : Shape := ⟨4, ![4, 192, 4, 192]⟩
abbrev S768x768 : Shape := ⟨2, ![768, 768]⟩
abbrev S1x768 : Shape := ⟨2, ![1, 768]⟩
abbrev S1024x768 : Shape := ⟨2, ![1024, 768]⟩
abbrev S16x768 : Shape := ⟨2, ![16, 768]⟩
abbrev S1024x256 : Shape := ⟨2, ![1024, 256]⟩
abbrev S1024x1024 : Shape := ⟨2, ![1024, 1024]⟩
abbrev S256x64 : Shape := ⟨2, ![256, 64]⟩
abbrev S256 : Shape := ⟨1, ![256]⟩
abbrev S256x1 : Shape := ⟨2, ![256, 1]⟩
abbrev S1040x768 : Shape := ⟨2, ![1040, 768]⟩
abbrev S1024x64 : Shape := ⟨2, ![1024, 64]⟩
abbrev S1024 : Shape := ⟨1, ![1024]⟩
abbrev S1024x1 : Shape := ⟨2, ![1024, 1]⟩

abbrev nBuf : Space → Nat
  | .hbm => 89
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S256x512, .f32⟩
  | .hbm, ⟨3, _⟩ => ⟨S4x192x192, .f32⟩
  | .hbm, ⟨4, _⟩ => ⟨S768, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S4096x256, .f32⟩
  | .hbm, ⟨10, _⟩ => ⟨S256x256, .f32⟩
  | .hbm, ⟨11, _⟩ => ⟨S256x4x64, .f32⟩
  | .hbm, ⟨12, _⟩ => ⟨S256x4x64, .f32⟩
  | .hbm, ⟨13, _⟩ => ⟨S_, .f32⟩
  | .hbm, ⟨14, _⟩ => ⟨S256x4, .f32⟩
  | .hbm, ⟨15, _⟩ => ⟨S256x4x1, .f32⟩
  | .hbm, ⟨16, _⟩ => ⟨S_, .f32⟩
  | .hbm, ⟨17, _⟩ => ⟨S256x4x1, .f32⟩
  | .hbm, ⟨18, _⟩ => ⟨S256x4x1, .f32⟩
  | .hbm, ⟨19, _⟩ => ⟨S_, .f32⟩
  | .hbm, ⟨20, _⟩ => ⟨S256x4x1, .f32⟩
  | .hbm, ⟨21, _⟩ => ⟨S256x4x1, .f32⟩
  | .hbm, ⟨22, _⟩ => ⟨S256x4x1, .f32⟩
  | .hbm, ⟨23, _⟩ => ⟨S256x4x64, .f32⟩
  | .hbm, ⟨24, _⟩ => ⟨S256x4x64, .f32⟩
  | .hbm, ⟨25, _⟩ => ⟨S1x1x64, .f32⟩
  | .hbm, ⟨26, _⟩ => ⟨S256x4x64, .f32⟩
  | .hbm, ⟨27, _⟩ => ⟨S256x4x64, .f32⟩
  | .hbm, ⟨28, _⟩ => ⟨S256x256, .f32⟩
  | .hbm, ⟨29, _⟩ => ⟨S256x4x64, .f32⟩
  | .hbm, ⟨30, _⟩ => ⟨S4096x4x64, .f32⟩
  | .hbm, ⟨31, _⟩ => ⟨S4096x4x64, .f32⟩
  | .hbm, ⟨32, _⟩ => ⟨S_, .f32⟩
  | .hbm, ⟨33, _⟩ => ⟨S4096x4, .f32⟩
  | .hbm, ⟨34, _⟩ => ⟨S4096x4x1, .f32⟩
  | .hbm, ⟨35, _⟩ => ⟨S_, .f32⟩
  | .hbm, ⟨36, _⟩ => ⟨S4096x4x1, .f32⟩
  | .hbm, ⟨37, _⟩ => ⟨S4096x4x1, .f32⟩
  | .hbm, ⟨38, _⟩ => ⟨S_, .f32⟩
  | .hbm, ⟨39, _⟩ => ⟨S4096x4x1, .f32⟩
  | .hbm, ⟨40, _⟩ => ⟨S4096x4x1, .f32⟩
  | .hbm, ⟨41, _⟩ => ⟨S4096x4x1, .f32⟩
  | .hbm, ⟨42, _⟩ => ⟨S4096x4x64, .f32⟩
  | .hbm, ⟨43, _⟩ => ⟨S4096x4x64, .f32⟩
  | .hbm, ⟨44, _⟩ => ⟨S1x1x64, .f32⟩
  | .hbm, ⟨45, _⟩ => ⟨S4096x4x64, .f32⟩
  | .hbm, ⟨46, _⟩ => ⟨S4096x4x64, .f32⟩
  | .hbm, ⟨47, _⟩ => ⟨S4x4096x256, .f32⟩
  | .hbm, ⟨48, _⟩ => ⟨S_, .f32⟩
  | .hbm, ⟨49, _⟩ => ⟨S4x4096x256, .f32⟩
  | .hbm, ⟨50, _⟩ => ⟨S4x4096x256, .f32⟩
  | .hbm, ⟨51, _⟩ => ⟨S_, .f32⟩
  | .hbm, ⟨52, _⟩ => ⟨S4x4096, .f32⟩
  | .hbm, ⟨53, _⟩ => ⟨S_, .f32⟩
  | .hbm, ⟨54, _⟩ => ⟨S4x4096, .f32⟩
  | .hbm, ⟨55, _⟩ => ⟨S4x4096, .f32⟩
  | .hbm, ⟨56, _⟩ => ⟨S4x4096x1, .f32⟩
  | .hbm, ⟨57, _⟩ => ⟨S4x4096x256, .f32⟩
  | .hbm, ⟨58, _⟩ => ⟨S4x4096x256, .f32⟩
  | .hbm, ⟨59, _⟩ => ⟨S4x4096x256, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S4x4096x256, .f32⟩
  | .hbm, ⟨64, _⟩ => ⟨S4x4096x256, .f32⟩
  | .hbm, ⟨65, _⟩ => ⟨S4096x4x256, .f32⟩
  | .hbm, ⟨66, _⟩ => ⟨S4096x1024, .f32⟩
  | .hbm, ⟨67, _⟩ => ⟨S4096x1024, .bf16⟩
  | .hbm, ⟨68, _⟩ => ⟨S4x4, .i32⟩
  | .hbm, ⟨69, _⟩ => ⟨S4x4, .i32⟩
  | .hbm, ⟨70, _⟩ => ⟨S_, .i32⟩
  | .hbm, ⟨71, _⟩ => ⟨S4x4, .i32⟩
  | .hbm, ⟨72, _⟩ => ⟨S4x4, .i32⟩
  | .hbm, ⟨73, _⟩ => ⟨S4x4, .i1⟩
  | .hbm, ⟨74, _⟩ => ⟨S4x4, .f32⟩
  | .hbm, ⟨75, _⟩ => ⟨S4x1x4x1, .f32⟩
  | .hbm, ⟨76, _⟩ => ⟨S4x192x1x192, .f32⟩
  | .hbm, ⟨77, _⟩ => ⟨S4x192x4x192, .f32⟩
  | .hbm, ⟨78, _⟩ => ⟨S4x192x4x192, .f32⟩
  | .hbm, ⟨79, _⟩ => ⟨S4x192x4x192, .f32⟩
  | .hbm, ⟨80, _⟩ => ⟨S768x768, .f32⟩
  | .hbm, ⟨81, _⟩ => ⟨S768x768, .bf16⟩
  | .hbm, ⟨82, _⟩ => ⟨S1x768, .f32⟩
  | .hbm, ⟨83, _⟩ => ⟨S4096x1024, .bf16⟩
  | .hbm, ⟨84, _⟩ => ⟨S768x768, .f32⟩
  | .hbm, ⟨85, _⟩ => ⟨S1x768, .f32⟩
  | .hbm, ⟨86, _⟩ => ⟨S256x512, .f32⟩
  | .hbm, ⟨87, _⟩ => ⟨S1x64, .f32⟩
  | .hbm, ⟨88, _⟩ => ⟨S1x64, .f32⟩
  | .local _ .vmem, ⟨0, _⟩ => ⟨S1024x768, .f32⟩
  | .local _ .vmem, ⟨1, _⟩ => ⟨S1024x768, .f32⟩
  | .local _ .vmem, ⟨2, _⟩ => ⟨S16x768, .f32⟩
  | .local _ .vmem, ⟨3, _⟩ => ⟨S16x768, .f32⟩
  | .local _ .vmem, ⟨4, _⟩ => ⟨S1024x256, .f32⟩
  | .local _ .vmem, ⟨5, _⟩ => ⟨S1024x256, .f32⟩
  | .local _ .vmem, ⟨6, _⟩ => ⟨S1024x768, .f32⟩
  | .local _ .vmem, ⟨7, _⟩ => ⟨S1024x768, .f32⟩
  | .local _ .vmem, ⟨8, _⟩ => ⟨S16x768, .f32⟩
  | .local _ .vmem, ⟨9, _⟩ => ⟨S16x768, .f32⟩
  | .local _ .vmem, ⟨10, _⟩ => ⟨S1024x256, .f32⟩
  | .local _ .vmem, ⟨11, _⟩ => ⟨S1024x256, .f32⟩
  | .local _ .vmem, ⟨12, _⟩ => ⟨S256x512, .f32⟩
  | .local _ .vmem, ⟨13, _⟩ => ⟨S768x768, .bf16⟩
  | .local _ .vmem, ⟨14, _⟩ => ⟨S1x768, .f32⟩
  | .local _ .vmem, ⟨15, _⟩ => ⟨S1x64, .f32⟩
  | .local _ .vmem, ⟨16, _⟩ => ⟨S1x64, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S768x768, .f32⟩
  | .local _ .vmem, ⟨22, _⟩ => ⟨S1x768, .f32⟩
  | .local _ .vmem, ⟨23, _⟩ => ⟨S256x512, .f32⟩
  | .local _ .vmem, ⟨24, _⟩ => ⟨S1x64, .f32⟩
  | .local _ .vmem, ⟨25, _⟩ => ⟨S1x64, .f32⟩
  | .local _ .vmem, ⟨26, _⟩ => ⟨S256x256, .bf16⟩
  | .local _ .vmem, ⟨27, _⟩ => ⟨S256x256, .bf16⟩
  | .local _ .vmem, ⟨28, _⟩ => ⟨S256x256, .f32⟩
  | .local _ .vmem, ⟨29, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65_0 : Ref sig .tc := ⟨.hbm, 83, rfl⟩
abbrev main_v65_1 : Ref sig .tc := ⟨.hbm, 84, rfl⟩
abbrev main_v65_2 : Ref sig .tc := ⟨.hbm, 85, rfl⟩
abbrev main_v65_3 : Ref sig .tc := ⟨.hbm, 86, rfl⟩
abbrev main_v65_4 : Ref sig .tc := ⟨.hbm, 87, rfl⟩
abbrev main_v65_5 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_134 : BitVec 32 := 3#32
  let v383 : BitVec 1 := Scalar.cmpi .eq arg0 c3_i32_134
  let v384 : BitVec 32 := Scalar.extui v383
  let c0_i32_135 : BitVec 32 := 0#32
  let v385 : BitVec 1 := Scalar.cmpi .ne v384 c0_i32_135
  v385

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S768x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference19Ideal.lean ====
abbrev S4096x1024 : Shape := ⟨2, ![4096, 1024]⟩
abbrev S256x512 : Shape := ⟨2, ![256, 512]⟩
abbrev S4x192x192 : Shape := ⟨3, ![4, 192, 192]⟩
abbrev S768 : Shape := ⟨1, ![768]⟩
abbrev S64 : Shape := ⟨1, ![64]⟩
abbrev S4096x256 : Shape := ⟨2, ![4096, 256]⟩
abbrev S256x256 : Shape := ⟨2, ![256, 256]⟩
abbrev S256x4x64 : Shape := ⟨3, ![256, 4, 64]⟩
abbrev S_ : Shape := ⟨0, ![]⟩
abbrev S256x4 : Shape := ⟨2, ![256, 4]⟩
abbrev S256x4x1 : Shape := ⟨3, ![256, 4, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩
abbrev S4096x768 : Shape := ⟨2, ![4096, 768]⟩
abbrev S4096x4x192 : Shape := ⟨3, ![4096, 4, 192]⟩
abbrev S1x4x192 : Shape := ⟨3, ![1, 4, 192]⟩
abbrev S4097x4x192 : Shape := ⟨3, ![4097, 4, 192]⟩
abbrev S4 : Shape := ⟨1, ![4]⟩
abbrev S4096 : Shape := ⟨1, ![4096]⟩
abbrev S4096x1 : Shape := ⟨2, ![4096, 1]⟩
abbrev S1x4 : Shape := ⟨2, ![1, 4]⟩
abbrev S4096x4x2 : Shape := ⟨3, ![4096, 4, 2]⟩
abbrev S768x768 : Shape := ⟨2, ![768, 768]⟩
abbrev S1x768 : Shape := ⟨2, ![1, 768]⟩
abbrev S4x192x4096 : Shape := ⟨3, ![4, 192, 4096]⟩
abbrev S1x64 : Shape := ⟨2, ![1, 64]⟩

abbrev nBuf : Space → Nat
  | .hbm => 288
  | .vmem => 0
  | .smem => 0
  | _ => 0

abbrev hbmTy0_0 (i : Nat) : BufTy := match i % 128 with
  | 0 => ⟨S4096x1024, .f32⟩
  | 1 => ⟨S4096x1024, .f32⟩
  | 2 => ⟨S256x512, .f32⟩
  | 3 => ⟨S4x192x192, .f32⟩
  | 4 => ⟨S768, .f32⟩
  | 5 => ⟨S64, .f32⟩
  | 6 => ⟨S64, .f32⟩
  | 7 => ⟨S4096x256, .f32⟩
  | 8 => ⟨S256x256, .f32⟩
  | 9 => ⟨S256x4x64, .f32⟩
  | 10 => ⟨S256x4x64, .f32⟩
  | 11 => ⟨S_, .f32⟩
  | 12 => ⟨S256x4, .f32⟩
  | 13 => ⟨S256x4x1, .f32⟩
  | 14 => ⟨S_, .f32⟩
  | 15 => ⟨S256x4x1, .f32⟩
  | 16 => ⟨S256x4x1, .f32⟩
  | 17 => ⟨S_, .f32⟩
  | 18 => ⟨S256x4x1, .f32⟩
  | 19 => ⟨S256x4x1, .f32⟩
  | 20 => ⟨S256x4x1, .f32⟩
  | 21 => ⟨S256x4x1, .f32⟩
  | 22 => ⟨S_, .f32⟩
  | 23 => ⟨S256x4x1, .f32⟩
  | 24 => ⟨S256x4x1, .f32⟩
  | 25 => ⟨S256x4x64, .f32⟩
  | 26 => ⟨S256x4x64, .f32⟩
  | 27 => ⟨S1x1x64, .f32⟩
  | 28 => ⟨S256x4x64, .f32⟩
  | 29 => ⟨S256x4x64, .f32⟩
  | 30 => ⟨S256x256, .f32⟩
  | 31 => ⟨S256x4x64, .f32⟩
  | 32 => ⟨S4096x4x64, .f32⟩
  | 33 => ⟨S4096x4x64, .f32⟩
  | 34 => ⟨S_, .f32⟩
  | 35 => ⟨S4096x4, .f32⟩
  | 36 => ⟨S4096x4x1, .f32⟩
  | 37 => ⟨S_, .f32⟩
  | 38 => ⟨S4096x4x1, .f32⟩
  | 39 => ⟨S4096x4x1, .f32⟩
  | 40 => ⟨S_, .f32⟩
  | 41 => ⟨S4096x4x1, .f32⟩
  | 42 => ⟨S4096x4x1, .f32⟩
  | 43 => ⟨S4096x4x1, .f32⟩
  | 44 => ⟨S4096x4x1, .f32⟩
  | 45 => ⟨S_, .f32⟩
  | 46 => ⟨S4096x4x1, .f32⟩
  | 47 => ⟨S4096x4x1, .f32⟩
  | 48 => ⟨S4096x4x64, .f32⟩
  | 49 => ⟨S4096x4x64, .f32⟩
  | 50 => ⟨S1x1x64, .f32⟩
  | 51 => ⟨S4096x4x64, .f32⟩
  | 52 => ⟨S4096x4x64, .f32⟩
  | 53 => ⟨S4x4096x256, .f32⟩
  | 54 => ⟨S_, .f32⟩
  | 55 => ⟨S4x4096x256, .f32⟩
  | 56 => ⟨S4x4096x256, .f32⟩
  | 57 => ⟨S_, .f32⟩
  | 58 => ⟨S4x4096, .f32⟩
  | 59 => ⟨S4x4096x1, .f32⟩
  | 60 => ⟨S4x4096x256, .f32⟩
  | 61 => ⟨S4x4096x256, .i1⟩
  | 62 => ⟨S4x4096x256, .f32⟩
  | 63 => ⟨S_, .f32⟩
  | 64 => ⟨S4x4096, .f32⟩
  | 65 => ⟨S_, .f32⟩
  | 66 => ⟨S4x4096, .f32⟩
  | 67 => ⟨S4x4096, .f32⟩
  | 68 => ⟨S_, .f32⟩
  | 69 => ⟨S4x4096, .f32⟩
  | 70 => ⟨S4x4096, .i1⟩
  | 71 => ⟨S_, .f32⟩
  | 72 => ⟨S4x4096, .f32⟩
  | 73 => ⟨S4x4096, .i1⟩
  | 74 => ⟨S_, .f32⟩
  | 75 => ⟨S4x4096, .f32⟩
  | 76 => ⟨S_, .f32⟩
  | 77 => ⟨S4x4096, .f32⟩
  | 78 => ⟨S_, .f32⟩
  | 79 => ⟨S4x4096, .f32⟩
  | 80 => ⟨S4x4096, .f32⟩
  | 81 => ⟨S4x4096, .f32⟩
  | 82 => ⟨S4x4096x1, .f32⟩
  | 83 => ⟨S4x4096x256, .f32⟩
  | 84 => ⟨S4x4096x256, .f32⟩
  | 85 => ⟨S4x4096x256, .f32⟩
  | 86 => ⟨S_, .f32⟩
  | 87 => ⟨S4x4096, .f32⟩
  | 88 => ⟨S4x4096x1, .f32⟩
  | 89 => ⟨S4x4096x256, .f32⟩
  | 90 => ⟨S4x4096x256, .f32⟩
  | 91 => ⟨S4x4096x1, .f32⟩
  | 92 => ⟨S_, .f32⟩
  | 93 => ⟨S4x4096x1, .f32⟩
  | 94 => ⟨S4x4096x1, .f32⟩
  | 95 => ⟨S4x64x4096, .f32⟩
  | 96 => ⟨S4096x4x64, .f32⟩
  | 97 => ⟨S4096x256, .f32⟩
  | 98 => ⟨S4096x256, .f32⟩
  | 99 => ⟨S4096x4x64, .f32⟩
  | 100 => ⟨S4x64x4096, .f32⟩
  | 101 => ⟨S4x4096x256, .f32⟩
  | 102 => ⟨S4x64x256, .f32⟩
  | 103 => ⟨S256x4x64, .f32⟩
  | 104 => ⟨S4x4096x256, .f32⟩
  | 105 => ⟨S4x4096x256, .f32⟩
  | 106 => ⟨S4x4096x256, .f32⟩
  | 107 => ⟨S_, .f32⟩
  | 108 => ⟨S4x4096, .f32⟩
  | 109 => ⟨S4x4096x1, .f32⟩
  | 110 => ⟨S4x4096x1, .f32⟩
  | 111 => ⟨S4x4096x256, .f32⟩
  | 112 => ⟨S4x4096x256, .f32⟩
  | 113 => ⟨S_, .f32⟩
  | 114 => ⟨S4x4096, .f32⟩
  | 115 => ⟨S4x4096x256, .f32⟩
  | 116 => ⟨S4x4096x256, .f32⟩
  | 117 => ⟨S4x4096x256, .f32⟩
  | 118 => ⟨S_, .f32⟩
  | 119 => ⟨S4x4096x256, .f32⟩
  | 120 => ⟨S4x4096x256, .f32⟩
  | 121 => ⟨S4x256x64, .f32⟩
  | 122 => ⟨S256x4x64, .f32⟩
  | 123 => ⟨S4x4096x64, .f32⟩
  | 124 => ⟨S4096x4x64, .f32⟩
  | 125 => ⟨S4096x4x64, .f32⟩
  | 126 => ⟨S_, .f32⟩
  | 127 => ⟨S64, .f32⟩
  | _ => ⟨S4096x1024, .f32⟩

abbrev hbmTy0_1 (i : Nat) : BufTy := match i % 128 with
  | 0 => ⟨S1x1x64, .f32⟩
  | 1 => ⟨S4096x4x64, .f32⟩
  | 2 => ⟨S4096x4x64, .f32⟩
  | 3 => ⟨S_, .f32⟩
  | 4 => ⟨S64, .f32⟩
  | 5 => ⟨S4096x4x64, .f32⟩
  | 6 => ⟨S_, .f32⟩
  | 7 => ⟨S4096x4, .f32⟩
  | 8 => ⟨S4096x4x1, .f32⟩
  | 9 => ⟨S4096x4x64, .f32⟩
  | 10 => ⟨S4096x4x64, .f32⟩
  | 11 => ⟨S4096x4x1, .f32⟩
  | 12 => ⟨S_, .f32⟩
  | 13 => ⟨S4096x4x1, .f32⟩
  | 14 => ⟨S4096x4x1, .f32⟩
  | 15 => ⟨S_, .f32⟩
  | 16 => ⟨S4096x4, .f32⟩
  | 17 => ⟨S4096x4x64, .f32⟩
  | 18 => ⟨S4096x4x64, .f32⟩
  | 19 => ⟨S4096x4x64, .f32⟩
  | 20 => ⟨S4096x4x64, .f32⟩
  | 21 => ⟨S4096x4x64, .f32⟩
  | 22 => ⟨S4096x256, .f32⟩
  | 23 => ⟨S256x256, .f32⟩
  | 24 => ⟨S_, .f32⟩
  | 25 => ⟨S256x512, .f32⟩
  | 26 => ⟨S256x4x64, .f32⟩
  | 27 => ⟨S_, .f32⟩
  | 28 => ⟨S64, .f32⟩
  | 29 => ⟨S1x1x64, .f32⟩
  | 30 => ⟨S256x4x64, .f32⟩
  | 31 => ⟨S256x4x64, .f32⟩
  | 32 => ⟨S_, .f32⟩
  | 33 => ⟨S64, .f32⟩
  | 34 => ⟨S256x4x64, .f32⟩
  | 35 => ⟨S_, .f32⟩
  | 36 => ⟨S256x4, .f32⟩
  | 37 => ⟨S256x4x1, .f32⟩
  | 38 => ⟨S256x4x64, .f32⟩
  | 39 => ⟨S256x4x64, .f32⟩
  | 40 => ⟨S256x4x1, .f32⟩
  | 41 => ⟨S_, .f32⟩
  | 42 => ⟨S256x4x1, .f32⟩
  | 43 => ⟨S256x4x1, .f32⟩
  | 44 => ⟨S_, .f32⟩
  | 45 => ⟨S256x4, .f32⟩
  | 46 => ⟨S256x4x64, .f32⟩
  | 47 => ⟨S256x4x64, .f32⟩
  | 48 => ⟨S256x4x64, .f32⟩
  | 49 => ⟨S256x4x64, .f32⟩
  | 50 => ⟨S256x4x64, .f32⟩
  | 51 => ⟨S256x256, .f32⟩
  | 52 => ⟨S_, .f32⟩
  | 53 => ⟨S256x512, .f32⟩
  | 54 => ⟨S256x512, .f32⟩
  | 55 => ⟨S4096x768, .f32⟩
  | 56 => ⟨S4096x768, .f32⟩
  | 57 => ⟨S4096x4x192, .f32⟩
  | 58 => ⟨S_, .f32⟩
  | 59 => ⟨S1x4x192, .f32⟩
  | 60 => ⟨S_, .f32⟩
  | 61 => ⟨S_, .f32⟩
  | 62 => ⟨S4096x4x192, .f32⟩
  | 63 => ⟨S4097x4x192, .f32⟩
  | 64 => ⟨S4, .i32⟩
  | 65 => ⟨S_, .i32⟩
  | 66 => ⟨S4, .i32⟩
  | 67 => ⟨S4, .i1⟩
  | 68 => ⟨S_, .i32⟩
  | 69 => ⟨S4, .i32⟩
  | 70 => ⟨S4, .i1⟩
  | 71 => ⟨S_, .i32⟩
  | 72 => ⟨S4, .i32⟩
  | 73 => ⟨S4, .i1⟩
  | 74 => ⟨S_, .i32⟩
  | 75 => ⟨S_, .i32⟩
  | 76 => ⟨S4, .i32⟩
  | 77 => ⟨S4, .i32⟩
  | 78 => ⟨S4, .i32⟩
  | 79 => ⟨S_, .i32⟩
  | 80 => ⟨S4, .i32⟩
  | 81 => ⟨S4, .i32⟩
  | 82 => ⟨S_, .i32⟩
  | 83 => ⟨S4, .i32⟩
  | 84 => ⟨S4, .i32⟩
  | 85 => ⟨S4096, .i32⟩
  | 86 => ⟨S4096x1, .i32⟩
  | 87 => ⟨S_, .i32⟩
  | 88 => ⟨S4096x1, .i32⟩
  | 89 => ⟨S4096x1, .i32⟩
  | 90 => ⟨S1x4, .i32⟩
  | 91 => ⟨S1x4, .i32⟩
  | 92 => ⟨S4096x4, .i32⟩
  | 93 => ⟨S4096x4, .i32⟩
  | 94 => ⟨S4096x4, .i32⟩
  | 95 => ⟨S_, .i32⟩
  | 96 => ⟨S4096x4, .i32⟩
  | 97 => ⟨S4096x4, .i32⟩
  | 98 => ⟨S_, .i32⟩
  | 99 => ⟨S4096x1, .i32⟩
  | 100 => ⟨S4096x1, .i32⟩
  | 101 => ⟨S1x4, .i32⟩
  | 102 => ⟨S1x4, .i32⟩
  | 103 => ⟨S4096x4, .i32⟩
  | 104 => ⟨S4096x4, .i32⟩
  | 105 => ⟨S4096x4, .i32⟩
  | 106 => ⟨S4096x4, .f32⟩
  | 107 => ⟨S4096x4x192, .f32⟩
  | 108 => ⟨S4, .i32⟩
  | 109 => ⟨S1x4, .i32⟩
  | 110 => ⟨S_, .i32⟩
  | 111 => ⟨S4096x4, .i32⟩
  | 112 => ⟨S4096x4, .i1⟩
  | 113 => ⟨S_, .i32⟩
  | 114 => ⟨S4096x4, .i32⟩
  | 115 => ⟨S4096x4, .i32⟩
  | 116 => ⟨S4096x4, .i32⟩
  | 117 => ⟨S_, .i32⟩
  | 118 => ⟨S1x4, .i32⟩
  | 119 => ⟨S1x4, .i1⟩
  | 120 => ⟨S_, .i32⟩
  | 121 => ⟨S1x4, .i32⟩
  | 122 => ⟨S1x4, .i32⟩
  | 123 => ⟨S1x4, .i32⟩
  | 124 => ⟨S4096x4, .i32⟩
  | 125 => ⟨S4096x4x1, .i32⟩
  | 126 => ⟨S4096x4x1, .i32⟩
  | 127 => ⟨S4096x4x2, .i32⟩
  | _ => ⟨S4096x1024, .f32⟩

abbrev hbmTy0_2 (i : Nat) : BufTy := match i % 128 with
  | 0 => ⟨S4096x4x192, .f32⟩
  | 1 => ⟨S4096x4x192, .f32⟩
  | 2 => ⟨S4096x4x1, .f32⟩
  | 3 => ⟨S4096x4x192, .f32⟩
  | 4 => ⟨S4096x4x192, .f32⟩
  | 5 => ⟨S4096x4x192, .f32⟩
  | 6 => ⟨S_, .f32⟩
  | 7 => ⟨S768x768, .f32⟩
  | 8 => ⟨S4096x768, .f32⟩
  | 9 => ⟨S4096x768, .f32⟩
  | 10 => ⟨S1x768, .f32⟩
  | 11 => ⟨S4096x768, .f32⟩
  | 12 => ⟨S4096x768, .f32⟩
  | 13 => ⟨S4096x768, .f32⟩
  | 14 => ⟨S4096x768, .f32⟩
  | 15 => ⟨S768x768, .f32⟩
  | 16 => ⟨S768x768, .f32⟩
  | 17 => ⟨S4x192x4096, .f32⟩
  | 18 => ⟨S4096x4x192, .f32⟩
  | 19 => ⟨S4096x768, .f32⟩
  | 20 => ⟨S1x768, .f32⟩
  | 21 => ⟨S4096x768, .f32⟩
  | 22 => ⟨S4096x768, .f32⟩
  | 23 => ⟨S4096x768, .f32⟩
  | 24 => ⟨S_, .f32⟩
  | 25 => ⟨S768, .f32⟩
  | 26 => ⟨S1x768, .f32⟩
  | 27 => ⟨S_, .f32⟩
  | 28 => ⟨S768, .f32⟩
  | 29 => ⟨S1x768, .f32⟩
  | 30 => ⟨S1x64, .f32⟩
  | 31 => ⟨S1x64, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_18 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_19 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_20 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_21 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_22 : Ref sig .tc := ⟨.hbm, 131, rfl⟩
abbrev main_v101 : Ref sig .tc := ⟨.hbm, 132, rfl⟩
abbrev main_v102 : Ref sig .tc := ⟨.hbm, 133, rfl⟩
abbrev main_cst_23 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_24 : Ref sig .tc := ⟨.hbm, 140, rfl⟩
abbrev main_v108 : Ref sig .tc := ⟨.hbm, 141, rfl⟩
abbrev main_v109 : Ref sig .tc := ⟨.hbm, 142, rfl⟩
abbrev main_cst_25 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_26 : Ref sig .tc := ⟨.hbm, 152, rfl⟩
abbrev main_v118 : Ref sig .tc := ⟨.hbm, 153, rfl⟩
abbrev main_v119 : Ref sig .tc := ⟨.hbm, 154, rfl⟩
abbrev main_cst_27 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_28 : Ref sig .tc := ⟨.hbm, 160, rfl⟩
abbrev main_v124 : Ref sig .tc := ⟨.hbm, 161, rfl⟩
abbrev main_v125 : Ref sig .tc := ⟨.hbm, 162, rfl⟩
abbrev main_cst_29 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_30 : Ref sig .tc := ⟨.hbm, 169, rfl⟩
abbrev main_v131 : Ref sig .tc := ⟨.hbm, 170, rfl⟩
abbrev main_v132 : Ref sig .tc := ⟨.hbm, 171, rfl⟩
abbrev main_cst_31 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_32 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_33 : Ref sig .tc := ⟨.hbm, 186, rfl⟩
abbrev main_v145 : Ref sig .tc := ⟨.hbm, 187, rfl⟩
abbrev main_call0_call0_cst : Ref sig .tc := ⟨.hbm, 188, rfl⟩
abbrev main_call0_call0_v0 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c : Ref sig .tc := ⟨.hbm, 193, rfl⟩
abbrev main_v149 : Ref sig .tc := ⟨.hbm, 194, rfl⟩
abbrev main_v150 : Ref sig .tc := ⟨.hbm, 195, rfl⟩
abbrev main_c_34 : Ref sig .tc := ⟨.hbm, 196, rfl⟩
abbrev main_v151 : Ref sig .tc := ⟨.hbm, 197, rfl⟩
abbrev main_v152 : Ref sig .tc := ⟨.hbm, 198, rfl⟩
abbrev main_c_35 : Ref sig .tc := ⟨.hbm, 199, rfl⟩
abbrev main_v153 : Ref sig .tc := ⟨.hbm, 200, rfl⟩
abbrev main_v154 : Ref sig .tc := ⟨.hbm, 201, rfl⟩
abbrev main_c_36 : Ref sig .tc := ⟨.hbm, 202, rfl⟩
abbrev main_c_37 : Ref sig .tc := ⟨.hbm, 203, rfl⟩
abbrev main_call1_v0 : Ref sig .tc := ⟨.hbm, 204, rfl⟩
abbrev main_call1_v1 : Ref sig .tc := ⟨.hbm, 205, rfl⟩
abbrev main_v155 : Ref sig .tc := ⟨.hbm, 206, rfl⟩
abbrev main_c_38 : Ref sig .tc := ⟨.hbm, 207, rfl⟩
abbrev main_call2_v0 : Ref sig .tc := ⟨.hbm, 208, rfl⟩
abbrev main_v156 : Ref sig .tc := ⟨.hbm, 209, rfl⟩
abbrev main_c_39 : Ref sig .tc := ⟨.hbm, 210, rfl⟩
abbrev main_call3_v0 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_c_40 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_c_41 : Ref sig .tc := ⟨.hbm, 223, rfl⟩
abbrev main_v167 : Ref sig .tc := ⟨.hbm, 224, rfl⟩
abbrev main_v168 : Ref sig .tc := ⟨.hbm, 225, rfl⟩
abbrev main_c_42 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_c_43 : Ref sig .tc := ⟨.hbm, 238, rfl⟩
abbrev main_v180 : Ref sig .tc := ⟨.hbm, 239, rfl⟩
abbrev main_v181 : Ref sig .tc := ⟨.hbm, 240, rfl⟩
abbrev main_c_44 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_c_45 : Ref sig .tc := ⟨.hbm, 245, rfl⟩
abbrev main_v185 : Ref sig .tc := ⟨.hbm, 246, rfl⟩
abbrev main_v186 : Ref sig .tc := ⟨.hbm, 247, rfl⟩
abbrev main_c_46 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_47 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_cst_48 : Ref sig .tc := ⟨.hbm, 280, rfl⟩
abbrev main_v217 : Ref sig .tc := ⟨.hbm, 281, rfl⟩
abbrev main_v218 : Ref sig .tc := ⟨.hbm, 282, rfl⟩
abbrev main_cst_49 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩

abbrev nD : Nat := 1
abbrev τ : Topo := Topo.v7x

variable {F : FTy → Type} [FloatOps F]
-- ==== Proof.Common.lean ====
module

public import Idealize.ShloMosaic.PureOps.Ideal.Laws
public import Idealize.ShloMosaic.Lib.IdealHost
public import Idealize.ShloMosaic.Lib.Pointwise
public import Idealize.ShloMosaic.Lib.Claim
public import Idealize.ShloMosaic.Lib.Pipeline.ValueKit

/-! Facts about the extended reals that several of the values use: the float constants as real numbers, and a finite
nonnegative constant moved through a finite sum. -/

@[expose] public section

noncomputable section

namespace Cert.Common

open Idealize.ShloMosaic

/-- The word of one half is one half. -/
theorem half_f32 : Ideal.ofBits .f32 0x3F000000#32 = (((1 : ℝ) / 2 : ℝ) : EReal) := by
  simp [Ideal.ofBits, Ideal.ieee]; norm_num; rw [← EReal.coe_mul]; norm_num

/-- The word of two is two. -/
theorem two_f32 : Ideal.ofBits .f32 0x40000000#32 = ((2 : ℝ) : EReal) := by
  simp [Ideal.ofBits, Ideal.ieee]; norm_num; rw [← EReal.coe_mul]; norm_num

/-- The word of 1024 is 1024. -/
theorem n1024_f32 : Ideal.ofBits .f32 0x44800000#32 = ((1024 : ℝ) : EReal) := by
  simp [Ideal.ofBits, Ideal.ieee]; norm_num; rw [← EReal.coe_mul]; norm_num

/-- The word of 1/1024 is 1/1024. -/
theorem inv1024_f32 : Ideal.ofBits .f32 0x3A800000#32 = (((1 : ℝ) / 1024 : ℝ) : EReal) := by
  simp [Ideal.ofBits, Ideal.ieee]; norm_num; rw [← EReal.coe_mul]; norm_num

/-- A nonnegative finite constant goes into a finite sum of extended reals. -/
theorem const_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- The word of minus one half is minus one half. -/
theorem mhalf_f32 : Ideal.ofBits .f32 0xBF000000#32 = ((-((1 : ℝ) / 2) : ℝ) : EReal) := by
  simp [Ideal.ofBits, Ideal.ieee]; norm_num; rw [← EReal.coe_mul]; norm_num

/-- The word of 64 is 64. -/
theorem n64_f32 : Ideal.ofBits .f32 0x42800000#32 = ((64 : ℝ) : EReal) := by
  simp [Ideal.ofBits, Ideal.ieee]; norm_num; rw [← EReal.coe_mul]; norm_num

/-- The word of the norms' epsilon is a positive real number. -/
theorem eps_f32 : ∃ e : ℝ, 0 < e ∧ Ideal.ofBits .f32 0x358637BD#32 = (e : EReal) := by
  refine ⟨(8796093 : ℝ) * 2 ^ (-43 : ℤ), by positivity, ?_⟩
  simp [Ideal.ofBits, Ideal.ieee]

/-- A square of an extended real is not negative. -/
theorem sq_nonneg' (x : EReal) : 0 ≤ x * x := by
  rcases le_total 0 x with h | h
  · exact mul_nonneg h h
  · simpa using mul_nonneg (EReal.neg_nonneg.mpr h) (EReal.neg_nonneg.mpr h)

/-- A positive real constant goes out of a difference. -/
theorem coe_mul_sub {a : ℝ} (ha : 0 ≤ a) (x y : EReal) : (a : EReal) * (x - y) = a * x - a * y := by
  rw [sub_eq_add_neg, EReal.left_distrib_of_nonneg_of_ne_top (by exact_mod_cast ha) (EReal.coe_ne_top a), mul_neg, ← sub_eq_add_neg]

/-- The argument of the norm's root is plus infinity or a positive real number. -/
theorem rms_arg {n : ℕ} (h : Fin n → EReal) {N e : ℝ} (hN : 0 < N) (he : 0 < e) :
    Ideal.div (∑ k, h k * h k) N + e = ⊤ ∨ ∃ x : ℝ, 0 < x ∧ Ideal.div (∑ k, h k * h k) N + e = (x : EReal) := by
  have h0 : (0 : EReal) ≤ ∑ k, h k * h k := Finset.sum_nonneg fun k _ => sq_nonneg' _
  rw [Ideal.div_coe hN.ne']
  have h1 : (0 : EReal) ≤ (∑ k, h k * h k) * ((1 / N : ℝ) : EReal) := mul_nonneg h0 (by exact_mod_cast (by positivity : (0:ℝ) ≤ 1 / N))
  generalize (∑ k, h k * h k) * ((1 / N : ℝ) : EReal) = z at h1
  induction z with
  | bot => simp at h1
  | top => left; simp
  | coe z => right; exact ⟨z + e, by have : (0:ℝ) ≤ z := by exact_mod_cast h1
                                     positivity, by rw [EReal.coe_add]⟩

/-- The gradient through a row's norm: the form with the normalized row, and the form the chain rule gives, agree for every row
of extended reals. -/
theorem rms_bwd {n : ℕ} (h A : Fin n → EReal) {N e : ℝ} (hN : 0 < N) (he : 0 < e) (i : Fin n) :
    Ideal.rsqrt (Ideal.div (∑ k, h k * h k) N + e) * (A i - h i * Ideal.rsqrt (Ideal.div (∑ k, h k * h k) N + e)
      * Ideal.div (∑ k, A k * (h k * Ideal.rsqrt (Ideal.div (∑ k, h k * h k) N + e))) N)
    = A i * Ideal.rsqrt (Ideal.div (∑ k, h k * h k) N + e)
      + h i * Ideal.div ((∑ k, h k * A k) * ((-((1 : ℝ) / 2) : ℝ) * Ideal.div (Ideal.rsqrt (Ideal.div (∑ k, h k * h k) N + e)) (Ideal.div (∑ k, h k * h k) N + e))) N
      + h i * Ideal.div ((∑ k, h k * A k) * ((-((1 : ℝ) / 2) : ℝ) * Ideal.div (Ideal.rsqrt (Ideal.div (∑ k, h k * h k) N + e)) (Ideal.div (∑ k, h k * h k) N + e))) N := by
  rcases rms_arg h hN he with hX | ⟨x, hx, hX⟩
  · rw [hX]
    have h0 : Ideal.rsqrt ⊤ = 0 := rfl
    have h1 : Ideal.div 0 ⊤ = 0 := by simp [Ideal.div]
    simp [h0, h1, Ideal.div_coe hN.ne']
  · rw [hX]
    have hr : Ideal.rsqrt (x : EReal) = (((Real.sqrt x)⁻¹ : ℝ) : EReal) := by
      show (if x < 0 then ⊥ else if x = 0 then ⊤ else (((Real.sqrt x)⁻¹ : ℝ) : EReal)) = _
      rw [if_neg hx.le.not_gt, if_neg hx.ne']
    rw [hr]
    set ρ : ℝ := (Real.sqrt x)⁻¹ with hρ
    have hρ0 : 0 ≤ ρ := by positivity
    have hS : ∑ k, A k * (h k * (ρ : EReal)) = ρ * ∑ k, h k * A k := by
      rw [const_mul_sum _ _ hρ0]
      exact Finset.sum_congr rfl fun k _ => by rw [mul_comm (h k) (A k), mul_comm (ρ : EReal), mul_assoc]
    rw [hS, Ideal.div_coe hN.ne', Ideal.div_coe hN.ne', Ideal.div_coe hx.ne']
    generalize (∑ k, h k * A k) = S
    rw [coe_mul_sub hρ0, mul_comm (ρ : EReal) (A i), add_assoc, sub_eq_add_neg]
    congr 1
    set p : ℝ := 1 / 2 * (ρ * (1 / x)) * (1 / N) with hp
    have hp0 : 0 ≤ p := by positivity
    have hq : h i * (S * (((-((1 : ℝ) / 2) : ℝ) : EReal) * ((ρ : EReal) * ((1 / x : ℝ) : EReal))) * ((1 / N : ℝ) : EReal)) = -(h i * S) * (p : EReal) := by
      rw [mul_assoc S, ← mul_assoc (h i) S, ← EReal.coe_mul, ← EReal.coe_mul, ← EReal.coe_mul, neg_mul (h i * S), ← mul_neg, ← EReal.coe_neg]
      congr 2
      rw [hp]; ring
    have hl : -((ρ : EReal) * (h i * ρ * (ρ * S * ((1 / N : ℝ) : EReal)))) = -(h i * S) * ((p + p : ℝ) : EReal) := by
      have : (ρ : EReal) * (h i * ρ * (ρ * S * ((1 / N : ℝ) : EReal))) = (h i * S) * ((ρ : EReal) * ρ * ρ * ((1 / N : ℝ) : EReal)) := by
        ac_rfl
      rw [this, neg_mul, ← EReal.coe_mul, ← EReal.coe_mul, ← EReal.coe_mul]
      congr 3
      have : ρ * ρ = 1 / x := by rw [hρ, ← mul_inv, Real.mul_self_sqrt hx.le, one_div]
      rw [this, hp]; ring
    rw [hl, hq, EReal.coe_add, EReal.left_distrib_of_nonneg (by exact_mod_cast hp0) (by exact_mod_cast hp0)]

/-- The gradient of one head's normalised entry at one row, as the body has it: `h` is the head's row, `A` the
gradient of the normalised head times the gain. -/
abbrev headGrad (h A : Fin 64 → EReal) (i : Fin 64) : EReal :=
  Ideal.rsqrt (Ideal.div (∑ k, h k * h k) (Ideal.ofBits .f32 0x42800000#32) + Ideal.ofBits .f32 0x358637BD#32) *
    (A i - h i * Ideal.rsqrt (Ideal.div (∑ k, h k * h k) (Ideal.ofBits .f32 0x42800000#32) + Ideal.ofBits .f32 0x358637BD#32) *
      Ideal.div (∑ k, A k * (h k * Ideal.rsqrt (Ideal.div (∑ k, h k * h k) (Ideal.ofBits .f32 0x42800000#32) + Ideal.ofBits .f32 0x358637BD#32)))
        (Ideal.ofBits .f32 0x42800000#32))

section rows
variable {n0 n1 n2 : Nat} {t : Shape}

/-- A reduction of a box over its first two axes leaves one axis, of the last size. -/
theorem rows_lt (h : (⟨3, ![n0, n1, n2]⟩ : Shape).ReducesTo [0, 1] t) : 0 < t.rank := by
  have : t.rank = 1 := h.1
  omega

/-- The size of that axis. -/
theorem rows_size (h : (⟨3, ![n0, n1, n2]⟩ : Shape).ReducesTo [0, 1] t) : t.size ⟨0, rows_lt h⟩ = n2 := h.2 ⟨0, rows_lt h⟩

/-- The indices of a box that a reduction over its first two axes sends to `j`: those whose last coordinate is `j`'s. -/
theorem fiber_rows (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, rows_lt h⟩).val, Shape.coordLt (j ⟨0, rows_lt h⟩) (rows_size h)⟩ = i := by
  have hr : t.rank = 1 := h.1
  refine ⟨fun e => ⟨(i 0, i 1), funext fun a => Fin.ext ?_⟩, ?_⟩
  · match a with
    | ⟨0, _⟩ => rfl
    | ⟨1, _⟩ => rfl
    | ⟨2, _⟩ => exact (congrArg Fin.val (congrFun e ⟨0, rows_lt h⟩)).symm
  · rintro ⟨k, rfl⟩
    refine funext fun b => Fin.ext ?_
    match b with
    | ⟨0, _⟩ => rfl
    | ⟨_ + 1, hb⟩ => exact absurd hb (by omega)

/-- A host sum over the first two axes of a box, at an index of the last. -/
theorem hostReduceAdd_rows (h : (⟨3, ![n0, n1, n2]⟩ : Shape).ReducesTo [0, 1] t) (v : (⟨3, ![n0, n1, n2]⟩ : Shape).Idx → EReal) (init : EReal)
    (j : t.Idx) :
    Ideal.hostReduceAdd h v init j
      = init + ∑ a : Fin n0, ∑ b : Fin n1, v (ix3 a b ⟨(j ⟨0, rows_lt h⟩).val, Shape.coordLt (j ⟨0, rows_lt h⟩) (rows_size h)⟩) := by
  refine congrArg (init + ·) ((Finset.sum_filter_eq_sum_of_fiber _
    (fun k : Fin n0 × Fin n1 => ix3 k.1 k.2 ⟨(j ⟨0, rows_lt h⟩).val, Shape.coordLt (j ⟨0, rows_lt h⟩) (rows_size h)⟩)
    (fun _ _ e => Prod.ext (congrFun e 0) (congrFun e 1)) (fiber_rows h j) v).trans ?_)
  simp only [Fintype.sum_prod_type]

end rows

attribute [pointwise] hostReduceAdd_rows

end Cert.Common

end
-- ==== Proof.Loss.lean ====
module

public import proofs.«01_k».proof.Defs
public import proofs.«01_k».proof.Proof.Common
public import proofs.«01_k».proof.Proof.Gen.KernelIdeal.Value
public import proofs.«01_k».proof.Proof.Gen.ReferenceIdeal.Read

/-! The value of the loss head: the gradient `(y - tgt) / 1024` block by block, its bf16 copy, and the loss summed over the
four row blocks, equal to the derivative and the value of the loss as the reference takes them. -/

@[expose] public section

set_option maxRecDepth 16384

noncomputable section

namespace Cert.KernelIdeal.Proof

open Cert.KernelIdeal Cert.KernelIdeal.Gen Idealize.ShloMosaic Idealize.ShloMosaic.TcCoe Idealize.SL.Sem
open Idealize.ShloMosaic.Pipeline (Dat)
open Cert.Common

variable (m : (ℓ : Loc nD τ sig) → Buf (Elt Ideal) ℓ)

/-- The four row blocks of every window. -/
theorem idx : ∀ t : Fin cfg0.N, win0_0.index t = ![t.val, 0] ∧ win0_1.index t = ![t.val, 0] ∧ win0_2.index t = ![t.val, 0]
    ∧ win0_3.index t = ![t.val, 0] := by decide +kernel

/-- The argument `y` of the program, read as extended reals. -/
abbrev Y (c : Dev nD) : S4096x1024.Idx → EReal := m ((c : Thread nD τ).loc main_arg0)
/-- The argument `tgt` of the program, read as extended reals. -/
abbrev T (c : Dev nD) : S4096x1024.Idx → EReal := m ((c : Thread nD τ).loc main_arg1)

/-- The gradient the reference takes of the mean, at one place. -/
theorem ref_dh (x y : S4096x1024.Idx → EReal) (i : S4096x1024.Idx) :
    Cert.ReferenceIdeal.Read.val_main_v14 (F := Ideal) x y i = (x i - y i) * (((1 : ℝ) / 1024 : ℝ) : EReal) := by
  simp only [Cert.ReferenceIdeal.Read.val_main_v14_apply, Cert.ReferenceIdeal.Read.val_main_v13_apply, Cert.ReferenceIdeal.Read.val_main_v12_apply,
    Cert.ReferenceIdeal.Read.val_main_v11_apply, Cert.ReferenceIdeal.Read.val_main_v10_apply, Cert.ReferenceIdeal.Read.val_main_v9_apply,
    Cert.ReferenceIdeal.Read.val_main_cst_6_apply, Cert.ReferenceIdeal.Read.val_main_cst_5_apply, Cert.ReferenceIdeal.Read.val_main_cst_4_apply,
    Cert.ReferenceIdeal.Read.val_main_v3_apply, Cert.ReferenceIdeal.Read.val_main_v2_apply, Cert.ReferenceIdeal.Read.val_main_cst_apply,
    Cert.ReferenceIdeal.Read.val_main_v0_apply]
  pointwise []
  rw [half_f32, two_f32, n1024_f32, Ideal.div_coe (by norm_num), ← mul_assoc, ← EReal.coe_mul, ← EReal.coe_mul, mul_comm]
  norm_num

/-- The loss the reference takes: half the sum over the rows of the mean square of the difference. -/
theorem ref_loss (x y : S4096x1024.Idx → EReal) (i : S1x1.Idx) :
    Cert.ReferenceIdeal.Read.val_main_v16 (F := Ideal) x y i
      = (((1 : ℝ) / 2 : ℝ) : EReal) * ∑ r : Fin 4096, Ideal.div (∑ k : Fin 1024, (x (ix2 r k) - y (ix2 r k)) * (x (ix2 r k) - y (ix2 r k))) ((1024 : ℝ) : EReal) := by
  unfold Cert.ReferenceIdeal.Read.val_main_v16 Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v1 Cert.ReferenceIdeal.Read.val_main_v0
    Cert.ReferenceIdeal.Read.val_main_cst_3 Cert.ReferenceIdeal.Read.val_main_cst_2 Cert.ReferenceIdeal.Read.val_main_cst_1 Cert.ReferenceIdeal.Read.val_main_cst_0
  pointwise []
  rw [half_f32, n1024_f32]

/-- One point's gradient block. -/
theorem point_dh (c : Dev nD) (t : Fin cfg0.N) (y : S1024x1024.Idx) : k0_pay2 (iblk m c 0 t) (iblk m c 1 t) y
    = (Y m c (((cfg0.win 2).blk t).view.emb y) - T m c (((cfg0.win 2).blk t).view.emb y)) * (((1 : ℝ) / 1024 : ℝ) : EReal) := by
  pointwise [k0_pay2, k0_pay1]
  rw [inv1024_f32]
  congr 2 <;> blk_ext [iblk, V, idx t]

/-- The gradient of the kernel's program, over the whole array. -/
theorem final_dh (c : Dev nD) : (dats m 0 c).arrAt 2 cfg0.N = Cert.ReferenceIdeal.Read.val_main_v14 (F := Ideal) (Y m c) (T m c) := by
  refine (dats m 0 c).arrAt_eq_of_covers 2 _ (by decide +kernel) fun t hf y => ?_
  rw [ref_dh]
  blk_simp
  rw [after0_2]
  by_cases h : t.val % 4 = 0
  · rw [outsAt0_A m c t h]; frame_out
    exact point_dh m c t y
  · rw [outsAt0_B m c t h]; frame_out
    exact point_dh m c t y

/-- The bf16 copy of the gradient. -/
theorem final_dhb (c : Dev nD) : (dats m 0 c).arrAt 3 cfg0.N = Cert.ReferenceIdeal.Read.val_main_v15 (F := Ideal) (Y m c) (T m c) := by
  refine (dats m 0 c).arrAt_eq_of_covers 3 _ (by decide +kernel) fun t hf y => ?_
  rw [Cert.ReferenceIdeal.Read.val_main_v15_apply, Ideal.truncf_def, ref_dh]
  blk_simp
  rw [after0_3]
  by_cases h : t.val % 4 = 0
  · rw [outsAt0_A m c t h]; frame_out
    exact point_dh m c t y
  · rw [outsAt0_B m c t h]; frame_out
    exact point_dh m c t y

/-- What one point adds to the loss. -/
theorem point_loss (a b : S1024x1024.Idx → EReal) (v : Vec Ideal S1x1 .f32) (j : S1x1.Idx) :
    k0_pay5 (F := Ideal) a b v j = v j + (((1 : ℝ) / 2 : ℝ) : EReal) * ∑ r : Fin 1024, Ideal.div (∑ k : Fin 1024,
        (a (ix2 r k) - b (ix2 r k)) * (a (ix2 r k) - b (ix2 r k))) ((1024 : ℝ) : EReal) := by
  pointwise [k0_pay5, k0_pay1]
  rw [half_f32, n1024_f32]

/-- The loss, summed over the four points. -/
theorem final_loss (c : Dev nD) : (dats m 0 c).arrAt 4 cfg0.N = Cert.ReferenceIdeal.Read.val_main_v16 (F := Ideal) (Y m c) (T m c) := by
  refine (dats m 0 c).arrAt_eq_of_after_last 4 t0_3 (by decide +kernel) _ fun j => ?_
  rw [ref_loss]
  blk_simp
  rw [after0_4, Pipeline.eq_sum_fin_of_reset_step_apply_last (fun n h => (outsAt0 m c n h).2.2) 4 (fun _ => (0 : EReal)) _
    (fun t h j => by rw [outsAt0_A m c t h]; frame_out; rw [point_loss]; congr 1; exact Ideal.ofBits_zero_f32)
    (fun t h j => by rw [outsAt0_B m c t h]; frame_out; rw [point_loss]) (le_of_eq N_0) t0_3 rfl j, zero_add, ← const_mul_sum _ _ (by norm_num)]
  congr 1
  refine Fin.sum_mul_add_congr (S := 4) (n := 1024) fun t k hl => ?_
  congr 1
  refine Finset.sum_congr rfl fun l _ => ?_
  congr 2 <;> blk_ext [iblk, V, idx t]

end Cert.KernelIdeal.Proof

namespace Cert.Proof

open Idealize.ShloMosaic Idealize.ShloMosaic.TcCoe Idealize.SL.Sem

/-- The idealized loss head computes what the reference does. -/
theorem loss_value : Cert.algebraic_KernelIdeal_ReferenceIdeal := by
  pair_intro
  · run_from Cert.KernelIdeal.Value.run_blocks m g
  · run_from Cert.ReferenceIdeal.Value.run m' g'
    · exact (Cert.KernelIdeal.Proof.final_dh m c).symm
    · exact (Cert.KernelIdeal.Proof.final_dhb m c).symm
    · exact (Cert.KernelIdeal.Proof.final_loss m c).symm

end Cert.Proof

end
-- ==== Proof.Norm1.lean ====
module

public import proofs.«01_k».proof.Defs
public import proofs.«01_k».proof.Proof.Common
public import proofs.«01_k».proof.Proof.Gen.Kernel2Ideal.Value
public import proofs.«01_k».proof.Proof.Gen.Reference2Ideal.Read

/-! The value of the mixer's input product and norm taken backward: the gradient of the residual stream, its bf16 copy, and the
gradient of the norm's gain summed over the four row blocks, equal to the derivative of `(h, rmsnorm(h, g) @ w_in)`. -/

@[expose] public section

set_option maxRecDepth 16384

noncomputable section

namespace Cert.Kernel2Ideal.Proof

open Cert.Kernel2Ideal Cert.Kernel2Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![0, 8, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] := by decide +kernel

/-- The gathered weights as the call finds them. -/
theorem w_arr (c : Dev nD) : V m c main_v6 = (truncf .bf16 (concatenate S4x2560x1024 1
    [⟨S4x1024x1024, shapeCast S4x1024x1024 (m ((c : Thread nD τ).loc main_arg1)) shapeCasts_S4096x1024_S4x1024x1024⟩,
     ⟨S4x1024x1024, transpose S4x1024x1024 [1, 0, 2] (shapeCast S1024x4x1024 (m ((c : Thread nD τ).loc main_arg2)) shapeCasts_S1024x4096_S1024x4x1024) transposes_S1024x4x1024_S4x1024x1024_1_0_2⟩,
     ⟨S4x256x1024, shapeCast S4x256x1024 (m ((c : Thread nD τ).loc main_arg3)) shapeCasts_S1024x1024_S4x256x1024⟩,
     ⟨S4x256x1024, shapeCast S4x256x1024 (m ((c : Thread nD τ).loc main_arg4)) shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16) := by
  unfold V
  after_results
  rfl

/-- The rows of the input weights inside the gathered weights. -/
theorem packed_in (a : S4096x1024.Idx → EReal) (b : S1024x4096.Idx → EReal) (u d : S1024x1024.Idx → EReal) (k : Fin 4) (q : Fin 256) (x : Fin 1024) :
    (truncf .bf16 (concatenate S4x2560x1024 1
    [⟨S4x1024x1024, shapeCast S4x1024x1024 a shapeCasts_S4096x1024_S4x1024x1024⟩,
     ⟨S4x1024x1024, transpose S4x1024x1024 [1, 0, 2] (shapeCast S1024x4x1024 b shapeCasts_S1024x4096_S1024x4x1024) transposes_S1024x4x1024_S4x1024x1024_1_0_2⟩,
     ⟨S4x256x1024, shapeCast S4x256x1024 u shapeCasts_S1024x1024_S4x256x1024⟩,
     ⟨S4x256x1024, shapeCast S4x256x1024 d shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16)
     (ix3 k ⟨2048 + q.val, by omega⟩ x) = u (ix2 ⟨k.val * 256 + q.val, by omega⟩ x) := by
  pointwise []
  rw [dif_neg (by omega), dif_neg (by omega), dif_pos (by omega)]
  blk_ext

abbrev Dy (c : Dev nD) : S4096x1024.Idx → EReal := m ((c : Thread nD τ).loc main_arg0)
abbrev W (c : Dev nD) : S1024x1024.Idx → EReal := m ((c : Thread nD τ).loc main_arg3)
abbrev H (c : Dev nD) : S4096x1024.Idx → EReal := m ((c : Thread nD τ).loc main_arg5)
abbrev G (c : Dev nD) : S1024.Idx → EReal := m ((c : Thread nD τ).loc main_arg6)
abbrev Dr (c : Dev nD) : S4096x1024.Idx → EReal := m ((c : Thread nD τ).loc main_arg7)

/-- The weights' block read at a row of `w_in`. -/
theorem w_read (c : Dev nD) (t : Fin cfg0.N) (k x : Fin 1024) :
    iblk m c 1 t (ix3 ⟨k.val / 256, by omega⟩ ⟨k.val % 256, by omega⟩ x) = W m c (ix2 k x) := by
  have h : ∀ j : S4x2560x1024.Idx, j = ix3 ⟨k.val / 256, by omega⟩ ⟨2048 + k.val % 256, by omega⟩ x → V m c main_v6 j = W m c (ix2 k x) := by
    rintro _ rfl
    rw [w_arr]
    refine (packed_in _ _ _ _ ⟨k.val / 256, by omega⟩ ⟨k.val % 256, by omega⟩ x).trans ?_
    blk_ext
  refine h _ ?_
  blk_ext [idx t]

/-- The gain's block. -/
theorem g_read (c : Dev nD) (t : Fin cfg0.N) (k : Fin 1024) : iblk m c 3 t (ix2 0 k) = G m c (ix1 k) := by
  have h : ∀ j : S1x1024.Idx, j = ix2 0 k → V m c main_v7 j = G m c (ix1 k) := by
    rintro _ rfl
    entry_read
    pointwise []
  refine h _ ?_
  blk_ext [idx t]

/-- One entry of the gradient the call writes, when its blocks are rows `r` of the arrays. -/
theorem point_dh (v0 v5 v33 : S1024x1024.Idx → EReal) (v1 : S4x256x1024.Idx → EReal) (v16 : S1x1024.Idx → EReal)
    (dy h dr : S4096x1024.Idx → EReal) (w : S1024x1024.Idx → EReal) (g : S1024.Idx → EReal) (a b : Fin 1024) (r : Fin 4096)
    (h0 : ∀ x, v0 (ix2 a x) = dy (ix2 r x)) (h1 : ∀ k x : Fin 1024, v1 (ix3 ⟨k.val / 256, by omega⟩ ⟨k.val % 256, by omega⟩ x) = w (ix2 k x))
    (h5 : ∀ x, v5 (ix2 a x) = h (ix2 r x)) (h16 : ∀ k, v16 (ix2 0 k) = g (ix1 k)) (h33 : v33 (ix2 a b) = dr (ix2 r b)) :
    k0_pay7 (F := Ideal) v0 v1 v5 v16 v33 (ix2 a b) = Cert.Reference2Ideal.Read.val_main_v39 (F := Ideal) dy w h g dr (ix2 r b) := by
  pointwise [k0_pay7, k0_pay6, k0_pay5, k0_pay4, k0_pay3, Cert.Reference2Ideal.Read.val_main_v0, Cert.Reference2Ideal.Read.val_main_cst, Cert.Reference2Ideal.Read.val_main_v1, Cert.Reference2Ideal.Read.val_main_v2, Cert.Reference2Ideal.Read.val_main_cst_0, Cert.Reference2Ideal.Read.val_main_v3, Cert.Reference2Ideal.Read.val_main_v4, Cert.Reference2Ideal.Read.val_main_cst_1, Cert.Reference2Ideal.Read.val_main_v5, Cert.Reference2Ideal.Read.val_main_v6, Cert.Reference2Ideal.Read.val_main_v7, Cert.Reference2Ideal.Read.val_main_v8, Cert.Reference2Ideal.Read.val_main_cst_2, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_cst_3, Cert.Reference2Ideal.Read.val_main_v20, Cert.Reference2Ideal.Read.val_main_v21, Cert.Reference2Ideal.Read.val_main_v22, Cert.Reference2Ideal.Read.val_main_v23, Cert.Reference2Ideal.Read.val_main_cst_4, Cert.Reference2Ideal.Read.val_main_v24, Cert.Reference2Ideal.Read.val_main_v25, Cert.Reference2Ideal.Read.val_main_cst_5, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_cst_6, Cert.Reference2Ideal.Read.val_main_v32, Cert.Reference2Ideal.Read.val_main_v33, Cert.Reference2Ideal.Read.val_main_cst_7, Cert.Reference2Ideal.Read.val_main_v34, Cert.Reference2Ideal.Read.val_main_v35, Cert.Reference2Ideal.Read.val_main_v36, Cert.Reference2Ideal.Read.val_main_v37, Cert.Reference2Ideal.Read.val_main_v38, Cert.Reference2Ideal.Read.val_main_v39, Cert.Reference2Ideal.Read.val_main_v40, Cert.Reference2Ideal.Read.val_main_v41]
  simp only [h0, h1, h5, h16, h33]
  obtain ⟨e, he, hE⟩ := eps_f32
  rw [hE, n1024_f32, mhalf_f32]
  have := rms_bwd (fun k => h (ix2 r k)) (fun k => (∑ x, dy (ix2 r x) * w (ix2 k x)) * g (ix1 k)) (N := 1024) (by norm_num) he b
  simp only [Fin.sum_univ_one]
  rw [this, mul_comm (Ideal.div _ _) (h (ix2 r b)), add_assoc, add_assoc, add_assoc]

/-- What one point adds to the gain's gradient. -/
theorem point_dg (v0 v5 : S1024x1024.Idx → EReal) (v1 : S4x256x1024.Idx → EReal) (v : Vec Ideal S1x1024 .f32) (j : S1x1024.Idx) :
    k0_pay2 (F := Ideal) (k0_pay6 (F := Ideal) v0 v1 v5) v j = v j + ∑ x : Fin 1024, v5 (ix2 x (j 1)) * Ideal.rsqrt (Ideal.div (∑ k : Fin 1024, v5 (ix2 x k) * v5 (ix2 x k))
        (Ideal.ofBits .f32 0x44800000#32) + Ideal.ofBits .f32 0x358637BD#32)
      * ∑ k : Fin 1024, v0 (ix2 x k) * v1 (ix3 ⟨(j 1).val / 256, by have : (j 1).val < 1024 := (j 1).isLt; omega⟩ ⟨(j 1).val % 256, Nat.mod_lt _ (by norm_num)⟩ k) := by
  pointwise [k0_pay2, k0_pay6, k0_pay5, k0_pay4, k0_pay3]
  exact congrArg (v j + ·) (Finset.sum_congr rfl fun x _ => mul_comm _ _)

/-- The gain's gradient as the reference takes it: a sum over all the rows. -/
theorem ref_dg (dy h : S4096x1024.Idx → EReal) (w : S1024x1024.Idx → EReal) (j : S1x1024.Idx) :
    Cert.Reference2Ideal.Read.val_main_v41 (F := Ideal) dy w h j = ∑ x : Fin 4096, h (ix2 x (j 1)) * Ideal.rsqrt (Ideal.div (∑ k : Fin 1024, h (ix2 x k) * h (ix2 x k))
        (Ideal.ofBits .f32 0x44800000#32) + Ideal.ofBits .f32 0x358637BD#32)
      * ∑ k : Fin 1024, dy (ix2 x k) * w (ix2 (j 1) k) := by
  pointwise [Cert.Reference2Ideal.Read.val_main_v0, Cert.Reference2Ideal.Read.val_main_cst, Cert.Reference2Ideal.Read.val_main_v1, Cert.Reference2Ideal.Read.val_main_v2, Cert.Reference2Ideal.Read.val_main_cst_0, Cert.Reference2Ideal.Read.val_main_v3, Cert.Reference2Ideal.Read.val_main_v4, Cert.Reference2Ideal.Read.val_main_cst_1, Cert.Reference2Ideal.Read.val_main_v5, Cert.Reference2Ideal.Read.val_main_v6, Cert.Reference2Ideal.Read.val_main_v7, Cert.Reference2Ideal.Read.val_main_v8, Cert.Reference2Ideal.Read.val_main_cst_2, Cert.Reference2Ideal.Read.val_main_v9, Cert.Reference2Ideal.Read.val_main_v10, Cert.Reference2Ideal.Read.val_main_v11, Cert.Reference2Ideal.Read.val_main_v12, Cert.Reference2Ideal.Read.val_main_v13, Cert.Reference2Ideal.Read.val_main_v14, Cert.Reference2Ideal.Read.val_main_v15, Cert.Reference2Ideal.Read.val_main_v16, Cert.Reference2Ideal.Read.val_main_v17, Cert.Reference2Ideal.Read.val_main_v18, Cert.Reference2Ideal.Read.val_main_v19, Cert.Reference2Ideal.Read.val_main_cst_3, Cert.Reference2Ideal.Read.val_main_v20, Cert.Reference2Ideal.Read.val_main_v21, Cert.Reference2Ideal.Read.val_main_v22, Cert.Reference2Ideal.Read.val_main_v23, Cert.Reference2Ideal.Read.val_main_cst_4, Cert.Reference2Ideal.Read.val_main_v24, Cert.Reference2Ideal.Read.val_main_v25, Cert.Reference2Ideal.Read.val_main_cst_5, Cert.Reference2Ideal.Read.val_main_v26, Cert.Reference2Ideal.Read.val_main_v27, Cert.Reference2Ideal.Read.val_main_v28, Cert.Reference2Ideal.Read.val_main_v29, Cert.Reference2Ideal.Read.val_main_v30, Cert.Reference2Ideal.Read.val_main_v31, Cert.Reference2Ideal.Read.val_main_cst_6, Cert.Reference2Ideal.Read.val_main_v32, Cert.Reference2Ideal.Read.val_main_v33, Cert.Reference2Ideal.Read.val_main_cst_7, Cert.Reference2Ideal.Read.val_main_v34, Cert.Reference2Ideal.Read.val_main_v35, Cert.Reference2Ideal.Read.val_main_v36, Cert.Reference2Ideal.Read.val_main_v37, Cert.Reference2Ideal.Read.val_main_v38, Cert.Reference2Ideal.Read.val_main_v39, Cert.Reference2Ideal.Read.val_main_v40, Cert.Reference2Ideal.Read.val_main_v41]
  simp only [Fin.sum_univ_one]

/-- One point's gradient block. -/
theorem block_dh (c : Dev nD) (t : Fin cfg0.N) (y : S1024x1024.Idx) :
    k0_pay7 (F := Ideal) (iblk m c 0 t) (iblk m c 1 t) (iblk m c 2 t) (iblk m c 3 t) (iblk m c 4 t) y
      = Cert.Reference2Ideal.Read.val_main_v39 (F := Ideal) (Dy m c) (W m c) (H m c) (G m c) (Dr m c) (((cfg0.win 5).blk t).view.emb y) := by
  have ht : t.val < 4 := t.isLt
  have hy : y = ix2 (y 0) (y 1) := by blk_ext
  have he : ((cfg0.win 5).blk t).view.emb y = ix2 ⟨t.val * 1024 + (y 0).val, by have : (y 0).val < 1024 := (y 0).isLt; omega⟩ (y 1) := by blk_ext [idx t]
  rw [he, hy]
  refine point_dh _ _ _ _ _ _ _ _ _ _ _ _ _ (fun x => ?_) (w_read m c t) (fun x => ?_) (g_read m c t) ?_
  all_goals blk_ext [iblk, V, idx t]

/-- The gradient of the residual stream, over the whole array. -/
theorem final_dh (c : Dev nD) : (dats m 0 c).arrAt 5 cfg0.N
    = Cert.Reference2Ideal.Read.val_main_v39 (F := Ideal) (Dy m c) (W m c) (H m c) (G m c) (Dr m c) := by
  refine (dats m 0 c).arrAt_eq_of_covers 5 _ (by decide +kernel) fun t hf y => ?_
  blk_simp
  rw [after0_5]
  by_cases h : t.val % 4 = 0
  · rw [outsAt0_A m c t h]; frame_out
    exact block_dh m c t y
  · rw [outsAt0_B m c t h]; frame_out
    exact block_dh m c t y

/-- The bf16 copy of the gradient. -/
theorem final_dhb (c : Dev nD) : (dats m 0 c).arrAt 6 cfg0.N
    = Cert.Reference2Ideal.Read.val_main_v40 (F := Ideal) (Dy m c) (W m c) (H m c) (G m c) (Dr m c) := by
  refine (dats m 0 c).arrAt_eq_of_covers 6 _ (by decide +kernel) fun t hf y => ?_
  rw [Cert.Reference2Ideal.Read.val_main_v40_apply, Ideal.truncf_def]
  blk_simp
  rw [after0_6]
  by_cases h : t.val % 4 = 0
  · rw [outsAt0_A m c t h]; frame_out
    exact block_dh m c t y
  · rw [outsAt0_B m c t h]; frame_out
    exact block_dh m c t y

/-- The gain's gradient, summed over the four points. -/
theorem final_dg (c : Dev nD) : (dats m 0 c).arrAt 7 cfg0.N = Cert.Reference2Ideal.Read.val_main_v41 (F := Ideal) (Dy m c) (W m c) (H m c) := by
  refine (dats m 0 c).arrAt_eq_of_after_last 7 t0_3 (by decide +kernel) _ fun j => ?_
  rw [ref_dg]
  blk_simp
  rw [after0_7, Pipeline.eq_sum_fin_of_reset_step_apply_last (fun n h => (outsAt0 m c n h).2.2) 4 (fun _ => (0 : EReal)) _
    (fun t h j => by rw [outsAt0_A m c t h]; frame_out; rw [point_dg]; congr 1; exact Ideal.ofBits_zero_f32)
    (fun t h j => by rw [outsAt0_B m c t h]; frame_out; rw [point_dg]) (le_of_eq N_0) t0_3 rfl j, zero_add]
  refine Fin.sum_mul_add_congr (S := 4) (n := 1024) fun t k hl => ?_
  have h1 : ∀ x : Fin 1024, iblk m c 1 t (ix3 ⟨(j 1).val / 256, by have : (j 1).val < 1024 := (j 1).isLt; omega⟩ ⟨(j 1).val % 256, Nat.mod_lt _ (by norm_num)⟩ x)
      = W m c (ix2 (j 1) x) := fun x => w_read m c t (j 1) x
  have h2 : ∀ (x : Fin 1024), iblk m c 2 t (ix2 k x) = H m c (ix2 ⟨t.val * 1024 + k.val, hl⟩ x) := fun x => by blk_ext [iblk, V, idx t]
  have h0 : ∀ (x : Fin 1024), iblk m c 0 t (ix2 k x) = Dy m c (ix2 ⟨t.val * 1024 + k.val, hl⟩ x) := fun x => by blk_ext [iblk, V, idx t]
  simp only [h0, h1, h2]
  rw [show iblk m c 2 t (ix2 k (j 1)) = H m c (ix2 ⟨t.val * 1024 + k.val, hl⟩ (j 1)) from h2 (j 1)]

end Cert.Kernel2Ideal.Proof

namespace Cert.Proof

open Idealize.ShloMosaic Idealize.ShloMosaic.TcCoe Idealize.SL.Sem

/-- The idealized input product and norm, backward, computes what the reference does. -/
theorem norm1_value : Cert.algebraic_Kernel2Ideal_Reference2Ideal := by
  pair_intro
  · run_from Cert.Kernel2Ideal.Value.run_blocks m g
  · run_from Cert.Reference2Ideal.Value.run m' g'
    · rw [Cert.Reference2Ideal.Read.val_main_v39_eq]
      simp only [hagree c]
      exact (Cert.Kernel2Ideal.Proof.final_dh m c).symm
    · rw [Cert.Reference2Ideal.Read.val_main_v40_eq]
      simp only [hagree c]
      exact (Cert.Kernel2Ideal.Proof.final_dhb m c).symm
    · rw [Cert.Reference2Ideal.Read.val_main_v41_eq]
      exact (Cert.Kernel2Ideal.Proof.final_dg m c).symm

end Cert.Proof

end
-- ==== Proof.Norm4.lean ====
module

public import proofs.«01_k».proof.Defs
public import proofs.«01_k».proof.Proof.Common
public import proofs.«01_k».proof.Proof.Gen.Kernel3Ideal.Value
public import proofs.«01_k».proof.Proof.Gen.Reference3Ideal.Read

/-! The value of the MLP's up product and norm taken backward: the product summed over the four chips' columns, the gradient of
the residual stream, its bf16 copy, and the gradient of the norm's gain summed over the eight row blocks, equal to the derivative of
`(h, rmsnorm(h, g) @ w_up)`. -/

@[expose] public section

set_option maxRecDepth 16384

noncomputable section

namespace Cert.Kernel3Ideal.Proof

open Cert.Kernel3Ideal Cert.Kernel3Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![0, 1, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] := by decide +kernel

/-- The gathered weights as the call finds them. -/
theorem w_arr (c : Dev nD) : V m c main_v6 = (truncf .bf16 (concatenate S4x2560x1024 1
    [⟨S4x1024x1024, shapeCast S4x1024x1024 (m ((c : Thread nD τ).loc main_arg1)) shapeCasts_S4096x1024_S4x1024x1024⟩,
     ⟨S4x1024x1024, transpose S4x1024x1024 [1, 0, 2] (shapeCast S1024x4x1024 (m ((c : Thread nD τ).loc main_arg2)) shapeCasts_S1024x4096_S1024x4x1024) transposes_S1024x4x1024_S4x1024x1024_1_0_2⟩,
     ⟨S4x256x1024, shapeCast S4x256x1024 (m ((c : Thread nD τ).loc main_arg3)) shapeCasts_S1024x1024_S4x256x1024⟩,
     ⟨S4x256x1024, shapeCast S4x256x1024 (m ((c : Thread nD τ).loc main_arg4)) shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16) := by
  unfold V
  after_results
  rfl

/-- The columns of `w_up` inside the gathered weights, chip by chip. -/
theorem packed_up (a : S4096x1024.Idx → EReal) (b : S1024x4096.Idx → EReal) (u d : S1024x1024.Idx → EReal) (k : Fin 4) (q x : Fin 1024) :
    (truncf .bf16 (concatenate S4x2560x1024 1
    [⟨S4x1024x1024, shapeCast S4x1024x1024 a shapeCasts_S4096x1024_S4x1024x1024⟩,
     ⟨S4x1024x1024, transpose S4x1024x1024 [1, 0, 2] (shapeCast S1024x4x1024 b shapeCasts_S1024x4096_S1024x4x1024) transposes_S1024x4x1024_S4x1024x1024_1_0_2⟩,
     ⟨S4x256x1024, shapeCast S4x256x1024 u shapeCasts_S1024x1024_S4x256x1024⟩,
     ⟨S4x256x1024, shapeCast S4x256x1024 d shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16)
     (ix3 k ⟨1024 + q.val, by omega⟩ x) = b (ix2 q ⟨k.val * 1024 + x.val, by omega⟩) := by
  pointwise []
  blk_ext

abbrev Dy (c : Dev nD) : S4096x4096.Idx → EReal := m ((c : Thread nD τ).loc main_arg0)
abbrev W (c : Dev nD) : S1024x4096.Idx → EReal := m ((c : Thread nD τ).loc main_arg2)
abbrev H (c : Dev nD) : S4096x1024.Idx → EReal := m ((c : Thread nD τ).loc main_arg5)
abbrev G (c : Dev nD) : S1024.Idx → EReal := m ((c : Thread nD τ).loc main_arg6)
abbrev Dr (c : Dev nD) : S4096x1024.Idx → EReal := m ((c : Thread nD τ).loc main_arg7)

/-- The weights' block read at a column of `w_up`. -/
theorem w_read (c : Dev nD) (t : Fin cfg0.N) (k : Fin 4) (q x : Fin 1024) :
    X0_1 m c t (ix3 k q x) = W m c (ix2 q ⟨k.val * 1024 + x.val, by omega⟩) := by
  have h : ∀ j : S4x2560x1024.Idx, j = ix3 k ⟨1024 + q.val, by omega⟩ x → V m c main_v6 j = W m c (ix2 q ⟨k.val * 1024 + x.val, by omega⟩) := by
    rintro _ rfl
    rw [w_arr]
    exact packed_up _ _ _ _ k q x
  unfold X0_1 Pipeline.Window.fill
  rw [dif_pos (moved0_1 t _)]
  refine h _ ?_
  blk_ext [idx t]

/-- The gain's block. -/
theorem g_read (c : Dev nD) (t : Fin cfg0.N) (k : Fin 1024) : iblk m c 3 t (ix2 0 k) = G m c (ix1 k) := by
  have h : ∀ j : S1x1024.Idx, j = ix2 0 k → V m c main_v7 j = G m c (ix1 k) := by
    rintro _ rfl
    entry_read
    pointwise []
  refine h _ ?_
  blk_ext [idx t]

/-- One entry of a point's product, the four chips' products added up: a sum over the 4096 columns. -/
theorem prod_apply (u0 u1 u2 u3 : S512x1024.Idx → EReal) (w0 w1 w2 w3 : S1x1024x1024.Idx → EReal) (dy : S4096x4096.Idx → EReal) (w : S1024x4096.Idx → EReal) (a : Fin 512) (b : Fin 1024) (r : Fin 4096)
    (hu0 : ∀ x, u0 (ix2 a x) = dy (ix2 r ⟨0 * 1024 + x.val, by omega⟩)) (hu1 : ∀ x, u1 (ix2 a x) = dy (ix2 r ⟨1 * 1024 + x.val, by omega⟩))
    (hu2 : ∀ x, u2 (ix2 a x) = dy (ix2 r ⟨2 * 1024 + x.val, by omega⟩)) (hu3 : ∀ x, u3 (ix2 a x) = dy (ix2 r ⟨3 * 1024 + x.val, by omega⟩))
    (hw0 : ∀ q x, w0 (ix3 0 q x) = w (ix2 q ⟨0 * 1024 + x.val, by omega⟩)) (hw1 : ∀ q x, w1 (ix3 0 q x) = w (ix2 q ⟨1 * 1024 + x.val, by omega⟩))
    (hw2 : ∀ q x, w2 (ix3 0 q x) = w (ix2 q ⟨2 * 1024 + x.val, by omega⟩)) (hw3 : ∀ q x, w3 (ix3 0 q x) = w (ix2 q ⟨3 * 1024 + x.val, by omega⟩)) :
    k0_pay5 (F := Ideal) u0 w0 u1 w1 u2 w2 u3 w3 (ix2 a b) = ∑ x : Fin 4096, dy (ix2 r x) * w (ix2 b x) := by
  refine Eq.trans ?_ (Fin.sum_mul_add_congr (S := 4) (n := 1024) (F := fun (s : Fin 4) (k : Fin 1024) => dy (ix2 r ⟨s.val * 1024 + k.val, by omega⟩) * w (ix2 b ⟨s.val * 1024 + k.val, by omega⟩)) fun t k hl => rfl)
  rw [Fin.sum_univ_four]
  pointwise [k0_pay5]
  simp only [hu0, hu1, hu2, hu3, hw0, hw1, hw2, hw3]
  rfl

/-- The rows of `dy` a point finds. -/
theorem dy_read (c : Dev nD) (t : Fin cfg0.N) (a : Fin 512) (x : Fin 4096) :
    iblk m c 0 t (ix2 a x) = Dy m c (ix2 ⟨t.val * 512 + a.val, by have : t.val < 8 := t.isLt; omega⟩ x) := by
  blk_ext [iblk, V, idx t]

/-- A point's product over the blocks its body loads. -/
theorem prod_read (c : Dev nD) (t : Fin cfg0.N) (a : Fin 512) (b : Fin 1024) :
     k0_pay5 (F := Ideal) (View.ld (iblk m c 0 t) (Rect.unit ![0, 0] ![512, 1024] inb_S512x4096_S512x1024_0_0))
        (View.ld (X0_1 m c t) (Rect.unit ![0, 0, 0] ![1, 1024, 1024] inb_S4x1024x1024_S1x1024x1024_0_0_0))
        (View.ld (iblk m c 0 t) (Rect.unit ![0, 1024] ![512, 1024] inb_S512x4096_S512x1024_0_1024))
        (View.ld (X0_1 m c t) (Rect.unit ![1, 0, 0] ![1, 1024, 1024] inb_S4x1024x1024_S1x1024x1024_1_0_0))
        (View.ld (iblk m c 0 t) (Rect.unit ![0, 2048] ![512, 1024] inb_S512x4096_S512x1024_0_2048))
        (View.ld (X0_1 m c t) (Rect.unit ![2, 0, 0] ![1, 1024, 1024] inb_S4x1024x1024_S1x1024x1024_2_0_0))
        (View.ld (iblk m c 0 t) (Rect.unit ![0, 3072] ![512, 1024] inb_S512x4096_S512x1024_0_3072))
        (View.ld (X0_1 m c t) (Rect.unit ![3, 0, 0] ![1, 1024, 1024] inb_S4x1024x1024_S1x1024x1024_3_0_0)) (ix2 a b)
      = ∑ x : Fin 4096, Dy m c (ix2 ⟨t.val * 512 + a.val, by have : t.val < 8 := t.isLt; omega⟩ x) * W m c (ix2 b x) := by
  refine prod_apply _ _ _ _ _ _ _ _ _ _ _ _ _ ?_ ?_ ?_ ?_ ?_ ?_ ?_ ?_
  iterate 4 (intro x; refine (View.ld_unit_apply_of _ _ _ _ _ (ix2 a ⟨_, _⟩) ?_).trans (dy_read m c t a _); intro ax; fin_cases ax <;> simp)
  · intro q x; refine (View.ld_unit_apply_of _ _ _ _ _ (ix3 0 q x) ?_).trans (w_read m c t 0 q x); intro ax; fin_cases ax <;> simp
  · intro q x; refine (View.ld_unit_apply_of _ _ _ _ _ (ix3 1 q x) ?_).trans (w_read m c t 1 q x); intro ax; fin_cases ax <;> simp
  · intro q x; refine (View.ld_unit_apply_of _ _ _ _ _ (ix3 2 q x) ?_).trans (w_read m c t 2 q x); intro ax; fin_cases ax <;> simp
  · intro q x; refine (View.ld_unit_apply_of _ _ _ _ _ (ix3 3 q x) ?_).trans (w_read m c t 3 q x); intro ax; fin_cases ax <;> simp

/-- One entry of the gradient the call writes, when its blocks are rows `r` of the arrays and `q` the product. -/
theorem point_dh (q v5 v33 : S512x1024.Idx → EReal) (v16 : S1x1024.Idx → EReal)
    (dy : S4096x4096.Idx → EReal) (h dr : S4096x1024.Idx → EReal) (w : S1024x4096.Idx → EReal) (g : S1024.Idx → EReal) (a : Fin 512) (b : Fin 1024) (r : Fin 4096)
    (hq : ∀ b, q (ix2 a b) = ∑ x : Fin 4096, dy (ix2 r x) * w (ix2 b x))
    (h5 : ∀ x, v5 (ix2 a x) = h (ix2 r x)) (h16 : ∀ k, v16 (ix2 0 k) = g (ix1 k)) (h33 : v33 (ix2 a b) = dr (ix2 r b)) :
    k0_pay1 (F := Ideal) q (k0_pay6 (F := Ideal) v5) (k0_pay7 (F := Ideal) v5) v16 v33 (ix2 a b)
      = Cert.Reference3Ideal.Read.val_main_v39 (F := Ideal) dy w h g dr (ix2 r b) := by
  pointwise [k0_pay1, k0_pay6, k0_pay7, Cert.Reference3Ideal.Read.val_main_v0, Cert.Reference3Ideal.Read.val_main_cst, Cert.Reference3Ideal.Read.val_main_v1, Cert.Reference3Ideal.Read.val_main_v2, Cert.Reference3Ideal.Read.val_main_cst_0, Cert.Reference3Ideal.Read.val_main_v3, Cert.Reference3Ideal.Read.val_main_v4, Cert.Reference3Ideal.Read.val_main_cst_1, Cert.Reference3Ideal.Read.val_main_v5, Cert.Reference3Ideal.Read.val_main_v6, Cert.Reference3Ideal.Read.val_main_v7, Cert.Reference3Ideal.Read.val_main_v8, Cert.Reference3Ideal.Read.val_main_cst_2, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_v19, Cert.Reference3Ideal.Read.val_main_cst_3, Cert.Reference3Ideal.Read.val_main_v20, Cert.Reference3Ideal.Read.val_main_v21, Cert.Reference3Ideal.Read.val_main_v22, Cert.Reference3Ideal.Read.val_main_v23, Cert.Reference3Ideal.Read.val_main_cst_4, Cert.Reference3Ideal.Read.val_main_v24, Cert.Reference3Ideal.Read.val_main_v25, Cert.Reference3Ideal.Read.val_main_cst_5, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_cst_6, Cert.Reference3Ideal.Read.val_main_v32, Cert.Reference3Ideal.Read.val_main_v33, Cert.Reference3Ideal.Read.val_main_cst_7, Cert.Reference3Ideal.Read.val_main_v34, Cert.Reference3Ideal.Read.val_main_v35, Cert.Reference3Ideal.Read.val_main_v36, Cert.Reference3Ideal.Read.val_main_v37, Cert.Reference3Ideal.Read.val_main_v38, Cert.Reference3Ideal.Read.val_main_v39, Cert.Reference3Ideal.Read.val_main_v40, Cert.Reference3Ideal.Read.val_main_v41]
  simp only [hq, h5, h16, h33]
  obtain ⟨e, he, hE⟩ := eps_f32
  rw [hE, n1024_f32, mhalf_f32]
  have := rms_bwd (fun k => h (ix2 r k)) (fun k => (∑ x, dy (ix2 r x) * w (ix2 k x)) * g (ix1 k)) (N := 1024) (by norm_num) he b
  simp only [Fin.sum_univ_one]
  rw [this, mul_comm (Ideal.div _ _) (h (ix2 r b)), add_assoc, add_assoc, add_assoc]

/-- What one point adds to the gain's gradient. -/
theorem point_dg (q v5 : S512x1024.Idx → EReal) (v : Vec Ideal S1x1024 .f32) (j : S1x1024.Idx) :
    k0_pay4 (F := Ideal) q (k0_pay7 (F := Ideal) v5) v j = v j + ∑ x : Fin 512, v5 (ix2 x (j 1)) * Ideal.rsqrt (Ideal.div (∑ k : Fin 1024, v5 (ix2 x k) * v5 (ix2 x k))
        (Ideal.ofBits .f32 0x44800000#32) + Ideal.ofBits .f32 0x358637BD#32) * q (ix2 x (j 1)) := by
  pointwise [k0_pay4, k0_pay6, k0_pay7]
  exact congrArg (v j + ·) (Finset.sum_congr rfl fun x _ => mul_comm _ _)

/-- The gain's gradient as the reference takes it: a sum over all the rows. -/
theorem ref_dg (dy : S4096x4096.Idx → EReal) (h : S4096x1024.Idx → EReal) (w : S1024x4096.Idx → EReal) (j : S1x1024.Idx) :
    Cert.Reference3Ideal.Read.val_main_v41 (F := Ideal) dy w h j = ∑ x : Fin 4096, h (ix2 x (j 1)) * Ideal.rsqrt (Ideal.div (∑ k : Fin 1024, h (ix2 x k) * h (ix2 x k))
        (Ideal.ofBits .f32 0x44800000#32) + Ideal.ofBits .f32 0x358637BD#32)
      * ∑ k : Fin 4096, dy (ix2 x k) * w (ix2 (j 1) k) := by
  pointwise [Cert.Reference3Ideal.Read.val_main_v0, Cert.Reference3Ideal.Read.val_main_cst, Cert.Reference3Ideal.Read.val_main_v1, Cert.Reference3Ideal.Read.val_main_v2, Cert.Reference3Ideal.Read.val_main_cst_0, Cert.Reference3Ideal.Read.val_main_v3, Cert.Reference3Ideal.Read.val_main_v4, Cert.Reference3Ideal.Read.val_main_cst_1, Cert.Reference3Ideal.Read.val_main_v5, Cert.Reference3Ideal.Read.val_main_v6, Cert.Reference3Ideal.Read.val_main_v7, Cert.Reference3Ideal.Read.val_main_v8, Cert.Reference3Ideal.Read.val_main_cst_2, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16, Cert.Reference3Ideal.Read.val_main_v17, Cert.Reference3Ideal.Read.val_main_v18, Cert.Reference3Ideal.Read.val_main_v19, Cert.Reference3Ideal.Read.val_main_cst_3, Cert.Reference3Ideal.Read.val_main_v20, Cert.Reference3Ideal.Read.val_main_v21, Cert.Reference3Ideal.Read.val_main_v22, Cert.Reference3Ideal.Read.val_main_v23, Cert.Reference3Ideal.Read.val_main_cst_4, Cert.Reference3Ideal.Read.val_main_v24, Cert.Reference3Ideal.Read.val_main_v25, Cert.Reference3Ideal.Read.val_main_cst_5, Cert.Reference3Ideal.Read.val_main_v26, Cert.Reference3Ideal.Read.val_main_v27, Cert.Reference3Ideal.Read.val_main_v28, Cert.Reference3Ideal.Read.val_main_v29, Cert.Reference3Ideal.Read.val_main_v30, Cert.Reference3Ideal.Read.val_main_v31, Cert.Reference3Ideal.Read.val_main_cst_6, Cert.Reference3Ideal.Read.val_main_v32, Cert.Reference3Ideal.Read.val_main_v33, Cert.Reference3Ideal.Read.val_main_cst_7, Cert.Reference3Ideal.Read.val_main_v34, Cert.Reference3Ideal.Read.val_main_v35, Cert.Reference3Ideal.Read.val_main_v36, Cert.Reference3Ideal.Read.val_main_v37, Cert.Reference3Ideal.Read.val_main_v38, Cert.Reference3Ideal.Read.val_main_v39, Cert.Reference3Ideal.Read.val_main_v40, Cert.Reference3Ideal.Read.val_main_v41]
  simp only [Fin.sum_univ_one]

/-- One point's gradient block. -/
theorem block_dh (c : Dev nD) (t : Fin cfg0.N) (q : S512x1024.Idx → EReal) (y : S512x1024.Idx)
    (hq : ∀ (a : Fin 512) (b : Fin 1024), q (ix2 a b) = ∑ x : Fin 4096, Dy m c (ix2 ⟨t.val * 512 + a.val, by have : t.val < 8 := t.isLt; omega⟩ x) * W m c (ix2 b x)) :
    k0_pay1 (F := Ideal) q (k0_pay6 (F := Ideal) (iblk m c 2 t)) (k0_pay7 (F := Ideal) (iblk m c 2 t)) (iblk m c 3 t) (iblk m c 4 t) y
      = Cert.Reference3Ideal.Read.val_main_v39 (F := Ideal) (Dy m c) (W m c) (H m c) (G m c) (Dr m c) (((cfg0.win 5).blk t).view.emb y) := by
  have ht : t.val < 8 := t.isLt
  have hy : y = ix2 (y 0) (y 1) := by blk_ext
  have he : ((cfg0.win 5).blk t).view.emb y = ix2 ⟨t.val * 512 + (y 0).val, by have : (y 0).val < 512 := (y 0).isLt; omega⟩ (y 1) := by blk_ext [idx t]
  rw [he, hy]
  refine point_dh _ _ _ _ _ _ _ _ _ _ _ _ (hq (y 0)) (fun x => ?_) (g_read m c t) ?_
  all_goals blk_ext [iblk, V, idx t]

/-- The gradient of the residual stream, over the whole array. -/
theorem final_dh (c : Dev nD) : (dats m 0 c).arrAt 5 cfg0.N
    = Cert.Reference3Ideal.Read.val_main_v39 (F := Ideal) (Dy m c) (W m c) (H m c) (G m c) (Dr m c) := by
  refine (dats m 0 c).arrAt_eq_of_covers 5 _ (by decide +kernel) fun t hf y => ?_
  blk_simp
  rw [after0_5]
  by_cases h : t.val % 8 = 0
  · rw [outsAt0_A m c t h]; frame_out
    exact block_dh m c t _ y (prod_read m c t)
  · rw [outsAt0_B m c t h]; frame_out
    exact block_dh m c t _ y (prod_read m c t)

/-- The bf16 copy of the gradient. -/
theorem final_dhb (c : Dev nD) : (dats m 0 c).arrAt 6 cfg0.N
    = Cert.Reference3Ideal.Read.val_main_v40 (F := Ideal) (Dy m c) (W m c) (H m c) (G m c) (Dr m c) := by
  refine (dats m 0 c).arrAt_eq_of_covers 6 _ (by decide +kernel) fun t hf y => ?_
  rw [Cert.Reference3Ideal.Read.val_main_v40_apply, Ideal.truncf_def]
  blk_simp
  rw [after0_6]
  by_cases h : t.val % 8 = 0
  · rw [outsAt0_A m c t h]; frame_out
    exact block_dh m c t _ y (prod_read m c t)
  · rw [outsAt0_B m c t h]; frame_out
    exact block_dh m c t _ y (prod_read m c t)

/-- The gain's gradient, summed over the eight points. -/
theorem final_dg (c : Dev nD) : (dats m 0 c).arrAt 7 cfg0.N = Cert.Reference3Ideal.Read.val_main_v41 (F := Ideal) (Dy m c) (W m c) (H m c) := by
  refine (dats m 0 c).arrAt_eq_of_after_last 7 t0_7 (by decide +kernel) _ fun j => ?_
  rw [ref_dg]
  blk_simp
  rw [after0_7, Pipeline.eq_sum_fin_of_reset_step_apply_last (fun n h => (outsAt0 m c n h).2.2) 8 (fun _ => (0 : EReal)) _
    (fun t h j => by rw [outsAt0_A m c t h]; frame_out; rw [point_dg]; congr 1; exact Ideal.ofBits_zero_f32)
    (fun t h j => by rw [outsAt0_B m c t h]; frame_out; rw [point_dg]) (le_of_eq N_0) t0_7 rfl j, zero_add]
  refine Fin.sum_mul_add_congr (S := 8) (n := 512) fun t k hl => ?_
  refine congrArg₂ (· * ·) ?_ (prod_read m c t k (j 1))
  have h2 : ∀ (x : Fin 1024), iblk m c 2 t (ix2 k x) = H m c (ix2 ⟨t.val * 512 + k.val, hl⟩ x) := fun x => by blk_ext [iblk, V, idx t]
  simp only [h2]
  rw [show iblk m c 2 t (ix2 k (j 1)) = H m c (ix2 ⟨t.val * 512 + k.val, hl⟩ (j 1)) from h2 (j 1)]

end Cert.Kernel3Ideal.Proof

namespace Cert.Proof

open Idealize.ShloMosaic Idealize.ShloMosaic.TcCoe Idealize.SL.Sem

/-- The idealized up product and norm, backward, computes what the reference does. -/
theorem norm4_value : Cert.algebraic_Kernel3Ideal_Reference3Ideal := by
  pair_intro
  · run_from Cert.Kernel3Ideal.Value.run_blocks m g
  · run_from Cert.Reference3Ideal.Value.run m' g'
    · rw [Cert.Reference3Ideal.Read.val_main_v39_eq]
      simp only [hagree c]
      exact (Cert.Kernel3Ideal.Proof.final_dh m c).symm
    · rw [Cert.Reference3Ideal.Read.val_main_v40_eq]
      simp only [hagree c]
      exact (Cert.Kernel3Ideal.Proof.final_dhb m c).symm
    · rw [Cert.Reference3Ideal.Read.val_main_v41_eq]
      exact (Cert.Kernel3Ideal.Proof.final_dg m c).symm

end Cert.Proof

end
-- ==== Proof.KvBwd.lean ====
module

public import proofs.«01_k».proof.Defs
public import proofs.«01_k».proof.Proof.Common
public import proofs.«01_k».proof.Proof.Gen.Kernel4Ideal.Value
public import proofs.«01_k».proof.Proof.Gen.Reference4Ideal.Read

/-! The value of the shared keys' and values' gradient -/

@[expose] public section

set_option maxRecDepth 16384

noncomputable section

namespace Cert.Kernel4Ideal.Proof

open Cert.Kernel4Ideal Cert.Kernel4Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] := by decide +kernel

abbrev Kv (c : Dev nD) : S4096x512.Idx → EReal := m ((c : Thread nD τ).loc main_arg0)
abbrev K3 (c : Dev nD) : S4096x256.Idx → EReal := m ((c : Thread nD τ).loc main_arg1)
abbrev K2 (c : Dev nD) : S4096x256.Idx → EReal := m ((c : Thread nD τ).loc main_arg2)
abbrev V3 (c : Dev nD) : S4096x256.Idx → EReal := m ((c : Thread nD τ).loc main_arg3)
abbrev V2 (c : Dev nD) : S4096x256.Idx → EReal := m ((c : Thread nD τ).loc main_arg4)
abbrev G (c : Dev nD) : S64.Idx → EReal := m ((c : Thread nD τ).loc main_arg5)

/-- The reference's gradient of a key column. -/
theorem ref_dk (kv : S4096x512.Idx → EReal) (a b d e : S4096x256.Idx → EReal) (g : S64.Idx → EReal) (r : Fin 4096) (x : Fin 512) (hx : x.val < 256) :
    Cert.Reference4Ideal.Read.val_main_v50 (F := Ideal) kv a b d e g (ix2 r x)
      = headGrad (fun k => kv (ix2 r ⟨x.val / 64 * 64 + k.val, by omega⟩))
          (fun k => (a (ix2 r ⟨x.val / 64 * 64 + k.val, by omega⟩) + b (ix2 r ⟨x.val / 64 * 64 + k.val, by omega⟩)) * g (ix1 k))
          ⟨x.val % 64, Nat.mod_lt _ (by norm_num)⟩ := by
  obtain ⟨ε, hε, he⟩ := eps_f32
  pointwise [Cert.Reference4Ideal.Read.val_main_v0, Cert.Reference4Ideal.Read.val_main_v1, Cert.Reference4Ideal.Read.val_main_v2, Cert.Reference4Ideal.Read.val_main_cst, Cert.Reference4Ideal.Read.val_main_v3, Cert.Reference4Ideal.Read.val_main_v4, Cert.Reference4Ideal.Read.val_main_cst_0, Cert.Reference4Ideal.Read.val_main_v5, Cert.Reference4Ideal.Read.val_main_v6, Cert.Reference4Ideal.Read.val_main_cst_1, Cert.Reference4Ideal.Read.val_main_v7, Cert.Reference4Ideal.Read.val_main_v8, Cert.Reference4Ideal.Read.val_main_v9, Cert.Reference4Ideal.Read.val_main_v10, Cert.Reference4Ideal.Read.val_main_cst_2, Cert.Reference4Ideal.Read.val_main_v11, Cert.Reference4Ideal.Read.val_main_v12, Cert.Reference4Ideal.Read.val_main_v13, Cert.Reference4Ideal.Read.val_main_v14, Cert.Reference4Ideal.Read.val_main_v15, Cert.Reference4Ideal.Read.val_main_v16, Cert.Reference4Ideal.Read.val_main_v17, Cert.Reference4Ideal.Read.val_main_v18, Cert.Reference4Ideal.Read.val_main_v19, Cert.Reference4Ideal.Read.val_main_v20, Cert.Reference4Ideal.Read.val_main_v21, Cert.Reference4Ideal.Read.val_main_v22, Cert.Reference4Ideal.Read.val_main_v23, Cert.Reference4Ideal.Read.val_main_v24, Cert.Reference4Ideal.Read.val_main_v25, Cert.Reference4Ideal.Read.val_main_v26, Cert.Reference4Ideal.Read.val_main_cst_3, Cert.Reference4Ideal.Read.val_main_v27, Cert.Reference4Ideal.Read.val_main_v28, Cert.Reference4Ideal.Read.val_main_cst_4, Cert.Reference4Ideal.Read.val_main_v29, Cert.Reference4Ideal.Read.val_main_v30, Cert.Reference4Ideal.Read.val_main_v31, Cert.Reference4Ideal.Read.val_main_v32, Cert.Reference4Ideal.Read.val_main_cst_5, Cert.Reference4Ideal.Read.val_main_v33, Cert.Reference4Ideal.Read.val_main_v34, Cert.Reference4Ideal.Read.val_main_cst_6, Cert.Reference4Ideal.Read.val_main_v35, Cert.Reference4Ideal.Read.val_main_v36, Cert.Reference4Ideal.Read.val_main_v37, Cert.Reference4Ideal.Read.val_main_v38, Cert.Reference4Ideal.Read.val_main_v39, Cert.Reference4Ideal.Read.val_main_cst_7, Cert.Reference4Ideal.Read.val_main_v40, Cert.Reference4Ideal.Read.val_main_v41, Cert.Reference4Ideal.Read.val_main_cst_8, Cert.Reference4Ideal.Read.val_main_v42, Cert.Reference4Ideal.Read.val_main_v43, Cert.Reference4Ideal.Read.val_main_v44, Cert.Reference4Ideal.Read.val_main_v45, Cert.Reference4Ideal.Read.val_main_v46, Cert.Reference4Ideal.Read.val_main_v47, Cert.Reference4Ideal.Read.val_main_v48, Cert.Reference4Ideal.Read.val_main_cst_9, Cert.Reference4Ideal.Read.val_main_v49, Cert.Reference4Ideal.Read.val_main_v50, Cert.Reference4Ideal.Read.val_main_v51, Cert.Reference4Ideal.Read.val_main_v52]
  refine (congrArg₂ (· + ·) (dif_neg (show ¬(256 ≤ x.val ∧ x.val - 256 < 256) by omega)) (dif_pos hx)).trans ((zero_add _).trans ?_)
  simp only [Fin.sum_univ_one]
  have key := rms_bwd (fun k : Fin 64 => kv (ix2 r ⟨x.val / 64 * 64 + k.val, by omega⟩))
    (fun k => (a (ix2 r ⟨x.val / 64 * 64 + k.val, by omega⟩) + b (ix2 r ⟨x.val / 64 * 64 + k.val, by omega⟩)) * g (ix1 k))
    (N := 64) (by norm_num) hε ⟨x.val % 64, Nat.mod_lt _ (by norm_num)⟩
  rw [← he, ← n64_f32, ← mhalf_f32] at key
  refine Eq.trans ?_ key.symm
  exact congrArg₂ (· + ·) rfl (mul_comm _ _)

/-- The reference's gradient of a value column. -/
theorem ref_dv (kv : S4096x512.Idx → EReal) (a b d e : S4096x256.Idx → EReal) (g : S64.Idx → EReal) (r : Fin 4096) (x : Fin 512) (hx : 256 ≤ x.val) :
    Cert.Reference4Ideal.Read.val_main_v50 (F := Ideal) kv a b d e g (ix2 r x)
      = d (ix2 r ⟨x.val - 256, by omega⟩) + e (ix2 r ⟨x.val - 256, by omega⟩) := by
  pointwise [Cert.Reference4Ideal.Read.val_main_v0, Cert.Reference4Ideal.Read.val_main_v1, Cert.Reference4Ideal.Read.val_main_v2, Cert.Reference4Ideal.Read.val_main_cst, Cert.Reference4Ideal.Read.val_main_v3, Cert.Reference4Ideal.Read.val_main_v4, Cert.Reference4Ideal.Read.val_main_cst_0, Cert.Reference4Ideal.Read.val_main_v5, Cert.Reference4Ideal.Read.val_main_v6, Cert.Reference4Ideal.Read.val_main_cst_1, Cert.Reference4Ideal.Read.val_main_v7, Cert.Reference4Ideal.Read.val_main_v8, Cert.Reference4Ideal.Read.val_main_v9, Cert.Reference4Ideal.Read.val_main_v10, Cert.Reference4Ideal.Read.val_main_cst_2, Cert.Reference4Ideal.Read.val_main_v11, Cert.Reference4Ideal.Read.val_main_v12, Cert.Reference4Ideal.Read.val_main_v13, Cert.Reference4Ideal.Read.val_main_v14, Cert.Reference4Ideal.Read.val_main_v15, Cert.Reference4Ideal.Read.val_main_v16, Cert.Reference4Ideal.Read.val_main_v17, Cert.Reference4Ideal.Read.val_main_v18, Cert.Reference4Ideal.Read.val_main_v19, Cert.Reference4Ideal.Read.val_main_v20, Cert.Reference4Ideal.Read.val_main_v21, Cert.Reference4Ideal.Read.val_main_v22, Cert.Reference4Ideal.Read.val_main_v23, Cert.Reference4Ideal.Read.val_main_v24, Cert.Reference4Ideal.Read.val_main_v25, Cert.Reference4Ideal.Read.val_main_v26, Cert.Reference4Ideal.Read.val_main_cst_3, Cert.Reference4Ideal.Read.val_main_v27, Cert.Reference4Ideal.Read.val_main_v28, Cert.Reference4Ideal.Read.val_main_cst_4, Cert.Reference4Ideal.Read.val_main_v29, Cert.Reference4Ideal.Read.val_main_v30, Cert.Reference4Ideal.Read.val_main_v31, Cert.Reference4Ideal.Read.val_main_v32, Cert.Reference4Ideal.Read.val_main_cst_5, Cert.Reference4Ideal.Read.val_main_v33, Cert.Reference4Ideal.Read.val_main_v34, Cert.Reference4Ideal.Read.val_main_cst_6, Cert.Reference4Ideal.Read.val_main_v35, Cert.Reference4Ideal.Read.val_main_v36, Cert.Reference4Ideal.Read.val_main_v37, Cert.Reference4Ideal.Read.val_main_v38, Cert.Reference4Ideal.Read.val_main_v39, Cert.Reference4Ideal.Read.val_main_cst_7, Cert.Reference4Ideal.Read.val_main_v40, Cert.Reference4Ideal.Read.val_main_v41, Cert.Reference4Ideal.Read.val_main_cst_8, Cert.Reference4Ideal.Read.val_main_v42, Cert.Reference4Ideal.Read.val_main_v43, Cert.Reference4Ideal.Read.val_main_v44, Cert.Reference4Ideal.Read.val_main_v45, Cert.Reference4Ideal.Read.val_main_v46, Cert.Reference4Ideal.Read.val_main_v47, Cert.Reference4Ideal.Read.val_main_v48, Cert.Reference4Ideal.Read.val_main_cst_9, Cert.Reference4Ideal.Read.val_main_v49, Cert.Reference4Ideal.Read.val_main_v50, Cert.Reference4Ideal.Read.val_main_v51, Cert.Reference4Ideal.Read.val_main_v52]
  refine (congrArg₂ (· + ·) (dif_pos (show 256 ≤ x.val ∧ x.val - 256 < 256 by omega)) (dif_neg (show ¬x.val < 256 by omega))).trans ((add_zero _).trans ?_)
  refine congrArg₂ (· + ·) ?_ ?_
  all_goals blk_ext

/-- The reference's gradient of the gain: the sum over the rows and the heads. -/
theorem ref_dg (kv : S4096x512.Idx → EReal) (a b : S4096x256.Idx → EReal) (j : S1x64.Idx) :
    Cert.Reference4Ideal.Read.val_main_v52 (F := Ideal) kv a b j = ∑ r : Fin 4096, ∑ n : Fin 4,
      kv (ix2 r ⟨n.val * 64 + (j 1).val, by have : (j 1).val < 64 := (j 1).isLt; omega⟩) *
        Ideal.rsqrt (Ideal.div (∑ k : Fin 64, kv (ix2 r ⟨n.val * 64 + k.val, by omega⟩) * kv (ix2 r ⟨n.val * 64 + k.val, by omega⟩))
          (Ideal.ofBits .f32 0x42800000#32) + Ideal.ofBits .f32 0x358637BD#32) *
        (a (ix2 r ⟨n.val * 64 + (j 1).val, by have : (j 1).val < 64 := (j 1).isLt; omega⟩) +
          b (ix2 r ⟨n.val * 64 + (j 1).val, by have : (j 1).val < 64 := (j 1).isLt; omega⟩)) := by
  pointwise [Cert.Reference4Ideal.Read.val_main_v0, Cert.Reference4Ideal.Read.val_main_v1, Cert.Reference4Ideal.Read.val_main_v2, Cert.Reference4Ideal.Read.val_main_cst, Cert.Reference4Ideal.Read.val_main_v3, Cert.Reference4Ideal.Read.val_main_v4, Cert.Reference4Ideal.Read.val_main_cst_0, Cert.Reference4Ideal.Read.val_main_v5, Cert.Reference4Ideal.Read.val_main_v6, Cert.Reference4Ideal.Read.val_main_cst_1, Cert.Reference4Ideal.Read.val_main_v7, Cert.Reference4Ideal.Read.val_main_v8, Cert.Reference4Ideal.Read.val_main_v9, Cert.Reference4Ideal.Read.val_main_v10, Cert.Reference4Ideal.Read.val_main_cst_2, Cert.Reference4Ideal.Read.val_main_v11, Cert.Reference4Ideal.Read.val_main_v12, Cert.Reference4Ideal.Read.val_main_v13, Cert.Reference4Ideal.Read.val_main_v14, Cert.Reference4Ideal.Read.val_main_v15, Cert.Reference4Ideal.Read.val_main_v16, Cert.Reference4Ideal.Read.val_main_v17, Cert.Reference4Ideal.Read.val_main_v18, Cert.Reference4Ideal.Read.val_main_v19, Cert.Reference4Ideal.Read.val_main_v20, Cert.Reference4Ideal.Read.val_main_v21, Cert.Reference4Ideal.Read.val_main_v22, Cert.Reference4Ideal.Read.val_main_v23, Cert.Reference4Ideal.Read.val_main_v24, Cert.Reference4Ideal.Read.val_main_v25, Cert.Reference4Ideal.Read.val_main_v26, Cert.Reference4Ideal.Read.val_main_cst_3, Cert.Reference4Ideal.Read.val_main_v27, Cert.Reference4Ideal.Read.val_main_v28, Cert.Reference4Ideal.Read.val_main_cst_4, Cert.Reference4Ideal.Read.val_main_v29, Cert.Reference4Ideal.Read.val_main_v30, Cert.Reference4Ideal.Read.val_main_v31, Cert.Reference4Ideal.Read.val_main_v32, Cert.Reference4Ideal.Read.val_main_cst_5, Cert.Reference4Ideal.Read.val_main_v33, Cert.Reference4Ideal.Read.val_main_v34, Cert.Reference4Ideal.Read.val_main_cst_6, Cert.Reference4Ideal.Read.val_main_v35, Cert.Reference4Ideal.Read.val_main_v36, Cert.Reference4Ideal.Read.val_main_v37, Cert.Reference4Ideal.Read.val_main_v38, Cert.Reference4Ideal.Read.val_main_v39, Cert.Reference4Ideal.Read.val_main_cst_7, Cert.Reference4Ideal.Read.val_main_v40, Cert.Reference4Ideal.Read.val_main_v41, Cert.Reference4Ideal.Read.val_main_cst_8, Cert.Reference4Ideal.Read.val_main_v42, Cert.Reference4Ideal.Read.val_main_v43, Cert.Reference4Ideal.Read.val_main_v44, Cert.Reference4Ideal.Read.val_main_v45, Cert.Reference4Ideal.Read.val_main_v46, Cert.Reference4Ideal.Read.val_main_v47, Cert.Reference4Ideal.Read.val_main_v48, Cert.Reference4Ideal.Read.val_main_cst_9, Cert.Reference4Ideal.Read.val_main_v49, Cert.Reference4Ideal.Read.val_main_v50, Cert.Reference4Ideal.Read.val_main_v51, Cert.Reference4Ideal.Read.val_main_v52]
  simp only [Finset.univ_unique, Finset.sum_singleton]

/-- What the body stores of the key and value columns, of the blocks it reads. -/
abbrev dkvOf (v0 v2 v1 v4 : S1024x256.Idx → EReal) (v6 : S1024x512.Idx → EReal) (v7 : S1x64.Idx → EReal) : S1024x512.Idx → EReal :=
  k0_pay28 (F := Ideal) (k0_pay1 v0 v2) (k0_pay2 v1 v4) v6 (k0_pay3 v7) (k0_pay8 v0 v2 v6 v7)
    (k0_pay15 (k0_pay1 v0 v2) (k0_pay3 v7) (k0_pay10 v6) (k0_pay11 v6)) (k0_pay18 v6) (k0_pay19 v6) (k0_pay22 (k0_pay1 v0 v2) (k0_pay3 v7))
    (k0_pay23 (k0_pay1 v0 v2) v6 (k0_pay3 v7))

/-- A key column of it, at head `n` and feature `i`. -/
theorem point_dk (v0 v2 v1 v4 : S1024x256.Idx → EReal) (v6 : S1024x512.Idx → EReal) (v7 : S1x64.Idx → EReal) (a : Fin 1024) (n : Fin 4) (i : Fin 64) :
    dkvOf v0 v2 v1 v4 v6 v7 (ix2 a ⟨n.val * 64 + i.val, by omega⟩)
      = headGrad (fun k => v6 (ix2 a ⟨n.val * 64 + k.val, by omega⟩))
          (fun k => (v0 (ix2 a ⟨n.val * 64 + k.val, by omega⟩) + v2 (ix2 a ⟨n.val * 64 + k.val, by omega⟩)) * v7 (ix2 0 k)) i := by
  match n with
  | ⟨0, _⟩ => pointwise [dkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  | ⟨1, _⟩ => pointwise [dkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  | ⟨2, _⟩ => pointwise [dkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
              rw [dif_neg (by omega), dif_neg (by omega), dif_pos (by omega)]
              have e : 128 + i.val - 64 - 64 = i.val := by omega
              simp only [e]
  | ⟨3, _⟩ => pointwise [dkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
              rw [dif_neg (by omega), dif_neg (by omega), dif_neg (by omega), dif_pos (by omega)]
              have e : 192 + i.val - 64 - 64 - 64 = i.val := by omega
              simp only [e]

/-- A value column of it. -/
theorem point_dv (v0 v2 v1 v4 : S1024x256.Idx → EReal) (v6 : S1024x512.Idx → EReal) (v7 : S1x64.Idx → EReal) (a : Fin 1024) (x : Fin 256) :
    dkvOf v0 v2 v1 v4 v6 v7 (ix2 a ⟨256 + x.val, by omega⟩) = v1 (ix2 a x) + v4 (ix2 a x) := by
  pointwise [dkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  rw [dif_neg (by omega), dif_neg (by omega), dif_neg (by omega), dif_neg (by omega)]
  refine congrArg₂ (· + ·) ?_ ?_
  all_goals blk_ext

/-- One row's term of the gain's gradient: the body's and the reference's are the same. -/
theorem dg_row (p q : S1024x256.Idx → EReal) (o : S1024x512.Idx → EReal) (kv : S4096x512.Idx → EReal) (a b : S4096x256.Idx → EReal) (k : Fin 1024)
    (r : Fin 4096) (j : Fin 64) (h0 : ∀ x, o (ix2 k x) = kv (ix2 r x)) (h2 : ∀ x, p (ix2 k x) = a (ix2 r x)) (h3 : ∀ x, q (ix2 k x) = b (ix2 r x)) :
    ∑ n : Fin 4, (p (ix2 k ⟨n.val * 64 + j.val, by omega⟩) + q (ix2 k ⟨n.val * 64 + j.val, by omega⟩)) *
        (o (ix2 k ⟨n.val * 64 + j.val, by omega⟩) *
          Ideal.rsqrt (Ideal.div (∑ x : Fin 64, o (ix2 k ⟨n.val * 64 + x.val, by omega⟩) * o (ix2 k ⟨n.val * 64 + x.val, by omega⟩))
            (Ideal.ofBits .f32 0x42800000#32) + Ideal.ofBits .f32 0x358637BD#32))
      = ∑ n : Fin 4, kv (ix2 r ⟨n.val * 64 + j.val, by omega⟩) *
        Ideal.rsqrt (Ideal.div (∑ k : Fin 64, kv (ix2 r ⟨n.val * 64 + k.val, by omega⟩) * kv (ix2 r ⟨n.val * 64 + k.val, by omega⟩))
          (Ideal.ofBits .f32 0x42800000#32) + Ideal.ofBits .f32 0x358637BD#32) *
        (a (ix2 r ⟨n.val * 64 + j.val, by omega⟩) + b (ix2 r ⟨n.val * 64 + j.val, by omega⟩)) := by
  simp only [h0, h2, h3]
  exact Finset.sum_congr rfl fun n _ => mul_comm _ _

/-- What a point adds to the gradient of the gain. -/
theorem point_dg (v0 v2 : S1024x256.Idx → EReal) (v6 : S1024x512.Idx → EReal) (acc : S1x64.Idx → EReal) (j : S1x64.Idx) :
    k0_pay30 (F := Ideal) (k0_pay1 v0 v2) v6 (k0_pay16 (k0_pay1 v0 v2) (k0_pay9 v0 v2 v6) (k0_pay10 v6) (k0_pay11 v6))
        (k0_pay21 (k0_pay1 v0 v2) v6) acc j
      = acc j + ∑ a : Fin 1024, ∑ n : Fin 4, (v0 (ix2 a ⟨n.val * 64 + (j 1).val, by have : (j 1).val < 64 := (j 1).isLt; omega⟩) +
          v2 (ix2 a ⟨n.val * 64 + (j 1).val, by have : (j 1).val < 64 := (j 1).isLt; omega⟩)) *
        (v6 (ix2 a ⟨n.val * 64 + (j 1).val, by have : (j 1).val < 64 := (j 1).isLt; omega⟩) *
          Ideal.rsqrt (Ideal.div (∑ k : Fin 64, v6 (ix2 a ⟨n.val * 64 + k.val, by omega⟩) * v6 (ix2 a ⟨n.val * 64 + k.val, by omega⟩))
            (Ideal.ofBits .f32 0x42800000#32) + Ideal.ofBits .f32 0x358637BD#32)) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
  simp only [Fin.sum_univ_four, Finset.sum_add_distrib]
  refine congrArg (acc j + ·) (congrArg₂ (· + ·) (congrArg₂ (· + ·) (congrArg₂ (· + ·) ?_ rfl) rfl) rfl)
  simp only [Fin.val_zero, zero_mul, zero_add]

/-- The gain as the call finds it. -/
theorem g_read (c : Dev nD) (t : Fin cfg0.N) (k : Fin 64) : iblk m c 1 t (ix2 0 k) = G m c (ix1 k) := by
  have h : ∀ j : S1x64.Idx, j = ix2 0 k → V m c main_v0 j = G m c (ix1 k) := by
    rintro _ rfl
    entry_read
    pointwise []
  refine h _ ?_
  blk_ext [idx t]

/-- One point's gradient block. -/
theorem block_dkv (c : Dev nD) (t : Fin cfg0.N) (y : S1024x512.Idx) :
    dkvOf (iblk m c 2 t) (iblk m c 3 t) (iblk m c 4 t) (iblk m c 5 t) (iblk m c 0 t) (iblk m c 1 t) y
      = Cert.Reference4Ideal.Read.val_main_v50 (F := Ideal) (Kv m c) (K3 m c) (K2 m c) (V3 m c) (V2 m c) (G m c) (((cfg0.win 6).blk t).view.emb y) := by
  have ht : t.val < 4 := t.isLt
  obtain ⟨a, x, rfl⟩ : ∃ (a : Fin 1024) (x : Fin 512), y = ix2 a x := ⟨y 0, y 1, by blk_ext⟩
  have hr : t.val * 1024 + a.val < 4096 := by omega
  have he : ((cfg0.win 6).blk t).view.emb (ix2 a x) = ix2 ⟨t.val * 1024 + a.val, hr⟩ x := by blk_ext [idx t]
  rw [he]
  by_cases h : x.val < 256
  · have hx : x = ⟨(⟨x.val / 64, by omega⟩ : Fin 4).val * 64 + (⟨x.val % 64, Nat.mod_lt _ (by norm_num)⟩ : Fin 64).val, by omega⟩ := Fin.ext (by simp only; omega)
    refine (congrArg (fun z => dkvOf (iblk m c 2 t) (iblk m c 3 t) (iblk m c 4 t) (iblk m c 5 t) (iblk m c 0 t) (iblk m c 1 t) (ix2 a z)) hx).trans ?_
    refine (point_dk _ _ _ _ _ _ a _ _).trans (Eq.trans ?_ (ref_dk _ _ _ _ _ _ _ _ h).symm)
    refine congrArg₂ (fun p q => headGrad p q _) (funext fun k => ?_) (funext fun k => congrArg₂ (· * ·) (congrArg₂ (· + ·) ?_ ?_) (g_read m c t k))
    all_goals blk_ext [iblk, V, idx t]
  · have hx : x = ⟨256 + (⟨x.val - 256, by omega⟩ : Fin 256).val, by omega⟩ := Fin.ext (by simp only; omega)
    refine (congrArg (fun z => dkvOf (iblk m c 2 t) (iblk m c 3 t) (iblk m c 4 t) (iblk m c 5 t) (iblk m c 0 t) (iblk m c 1 t) (ix2 a z)) hx).trans ?_
    refine (point_dv _ _ _ _ _ _ a _).trans (Eq.trans ?_ (ref_dv _ _ _ _ _ _ _ _ (by omega)).symm)
    refine congrArg₂ (· + ·) ?_ ?_
    all_goals blk_ext [iblk, V, idx t]

/-- The gradient of the keys and values, over the whole array. -/
theorem final_dkv (c : Dev nD) : (dats m 0 c).arrAt 6 cfg0.N
    = Cert.Reference4Ideal.Read.val_main_v51 (F := Ideal) (Kv m c) (K3 m c) (K2 m c) (V3 m c) (V2 m c) (G m c) := by
  refine (dats m 0 c).arrAt_eq_of_covers 6 _ (by decide +kernel) fun t hf y => ?_
  rw [Cert.Reference4Ideal.Read.val_main_v51_apply, Ideal.truncf_def]
  blk_simp
  rw [after0_6]
  by_cases h : t.val % 4 = 0
  · rw [outsAt0_A m c t h]; frame_out
    exact block_dkv m c t y
  · rw [outsAt0_B m c t h]; frame_out
    exact block_dkv m c t y

/-- The gain's gradient, summed over the four points. -/
theorem final_dg (c : Dev nD) : (dats m 0 c).arrAt 7 cfg0.N = Cert.Reference4Ideal.Read.val_main_v52 (F := Ideal) (Kv m c) (K3 m c) (K2 m c) := by
  refine (dats m 0 c).arrAt_eq_of_after_last 7 t0_3 (by decide +kernel) _ fun j => ?_
  rw [ref_dg]
  blk_simp
  rw [after0_7, Pipeline.eq_sum_fin_of_reset_step_apply_last (fun n h => (outsAt0 m c n h).2) 4 (fun _ => (0 : EReal)) _
    (fun t h j => by rw [outsAt0_A m c t h]; frame_out; rw [point_dg]; congr 1; exact Ideal.ofBits_zero_f32)
    (fun t h j => by rw [outsAt0_B m c t h]; frame_out; rw [point_dg]) (le_of_eq N_0) t0_3 rfl j, zero_add]
  refine Fin.sum_mul_add_congr (S := 4) (n := 1024) fun t k hl => ?_
  refine dg_row _ _ _ _ _ _ k ⟨t.val * 1024 + k.val, hl⟩ (j 1) (fun x => ?_) (fun x => ?_) (fun x => ?_)
  all_goals blk_ext [iblk, V, idx t]

end Cert.Kernel4Ideal.Proof

namespace Cert.Proof

open Idealize.ShloMosaic Idealize.ShloMosaic.TcCoe Idealize.SL.Sem

/-- The idealized gradient of the shared keys and values computes what the reference does. -/
theorem kvbwd_value : Cert.algebraic_Kernel4Ideal_Reference4Ideal := by
  pair_intro
  · run_from Cert.Kernel4Ideal.Value.run_blocks m g
  · run_from Cert.Reference4Ideal.Value.run m' g'
    · rw [Cert.Reference4Ideal.Read.val_main_v51_eq]
      simp only [hagree c]
      exact (Cert.Kernel4Ideal.Proof.final_dkv m c).symm
    · rw [Cert.Reference4Ideal.Read.val_main_v52_eq]
      exact (Cert.Kernel4Ideal.Proof.final_dg m c).symm

end Cert.Proof

end
-- ==== Proof.Relu2.lean ====
module

public import proofs.«01_k».proof.Defs
public import proofs.«01_k».proof.Proof.Common
public import proofs.«01_k».proof.Proof.Gen.Kernel5Ideal.Value
public import proofs.«01_k».proof.Proof.Gen.Reference5Ideal.Read

/-! The value of the MLP's down product taken backward through the squared rectifier: the gradient of the pre-activations, in four
column blocks at every point, equal to the derivative of `u ↦ relu(u)² @ w_down` at `u = rmsnorm(h, g) @ w_up`. -/

@[expose] public section

set_option maxRecDepth 16384

noncomputable section

namespace Cert.Kernel5Ideal.Proof

open Cert.Kernel5Ideal Cert.Kernel5Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![t.val, 0] ∧ win0_2.index t = ![0, 0, 0]
    ∧ win0_3.index t = ![t.val, 0] := by decide +kernel

/-- The gathered weights as the call finds them. -/
theorem w_arr (c : Dev nD) : V m c main_v6 = (truncf .bf16 (concatenate S4x2560x1024 1
    [⟨S4x1024x1024, shapeCast S4x1024x1024 (m ((c : Thread nD τ).loc main_arg2)) shapeCasts_S4096x1024_S4x1024x1024⟩,
     ⟨S4x1024x1024, transpose S4x1024x1024 [1, 0, 2] (shapeCast S1024x4x1024 (m ((c : Thread nD τ).loc main_arg3)) shapeCasts_S1024x4096_S1024x4x1024) transposes_S1024x4x1024_S4x1024x1024_1_0_2⟩,
     ⟨S4x256x1024, shapeCast S4x256x1024 (m ((c : Thread nD τ).loc main_arg4)) shapeCasts_S1024x1024_S4x256x1024⟩,
     ⟨S4x256x1024, shapeCast S4x256x1024 (m ((c : Thread nD τ).loc main_arg5)) shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16) := by
  unfold V
  after_results
  rfl

/-- The rows of `w_down` inside the gathered weights, chip by chip. -/
theorem packed_down (a : S4096x1024.Idx → EReal) (b : S1024x4096.Idx → EReal) (u d : S1024x1024.Idx → EReal) (k : Fin 4) (q x : Fin 1024) :
    (truncf .bf16 (concatenate S4x2560x1024 1
    [⟨S4x1024x1024, shapeCast S4x1024x1024 a shapeCasts_S4096x1024_S4x1024x1024⟩,
     ⟨S4x1024x1024, transpose S4x1024x1024 [1, 0, 2] (shapeCast S1024x4x1024 b shapeCasts_S1024x4096_S1024x4x1024) transposes_S1024x4x1024_S4x1024x1024_1_0_2⟩,
     ⟨S4x256x1024, shapeCast S4x256x1024 u shapeCasts_S1024x1024_S4x256x1024⟩,
     ⟨S4x256x1024, shapeCast S4x256x1024 d shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16)
     (ix3 k ⟨q.val, by omega⟩ x) = a (ix2 ⟨k.val * 1024 + q.val, by omega⟩ x) := by
  pointwise []
  blk_ext

abbrev Hr (c : Dev nD) : S4096x1024.Idx → EReal := m ((c : Thread nD τ).loc main_arg0)
abbrev G (c : Dev nD) : S1024.Idx → EReal := m ((c : Thread nD τ).loc main_arg1)
abbrev Wd (c : Dev nD) : S4096x1024.Idx → EReal := m ((c : Thread nD τ).loc main_arg2)
abbrev Wu (c : Dev nD) : S1024x4096.Idx → EReal := m ((c : Thread nD τ).loc main_arg3)
abbrev Dh (c : Dev nD) : S4096x1024.Idx → EReal := m ((c : Thread nD τ).loc main_arg6)

/-- The weights' block read at a row of `w_down`. -/
theorem w_read (c : Dev nD) (t : Fin cfg0.N) (k : Fin 4) (q x : Fin 1024) :
    X0_2 m c t (ix3 k q x) = Wd m c (ix2 ⟨k.val * 1024 + q.val, by omega⟩ x) := by
  have h : ∀ j : S4x2560x1024.Idx, j = ix3 k ⟨q.val, by omega⟩ x → V m c main_v6 j = Wd m c (ix2 ⟨k.val * 1024 + q.val, by omega⟩ x) := by
    rintro _ rfl
    rw [w_arr]
    exact packed_down _ _ _ _ k q x
  unfold X0_2 Pipeline.Window.fill
  rw [dif_pos (moved0_2 t _)]
  refine h _ ?_
  blk_ext [idx t]

/-- The saved activations a point is given are the reference's. -/
theorem act_read (c : Dev nD) (t : Fin cfg0.N) (a : Fin 1024) (x : Fin 4096) :
    iblk m c 1 t (ix2 a x) = Cert.Reference5Ideal.Read.val_main_v18 (F := Ideal) (Hr m c) (G m c) (Wu m c) (ix2 ⟨t.val * 1024 + a.val, by have : t.val < 4 := t.isLt; omega⟩ x) := by
  have h : ∀ j : S4096x4096.Idx, j = ix2 ⟨t.val * 1024 + a.val, by have : t.val < 4 := t.isLt; omega⟩ x → V m c main_v26 j = Cert.Reference5Ideal.Read.val_main_v18 (F := Ideal) (Hr m c) (G m c) (Wu m c) (ix2 ⟨t.val * 1024 + a.val, by have : t.val < 4 := t.isLt; omega⟩ x) := by
    rintro _ rfl
    entry_read
    pointwise [Cert.Reference5Ideal.Read.val_main_v0, Cert.Reference5Ideal.Read.val_main_cst, Cert.Reference5Ideal.Read.val_main_v1, Cert.Reference5Ideal.Read.val_main_v2, Cert.Reference5Ideal.Read.val_main_cst_0, Cert.Reference5Ideal.Read.val_main_v3, Cert.Reference5Ideal.Read.val_main_v4, Cert.Reference5Ideal.Read.val_main_cst_1, Cert.Reference5Ideal.Read.val_main_v5, Cert.Reference5Ideal.Read.val_main_v6, Cert.Reference5Ideal.Read.val_main_v7, Cert.Reference5Ideal.Read.val_main_v8, Cert.Reference5Ideal.Read.val_main_v9, Cert.Reference5Ideal.Read.val_main_v10, Cert.Reference5Ideal.Read.val_main_v11, Cert.Reference5Ideal.Read.val_main_v12, Cert.Reference5Ideal.Read.val_main_v13, Cert.Reference5Ideal.Read.val_main_call0_cst, Cert.Reference5Ideal.Read.val_main_call0_v0, Cert.Reference5Ideal.Read.val_main_v14, Cert.Reference5Ideal.Read.val_main_cst_2, Cert.Reference5Ideal.Read.val_main_v15, Cert.Reference5Ideal.Read.val_main_v16, Cert.Reference5Ideal.Read.val_main_cst_3, Cert.Reference5Ideal.Read.val_main_v17, Cert.Reference5Ideal.Read.val_main_v18, Cert.Reference5Ideal.Read.val_main_v19, Cert.Reference5Ideal.Read.val_main_v20, Cert.Reference5Ideal.Read.val_main_v21, Cert.Reference5Ideal.Read.val_main_v22, Cert.Reference5Ideal.Read.val_main_v23, Cert.Reference5Ideal.Read.val_main_v24, Cert.Reference5Ideal.Read.val_main_cst_4, Cert.Reference5Ideal.Read.val_main_v25, Cert.Reference5Ideal.Read.val_main_v26, Cert.Reference5Ideal.Read.val_main_v27]
  refine h _ ?_
  blk_ext [idx t]

/-- The rows of `dh` a point is given. -/
theorem dh_read (c : Dev nD) (t : Fin cfg0.N) (a x : Fin 1024) :
    iblk m c 0 t (ix2 a x) = Dh m c (ix2 ⟨t.val * 1024 + a.val, by have : t.val < 4 := t.isLt; omega⟩ x) := by
  blk_ext [iblk, V, idx t]

/-- Twice a number. -/
theorem add_self (x : EReal) : x + x = ((2 : ℝ) : EReal) * x := by
  induction x with
  | bot => rw [EReal.coe_mul_bot_of_pos (by norm_num)]; rfl
  | top => rw [EReal.coe_mul_top_of_pos (by norm_num)]; rfl
  | coe x => rw [← EReal.coe_add, ← EReal.coe_mul, two_mul]

/-- The root of a square of a number that is not negative. -/
theorem sqrt_sq {x : EReal} (h : 0 ≤ x) : Ideal.sqrt (x * x) = x := by
  induction x with
  | bot => exact absurd h (by simp)
  | top => rfl
  | coe x =>
    have hx : 0 ≤ x := by exact_mod_cast h
    rw [← EReal.coe_mul]
    show (if x * x < 0 then (⊥ : EReal) else ((Real.sqrt (x * x) : ℝ) : EReal)) = x
    rw [if_neg (not_lt.2 (mul_self_nonneg x)), Real.sqrt_mul_self hx]

/-- The slope of the squared rectifier, taken from its saved value, is its derivative. -/
theorem relu2_bwd (s d : EReal) : d * (((2 : ℝ) : EReal) * Ideal.sqrt (max s 0 * max s 0)) = if 0 < s then max s 0 * d + d * max s 0 else 0 := by
  rw [sqrt_sq (le_max_right s 0)]
  by_cases h : 0 < s
  · rw [if_pos h, mul_comm (max s 0) d, add_self, mul_left_comm]
  · rw [if_neg h, max_eq_right (not_lt.1 h), mul_zero, mul_zero]

/-- One entry of the gradient, when the blocks are row `r` of the arrays and row `q` of the weights. -/
theorem point (v0 v4 : S1024x1024.Idx → EReal) (v1 : S1x1024x1024.Idx → EReal) (h : S4096x1024.Idx → EReal) (g : S1024.Idx → EReal) (wd : S4096x1024.Idx → EReal) (wu : S1024x4096.Idx → EReal) (dh : S4096x1024.Idx → EReal)
    (a b : Fin 1024) (r q : Fin 4096) (h0 : ∀ x, v0 (ix2 a x) = dh (ix2 r x)) (h1 : ∀ x, v1 (ix3 0 b x) = wd (ix2 q x))
    (h4 : v4 (ix2 a b) = Cert.Reference5Ideal.Read.val_main_v18 (F := Ideal) h g wu (ix2 r q)) :
    k0_pay3 (F := Ideal) v0 v1 v4 (ix2 a b) = Cert.Reference5Ideal.Read.val_main_v26 (F := Ideal) h g wd wu dh (ix2 r q) := by
  revert h4
  pointwise [k0_pay3, Cert.Reference5Ideal.Read.val_main_v0, Cert.Reference5Ideal.Read.val_main_cst, Cert.Reference5Ideal.Read.val_main_v1, Cert.Reference5Ideal.Read.val_main_v2, Cert.Reference5Ideal.Read.val_main_cst_0, Cert.Reference5Ideal.Read.val_main_v3, Cert.Reference5Ideal.Read.val_main_v4, Cert.Reference5Ideal.Read.val_main_cst_1, Cert.Reference5Ideal.Read.val_main_v5, Cert.Reference5Ideal.Read.val_main_v6, Cert.Reference5Ideal.Read.val_main_v7, Cert.Reference5Ideal.Read.val_main_v8, Cert.Reference5Ideal.Read.val_main_v9, Cert.Reference5Ideal.Read.val_main_v10, Cert.Reference5Ideal.Read.val_main_v11, Cert.Reference5Ideal.Read.val_main_v12, Cert.Reference5Ideal.Read.val_main_v13, Cert.Reference5Ideal.Read.val_main_call0_cst, Cert.Reference5Ideal.Read.val_main_call0_v0, Cert.Reference5Ideal.Read.val_main_v14, Cert.Reference5Ideal.Read.val_main_cst_2, Cert.Reference5Ideal.Read.val_main_v15, Cert.Reference5Ideal.Read.val_main_v16, Cert.Reference5Ideal.Read.val_main_cst_3, Cert.Reference5Ideal.Read.val_main_v17, Cert.Reference5Ideal.Read.val_main_v18, Cert.Reference5Ideal.Read.val_main_v19, Cert.Reference5Ideal.Read.val_main_v20, Cert.Reference5Ideal.Read.val_main_v21, Cert.Reference5Ideal.Read.val_main_v22, Cert.Reference5Ideal.Read.val_main_v23, Cert.Reference5Ideal.Read.val_main_v24, Cert.Reference5Ideal.Read.val_main_cst_4, Cert.Reference5Ideal.Read.val_main_v25, Cert.Reference5Ideal.Read.val_main_v26, Cert.Reference5Ideal.Read.val_main_v27]
  intro h4
  simp only [h0, h1, h4]
  rw [two_f32]
  exact relu2_bwd _ _

/-- The gradient of the MLP's pre-activations, over the whole array. -/
theorem final_d (c : Dev nD) : (dats m 0 c).arrAt 3 cfg0.N
    = Cert.Reference5Ideal.Read.val_main_v27 (F := Ideal) (Hr m c) (G m c) (Wd m c) (Wu m c) (Dh m c) := by
  refine (dats m 0 c).arrAt_eq_of_covers 3 _ (by decide +kernel) fun t hf y => ?_
  rw [Cert.Reference5Ideal.Read.val_main_v27_apply, Ideal.truncf_def]
  blk_simp
  rw [after0_3]
  unfold outsAt0
  frame_out
  have ht : t.val < 4 := t.isLt
  canon_tiles x h
  case piece0 =>
    obtain ⟨a, b, rfl⟩ : ∃ (a b : Fin 1024), x = ix2 a b := ⟨x 0, x 1, by blk_ext⟩
    refine (point _ _ _ _ _ _ _ _ a b ⟨t.val * 1024 + a.val, by omega⟩ ⟨3 * 1024 + b.val, by omega⟩ (dh_read m c t a) (fun x => ?_) ?_).trans (congrArg _ ?_)
    · refine (View.ld_unit_apply_of _ _ _ _ _ (ix3 3 b x) ?_).trans (w_read m c t 3 b x); intro ax; fin_cases ax <;> simp
    · refine (View.ld_unit_apply_of _ _ _ _ _ (ix2 a ⟨3 * 1024 + b.val, by omega⟩) ?_).trans (act_read m c t a _); intro ax; fin_cases ax <;> simp
    · blk_ext [idx t, h0, h1]
  case piece1 =>
    obtain ⟨a, b, rfl⟩ : ∃ (a b : Fin 1024), x = ix2 a b := ⟨x 0, x 1, by blk_ext⟩
    refine (point _ _ _ _ _ _ _ _ a b ⟨t.val * 1024 + a.val, by omega⟩ ⟨2 * 1024 + b.val, by omega⟩ (dh_read m c t a) (fun x => ?_) ?_).trans (congrArg _ ?_)
    · refine (View.ld_unit_apply_of _ _ _ _ _ (ix3 2 b x) ?_).trans (w_read m c t 2 b x); intro ax; fin_cases ax <;> simp
    · refine (View.ld_unit_apply_of _ _ _ _ _ (ix2 a ⟨2 * 1024 + b.val, by omega⟩) ?_).trans (act_read m c t a _); intro ax; fin_cases ax <;> simp
    · blk_ext [idx t, h0, h1]
  case piece2 =>
    obtain ⟨a, b, rfl⟩ : ∃ (a b : Fin 1024), x = ix2 a b := ⟨x 0, x 1, by blk_ext⟩
    refine (point _ _ _ _ _ _ _ _ a b ⟨t.val * 1024 + a.val, by omega⟩ ⟨1 * 1024 + b.val, by omega⟩ (dh_read m c t a) (fun x => ?_) ?_).trans (congrArg _ ?_)
    · refine (View.ld_unit_apply_of _ _ _ _ _ (ix3 1 b x) ?_).trans (w_read m c t 1 b x); intro ax; fin_cases ax <;> simp
    · refine (View.ld_unit_apply_of _ _ _ _ _ (ix2 a ⟨1 * 1024 + b.val, by omega⟩) ?_).trans (act_read m c t a _); intro ax; fin_cases ax <;> simp
    · blk_ext [idx t, h0, h1]
  case piece3 =>
    obtain ⟨a, b, rfl⟩ : ∃ (a b : Fin 1024), x = ix2 a b := ⟨x 0, x 1, by blk_ext⟩
    refine (point _ _ _ _ _ _ _ _ a b ⟨t.val * 1024 + a.val, by omega⟩ ⟨0 * 1024 + b.val, by omega⟩ (dh_read m c t a) (fun x => ?_) ?_).trans (congrArg _ ?_)
    · refine (View.ld_unit_apply_of _ _ _ _ _ (ix3 0 b x) ?_).trans (w_read m c t 0 b x); intro ax; fin_cases ax <;> simp
    · refine (View.ld_unit_apply_of _ _ _ _ _ (ix2 a ⟨0 * 1024 + b.val, by omega⟩) ?_).trans (act_read m c t a _); intro ax; fin_cases ax <;> simp
    · blk_ext [idx t, h0, h1]

end Cert.Kernel5Ideal.Proof

namespace Cert.Proof

open Idealize.ShloMosaic Idealize.ShloMosaic.TcCoe Idealize.SL.Sem

/-- The idealized gradient of the pre-activations is the reference's. -/
theorem relu2_value : Cert.algebraic_Kernel5Ideal_Reference5Ideal := by
  pair_intro
  · run_from Cert.Kernel5Ideal.Value.run_blocks m g
  · run_from Cert.Reference5Ideal.Value.run m' g'
    · rw [Cert.Reference5Ideal.Read.val_main_v27_eq]
      exact (Cert.Kernel5Ideal.Proof.final_d m c).symm

end Cert.Proof

end
-- ==== Proof.Attn.lean ====
module

public import proofs.«01_k».proof.Proof.Common

/-! Facts about one attention head that the memory attention's and the pooling mixer's gradients share. -/

@[expose] public section

noncomputable section

namespace Cert.Common

open Idealize.ShloMosaic

/-- The word of one eighth is one eighth. -/
theorem eighth_f32 : Ideal.ofBits .f32 0x3E000000#32 = (((1 : ℝ) / 8 : ℝ) : EReal) := by
  simp [Ideal.ofBits, Ideal.ieee]; norm_num; rw [← EReal.coe_mul]; norm_num

/-- The word of one is one. -/
theorem one_f32 : Ideal.ofBits .f32 0x3F800000#32 = ((1 : ℝ) : EReal) := by
  simp [Ideal.ofBits, Ideal.ieee]; norm_num; rw [← EReal.coe_mul]; norm_num

/-- The product of an infinity with itself. -/
theorem sq_top {x : EReal} (h : x = ⊤ ∨ x = ⊥) : x * x = ⊤ := by
  rcases h with rfl | rfl <;> simp

/-- A normalised entry is a real number, whatever the row. -/
theorem norm_real {n : ℕ} (h : Fin n → EReal) {N e : ℝ} (hN : 0 < N) (he : 0 < e) (i : Fin n) :
    ∃ x : ℝ, h i * Ideal.rsqrt (Ideal.div (∑ k, h k * h k) N + e) = (x : EReal) := by
  rcases rms_arg h hN he with hX | ⟨x, hx, hX⟩
  · refine ⟨0, ?_⟩
    rw [hX, show Ideal.rsqrt ⊤ = 0 from rfl, mul_zero, EReal.coe_zero]
  · have hi : h i ≠ ⊤ ∧ h i ≠ ⊥ := by
      by_contra hc
      have hc : h i = ⊤ ∨ h i = ⊥ := by tauto
      have : (⊤ : EReal) ≤ ∑ k, h k * h k := by
        rw [← sq_top hc]
        exact Finset.single_le_sum (f := fun k => h k * h k) (fun k _ => sq_nonneg' _) (Finset.mem_univ i)
      rw [top_le_iff.1 this, Ideal.div_coe hN.ne', EReal.top_mul_coe_of_pos (by positivity)] at hX
      simp at hX
    lift h i to ℝ using hi with y
    refine ⟨y * (Real.sqrt x)⁻¹, ?_⟩
    rw [hX]
    have hr : Ideal.rsqrt (x : EReal) = (((Real.sqrt x)⁻¹ : ℝ) : EReal) := by
      show (if x < 0 then ⊥ else if x = 0 then ⊤ else (((Real.sqrt x)⁻¹ : ℝ) : EReal)) = _
      rw [if_neg hx.le.not_gt, if_neg hx.ne']
    rw [hr, EReal.coe_mul]

/-- A finite sum of products of real numbers is a real number. -/
theorem dot_real {n : ℕ} (f g : Fin n → EReal) (hf : ∀ k, ∃ x : ℝ, f k = x) (hg : ∀ k, ∃ x : ℝ, g k = x) : ∃ x : ℝ, ∑ k, f k * g k = x := by
  choose a ha using hf
  choose b hb using hg
  refine ⟨∑ k, a k * b k, ?_⟩
  simp only [ha, hb, ← EReal.coe_mul]
  exact (map_sum (⟨⟨fun x : ℝ => (x : EReal), rfl⟩, EReal.coe_add⟩ : ℝ →+ EReal) _ _).symm

/-- The softmax's gradient: from the saved probabilities, and by the chain rule through the quotient. -/
theorem softmax_bwd {n : ℕ} (e : Fin n → ℝ) (he : ∀ k, 0 ≤ e k) {S : ℝ} (hS : 0 < S) (dp : Fin n → EReal) (i : Fin n) :
    Ideal.div (e i) S * (dp i - ∑ k, Ideal.div (e k) S * dp k)
      = (Ideal.div (dp i) S + -(∑ k, dp k * Ideal.div ((1 : ℝ) : EReal) ((S : EReal) * S) * (e k : EReal))) * (e i : EReal) := by
  have hSS : (0 : ℝ) < S * S := by positivity
  rw [← EReal.coe_mul]
  simp only [Ideal.div_coe hS.ne', Ideal.div_coe hSS.ne']
  have hT : ∑ k, dp k * (((1 : ℝ) : EReal) * ((1 / (S * S) : ℝ) : EReal)) * (e k : EReal)
      = ((1 / S : ℝ) : EReal) * ∑ k, (e k : EReal) * ((1 / S : ℝ) : EReal) * dp k := by
    rw [const_mul_sum _ _ (by positivity : (0:ℝ) ≤ 1 / S)]
    refine Finset.sum_congr rfl fun k _ => ?_
    rw [mul_assoc, mul_comm (dp k), ← mul_assoc (((1 / S : ℝ)) : EReal), ← EReal.coe_mul, ← EReal.coe_mul, ← EReal.coe_mul, ← EReal.coe_mul]
    congr 2
    field_simp
  rw [hT, mul_comm (dp i) ((1 / S : ℝ) : EReal), ← sub_eq_add_neg, ← coe_mul_sub (by positivity)]
  generalize dp i - _ = z
  ac_rfl

/-- The maximum of a nonempty row of real numbers, started at minus infinity, is a real number. -/
theorem max_real {n : ℕ} (f : Fin (n + 1) → EReal) (hf : ∀ k, ∃ x : ℝ, f k = x) :
    ∃ x : ℝ, Finset.univ.fold max (⊥ : EReal) f = x := by
  have h1 : Finset.univ.fold max (⊥ : EReal) f < ⊤ :=
    (Finset.fold_max_lt _).2 ⟨bot_lt_top, fun k _ => by obtain ⟨x, hx⟩ := hf k; rw [hx]; exact EReal.coe_lt_top x⟩
  have h2 : ⊥ < Finset.univ.fold max (⊥ : EReal) f :=
    (Finset.lt_fold_max _).2 (.inr ⟨0, Finset.mem_univ _, by obtain ⟨x, hx⟩ := hf 0; rw [hx]; exact EReal.bot_lt_coe x⟩)
  lift Finset.univ.fold max (⊥ : EReal) f to ℝ using ⟨h1.ne, h2.ne'⟩ with y
  exact ⟨y, rfl⟩

section hostmax
variable {n0 n1 n2 : Nat} {u : Shape}

/-- A host maximum over the last axis of a box, at an index of the first two. -/
theorem hostMax_last (v : (⟨3, ![n0, n1, n2]⟩ : Shape).Idx → EReal) (c : u.Idx → EReal)
    (h : (⟨3, ![n0, n1, n2]⟩ : Shape).ReducesTo [2] ⟨2, ![n0, n1]⟩) (hu : 0 < u.numel) (j : (⟨2, ![n0, n1]⟩ : Shape).Idx) :
    Host.reduce (FloatOps.maximumf : Ideal .f32 → Ideal .f32 → Ideal .f32) v c h hu j
      = Finset.univ.fold max (c (Shape.Idx.first hu)) fun k : Fin n2 => v (ix3 (j 0) (j 1) k) := by
  simp only [pointwise]

end hostmax

/-- The word of minus infinity is minus infinity. -/
theorem ninf_f32 : Ideal.ofBits .f32 0xFF800000#32 = (⊥ : EReal) := by
  simp [Ideal.ofBits, Ideal.ieee]

/-- The exponential of a difference of real numbers is a positive real number. -/
theorem exp_real (x y : ℝ) : ∃ z : ℝ, 0 < z ∧ Ideal.exp ((x : EReal) - (y : EReal)) = z := ⟨Real.exp (x - y), Real.exp_pos _, by rw [← EReal.coe_sub]; rfl⟩

/-- A finite sum of real numbers is the sum taken in the extended reals. -/
theorem coe_sum' {n : ℕ} (e : Fin n → ℝ) : ∑ k, (e k : EReal) = ((∑ k, e k : ℝ) : EReal) :=
  (map_sum (⟨⟨fun x : ℝ => (x : EReal), rfl⟩, EReal.coe_add⟩ : ℝ →+ EReal) _ _).symm

end Cert.Common

end
-- ==== Proof.MemRef.lean ====
module

public import proofs.«01_k».proof.Defs
public import proofs.«01_k».proof.Proof.Common
public import proofs.«01_k».proof.Proof.Attn
public import proofs.«01_k».proof.Proof.Gen.Kernel6Ideal.Value
public import proofs.«01_k».proof.Proof.Gen.Reference6Ideal.Read

/-! The reference of the memory attention's gradient. -/

@[expose] public section

set_option maxRecDepth 16384

noncomputable section

namespace Cert.Kernel6Ideal.Proof

open Cert.Kernel6Ideal Cert.Kernel6Ideal.Gen Idealize.ShloMosaic Idealize.ShloMosaic.TcCoe Idealize.SL.Sem
open Idealize.ShloMosaic.Pipeline (Dat)
open Cert.Common

section reference
variable (proj d : S4096x1024.Idx → EReal) (mkv : S256x512.Idx → EReal) (gq gk : S64.Idx → EReal)

/-- The scores are real numbers when the gains are. -/
theorem s_real (hq : ∀ i, ∃ x : ℝ, gq i = x) (hk : ∀ i, ∃ x : ℝ, gk i = x) (n : Fin 4) (r : Fin 4096) (x : Fin 256) :
    ∃ z : ℝ, Cert.Reference6Ideal.Read.val_main_v40 (F := Ideal) proj mkv gq gk (ix3 n r x) = z := by
  obtain ⟨ε, hε, he⟩ := eps_f32
  pointwise [Cert.Reference6Ideal.Read.val_main_v0, Cert.Reference6Ideal.Read.val_main_v1, Cert.Reference6Ideal.Read.val_main_v2, Cert.Reference6Ideal.Read.val_main_v3, Cert.Reference6Ideal.Read.val_main_cst, Cert.Reference6Ideal.Read.val_main_v4, Cert.Reference6Ideal.Read.val_main_v5, Cert.Reference6Ideal.Read.val_main_cst_0, Cert.Reference6Ideal.Read.val_main_v6, Cert.Reference6Ideal.Read.val_main_v7, Cert.Reference6Ideal.Read.val_main_cst_1, Cert.Reference6Ideal.Read.val_main_v8, Cert.Reference6Ideal.Read.val_main_v9, Cert.Reference6Ideal.Read.val_main_v10, Cert.Reference6Ideal.Read.val_main_v11, Cert.Reference6Ideal.Read.val_main_cst_2, Cert.Reference6Ideal.Read.val_main_v12, Cert.Reference6Ideal.Read.val_main_v13, Cert.Reference6Ideal.Read.val_main_v14, Cert.Reference6Ideal.Read.val_main_v15, Cert.Reference6Ideal.Read.val_main_v16, Cert.Reference6Ideal.Read.val_main_v17, Cert.Reference6Ideal.Read.val_main_v18, Cert.Reference6Ideal.Read.val_main_v19, Cert.Reference6Ideal.Read.val_main_v20, Cert.Reference6Ideal.Read.val_main_v21, Cert.Reference6Ideal.Read.val_main_v22, Cert.Reference6Ideal.Read.val_main_cst_3, Cert.Reference6Ideal.Read.val_main_v23, Cert.Reference6Ideal.Read.val_main_v24, Cert.Reference6Ideal.Read.val_main_cst_4, Cert.Reference6Ideal.Read.val_main_v25, Cert.Reference6Ideal.Read.val_main_v26, Cert.Reference6Ideal.Read.val_main_cst_5, Cert.Reference6Ideal.Read.val_main_v27, Cert.Reference6Ideal.Read.val_main_v28, Cert.Reference6Ideal.Read.val_main_v29, Cert.Reference6Ideal.Read.val_main_v30, Cert.Reference6Ideal.Read.val_main_cst_6, Cert.Reference6Ideal.Read.val_main_v31, Cert.Reference6Ideal.Read.val_main_v32, Cert.Reference6Ideal.Read.val_main_v33, Cert.Reference6Ideal.Read.val_main_v34, Cert.Reference6Ideal.Read.val_main_v35, Cert.Reference6Ideal.Read.val_main_v36, Cert.Reference6Ideal.Read.val_main_v37, Cert.Reference6Ideal.Read.val_main_v38, Cert.Reference6Ideal.Read.val_main_cst_7, Cert.Reference6Ideal.Read.val_main_v39, Cert.Reference6Ideal.Read.val_main_v40]
  rw [n64_f32, he, eighth_f32]
  obtain ⟨z, hz⟩ := dot_real (fun k : Fin 64 => proj (ix2 r ⟨768 + (n.val * 64 + k.val), by omega⟩) * Ideal.rsqrt (Ideal.div (∑ k : Fin 64, proj (ix2 r ⟨768 + (n.val * 64 + k.val), by omega⟩) * proj (ix2 r ⟨768 + (n.val * 64 + k.val), by omega⟩)) (64 : ℝ) + ε) * gq (ix1 k))
    (fun k : Fin 64 => mkv (ix2 x ⟨n.val * 64 + k.val, by omega⟩) * Ideal.rsqrt (Ideal.div (∑ k : Fin 64, mkv (ix2 x ⟨n.val * 64 + k.val, by omega⟩) * mkv (ix2 x ⟨n.val * 64 + k.val, by omega⟩)) (64 : ℝ) + ε) * gk (ix1 k))
    (fun k => by
      obtain ⟨a, ha⟩ := norm_real (fun k : Fin 64 => proj (ix2 r ⟨768 + (n.val * 64 + k.val), by omega⟩)) (N := 64) (by norm_num) hε k
      obtain ⟨b, hb⟩ := hq (ix1 k)
      exact ⟨a * b, by rw [ha, hb, EReal.coe_mul]⟩)
    (fun k => by
      obtain ⟨a, ha⟩ := norm_real (fun k : Fin 64 => mkv (ix2 x ⟨n.val * 64 + k.val, by omega⟩)) (N := 64) (by norm_num) hε k
      obtain ⟨b, hb⟩ := hk (ix1 k)
      exact ⟨a * b, by rw [ha, hb, EReal.coe_mul]⟩)
  exact ⟨z * (1 / 8), by rw [EReal.coe_mul, ← hz]⟩

/-- The exponentials are positive real numbers when the gains are real. -/
theorem e_real (hq : ∀ i, ∃ x : ℝ, gq i = x) (hk : ∀ i, ∃ x : ℝ, gk i = x) (n : Fin 4) (r : Fin 4096) (x : Fin 256) :
    ∃ z : ℝ, 0 < z ∧ Cert.Reference6Ideal.Read.val_main_v61 (F := Ideal) proj mkv gq gk (ix3 n r x) = z := by
  have hs := s_real proj mkv gq gk hq hk n r
  rw [Cert.Reference6Ideal.Read.val_main_v61_apply, Cert.Reference6Ideal.Read.val_main_v60_apply, Cert.Reference6Ideal.Read.val_main_v59_apply,
    Cert.Reference6Ideal.Read.val_main_v58_apply, Cert.Reference6Ideal.Read.val_main_v48_apply]
  unfold Cert.Reference6Ideal.Read.val_main_v41
  rw [hostMax_last, Cert.Reference6Ideal.Read.val_main_v47_apply]
  obtain ⟨M, hM⟩ := max_real (n := 255) (fun k => Cert.Reference6Ideal.Read.val_main_v40 (F := Ideal) proj mkv gq gk (ix3 n r k)) hs
  obtain ⟨z, hz⟩ := hs x
  obtain ⟨w, hw, h⟩ := exp_real z M
  refine ⟨w, hw, ?_⟩
  show Ideal.exp (Cert.Reference6Ideal.Read.val_main_v40 (F := Ideal) proj mkv gq gk (ix3 n r x) - max (Ideal.ofBits .f32 0xFF800000#32)
    (Finset.univ.fold max (Ideal.ofBits .f32 0xFF800000#32) fun k => Cert.Reference6Ideal.Read.val_main_v40 (F := Ideal) proj mkv gq gk (ix3 n r k))) = _
  rw [ninf_f32, hM, hz, max_eq_right bot_le, h]

/-- The gradient of the scores, scaled: the probabilities times what the softmax leaves of the gradient. -/
theorem ref_ds (hq : ∀ i, ∃ x : ℝ, gq i = x) (hk : ∀ i, ∃ x : ℝ, gk i = x) (n : Fin 4) (r : Fin 4096) (x : Fin 256) :
    Cert.Reference6Ideal.Read.val_main_v91 (F := Ideal) proj d mkv gq gk (ix3 n r x)
      = Cert.Reference6Ideal.Read.val_main_v65 (F := Ideal) proj mkv gq gk (ix3 n r x)
        * ((∑ k : Fin 64, d (ix2 r ⟨768 + (n.val * 64 + k.val), by omega⟩) * mkv (ix2 x ⟨256 + (n.val * 64 + k.val), by omega⟩))
          - ∑ y : Fin 256, Cert.Reference6Ideal.Read.val_main_v65 (F := Ideal) proj mkv gq gk (ix3 n r y)
            * ∑ k : Fin 64, d (ix2 r ⟨768 + (n.val * 64 + k.val), by omega⟩) * mkv (ix2 y ⟨256 + (n.val * 64 + k.val), by omega⟩))
        * (((1 : ℝ) / 8 : ℝ) : EReal) := by
  choose e he0 he using e_real proj mkv gq gk hq hk n r
  have hS : (0 : ℝ) < ∑ y, e y := Finset.sum_pos (fun y _ => he0 y) ⟨0, Finset.mem_univ _⟩
  pointwise [Cert.Reference6Ideal.Read.val_main_v19, Cert.Reference6Ideal.Read.val_main_v20, Cert.Reference6Ideal.Read.val_main_cst_16, Cert.Reference6Ideal.Read.val_main_v62, Cert.Reference6Ideal.Read.val_main_v63, Cert.Reference6Ideal.Read.val_main_v64, Cert.Reference6Ideal.Read.val_main_v65, Cert.Reference6Ideal.Read.val_main_v66, Cert.Reference6Ideal.Read.val_main_cst_17, Cert.Reference6Ideal.Read.val_main_v67, Cert.Reference6Ideal.Read.val_main_v68, Cert.Reference6Ideal.Read.val_main_v69, Cert.Reference6Ideal.Read.val_main_v70, Cert.Reference6Ideal.Read.val_main_v71, Cert.Reference6Ideal.Read.val_main_v72, Cert.Reference6Ideal.Read.val_main_v73, Cert.Reference6Ideal.Read.val_main_v74, Cert.Reference6Ideal.Read.val_main_v75, Cert.Reference6Ideal.Read.val_main_v76, Cert.Reference6Ideal.Read.val_main_v77, Cert.Reference6Ideal.Read.val_main_v78, Cert.Reference6Ideal.Read.val_main_v79, Cert.Reference6Ideal.Read.val_main_v80, Cert.Reference6Ideal.Read.val_main_cst_18, Cert.Reference6Ideal.Read.val_main_v81, Cert.Reference6Ideal.Read.val_main_v82, Cert.Reference6Ideal.Read.val_main_v83, Cert.Reference6Ideal.Read.val_main_v84, Cert.Reference6Ideal.Read.val_main_v85, Cert.Reference6Ideal.Read.val_main_cst_19, Cert.Reference6Ideal.Read.val_main_v86, Cert.Reference6Ideal.Read.val_main_v87, Cert.Reference6Ideal.Read.val_main_v88, Cert.Reference6Ideal.Read.val_main_v89, Cert.Reference6Ideal.Read.val_main_cst_20, Cert.Reference6Ideal.Read.val_main_v90, Cert.Reference6Ideal.Read.val_main_v91]
  simp only [he, coe_sum', Fin.sum_univ_one, eighth_f32]
  refine congrArg (· * _) ?_
  have key := softmax_bwd e (fun y => (he0 y).le) hS (fun y => ∑ k : Fin 64, d (ix2 r ⟨768 + (n.val * 64 + k.val), by omega⟩) * mkv (ix2 y ⟨256 + (n.val * 64 + k.val), by omega⟩)) x
  exact key.symm

/-- The gradient of the memory queries. -/
theorem ref_dmq (n : Fin 4) (r : Fin 4096) (i : Fin 64) :
    Cert.Reference6Ideal.Read.val_main_v116 (F := Ideal) proj d mkv gq gk (ix2 r ⟨n.val * 64 + i.val, by omega⟩)
      = headGrad (fun k => proj (ix2 r ⟨768 + (n.val * 64 + k.val), by omega⟩))
          (fun k => (∑ x : Fin 256, Cert.Reference6Ideal.Read.val_main_v91 (F := Ideal) proj d mkv gq gk (ix3 n r x)
            * Cert.Reference6Ideal.Read.val_main_v18 (F := Ideal) mkv gk (ix3 x n k)) * gq (ix1 k)) i := by
  obtain ⟨ε, hε, he⟩ := eps_f32
  pointwise [Cert.Reference6Ideal.Read.val_main_v0, Cert.Reference6Ideal.Read.val_main_v21, Cert.Reference6Ideal.Read.val_main_v22, Cert.Reference6Ideal.Read.val_main_cst_3, Cert.Reference6Ideal.Read.val_main_v23, Cert.Reference6Ideal.Read.val_main_v24, Cert.Reference6Ideal.Read.val_main_cst_4, Cert.Reference6Ideal.Read.val_main_v25, Cert.Reference6Ideal.Read.val_main_v26, Cert.Reference6Ideal.Read.val_main_cst_5, Cert.Reference6Ideal.Read.val_main_v27, Cert.Reference6Ideal.Read.val_main_v28, Cert.Reference6Ideal.Read.val_main_v29, Cert.Reference6Ideal.Read.val_main_v30, Cert.Reference6Ideal.Read.val_main_cst_6, Cert.Reference6Ideal.Read.val_main_v31, Cert.Reference6Ideal.Read.val_main_v32, Cert.Reference6Ideal.Read.val_main_v33, Cert.Reference6Ideal.Read.val_main_v34, Cert.Reference6Ideal.Read.val_main_v35, Cert.Reference6Ideal.Read.val_main_v36, Cert.Reference6Ideal.Read.val_main_v37, Cert.Reference6Ideal.Read.val_main_v92, Cert.Reference6Ideal.Read.val_main_v93, Cert.Reference6Ideal.Read.val_main_v94, Cert.Reference6Ideal.Read.val_main_v95, Cert.Reference6Ideal.Read.val_main_v96, Cert.Reference6Ideal.Read.val_main_cst_21, Cert.Reference6Ideal.Read.val_main_v97, Cert.Reference6Ideal.Read.val_main_v98, Cert.Reference6Ideal.Read.val_main_v99, Cert.Reference6Ideal.Read.val_main_v100, Cert.Reference6Ideal.Read.val_main_cst_22, Cert.Reference6Ideal.Read.val_main_v101, Cert.Reference6Ideal.Read.val_main_v102, Cert.Reference6Ideal.Read.val_main_cst_23, Cert.Reference6Ideal.Read.val_main_v103, Cert.Reference6Ideal.Read.val_main_v104, Cert.Reference6Ideal.Read.val_main_v105, Cert.Reference6Ideal.Read.val_main_v106, Cert.Reference6Ideal.Read.val_main_v107, Cert.Reference6Ideal.Read.val_main_cst_24, Cert.Reference6Ideal.Read.val_main_v108, Cert.Reference6Ideal.Read.val_main_v109, Cert.Reference6Ideal.Read.val_main_cst_25, Cert.Reference6Ideal.Read.val_main_v110, Cert.Reference6Ideal.Read.val_main_v111, Cert.Reference6Ideal.Read.val_main_v112, Cert.Reference6Ideal.Read.val_main_v113, Cert.Reference6Ideal.Read.val_main_v114, Cert.Reference6Ideal.Read.val_main_v115, Cert.Reference6Ideal.Read.val_main_v116]
  simp only [Fin.sum_univ_one]
  have key := rms_bwd (fun k : Fin 64 => proj (ix2 r ⟨768 + (n.val * 64 + k.val), by omega⟩))
    (fun k => (∑ x : Fin 256, Cert.Reference6Ideal.Read.val_main_v91 (F := Ideal) proj d mkv gq gk (ix3 n r x)
            * Cert.Reference6Ideal.Read.val_main_v18 (F := Ideal) mkv gk (ix3 x n k)) * gq (ix1 k)) (N := 64) (by norm_num) hε i
  rw [← he, ← n64_f32, ← mhalf_f32] at key
  refine Eq.trans ?_ key.symm
  exact congrArg₂ (· + ·) rfl (mul_comm _ _)

/-- The gradient of the queries' gain. -/
theorem ref_dgq (j : S1x64.Idx) :
    Cert.Reference6Ideal.Read.val_main_v145 (F := Ideal) proj d mkv gq gk j
      = ∑ r : Fin 4096, ∑ n : Fin 4, proj (ix2 r ⟨768 + (n.val * 64 + (j 1).val), by have : (j 1).val < 64 := (j 1).isLt; omega⟩)
          * Ideal.rsqrt (Ideal.div (∑ k : Fin 64, proj (ix2 r ⟨768 + (n.val * 64 + k.val), by omega⟩) * proj (ix2 r ⟨768 + (n.val * 64 + k.val), by omega⟩))
            (Ideal.ofBits .f32 0x42800000#32) + Ideal.ofBits .f32 0x358637BD#32)
          * ∑ x : Fin 256, Cert.Reference6Ideal.Read.val_main_v91 (F := Ideal) proj d mkv gq gk (ix3 n r x)
            * Cert.Reference6Ideal.Read.val_main_v18 (F := Ideal) mkv gk (ix3 x n (j 1)) := by
  pointwise [Cert.Reference6Ideal.Read.val_main_v0, Cert.Reference6Ideal.Read.val_main_v21, Cert.Reference6Ideal.Read.val_main_v22, Cert.Reference6Ideal.Read.val_main_cst_3, Cert.Reference6Ideal.Read.val_main_v23, Cert.Reference6Ideal.Read.val_main_v24, Cert.Reference6Ideal.Read.val_main_cst_4, Cert.Reference6Ideal.Read.val_main_v25, Cert.Reference6Ideal.Read.val_main_v26, Cert.Reference6Ideal.Read.val_main_cst_5, Cert.Reference6Ideal.Read.val_main_v27, Cert.Reference6Ideal.Read.val_main_v28, Cert.Reference6Ideal.Read.val_main_v29, Cert.Reference6Ideal.Read.val_main_v30, Cert.Reference6Ideal.Read.val_main_cst_6, Cert.Reference6Ideal.Read.val_main_v31, Cert.Reference6Ideal.Read.val_main_v32, Cert.Reference6Ideal.Read.val_main_v33, Cert.Reference6Ideal.Read.val_main_v34, Cert.Reference6Ideal.Read.val_main_v35, Cert.Reference6Ideal.Read.val_main_v36, Cert.Reference6Ideal.Read.val_main_v37, Cert.Reference6Ideal.Read.val_main_v92, Cert.Reference6Ideal.Read.val_main_v93, Cert.Reference6Ideal.Read.val_main_v94, Cert.Reference6Ideal.Read.val_main_v95, Cert.Reference6Ideal.Read.val_main_v96, Cert.Reference6Ideal.Read.val_main_cst_21, Cert.Reference6Ideal.Read.val_main_v97, Cert.Reference6Ideal.Read.val_main_v98, Cert.Reference6Ideal.Read.val_main_v99, Cert.Reference6Ideal.Read.val_main_v100, Cert.Reference6Ideal.Read.val_main_cst_22, Cert.Reference6Ideal.Read.val_main_v101, Cert.Reference6Ideal.Read.val_main_v102, Cert.Reference6Ideal.Read.val_main_cst_23, Cert.Reference6Ideal.Read.val_main_v103, Cert.Reference6Ideal.Read.val_main_v104, Cert.Reference6Ideal.Read.val_main_v105, Cert.Reference6Ideal.Read.val_main_v106, Cert.Reference6Ideal.Read.val_main_v107, Cert.Reference6Ideal.Read.val_main_cst_24, Cert.Reference6Ideal.Read.val_main_v108, Cert.Reference6Ideal.Read.val_main_v109, Cert.Reference6Ideal.Read.val_main_cst_25, Cert.Reference6Ideal.Read.val_main_v110, Cert.Reference6Ideal.Read.val_main_v111, Cert.Reference6Ideal.Read.val_main_v112, Cert.Reference6Ideal.Read.val_main_v113, Cert.Reference6Ideal.Read.val_main_v114, Cert.Reference6Ideal.Read.val_main_v115, Cert.Reference6Ideal.Read.val_main_v116, Cert.Reference6Ideal.Read.val_main_v145]
  simp only [Finset.univ_unique, Finset.sum_singleton]

/-- The gradient of the memory keys before their norm. -/
theorem ref_dmk (n : Fin 4) (x : Fin 256) (i : Fin 64) :
    Cert.Reference6Ideal.Read.val_main_v141 (F := Ideal) proj d mkv gq gk (ix2 x ⟨n.val * 64 + i.val, by omega⟩)
      = headGrad (fun k => mkv (ix2 x ⟨n.val * 64 + k.val, by omega⟩))
          (fun k => (∑ r : Fin 4096, Cert.Reference6Ideal.Read.val_main_v91 (F := Ideal) proj d mkv gq gk (ix3 n r x)
            * Cert.Reference6Ideal.Read.val_main_v37 (F := Ideal) proj gq (ix3 r n k)) * gk (ix1 k)) i := by
  obtain ⟨ε, hε, he⟩ := eps_f32
  pointwise [Cert.Reference6Ideal.Read.val_main_v1, Cert.Reference6Ideal.Read.val_main_v2, Cert.Reference6Ideal.Read.val_main_v3, Cert.Reference6Ideal.Read.val_main_cst, Cert.Reference6Ideal.Read.val_main_v4, Cert.Reference6Ideal.Read.val_main_v5, Cert.Reference6Ideal.Read.val_main_cst_0, Cert.Reference6Ideal.Read.val_main_v6, Cert.Reference6Ideal.Read.val_main_v7, Cert.Reference6Ideal.Read.val_main_cst_1, Cert.Reference6Ideal.Read.val_main_v8, Cert.Reference6Ideal.Read.val_main_v9, Cert.Reference6Ideal.Read.val_main_v10, Cert.Reference6Ideal.Read.val_main_v11, Cert.Reference6Ideal.Read.val_main_cst_2, Cert.Reference6Ideal.Read.val_main_v12, Cert.Reference6Ideal.Read.val_main_v13, Cert.Reference6Ideal.Read.val_main_v14, Cert.Reference6Ideal.Read.val_main_v15, Cert.Reference6Ideal.Read.val_main_v16, Cert.Reference6Ideal.Read.val_main_v17, Cert.Reference6Ideal.Read.val_main_v18, Cert.Reference6Ideal.Read.val_main_v92, Cert.Reference6Ideal.Read.val_main_v93, Cert.Reference6Ideal.Read.val_main_v117, Cert.Reference6Ideal.Read.val_main_cst_26, Cert.Reference6Ideal.Read.val_main_v118, Cert.Reference6Ideal.Read.val_main_v119, Cert.Reference6Ideal.Read.val_main_cst_27, Cert.Reference6Ideal.Read.val_main_v120, Cert.Reference6Ideal.Read.val_main_v121, Cert.Reference6Ideal.Read.val_main_v122, Cert.Reference6Ideal.Read.val_main_v123, Cert.Reference6Ideal.Read.val_main_cst_28, Cert.Reference6Ideal.Read.val_main_v124, Cert.Reference6Ideal.Read.val_main_v125, Cert.Reference6Ideal.Read.val_main_cst_29, Cert.Reference6Ideal.Read.val_main_v126, Cert.Reference6Ideal.Read.val_main_v127, Cert.Reference6Ideal.Read.val_main_v128, Cert.Reference6Ideal.Read.val_main_v129, Cert.Reference6Ideal.Read.val_main_v130, Cert.Reference6Ideal.Read.val_main_cst_30, Cert.Reference6Ideal.Read.val_main_v131, Cert.Reference6Ideal.Read.val_main_v132, Cert.Reference6Ideal.Read.val_main_cst_31, Cert.Reference6Ideal.Read.val_main_v133, Cert.Reference6Ideal.Read.val_main_v134, Cert.Reference6Ideal.Read.val_main_v135, Cert.Reference6Ideal.Read.val_main_v136, Cert.Reference6Ideal.Read.val_main_v137, Cert.Reference6Ideal.Read.val_main_v138, Cert.Reference6Ideal.Read.val_main_v139, Cert.Reference6Ideal.Read.val_main_cst_32, Cert.Reference6Ideal.Read.val_main_v140, Cert.Reference6Ideal.Read.val_main_v141]
  refine (congrArg₂ (· + ·) (dif_neg (by omega)) (dif_pos (by omega))).trans ((zero_add _).trans ?_)
  simp only [Fin.sum_univ_one]
  have key := rms_bwd (fun k : Fin 64 => mkv (ix2 x ⟨n.val * 64 + k.val, by omega⟩))
    (fun k => (∑ r : Fin 4096, Cert.Reference6Ideal.Read.val_main_v91 (F := Ideal) proj d mkv gq gk (ix3 n r x)
            * Cert.Reference6Ideal.Read.val_main_v37 (F := Ideal) proj gq (ix3 r n k)) * gk (ix1 k)) (N := 64) (by norm_num) hε i
  rw [← he, ← n64_f32, ← mhalf_f32] at key
  refine Eq.trans ?_ key.symm
  exact congrArg₂ (· + ·) rfl (mul_comm _ _)

/-- The gradient of the memory values. -/
theorem ref_dmv (n : Fin 4) (x : Fin 256) (i : Fin 64) :
    Cert.Reference6Ideal.Read.val_main_v141 (F := Ideal) proj d mkv gq gk (ix2 x ⟨256 + (n.val * 64 + i.val), by omega⟩)
      = ∑ r : Fin 4096, d (ix2 r ⟨768 + (n.val * 64 + i.val), by omega⟩) * Cert.Reference6Ideal.Read.val_main_v65 (F := Ideal) proj mkv gq gk (ix3 n r x) := by
  pointwise [Cert.Reference6Ideal.Read.val_main_v72, Cert.Reference6Ideal.Read.val_main_v73, Cert.Reference6Ideal.Read.val_main_v74, Cert.Reference6Ideal.Read.val_main_v75, Cert.Reference6Ideal.Read.val_main_v76, Cert.Reference6Ideal.Read.val_main_v77, Cert.Reference6Ideal.Read.val_main_v117, Cert.Reference6Ideal.Read.val_main_cst_26, Cert.Reference6Ideal.Read.val_main_v118, Cert.Reference6Ideal.Read.val_main_v139, Cert.Reference6Ideal.Read.val_main_cst_32, Cert.Reference6Ideal.Read.val_main_v140, Cert.Reference6Ideal.Read.val_main_v141]
  rw [dif_pos (by omega)]

/-- The gradient of the keys' gain. -/
theorem ref_dgk (j : S1x64.Idx) :
    Cert.Reference6Ideal.Read.val_main_v146 (F := Ideal) proj d mkv gq gk j
      = ∑ x : Fin 256, ∑ n : Fin 4, mkv (ix2 x ⟨n.val * 64 + (j 1).val, by have : (j 1).val < 64 := (j 1).isLt; omega⟩)
          * Ideal.rsqrt (Ideal.div (∑ k : Fin 64, mkv (ix2 x ⟨n.val * 64 + k.val, by omega⟩) * mkv (ix2 x ⟨n.val * 64 + k.val, by omega⟩))
            (Ideal.ofBits .f32 0x42800000#32) + Ideal.ofBits .f32 0x358637BD#32)
          * ∑ r : Fin 4096, Cert.Reference6Ideal.Read.val_main_v91 (F := Ideal) proj d mkv gq gk (ix3 n r x)
            * Cert.Reference6Ideal.Read.val_main_v37 (F := Ideal) proj gq (ix3 r n (j 1)) := by
  pointwise [Cert.Reference6Ideal.Read.val_main_v1, Cert.Reference6Ideal.Read.val_main_v2, Cert.Reference6Ideal.Read.val_main_v3, Cert.Reference6Ideal.Read.val_main_cst, Cert.Reference6Ideal.Read.val_main_v4, Cert.Reference6Ideal.Read.val_main_v5, Cert.Reference6Ideal.Read.val_main_cst_0, Cert.Reference6Ideal.Read.val_main_v6, Cert.Reference6Ideal.Read.val_main_v7, Cert.Reference6Ideal.Read.val_main_cst_1, Cert.Reference6Ideal.Read.val_main_v8, Cert.Reference6Ideal.Read.val_main_v9, Cert.Reference6Ideal.Read.val_main_v10, Cert.Reference6Ideal.Read.val_main_v11, Cert.Reference6Ideal.Read.val_main_cst_2, Cert.Reference6Ideal.Read.val_main_v12, Cert.Reference6Ideal.Read.val_main_v13, Cert.Reference6Ideal.Read.val_main_v14, Cert.Reference6Ideal.Read.val_main_v15, Cert.Reference6Ideal.Read.val_main_v16, Cert.Reference6Ideal.Read.val_main_v17, Cert.Reference6Ideal.Read.val_main_v18, Cert.Reference6Ideal.Read.val_main_v92, Cert.Reference6Ideal.Read.val_main_v93, Cert.Reference6Ideal.Read.val_main_v117, Cert.Reference6Ideal.Read.val_main_cst_26, Cert.Reference6Ideal.Read.val_main_v118, Cert.Reference6Ideal.Read.val_main_v119, Cert.Reference6Ideal.Read.val_main_cst_27, Cert.Reference6Ideal.Read.val_main_v120, Cert.Reference6Ideal.Read.val_main_v121, Cert.Reference6Ideal.Read.val_main_v122, Cert.Reference6Ideal.Read.val_main_v123, Cert.Reference6Ideal.Read.val_main_cst_28, Cert.Reference6Ideal.Read.val_main_v124, Cert.Reference6Ideal.Read.val_main_v125, Cert.Reference6Ideal.Read.val_main_cst_29, Cert.Reference6Ideal.Read.val_main_v126, Cert.Reference6Ideal.Read.val_main_v127, Cert.Reference6Ideal.Read.val_main_v128, Cert.Reference6Ideal.Read.val_main_v129, Cert.Reference6Ideal.Read.val_main_v130, Cert.Reference6Ideal.Read.val_main_cst_30, Cert.Reference6Ideal.Read.val_main_v131, Cert.Reference6Ideal.Read.val_main_v132, Cert.Reference6Ideal.Read.val_main_cst_31, Cert.Reference6Ideal.Read.val_main_v133, Cert.Reference6Ideal.Read.val_main_v134, Cert.Reference6Ideal.Read.val_main_v135, Cert.Reference6Ideal.Read.val_main_v136, Cert.Reference6Ideal.Read.val_main_v137, Cert.Reference6Ideal.Read.val_main_v138, Cert.Reference6Ideal.Read.val_main_v139, Cert.Reference6Ideal.Read.val_main_cst_32, Cert.Reference6Ideal.Read.val_main_v140, Cert.Reference6Ideal.Read.val_main_v141, Cert.Reference6Ideal.Read.val_main_v146]
  simp only [Finset.univ_unique, Finset.sum_singleton]

/-- The first result keeps the columns it is given below the memory queries'. -/
theorem ref_keep (dp : S4096x1024.Idx → EReal) (r : Fin 4096) (x : Fin 1024) (hx : x.val < 768) :
    Cert.Reference6Ideal.Read.val_main_v144 (F := Ideal) proj d mkv gq gk dp (ix2 r x) = dp (ix2 r x) := by
  pointwise [Cert.Reference6Ideal.Read.val_main_v142, Cert.Reference6Ideal.Read.val_main_v143, Cert.Reference6Ideal.Read.val_main_v144]
  rw [dif_pos hx]

/-- The first result's last columns are the gradient of the memory queries. -/
theorem ref_new (dp : S4096x1024.Idx → EReal) (r : Fin 4096) (x : Fin 256) :
    Cert.Reference6Ideal.Read.val_main_v144 (F := Ideal) proj d mkv gq gk dp (ix2 r ⟨768 + x.val, by omega⟩)
      = Cert.Reference6Ideal.Read.val_main_v116 (F := Ideal) proj d mkv gq gk (ix2 r x) := by
  pointwise [Cert.Reference6Ideal.Read.val_main_v142, Cert.Reference6Ideal.Read.val_main_v143, Cert.Reference6Ideal.Read.val_main_v144]

end reference

end Cert.Kernel6Ideal.Proof

end
-- ==== Proof.MemPoint.lean ====
module

public import proofs.«01_k».proof.Defs
public import proofs.«01_k».proof.Proof.Common
public import proofs.«01_k».proof.Proof.Attn
public import proofs.«01_k».proof.Proof.Gen.Kernel6Ideal.Value
public import proofs.«01_k».proof.Proof.Gen.Reference6Ideal.Read

/-! One point of the memory attention's gradient. -/

@[expose] public section

set_option maxRecDepth 16384

noncomputable section

namespace Cert.Kernel6Ideal.Proof

open Cert.Kernel6Ideal Cert.Kernel6Ideal.Gen Idealize.ShloMosaic Idealize.ShloMosaic.TcCoe Idealize.SL.Sem
open Idealize.ShloMosaic.Pipeline (Dat)
open Cert.Common

/-- The gradient of one head's scores at a row, before the scale, of the blocks a point holds. -/
abbrev dsb (p : S1024x1024.Idx → EReal) (d : S1024x256.Idx → EReal) (MV : S256x256.Idx → EReal) (r : Fin 1024) (n : Fin 4) (x : Fin 256) : EReal :=
  p (ix2 r ⟨n.val * 256 + x.val, by omega⟩) * ((∑ k : Fin 64, d (ix2 r ⟨n.val * 64 + k.val, by omega⟩) * MV (ix2 x ⟨n.val * 64 + k.val, by omega⟩))
    - ∑ y : Fin 256, p (ix2 r ⟨n.val * 256 + y.val, by omega⟩) * ∑ k : Fin 64, d (ix2 r ⟨n.val * 64 + k.val, by omega⟩) * MV (ix2 y ⟨n.val * 64 + k.val, by omega⟩))

/-- A point's normalised query times the scale. -/
abbrev qnb (a : S1024x256.Idx → EReal) (q : S1x64.Idx → EReal) (r : Fin 1024) (n : Fin 4) (i : Fin 64) : EReal :=
  a (ix2 r ⟨n.val * 64 + i.val, by omega⟩) * Ideal.rsqrt (Ideal.div (∑ k : Fin 64, a (ix2 r ⟨n.val * 64 + k.val, by omega⟩) * a (ix2 r ⟨n.val * 64 + k.val, by omega⟩))
            (Ideal.ofBits .f32 0x42800000#32) + Ideal.ofBits .f32 0x358637BD#32) * q (ix2 0 i) * Ideal.ofBits .f32 0x3E000000#32

/-- A memory key's normalised entry. -/
abbrev xkb (kv : S256x512.Idx → EReal) (x : Fin 256) (n : Fin 4) (i : Fin 64) : EReal :=
  kv (ix2 x ⟨n.val * 64 + i.val, by omega⟩) * Ideal.rsqrt (Ideal.div (∑ k : Fin 64, kv (ix2 x ⟨n.val * 64 + k.val, by omega⟩) * kv (ix2 x ⟨n.val * 64 + k.val, by omega⟩))
            (Ideal.ofBits .f32 0x42800000#32) + Ideal.ofBits .f32 0x358637BD#32)

/-- What the body stores of the queries' gradient. -/
abbrev dqOf (a d : S1024x256.Idx → EReal) (q : S1x64.Idx → EReal) (p : S1024x1024.Idx → EReal) (MK MV : S256x256.Idx → EReal) : S1024x256.Idx → EReal :=
  k0_pay3 (F := Ideal) (k0_pay94 d MK MV (k0_pay41 q) (k0_pay42 p) (k0_pay53 MK (k0_pay41 q) (k0_pay44 a) (k0_pay45 a) (k0_pay48 p) (k0_pay50 d MV p)) (k0_pay67 MK (k0_pay41 q) (k0_pay58 a) (k0_pay59 a) (k0_pay62 (k0_pay42 p)) (k0_pay64 d MV)) (k0_pay81 MK MV (k0_pay41 q) (k0_pay72 a) (k0_pay73 a) (k0_pay76 (k0_pay42 p)) (k0_pay77 d)) (k0_pay86 a) (k0_pay87 a))

/-- The queries' gradient of a point's blocks, at head `n` and feature `i`. -/
theorem point_dq (a d : S1024x256.Idx → EReal) (q : S1x64.Idx → EReal) (p : S1024x1024.Idx → EReal) (MK MV : S256x256.Idx → EReal)
    (r : Fin 1024) (n : Fin 4) (i : Fin 64) :
    dqOf a d q p MK MV (ix2 r ⟨n.val * 64 + i.val, by omega⟩)
      = headGrad (fun k => a (ix2 r ⟨n.val * 64 + k.val, by omega⟩))
          (fun k => (∑ x : Fin 256, dsb p d MV r n x * MK (ix2 x ⟨n.val * 64 + k.val, by omega⟩)) * Ideal.ofBits .f32 0x3E000000#32 * q (ix2 0 k)) i := by
  match n with
  | ⟨0, _⟩ => pointwise [headGrad, dqOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨1, _⟩ => pointwise [headGrad, dqOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨2, _⟩ => pointwise [headGrad, dqOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              refine (dif_neg (by omega)).trans ((dif_neg (by omega)).trans ((dif_pos (by omega)).trans ?_))
              have e : 128 + i.val - 64 - 64 = i.val := by omega
              simp only [e]
  | ⟨3, _⟩ => pointwise [headGrad, dqOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              refine (dif_neg (by omega)).trans ((dif_neg (by omega)).trans ((dif_neg (by omega)).trans ?_))
              have e : 192 + i.val - 64 - 64 - 64 = i.val := by omega
              simp only [e]

/-- What the body adds to the keys' gradient it carries. -/
abbrev dkOf (a d : S1024x256.Idx → EReal) (q : S1x64.Idx → EReal) (p : S1024x1024.Idx → EReal) (MV acc : S256x256.Idx → EReal) : S256x256.Idx → EReal :=
  k0_pay96 (F := Ideal) d MV (k0_pay42 p) (k0_pay55 (k0_pay46 a q) (k0_pay48 p) (k0_pay50 d MV p)) (k0_pay69 (k0_pay60 a (k0_pay41 q)) (k0_pay62 (k0_pay42 p)) (k0_pay64 d MV)) (k0_pay83 MV (k0_pay74 a (k0_pay41 q)) (k0_pay76 (k0_pay42 p)) (k0_pay77 d)) (k0_pay88 a (k0_pay41 q)) acc

/-- The keys' gradient after a point. -/
theorem point_dk (a d : S1024x256.Idx → EReal) (q : S1x64.Idx → EReal) (p : S1024x1024.Idx → EReal) (MV acc : S256x256.Idx → EReal)
    (x : Fin 256) (n : Fin 4) (i : Fin 64) :
    dkOf a d q p MV acc (ix2 x ⟨n.val * 64 + i.val, by omega⟩)
      = acc (ix2 x ⟨n.val * 64 + i.val, by omega⟩) + ∑ r : Fin 1024, dsb p d MV r n x * qnb a q r n i := by
  match n with
  | ⟨0, _⟩ => pointwise [dkOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨1, _⟩ => pointwise [dkOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨2, _⟩ => pointwise [dkOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              rw [dif_neg (by omega), dif_neg (by omega), dif_pos (by omega)]
              have e : 128 + i.val - 64 - 64 = i.val := by omega
              simp only [e]
  | ⟨3, _⟩ => pointwise [dkOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              rw [dif_neg (by omega), dif_neg (by omega), dif_neg (by omega)]
              have e : 192 + i.val - 64 - 64 - 64 = i.val := by omega
              simp only [e]

/-- What the body adds to the values' gradient it carries. -/
abbrev dvOf (d : S1024x256.Idx → EReal) (p : S1024x1024.Idx → EReal) (acc : S256x256.Idx → EReal) : S256x256.Idx → EReal :=
  k0_pay1 (F := Ideal) (k0_pay95 d (k0_pay42 p) (k0_pay56 (k0_pay47 p) (k0_pay49 d)) (k0_pay70 (k0_pay61 (k0_pay42 p)) (k0_pay63 d)) (k0_pay84 (k0_pay75 (k0_pay42 p)) (k0_pay77 d))) acc

/-- The values' gradient after a point. -/
theorem point_dv (d : S1024x256.Idx → EReal) (p : S1024x1024.Idx → EReal) (acc : S256x256.Idx → EReal) (x : Fin 256) (n : Fin 4) (i : Fin 64) :
    dvOf d p acc (ix2 x ⟨n.val * 64 + i.val, by omega⟩)
      = acc (ix2 x ⟨n.val * 64 + i.val, by omega⟩) + ∑ r : Fin 1024, p (ix2 r ⟨n.val * 256 + x.val, by omega⟩) * d (ix2 r ⟨n.val * 64 + i.val, by omega⟩) := by
  match n with
  | ⟨0, _⟩ => pointwise [dvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨1, _⟩ => pointwise [dvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨2, _⟩ => pointwise [dvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              rw [dif_neg (by omega), dif_neg (by omega), dif_pos (by omega)]
              have e : 128 + i.val - 64 - 64 = i.val := by omega
              simp only [e]
  | ⟨3, _⟩ => pointwise [dvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              rw [dif_neg (by omega), dif_neg (by omega), dif_neg (by omega)]
              have e : 192 + i.val - 64 - 64 - 64 = i.val := by omega
              simp only [e]

/-- What the body adds to the queries' gain's gradient it carries. -/
abbrev dgqOf (a d : S1024x256.Idx → EReal) (p : S1024x1024.Idx → EReal) (MK MV : S256x256.Idx → EReal) (acc : S1x64.Idx → EReal) : S1x64.Idx → EReal :=
  k0_pay2 (F := Ideal) (k0_pay93 d MK MV (k0_pay42 p) (k0_pay82 MK MV (k0_pay68 MK (k0_pay54 MK (k0_pay45 a) (k0_pay48 p) (k0_pay50 d MV p)) (k0_pay59 a) (k0_pay62 (k0_pay42 p)) (k0_pay64 d MV)) (k0_pay73 a) (k0_pay76 (k0_pay42 p)) (k0_pay77 d)) (k0_pay87 a)) acc

/-- The queries' gain's gradient after a point. -/
theorem point_dgq (a d : S1024x256.Idx → EReal) (p : S1024x1024.Idx → EReal) (MK MV : S256x256.Idx → EReal) (acc : S1x64.Idx → EReal) (i : Fin 64) :
    dgqOf a d p MK MV acc (ix2 0 i)
      = acc (ix2 0 i) + ∑ r : Fin 1024, ∑ n : Fin 4,
          (∑ x : Fin 256, dsb p d MV r n x * MK (ix2 x ⟨n.val * 64 + i.val, by omega⟩)) * Ideal.ofBits .f32 0x3E000000#32
          * (a (ix2 r ⟨n.val * 64 + i.val, by omega⟩) * Ideal.rsqrt (Ideal.div (∑ k : Fin 64, a (ix2 r ⟨n.val * 64 + k.val, by omega⟩) * a (ix2 r ⟨n.val * 64 + k.val, by omega⟩))
            (Ideal.ofBits .f32 0x42800000#32) + Ideal.ofBits .f32 0x358637BD#32)) := by
  simp only [Fin.sum_univ_four, Finset.sum_add_distrib]
  pointwise [dgqOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]

/-- The normalised memory keys the body keeps. -/
abbrev mkOf (kv : S256x512.Idx → EReal) (gk : S1x64.Idx → EReal) : S256x256.Idx → EReal :=
  k0_pay36 (F := Ideal) (k0_pay9 gk) (k0_pay10 kv gk) (k0_pay11 kv gk) (k0_pay12 kv gk) (k0_pay13 kv) (k0_pay14 kv)

/-- The memory keys at an entry. -/
theorem point_mk (kv : S256x512.Idx → EReal) (gk : S1x64.Idx → EReal) (x : Fin 256) (n : Fin 4) (i : Fin 64) :
    mkOf kv gk (ix2 x ⟨n.val * 64 + i.val, by omega⟩) = xkb kv x n i * gk (ix2 0 i) := by
  match n with
  | ⟨0, _⟩ => pointwise [mkOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨1, _⟩ => pointwise [mkOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨2, _⟩ => pointwise [mkOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              rw [dif_neg (by omega), dif_neg (by omega), dif_pos (by omega)]
              have e : 128 + i.val - 64 - 64 = i.val := by omega
              simp only [e]
  | ⟨3, _⟩ => pointwise [mkOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              rw [dif_neg (by omega), dif_neg (by omega), dif_neg (by omega)]
              have e : 192 + i.val - 64 - 64 - 64 = i.val := by omega
              simp only [e]

/-- The memory values the body keeps. -/
theorem point_mv (kv : S256x512.Idx → EReal) (x y : Fin 256) : k0_pay37 (F := Ideal) kv (ix2 x y) = kv (ix2 x ⟨256 + y.val, by omega⟩) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]

/-- What the last point stores of the memory's gradient. -/
abbrev dmkvOf (kv : S256x512.Idx → EReal) (gk : S1x64.Idx → EReal) (DMK DMV : S256x256.Idx → EReal) : S256x512.Idx → EReal :=
  k0_pay8 (F := Ideal) DMK DMV (k0_pay15 gk) (k0_pay20 kv DMK gk) (k0_pay27 DMK (k0_pay15 gk) (k0_pay22 kv) (k0_pay23 kv)) (k0_pay32 kv DMK (k0_pay15 gk)) (k0_pay34 kv) (k0_pay35 kv)

/-- A key column of it. -/
theorem point_dmk (kv : S256x512.Idx → EReal) (gk : S1x64.Idx → EReal) (DMK DMV : S256x256.Idx → EReal) (x : Fin 256) (n : Fin 4) (i : Fin 64) :
    dmkvOf kv gk DMK DMV (ix2 x ⟨n.val * 64 + i.val, by omega⟩)
      = headGrad (fun k => kv (ix2 x ⟨n.val * 64 + k.val, by omega⟩)) (fun k => DMK (ix2 x ⟨n.val * 64 + k.val, by omega⟩) * gk (ix2 0 k)) i := by
  match n with
  | ⟨0, _⟩ => pointwise [headGrad, dmkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨1, _⟩ => pointwise [headGrad, dmkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  | ⟨2, _⟩ => pointwise [headGrad, dmkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              rw [dif_neg (by omega), dif_neg (by omega), dif_pos (by omega)]
              have e : 128 + i.val - 64 - 64 = i.val := by omega
              simp only [e]
  | ⟨3, _⟩ => pointwise [headGrad, dmkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
              rw [dif_neg (by omega), dif_neg (by omega), dif_neg (by omega), dif_pos (by omega)]
              have e : 192 + i.val - 64 - 64 - 64 = i.val := by omega
              simp only [e]

/-- A value column of it. -/
theorem point_dmv (kv : S256x512.Idx → EReal) (gk : S1x64.Idx → EReal) (DMK DMV : S256x256.Idx → EReal) (x y : Fin 256) :
    dmkvOf kv gk DMK DMV (ix2 x ⟨256 + y.val, by omega⟩) = DMV (ix2 x y) := by
  pointwise [headGrad, dmkvOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
  rw [dif_neg (by omega), dif_neg (by omega), dif_neg (by omega), dif_neg (by omega)]
  blk_ext

/-- What the last point stores of the keys' gain's gradient. -/
theorem point_dgk (kv : S256x512.Idx → EReal) (DMK : S256x256.Idx → EReal) (i : Fin 64) :
    k0_pay7 (F := Ideal) DMK (k0_pay33 kv DMK (k0_pay21 kv DMK) (k0_pay22 kv) (k0_pay23 kv)) (k0_pay34 kv) (k0_pay35 kv) (ix2 0 i)
      = ∑ x : Fin 256, ∑ n : Fin 4, DMK (ix2 x ⟨n.val * 64 + i.val, by omega⟩) * xkb kv x n i := by
  simp only [Fin.sum_univ_four, Finset.sum_add_distrib]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, dsb, qnb, xkb]
variable (m : (ℓ : Loc nD τ sig) → Buf (Elt Ideal) ℓ)

/-- The projection. -/
abbrev Proj (c : Dev nD) : S4096x1024.Idx → EReal := m ((c : Thread nD τ).loc main_arg0)
/-- The gradient of the concatenated mixers. -/
abbrev Dcat (c : Dev nD) : S4096x1024.Idx → EReal := m ((c : Thread nD τ).loc main_arg1)
/-- The memory's keys and values. -/
abbrev Mkv (c : Dev nD) : S256x512.Idx → EReal := m ((c : Thread nD τ).loc main_arg2)
/-- The queries' gain. -/
abbrev Gq (c : Dev nD) : S64.Idx → EReal := m ((c : Thread nD τ).loc main_arg3)
/-- The keys' gain. -/
abbrev Gk (c : Dev nD) : S64.Idx → EReal := m ((c : Thread nD τ).loc main_arg4)
/-- The projection's gradient so far. -/
abbrev Dp (c : Dev nD) : S4096x1024.Idx → EReal := m ((c : Thread nD τ).loc main_arg5)

/-- The windows' block indices. -/
theorem idx : ∀ t : Fin cfg0.N, win0_0.index t 0 = t.val ∧ win0_0.index t 1 = 3 ∧ win0_1.index t 0 = t.val ∧ win0_1.index t 1 = 3
    ∧ (∀ i, win0_2.index t i = 0) ∧ (∀ i, win0_3.index t i = 0) ∧ (∀ i, win0_4.index t i = 0) ∧ win0_5.index t 0 = t.val ∧ win0_5.index t 1 = 0
    ∧ win0_6.index t 0 = t.val ∧ win0_6.index t 1 = 3 ∧ (∀ i, win0_7.index t i = 0) ∧ (∀ i, win0_8.index t i = 0) ∧ (∀ i, win0_9.index t i = 0) :=
  (by decide +kernel : ∀ t : Fin grid0.N, win0_0.index t 0 = t.val ∧ win0_0.index t 1 = 3 ∧ win0_1.index t 0 = t.val ∧ win0_1.index t 1 = 3
    ∧ (∀ i, win0_2.index t i = 0) ∧ (∀ i, win0_3.index t i = 0) ∧ (∀ i, win0_4.index t i = 0) ∧ win0_5.index t 0 = t.val ∧ win0_5.index t 1 = 0
    ∧ win0_6.index t 0 = t.val ∧ win0_6.index t 1 = 3 ∧ (∀ i, win0_7.index t i = 0) ∧ (∀ i, win0_8.index t i = 0) ∧ (∀ i, win0_9.index t i = 0))

theorem a_read (c : Dev nD) (t : Fin cfg0.N) (r : Fin 1024) (x : Fin 256) :
    iblk m c 0 t (ix2 r x) = Proj m c (ix2 ⟨t.val * 1024 + r.val, by have : t.val < 4 := t.isLt; omega⟩ ⟨768 + x.val, by omega⟩) := by
  blk_ext [iblk, V, idx t]

theorem d_read (c : Dev nD) (t : Fin cfg0.N) (r : Fin 1024) (x : Fin 256) :
    iblk m c 1 t (ix2 r x) = Dcat m c (ix2 ⟨t.val * 1024 + r.val, by have : t.val < 4 := t.isLt; omega⟩ ⟨768 + x.val, by omega⟩) := by
  blk_ext [iblk, V, idx t]

theorem kv_read (c : Dev nD) (t : Fin cfg0.N) : iblk m c 2 t = Mkv m c := by
  funext j
  blk_ext [iblk, V, idx t]

theorem q_read (c : Dev nD) (t : Fin cfg0.N) (i : Fin 64) : iblk m c 3 t (ix2 0 i) = Gq m c (ix1 i) := by
  have h : ∀ j : S1x64.Idx, j = ix2 0 i → V m c main_v0 j = Gq m c (ix1 i) := by
    rintro _ rfl
    entry_read
    pointwise []
  refine h _ ?_
  blk_ext [idx t]

theorem k_read (c : Dev nD) (t : Fin cfg0.N) (i : Fin 64) : iblk m c 4 t (ix2 0 i) = Gk m c (ix1 i) := by
  have h : ∀ j : S1x64.Idx, j = ix2 0 i → V m c main_v1 j = Gk m c (ix1 i) := by
    rintro _ rfl
    entry_read
    pointwise []
  refine h _ ?_
  blk_ext [idx t]

theorem p_read (c : Dev nD) (t : Fin cfg0.N) (r : Fin 1024) (n : Fin 4) (x : Fin 256) :
    iblk m c 5 t (ix2 r ⟨n.val * 256 + x.val, by omega⟩) = Cert.Reference6Ideal.Read.val_main_v65 (F := Ideal) (Proj m c) (Mkv m c) (Gq m c) (Gk m c) (ix3 n ⟨t.val * 1024 + r.val, by have : t.val < 4 := t.isLt; omega⟩ x) := by
  have h : ∀ j : S4096x1024.Idx, j = ix2 ⟨t.val * 1024 + r.val, by have : t.val < 4 := t.isLt; omega⟩ ⟨n.val * 256 + x.val, by omega⟩ → V m c main_v50 j = Cert.Reference6Ideal.Read.val_main_v65 (F := Ideal) (Proj m c) (Mkv m c) (Gq m c) (Gk m c) (ix3 n ⟨t.val * 1024 + r.val, by have : t.val < 4 := t.isLt; omega⟩ x) := by
    rintro _ rfl
    entry_read
    show truncf (F := Ideal) .bf16 (shapeCast S4096x1024 (transpose S4096x4x256 [1, 0, 2] (Cert.Reference6Ideal.Read.val_main_v65 (F := Ideal) (Proj m c) (Mkv m c) (Gq m c) (Gk m c)) transposes_S4x4096x256_S4096x4x256_1_0_2) shapeCasts_S4096x4x256_S4096x1024) bitsLt_bf16_f32 (ix2 ⟨t.val * 1024 + r.val, by have : t.val < 4 := t.isLt; omega⟩ ⟨n.val * 256 + x.val, by omega⟩) = _
    generalize Cert.Reference6Ideal.Read.val_main_v65 (F := Ideal) (Proj m c) (Mkv m c) (Gq m c) (Gk m c) = T
    pointwise []
  refine h _ ?_
  blk_ext [idx t]

end Cert.Kernel6Ideal.Proof

end
-- ==== Proof.Mem.lean ====
module

public import proofs.«01_k».proof.Defs
public import proofs.«01_k».proof.Proof.Common
public import proofs.«01_k».proof.Proof.Attn
public import proofs.«01_k».proof.Proof.Gen.Kernel6Ideal.Value
public import proofs.«01_k».proof.Proof.Gen.Reference6Ideal.Read
public import proofs.«01_k».proof.Proof.Gen.Pre_gains_finite
public import proofs.«01_k».proof.Proof.MemRef
public import proofs.«01_k».proof.Proof.MemPoint
public import Idealize.ShloMosaic.Lib.Pipeline.ReadBack

/-! The value of the memory attention's gradient. -/

@[expose] public section

set_option maxRecDepth 16384

noncomputable section

namespace Cert.Kernel6Ideal.Proof

open Cert.Kernel6Ideal Cert.Kernel6Ideal.Gen Idealize.ShloMosaic Idealize.ShloMosaic.TcCoe Idealize.SL.Sem
open Idealize.ShloMosaic.Pipeline (Dat)
open Cert.Common
/-- A memory key of the reference. -/
theorem ref_mk (mkv : S256x512.Idx → EReal) (gk : S64.Idx → EReal) (x : Fin 256) (n : Fin 4) (i : Fin 64) :
    Cert.Reference6Ideal.Read.val_main_v18 (F := Ideal) mkv gk (ix3 x n i) = xkb mkv x n i * gk (ix1 i) := by
  pointwise [Cert.Reference6Ideal.Read.val_main_v0, Cert.Reference6Ideal.Read.val_main_v1, Cert.Reference6Ideal.Read.val_main_v2, Cert.Reference6Ideal.Read.val_main_v3, Cert.Reference6Ideal.Read.val_main_cst, Cert.Reference6Ideal.Read.val_main_v4, Cert.Reference6Ideal.Read.val_main_v5, Cert.Reference6Ideal.Read.val_main_cst_0, Cert.Reference6Ideal.Read.val_main_v6, Cert.Reference6Ideal.Read.val_main_v7, Cert.Reference6Ideal.Read.val_main_cst_1, Cert.Reference6Ideal.Read.val_main_v8, Cert.Reference6Ideal.Read.val_main_v9, Cert.Reference6Ideal.Read.val_main_v10, Cert.Reference6Ideal.Read.val_main_v11, Cert.Reference6Ideal.Read.val_main_cst_2, Cert.Reference6Ideal.Read.val_main_v12, Cert.Reference6Ideal.Read.val_main_v13, Cert.Reference6Ideal.Read.val_main_v14, Cert.Reference6Ideal.Read.val_main_v15, Cert.Reference6Ideal.Read.val_main_v16, Cert.Reference6Ideal.Read.val_main_v17, Cert.Reference6Ideal.Read.val_main_v18, xkb]

/-- A query of the reference. -/
theorem ref_qn (proj : S4096x1024.Idx → EReal) (gq : S64.Idx → EReal) (r : Fin 4096) (n : Fin 4) (i : Fin 64) :
    Cert.Reference6Ideal.Read.val_main_v37 (F := Ideal) proj gq (ix3 r n i)
      = proj (ix2 r ⟨768 + (n.val * 64 + i.val), by omega⟩) * Ideal.rsqrt (Ideal.div (∑ k : Fin 64, proj (ix2 r ⟨768 + (n.val * 64 + k.val), by omega⟩) * proj (ix2 r ⟨768 + (n.val * 64 + k.val), by omega⟩))
            (Ideal.ofBits .f32 0x42800000#32) + Ideal.ofBits .f32 0x358637BD#32) * gq (ix1 i) := by
  pointwise [Cert.Reference6Ideal.Read.val_main_v0, Cert.Reference6Ideal.Read.val_main_v1, Cert.Reference6Ideal.Read.val_main_v2, Cert.Reference6Ideal.Read.val_main_v3, Cert.Reference6Ideal.Read.val_main_cst, Cert.Reference6Ideal.Read.val_main_v4, Cert.Reference6Ideal.Read.val_main_v5, Cert.Reference6Ideal.Read.val_main_cst_0, Cert.Reference6Ideal.Read.val_main_v6, Cert.Reference6Ideal.Read.val_main_v7, Cert.Reference6Ideal.Read.val_main_cst_1, Cert.Reference6Ideal.Read.val_main_v8, Cert.Reference6Ideal.Read.val_main_v9, Cert.Reference6Ideal.Read.val_main_v10, Cert.Reference6Ideal.Read.val_main_v11, Cert.Reference6Ideal.Read.val_main_cst_2, Cert.Reference6Ideal.Read.val_main_v12, Cert.Reference6Ideal.Read.val_main_v13, Cert.Reference6Ideal.Read.val_main_v14, Cert.Reference6Ideal.Read.val_main_v15, Cert.Reference6Ideal.Read.val_main_v16, Cert.Reference6Ideal.Read.val_main_v17, Cert.Reference6Ideal.Read.val_main_v18, Cert.Reference6Ideal.Read.val_main_v19, Cert.Reference6Ideal.Read.val_main_v20, Cert.Reference6Ideal.Read.val_main_v21, Cert.Reference6Ideal.Read.val_main_v22, Cert.Reference6Ideal.Read.val_main_cst_3, Cert.Reference6Ideal.Read.val_main_v23, Cert.Reference6Ideal.Read.val_main_v24, Cert.Reference6Ideal.Read.val_main_cst_4, Cert.Reference6Ideal.Read.val_main_v25, Cert.Reference6Ideal.Read.val_main_v26, Cert.Reference6Ideal.Read.val_main_cst_5, Cert.Reference6Ideal.Read.val_main_v27, Cert.Reference6Ideal.Read.val_main_v28, Cert.Reference6Ideal.Read.val_main_v29, Cert.Reference6Ideal.Read.val_main_v30, Cert.Reference6Ideal.Read.val_main_cst_6, Cert.Reference6Ideal.Read.val_main_v31, Cert.Reference6Ideal.Read.val_main_v32, Cert.Reference6Ideal.Read.val_main_v33, Cert.Reference6Ideal.Read.val_main_v34, Cert.Reference6Ideal.Read.val_main_v35, Cert.Reference6Ideal.Read.val_main_v36, Cert.Reference6Ideal.Read.val_main_v37]

theorem lt_lo (n : Fin 4) (i : Fin 64) : n.val * 64 + i.val < 512 := by omega
theorem lt_hi (n : Fin 4) (i : Fin 64) : 256 + (n.val * 64 + i.val) < 512 := by omega

theorem col_lo (y : Fin 512) (h : y.val < 256) : ∃ (n : Fin 4) (i : Fin 64), y = ⟨n.val * 64 + i.val, lt_lo n i⟩ :=
  ⟨⟨y.val / 64, by omega⟩, ⟨y.val % 64, Nat.mod_lt _ (by norm_num)⟩, Fin.ext (by simp only; omega)⟩

theorem col_hi (y : Fin 512) (h : ¬y.val < 256) : ∃ (n : Fin 4) (i : Fin 64), y = ⟨256 + (n.val * 64 + i.val), lt_hi n i⟩ :=
  ⟨⟨(y.val - 256) / 64, by omega⟩, ⟨(y.val - 256) % 64, Nat.mod_lt _ (by norm_num)⟩, Fin.ext (by simp only; omega)⟩

variable (m : (ℓ : Loc nD τ sig) → Buf (Elt Ideal) ℓ)

/-- The memory keys, normalised. -/
abbrev MKA (c : Dev nD) := mkOf (Mkv m c) (iblk m c 4 t0_3)
/-- The memory values. -/
abbrev MVA (c : Dev nD) := k0_pay37 (F := Ideal) (Mkv m c)

theorem gk_block (c : Dev nD) (t : Fin cfg0.N) : iblk m c 4 t = iblk m c 4 t0_3 := by
  funext j
  obtain ⟨i, rfl⟩ : ∃ i : Fin 64, j = ix2 0 i := ⟨j 1, by blk_ext⟩
  rw [k_read, k_read]

/-- The keys kept in the scratch. -/
theorem mk_A (c : Dev nD) (t : Fin cfg0.N) (h : t.val % 4 = 0) : (outsAt0 m c t.val t.isLt).2.2.2.2.1 = MKA m c := by
  rw [outsAt0_A m c t h (by omega), MKA, ← kv_read m c t, ← gk_block m c t]
  funext y
  frame_out
theorem mk_B (c : Dev nD) (t : Fin cfg0.N) (h : ¬t.val % 4 = 0) :
    (outsAt0 m c t.val t.isLt).2.2.2.2.1 = (outsAt0 m c (t.val - 1) (Nat.lt_of_le_of_lt (Nat.sub_le _ _) t.isLt)).2.2.2.2.1 := by
  by_cases h1 : t.val % 4 = 3
  · rw [outsAt0_C m c t h h1]; rfl
  · rw [outsAt0_B m c t h h1]; rfl
theorem mv_A (c : Dev nD) (t : Fin cfg0.N) (h : t.val % 4 = 0) : (outsAt0 m c t.val t.isLt).2.2.2.2.2.1 = MVA m c := by
  rw [outsAt0_A m c t h (by omega), MVA, ← kv_read m c t]
  funext y
  frame_out
theorem mv_B (c : Dev nD) (t : Fin cfg0.N) (h : ¬t.val % 4 = 0) :
    (outsAt0 m c t.val t.isLt).2.2.2.2.2.1 = (outsAt0 m c (t.val - 1) (Nat.lt_of_le_of_lt (Nat.sub_le _ _) t.isLt)).2.2.2.2.2.1 := by
  by_cases h1 : t.val % 4 = 3
  · rw [outsAt0_C m c t h h1]; rfl
  · rw [outsAt0_B m c t h h1]; rfl

/-- The scratches hold them at every point. -/
theorem mk_at (c : Dev nD) : ∀ (n : ℕ) (h : n < cfg0.N), (outsAt0 m c n h).2.2.2.2.1 = MKA m c ∧ (outsAt0 m c n h).2.2.2.2.2.1 = MVA m c
  | 0, h => ⟨mk_A m c ⟨0, h⟩ rfl, mv_A m c ⟨0, h⟩ rfl⟩
  | n + 1, h => by
    have hn : n + 1 < 4 := h
    have h0 : ¬(n + 1) % 4 = 0 := by omega
    have ih := mk_at c n (Nat.lt_of_succ_lt h)
    exact ⟨(mk_B m c ⟨n + 1, h⟩ h0).trans ih.1, (mv_B m c ⟨n + 1, h⟩ h0).trans ih.2⟩

/-- What a point stores of the queries' gradient. -/
theorem dq_at (c : Dev nD) (t : Fin cfg0.N) :
    (outsAt0 m c t.val t.isLt).1 = dqOf (iblk m c 0 t) (iblk m c 1 t) (iblk m c 3 t) (iblk m c 5 t) (MKA m c) (MVA m c) := by
  have e := mk_at m c (t.val - 1) (Nat.lt_of_le_of_lt (Nat.sub_le _ _) t.isLt)
  by_cases h : t.val % 4 = 0
  · rw [outsAt0_A m c t h (by omega), MKA, MVA, ← kv_read m c t, ← gk_block m c t]
    funext y
    frame_out
  · by_cases h1 : t.val % 4 = 3
    · rw [outsAt0_C m c t h h1]
      funext y
      frame_out
      rw [read_unread_whole, read_unread_whole, e.1, e.2]
    · rw [outsAt0_B m c t h h1]
      funext y
      frame_out
      rw [read_unread_whole, read_unread_whole, e.1, e.2]

/-- What a point adds to the keys' gradient. -/
abbrev dkOn (c : Dev nD) (t : Fin cfg0.N) (x : Fin 256) (n : Fin 4) (i : Fin 64) : EReal :=
  ∑ r : Fin 1024, dsb (iblk m c 5 t) (iblk m c 1 t) (MVA m c) r n x * qnb (iblk m c 0 t) (iblk m c 3 t) r n i
theorem dk_A (c : Dev nD) (t : Fin cfg0.N) (h : t.val % 4 = 0) (x : Fin 256) (n : Fin 4) (i : Fin 64) :
    (outsAt0 m c t.val t.isLt).2.2.2.2.2.2.1 (ix2 x ⟨n.val * 64 + i.val, by omega⟩) = 0 + dkOn m c t x n i := by
  rw [dkOn, outsAt0_A m c t h (by omega), MVA, ← kv_read m c t]
  frame_out
  refine (point_dk _ _ _ _ _ _ _ _ _).trans ?_
  congr 1
  exact Ideal.ofBits_zero_f32
theorem dk_B (c : Dev nD) (t : Fin cfg0.N) (h : ¬t.val % 4 = 0) (x : Fin 256) (n : Fin 4) (i : Fin 64) :
    (outsAt0 m c t.val t.isLt).2.2.2.2.2.2.1 (ix2 x ⟨n.val * 64 + i.val, by omega⟩)
      = (outsAt0 m c (t.val - 1) (Nat.lt_of_le_of_lt (Nat.sub_le _ _) t.isLt)).2.2.2.2.2.2.1 (ix2 x ⟨n.val * 64 + i.val, by omega⟩) + dkOn m c t x n i := by
  have e := mk_at m c (t.val - 1) (Nat.lt_of_le_of_lt (Nat.sub_le _ _) t.isLt)
  by_cases h1 : t.val % 4 = 3
  · rw [outsAt0_C m c t h h1]
    frame_out
    rw [read_unread_whole, read_unread_whole, e.2]
    exact point_dk _ _ _ _ _ _ _ _ _
  · rw [outsAt0_B m c t h h1]
    frame_out
    rw [read_unread_whole, read_unread_whole, e.2]
    exact point_dk _ _ _ _ _ _ _ _ _

/-- What a point adds to the values' gradient. -/
abbrev dvAdd (p : S1024x1024.Idx → EReal) (d : S1024x256.Idx → EReal) (x : Fin 256) (n : Fin 4) (i : Fin 64) : EReal :=
  ∑ r : Fin 1024, p (ix2 r ⟨n.val * 256 + x.val, by omega⟩) * d (ix2 r ⟨n.val * 64 + i.val, by omega⟩)
/-- The same, of the point's blocks. -/
abbrev dvOn (c : Dev nD) (t : Fin cfg0.N) (x : Fin 256) (n : Fin 4) (i : Fin 64) : EReal := dvAdd (iblk m c 5 t) (iblk m c 1 t) x n i
theorem dv_A (c : Dev nD) (t : Fin cfg0.N) (h : t.val % 4 = 0) (x : Fin 256) (n : Fin 4) (i : Fin 64) :
    (outsAt0 m c t.val t.isLt).2.2.2.2.2.2.2 (ix2 x ⟨n.val * 64 + i.val, by omega⟩) = 0 + dvOn m c t x n i := by
  rw [dvOn, outsAt0_A m c t h (by omega)]
  frame_out
  refine (point_dv _ _ _ _ _ _).trans ?_
  congr 1
  exact Ideal.ofBits_zero_f32
theorem dv_B (c : Dev nD) (t : Fin cfg0.N) (h : ¬t.val % 4 = 0) (x : Fin 256) (n : Fin 4) (i : Fin 64) :
    (outsAt0 m c t.val t.isLt).2.2.2.2.2.2.2 (ix2 x ⟨n.val * 64 + i.val, by omega⟩)
      = (outsAt0 m c (t.val - 1) (Nat.lt_of_le_of_lt (Nat.sub_le _ _) t.isLt)).2.2.2.2.2.2.2 (ix2 x ⟨n.val * 64 + i.val, by omega⟩) + dvOn m c t x n i := by
  by_cases h1 : t.val % 4 = 3
  · rw [outsAt0_C m c t h h1]
    frame_out
    rw [read_unread_whole]
    exact point_dv _ _ _ _ _ _
  · rw [outsAt0_B m c t h h1]
    frame_out
    rw [read_unread_whole]
    exact point_dv _ _ _ _ _ _

/-- What a point adds to the queries' gain's gradient. -/
abbrev dgAdd (a d : S1024x256.Idx → EReal) (p : S1024x1024.Idx → EReal) (MK MV : S256x256.Idx → EReal) (i : Fin 64) : EReal :=
  ∑ r : Fin 1024, ∑ n : Fin 4,
    (∑ x : Fin 256, dsb p d MV r n x * MK (ix2 x ⟨n.val * 64 + i.val, by omega⟩)) * Ideal.ofBits .f32 0x3E000000#32
    * (a (ix2 r ⟨n.val * 64 + i.val, by omega⟩) * Ideal.rsqrt (Ideal.div (∑ k : Fin 64, a (ix2 r ⟨n.val * 64 + k.val, by omega⟩) * a (ix2 r ⟨n.val * 64 + k.val, by omega⟩))
      (Ideal.ofBits .f32 0x42800000#32) + Ideal.ofBits .f32 0x358637BD#32))
/-- The same, of the point's blocks. -/
abbrev dgOn (c : Dev nD) (t : Fin cfg0.N) (i : Fin 64) : EReal := dgAdd (iblk m c 0 t) (iblk m c 1 t) (iblk m c 5 t) (MKA m c) (MVA m c) i
theorem dg_A (c : Dev nD) (t : Fin cfg0.N) (h : t.val % 4 = 0) (i : Fin 64) : (outsAt0 m c t.val t.isLt).2.2.1 (ix2 0 i) = 0 + dgOn m c t i := by
  rw [dgOn, outsAt0_A m c t h (by omega), MKA, MVA, ← kv_read m c t, ← gk_block m c t]
  frame_out
  refine (point_dgq _ _ _ _ _ _ _).trans ?_
  congr 1
  exact Ideal.ofBits_zero_f32
theorem dg_B (c : Dev nD) (t : Fin cfg0.N) (h : ¬t.val % 4 = 0) (i : Fin 64) : (outsAt0 m c t.val t.isLt).2.2.1 (ix2 0 i)
    = (outsAt0 m c (t.val - 1) (Nat.lt_of_le_of_lt (Nat.sub_le _ _) t.isLt)).2.2.1 (ix2 0 i) + dgOn m c t i := by
  have e := mk_at m c (t.val - 1) (Nat.lt_of_le_of_lt (Nat.sub_le _ _) t.isLt)
  by_cases h1 : t.val % 4 = 3
  · rw [outsAt0_C m c t h h1]
    frame_out
    rw [read_unread_whole, read_unread_whole, e.1, e.2]
    exact point_dgq _ _ _ _ _ _ _
  · rw [outsAt0_B m c t h h1]
    frame_out
    rw [read_unread_whole, read_unread_whole, e.1, e.2]
    exact point_dgq _ _ _ _ _ _ _

/-- The keys' gradient after the last point. -/
theorem dk_last (c : Dev nD) (x : Fin 256) (n : Fin 4) (i : Fin 64) :
    (outsAt0 m c t0_3.val t0_3.isLt).2.2.2.2.2.2.1 (ix2 x ⟨n.val * 64 + i.val, by omega⟩) = ∑ t : Fin cfg0.N, dkOn m c t x n i := by
  rw [Pipeline.eq_sum_fin_of_reset_step_apply_last (fun k h (_ : Unit) => (outsAt0 m c k h).2.2.2.2.2.2.1 (ix2 x ⟨n.val * 64 + i.val, by omega⟩)) 4 (fun _ => (0 : EReal))
    (fun t _ => dkOn m c t x n i) (fun t h _ => dk_A m c t h x n i) (fun t h _ => dk_B m c t h x n i) (le_of_eq N_0) t0_3 rfl (), zero_add]
/-- The values' gradient after the last point. -/
theorem dv_last (c : Dev nD) (x : Fin 256) (n : Fin 4) (i : Fin 64) :
    (outsAt0 m c t0_3.val t0_3.isLt).2.2.2.2.2.2.2 (ix2 x ⟨n.val * 64 + i.val, by omega⟩) = ∑ t : Fin cfg0.N, dvOn m c t x n i := by
  rw [Pipeline.eq_sum_fin_of_reset_step_apply_last (fun k h (_ : Unit) => (outsAt0 m c k h).2.2.2.2.2.2.2 (ix2 x ⟨n.val * 64 + i.val, by omega⟩)) 4 (fun _ => (0 : EReal))
    (fun t _ => dvOn m c t x n i) (fun t h _ => dv_A m c t h x n i) (fun t h _ => dv_B m c t h x n i) (le_of_eq N_0) t0_3 rfl (), zero_add]
/-- The queries' gain's gradient after the last point. -/
theorem dg_last (c : Dev nD) (i : Fin 64) : (outsAt0 m c t0_3.val t0_3.isLt).2.2.1 (ix2 0 i) = ∑ t : Fin cfg0.N, dgOn m c t i := by
  rw [Pipeline.eq_sum_fin_of_reset_step_apply_last (fun k h (_ : Unit) => (outsAt0 m c k h).2.2.1 (ix2 0 i)) 4 (fun _ => (0 : EReal))
    (fun t _ => dgOn m c t i) (fun t h _ => dg_A m c t h i) (fun t h _ => dg_B m c t h i) (le_of_eq N_0) t0_3 rfl (), zero_add]

/-- What the last point stores of the memory's gradient. -/
theorem dmkv_last (c : Dev nD) : (outsAt0 m c t0_3.val t0_3.isLt).2.1
    = dmkvOf (iblk m c 2 t0_3) (iblk m c 4 t0_3) (outsAt0 m c t0_3.val t0_3.isLt).2.2.2.2.2.2.1 (outsAt0 m c t0_3.val t0_3.isLt).2.2.2.2.2.2.2 := by
  rw [outsAt0_C m c t0_3 (by decide) (by decide)]
  funext y
  frame_out
/-- What the last point stores of the keys' gain's gradient. -/
theorem dgk_last (c : Dev nD) (i : Fin 64) : (outsAt0 m c t0_3.val t0_3.isLt).2.2.2.1 (ix2 0 i)
    = ∑ x : Fin 256, ∑ n : Fin 4, (outsAt0 m c t0_3.val t0_3.isLt).2.2.2.2.2.2.1 (ix2 x ⟨n.val * 64 + i.val, by omega⟩) * xkb (iblk m c 2 t0_3) x n i := by
  rw [outsAt0_C m c t0_3 (by decide) (by decide)]
  frame_out
  exact point_dgk _ _ _

/-- The memory values, at an entry. -/
theorem mv_entry (c : Dev nD) (x : Fin 256) (n : Fin 4) (k : Fin 64) :
    MVA m c (ix2 x ⟨n.val * 64 + k.val, by omega⟩) = Mkv m c (ix2 x ⟨256 + (n.val * 64 + k.val), by omega⟩) := point_mv _ x ⟨n.val * 64 + k.val, by omega⟩

/-- The memory keys, at an entry. -/
theorem mk_entry (c : Dev nD) (x : Fin 256) (n : Fin 4) (k : Fin 64) :
    MKA m c (ix2 x ⟨n.val * 64 + k.val, by omega⟩) = Cert.Reference6Ideal.Read.val_main_v18 (F := Ideal) (Mkv m c) (Gk m c) (ix3 x n k) := by
  rw [ref_mk, MKA, point_mk, k_read]

section values
variable (c : Dev nD) (hq : ∀ i, ∃ x : ℝ, Gq m c i = x) (hk : ∀ i, ∃ x : ℝ, Gk m c i = x)
include hq hk

/-- The scores' gradient. -/
theorem ds_eq (t : Fin cfg0.N) (r : Fin 1024) (n : Fin 4) (x : Fin 256) :
    dsb (iblk m c 5 t) (iblk m c 1 t) (MVA m c) r n x * Ideal.ofBits .f32 0x3E000000#32
      = Cert.Reference6Ideal.Read.val_main_v91 (F := Ideal) (Proj m c) (Dcat m c) (Mkv m c) (Gq m c) (Gk m c)
          (ix3 n ⟨t.val * 1024 + r.val, by have : t.val < 4 := t.isLt; omega⟩ x) := by
  rw [ref_ds _ _ _ _ _ hq hk, eighth_f32]
  simp only [dsb, p_read, d_read, mv_entry]

/-- The queries' gradient a point stores. -/
theorem dq_eq (t : Fin cfg0.N) (r : Fin 1024) (n : Fin 4) (i : Fin 64) :
    dqOf (iblk m c 0 t) (iblk m c 1 t) (iblk m c 3 t) (iblk m c 5 t) (MKA m c) (MVA m c) (ix2 r ⟨n.val * 64 + i.val, by omega⟩)
      = Cert.Reference6Ideal.Read.val_main_v116 (F := Ideal) (Proj m c) (Dcat m c) (Mkv m c) (Gq m c) (Gk m c)
          (ix2 ⟨t.val * 1024 + r.val, by have : t.val < 4 := t.isLt; omega⟩ ⟨n.val * 64 + i.val, by omega⟩) := by
  refine (point_dq _ _ _ _ _ _ _ _ _).trans (Eq.trans ?_ (ref_dmq _ _ _ _ _ _ _ _).symm)
  refine congrArg₂ (fun p q => headGrad p q i) (funext fun k => a_read m c t r _) (funext fun k => ?_)
  refine congrArg₂ (· * ·) ?_ (q_read m c t k)
  rw [mul_comm, eighth_f32, const_mul_sum _ _ (by norm_num)]
  refine Finset.sum_congr rfl fun x _ => ?_
  rw [← ds_eq m c hq hk t r n x, mk_entry, eighth_f32]
  ac_rfl

/-- What a point adds to the keys' gradient, in the reference's terms. -/
theorem dk_eq (t : Fin cfg0.N) (x : Fin 256) (n : Fin 4) (i : Fin 64) :
    dkOn m c t x n i = ∑ r : Fin 1024,
      Cert.Reference6Ideal.Read.val_main_v91 (F := Ideal) (Proj m c) (Dcat m c) (Mkv m c) (Gq m c) (Gk m c)
          (ix3 n ⟨t.val * 1024 + r.val, by have : t.val < 4 := t.isLt; omega⟩ x)
      * Cert.Reference6Ideal.Read.val_main_v37 (F := Ideal) (Proj m c) (Gq m c) (ix3 ⟨t.val * 1024 + r.val, by have : t.val < 4 := t.isLt; omega⟩ n i) := by
  refine Finset.sum_congr rfl fun r _ => ?_
  rw [← ds_eq m c hq hk t r n x, ref_qn, qnb]
  simp only [a_read, q_read]
  ac_rfl

/-- What a point adds to the queries' gain's gradient, in the reference's terms. -/
theorem dg_eq (t : Fin cfg0.N) (i : Fin 64) :
    dgOn m c t i = ∑ r : Fin 1024, ∑ n : Fin 4,
      Proj m c (ix2 ⟨t.val * 1024 + r.val, by have : t.val < 4 := t.isLt; omega⟩ ⟨768 + (n.val * 64 + i.val), by omega⟩)
      * Ideal.rsqrt (Ideal.div (∑ k : Fin 64, Proj m c (ix2 ⟨t.val * 1024 + r.val, by have : t.val < 4 := t.isLt; omega⟩ ⟨768 + (n.val * 64 + k.val), by omega⟩) * Proj m c (ix2 ⟨t.val * 1024 + r.val, by have : t.val < 4 := t.isLt; omega⟩ ⟨768 + (n.val * 64 + k.val), by omega⟩))
            (Ideal.ofBits .f32 0x42800000#32) + Ideal.ofBits .f32 0x358637BD#32)
      * ∑ x : Fin 256, Cert.Reference6Ideal.Read.val_main_v91 (F := Ideal) (Proj m c) (Dcat m c) (Mkv m c) (Gq m c) (Gk m c)
          (ix3 n ⟨t.val * 1024 + r.val, by have : t.val < 4 := t.isLt; omega⟩ x)
        * Cert.Reference6Ideal.Read.val_main_v18 (F := Ideal) (Mkv m c) (Gk m c) (ix3 x n i) := by
  refine Finset.sum_congr rfl fun r _ => Finset.sum_congr rfl fun n _ => ?_
  rw [mul_comm]
  refine congrArg₂ (· * ·) ?_ ?_
  · simp only [a_read]
  · rw [mul_comm, eighth_f32, const_mul_sum _ _ (by norm_num)]
    refine Finset.sum_congr rfl fun x _ => ?_
    rw [← ds_eq m c hq hk t r n x, mk_entry, eighth_f32]
    ac_rfl

omit hq hk in
/-- What the aliased result holds before the call. -/
theorem dp_entry (j : S4096x1024.Idx) : V m c main_v51_0 j = Dp m c j := by
  entry_read
  rfl

omit hq hk in
/-- The columns the call leaves alone. -/
theorem keep_entry (i : S4096x1024.Idx) (h : ¬(i 1).val / 256 = 3) : V m c main_v51_0 i
    = Cert.Reference6Ideal.Read.val_main_v144 (F := Ideal) (Proj m c) (Dcat m c) (Mkv m c) (Gq m c) (Gk m c) (Dp m c) i := by
  obtain ⟨r, x, rfl⟩ : ∃ (r : Fin 4096) (x : Fin 1024), i = ix2 r x := ⟨i 0, i 1, by blk_ext⟩
  have h' : ¬x.val / 256 = 3 := h
  rw [ref_keep _ _ _ _ _ _ r x (by omega), dp_entry]

/-- The projection's gradient, over the whole array. -/
theorem final_dproj : (dats m 0 c).arrAt 6 cfg0.N
    = Cert.Reference6Ideal.Read.val_main_v144 (F := Ideal) (Proj m c) (Dcat m c) (Mkv m c) (Gq m c) (Gk m c) (Dp m c) := by
  refine ((dats m 0 c).arrAt_eq_of_coversWhere 6 (Cert.Reference6Ideal.Read.val_main_v144 (F := Ideal) (Proj m c) (Dcat m c) (Mkv m c) (Gq m c) (Gk m c) (Dp m c))
    (P := fun i : S4096x1024.Idx => (i 1).val / 256 = 3) (fun β => β (1 : Fin 2) = 3) (by decide +kernel) (fun t hf y => ?_) (fun j => Iff.rfl)).trans (funext fun i => ?_)
  · blk_simp
    rw [after0_6, dq_at]
    obtain ⟨r, n, i, rfl⟩ : ∃ (r : Fin 1024) (n : Fin 4) (i : Fin 64), y = ix2 r ⟨n.val * 64 + i.val, by omega⟩ :=
      ⟨y 0, ⟨(y 1).val / 64, by have : (y 1).val < 256 := (y 1).isLt; omega⟩, ⟨(y 1).val % 64, Nat.mod_lt _ (by norm_num)⟩, by blk_ext⟩
    have ht : t.val < 4 := t.isLt
    have he : ((cfg0.win 6).blk t).view.emb (ix2 r ⟨n.val * 64 + i.val, by omega⟩) = ix2 ⟨t.val * 1024 + r.val, by omega⟩ ⟨768 + (n.val * 64 + i.val), by omega⟩ := by blk_ext [idx t]
    rw [he]
    refine (dq_eq m c hq hk t r n i).trans (ref_new _ _ _ _ _ _ _ ⟨n.val * 64 + i.val, by omega⟩).symm
  · split
    · rfl
    · rename_i h
      exact keep_entry m c i h

/-- The memory's gradient, over the whole array. -/
theorem final_dmkv : (dats m 0 c).arrAt 7 cfg0.N
    = Cert.Reference6Ideal.Read.val_main_v141 (F := Ideal) (Proj m c) (Dcat m c) (Mkv m c) (Gq m c) (Gk m c) := by
  refine (dats m 0 c).arrAt_eq_of_after_last 7 t0_3 (by decide +kernel) _ fun j => ?_
  blk_simp
  rw [after0_7, dmkv_last]
  obtain ⟨x, y, rfl⟩ : ∃ (x : Fin 256) (y : Fin 512), j = ix2 x y := ⟨j 0, j 1, by blk_ext⟩
  by_cases h : y.val < 256
  · obtain ⟨n, i, rfl⟩ := col_lo y h
    refine (point_dmk _ _ _ _ _ _ _).trans (Eq.trans ?_ (ref_dmk _ _ _ _ _ _ _ _).symm)
    refine congrArg₂ (fun p q => headGrad p q i) (funext fun k => congrFun (kv_read m c t0_3) _) (funext fun k => congrArg₂ (· * ·) ?_ (k_read m c t0_3 k))
    rw [dk_last]
    simp only [dk_eq m c hq hk]
    exact Fin.sum_mul_add_congr (S := 4) (n := 1024) fun t k hl => rfl
  · obtain ⟨n, i, rfl⟩ := col_hi y h
    refine (point_dmv _ _ _ _ _ ⟨n.val * 64 + i.val, by omega⟩).trans (Eq.trans ?_ (ref_dmv _ _ _ _ _ _ _ _).symm)
    rw [dv_last]
    refine Fin.sum_mul_add_congr (S := 4) (n := 1024) fun t k hl => ?_
    rw [mul_comm]
    exact congrArg₂ (· * ·) (d_read m c t k ⟨n.val * 64 + i.val, by omega⟩) (p_read m c t k n x)

/-- The queries' gain's gradient. -/
theorem final_dgq : (dats m 0 c).arrAt 8 cfg0.N
    = Cert.Reference6Ideal.Read.val_main_v145 (F := Ideal) (Proj m c) (Dcat m c) (Mkv m c) (Gq m c) (Gk m c) := by
  refine (dats m 0 c).arrAt_eq_of_after_last 8 t0_3 (by decide +kernel) _ fun j => ?_
  blk_simp
  rw [after0_8]
  obtain ⟨i, rfl⟩ : ∃ i : Fin 64, j = ix2 0 i := ⟨j 1, by blk_ext⟩
  refine (dg_last m c i).trans (Eq.trans ?_ (ref_dgq _ _ _ _ _ _).symm)
  simp only [dg_eq m c hq hk]
  exact Fin.sum_mul_add_congr (S := 4) (n := 1024) fun t k hl => rfl

/-- The keys' gain's gradient. -/
theorem final_dgk : (dats m 0 c).arrAt 9 cfg0.N
    = Cert.Reference6Ideal.Read.val_main_v146 (F := Ideal) (Proj m c) (Dcat m c) (Mkv m c) (Gq m c) (Gk m c) := by
  refine (dats m 0 c).arrAt_eq_of_after_last 9 t0_3 (by decide +kernel) _ fun j => ?_
  blk_simp
  rw [after0_9]
  obtain ⟨i, rfl⟩ : ∃ i : Fin 64, j = ix2 0 i := ⟨j 1, by blk_ext⟩
  refine (dgk_last m c i).trans (Eq.trans ?_ (ref_dgk _ _ _ _ _ _).symm)
  refine Finset.sum_congr rfl fun x _ => Finset.sum_congr rfl fun n _ => ?_
  rw [mul_comm, dk_last, kv_read]
  simp only [dk_eq m c hq hk]
  refine congrArg₂ (· * ·) rfl ?_
  exact Fin.sum_mul_add_congr (S := 4) (n := 1024) fun t k hl => rfl

end values

/-- The word of plus infinity. -/
theorem pinf_f32 : Ideal.ofBits .f32 0x7F800000#32 = (⊤ : EReal) := by
  simp [Ideal.ofBits, Ideal.ieee]

/-- Both bits are set where their conjunction is. -/
theorem both {p q : Prop} [Decidable p] [Decidable q] (h : IntOp.andi (BitVec.ofBool (decide p)) (BitVec.ofBool (decide q)) = 1#1) : p ∧ q := by
  by_cases hp : p <;> by_cases hq : q <;> simp [hp, hq, IntOp.andi] at h ⊢

/-- What has a finite absolute value is a real number. -/
theorem fin_real {x : EReal} (h : max x (-x) < ⊤) : ∃ r : ℝ, x = r := by
  induction x with
  | bot => simp at h
  | top => simp at h
  | coe r => exact ⟨r, rfl⟩

/-- Where the precondition holds the gains are real numbers. -/
theorem gains_real (h : Cert.Pre_Kernel6Ideal_gains_finite m) (c : Dev nD) :
    (∀ i, ∃ x : ℝ, Gq m c i = x) ∧ (∀ i, ∃ x : ℝ, Gk m c i = x) := by
  have hc : ∀ j, Cert.Pre_gains_finite.fn (F := Ideal) (Proj m c) (Dcat m c) (Mkv m c) (Gq m c) (Gk m c) (Dp m c) j = 1#1 := fun j => congrFun (h c) j
  have hb : ∀ i : Fin 64, (max (Gq m c (ix1 i)) (-Gq m c (ix1 i)) < ⊤) ∧ (max (Gk m c (ix1 i)) (-Gk m c (ix1 i)) < ⊤) := by
    intro i
    have hi := hc (ix1 i)
    unfold Cert.Pre_gains_finite.fn at hi
    revert hi
    pointwise []
    rw [pinf_f32]
    exact fun hi => ⟨(both hi).1, (both hi).2⟩
  refine ⟨fun i => ?_, fun i => ?_⟩
  · obtain ⟨k, rfl⟩ : ∃ k : Fin 64, i = ix1 k := ⟨i 0, by blk_ext⟩
    exact fin_real (hb k).1
  · obtain ⟨k, rfl⟩ : ∃ k : Fin 64, i = ix1 k := ⟨i 0, by blk_ext⟩
    exact fin_real (hb k).2

end Cert.Kernel6Ideal.Proof

namespace Cert.Proof

open Idealize.ShloMosaic Idealize.ShloMosaic.TcCoe Idealize.SL.Sem

/-- A function of five arguments at equal ones. -/
theorem congr5 {A B C D E R : Type*} (f : A → B → C → D → E → R) {a a' : A} {b b' : B} {c c' : C} {d d' : D} {e e' : E}
    (ha : a = a') (hb : b = b') (hc : c = c') (hd : d = d') (he : e = e') : f a b c d e = f a' b' c' d' e' := by
  subst ha hb hc hd he; rfl
/-- A function of six arguments at equal ones. -/
theorem congr6 {A B C D E G R : Type*} (f : A → B → C → D → E → G → R) {a a' : A} {b b' : B} {c c' : C} {d d' : D} {e e' : E} {g g' : G}
    (ha : a = a') (hb : b = b') (hc : c = c') (hd : d = d') (he : e = e') (hg : g = g') : f a b c d e g = f a' b' c' d' e' g' := by
  subst ha hb hc hd he hg; rfl

set_option maxHeartbeats 2000000 in
/-- The idealized gradient of the memory's attention computes what the reference does, for finite gains. -/
theorem mem_value : Cert.algebraic_Kernel6Ideal_Reference6Ideal_pre_gains_finite := by
  pair_intro
  · run_from Cert.Kernel6Ideal.Value.run_blocks m g
  · have hr := Cert.Kernel6Ideal.Proof.gains_real m hpre
    run_from Cert.Reference6Ideal.Value.run m' g'
    · refine (Cert.Reference6Ideal.Read.val_main_v144_eq (F := Ideal) (StableHlo.launchContents m' c)).trans ?_
      exact (congr6 (Cert.Reference6Ideal.Read.val_main_v144 (F := Ideal)) (hagree c).1 (hagree c).2.1 (hagree c).2.2.1 (hagree c).2.2.2.1 (hagree c).2.2.2.2.1 (hagree c).2.2.2.2.2).trans (Cert.Kernel6Ideal.Proof.final_dproj m c (hr c).1 (hr c).2).symm
    · refine (Cert.Reference6Ideal.Read.val_main_v141_eq (F := Ideal) (StableHlo.launchContents m' c)).trans ?_
      exact (congr5 (Cert.Reference6Ideal.Read.val_main_v141 (F := Ideal)) (hagree c).1 (hagree c).2.1 (hagree c).2.2.1 (hagree c).2.2.2.1 (hagree c).2.2.2.2.1).trans (Cert.Kernel6Ideal.Proof.final_dmkv m c (hr c).1 (hr c).2).symm
    · refine (Cert.Reference6Ideal.Read.val_main_v145_eq (F := Ideal) (StableHlo.launchContents m' c)).trans ?_
      exact (congr5 (Cert.Reference6Ideal.Read.val_main_v145 (F := Ideal)) (hagree c).1 (hagree c).2.1 (hagree c).2.2.1 (hagree c).2.2.2.1 (hagree c).2.2.2.2.1).trans (Cert.Kernel6Ideal.Proof.final_dgq m c (hr c).1 (hr c).2).symm
    · refine (Cert.Reference6Ideal.Read.val_main_v146_eq (F := Ideal) (StableHlo.launchContents m' c)).trans ?_
      exact (congr5 (Cert.Reference6Ideal.Read.val_main_v146 (F := Ideal)) (hagree c).1 (hagree c).2.1 (hagree c).2.2.1 (hagree c).2.2.2.1 (hagree c).2.2.2.2.1).trans (Cert.Kernel6Ideal.Proof.final_dgk m c (hr c).1 (hr c).2).symm

end Cert.Proof

end
-- ==== Proof.PoolFrame.lean ====
module

public import proofs.«01_k».proof.Proof.Gen.Kernel7Ideal.Frame.Runs
public import Idealize.ShloMosaic.Lib.Claim
public import Idealize.ShloMosaic.Lib.Tactic

/-! The pooling mixer's backward kernel, the memory read's backward in it, runs, and leaves its arguments as they were. Nothing is
said here of what it writes: its six outputs and four scratch buffers are taken back at whatever they hold. -/

@[expose] public section

set_option maxRecDepth 16384

noncomputable section

namespace Cert.Proof.PoolFrame

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the buffer behind a memref, as core `c` sees it. -/
abbrev Cont (c : Dev nD) {sp : Space} {S : Shape} {e : EltTy} (M : Memref sig .tc sp S e) : Type :=
  Buf (Elt F) (M.view.loc (c : Thread nD τ))
/-- The memref's part of its buffer, held at the contents `f`. -/
abbrev held (c : Dev nD) {sp : Space} {S : Shape} {e : EltTy} (M : Memref sig .tc sp S e) (f : Cont (F := F) c M) : sProp 𝕄 :=
  M.view.loc (c : Thread nD τ) ↦[M.view.set]{fullShare} f

section Step

variable (c : Dev nD) (i : grid0.Coords)
  (arg1 : Memref sig .tc .vmem S1024x768 .f32) (harg1 : arg1.IsWhole)
  (arg2 : Memref sig .tc .vmem S16x768 .f32) (harg2 : arg2.IsWhole)
  (arg3 : Memref sig .tc .vmem S1024x256 .f32) (harg3 : arg3.IsWhole)
  (arg4 : Memref sig .tc .vmem S1024x768 .f32) (harg4 : arg4.IsWhole)
  (arg5 : Memref sig .tc .vmem S16x768 .f32) (harg5 : arg5.IsWhole)
  (arg6 : Memref sig .tc .vmem S1024x256 .f32) (harg6 : arg6.IsWhole)
  (arg7 : Memref sig .tc .vmem S256x512 .f32) (harg7 : arg7.IsWhole)
  (arg8 : Memref sig .tc .vmem S768x768 .bf16) (harg8 : arg8.IsWhole)
  (arg9 : Memref sig .tc .vmem S1x768 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S1024x1024 .bf16) (harg12 : arg12.IsWhole)
  (arg13 : Memref sig .tc .vmem S1024x1024 .bf16) (harg13 : arg13.IsWhole)
  (arg14 : Memref sig .tc .vmem S768x768 .f32) (harg14 : arg14.IsWhole)
  (arg15 : Memref sig .tc .vmem S1x768 .f32) (harg15 : arg15.IsWhole)
  (arg16 : Memref sig .tc .vmem S256x512 .f32) (harg16 : arg16.IsWhole)
  (arg17 : Memref sig .tc .vmem S1x64 .f32) (harg17 : arg17.IsWhole)
  (arg18 : Memref sig .tc .vmem S1x64 .f32) (harg18 : arg18.IsWhole)
  (arg19 : Memref sig .tc .vmem S256x256 .bf16) (harg19 : arg19.IsWhole)
  (arg20 : Memref sig .tc .vmem S256x256 .bf16) (harg20 : arg20.IsWhole)
  (arg21 : Memref sig .tc .vmem S256x256 .f32) (harg21 : arg21.IsWhole)
  (arg22 : Memref sig .tc .vmem S256x256 .f32) (harg22 : arg22.IsWhole)
set_option maxHeartbeats 1000000 in
/-- The first step runs, whatever the buffers hold, and gives the inputs back untouched. -/
theorem stepFirst (h0 : cond0_0 i) (h1 : ¬ cond0_1 i)
    (f1 : Cont (F := F) c arg1) (f2 : Cont (F := F) c arg2) (f3 : Cont (F := F) c arg3) (f4 : Cont (F := F) c arg4) (f5 : Cont (F := F) c arg5) (f6 : Cont (F := F) c arg6) (f7 : Cont (F := F) c arg7) (f8 : Cont (F := F) c arg8) (f9 : Cont (F := F) c arg9) (f10 : Cont (F := F) c arg10) (f11 : Cont (F := F) c arg11) (f12 : Cont (F := F) c arg12) (f13 : Cont (F := F) c arg13) (f14 : Cont (F := F) c arg14) (f15 : Cont (F := F) c arg15) (f16 : Cont (F := F) c arg16) (f17 : Cont (F := F) c arg17) (f18 : Cont (F := F) c arg18) (f19 : Cont (F := F) c arg19) (f20 : Cont (F := F) c arg20) (f21 : Cont (F := F) c arg21) (f22 : Cont (F := F) c arg22) (E : Set ℕ) (K : PUnit → sProp 𝕄) :
    iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14 ∗ held c arg15 f15 ∗ held c arg16 f16 ∗ held c arg17 f17 ∗ held c arg18 f18 ∗ held c arg19 f19 ∗ held c arg20 f20 ∗ held c arg21 f21 ∗ held c arg22 f22
        ∗ (iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ (∃ f, held c arg13 f) ∗ (∃ f, held c arg14 f) ∗ (∃ f, held c arg15 f) ∗ (∃ f, held c arg16 f) ∗ (∃ f, held c arg17 f) ∗ (∃ f, held c arg18 f) ∗ (∃ f, held c arg19 f) ∗ (∃ f, held c arg20 f) ∗ (∃ f, held c arg21 f) ∗ (∃ f, held c arg22 f)) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H1, H2, H3, H4, H5, H6, H7, H8, H9, H10, H11, H12, H13, H14, H15, H16, H17, H18, H19, H20, H21, H22, Hk⟩
  sl_exec_parts (disch := first | sl_exact h0 | sl_exact h1)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

set_option maxHeartbeats 1000000 in
/-- A middle step runs, whatever the buffers hold, and gives the inputs back untouched. -/
theorem stepMiddle (h0 : ¬ cond0_0 i) (h1 : ¬ cond0_1 i)
    (f1 : Cont (F := F) c arg1) (f2 : Cont (F := F) c arg2) (f3 : Cont (F := F) c arg3) (f4 : Cont (F := F) c arg4) (f5 : Cont (F := F) c arg5) (f6 : Cont (F := F) c arg6) (f7 : Cont (F := F) c arg7) (f8 : Cont (F := F) c arg8) (f9 : Cont (F := F) c arg9) (f10 : Cont (F := F) c arg10) (f11 : Cont (F := F) c arg11) (f12 : Cont (F := F) c arg12) (f13 : Cont (F := F) c arg13) (f14 : Cont (F := F) c arg14) (f15 : Cont (F := F) c arg15) (f16 : Cont (F := F) c arg16) (f17 : Cont (F := F) c arg17) (f18 : Cont (F := F) c arg18) (f19 : Cont (F := F) c arg19) (f20 : Cont (F := F) c arg20) (f21 : Cont (F := F) c arg21) (f22 : Cont (F := F) c arg22) (E : Set ℕ) (K : PUnit → sProp 𝕄) :
    iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14 ∗ held c arg15 f15 ∗ held c arg16 f16 ∗ held c arg17 f17 ∗ held c arg18 f18 ∗ held c arg19 f19 ∗ held c arg20 f20 ∗ held c arg21 f21 ∗ held c arg22 f22
        ∗ (iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ (∃ f, held c arg13 f) ∗ (∃ f, held c arg14 f) ∗ (∃ f, held c arg15 f) ∗ (∃ f, held c arg16 f) ∗ (∃ f, held c arg17 f) ∗ (∃ f, held c arg18 f) ∗ (∃ f, held c arg19 f) ∗ (∃ f, held c arg20 f) ∗ (∃ f, held c arg21 f) ∗ (∃ f, held c arg22 f)) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H1, H2, H3, H4, H5, H6, H7, H8, H9, H10, H11, H12, H13, H14, H15, H16, H17, H18, H19, H20, H21, H22, Hk⟩
  sl_exec_parts (disch := first | sl_exact h0 | sl_exact h1)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

set_option maxHeartbeats 1000000 in
/-- The last step runs, whatever the buffers hold, and gives the inputs back untouched. -/
theorem stepLast (h0 : ¬ cond0_0 i) (h1 : cond0_1 i)
    (f1 : Cont (F := F) c arg1) (f2 : Cont (F := F) c arg2) (f3 : Cont (F := F) c arg3) (f4 : Cont (F := F) c arg4) (f5 : Cont (F := F) c arg5) (f6 : Cont (F := F) c arg6) (f7 : Cont (F := F) c arg7) (f8 : Cont (F := F) c arg8) (f9 : Cont (F := F) c arg9) (f10 : Cont (F := F) c arg10) (f11 : Cont (F := F) c arg11) (f12 : Cont (F := F) c arg12) (f13 : Cont (F := F) c arg13) (f14 : Cont (F := F) c arg14) (f15 : Cont (F := F) c arg15) (f16 : Cont (F := F) c arg16) (f17 : Cont (F := F) c arg17) (f18 : Cont (F := F) c arg18) (f19 : Cont (F := F) c arg19) (f20 : Cont (F := F) c arg20) (f21 : Cont (F := F) c arg21) (f22 : Cont (F := F) c arg22) (E : Set ℕ) (K : PUnit → sProp 𝕄) :
    iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14 ∗ held c arg15 f15 ∗ held c arg16 f16 ∗ held c arg17 f17 ∗ held c arg18 f18 ∗ held c arg19 f19 ∗ held c arg20 f20 ∗ held c arg21 f21 ∗ held c arg22 f22
        ∗ (iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ (∃ f, held c arg13 f) ∗ (∃ f, held c arg14 f) ∗ (∃ f, held c arg15 f) ∗ (∃ f, held c arg16 f) ∗ (∃ f, held c arg17 f) ∗ (∃ f, held c arg18 f) ∗ (∃ f, held c arg19 f) ∗ (∃ f, held c arg20 f) ∗ (∃ f, held c arg21 f) ∗ (∃ f, held c arg22 f)) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨H1, H2, H3, H4, H5, H6, H7, H8, H9, H10, H11, H12, H13, H14, H15, H16, H17, H18, H19, H20, H21, H22, Hk⟩
  sl_exec_parts (disch := first | sl_exact h0 | sl_exact h1)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

end Step

variable (m : (ℓ : Loc nD τ sig) → Buf (Elt F) ℓ) (ρ : Dev nD → PrngReg)

/-- What the run is told of the windows: every input block as the region found it, nothing of the outputs. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨n+18, h⟩ => absurd h (by have : cfg0.W = 18 := rfl; omega)
  Φ _ := Pipeline.ΦA spec0 c
  q w := Pipeline.shareOf spec0 w
  owed _ := 0

/-- The arrays are the region's. -/
theorem A_eq (c : Dev nD) (w : Fin cfg0.W) : (dats m 0 c).A w = V m c (Pipeline.arrRef spec0 w) := rfl

/-- The outputs are the windows nothing is said of. -/
def outs : Fin 18 → Bool := fun w => w.val == 12 || w.val == 13 || w.val == 14 || w.val == 15 || w.val == 16 || w.val == 17

theorem before0 (c : Dev nD) (t : Fin cfg0.N) (d) : (dats m 0 c).before 0 t d = X0_0 m c t :=
  before0_0_of m (dats m 0 c) (A_eq m c 0) (fun _ => rfl) t d
theorem before1 (c : Dev nD) (t : Fin cfg0.N) (d) : (dats m 0 c).before 1 t d = X0_1 m c t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d
theorem before3 (c : Dev nD) (t : Fin cfg0.N) (d) : (dats m 0 c).before 3 t d = X0_3 m c t :=
  before0_3_of m (dats m 0 c) (A_eq m c 3) (fun _ => rfl) t d
theorem before4 (c : Dev nD) (t : Fin cfg0.N) (d) : (dats m 0 c).before 4 t d = X0_4 m c t :=
  before0_4_of m (dats m 0 c) (A_eq m c 4) (fun _ => rfl) t d
theorem before5 (c : Dev nD) (t : Fin cfg0.N) (d) : (dats m 0 c).before 5 t d = iblk m c 5 t :=
  before0_5_of m (dats m 0 c) (A_eq m c 5) (fun _ => rfl) t d
theorem before6 (c : Dev nD) (t : Fin cfg0.N) (d) : (dats m 0 c).before 6 t d = iblk m c 6 t :=
  before0_6_of m (dats m 0 c) (A_eq m c 6) (fun _ => rfl) t d
theorem before7 (c : Dev nD) (t : Fin cfg0.N) (d) : (dats m 0 c).before 7 t d = iblk m c 7 t :=
  before0_7_of m (dats m 0 c) (A_eq m c 7) (fun _ => rfl) t d
theorem before8 (c : Dev nD) (t : Fin cfg0.N) (d) : (dats m 0 c).before 8 t d = iblk m c 8 t :=
  before0_8_of m (dats m 0 c) (A_eq m c 8) (fun _ => rfl) t d
theorem before9 (c : Dev nD) (t : Fin cfg0.N) (d) : (dats m 0 c).before 9 t d = iblk m c 9 t :=
  before0_9_of m (dats m 0 c) (A_eq m c 9) (fun _ => rfl) t d
theorem before10 (c : Dev nD) (t : Fin cfg0.N) (d) : (dats m 0 c).before 10 t d = iblk m c 10 t :=
  before0_10_of m (dats m 0 c) (A_eq m c 10) (fun _ => rfl) t d
theorem before11 (c : Dev nD) (t : Fin cfg0.N) (d) : (dats m 0 c).before 11 t d = iblk m c 11 t :=
  before0_11_of m (dats m 0 c) (A_eq m c 11) (fun _ => rfl) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X))
/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X))

set_option maxHeartbeats 16000000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  unfold owns
  iintro ⟨⟨⟨⟨%d19, %f19, %e19, H19⟩, ⟨%d20, %f20, %e20, H20⟩, ⟨%d21, %f21, %e21, H21⟩, ⟨%d22, %f22, %e22, H22⟩⟩, Hr⟩, Ho, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩⟩
  by_cases h0 : t.val % 4 = 0
  · have h1 : ¬ t.val % 4 = 3 := by omega
    iapply (stepFirst c (grid0.coords t) _ _ _ _ _ _ _ _ _ _ _ _ _ _ _ _ _ _ _ _ _ _ _ _ _ _ _ _ _ _ _ _ _ _ _ _ scM0_0 (Memref.isWhole_whole _) scM0_1 (Memref.isWhole_whole _) scM0_2 (Memref.isWhole_whole _) scM0_3 (Memref.isWhole_whole _) ((hcond0_0 t).mpr h0) (fun h => h1 ((hcond0_1 t).mp h)) f1 f2 f3 f4 f5 f6 f7 f8 f9 f10 f11 f12 f13 f14 f15 f16 f17 f18 f19 f20 f21 f22 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iintro ⟨H1, H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩⟩
    isplitl [H19 H20 H21 H22 Hr]
    · isplitl [H19 H20 H21 H22]
      · isplitl [H19]
        · iexists _; iexists g19; isplitr; · ipureintro; rfl
          iexact H19
        isplitl [H20]
        · iexists _; iexists g20; isplitr; · ipureintro; rfl
          iexact H20
        isplitl [H21]
        · iexists _; iexists g21; isplitr; · ipureintro; rfl
          iexact H21
        iexists _; iexists g22; isplitr; · ipureintro; rfl
        iexact H22
      iexact Hr
    isplitl [Ho]; · iexact Ho
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists f10; isplitr; · ipureintro; exact e10
      iexact H10
    isplitl [H11]
    · iexists f11; isplitr; · ipureintro; exact e11
      iexact H11
    isplitl [H12]
    · iexists f12; isplitr; · ipureintro; exact e12
      iexact H12
    isplitl [H13]
    · iexists _; iexists g13; isplitr; · ipureintro; rfl
      iexact H13
    isplitl [H14]
    · iexists _; iexists g14; isplitr; · ipureintro; rfl
      iexact H14
    isplitl [H15]
    · iexists _; iexists g15; isplitr; · ipureintro; rfl
      iexact H15
    isplitl [H16]
    · iexists _; iexists g16; isplitr; · ipureintro; rfl
      iexact H16
    isplitl [H17]
    · iexists _; iexists g17; isplitr; · ipureintro; rfl
      iexact H17
    iexists _; iexists g18; isplitr; · ipureintro; rfl
    iexact H18
  · by_cases h1 : t.val % 4 = 3
    · skip
      iapply (stepLast c (grid0.coords t) _ _ _ _ _ _ _ _ _ _ _ _ _ _ _ _ _ _ _ _ _ _ _ _ _ _ _ _ _ _ _ _ _ _ _ _ scM0_0 (Memref.isWhole_whole _) scM0_1 (Memref.isWhole_whole _) scM0_2 (Memref.isWhole_whole _) scM0_3 (Memref.isWhole_whole _) (fun h => h0 ((hcond0_0 t).mp h)) ((hcond0_1 t).mpr h1) f1 f2 f3 f4 f5 f6 f7 f8 f9 f10 f11 f12 f13 f14 f15 f16 f17 f18 f19 f20 f21 f22 Set.univ _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iintro ⟨H1, H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩⟩
      isplitl [H19 H20 H21 H22 Hr]
      · isplitl [H19 H20 H21 H22]
        · isplitl [H19]
          · iexists _; iexists g19; isplitr; · ipureintro; rfl
            iexact H19
          isplitl [H20]
          · iexists _; iexists g20; isplitr; · ipureintro; rfl
            iexact H20
          isplitl [H21]
          · iexists _; iexists g21; isplitr; · ipureintro; rfl
            iexact H21
          iexists _; iexists g22; isplitr; · ipureintro; rfl
          iexact H22
        iexact Hr
      isplitl [Ho]; · iexact Ho
      isplitl [H1]
      · iexists f1; isplitr; · ipureintro; exact e1
        iexact H1
      isplitl [H2]
      · iexists f2; isplitr; · ipureintro; exact e2
        iexact H2
      isplitl [H3]
      · iexists f3; isplitr; · ipureintro; exact e3
        iexact H3
      isplitl [H4]
      · iexists f4; isplitr; · ipureintro; exact e4
        iexact H4
      isplitl [H5]
      · iexists f5; isplitr; · ipureintro; exact e5
        iexact H5
      isplitl [H6]
      · iexists f6; isplitr; · ipureintro; exact e6
        iexact H6
      isplitl [H7]
      · iexists f7; isplitr; · ipureintro; exact e7
        iexact H7
      isplitl [H8]
      · iexists f8; isplitr; · ipureintro; exact e8
        iexact H8
      isplitl [H9]
      · iexists f9; isplitr; · ipureintro; exact e9
        iexact H9
      isplitl [H10]
      · iexists f10; isplitr; · ipureintro; exact e10
        iexact H10
      isplitl [H11]
      · iexists f11; isplitr; · ipureintro; exact e11
        iexact H11
      isplitl [H12]
      · iexists f12; isplitr; · ipureintro; exact e12
        iexact H12
      isplitl [H13]
      · iexists _; iexists g13; isplitr; · ipureintro; rfl
        iexact H13
      isplitl [H14]
      · iexists _; iexists g14; isplitr; · ipureintro; rfl
        iexact H14
      isplitl [H15]
      · iexists _; iexists g15; isplitr; · ipureintro; rfl
        iexact H15
      isplitl [H16]
      · iexists _; iexists g16; isplitr; · ipureintro; rfl
        iexact H16
      isplitl [H17]
      · iexists _; iexists g17; isplitr; · ipureintro; rfl
        iexact H17
      iexists _; iexists g18; isplitr; · ipureintro; rfl
      iexact H18
    · skip
      iapply (stepMiddle c (grid0.coords t) _ _ _ _ _ _ _ _ _ _ _ _ _ _ _ _ _ _ _ _ _ _ _ _ _ _ _ _ _ _ _ _ _ _ _ _ scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) f1 f2 f3 f4 f5 f6 f7 f8 f9 f10 f11 f12 f13 f14 f15 f16 f17 f18 f19 f20 f21 f22 Set.univ _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iintro ⟨H1, H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩⟩
      isplitl [H19 H20 H21 H22 Hr]
      · isplitl [H19 H20 H21 H22]
        · isplitl [H19]
          · iexists _; iexists g19; isplitr; · ipureintro; rfl
            iexact H19
          isplitl [H20]
          · iexists _; iexists g20; isplitr; · ipureintro; rfl
            iexact H20
          isplitl [H21]
          · iexists _; iexists g21; isplitr; · ipureintro; rfl
            iexact H21
          iexists _; iexists g22; isplitr; · ipureintro; rfl
          iexact H22
        iexact Hr
      isplitl [Ho]; · iexact Ho
      isplitl [H1]
      · iexists f1; isplitr; · ipureintro; exact e1
        iexact H1
      isplitl [H2]
      · iexists f2; isplitr; · ipureintro; exact e2
        iexact H2
      isplitl [H3]
      · iexists f3; isplitr; · ipureintro; exact e3
        iexact H3
      isplitl [H4]
      · iexists f4; isplitr; · ipureintro; exact e4
        iexact H4
      isplitl [H5]
      · iexists f5; isplitr; · ipureintro; exact e5
        iexact H5
      isplitl [H6]
      · iexists f6; isplitr; · ipureintro; exact e6
        iexact H6
      isplitl [H7]
      · iexists f7; isplitr; · ipureintro; exact e7
        iexact H7
      isplitl [H8]
      · iexists f8; isplitr; · ipureintro; exact e8
        iexact H8
      isplitl [H9]
      · iexists f9; isplitr; · ipureintro; exact e9
        iexact H9
      isplitl [H10]
      · iexists f10; isplitr; · ipureintro; exact e10
        iexact H10
      isplitl [H11]
      · iexists f11; isplitr; · ipureintro; exact e11
        iexact H11
      isplitl [H12]
      · iexists f12; isplitr; · ipureintro; exact e12
        iexact H12
      isplitl [H13]
      · iexists _; iexists g13; isplitr; · ipureintro; rfl
        iexact H13
      isplitl [H14]
      · iexists _; iexists g14; isplitr; · ipureintro; rfl
        iexact H14
      isplitl [H15]
      · iexists _; iexists g15; isplitr; · ipureintro; rfl
        iexact H15
      isplitl [H16]
      · iexists _; iexists g16; isplitr; · ipureintro; rfl
        iexact H16
      isplitl [H17]
      · iexists _; iexists g17; isplitr; · ipureintro; rfl
        iexact H17
      iexists _; iexists g18; isplitr; · ipureintro; rfl
      iexact H18

/-- The body the pipeline calls is the kernel's, on the staging buffers. -/
theorem defs₀_row (t : Fin cfg0.N) :
    defs₀ (F := F) .tc cfg0.body (cfg0.bodyArgs t (cfg0.slots t)) = bodyAt0 t := by
  unfold defs₀; rw [Defs.onTc_tc]

/-- The pipeline's obligation on the body, nothing asked of the outputs. -/
theorem body_obligation (c : Dev nD) : BodyObligation (dats (F := F) m 0 c) (defs₀ (F := F)) Variants.none () Set.univ outs := fun t => by
  rw [bigSep_W0, bigSep_W0, defs₀_row]
  exact triple_restated (sound_body m c t) rfl .rfl fun _ => .rfl

/-- The buffers the host lines after the kernel write. -/
def later : Finset (Ref sig .tc) := {main_v66, main_v67, main_v68, main_v69, main_v70, main_v71, main_v72, main_v73, main_v74}
/-- Those lines write nothing else. -/
theorem later_writes : ∀ ops ∈ ([hostOps1] : List (List (HloOp τ sig (Elt F)))), ∀ op ∈ ops,
    ∀ b : Ref sig .tc, Proc.devRef .tc b ∈ op.writes → b ∈ later := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    intro b hb
    simp only [StableHlo.unary_writes, StableHlo.nary_writes, Finset.mem_singleton] at hb
    exact Proc.devRef_injective _ hb ▸ (by decide)

set_option backward.isDefEq.respectTransparency.types false in
/-- The whole program runs, its inputs unchanged and every counter at zero. -/
theorem run_main_quiescent : θ_run defs (onTc (τ := τ) (main (F := F))) (s₀ m ρ)
    (fun r => Pipeline.RDat.FramePostR (cfgs 0) (fun c => (dats m 0 c).toRForget outs) later (V m) r ∧ r.2.sem = fun _ => 0) :=
  Pipeline.θ_run_frame_around_T_forget_shared (Q' := _) cfgs (dats m) (0 : Fin 1) launch₀0 defs₀ Variants.none outs later m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := later_writes)
    (hmain := hmain m Variants.none) (hA := A_eq m) (hΦ := fun _ _ => rfl)

set_option maxHeartbeats 4000000 in
/-- The program runs, its argument arrays end as launched, and every counter is at zero again. -/
theorem frame : θ_run defs (onTc (τ := τ) (main (F := F))) ⟨m, fun _ => 0, ρ⟩ (fun r => (∀ c : Dev nD,

      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hq => ⟨fun c => (fun h => ⟨(h.arr_in c 2 rfl).trans (V_main_arg0 m c),
      (h.arr_in c 5 rfl).trans (V_main_arg1 m c),
      (h.arr_in c 6 rfl).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) hq.1, hq.2⟩) (run_main_quiescent m ρ)

end Cert.Proof.PoolFrame

end
-- ==== Proof.PoolFrameBits.lean ====
module

public import proofs.«01_k».proof.Proof.PoolFrame
public import proofs.«01_k».proof.Proof.Gen.Kernel7.Frame.Runs
public import Idealize.ShloMosaic.Lib.Tactic

/-! The program and its idealized reading are the same text, so the run already made is the program's as well. -/

@[expose] public section

set_option maxRecDepth 16384

noncomputable section

namespace Cert.Proof.PoolFrameBits

open Idealize.ShloMosaic Idealize.ShloMosaic.TcCoe Idealize.SL.Sem
open Cert.Kernel7

set_option maxHeartbeats 4000000 in
/-- The program runs, its argument arrays end as launched, and every counter is at zero again. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have h := Cert.Proof.PoolFrame.frame (F := F) m ρ
  refine cast ?_ h
  sl_kernel_rfl

end Cert.Proof.PoolFrameBits

end
-- ==== Proof.SwaFrame.lean ====
module

public import proofs.«01_k».proof.Proof.Gen.Kernel8Ideal.Frame
public import Idealize.ShloMosaic.Lib.Claim
public import Idealize.ShloMosaic.Lib.Tactic

/-! The windowed attention's backward kernel runs, and leaves its arguments as they were. Nothing is said here of what it
writes: its five outputs are taken back at whatever they hold. -/

@[expose] public section

set_option maxRecDepth 16384

noncomputable section

namespace Cert.Proof.SwaFrame

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the buffer behind a memref, as core `c` sees it. -/
abbrev Cont (c : Dev nD) {sp : Space} {S : Shape} {e : EltTy} (M : Memref sig .tc sp S e) : Type :=
  Buf (Elt F) (M.view.loc (c : Thread nD τ))
/-- The memref's part of its buffer, held at the contents `f`. -/
abbrev held (c : Dev nD) {sp : Space} {S : Shape} {e : EltTy} (M : Memref sig .tc sp S e) (f : Cont (F := F) c M) : sProp 𝕄 :=
  M.view.loc (c : Thread nD τ) ↦[M.view.set]{fullShare} f

section Step

variable (c : Dev nD) (i : grid0.Coords)
  (arg1 : Memref sig .tc .vmem S128x768 .f32) (harg1 : arg1.IsWhole)
  (arg2 : Memref sig .tc .vmem S128x768 .f32) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S1x64 .f32) (harg7 : arg7.IsWhole)
  (arg8 : Memref sig .tc .vmem S1x4x384x256 .bf16) (harg8 : arg8.IsWhole)
  (arg9 : Memref sig .tc .vmem S128x128 .f32) (harg9 : arg9.IsWhole)
  (arg10 : Memref sig .tc .vmem S128x768 .bf16) (harg10 : arg10.IsWhole)
  (arg11 : Memref sig .tc .vmem S4096x256 .f32) (harg11 : arg11.IsWhole)
  (arg12 : Memref sig .tc .vmem S4096x256 .f32) (harg12 : arg12.IsWhole)
  (arg13 : Memref sig .tc .vmem S1x64 .f32) (harg13 : arg13.IsWhole)
  (arg14 : Memref sig .tc .vmem S1x128 .f32) (harg14 : arg14.IsWhole)

/-- The first step: the accumulators are cleared before anything is added. -/
abbrev first : Prop := (Scalar.cmpi .ne (Scalar.extui (Scalar.cmpi .eq (BitVec.ofNat 32 (i 0).val) 0#32)) 0#32) = 1#1

/-- Where the previous block's rows start. -/
theorem offPrev : ∀ i : grid0.Coords, k0_off1 i = ![128 * ((i 0).val - 1), 0] := by decide +kernel

/-- After the first step the previous block's rows start 128 above this block's. -/
instance (priority := high) prevForm [Fact (0 < (i 0).val)] : ClosedOff (k0_off1 i) := ⟨![128 * ((i 0).val - 1), 0], offPrev i⟩
/-- After the first step this block's rows start 128 below the previous block's. -/
instance (priority := high) ownForm [h : Fact (0 < (i 0).val)] : ClosedOff (k0_off2 i) :=
  ⟨![128 * ((i 0).val - 1) + 128, 0], (k0_off2_eq i).trans (by
    have := h.out
    rw [show 128 * (i 0).val = 128 * ((i 0).val - 1) + 128 by omega])⟩
/-- At the first step both blocks are the array's first rows. -/
instance (priority := high) prevForm0 [h : Fact ((i 0).val = 0)] : ClosedOff (k0_off1 i) := ⟨![0, 0], (offPrev i).trans (by rw [h.out])⟩
/-- At the first step both blocks are the array's first rows. -/
instance (priority := high) ownForm0 [h : Fact ((i 0).val = 0)] : ClosedOff (k0_off2 i) := ⟨![0, 0], (k0_off2_eq i).trans (by rw [h.out])⟩

set_option maxHeartbeats 400000 in
/-- The first step runs, whatever the buffers hold, and gives the inputs back untouched. -/
theorem stepFirst (hc : first i) [Fact ((i 0).val = 0)]
    (f1 : Cont (F := F) c arg1) (f2 : Cont (F := F) c arg2) (f3 : Cont (F := F) c arg3) (f4 : Cont (F := F) c arg4) (f5 : Cont (F := F) c arg5) (f6 : Cont (F := F) c arg6) (f7 : Cont (F := F) c arg7) (f8 : Cont (F := F) c arg8) (f9 : Cont (F := F) c arg9) (f10 : Cont (F := F) c arg10) (f11 : Cont (F := F) c arg11) (f12 : Cont (F := F) c arg12) (f13 : Cont (F := F) c arg13) (f14 : Cont (F := F) c arg14) (E : Set ℕ) (K : PUnit → sProp 𝕄) :
    iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14
        ∗ (iprop(held c arg1 f1 ∗ held c arg2 f2 ∗ held c arg3 f3 ∗ held c arg4 f4 ∗ held c arg5 f5 ∗ held c arg6 f6 ∗ held c arg7 f7 ∗ held c arg8 f8 ∗ held c arg9 f9 ∗ (∃ f, held c arg10 f) ∗ (∃ f, held c arg11 f) ∗ (∃ f, held c arg12 f) ∗ (∃ f, held c arg13 f) ∗ (∃ f, held c arg14 f)) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H1, H2, H3, H4, H5, H6, H7, H8, H9, H10, H11, H12, H13, H14, Hk⟩
  sl_exec_parts (disch := first | sl_exact hc)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iexists _; iexact H14

set_option maxHeartbeats 400000 in
/-- A later step runs, whatever the buffers hold, and gives the inputs back untouched. -/
theorem stepLater (hc : ¬ first i) [Fact (0 < (i 0).val)]
    (f1 : Cont (F := F) c arg1) (f2 : Cont (F := F) c arg2) (f3 : Cont (F := F) c arg3) (f4 : Cont (F := F) c arg4) (f5 : Cont (F := F) c arg5) (f6 : Cont (F := F) c arg6) (f7 : Cont (F := F) c arg7) (f8 : Cont (F := F) c arg8) (f9 : Cont (F := F) c arg9) (f10 : Cont (F := F) c arg10) (f11 : Cont (F := F) c arg11) (f12 : Cont (F := F) c arg12) (f13 : Cont (F := F) c arg13) (f14 : Cont (F := F) c arg14) (E : Set ℕ) (K : PUnit → sProp 𝕄) :
    iprop(held c arg1 f1 ∗ held c arg2 f2 ∗ held c arg3 f3 ∗ held c arg4 f4 ∗ held c arg5 f5 ∗ held c arg6 f6 ∗ held c arg7 f7 ∗ held c arg8 f8 ∗ held c arg9 f9 ∗ held c arg10 f10 ∗ held c arg11 f11 ∗ held c arg12 f12 ∗ held c arg13 f13 ∗ held c arg14 f14
        ∗ (iprop(held c arg1 f1 ∗ held c arg2 f2 ∗ held c arg3 f3 ∗ held c arg4 f4 ∗ held c arg5 f5 ∗ held c arg6 f6 ∗ held c arg7 f7 ∗ held c arg8 f8 ∗ held c arg9 f9 ∗ (∃ f, held c arg10 f) ∗ (∃ f, held c arg11 f) ∗ (∃ f, held c arg12 f) ∗ (∃ f, held c arg13 f) ∗ (∃ f, held c arg14 f)) -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H1, H2, H3, H4, H5, H6, H7, H8, H9, H10, H11, H12, H13, H14, Hk⟩
  sl_exec_parts (disch := first | sl_exact hc)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iexists _; iexact H14

/-- The grid's first point is the step that clears. -/
theorem firstIff : ∀ i : grid0.Coords, first i ↔ (i 0).val = 0 := by decide +kernel

end Step

variable (m : (ℓ : Loc nD τ sig) → Buf (Elt F) ℓ) (ρ : Dev nD → PrngReg)

/-- What the run is told of the windows: every input block as the region found it, nothing of the outputs. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q w := Pipeline.shareOf spec0 w
  owed _ := 0

/-- The arrays are the region's. -/
theorem A_eq (c : Dev nD) (w : Fin cfg0.W) : (dats m 0 c).A w = V m c (Pipeline.arrRef spec0 w) := rfl

/-- The outputs are the windows nothing is said of. -/
def outs : Fin 14 → Bool := fun w => w.val == 9 || w.val == 10 || w.val == 11 || w.val == 12 || w.val == 13

theorem before0 (c : Dev nD) (t : Fin cfg0.N) (d) : (dats m 0 c).before 0 t d = X0_0 m c t :=
  before0_0_of m (dats m 0 c) (A_eq m c 0) (fun _ => rfl) t d
theorem before1 (c : Dev nD) (t : Fin cfg0.N) (d) : (dats m 0 c).before 1 t d = X0_1 m c t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d
theorem before3 (c : Dev nD) (t : Fin cfg0.N) (d) : (dats m 0 c).before 3 t d = iblk m c 3 t :=
  before0_3_of m (dats m 0 c) (A_eq m c 3) (fun _ => rfl) t d
theorem before4 (c : Dev nD) (t : Fin cfg0.N) (d) : (dats m 0 c).before 4 t d = iblk m c 4 t :=
  before0_4_of m (dats m 0 c) (A_eq m c 4) (fun _ => rfl) t d
theorem before5 (c : Dev nD) (t : Fin cfg0.N) (d) : (dats m 0 c).before 5 t d = iblk m c 5 t :=
  before0_5_of m (dats m 0 c) (A_eq m c 5) (fun _ => rfl) t d
theorem before6 (c : Dev nD) (t : Fin cfg0.N) (d) : (dats m 0 c).before 6 t d = iblk m c 6 t :=
  before0_6_of m (dats m 0 c) (A_eq m c 6) (fun _ => rfl) t d
theorem before7 (c : Dev nD) (t : Fin cfg0.N) (d) : (dats m 0 c).before 7 t d = iblk m c 7 t :=
  before0_7_of m (dats m 0 c) (A_eq m c 7) (fun _ => rfl) t d
theorem before8 (c : Dev nD) (t : Fin cfg0.N) (d) : (dats m 0 c).before 8 t d = iblk m c 8 t :=
  before0_8_of m (dats m 0 c) (A_eq m c 8) (fun _ => rfl) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))
/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X))

set_option maxHeartbeats 1600000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl]
  unfold owns
  iintro ⟨HΦ, Ho, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩⟩
  by_cases h0 : (grid0.coords t 0).val = 0
  · have hc : first (grid0.coords t) := (firstIff _).mpr h0
    haveI : Fact ((grid0.coords t 0).val = 0) := ⟨h0⟩
    iapply (stepFirst c (grid0.coords t) _ _ _ _ _ _ _ _ _ _ _ _ _ _ _ _ _ _ _ _ _ _ _ _ _ _ _ _ hc f1 f2 f3 f4 f5 f6 f7 f8 f9 f10 f11 f12 f13 f14 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, H7, H8, H9, ⟨%g10, H10⟩, ⟨%g11, H11⟩, ⟨%g12, H12⟩, ⟨%g13, H13⟩, ⟨%g14, H14⟩⟩
    isplitl [HΦ]; · iexact HΦ
    isplitl [Ho]; · iexact Ho
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14
  · have hc : ¬ first (grid0.coords t) := fun h => h0 ((firstIff _).mp h)
    haveI : Fact (0 < (grid0.coords t 0).val) := ⟨Nat.pos_of_ne_zero h0⟩
    iapply (stepLater c (grid0.coords t) _ _ _ _ _ _ _ _ _ _ _ _ _ _ _ _ _ _ _ _ _ _ _ _ _ _ _ _ hc f1 f2 f3 f4 f5 f6 f7 f8 f9 f10 f11 f12 f13 f14 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, H7, H8, H9, ⟨%g10, H10⟩, ⟨%g11, H11⟩, ⟨%g12, H12⟩, ⟨%g13, H13⟩, ⟨%g14, H14⟩⟩
    isplitl [HΦ]; · iexact HΦ
    isplitl [Ho]; · iexact Ho
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitl [H7]
    · iexists f7; isplitr; · ipureintro; exact e7
      iexact H7
    isplitl [H8]
    · iexists f8; isplitr; · ipureintro; exact e8
      iexact H8
    isplitl [H9]
    · iexists f9; isplitr; · ipureintro; exact e9
      iexact H9
    isplitl [H10]
    · iexists _; iexists g10; isplitr; · ipureintro; rfl
      iexact H10
    isplitl [H11]
    · iexists _; iexists g11; isplitr; · ipureintro; rfl
      iexact H11
    isplitl [H12]
    · iexists _; iexists g12; isplitr; · ipureintro; rfl
      iexact H12
    isplitl [H13]
    · iexists _; iexists g13; isplitr; · ipureintro; rfl
      iexact H13
    iexists _; iexists g14; isplitr; · ipureintro; rfl
    iexact H14

/-- The body the pipeline calls is the kernel's, on the staging buffers. -/
theorem defs₀_row (t : Fin cfg0.N) :
    defs₀ (F := F) .tc cfg0.body (cfg0.bodyArgs t (cfg0.slots t)) = bodyAt0 t := by
  unfold defs₀; rw [Defs.onTc_tc]

/-- The pipeline's obligation on the body, nothing asked of the outputs. -/
theorem body_obligation (c : Dev nD) : BodyObligation (dats (F := F) m 0 c) (defs₀ (F := F)) Variants.none () Set.univ outs := fun t => by
  rw [bigSep_W0, bigSep_W0, defs₀_row]
  exact triple_restated (sound_body m c t) rfl .rfl fun _ => .rfl

/-- The buffers the host lines after the kernel write. -/
def later : Finset (Ref sig .tc) := {main_v209, main_v210}
/-- Those lines write nothing else. -/
theorem later_writes : ∀ ops ∈ ([hostOps1] : List (List (HloOp τ sig (Elt F)))), ∀ op ∈ ops,
    ∀ b : Ref sig .tc, Proc.devRef .tc b ∈ op.writes → b ∈ later := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.unary_writes, StableHlo.nary_writes, Finset.mem_singleton] at hb
    exact Proc.devRef_injective _ hb ▸ (by decide)

set_option backward.isDefEq.respectTransparency.types false in
/-- The whole program runs, its inputs unchanged and every counter at zero. -/
theorem run_main_quiescent : θ_run defs (onTc (τ := τ) (main (F := F))) (s₀ m ρ)
    (fun r => Pipeline.RDat.FramePostR (cfgs 0) (fun c => (dats m 0 c).toRForget outs) later (V m) r ∧ r.2.sem = fun _ => 0) :=
  Pipeline.θ_run_frame_around_T_forget_shared (Q' := _) cfgs (dats m) (0 : Fin 1) launch₀0 defs₀ Variants.none outs later m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := later_writes)
    (hmain := hmain m Variants.none) (hA := A_eq m) (hΦ := fun _ _ => rfl)

/-- The program runs, its argument arrays end as launched, and every counter is at zero again. -/
theorem frame : θ_run defs (onTc (τ := τ) (main (F := F))) ⟨m, fun _ => 0, ρ⟩ (fun r => (∀ c : Dev nD,

      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hq => ⟨fun c => (fun h => ⟨(h.arr_in c 0 rfl).trans (V_main_arg0 m c),
      (h.arr_in c 1 rfl).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) hq.1, hq.2⟩) (run_main_quiescent m ρ)

end Cert.Proof.SwaFrame

end
-- ==== Proof.SwaFrameBits.lean ====
module

public import proofs.«01_k».proof.Proof.SwaFrame
public import proofs.«01_k».proof.Proof.Gen.Kernel8.Frame
public import Idealize.ShloMosaic.Lib.Tactic

/-! The program and its idealized reading are the same text, so the run already made is the program's as well. -/

@[expose] public section

set_option maxRecDepth 16384

noncomputable section

namespace Cert.Proof.SwaFrameBits

open Idealize.ShloMosaic Idealize.ShloMosaic.TcCoe Idealize.SL.Sem
open Cert.Kernel8

set_option maxHeartbeats 4000000 in
/-- The program runs, its argument arrays end as launched, and every counter is at zero again. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := Cert.Proof.SwaFrame.frame (F := F) m ρ
  refine cast ?_ h
  sl_kernel_rfl

end Cert.Proof.SwaFrameBits

end
-- ==== Proof.NormAct.lean ====
module

public import proofs.«01_k».proof.Defs
public import proofs.«01_k».proof.Proof.Common
public import proofs.«01_k».proof.Proof.Gen.Kernel9Ideal.Value
public import proofs.«01_k».proof.Proof.Gen.Reference9Ideal.Read

/-! The value of the MLP's norm, up product and squared rectifier: the normalised rows, and the rectified product written in four
column blocks at every point, equal to `relu(rmsnorm(h, g) @ w_up)²`. -/

@[expose] public section

set_option maxRecDepth 16384

noncomputable section

namespace Cert.Kernel9Ideal.Proof

open Cert.Kernel9Ideal Cert.Kernel9Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![0, 0] ∧ win0_2.index t = ![0, 1, 0]
    ∧ win0_3.index t = ![t.val, 0] ∧ win0_4.index t = ![t.val, 0] := by decide +kernel

/-- The gathered weights as the call finds them. -/
theorem w_arr (c : Dev nD) : V m c main_v6 = (truncf .bf16 (concatenate S4x2560x1024 1
    [⟨S4x1024x1024, shapeCast S4x1024x1024 (m ((c : Thread nD τ).loc main_arg2)) shapeCasts_S4096x1024_S4x1024x1024⟩,
     ⟨S4x1024x1024, transpose S4x1024x1024 [1, 0, 2] (shapeCast S1024x4x1024 (m ((c : Thread nD τ).loc main_arg3)) shapeCasts_S1024x4096_S1024x4x1024) transposes_S1024x4x1024_S4x1024x1024_1_0_2⟩,
     ⟨S4x256x1024, shapeCast S4x256x1024 (m ((c : Thread nD τ).loc main_arg4)) shapeCasts_S1024x1024_S4x256x1024⟩,
     ⟨S4x256x1024, shapeCast S4x256x1024 (m ((c : Thread nD τ).loc main_arg5)) shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16) := by
  unfold V
  after_results
  rfl

/-- The columns of `w_up` inside the gathered weights, chip by chip. -/
theorem packed_up (a : S4096x1024.Idx → EReal) (b : S1024x4096.Idx → EReal) (u d : S1024x1024.Idx → EReal) (k : Fin 4) (q x : Fin 1024) :
    (truncf .bf16 (concatenate S4x2560x1024 1
    [⟨S4x1024x1024, shapeCast S4x1024x1024 a shapeCasts_S4096x1024_S4x1024x1024⟩,
     ⟨S4x1024x1024, transpose S4x1024x1024 [1, 0, 2] (shapeCast S1024x4x1024 b shapeCasts_S1024x4096_S1024x4x1024) transposes_S1024x4x1024_S4x1024x1024_1_0_2⟩,
     ⟨S4x256x1024, shapeCast S4x256x1024 u shapeCasts_S1024x1024_S4x256x1024⟩,
     ⟨S4x256x1024, shapeCast S4x256x1024 d shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16)
     (ix3 k ⟨1024 + q.val, by omega⟩ x) = b (ix2 q ⟨k.val * 1024 + x.val, by omega⟩) := by
  pointwise []
  blk_ext

abbrev H (c : Dev nD) : S4096x1024.Idx → EReal := m ((c : Thread nD τ).loc main_arg0)
abbrev G (c : Dev nD) : S1024.Idx → EReal := m ((c : Thread nD τ).loc main_arg1)
abbrev W (c : Dev nD) : S1024x4096.Idx → EReal := m ((c : Thread nD τ).loc main_arg3)

/-- The weights' block read at a column of `w_up`. -/
theorem w_read (c : Dev nD) (t : Fin cfg0.N) (k : Fin 4) (q x : Fin 1024) :
    X0_2 m c t (ix3 k q x) = W m c (ix2 q ⟨k.val * 1024 + x.val, by omega⟩) := by
  have h : ∀ j : S4x2560x1024.Idx, j = ix3 k ⟨1024 + q.val, by omega⟩ x → V m c main_v6 j = W m c (ix2 q ⟨k.val * 1024 + x.val, by omega⟩) := by
    rintro _ rfl
    rw [w_arr]
    exact packed_up _ _ _ _ k q x
  unfold X0_2 Pipeline.Window.fill
  rw [dif_pos (moved0_2 t _)]
  refine h _ ?_
  blk_ext [idx t]

/-- The gain's block. -/
theorem g_read (c : Dev nD) (t : Fin cfg0.N) (k : Fin 1024) : iblk m c 1 t (ix2 0 k) = G m c (ix1 k) := by
  have h : ∀ j : S1x1024.Idx, j = ix2 0 k → V m c main_v7 j = G m c (ix1 k) := by
    rintro _ rfl
    entry_read
    pointwise []
  refine h _ ?_
  blk_ext [idx t]

/-- The rows of the residual stream a point is given. -/
theorem h_read (c : Dev nD) (t : Fin cfg0.N) (a x : Fin 1024) :
    iblk m c 0 t (ix2 a x) = H m c (ix2 ⟨t.val * 1024 + a.val, by have : t.val < 4 := t.isLt; omega⟩ x) := by
  blk_ext [iblk, V, idx t]

/-- One entry of the normalised rows, when the block's row is row `r` of the array. -/
theorem point_n (v0 : S1024x1024.Idx → EReal) (v1 : S1x1024.Idx → EReal) (h : S4096x1024.Idx → EReal) (g : S1024.Idx → EReal)
    (a b : Fin 1024) (r : Fin 4096) (h0 : ∀ x, v0 (ix2 a x) = h (ix2 r x)) (h1 : ∀ k, v1 (ix2 0 k) = g (ix1 k)) :
    k0_pay3 (F := Ideal) v0 v1 (ix2 a b) = Cert.Reference9Ideal.Read.val_main_v12 (F := Ideal) h g (ix2 r b) := by
  pointwise [k0_pay3, Cert.Reference9Ideal.Read.val_main_v0, Cert.Reference9Ideal.Read.val_main_cst, Cert.Reference9Ideal.Read.val_main_v1, Cert.Reference9Ideal.Read.val_main_v2, Cert.Reference9Ideal.Read.val_main_cst_0, Cert.Reference9Ideal.Read.val_main_v3, Cert.Reference9Ideal.Read.val_main_v4, Cert.Reference9Ideal.Read.val_main_cst_1, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_call0_cst, Cert.Reference9Ideal.Read.val_main_call0_v0, Cert.Reference9Ideal.Read.val_main_v14, Cert.Reference9Ideal.Read.val_main_v15]
  simp only [h0, h1]

/-- One entry of the activations, when the normalised row is the reference's and the weights' column is column `q`. -/
theorem point_y (v : S1024x1024.Idx → EReal) (w : S1x1024x1024.Idx → EReal) (h : S4096x1024.Idx → EReal) (g : S1024.Idx → EReal) (wu : S1024x4096.Idx → EReal)
    (a b : Fin 1024) (r q : Fin 4096) (h0 : ∀ x, v (ix2 a x) = Cert.Reference9Ideal.Read.val_main_v12 (F := Ideal) h g (ix2 r x))
    (h1 : ∀ x, w (ix3 0 x b) = wu (ix2 x q)) :
    k0_pay1 (F := Ideal) v w (ix2 a b) = Cert.Reference9Ideal.Read.val_main_v15 (F := Ideal) h g wu (ix2 r q) := by
  pointwise [k0_pay1, Cert.Reference9Ideal.Read.val_main_v13, Cert.Reference9Ideal.Read.val_main_call0_cst, Cert.Reference9Ideal.Read.val_main_call0_v0, Cert.Reference9Ideal.Read.val_main_v14, Cert.Reference9Ideal.Read.val_main_v15]
  simp only [h0, h1]

/-- The normalised rows, over the whole array. -/
theorem final_n (c : Dev nD) : (dats m 0 c).arrAt 4 cfg0.N = Cert.Reference9Ideal.Read.val_main_v17 (F := Ideal) (H m c) (G m c) := by
  refine (dats m 0 c).arrAt_eq_of_covers 4 _ (by decide +kernel) fun t hf y => ?_
  rw [Cert.Reference9Ideal.Read.val_main_v17_apply, Ideal.truncf_def]
  blk_simp
  rw [after0_4]
  unfold outsAt0
  frame_out
  have ht : t.val < 4 := t.isLt
  have hy : y = ix2 (y 0) (y 1) := by blk_ext
  have he : ((cfg0.win 4).blk t).view.emb y = ix2 ⟨t.val * 1024 + (y 0).val, by have : (y 0).val < 1024 := (y 0).isLt; omega⟩ (y 1) := by blk_ext [idx t]
  rw [he, hy]
  exact point_n _ _ _ _ _ _ _ (h_read m c t _) (g_read m c t)

/-- The activations, over the whole array. -/
theorem final_y (c : Dev nD) : (dats m 0 c).arrAt 3 cfg0.N = Cert.Reference9Ideal.Read.val_main_v16 (F := Ideal) (H m c) (G m c) (W m c) := by
  refine (dats m 0 c).arrAt_eq_of_covers 3 _ (by decide +kernel) fun t hf y => ?_
  rw [Cert.Reference9Ideal.Read.val_main_v16_apply, Ideal.truncf_def]
  blk_simp
  rw [after0_3]
  unfold outsAt0
  frame_out
  have ht : t.val < 4 := t.isLt
  canon_tiles x h
  case piece0 =>
    obtain ⟨a, b, rfl⟩ : ∃ (a b : Fin 1024), x = ix2 a b := ⟨x 0, x 1, by blk_ext⟩
    refine (point_y _ _ _ _ _ a b ⟨t.val * 1024 + a.val, by omega⟩ ⟨3 * 1024 + b.val, by omega⟩ (fun x => point_n _ _ _ _ _ _ _ (h_read m c t _) (g_read m c t)) (fun x => ?_)).trans (congrArg _ ?_)
    · refine (View.ld_unit_apply_of _ _ _ _ _ (ix3 3 x b) ?_).trans (w_read m c t 3 x b); intro ax; fin_cases ax <;> simp
    · blk_ext [idx t, h0, h1]
  case piece1 =>
    obtain ⟨a, b, rfl⟩ : ∃ (a b : Fin 1024), x = ix2 a b := ⟨x 0, x 1, by blk_ext⟩
    refine (point_y _ _ _ _ _ a b ⟨t.val * 1024 + a.val, by omega⟩ ⟨2 * 1024 + b.val, by omega⟩ (fun x => point_n _ _ _ _ _ _ _ (h_read m c t _) (g_read m c t)) (fun x => ?_)).trans (congrArg _ ?_)
    · refine (View.ld_unit_apply_of _ _ _ _ _ (ix3 2 x b) ?_).trans (w_read m c t 2 x b); intro ax; fin_cases ax <;> simp
    · blk_ext [idx t, h0, h1]
  case piece2 =>
    obtain ⟨a, b, rfl⟩ : ∃ (a b : Fin 1024), x = ix2 a b := ⟨x 0, x 1, by blk_ext⟩
    refine (point_y _ _ _ _ _ a b ⟨t.val * 1024 + a.val, by omega⟩ ⟨1 * 1024 + b.val, by omega⟩ (fun x => point_n _ _ _ _ _ _ _ (h_read m c t _) (g_read m c t)) (fun x => ?_)).trans (congrArg _ ?_)
    · refine (View.ld_unit_apply_of _ _ _ _ _ (ix3 1 x b) ?_).trans (w_read m c t 1 x b); intro ax; fin_cases ax <;> simp
    · blk_ext [idx t, h0, h1]
  case piece3 =>
    obtain ⟨a, b, rfl⟩ : ∃ (a b : Fin 1024), x = ix2 a b := ⟨x 0, x 1, by blk_ext⟩
    refine (point_y _ _ _ _ _ a b ⟨t.val * 1024 + a.val, by omega⟩ ⟨0 * 1024 + b.val, by omega⟩ (fun x => point_n _ _ _ _ _ _ _ (h_read m c t _) (g_read m c t)) (fun x => ?_)).trans (congrArg _ ?_)
    · refine (View.ld_unit_apply_of _ _ _ _ _ (ix3 0 x b) ?_).trans (w_read m c t 0 x b); intro ax; fin_cases ax <;> simp
    · blk_ext [idx t, h0, h1]

end Cert.Kernel9Ideal.Proof

namespace Cert.Proof

open Idealize.ShloMosaic Idealize.ShloMosaic.TcCoe Idealize.SL.Sem

/-- The idealized norm, up product and squared rectifier computes what the reference does. -/
theorem normact_value : Cert.algebraic_Kernel9Ideal_Reference9Ideal := by
  pair_intro
  · run_from Cert.Kernel9Ideal.Value.run_blocks m g
  · run_from Cert.Reference9Ideal.Value.run m' g'
    · rw [Cert.Reference9Ideal.Read.val_main_v16_eq]
      exact (Cert.Kernel9Ideal.Proof.final_y m c).symm
    · rw [Cert.Reference9Ideal.Read.val_main_v17_eq]
      exact (Cert.Kernel9Ideal.Proof.final_n m c).symm

end Cert.Proof

end
-- ==== Proof.KvPrep.lean ====
module

public import proofs.«01_k».proof.Defs
public import proofs.«01_k».proof.Proof.Common
public import proofs.«01_k».proof.Proof.Gen.Kernel10Ideal.Value
public import proofs.«01_k».proof.Proof.Gen.Reference10Ideal.Read

/-! The value of the shared keys and values: every head of the key columns normalised and scaled by the gain, and the value columns,
both rounded as they are stored. -/

@[expose] public section

set_option maxRecDepth 16384

noncomputable section

namespace Cert.Kernel10Ideal.Proof

open Cert.Kernel10Ideal Cert.Kernel10Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![0, 0] ∧ win0_2.index t = ![t.val, 0]
    ∧ win0_3.index t = ![t.val, 0] := by decide +kernel

abbrev Kv (c : Dev nD) : S4096x512.Idx → EReal := m ((c : Thread nD τ).loc main_arg0)
abbrev G (c : Dev nD) : S64.Idx → EReal := m ((c : Thread nD τ).loc main_arg1)

/-- One normalised head: the row's 64 features over the root of their mean square, times the gain. -/
abbrev headNorm (x g : Fin 64 → EReal) (i : Fin 64) : EReal :=
  x i * Ideal.rsqrt (Ideal.div (∑ k : Fin 64, x k * x k) (Ideal.ofBits .f32 0x42800000#32) + Ideal.ofBits .f32 0x358637BD#32) * g i

/-- The keys the body stores, of the blocks it reads. -/
abbrev keys (v0 : S1024x512.Idx → EReal) (v1 : S1x64.Idx → EReal) : S1024x256.Idx → EReal :=
  k0_pay1 (F := Ideal) (k0_pay3 v1) (k0_pay4 v0 v1) (k0_pay5 v0 v1) (k0_pay6 v0 v1) (k0_pay7 v0) (k0_pay8 v0)

/-- A key column the body stores, at head `n` and feature `i`. -/
theorem point_k (v0 : S1024x512.Idx → EReal) (v1 : S1x64.Idx → EReal) (a : Fin 1024) (n : Fin 4) (i : Fin 64) :
    keys v0 v1 (ix2 a ⟨n.val * 64 + i.val, by omega⟩)
      = headNorm (fun k => v0 (ix2 a ⟨n.val * 64 + k.val, by omega⟩)) (fun k => v1 (ix2 0 k)) i := by
  match n with
  | ⟨0, _⟩ => exact Eq.trans (b := k0_pay4 (F := Ideal) v0 v1 (ix2 a i)) (by pointwise [keys, k0_pay1]) (by pointwise [k0_pay3, k0_pay4])
  | ⟨1, _⟩ => exact Eq.trans (b := k0_pay5 (F := Ideal) v0 v1 (ix2 a i)) (by pointwise [keys, k0_pay1]) (by pointwise [k0_pay3, k0_pay5])
  | ⟨2, _⟩ =>
    refine Eq.trans (b := k0_pay6 (F := Ideal) v0 v1 (ix2 a i)) ?_ (by pointwise [k0_pay3, k0_pay6])
    pointwise [keys, k0_pay1]
    rw [dif_neg (by omega), dif_neg (by omega), dif_pos (by omega)]
    have e : 128 + i.val - 64 - 64 = i.val := by omega
    simp only [e]
  | ⟨3, _⟩ =>
    pointwise [keys, k0_pay1]
    rw [dif_neg (by omega), dif_neg (by omega), dif_neg (by omega)]
    have e : 192 + i.val - 64 - 64 - 64 = i.val := by omega
    simp only [e]
    pointwise [k0_pay3, k0_pay7, k0_pay8]

/-- A value column the body stores. -/
theorem point_v (v0 : S1024x512.Idx → EReal) (a : Fin 1024) (x : Fin 256) :
    k0_pay2 (F := Ideal) v0 (ix2 a x) = v0 (ix2 a ⟨256 + x.val, by omega⟩) := by
  pointwise [k0_pay2]

/-- The reference's key column, at head `n` and feature `i`. -/
theorem ref_k (kv : S4096x512.Idx → EReal) (g : S64.Idx → EReal) (r : Fin 4096) (n : Fin 4) (i : Fin 64) :
    Cert.Reference10Ideal.Read.val_main_v15 (F := Ideal) kv g (ix2 r ⟨n.val * 64 + i.val, by omega⟩)
      = headNorm (fun k => kv (ix2 r ⟨n.val * 64 + k.val, by omega⟩)) (fun k => g (ix1 k)) i := by
  pointwise [headNorm, Cert.Reference10Ideal.Read.val_main_v0, Cert.Reference10Ideal.Read.val_main_v1, Cert.Reference10Ideal.Read.val_main_v2, Cert.Reference10Ideal.Read.val_main_cst, Cert.Reference10Ideal.Read.val_main_v3, Cert.Reference10Ideal.Read.val_main_v4, Cert.Reference10Ideal.Read.val_main_cst_0, Cert.Reference10Ideal.Read.val_main_v5, Cert.Reference10Ideal.Read.val_main_v6, Cert.Reference10Ideal.Read.val_main_cst_1, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_v13, Cert.Reference10Ideal.Read.val_main_v14, Cert.Reference10Ideal.Read.val_main_v15]

/-- The gain as the call finds it. -/
theorem g_read (c : Dev nD) (t : Fin cfg0.N) (k : Fin 64) : iblk m c 1 t (ix2 0 k) = G m c (ix1 k) := by
  have h : ∀ j : S1x64.Idx, j = ix2 0 k → V m c main_v0 j = G m c (ix1 k) := by
    rintro _ rfl
    entry_read
    pointwise []
  refine h _ ?_
  blk_ext [idx t]

/-- The keys, over the whole array. -/
theorem final_k (c : Dev nD) : (dats m 0 c).arrAt 2 cfg0.N = Cert.Reference10Ideal.Read.val_main_v16 (F := Ideal) (Kv m c) (G m c) := by
  refine (dats m 0 c).arrAt_eq_of_covers 2 _ (by decide +kernel) fun t hf y => ?_
  rw [Cert.Reference10Ideal.Read.val_main_v16_apply, Ideal.truncf_def]
  blk_simp
  rw [after0_2]
  frame_out
  have ht : t.val < 4 := t.isLt
  obtain ⟨a, n, i, rfl⟩ : ∃ (a : Fin 1024) (n : Fin 4) (i : Fin 64), y = ix2 a ⟨n.val * 64 + i.val, by omega⟩ :=
    ⟨y 0, ⟨(y 1).val / 64, by have : (y 1).val < 256 := (y 1).isLt; omega⟩, ⟨(y 1).val % 64, Nat.mod_lt _ (by norm_num)⟩, by blk_ext⟩
  have he : ((cfg0.win 2).blk t).view.emb (ix2 a ⟨n.val * 64 + i.val, by omega⟩) = ix2 ⟨t.val * 1024 + a.val, by omega⟩ ⟨n.val * 64 + i.val, by omega⟩ := by blk_ext [idx t]
  rw [he]
  refine (point_k _ _ a n i).trans ((ref_k _ _ _ n i).trans ?_).symm
  refine congrArg₂ (fun p q => headNorm p q i) (funext fun k => ?_) (funext fun k => (g_read m c t k).symm)
  blk_ext [iblk, V, idx t]

/-- The values, over the whole array. -/
theorem final_v (c : Dev nD) : (dats m 0 c).arrAt 3 cfg0.N = Cert.Reference10Ideal.Read.val_main_v18 (F := Ideal) (Kv m c) := by
  refine (dats m 0 c).arrAt_eq_of_covers 3 _ (by decide +kernel) fun t hf y => ?_
  rw [Cert.Reference10Ideal.Read.val_main_v18_apply, Ideal.truncf_def]
  blk_simp
  rw [after0_3]
  frame_out
  have ht : t.val < 4 := t.isLt
  obtain ⟨a, x, rfl⟩ : ∃ (a : Fin 1024) (x : Fin 256), y = ix2 a x := ⟨y 0, y 1, by blk_ext⟩
  have he : ((cfg0.win 3).blk t).view.emb (ix2 a x) = ix2 ⟨t.val * 1024 + a.val, by omega⟩ x := by blk_ext [idx t]
  rw [he]
  refine (point_v _ a x).trans ?_
  pointwise [Cert.Reference10Ideal.Read.val_main_v17]
  blk_ext [iblk, V, idx t]

end Cert.Kernel10Ideal.Proof

namespace Cert.Proof

open Idealize.ShloMosaic Idealize.ShloMosaic.TcCoe Idealize.SL.Sem

/-- The idealized keys and values are the reference's. -/
theorem kvprep_value : Cert.algebraic_Kernel10Ideal_Reference10Ideal := by
  pair_intro
  · run_from Cert.Kernel10Ideal.Value.run_blocks m g
  · run_from Cert.Reference10Ideal.Value.run m' g'
    · rw [Cert.Reference10Ideal.Read.val_main_v16_eq]
      exact (Cert.Kernel10Ideal.Proof.final_k m c).symm
    · rw [Cert.Reference10Ideal.Read.val_main_v18_eq]
      exact (Cert.Kernel10Ideal.Proof.final_v m c).symm

end Cert.Proof

end
-- ==== Proof.MemFwd.lean ====
module

public import proofs.«01_k».proof.Defs
public import proofs.«01_k».proof.Proof.Common
public import proofs.«01_k».proof.Proof.Attn
public import proofs.«01_k».proof.Proof.Mem
public import proofs.«01_k».proof.Proof.Gen.Kernel11Ideal.Value
public import proofs.«01_k».proof.Proof.Gen.Reference11Ideal.Read
public import proofs.«01_k».proof.Proof.Gen.Pre_gains_finite11
public import Idealize.ShloMosaic.Lib.Pipeline.ReadBack

/-! The value of the memory attention. -/

@[expose] public section

set_option maxRecDepth 16384

noncomputable section

namespace Cert.Kernel11Ideal.Proof

open Cert.Kernel11Ideal Cert.Kernel11Ideal.Gen Idealize.ShloMosaic Idealize.ShloMosaic.TcCoe Idealize.SL.Sem
open Idealize.ShloMosaic.Pipeline (Dat)
open Cert.Common

/-- The softmax as the call computes it, of real scores: the exponential times the sum's reciprocal. -/
theorem softmax_fwd {n : ℕ} (s : Fin (n + 1) → EReal) (hs : ∀ k, ∃ x : ℝ, s k = x) (i : Fin (n + 1)) :
    Ideal.exp (s i - Finset.univ.fold max (⊥ : EReal) s) * Ideal.div (((1 : ℝ) : EReal)) (∑ k, Ideal.exp (s k - Finset.univ.fold max (⊥ : EReal) s))
      = Ideal.div (Ideal.exp (s i - max ⊥ (Finset.univ.fold max (⊥ : EReal) s))) (∑ k, Ideal.exp (s k - max ⊥ (Finset.univ.fold max (⊥ : EReal) s))) := by
  obtain ⟨M, hM⟩ := max_real s hs
  choose z hz using hs
  have he : ∀ k, ∃ w : ℝ, 0 < w ∧ Ideal.exp (s k - (M : EReal)) = w := fun k => by rw [hz k]; exact exp_real (z k) M
  choose e he0 he using he
  have hS : (0 : ℝ) < ∑ k, e k := Finset.sum_pos (fun y _ => he0 y) ⟨0, Finset.mem_univ _⟩
  rw [hM, max_eq_right bot_le]
  simp only [he, coe_sum']
  rw [Ideal.div_coe hS.ne', Ideal.div_coe hS.ne']
  simp only [← EReal.coe_mul, one_mul, one_div]

/-- A point's score: the scaled normalised query against a key. -/
abbrev sb (a : S1024x256.Idx → EReal) (q : S1x64.Idx → EReal) (MK : S256x256.Idx → EReal) (r : Fin 1024) (n : Fin 4) (x : Fin 256) : EReal :=
  ∑ i : Fin 64, (a (ix2 r ⟨n.val * 64 + i.val, by omega⟩) * Ideal.rsqrt (Ideal.div (∑ k : Fin 64, a (ix2 r ⟨n.val * 64 + k.val, by omega⟩) * a (ix2 r ⟨n.val * 64 + k.val, by omega⟩))
            (Ideal.ofBits .f32 0x42800000#32) + Ideal.ofBits .f32 0x358637BD#32) * q (ix2 0 i) * Ideal.ofBits .f32 0x3E000000#32)
    * MK (ix2 x ⟨n.val * 64 + i.val, by omega⟩)

/-- A point's probability. -/
abbrev pb (a : S1024x256.Idx → EReal) (q : S1x64.Idx → EReal) (MK : S256x256.Idx → EReal) (r : Fin 1024) (n : Fin 4) (x : Fin 256) : EReal :=
  Ideal.exp (sb a q MK r n x - Finset.univ.fold max (Ideal.ofBits .f32 0xFF800000#32) (fun y : Fin 256 => sb a q MK r n y))
    * Ideal.div (Ideal.ofBits .f32 0x3F800000#32) (∑ z : Fin 256, Ideal.exp (sb a q MK r n z - Finset.univ.fold max (Ideal.ofBits .f32 0xFF800000#32) (fun y : Fin 256 => sb a q MK r n y)))

/-- What the body stores of the probabilities. -/
abbrev pOf (a : S1024x256.Idx → EReal) (q : S1x64.Idx → EReal) (MK : S256x256.Idx → EReal) : S1024x1024.Idx → EReal :=
  k0_pay2 (F := Ideal) (k0_pay13 a MK q) (k0_pay16 a MK (k0_pay12 q)) (k0_pay20 MK (k0_pay18 a (k0_pay12 q)) (k0_pay19 (F := Ideal))) (k0_pay22 a MK (k0_pay12 q))

/-- What the body stores of the attention. -/
abbrev oOf (a : S1024x256.Idx → EReal) (q : S1x64.Idx → EReal) (MK MV : S256x256.Idx → EReal) : S1024x256.Idx → EReal :=
  k0_pay3 (F := Ideal) MV (k0_pay15 (k0_pay13 a MK q) (k0_pay14 MV) (constant S1024x64 .f32 0x00000000#32)) (k0_pay17 a MK MV (k0_pay12 q))
    (k0_pay21 MK MV (k0_pay18 a (k0_pay12 q)) (k0_pay19 (F := Ideal))) (k0_pay22 a MK (k0_pay12 q))

set_option maxHeartbeats 1000000 in
/-- The probabilities at an entry. -/
theorem point_p (a : S1024x256.Idx → EReal) (q : S1x64.Idx → EReal) (MK : S256x256.Idx → EReal) (r : Fin 1024) (n : Fin 4) (x : Fin 256) :
    pOf a q MK (ix2 r ⟨n.val * 256 + x.val, by omega⟩) = pb a q MK r n x := by
  match n with
  | ⟨0, _⟩ => pointwise [pOf, pb, sb, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  | ⟨1, _⟩ => pointwise [pOf, pb, sb, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  | ⟨2, _⟩ => pointwise [pOf, pb, sb, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
              rw [dif_neg (by omega), dif_neg (by omega), dif_pos (by omega)]
              have e : 512 + x.val - 256 - 256 = x.val := by omega
              simp only [e]
  | ⟨3, _⟩ => pointwise [pOf, pb, sb, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
              rw [dif_neg (by omega), dif_neg (by omega), dif_neg (by omega)]
              have e : 768 + x.val - 256 - 256 - 256 = x.val := by omega
              simp only [e]

set_option maxHeartbeats 1000000 in
/-- The attention at an entry. -/
theorem point_o (a : S1024x256.Idx → EReal) (q : S1x64.Idx → EReal) (MK MV : S256x256.Idx → EReal) (r : Fin 1024) (n : Fin 4) (i : Fin 64) :
    oOf a q MK MV (ix2 r ⟨n.val * 64 + i.val, by omega⟩) = ∑ x : Fin 256, pb a q MK r n x * MV (ix2 x ⟨n.val * 64 + i.val, by omega⟩) := by
  match n with
  | ⟨0, _⟩ => pointwise [oOf, pb, sb, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  | ⟨1, _⟩ => pointwise [oOf, pb, sb, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
  | ⟨2, _⟩ => pointwise [oOf, pb, sb, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
              rw [dif_neg (by omega), dif_neg (by omega), dif_pos (by omega)]
              have e : 128 + i.val - 64 - 64 = i.val := by omega
              simp only [e]
  | ⟨3, _⟩ => pointwise [oOf, pb, sb, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]
              rw [dif_neg (by omega), dif_neg (by omega), dif_neg (by omega)]
              have e : 192 + i.val - 64 - 64 - 64 = i.val := by omega
              simp only [e]

/-- A memory key's normalised entry. -/
abbrev xkb (kv : S256x512.Idx → EReal) (x : Fin 256) (n : Fin 4) (i : Fin 64) : EReal :=
  kv (ix2 x ⟨n.val * 64 + i.val, by omega⟩) * Ideal.rsqrt (Ideal.div (∑ k : Fin 64, kv (ix2 x ⟨n.val * 64 + k.val, by omega⟩) * kv (ix2 x ⟨n.val * 64 + k.val, by omega⟩))
            (Ideal.ofBits .f32 0x42800000#32) + Ideal.ofBits .f32 0x358637BD#32)

/-- The memory keys a point keeps. -/
abbrev mkOf (kv : S256x512.Idx → EReal) (gk : S1x64.Idx → EReal) : S256x256.Idx → EReal :=
  k0_pay10 (F := Ideal) (k0_pay4 gk) (k0_pay5 kv gk) (k0_pay6 kv gk) (k0_pay7 kv gk) (k0_pay8 kv) (k0_pay9 kv)

/-- The memory keys at an entry. -/
theorem point_mk (kv : S256x512.Idx → EReal) (gk : S1x64.Idx → EReal) (x : Fin 256) (n : Fin 4) (i : Fin 64) :
    mkOf kv gk (ix2 x ⟨n.val * 64 + i.val, by omega⟩) = xkb kv x n i * gk (ix2 0 i) := by
  match n with
  | ⟨0, _⟩ => exact Eq.trans (b := k0_pay5 (F := Ideal) kv gk (ix2 x i)) (by pointwise [mkOf, k0_pay10]) (by pointwise [k0_pay4, k0_pay5, xkb])
  | ⟨1, _⟩ => exact Eq.trans (b := k0_pay6 (F := Ideal) kv gk (ix2 x i)) (by pointwise [mkOf, k0_pay10]) (by pointwise [k0_pay4, k0_pay6, xkb])
  | ⟨2, _⟩ =>
    refine Eq.trans (b := k0_pay7 (F := Ideal) kv gk (ix2 x i)) ?_ (by pointwise [k0_pay4, k0_pay7, xkb])
    pointwise [mkOf, k0_pay10]
    rw [dif_neg (by omega), dif_neg (by omega), dif_pos (by omega)]
    have e : 128 + i.val - 64 - 64 = i.val := by omega
    simp only [e]
  | ⟨3, _⟩ =>
    pointwise [mkOf, k0_pay10]
    rw [dif_neg (by omega), dif_neg (by omega), dif_neg (by omega)]
    have e : 192 + i.val - 64 - 64 - 64 = i.val := by omega
    simp only [e]
    pointwise [k0_pay4, k0_pay8, k0_pay9, xkb]

/-- The memory values at an entry. -/
theorem point_mv (kv : S256x512.Idx → EReal) (x y : Fin 256) : k0_pay11 (F := Ideal) kv (ix2 x y) = kv (ix2 x ⟨256 + y.val, by omega⟩) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22]

section reference
variable (proj : S4096x1024.Idx → EReal) (mkv : S256x512.Idx → EReal) (gq gk : S64.Idx → EReal)

/-- A normalised query entry of the reference. -/
abbrev xq (r : Fin 4096) (n : Fin 4) (i : Fin 64) : EReal :=
  proj (ix2 r ⟨768 + (n.val * 64 + i.val), by omega⟩) * Ideal.rsqrt (Ideal.div (∑ k : Fin 64, proj (ix2 r ⟨768 + (n.val * 64 + k.val), by omega⟩) * proj (ix2 r ⟨768 + (n.val * 64 + k.val), by omega⟩))
            (Ideal.ofBits .f32 0x42800000#32) + Ideal.ofBits .f32 0x358637BD#32)

/-- The reference's score. -/
theorem ref_s (n : Fin 4) (r : Fin 4096) (x : Fin 256) :
    Cert.Reference11Ideal.Read.val_main_v34 (F := Ideal) proj mkv gq gk (ix3 n r x)
      = (∑ k : Fin 64, (xq proj r n k * gq (ix1 k)) * (xkb mkv x n k * gk (ix1 k))) * Ideal.ofBits .f32 0x3E000000#32 := by
  pointwise [Cert.Reference11Ideal.Read.val_main_v0, Cert.Reference11Ideal.Read.val_main_v1, Cert.Reference11Ideal.Read.val_main_v2, Cert.Reference11Ideal.Read.val_main_v3, Cert.Reference11Ideal.Read.val_main_cst, Cert.Reference11Ideal.Read.val_main_v4, Cert.Reference11Ideal.Read.val_main_v5, Cert.Reference11Ideal.Read.val_main_cst_0, Cert.Reference11Ideal.Read.val_main_v6, Cert.Reference11Ideal.Read.val_main_v7, Cert.Reference11Ideal.Read.val_main_cst_1, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14, Cert.Reference11Ideal.Read.val_main_v15, Cert.Reference11Ideal.Read.val_main_v16, Cert.Reference11Ideal.Read.val_main_v17, Cert.Reference11Ideal.Read.val_main_v18, Cert.Reference11Ideal.Read.val_main_v19, Cert.Reference11Ideal.Read.val_main_cst_2, Cert.Reference11Ideal.Read.val_main_v20, Cert.Reference11Ideal.Read.val_main_v21, Cert.Reference11Ideal.Read.val_main_cst_3, Cert.Reference11Ideal.Read.val_main_v22, Cert.Reference11Ideal.Read.val_main_v23, Cert.Reference11Ideal.Read.val_main_cst_4, Cert.Reference11Ideal.Read.val_main_v24, Cert.Reference11Ideal.Read.val_main_v25, Cert.Reference11Ideal.Read.val_main_v26, Cert.Reference11Ideal.Read.val_main_v27, Cert.Reference11Ideal.Read.val_main_v28, Cert.Reference11Ideal.Read.val_main_v29, Cert.Reference11Ideal.Read.val_main_v30, Cert.Reference11Ideal.Read.val_main_v31, Cert.Reference11Ideal.Read.val_main_v32, Cert.Reference11Ideal.Read.val_main_cst_5, Cert.Reference11Ideal.Read.val_main_v33, Cert.Reference11Ideal.Read.val_main_v34, xq, xkb]

/-- The scores are real numbers when the gains are. -/
theorem s_real (hq : ∀ i, ∃ x : ℝ, gq i = x) (hk : ∀ i, ∃ x : ℝ, gk i = x) (n : Fin 4) (r : Fin 4096) (x : Fin 256) :
    ∃ z : ℝ, Cert.Reference11Ideal.Read.val_main_v34 (F := Ideal) proj mkv gq gk (ix3 n r x) = z := by
  obtain ⟨ε, hε, he⟩ := eps_f32
  obtain ⟨z, hz⟩ := dot_real (fun k : Fin 64 => xq proj r n k * gq (ix1 k)) (fun k : Fin 64 => xkb mkv x n k * gk (ix1 k))
    (fun k => by
      obtain ⟨a, ha⟩ := norm_real (fun k : Fin 64 => proj (ix2 r ⟨768 + (n.val * 64 + k.val), by omega⟩)) (N := 64) (by norm_num) hε k
      obtain ⟨b, hb⟩ := hq (ix1 k)
      refine ⟨a * b, ?_⟩
      show xq proj r n k * gq (ix1 k) = _
      rw [xq, n64_f32, he, ha, hb, EReal.coe_mul])
    (fun k => by
      obtain ⟨a, ha⟩ := norm_real (fun k : Fin 64 => mkv (ix2 x ⟨n.val * 64 + k.val, by omega⟩)) (N := 64) (by norm_num) hε k
      obtain ⟨b, hb⟩ := hk (ix1 k)
      refine ⟨a * b, ?_⟩
      show xkb mkv x n k * gk (ix1 k) = _
      rw [xkb, n64_f32, he, ha, hb, EReal.coe_mul])
  exact ⟨z * (1 / 8), by rw [ref_s, hz, eighth_f32, EReal.coe_mul]⟩

/-- The reference's exponential. -/
theorem ref_e (n : Fin 4) (r : Fin 4096) (x : Fin 256) :
    Cert.Reference11Ideal.Read.val_main_v41 (F := Ideal) proj mkv gq gk (ix3 n r x)
      = Ideal.exp (Cert.Reference11Ideal.Read.val_main_v34 (F := Ideal) proj mkv gq gk (ix3 n r x) - max (Ideal.ofBits .f32 0xFF800000#32)
          (Finset.univ.fold max (Ideal.ofBits .f32 0xFF800000#32) fun k => Cert.Reference11Ideal.Read.val_main_v34 (F := Ideal) proj mkv gq gk (ix3 n r k))) := by
  rw [Cert.Reference11Ideal.Read.val_main_v41_apply, Cert.Reference11Ideal.Read.val_main_v40_apply, Cert.Reference11Ideal.Read.val_main_v39_apply, Cert.Reference11Ideal.Read.val_main_v38_apply, Cert.Reference11Ideal.Read.val_main_v37_apply]
  unfold Cert.Reference11Ideal.Read.val_main_v35
  rw [hostMax_last, Cert.Reference11Ideal.Read.val_main_v36_apply]
  rfl

/-- The reference's probability. -/
theorem ref_p (n : Fin 4) (r : Fin 4096) (x : Fin 256) :
    Cert.Reference11Ideal.Read.val_main_v45 (F := Ideal) proj mkv gq gk (ix3 n r x)
      = Ideal.div (Cert.Reference11Ideal.Read.val_main_v41 (F := Ideal) proj mkv gq gk (ix3 n r x)) (∑ y : Fin 256, Cert.Reference11Ideal.Read.val_main_v41 (F := Ideal) proj mkv gq gk (ix3 n r y)) := by
  pointwise [Cert.Reference11Ideal.Read.val_main_cst_8, Cert.Reference11Ideal.Read.val_main_v42, Cert.Reference11Ideal.Read.val_main_v43, Cert.Reference11Ideal.Read.val_main_v44, Cert.Reference11Ideal.Read.val_main_v45]

/-- The second copy of the probabilities is the first. -/
theorem ref_again : Cert.Reference11Ideal.Read.val_main_v97 (F := Ideal) proj mkv gq gk = Cert.Reference11Ideal.Read.val_main_v45 (F := Ideal) proj mkv gq gk := rfl

/-- The result of the probabilities. -/
theorem ref_probs (n : Fin 4) (r : Fin 4096) (x : Fin 256) :
    Cert.Reference11Ideal.Read.val_main_v100 (F := Ideal) proj mkv gq gk (ix2 r ⟨n.val * 256 + x.val, by omega⟩) = Cert.Reference11Ideal.Read.val_main_v45 (F := Ideal) proj mkv gq gk (ix3 n r x) := by
  rw [← ref_again]
  pointwise [Cert.Reference11Ideal.Read.val_main_v98, Cert.Reference11Ideal.Read.val_main_v99, Cert.Reference11Ideal.Read.val_main_v100]

/-- The new columns of the attention. -/
theorem ref_new (cat : S4096x1024.Idx → EReal) (n : Fin 4) (r : Fin 4096) (i : Fin 64) :
    Cert.Reference11Ideal.Read.val_main_v51 (F := Ideal) proj mkv gq gk cat (ix2 r ⟨768 + (n.val * 64 + i.val), by omega⟩)
      = ∑ x : Fin 256, Cert.Reference11Ideal.Read.val_main_v45 (F := Ideal) proj mkv gq gk (ix3 n r x) * mkv (ix2 x ⟨256 + (n.val * 64 + i.val), by omega⟩) := by
  pointwise [Cert.Reference11Ideal.Read.val_main_v16, Cert.Reference11Ideal.Read.val_main_v17, Cert.Reference11Ideal.Read.val_main_v46, Cert.Reference11Ideal.Read.val_main_v47, Cert.Reference11Ideal.Read.val_main_v48, Cert.Reference11Ideal.Read.val_main_v49, Cert.Reference11Ideal.Read.val_main_v50, Cert.Reference11Ideal.Read.val_main_v51]
  try simp only [mul_comm]

/-- The columns kept. -/
theorem ref_keep (cat : S4096x1024.Idx → EReal) (r : Fin 4096) (x : Fin 1024) (hx : x.val < 768) :
    Cert.Reference11Ideal.Read.val_main_v51 (F := Ideal) proj mkv gq gk cat (ix2 r x) = cat (ix2 r x) := by
  pointwise [Cert.Reference11Ideal.Read.val_main_v49, Cert.Reference11Ideal.Read.val_main_v50, Cert.Reference11Ideal.Read.val_main_v51]
  rw [dif_pos hx]

end reference

variable (m : (ℓ : Loc nD τ sig) → Buf (Elt Ideal) ℓ)

/-- The projection. -/
abbrev Proj (c : Dev nD) : S4096x1024.Idx → EReal := m ((c : Thread nD τ).loc main_arg0)
/-- The memory's keys and values. -/
abbrev Mkv (c : Dev nD) : S256x512.Idx → EReal := m ((c : Thread nD τ).loc main_arg1)
/-- The queries' gain. -/
abbrev Gq (c : Dev nD) : S64.Idx → EReal := m ((c : Thread nD τ).loc main_arg2)
/-- The keys' gain. -/
abbrev Gk (c : Dev nD) : S64.Idx → EReal := m ((c : Thread nD τ).loc main_arg3)
/-- The mixers' results so far. -/
abbrev Cat (c : Dev nD) : S4096x1024.Idx → EReal := m ((c : Thread nD τ).loc main_arg4)

/-- The windows' block indices. -/
theorem idx : ∀ t : Fin cfg0.N, win0_0.index t 0 = t.val ∧ win0_0.index t 1 = 3 ∧ (∀ i, win0_1.index t i = 0) ∧ (∀ i, win0_2.index t i = 0)
    ∧ (∀ i, win0_3.index t i = 0) ∧ win0_4.index t 0 = t.val ∧ win0_4.index t 1 = 3 ∧ win0_5.index t 0 = t.val ∧ win0_5.index t 1 = 0 :=
  (by decide +kernel : ∀ t : Fin grid0.N, win0_0.index t 0 = t.val ∧ win0_0.index t 1 = 3 ∧ (∀ i, win0_1.index t i = 0) ∧ (∀ i, win0_2.index t i = 0)
    ∧ (∀ i, win0_3.index t i = 0) ∧ win0_4.index t 0 = t.val ∧ win0_4.index t 1 = 3 ∧ win0_5.index t 0 = t.val ∧ win0_5.index t 1 = 0)

theorem a_read (c : Dev nD) (t : Fin cfg0.N) (r : Fin 1024) (x : Fin 256) :
    iblk m c 0 t (ix2 r x) = Proj m c (ix2 ⟨t.val * 1024 + r.val, by have : t.val < 4 := t.isLt; omega⟩ ⟨768 + x.val, by omega⟩) := by
  blk_ext [iblk, V, idx t]

theorem kv_read (c : Dev nD) (t : Fin cfg0.N) : iblk m c 1 t = Mkv m c := by
  funext j
  blk_ext [iblk, V, idx t]

theorem q_read (c : Dev nD) (t : Fin cfg0.N) (i : Fin 64) : iblk m c 2 t (ix2 0 i) = Gq m c (ix1 i) := by
  have h : ∀ j : S1x64.Idx, j = ix2 0 i → V m c main_v0 j = Gq m c (ix1 i) := by
    rintro _ rfl
    entry_read
    pointwise []
  refine h _ ?_
  blk_ext [idx t]

theorem k_read (c : Dev nD) (t : Fin cfg0.N) (i : Fin 64) : iblk m c 3 t (ix2 0 i) = Gk m c (ix1 i) := by
  have h : ∀ j : S1x64.Idx, j = ix2 0 i → V m c main_v1 j = Gk m c (ix1 i) := by
    rintro _ rfl
    entry_read
    pointwise []
  refine h _ ?_
  blk_ext [idx t]

/-- The memory keys, normalised. -/
abbrev MKA (c : Dev nD) := mkOf (Mkv m c) (iblk m c 3 t0_3)
/-- The memory values. -/
abbrev MVA (c : Dev nD) := k0_pay11 (F := Ideal) (Mkv m c)

theorem gk_block (c : Dev nD) (t : Fin cfg0.N) : iblk m c 3 t = iblk m c 3 t0_3 := by
  funext j
  obtain ⟨i, rfl⟩ : ∃ i : Fin 64, j = ix2 0 i := ⟨j 1, by blk_ext⟩
  rw [k_read, k_read]

/-- The keys kept in the scratch. -/
theorem mk_A (c : Dev nD) (t : Fin cfg0.N) (h : t.val % 4 = 0) : (outsAt0 m c t.val t.isLt).2.2.1 = MKA m c := by
  rw [outsAt0_A m c t h, MKA, ← kv_read m c t, ← gk_block m c t]
  funext y
  frame_out
/-- The values kept in the scratch. -/
theorem mv_A (c : Dev nD) (t : Fin cfg0.N) (h : t.val % 4 = 0) : (outsAt0 m c t.val t.isLt).2.2.2 = MVA m c := by
  rw [outsAt0_A m c t h, MVA, ← kv_read m c t]
  funext y
  frame_out

/-- The scratches hold them at every point. -/
theorem mk_at (c : Dev nD) : ∀ (n : ℕ) (h : n < cfg0.N), (outsAt0 m c n h).2.2.1 = MKA m c ∧ (outsAt0 m c n h).2.2.2 = MVA m c
  | 0, h => ⟨mk_A m c ⟨0, h⟩ rfl, mv_A m c ⟨0, h⟩ rfl⟩
  | n + 1, h => by
    have hn : n + 1 < 4 := h
    have h0 : ¬(n + 1) % 4 = 0 := by omega
    have ih := mk_at c n (Nat.lt_of_succ_lt h)
    have e := outsAt0_B m c ⟨n + 1, h⟩ h0
    refine ⟨Eq.trans ?_ ih.1, Eq.trans ?_ ih.2⟩
    · show (outsAt0 m c (⟨n + 1, h⟩ : Fin cfg0.N).val (⟨n + 1, h⟩ : Fin cfg0.N).isLt).2.2.1 = _
      rw [e]; rfl
    · show (outsAt0 m c (⟨n + 1, h⟩ : Fin cfg0.N).val (⟨n + 1, h⟩ : Fin cfg0.N).isLt).2.2.2 = _
      rw [e]; rfl

/-- What a point stores of the attention. -/
theorem o_at (c : Dev nD) (t : Fin cfg0.N) :
    (outsAt0 m c t.val t.isLt).1 = oOf (iblk m c 0 t) (iblk m c 2 t) (MKA m c) (MVA m c) := by
  have e := mk_at m c (t.val - 1) (Nat.lt_of_le_of_lt (Nat.sub_le _ _) t.isLt)
  by_cases h : t.val % 4 = 0
  · rw [outsAt0_A m c t h, MKA, MVA, ← kv_read m c t, ← gk_block m c t]
    funext y
    frame_out
  · rw [outsAt0_B m c t h]
    funext y
    frame_out
    rw [read_unread_whole, read_unread_whole, e.1, e.2]

/-- What a point stores of the probabilities. -/
theorem p_at (c : Dev nD) (t : Fin cfg0.N) :
    (outsAt0 m c t.val t.isLt).2.1 = pOf (iblk m c 0 t) (iblk m c 2 t) (MKA m c) := by
  have e := mk_at m c (t.val - 1) (Nat.lt_of_le_of_lt (Nat.sub_le _ _) t.isLt)
  by_cases h : t.val % 4 = 0
  · rw [outsAt0_A m c t h, MKA, ← kv_read m c t, ← gk_block m c t]
    funext y
    frame_out
  · rw [outsAt0_B m c t h]
    funext y
    frame_out
    rw [read_unread_whole, e.1]

/-- The memory values, at an entry. -/
theorem mv_entry (c : Dev nD) (x : Fin 256) (n : Fin 4) (k : Fin 64) :
    MVA m c (ix2 x ⟨n.val * 64 + k.val, by omega⟩) = Mkv m c (ix2 x ⟨256 + (n.val * 64 + k.val), by omega⟩) := point_mv _ x ⟨n.val * 64 + k.val, by omega⟩

/-- The memory keys, at an entry. -/
theorem mk_entry (c : Dev nD) (x : Fin 256) (n : Fin 4) (k : Fin 64) :
    MKA m c (ix2 x ⟨n.val * 64 + k.val, by omega⟩) = xkb (Mkv m c) x n k * Gk m c (ix1 k) := by
  rw [MKA, point_mk, k_read]

/-- The scores of a point are the reference's. -/
theorem s_eq (c : Dev nD) (t : Fin cfg0.N) (r : Fin 1024) (n : Fin 4) (x : Fin 256) :
    sb (iblk m c 0 t) (iblk m c 2 t) (MKA m c) r n x
      = Cert.Reference11Ideal.Read.val_main_v34 (F := Ideal) (Proj m c) (Mkv m c) (Gq m c) (Gk m c) (ix3 n ⟨t.val * 1024 + r.val, by have : t.val < 4 := t.isLt; omega⟩ x) := by
  rw [ref_s, mul_comm, eighth_f32, const_mul_sum _ _ (by norm_num)]
  refine Finset.sum_congr rfl fun k _ => ?_
  rw [mk_entry, q_read, eighth_f32]
  simp only [a_read]
  unfold xq
  ac_rfl

section values
variable (c : Dev nD) (hq : ∀ i, ∃ x : ℝ, Gq m c i = x) (hk : ∀ i, ∃ x : ℝ, Gk m c i = x)
include hq hk

/-- The probabilities of a point are the reference's. -/
theorem p_eq (t : Fin cfg0.N) (r : Fin 1024) (n : Fin 4) (x : Fin 256) :
    pb (iblk m c 0 t) (iblk m c 2 t) (MKA m c) r n x
      = Cert.Reference11Ideal.Read.val_main_v45 (F := Ideal) (Proj m c) (Mkv m c) (Gq m c) (Gk m c) (ix3 n ⟨t.val * 1024 + r.val, by have : t.val < 4 := t.isLt; omega⟩ x) := by
  have hs := s_real (Proj m c) (Mkv m c) (Gq m c) (Gk m c) hq hk n ⟨t.val * 1024 + r.val, by have : t.val < 4 := t.isLt; omega⟩
  rw [ref_p]
  simp only [ref_e, pb, s_eq, ninf_f32, one_f32]
  exact softmax_fwd (n := 255) (fun y => Cert.Reference11Ideal.Read.val_main_v34 (F := Ideal) (Proj m c) (Mkv m c) (Gq m c) (Gk m c) (ix3 n ⟨t.val * 1024 + r.val, by have : t.val < 4 := t.isLt; omega⟩ y)) hs x

omit hq hk in
/-- What the aliased result holds before the call. -/
theorem cat_entry (j : S4096x1024.Idx) : V m c main_v2_0 j = Cat m c j := by
  entry_read
  rfl

omit hq hk in
/-- The columns the call leaves alone. -/
theorem keep_entry (i : S4096x1024.Idx) (h : ¬(i 1).val / 256 = 3) : V m c main_v2_0 i
    = Cert.Reference11Ideal.Read.val_main_v51 (F := Ideal) (Proj m c) (Mkv m c) (Gq m c) (Gk m c) (Cat m c) i := by
  obtain ⟨r, x, rfl⟩ : ∃ (r : Fin 4096) (x : Fin 1024), i = ix2 r x := ⟨i 0, i 1, by blk_ext⟩
  have h' : ¬x.val / 256 = 3 := h
  rw [ref_keep _ _ _ _ _ r x (by omega), cat_entry]

/-- The attention, over the whole array. -/
theorem final_o : (dats m 0 c).arrAt 4 cfg0.N
    = Cert.Reference11Ideal.Read.val_main_v51 (F := Ideal) (Proj m c) (Mkv m c) (Gq m c) (Gk m c) (Cat m c) := by
  refine ((dats m 0 c).arrAt_eq_of_coversWhere 4 (Cert.Reference11Ideal.Read.val_main_v51 (F := Ideal) (Proj m c) (Mkv m c) (Gq m c) (Gk m c) (Cat m c))
    (P := fun i : S4096x1024.Idx => (i 1).val / 256 = 3) (fun β => β (1 : Fin 2) = 3) (by decide +kernel) (fun t hf y => ?_) (fun j => Iff.rfl)).trans (funext fun i => ?_)
  · blk_simp
    rw [after0_4, o_at]
    obtain ⟨r, n, i, rfl⟩ : ∃ (r : Fin 1024) (n : Fin 4) (i : Fin 64), y = ix2 r ⟨n.val * 64 + i.val, by omega⟩ :=
      ⟨y 0, ⟨(y 1).val / 64, by have : (y 1).val < 256 := (y 1).isLt; omega⟩, ⟨(y 1).val % 64, Nat.mod_lt _ (by norm_num)⟩, by blk_ext⟩
    have ht : t.val < 4 := t.isLt
    have he : ((cfg0.win 4).blk t).view.emb (ix2 r ⟨n.val * 64 + i.val, by omega⟩) = ix2 ⟨t.val * 1024 + r.val, by omega⟩ ⟨768 + (n.val * 64 + i.val), by omega⟩ := by blk_ext [idx t]
    rw [he]
    refine (point_o _ _ _ _ r n i).trans (Eq.trans ?_ (ref_new _ _ _ _ _ n _ i).symm)
    refine Finset.sum_congr rfl fun x _ => ?_
    rw [p_eq m c hq hk, mv_entry]
  · split
    · rfl
    · rename_i h
      exact keep_entry m c i h

/-- The probabilities, over the whole array. -/
theorem final_p : (dats m 0 c).arrAt 5 cfg0.N = Cert.Reference11Ideal.Read.val_main_v100 (F := Ideal) (Proj m c) (Mkv m c) (Gq m c) (Gk m c) := by
  refine (dats m 0 c).arrAt_eq_of_covers 5 _ (by decide +kernel) fun t hf y => ?_
  blk_simp
  rw [after0_5, p_at]
  obtain ⟨r, n, x, rfl⟩ : ∃ (r : Fin 1024) (n : Fin 4) (x : Fin 256), y = ix2 r ⟨n.val * 256 + x.val, by omega⟩ :=
    ⟨y 0, ⟨(y 1).val / 256, by have : (y 1).val < 1024 := (y 1).isLt; omega⟩, ⟨(y 1).val % 256, Nat.mod_lt _ (by norm_num)⟩, by blk_ext⟩
  have ht : t.val < 4 := t.isLt
  have he : ((cfg0.win 5).blk t).view.emb (ix2 r ⟨n.val * 256 + x.val, by omega⟩) = ix2 ⟨t.val * 1024 + r.val, by omega⟩ ⟨n.val * 256 + x.val, by omega⟩ := by blk_ext [idx t]
  rw [he]
  exact (point_p _ _ _ r n x).trans ((p_eq m c hq hk t r n x).trans (ref_probs _ _ _ _ n _ x).symm)

end values

/-- Where the precondition holds the gains are real numbers. -/
theorem gains_real (h : Cert.Pre_Kernel11Ideal_gains_finite11 m) (c : Dev nD) :
    (∀ i, ∃ x : ℝ, Gq m c i = x) ∧ (∀ i, ∃ x : ℝ, Gk m c i = x) := by
  have hc : ∀ j, Cert.Pre_gains_finite11.fn (F := Ideal) (Proj m c) (Mkv m c) (Gq m c) (Gk m c) (Cat m c) j = 1#1 := fun j => congrFun (h c) j
  have hb : ∀ i : Fin 64, (max (Gq m c (ix1 i)) (-Gq m c (ix1 i)) < ⊤) ∧ (max (Gk m c (ix1 i)) (-Gk m c (ix1 i)) < ⊤) := by
    intro i
    have hi := hc (ix1 i)
    unfold Cert.Pre_gains_finite11.fn at hi
    revert hi
    pointwise []
    rw [Cert.Kernel6Ideal.Proof.pinf_f32]
    exact fun hi => ⟨(Cert.Kernel6Ideal.Proof.both hi).1, (Cert.Kernel6Ideal.Proof.both hi).2⟩
  refine ⟨fun i => ?_, fun i => ?_⟩
  · obtain ⟨k, rfl⟩ : ∃ k : Fin 64, i = ix1 k := ⟨i 0, by blk_ext⟩
    exact Cert.Kernel6Ideal.Proof.fin_real (hb k).1
  · obtain ⟨k, rfl⟩ : ∃ k : Fin 64, i = ix1 k := ⟨i 0, by blk_ext⟩
    exact Cert.Kernel6Ideal.Proof.fin_real (hb k).2

end Cert.Kernel11Ideal.Proof

namespace Cert.Proof

open Idealize.ShloMosaic Idealize.ShloMosaic.TcCoe Idealize.SL.Sem

/-- A function of four arguments at equal ones. -/
theorem congr4 {A B C D R : Type*} (f : A → B → C → D → R) {a a' : A} {b b' : B} {c c' : C} {d d' : D}
    (ha : a = a') (hb : b = b') (hc : c = c') (hd : d = d') : f a b c d = f a' b' c' d' := by
  subst ha hb hc hd; rfl

set_option maxHeartbeats 2000000 in
/-- The idealized memory attention computes what the reference does, for finite gains. -/
theorem memfwd_value : Cert.algebraic_Kernel11Ideal_Reference11Ideal_pre_gains_finite11 := by
  pair_intro
  · run_from Cert.Kernel11Ideal.Value.run_blocks m g
  · have hr := Cert.Kernel11Ideal.Proof.gains_real m hpre
    run_from Cert.Reference11Ideal.Value.run m' g'
    · refine (Cert.Reference11Ideal.Read.val_main_v51_eq (F := Ideal) m' c).trans ?_
      exact (congr5 (Cert.Reference11Ideal.Read.val_main_v51 (F := Ideal)) (hagree c).1 (hagree c).2.1 (hagree c).2.2.1 (hagree c).2.2.2.1 (hagree c).2.2.2.2).trans (Cert.Kernel11Ideal.Proof.final_o m c (hr c).1 (hr c).2).symm
    · refine (Cert.Reference11Ideal.Read.val_main_v100_eq (F := Ideal) m' c).trans ?_
      exact (congr4 (Cert.Reference11Ideal.Read.val_main_v100 (F := Ideal)) (hagree c).1 (hagree c).2.1 (hagree c).2.2.1 (hagree c).2.2.2.1).trans (Cert.Kernel11Ideal.Proof.final_p m c (hr c).1 (hr c).2).symm

end Cert.Proof

end
-- ==== Proof.NormIn.lean ====
module

public import proofs.«01_k».proof.Defs
public import proofs.«01_k».proof.Proof.Common
public import proofs.«01_k».proof.Proof.Gen.Kernel12Ideal.Value
public import proofs.«01_k».proof.Proof.Gen.Reference12Ideal.Read

/-! The value of the mixer's norm and input product: the normalised rows and their product with the input weights, gathered from four
chips, equal to `rmsnorm(h, g) @ w_in`. -/

@[expose] public section

set_option maxRecDepth 16384

noncomputable section

namespace Cert.Kernel12Ideal.Proof

open Cert.Kernel12Ideal Cert.Kernel12Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![0, 0] ∧ win0_2.index t = ![0, 8, 0]
    ∧ win0_3.index t = ![t.val, 0] ∧ win0_4.index t = ![t.val, 0] := by decide +kernel

/-- The gathered weights as the call finds them. -/
theorem w_arr (c : Dev nD) : V m c main_v6 = (truncf .bf16 (concatenate S4x2560x1024 1
    [⟨S4x1024x1024, shapeCast S4x1024x1024 (m ((c : Thread nD τ).loc main_arg2)) shapeCasts_S4096x1024_S4x1024x1024⟩,
     ⟨S4x1024x1024, transpose S4x1024x1024 [1, 0, 2] (shapeCast S1024x4x1024 (m ((c : Thread nD τ).loc main_arg3)) shapeCasts_S1024x4096_S1024x4x1024) transposes_S1024x4x1024_S4x1024x1024_1_0_2⟩,
     ⟨S4x256x1024, shapeCast S4x256x1024 (m ((c : Thread nD τ).loc main_arg4)) shapeCasts_S1024x1024_S4x256x1024⟩,
     ⟨S4x256x1024, shapeCast S4x256x1024 (m ((c : Thread nD τ).loc main_arg5)) shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16) := by
  unfold V
  after_results
  rfl

/-- The rows of the input weights inside the gathered weights. -/
theorem packed_in (a : S4096x1024.Idx → EReal) (b : S1024x4096.Idx → EReal) (u d : S1024x1024.Idx → EReal) (k : Fin 4) (q : Fin 256) (x : Fin 1024) :
    (truncf .bf16 (concatenate S4x2560x1024 1
    [⟨S4x1024x1024, shapeCast S4x1024x1024 a shapeCasts_S4096x1024_S4x1024x1024⟩,
     ⟨S4x1024x1024, transpose S4x1024x1024 [1, 0, 2] (shapeCast S1024x4x1024 b shapeCasts_S1024x4096_S1024x4x1024) transposes_S1024x4x1024_S4x1024x1024_1_0_2⟩,
     ⟨S4x256x1024, shapeCast S4x256x1024 u shapeCasts_S1024x1024_S4x256x1024⟩,
     ⟨S4x256x1024, shapeCast S4x256x1024 d shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16)
     (ix3 k ⟨2048 + q.val, by omega⟩ x) = u (ix2 ⟨k.val * 256 + q.val, by omega⟩ x) := by
  pointwise []
  rw [dif_neg (by omega), dif_neg (by omega), dif_pos (by omega)]
  blk_ext

abbrev H (c : Dev nD) : S4096x1024.Idx → EReal := m ((c : Thread nD τ).loc main_arg0)
abbrev G (c : Dev nD) : S1024.Idx → EReal := m ((c : Thread nD τ).loc main_arg1)
abbrev W (c : Dev nD) : S1024x1024.Idx → EReal := m ((c : Thread nD τ).loc main_arg4)

/-- The weights' block read at a row of `w_in`. -/
theorem w_read (c : Dev nD) (t : Fin cfg0.N) (k x : Fin 1024) :
    iblk m c 2 t (ix3 ⟨k.val / 256, by omega⟩ ⟨k.val % 256, by omega⟩ x) = W m c (ix2 k x) := by
  have h : ∀ j : S4x2560x1024.Idx, j = ix3 ⟨k.val / 256, by omega⟩ ⟨2048 + k.val % 256, by omega⟩ x → V m c main_v6 j = W m c (ix2 k x) := by
    rintro _ rfl
    rw [w_arr]
    refine (packed_in _ _ _ _ ⟨k.val / 256, by omega⟩ ⟨k.val % 256, by omega⟩ x).trans ?_
    blk_ext
  refine h _ ?_
  blk_ext [idx t]

/-- The gain's block. -/
theorem g_read (c : Dev nD) (t : Fin cfg0.N) (k : Fin 1024) : iblk m c 1 t (ix2 0 k) = G m c (ix1 k) := by
  have h : ∀ j : S1x1024.Idx, j = ix2 0 k → V m c main_v7 j = G m c (ix1 k) := by
    rintro _ rfl
    entry_read
    pointwise []
  refine h _ ?_
  blk_ext [idx t]

/-- The rows of the residual stream a point is given. -/
theorem h_read (c : Dev nD) (t : Fin cfg0.N) (a x : Fin 1024) :
    iblk m c 0 t (ix2 a x) = H m c (ix2 ⟨t.val * 1024 + a.val, by have : t.val < 4 := t.isLt; omega⟩ x) := by
  blk_ext [iblk, V, idx t]

/-- One entry of the normalised rows, when the block's row is row `r` of the array. -/
theorem point_n (v0 : S1024x1024.Idx → EReal) (v1 : S1x1024.Idx → EReal) (h : S4096x1024.Idx → EReal) (g : S1024.Idx → EReal)
    (a b : Fin 1024) (r : Fin 4096) (h0 : ∀ x, v0 (ix2 a x) = h (ix2 r x)) (h1 : ∀ k, v1 (ix2 0 k) = g (ix1 k)) :
    k0_pay1 (F := Ideal) v0 v1 (ix2 a b) = Cert.Reference12Ideal.Read.val_main_v12 (F := Ideal) h g (ix2 r b) := by
  pointwise [k0_pay1, Cert.Reference12Ideal.Read.val_main_v0, Cert.Reference12Ideal.Read.val_main_cst, Cert.Reference12Ideal.Read.val_main_v1, Cert.Reference12Ideal.Read.val_main_v2, Cert.Reference12Ideal.Read.val_main_cst_0, Cert.Reference12Ideal.Read.val_main_v3, Cert.Reference12Ideal.Read.val_main_v4, Cert.Reference12Ideal.Read.val_main_cst_1, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13]
  simp only [h0, h1]

/-- One entry of the product, when the block's row is row `r` of the array. -/
theorem point_y (v0 : S1024x1024.Idx → EReal) (v1 : S1x1024.Idx → EReal) (w : S4x256x1024.Idx → EReal) (h : S4096x1024.Idx → EReal) (g : S1024.Idx → EReal) (wi : S1024x1024.Idx → EReal)
    (a b : Fin 1024) (r : Fin 4096) (h0 : ∀ x, v0 (ix2 a x) = h (ix2 r x)) (h1 : ∀ k, v1 (ix2 0 k) = g (ix1 k))
    (h2 : ∀ k x : Fin 1024, w (ix3 ⟨k.val / 256, by omega⟩ ⟨k.val % 256, by omega⟩ x) = wi (ix2 k x)) :
    k0_pay2 (F := Ideal) v0 v1 w (ix2 a b) = Cert.Reference12Ideal.Read.val_main_v13 (F := Ideal) h g wi (ix2 r b) := by
  pointwise [k0_pay1, k0_pay2, Cert.Reference12Ideal.Read.val_main_v0, Cert.Reference12Ideal.Read.val_main_cst, Cert.Reference12Ideal.Read.val_main_v1, Cert.Reference12Ideal.Read.val_main_v2, Cert.Reference12Ideal.Read.val_main_cst_0, Cert.Reference12Ideal.Read.val_main_v3, Cert.Reference12Ideal.Read.val_main_v4, Cert.Reference12Ideal.Read.val_main_cst_1, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13]
  simp only [h0, h1, h2]

/-- The normalised rows, over the whole array. -/
theorem final_n (c : Dev nD) : (dats m 0 c).arrAt 4 cfg0.N = Cert.Reference12Ideal.Read.val_main_v14 (F := Ideal) (H m c) (G m c) := by
  refine (dats m 0 c).arrAt_eq_of_covers 4 _ (by decide +kernel) fun t hf y => ?_
  rw [Cert.Reference12Ideal.Read.val_main_v14_apply, Ideal.truncf_def]
  blk_simp
  rw [after0_4]
  frame_out
  have ht : t.val < 4 := t.isLt
  have hy : y = ix2 (y 0) (y 1) := by blk_ext
  have he : ((cfg0.win 4).blk t).view.emb y = ix2 ⟨t.val * 1024 + (y 0).val, by have : (y 0).val < 1024 := (y 0).isLt; omega⟩ (y 1) := by blk_ext [idx t]
  rw [he, hy]
  exact point_n _ _ _ _ _ _ _ (h_read m c t _) (g_read m c t)

/-- The product, over the whole array. -/
theorem final_y (c : Dev nD) : (dats m 0 c).arrAt 3 cfg0.N = Cert.Reference12Ideal.Read.val_main_v13 (F := Ideal) (H m c) (G m c) (W m c) := by
  refine (dats m 0 c).arrAt_eq_of_covers 3 _ (by decide +kernel) fun t hf y => ?_
  blk_simp
  rw [after0_3]
  frame_out
  have ht : t.val < 4 := t.isLt
  have hy : y = ix2 (y 0) (y 1) := by blk_ext
  have he : ((cfg0.win 3).blk t).view.emb y = ix2 ⟨t.val * 1024 + (y 0).val, by have : (y 0).val < 1024 := (y 0).isLt; omega⟩ (y 1) := by blk_ext [idx t]
  rw [he, hy]
  exact point_y _ _ _ _ _ _ _ _ _ (h_read m c t _) (g_read m c t) (w_read m c t)

end Cert.Kernel12Ideal.Proof

namespace Cert.Proof

open Idealize.ShloMosaic Idealize.ShloMosaic.TcCoe Idealize.SL.Sem

/-- The idealized norm and input product computes what the reference does. -/
theorem normin_value : Cert.algebraic_Kernel12Ideal_Reference12Ideal := by
  pair_intro
  · run_from Cert.Kernel12Ideal.Value.run_blocks m g
  · run_from Cert.Reference12Ideal.Value.run m' g'
    · refine Eq.trans (b := Cert.Reference12Ideal.Read.val_main_v13 (F := Ideal) (Cert.Kernel12Ideal.Proof.H m c) (Cert.Kernel12Ideal.Proof.G m c) (Cert.Kernel12Ideal.Proof.W m c)) rfl ?_
      exact (Cert.Kernel12Ideal.Proof.final_y m c).symm
    · rw [Cert.Reference12Ideal.Read.val_main_v14_eq]
      exact (Cert.Kernel12Ideal.Proof.final_n m c).symm

end Cert.Proof

end
-- ==== Proof.SwaPoint.lean ====
module

public import proofs.«01_k».proof.Proof.Common
public import proofs.«01_k».proof.Proof.Attn
public import proofs.«01_k».proof.Proof.Gen.Kernel13Ideal.Skeleton

/-! One point of the sliding-window attention, forward. -/

@[expose] public section

set_option maxRecDepth 16384

noncomputable section

namespace Cert.Kernel13Ideal.Proof

open Cert.Kernel13Ideal Cert.Kernel13Ideal.Gen Idealize.ShloMosaic Idealize.SL.Sem
open Cert.Common

/-- A row's maximum, the sink included. -/
abbrev mx (S : S384x256.Idx → EReal) (k : S384x1.Idx → EReal) (R : Fin 384) : EReal :=
  max (Finset.univ.fold max (Ideal.ofBits .f32 0xFF800000#32) (fun y : Fin 256 => S (ix2 R y))) (k (ix2 R 0))

/-- The reciprocal of a row's sum, the sink included. -/
abbrev iv (S : S384x256.Idx → EReal) (k : S384x1.Idx → EReal) (R : Fin 384) : EReal :=
  Ideal.div (Ideal.ofBits .f32 0x3F800000#32) ((∑ z : Fin 256, Ideal.exp (S (ix2 R z) - mx S k R)) + Ideal.exp (k (ix2 R 0) - mx S k R))

/-- A probability of the scores. -/
abbrev pr (S : S384x256.Idx → EReal) (k : S384x1.Idx → EReal) (R : Fin 384) (y : Fin 256) : EReal := Ideal.exp (S (ix2 R y) - mx S k R) * iv S k R

/-- The sink's probability. -/
abbrev ps (S : S384x256.Idx → EReal) (k : S384x1.Idx → EReal) (R : Fin 384) : EReal := Ideal.exp (k (ix2 R 0) - mx S k R) * iv S k R

/-- The words of the twelve slopes. -/
def slw : Fin 12 → BitVec 32 := ![0x3F214518#32, 0x3ECB2FF5#32, 0x3E800000#32, 0x3E214518#32, 0x3DCB2FF5#32, 0x3D800000#32,
  0x3D214518#32, 0x3CCB2FF5#32, 0x3C800000#32, 0x3C214518#32, 0x3BCB2FF5#32, 0x3B800000#32]

/-- A head's slope. -/
abbrev slp (n : Fin 4) (g : Fin 3) : EReal := Ideal.ofBits .f32 (slw ⟨n.val * 3 + g.val, by omega⟩)

/-- The scaled normalised query against a key, for a row of a point. -/
abbrev sc (a : S128x768.Idx → EReal) (q : S1x64.Idx → EReal) (K : S256x256.Idx → EReal) (n : Fin 4) (g : Fin 3) (r : Fin 128) (y : Fin 256) : EReal :=
  ∑ x : Fin 64, a (ix2 r ⟨(n.val * 3 + g.val) * 64 + x.val, by omega⟩)
      * Ideal.rsqrt (Ideal.div (∑ z : Fin 64, a (ix2 r ⟨(n.val * 3 + g.val) * 64 + z.val, by omega⟩) * a (ix2 r ⟨(n.val * 3 + g.val) * 64 + z.val, by omega⟩))
            (Ideal.ofBits .f32 0x42800000#32) + Ideal.ofBits .f32 0x358637BD#32) * q (ix2 0 x) * Ideal.ofBits .f32 0x3E000000#32
    * K (ix2 y ⟨n.val * 64 + x.val, by omega⟩)

/-- The score of a row of a point: the distance's penalty taken off, and the window's mask. -/
abbrev ms (i : grid0.Coords) (a : S128x768.Idx → EReal) (q : S1x64.Idx → EReal) (K : S256x256.Idx → EReal) (n : Fin 4) (g : Fin 3) (r : Fin 128) (y : Fin 256) : EReal :=
  Scalar.select (k0_pay12 i (ix2 r y)) (sc a q K n g r y - slp n g * FloatOps.sitofp (F := Ideal) .f32 (k0_pay11 (ix2 r y))) (Ideal.ofBits .f32 0xFF7FFFFF#32)

section groups
variable (i : grid0.Coords) (K V : S256x256.Idx → EReal) (a : S128x768.Idx → EReal) (q : S1x64.Idx → EReal) (s : S1x128.Idx → EReal)

/-- The columns' numbers, as the body makes them. -/
abbrev cols : IVec S128x256 32 := iota .tc S128x256 32 [1] iota_S128x256_d1_w32
/-- The grid's coordinate. -/
abbrev co : BitVec 32 := BitVec.ofNat 32 (i 0).val

/-- The four groups' scores, as the body makes them. -/
abbrev S0 : S384x256.Idx → EReal := k0_pay17 (F := Ideal) K a q (k0_pay12 i) (k0_pay13 (F := Ideal)) (k0_pay14 (F := Ideal)) (k0_pay15 (F := Ideal)) (Scalar.ofBits .f32 0x3E800000#32)
abbrev S1 : S384x256.Idx → EReal := k0_pay32 (F := Ideal) K a q k0_pay29 (k0_pay30 (co i))
abbrev S2 : S384x256.Idx → EReal := k0_pay51 (F := Ideal) (k0_pay48 (co i) cols k0_pay45 k0_pay46) (k0_pay49 (F := Ideal) K a q) (k0_pay50 (F := Ideal) k0_pay44)
abbrev S3 : S384x256.Idx → EReal := k0_pay69 (F := Ideal) K (k0_pay64 (F := Ideal)) (k0_pay66 (F := Ideal) k0_pay62) (k0_pay67 (co i) cols k0_pay62 k0_pay63) (k0_pay68 (F := Ideal) a q)

/-- The other groups' masks and distances are the first's. -/
theorem same_dist : k0_pay29 = k0_pay11 ∧ k0_pay44 = k0_pay11 ∧ k0_pay62 = k0_pay11 := ⟨rfl, rfl, rfl⟩
theorem same_mask1 : k0_pay30 (co i) = k0_pay12 i := rfl

/-- The four groups' scores, entry by entry. -/
theorem s0_at (g : Fin 3) (r : Fin 128) (y : Fin 256) : S0 i K a q (ix2 ⟨g.val * 128 + r.val, by omega⟩ y) = ms i a q K 0 g r y := by
  match g with
  | ⟨0, _⟩ =>
    pointwise [S0, ms, sc, slp, k0_pay13, k0_pay14, k0_pay15, k0_pay17]
    try rfl
  | ⟨1, _⟩ =>
    pointwise [S0, ms, sc, slp, k0_pay13, k0_pay14, k0_pay15, k0_pay17]
    try rfl
  | ⟨2, _⟩ =>
    pointwise [S0, ms, sc, slp, k0_pay13, k0_pay14, k0_pay15, k0_pay17]
    simp only [dif_neg (show ¬(256 + r.val < 128) by omega), dif_neg (show ¬(256 + r.val - 128 < 128) by omega), show 256 + r.val - 128 - 128 = r.val by omega]
    try rfl

theorem s1_at (g : Fin 3) (r : Fin 128) (y : Fin 256) : S1 i K a q (ix2 ⟨g.val * 128 + r.val, by omega⟩ y) = ms i a q K 1 g r y := by
  unfold S1
  rw [same_dist.1, same_mask1]
  match g with
  | ⟨0, _⟩ =>
    pointwise [S1, ms, sc, slp, k0_pay32]
    try rfl
  | ⟨1, _⟩ =>
    pointwise [S1, ms, sc, slp, k0_pay32]
    try rfl
  | ⟨2, _⟩ =>
    pointwise [S1, ms, sc, slp, k0_pay32]
    simp only [dif_neg (show ¬(256 + r.val < 128) by omega), dif_neg (show ¬(256 + r.val - 128 < 128) by omega), show 256 + r.val - 128 - 128 = r.val by omega]
    try rfl

theorem s2_at (g : Fin 3) (r : Fin 128) (y : Fin 256) : S2 i K a q (ix2 ⟨g.val * 128 + r.val, by omega⟩ y) = ms i a q K 2 g r y := by
  unfold S2
  rw [same_dist.2.1]
  match g with
  | ⟨0, _⟩ =>
    pointwise [S2, ms, sc, slp, k0_pay45, k0_pay46, k0_pay48, k0_pay49, k0_pay50, k0_pay51, k0_pay12, co]
    try simp only [same_dist.2.1]
    try rfl
  | ⟨1, _⟩ =>
    pointwise [S2, ms, sc, slp, k0_pay45, k0_pay46, k0_pay48, k0_pay49, k0_pay50, k0_pay51, k0_pay12, co]
    try simp only [same_dist.2.1]
    try rfl
  | ⟨2, _⟩ =>
    pointwise [S2, ms, sc, slp, k0_pay45, k0_pay46, k0_pay48, k0_pay49, k0_pay50, k0_pay51, k0_pay12, co]
    try simp only [same_dist.2.1]
    simp only [dif_neg (show ¬(256 + r.val < 128) by omega), dif_neg (show ¬(256 + r.val - 128 < 128) by omega), show 256 + r.val - 128 - 128 = r.val by omega]
    try rfl

theorem s3_at (g : Fin 3) (r : Fin 128) (y : Fin 256) : S3 i K a q (ix2 ⟨g.val * 128 + r.val, by omega⟩ y) = ms i a q K 3 g r y := by
  unfold S3
  rw [same_dist.2.2]
  match g with
  | ⟨0, _⟩ =>
    pointwise [S3, ms, sc, slp, k0_pay63, k0_pay64, k0_pay66, k0_pay67, k0_pay68, k0_pay69, k0_pay12, co]
    try rfl
  | ⟨1, _⟩ =>
    pointwise [S3, ms, sc, slp, k0_pay63, k0_pay64, k0_pay66, k0_pay67, k0_pay68, k0_pay69, k0_pay12, co]
    try rfl
  | ⟨2, _⟩ =>
    pointwise [S3, ms, sc, slp, k0_pay63, k0_pay64, k0_pay66, k0_pay67, k0_pay68, k0_pay69, k0_pay12, co]
    simp only [dif_neg (show ¬(256 + r.val < 128) by omega), dif_neg (show ¬(256 + r.val - 128 < 128) by omega), show 256 + r.val - 128 - 128 = r.val by omega]
    try rfl

/-- The sinks' column of a group. -/
theorem k0_at (g : Fin 3) (r : Fin 128) : k0_pay16 (F := Ideal) s (ix2 ⟨g.val * 128 + r.val, by omega⟩ 0) = s (ix2 0 ⟨0 * 3 + g.val, by omega⟩) := by
  match g with
  | ⟨0, _⟩ => pointwise [k0_pay16]
  | ⟨1, _⟩ => pointwise [k0_pay16]
  | ⟨2, _⟩ =>
    pointwise [k0_pay16]
    simp only [dif_neg (show ¬(256 + r.val < 128) by omega), dif_neg (show ¬(256 + r.val - 128 < 128) by omega)]

theorem k1_at (g : Fin 3) (r : Fin 128) : k0_pay31 (F := Ideal) s (ix2 ⟨g.val * 128 + r.val, by omega⟩ 0) = s (ix2 0 ⟨1 * 3 + g.val, by omega⟩) := by
  match g with
  | ⟨0, _⟩ => pointwise [k0_pay31]
  | ⟨1, _⟩ => pointwise [k0_pay31]
  | ⟨2, _⟩ =>
    pointwise [k0_pay31]
    simp only [dif_neg (show ¬(256 + r.val < 128) by omega), dif_neg (show ¬(256 + r.val - 128 < 128) by omega)]

theorem k2_at (g : Fin 3) (r : Fin 128) : k0_pay47 (F := Ideal) s (ix2 ⟨g.val * 128 + r.val, by omega⟩ 0) = s (ix2 0 ⟨2 * 3 + g.val, by omega⟩) := by
  match g with
  | ⟨0, _⟩ => pointwise [k0_pay47]
  | ⟨1, _⟩ => pointwise [k0_pay47]
  | ⟨2, _⟩ =>
    pointwise [k0_pay47]
    simp only [dif_neg (show ¬(256 + r.val < 128) by omega), dif_neg (show ¬(256 + r.val - 128 < 128) by omega)]

theorem k3_at (g : Fin 3) (r : Fin 128) : k0_pay65 (F := Ideal) s (ix2 ⟨g.val * 128 + r.val, by omega⟩ 0) = s (ix2 0 ⟨3 * 3 + g.val, by omega⟩) := by
  match g with
  | ⟨0, _⟩ => pointwise [k0_pay65]
  | ⟨1, _⟩ => pointwise [k0_pay65]
  | ⟨2, _⟩ =>
    pointwise [k0_pay65]
    simp only [dif_neg (show ¬(256 + r.val < 128) by omega), dif_neg (show ¬(256 + r.val - 128 < 128) by omega)]

/-- The four groups' probabilities, as the body makes them. -/
abbrev E0 := k0_pay19 (F := Ideal) K a q s (k0_pay12 i) (k0_pay13 (F := Ideal)) (k0_pay14 (F := Ideal)) (k0_pay15 (F := Ideal)) (Scalar.ofBits .f32 0x3E800000#32)
abbrev F0 := k0_pay20 (F := Ideal) K a q s (k0_pay12 i) (k0_pay13 (F := Ideal)) (k0_pay14 (F := Ideal)) (k0_pay15 (F := Ideal)) (Scalar.ofBits .f32 0x3E800000#32)
abbrev M1 := k0_pay33 (F := Ideal) K a q k0_pay29 (k0_pay30 (co i))
abbrev P0 : S384x256.Idx → EReal := k0_pay23 (F := Ideal) (E0 i K a q s) (F0 i K a q s)
abbrev P1 : S384x256.Idx → EReal := k0_pay38 (F := Ideal) (k0_pay31 (F := Ideal) s) (S1 i K a q) (M1 i K a q)
abbrev P2 : S384x256.Idx → EReal := k0_pay56 (F := Ideal) (k0_pay47 (F := Ideal) s) (k0_pay48 (co i) cols k0_pay45 k0_pay46) (k0_pay49 (F := Ideal) K a q) (k0_pay50 (F := Ideal) k0_pay44)
abbrev P3 : S384x256.Idx → EReal := k0_pay74 (F := Ideal) K (k0_pay64 (F := Ideal)) (k0_pay65 (F := Ideal) s) (k0_pay66 (F := Ideal) k0_pay62) (k0_pay67 (co i) cols k0_pay62 k0_pay63) (k0_pay68 (F := Ideal) a q)

theorem p0_at (R : Fin 384) (y : Fin 256) : P0 i K a q s (ix2 R y) = pr (S0 i K a q) (k0_pay16 (F := Ideal) s) R y := by
  pointwise [P0, E0, F0, pr, mx, iv, S0, k0_pay18, k0_pay19, k0_pay20, k0_pay21, k0_pay22, k0_pay23]
theorem p1_at (R : Fin 384) (y : Fin 256) : P1 i K a q s (ix2 R y) = pr (S1 i K a q) (k0_pay31 (F := Ideal) s) R y := by
  pointwise [P1, M1, pr, mx, iv, S1, k0_pay33, k0_pay34, k0_pay35, k0_pay36, k0_pay37, k0_pay38]
theorem p2_at (R : Fin 384) (y : Fin 256) : P2 i K a q s (ix2 R y) = pr (S2 i K a q) (k0_pay47 (F := Ideal) s) R y := by
  pointwise [P2, pr, mx, iv, S2, k0_pay52, k0_pay53, k0_pay54, k0_pay55, k0_pay56]
theorem p3_at (R : Fin 384) (y : Fin 256) : P3 i K a q s (ix2 R y) = pr (S3 i K a q) (k0_pay65 (F := Ideal) s) R y := by
  pointwise [P3, pr, mx, iv, S3, k0_pay70, k0_pay71, k0_pay72, k0_pay73, k0_pay74]

/-- Twelve blocks of columns side by side, read at a column of one of them. -/
theorem cat_at (A : Fin 12 → (S128x64.Idx → EReal)) (h : Fin 12) (r : Fin 128) (x : Fin 64) :
    concatenate S128x768 1 [⟨S128x64, A 0⟩, ⟨S128x64, A 1⟩, ⟨S128x64, A 2⟩, ⟨S128x64, A 3⟩, ⟨S128x64, A 4⟩, ⟨S128x64, A 5⟩, ⟨S128x64, A 6⟩, ⟨S128x64, A 7⟩, ⟨S128x64, A 8⟩, ⟨S128x64, A 9⟩, ⟨S128x64, A 10⟩, ⟨S128x64, A 11⟩]
      concatenates_S128x64_S128x64_S128x64_S128x64_S128x64_S128x64_S128x64_S128x64_S128x64_S128x64_S128x64_S128x64_S128x768_d1 (ix2 r ⟨h.val * 64 + x.val, by omega⟩) = A h (ix2 r x) :=
  concatenate_ofFn_apply (s₁ := S128x64) (1 : Fin S128x768.rank) A
    concatenates_S128x64_S128x64_S128x64_S128x64_S128x64_S128x64_S128x64_S128x64_S128x64_S128x64_S128x64_S128x64_S128x768_d1 rfl 64 rfl (ix2 r ⟨h.val * 64 + x.val, by omega⟩) h (by show (h.val * 64 + x.val) / 64 = h.val; omega) (ix2 r x)
    (by show x.val = (h.val * 64 + x.val) % 64; omega) (fun b hb => by
      match b with
      | ⟨0, _⟩ => rfl
      | ⟨1, _⟩ => exact absurd rfl hb)

/-- Twelve blocks of columns. -/
def fam12 (A0 A1 A2 A3 A4 A5 A6 A7 A8 A9 A10 A11 : S128x64.Idx → EReal) : Fin 12 → (S128x64.Idx → EReal)
  | 0 => A0 | 1 => A1 | 2 => A2 | 3 => A3 | 4 => A4 | 5 => A5 | 6 => A6 | 7 => A7 | 8 => A8 | 9 => A9 | 10 => A10 | 11 => A11

section cat
variable (A0 A1 A2 A3 A4 A5 A6 A7 A8 : S128x64.Idx → EReal) (v358 v368 : S384x1.Idx → EReal) (v373 : S384x256.Idx → EReal) (v374 : IVec S384x256 1) (v388 : S384x64.Idx → EReal)

/-- The last group's product. -/
abbrev m3 : S384x64.Idx → EReal :=
  matmul (F := Ideal)  dot_S384x256_S256x64_S384x64_1_0_0_1_n_n none (k0_pay74 (F := Ideal) K v358 v368 v373 v374 v388 : FVec Ideal S384x256 .bf16) (extractStridedSlice S256x64 ![0, 192] V slices_S256x256_o0_192_S256x64 : FVec Ideal S256x64 .bf16) (constant S384x64 .f32 0x00000000#32 : FVec Ideal S384x64 .f32)

/-- The stored columns. -/
theorem cat12 (h : Fin 12) (r : Fin 128) (x : Fin 64) : k0_pay5 (F := Ideal) (k0_pay76 (F := Ideal) K V A0 A1 A2 A3 A4 A5 A6 A7 A8 v358 v368 v373 v374 v388) (ix2 r ⟨h.val * 64 + x.val, by omega⟩)
    = (fam12 A0 A1 A2 A3 A4 A5 A6 A7 A8 (extractStridedSlice S128x64 ![0, 0] (m3 K V v358 v368 v373 v374 v388) slices_S384x64_o0_0_S128x64) (extractStridedSlice S128x64 ![128, 0] (m3 K V v358 v368 v373 v374 v388) slices_S384x64_o128_0_S128x64) (extractStridedSlice S128x64 ![256, 0] (m3 K V v358 v368 v373 v374 v388) slices_S384x64_o256_0_S128x64)) h (ix2 r x) := by
  rw [← cat_at (fam12 A0 A1 A2 A3 A4 A5 A6 A7 A8 (extractStridedSlice S128x64 ![0, 0] (m3 K V v358 v368 v373 v374 v388) slices_S384x64_o0_0_S128x64) (extractStridedSlice S128x64 ![128, 0] (m3 K V v358 v368 v373 v374 v388) slices_S384x64_o128_0_S128x64) (extractStridedSlice S128x64 ![256, 0] (m3 K V v358 v368 v373 v374 v388) slices_S384x64_o256_0_S128x64)) h r x]
  unfold k0_pay5 k0_pay76
  rfl

end cat

/-- What the body stores of the read values. -/
abbrev oOf : S128x768.Idx → EReal :=
  k0_pay5 (F := Ideal) (k0_pay76 (F := Ideal) K V (k0_pay25 V (E0 i K a q s) (F0 i K a q s)) (k0_pay26 V (E0 i K a q s) (F0 i K a q s)) (k0_pay27 V (E0 i K a q s) (F0 i K a q s))
    (k0_pay40 V (k0_pay31 (F := Ideal) s) (S1 i K a q) (M1 i K a q)) (k0_pay41 V (k0_pay31 (F := Ideal) s) (S1 i K a q) (M1 i K a q)) (k0_pay42 V (k0_pay31 (F := Ideal) s) (S1 i K a q) (M1 i K a q))
    (k0_pay58 V (k0_pay47 (F := Ideal) s) (k0_pay48 (co i) cols k0_pay45 k0_pay46) (k0_pay49 (F := Ideal) K a q) (k0_pay50 (F := Ideal) k0_pay44))
    (k0_pay59 V (k0_pay47 (F := Ideal) s) (k0_pay48 (co i) cols k0_pay45 k0_pay46) (k0_pay49 (F := Ideal) K a q) (k0_pay50 (F := Ideal) k0_pay44))
    (k0_pay60 V (k0_pay47 (F := Ideal) s) (k0_pay48 (co i) cols k0_pay45 k0_pay46) (k0_pay49 (F := Ideal) K a q) (k0_pay50 (F := Ideal) k0_pay44))
    (k0_pay64 (F := Ideal)) (k0_pay65 (F := Ideal) s) (k0_pay66 (F := Ideal) k0_pay62) (k0_pay67 (co i) cols k0_pay62 k0_pay63) (k0_pay68 (F := Ideal) a q))

/-- The lanes' numbers, as the body makes them. -/
abbrev lanes : IVec S128x128 32 := iota .tc S128x128 32 [1] iota_S128x128_d1_w32

/-- What the body stores of the sinks' probabilities. -/
abbrev zOf : S128x128.Idx → EReal :=
  k0_pay75 (F := Ideal) K lanes (k0_pay61 (F := Ideal) lanes (k0_pay43 (F := Ideal) lanes (k0_pay28 (F := Ideal) lanes (k0_pay10 (F := Ideal)) (E0 i K a q s) (F0 i K a q s))
      (k0_pay31 (F := Ideal) s) (S1 i K a q) (M1 i K a q)) (k0_pay47 (F := Ideal) s) (k0_pay48 (co i) cols k0_pay45 k0_pay46) (k0_pay49 (F := Ideal) K a q) (k0_pay50 (F := Ideal) k0_pay44))
    (k0_pay64 (F := Ideal)) (k0_pay65 (F := Ideal) s) (k0_pay66 (F := Ideal) k0_pay62) (k0_pay67 (co i) cols k0_pay62 k0_pay63) (k0_pay68 (F := Ideal) a q)

/-- The read values of group 0. -/
theorem o0_at (r : Fin 128) (g : Fin 3) (x : Fin 64) : oOf i K V a q s (ix2 r ⟨(0 * 3 + g.val) * 64 + x.val, by omega⟩)
    = ∑ y : Fin 256, P0 i K a q s (ix2 ⟨g.val * 128 + r.val, by omega⟩ y) * V (ix2 y ⟨0 * 64 + x.val, by omega⟩) := by
  match g with
  | ⟨0, _⟩ => exact (cat12 _ _ _ _ _ _ _ _ _ _ _ _ _ _ _ _ 0 r x).trans (show (k0_pay25 V (E0 i K a q s) (F0 i K a q s) : S128x64.Idx → EReal) (ix2 r x) = _ by pointwise [P0, k0_pay24, k0_pay25, k0_pay26, k0_pay27])
  | ⟨1, _⟩ => exact (cat12 _ _ _ _ _ _ _ _ _ _ _ _ _ _ _ _ 1 r x).trans (show (k0_pay26 V (E0 i K a q s) (F0 i K a q s) : S128x64.Idx → EReal) (ix2 r x) = _ by pointwise [P0, k0_pay24, k0_pay25, k0_pay26, k0_pay27])
  | ⟨2, _⟩ => exact (cat12 _ _ _ _ _ _ _ _ _ _ _ _ _ _ _ _ 2 r x).trans (show (k0_pay27 V (E0 i K a q s) (F0 i K a q s) : S128x64.Idx → EReal) (ix2 r x) = _ by pointwise [P0, k0_pay24, k0_pay25, k0_pay26, k0_pay27])

/-- The read values of group 1. -/
theorem o1_at (r : Fin 128) (g : Fin 3) (x : Fin 64) : oOf i K V a q s (ix2 r ⟨(1 * 3 + g.val) * 64 + x.val, by omega⟩)
    = ∑ y : Fin 256, P1 i K a q s (ix2 ⟨g.val * 128 + r.val, by omega⟩ y) * V (ix2 y ⟨1 * 64 + x.val, by omega⟩) := by
  match g with
  | ⟨0, _⟩ => exact (cat12 _ _ _ _ _ _ _ _ _ _ _ _ _ _ _ _ 3 r x).trans (show (k0_pay40 V (k0_pay31 (F := Ideal) s) (S1 i K a q) (M1 i K a q) : S128x64.Idx → EReal) (ix2 r x) = _ by pointwise [P1, k0_pay39, k0_pay40, k0_pay41, k0_pay42])
  | ⟨1, _⟩ => exact (cat12 _ _ _ _ _ _ _ _ _ _ _ _ _ _ _ _ 4 r x).trans (show (k0_pay41 V (k0_pay31 (F := Ideal) s) (S1 i K a q) (M1 i K a q) : S128x64.Idx → EReal) (ix2 r x) = _ by pointwise [P1, k0_pay39, k0_pay40, k0_pay41, k0_pay42])
  | ⟨2, _⟩ => exact (cat12 _ _ _ _ _ _ _ _ _ _ _ _ _ _ _ _ 5 r x).trans (show (k0_pay42 V (k0_pay31 (F := Ideal) s) (S1 i K a q) (M1 i K a q) : S128x64.Idx → EReal) (ix2 r x) = _ by pointwise [P1, k0_pay39, k0_pay40, k0_pay41, k0_pay42])

/-- The read values of group 2. -/
theorem o2_at (r : Fin 128) (g : Fin 3) (x : Fin 64) : oOf i K V a q s (ix2 r ⟨(2 * 3 + g.val) * 64 + x.val, by omega⟩)
    = ∑ y : Fin 256, P2 i K a q s (ix2 ⟨g.val * 128 + r.val, by omega⟩ y) * V (ix2 y ⟨2 * 64 + x.val, by omega⟩) := by
  match g with
  | ⟨0, _⟩ => exact (cat12 _ _ _ _ _ _ _ _ _ _ _ _ _ _ _ _ 6 r x).trans (show (k0_pay58 V (k0_pay47 (F := Ideal) s) (k0_pay48 (co i) cols k0_pay45 k0_pay46) (k0_pay49 (F := Ideal) K a q) (k0_pay50 (F := Ideal) k0_pay44) : S128x64.Idx → EReal) (ix2 r x) = _ by pointwise [P2, k0_pay57, k0_pay58, k0_pay59, k0_pay60])
  | ⟨1, _⟩ => exact (cat12 _ _ _ _ _ _ _ _ _ _ _ _ _ _ _ _ 7 r x).trans (show (k0_pay59 V (k0_pay47 (F := Ideal) s) (k0_pay48 (co i) cols k0_pay45 k0_pay46) (k0_pay49 (F := Ideal) K a q) (k0_pay50 (F := Ideal) k0_pay44) : S128x64.Idx → EReal) (ix2 r x) = _ by pointwise [P2, k0_pay57, k0_pay58, k0_pay59, k0_pay60])
  | ⟨2, _⟩ => exact (cat12 _ _ _ _ _ _ _ _ _ _ _ _ _ _ _ _ 8 r x).trans (show (k0_pay60 V (k0_pay47 (F := Ideal) s) (k0_pay48 (co i) cols k0_pay45 k0_pay46) (k0_pay49 (F := Ideal) K a q) (k0_pay50 (F := Ideal) k0_pay44) : S128x64.Idx → EReal) (ix2 r x) = _ by pointwise [P2, k0_pay57, k0_pay58, k0_pay59, k0_pay60])

/-- The read values of group 3. -/
theorem o3_at (r : Fin 128) (g : Fin 3) (x : Fin 64) : oOf i K V a q s (ix2 r ⟨(3 * 3 + g.val) * 64 + x.val, by omega⟩)
    = ∑ y : Fin 256, P3 i K a q s (ix2 ⟨g.val * 128 + r.val, by omega⟩ y) * V (ix2 y ⟨3 * 64 + x.val, by omega⟩) := by
  match g with
  | ⟨0, _⟩ => exact (cat12 _ _ _ _ _ _ _ _ _ _ _ _ _ _ _ _ 9 r x).trans (show (extractStridedSlice S128x64 ![0, 0] (m3 K V (k0_pay64 (F := Ideal)) (k0_pay65 (F := Ideal) s) (k0_pay66 (F := Ideal) k0_pay62) (k0_pay67 (co i) cols k0_pay62 k0_pay63) (k0_pay68 (F := Ideal) a q)) slices_S384x64_o0_0_S128x64 : S128x64.Idx → EReal) (ix2 r x) = _ by pointwise [P3, m3])
  | ⟨1, _⟩ => exact (cat12 _ _ _ _ _ _ _ _ _ _ _ _ _ _ _ _ 10 r x).trans (show (extractStridedSlice S128x64 ![128, 0] (m3 K V (k0_pay64 (F := Ideal)) (k0_pay65 (F := Ideal) s) (k0_pay66 (F := Ideal) k0_pay62) (k0_pay67 (co i) cols k0_pay62 k0_pay63) (k0_pay68 (F := Ideal) a q)) slices_S384x64_o128_0_S128x64 : S128x64.Idx → EReal) (ix2 r x) = _ by pointwise [P3, m3])
  | ⟨2, _⟩ => exact (cat12 _ _ _ _ _ _ _ _ _ _ _ _ _ _ _ _ 11 r x).trans (show (extractStridedSlice S128x64 ![256, 0] (m3 K V (k0_pay64 (F := Ideal)) (k0_pay65 (F := Ideal) s) (k0_pay66 (F := Ideal) k0_pay62) (k0_pay67 (co i) cols k0_pay62 k0_pay63) (k0_pay68 (F := Ideal) a q)) slices_S384x64_o256_0_S128x64 : S128x64.Idx → EReal) (ix2 r x) = _ by pointwise [P3, m3])

/-- The sinks' probabilities of group 0. -/
theorem z0_at (r : Fin 128) (g : Fin 3) : zOf i K a q s (ix2 r ⟨0 * 3 + g.val, by omega⟩) = ps (S0 i K a q) (k0_pay16 (F := Ideal) s) ⟨g.val * 128 + r.val, by omega⟩ := by
  match g with
  | ⟨0, _⟩ =>
    pointwise [zOf, lanes, ps, mx, iv, S0, E0, F0, k0_pay18, k0_pay19, k0_pay20, k0_pay21, k0_pay22, k0_pay28, k0_pay43, k0_pay61, k0_pay75]
    try rfl
  | ⟨1, _⟩ =>
    pointwise [zOf, lanes, ps, mx, iv, S0, E0, F0, k0_pay18, k0_pay19, k0_pay20, k0_pay21, k0_pay22, k0_pay28, k0_pay43, k0_pay61, k0_pay75]
    try rfl
  | ⟨2, _⟩ =>
    pointwise [zOf, lanes, ps, mx, iv, S0, E0, F0, k0_pay18, k0_pay19, k0_pay20, k0_pay21, k0_pay22, k0_pay28, k0_pay43, k0_pay61, k0_pay75]
    try rfl

/-- The sinks' probabilities of group 1. -/
theorem z1_at (r : Fin 128) (g : Fin 3) : zOf i K a q s (ix2 r ⟨1 * 3 + g.val, by omega⟩) = ps (S1 i K a q) (k0_pay31 (F := Ideal) s) ⟨g.val * 128 + r.val, by omega⟩ := by
  match g with
  | ⟨0, _⟩ =>
    pointwise [zOf, lanes, ps, mx, iv, S1, M1, k0_pay33, k0_pay34, k0_pay35, k0_pay36, k0_pay37, k0_pay43, k0_pay61, k0_pay75]
    try rfl
  | ⟨1, _⟩ =>
    pointwise [zOf, lanes, ps, mx, iv, S1, M1, k0_pay33, k0_pay34, k0_pay35, k0_pay36, k0_pay37, k0_pay43, k0_pay61, k0_pay75]
    try rfl
  | ⟨2, _⟩ =>
    pointwise [zOf, lanes, ps, mx, iv, S1, M1, k0_pay33, k0_pay34, k0_pay35, k0_pay36, k0_pay37, k0_pay43, k0_pay61, k0_pay75]
    try rfl

/-- The sinks' probabilities of group 2. -/
theorem z2_at (r : Fin 128) (g : Fin 3) : zOf i K a q s (ix2 r ⟨2 * 3 + g.val, by omega⟩) = ps (S2 i K a q) (k0_pay47 (F := Ideal) s) ⟨g.val * 128 + r.val, by omega⟩ := by
  match g with
  | ⟨0, _⟩ =>
    pointwise [zOf, lanes, ps, mx, iv, S2, k0_pay52, k0_pay53, k0_pay54, k0_pay55, k0_pay61, k0_pay75]
    try rfl
  | ⟨1, _⟩ =>
    pointwise [zOf, lanes, ps, mx, iv, S2, k0_pay52, k0_pay53, k0_pay54, k0_pay55, k0_pay61, k0_pay75]
    try rfl
  | ⟨2, _⟩ =>
    pointwise [zOf, lanes, ps, mx, iv, S2, k0_pay52, k0_pay53, k0_pay54, k0_pay55, k0_pay61, k0_pay75]
    try rfl

/-- The sinks' probabilities of group 3. -/
theorem z3_at (r : Fin 128) (g : Fin 3) : zOf i K a q s (ix2 r ⟨3 * 3 + g.val, by omega⟩) = ps (S3 i K a q) (k0_pay65 (F := Ideal) s) ⟨g.val * 128 + r.val, by omega⟩ := by
  match g with
  | ⟨0, _⟩ =>
    pointwise [zOf, lanes, ps, mx, iv, S3, k0_pay70, k0_pay71, k0_pay72, k0_pay73, k0_pay75]
    try rfl
  | ⟨1, _⟩ =>
    pointwise [zOf, lanes, ps, mx, iv, S3, k0_pay70, k0_pay71, k0_pay72, k0_pay73, k0_pay75]
    try rfl
  | ⟨2, _⟩ =>
    pointwise [zOf, lanes, ps, mx, iv, S3, k0_pay70, k0_pay71, k0_pay72, k0_pay73, k0_pay75]
    try rfl

/-- The other lanes hold zero. -/
theorem z_rest (r l : Fin 128) (h : 12 ≤ l.val) : zOf i K a q s (ix2 r l) = Ideal.ofBits .f32 0x00000000#32 := by
  pointwise [zOf, lanes, k0_pay28, k0_pay43, k0_pay61, k0_pay75, k0_pay10]
  have hb : ∀ k : ℕ, k < 12 → IntOp.cmpi CmpIPredicate.eq (BitVec.ofNat 32 l.val) (BitVec.ofNat 32 k) = 0#1 := fun k hk => by
    have hl := l.isLt
    have : (BitVec.ofNat 32 l.val = BitVec.ofNat 32 k) = False := by
      simp only [eq_iff_iff, iff_false]
      intro h2
      have h3 := congrArg BitVec.toNat h2
      simp only [BitVec.toNat_ofNat] at h3
      omega
    show BitVec.ofBool (BitVec.ofNat 32 l.val == BitVec.ofNat 32 k) = 0#1
    rw [beq_eq_false_iff_ne.mpr (fun h2 => (this ▸ h2 : False))]
    rfl
  rw [hb 11 (by omega), hb 10 (by omega), hb 9 (by omega), hb 8 (by omega), hb 7 (by omega), hb 6 (by omega), hb 5 (by omega), hb 4 (by omega), hb 3 (by omega), hb 2 (by omega), hb 1 (by omega), hb 0 (by omega)]
  rfl

end groups

end Cert.Kernel13Ideal.Proof

end
-- ==== Proof.SwaRef.lean ====
module

public import proofs.«01_k».proof.Proof.Common
public import proofs.«01_k».proof.Proof.Attn
public import proofs.«01_k».proof.Proof.Gen.Reference13Ideal.Read

/-! The reference of the sliding-window attention, forward, entry by entry. -/

@[expose] public section

set_option maxRecDepth 16384

noncomputable section

namespace Cert.Reference13Ideal.Proof

open Cert.Reference13Ideal Cert.Reference13Ideal.Gen Cert.Reference13Ideal.Read Idealize.ShloMosaic Idealize.SL.Sem
open Cert.Common

section hostmax
variable {n0 n1 n2 n3 n4 : Nat} {u : Shape}

/-- A host maximum over the last axis of a five-axis box. -/
theorem hostMax5 (v : (⟨5, ![n0, n1, n2, n3, n4]⟩ : Shape).Idx → EReal) (c : u.Idx → EReal)
    (h : (⟨5, ![n0, n1, n2, n3, n4]⟩ : Shape).ReducesTo [4] ⟨4, ![n0, n1, n2, n3]⟩) (hu : 0 < u.numel) (j : (⟨4, ![n0, n1, n2, n3]⟩ : Shape).Idx) :
    Host.reduce (FloatOps.maximumf : Ideal .f32 → Ideal .f32 → Ideal .f32) v c h hu j
      = Finset.univ.fold max (c (Shape.Idx.first hu)) fun k : Fin n4 => v (ix5 (j 0) (j 1) (j 2) (j 3) k) := by
  simp only [pointwise]

end hostmax

section stages
variable (proj : S4096x1024.Idx → EReal) (kv : S4096x512.Idx → EReal) (gk gq : S64.Idx → EReal) (sk : S12.Idx → EReal)

/-- A normalised query entry. -/
abbrev xq (R : Fin 4096) (h : Fin 12) (i : Fin 64) : EReal :=
  proj (ix2 R ⟨h.val * 64 + i.val, by omega⟩) * Ideal.rsqrt (Ideal.div (∑ k : Fin 64, proj (ix2 R ⟨h.val * 64 + k.val, by omega⟩) * proj (ix2 R ⟨h.val * 64 + k.val, by omega⟩))
            (Ideal.ofBits .f32 0x42800000#32) + Ideal.ofBits .f32 0x358637BD#32)

/-- A normalised key entry. -/
abbrev xk (R : Fin 4096) (n : Fin 4) (i : Fin 64) : EReal :=
  kv (ix2 R ⟨n.val * 64 + i.val, by omega⟩) * Ideal.rsqrt (Ideal.div (∑ k : Fin 64, kv (ix2 R ⟨n.val * 64 + k.val, by omega⟩) * kv (ix2 R ⟨n.val * 64 + k.val, by omega⟩))
            (Ideal.ofBits .f32 0x42800000#32) + Ideal.ofBits .f32 0x358637BD#32)

theorem ref_q (R : Fin 4096) (h : Fin 12) (i : Fin 64) : val_main_v14 (F := Ideal) proj gq (ix3 R h i) = xq proj R h i * gq (ix1 i) := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, xq]

theorem ref_k (R : Fin 4096) (n : Fin 4) (i : Fin 64) : val_main_v29 (F := Ideal) kv gk (ix3 R n i) = xk kv R n i * gk (ix1 i) := by
  pointwise [val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, xk]

/-- The window's keys: the block's own. -/
theorem k_cur (b : Fin 32) (y : Fin 128) (n : Fin 4) (i : Fin 64) :
    val_main_v35 (F := Ideal) kv gk (ix4 b ⟨128 + y.val, by omega⟩ n i) = val_main_v29 (F := Ideal) kv gk (ix3 ⟨b.val * 128 + y.val, by omega⟩ n i) := by
  pointwise [val_main_v31, val_main_cst_5, val_main_v32, val_main_v33, val_main_v34, val_main_v35]

/-- The window's keys: the block's before. -/
theorem k_prev (b : Fin 32) (hb : 0 < b.val) (y : Fin 128) (n : Fin 4) (i : Fin 64) :
    val_main_v35 (F := Ideal) kv gk (ix4 b ⟨y.val, by omega⟩ n i) = val_main_v29 (F := Ideal) kv gk (ix3 ⟨(b.val - 1) * 128 + y.val, by omega⟩ n i) := by
  pointwise [val_main_v31, val_main_cst_5, val_main_v32, val_main_v33, val_main_v34, val_main_v35]
  rw [dif_neg (by omega)]

/-- The window's keys: before the first block. -/
theorem k_zero (y : Fin 128) (n : Fin 4) (i : Fin 64) : val_main_v35 (F := Ideal) kv gk (ix4 0 ⟨y.val, by omega⟩ n i) = 0 := by
  pointwise [val_main_v31, val_main_cst_5, val_main_v32, val_main_v33, val_main_v34, val_main_v35]

/-- The window's values: the block's own. -/
theorem v_cur (b : Fin 32) (y : Fin 128) (n : Fin 4) (i : Fin 64) :
    val_main_v151 (F := Ideal) kv (ix4 b ⟨128 + y.val, by omega⟩ n i) = kv (ix2 ⟨b.val * 128 + y.val, by omega⟩ ⟨256 + (n.val * 64 + i.val), by omega⟩) := by
  pointwise [val_main_v145, val_main_v146, val_main_v147, val_main_cst_37, val_main_v148, val_main_v149, val_main_v150, val_main_v151]

/-- The window's values: the block's before. -/
theorem v_prev (b : Fin 32) (hb : 0 < b.val) (y : Fin 128) (n : Fin 4) (i : Fin 64) :
    val_main_v151 (F := Ideal) kv (ix4 b ⟨y.val, by omega⟩ n i) = kv (ix2 ⟨(b.val - 1) * 128 + y.val, by omega⟩ ⟨256 + (n.val * 64 + i.val), by omega⟩) := by
  pointwise [val_main_v145, val_main_v146, val_main_v147, val_main_cst_37, val_main_v148, val_main_v149, val_main_v150, val_main_v151]
  rw [dif_neg (by omega)]

/-- The scaled product of a query and a key. -/
theorem ref_dot (b : Fin 32) (n : Fin 4) (g : Fin 3) (r : Fin 128) (y : Fin 256) :
    val_main_v39 (F := Ideal) proj kv gk gq (ix5 b n g r y)
      = (∑ x : Fin 64, val_main_v35 (F := Ideal) kv gk (ix4 b y n x) * val_main_v14 (F := Ideal) proj gq (ix3 ⟨b.val * 128 + r.val, by omega⟩ ⟨n.val * 3 + g.val, by omega⟩ x)) * Ideal.ofBits .f32 0x3E000000#32 := by
  pointwise [val_main_v30, val_main_v36, val_main_v37, val_main_cst_6, val_main_v38, val_main_v39]

/-- The distance of a row and a key of its window. -/
theorem ref_dist (b : Fin 32) (r : Fin 128) (y : Fin 256) :
    val_main_v60 (F := Ideal) (ix3 b r y) = IntOp.subi (IntOp.addi (BitVec.ofNat 32 r.val) 128#32) (BitVec.ofNat 32 y.val) := by
  pointwise [val_main_v40, val_main_v41, val_main_c, val_main_v42, val_main_v43, val_main_v44, val_main_v45, val_main_v46, val_main_v47, val_main_v48, val_main_c_7, val_main_v49, val_main_v50, val_main_v51, val_main_v52, val_main_v53, val_main_v54, val_main_v55, val_main_v56, val_main_v57, val_main_v58, val_main_v59, val_main_v60]
  simp only [IntOp.subi, IntOp.addi, IntOp.muli]
  generalize BitVec.ofNat 32 b.val * 128#32 = w
  generalize BitVec.ofNat 32 r.val = u
  generalize BitVec.ofNat 32 y.val = v
  bv_omega

/-- A key of the window is a row of the sequence. -/
theorem inside : ∀ (b : Fin 32) (y : Fin 256),
    IntOp.cmpi .sge (IntOp.addi (IntOp.subi (IntOp.muli (BitVec.ofNat 32 b.val) 128#32) 128#32) (BitVec.ofNat 32 y.val)) 0#32
      = IntOp.ori (IntOp.cmpi .sge (BitVec.ofNat 32 y.val) 128#32) (Scalar.cmpi .sgt (BitVec.ofNat 32 b.val) 0#32) := by
  decide +kernel

/-- The mask. -/
theorem ref_mask (b : Fin 32) (r : Fin 128) (y : Fin 256) :
    val_main_v70 (F := Ideal) (ix3 b r y) = IntOp.andi
      (IntOp.andi (IntOp.cmpi .sge (IntOp.subi (IntOp.addi (BitVec.ofNat 32 r.val) 128#32) (BitVec.ofNat 32 y.val)) 0#32)
        (IntOp.cmpi .slt (IntOp.subi (IntOp.addi (BitVec.ofNat 32 r.val) 128#32) (BitVec.ofNat 32 y.val)) 128#32))
      (IntOp.ori (IntOp.cmpi .sge (BitVec.ofNat 32 y.val) 128#32) (Scalar.cmpi .sgt (BitVec.ofNat 32 b.val) 0#32)) := by
  rw [← ref_dist b r y, ← inside b y]
  pointwise [val_main_c_8, val_main_v61, val_main_v62, val_main_c_9, val_main_v63, val_main_v64, val_main_v65, val_main_v66, val_main_c_10, val_main_v67, val_main_v68, val_main_v69, val_main_v70, val_main_v55, val_main_v54, val_main_v53, val_main_v52, val_main_v51, val_main_v50, val_main_v40, val_main_v41, val_main_c, val_main_v42, val_main_v43, val_main_c_7, val_main_v49]

/-- Where a key before the first block is masked. -/
theorem mask_zero (r : Fin 128) (y : Fin 128) : val_main_v70 (F := Ideal) (ix3 0 r ⟨y.val, by omega⟩) = 0#1 := by
  have h : ∀ y : Fin 128, IntOp.ori (IntOp.cmpi .sge (BitVec.ofNat 32 y.val) 128#32) (Scalar.cmpi .sgt (BitVec.ofNat 32 (0 : Fin 32).val) 0#32) = 0#1 := by decide +kernel
  have hx : ∀ x : BitVec 1, IntOp.andi x 0#1 = 0#1 := by decide +kernel
  rw [ref_mask]
  exact (congrArg (IntOp.andi _) (h y)).trans (hx _)

/-- The words of the twelve slopes. -/
def words : Fin 12 → BitVec 32 := ![0x3F214518#32, 0x3ECB2FF5#32, 0x3E800000#32, 0x3E214518#32, 0x3DCB2FF5#32, 0x3D800000#32,
  0x3D214518#32, 0x3CCB2FF5#32, 0x3C800000#32, 0x3C214518#32, 0x3BCB2FF5#32, 0x3B800000#32]

/-- A choice of two words' numbers is the number of the choice. -/
theorem sel_word (c : BitVec 1) (a b : BitVec 32) : Ideal.ofBits .f32 (Scalar.select c a b) = Scalar.select c (Ideal.ofBits .f32 a) (Ideal.ofBits .f32 b) := by
  unfold Scalar.select
  split <;> rfl

/-- The slopes, by head. -/
theorem ref_slopes (h : Fin 12) : val_main_v116 (F := Ideal) (ix1 h) = Ideal.ofBits .f32 (words h) := by
  pointwise [val_main_v71, val_main_cst_11, val_main_v72, val_main_c_12, val_main_v73, val_main_v74, val_main_cst_13, val_main_v75, val_main_v76, val_main_c_14, val_main_v77, val_main_v78, val_main_cst_15, val_main_v79, val_main_v80, val_main_c_16, val_main_v81, val_main_v82, val_main_cst_17, val_main_v83, val_main_v84, val_main_c_18, val_main_v85, val_main_v86, val_main_cst_19, val_main_v87, val_main_v88, val_main_c_20, val_main_v89, val_main_v90, val_main_cst_21, val_main_v91, val_main_v92, val_main_c_22, val_main_v93, val_main_v94, val_main_cst_23, val_main_v95, val_main_v96, val_main_c_24, val_main_v97, val_main_v98, val_main_cst_25, val_main_v99, val_main_v100, val_main_c_26, val_main_v101, val_main_v102, val_main_cst_27, val_main_v103, val_main_v104, val_main_c_28, val_main_v105, val_main_v106, val_main_cst_29, val_main_v107, val_main_v108, val_main_c_30, val_main_v109, val_main_v110, val_main_cst_31, val_main_v111, val_main_v112, val_main_c_32, val_main_v113, val_main_v114, val_main_cst_33, val_main_v115, val_main_v116]
  simp only [← sel_word]
  refine congrArg (Ideal.ofBits .f32) ?_
  revert h
  decide +kernel

/-- The slopes, by head and row of the group. -/
theorem ref_slope (n : Fin 4) (g : Fin 3) : val_main_v117 (F := Ideal) (ix2 n g) = Ideal.ofBits .f32 (words ⟨n.val * 3 + g.val, by omega⟩) := by
  rw [← ref_slopes]
  pointwise [val_main_v117]

/-- The masked score. -/
theorem ref_s (b : Fin 32) (n : Fin 4) (g : Fin 3) (r : Fin 128) (y : Fin 256) :
    val_main_v126 (F := Ideal) proj kv gk gq (ix5 b n g r y)
      = Scalar.select (val_main_v70 (F := Ideal) (ix3 b r y)) (val_main_v39 (F := Ideal) proj kv gk gq (ix5 b n g r y)
          - val_main_v117 (F := Ideal) (ix2 n g) * FloatOps.sitofp (F := Ideal) .f32 (val_main_v60 (F := Ideal) (ix3 b r y))) (Ideal.ofBits .f32 0xFF7FFFFF#32) := by
  pointwise [val_main_v118, val_main_v119, val_main_v120, val_main_v121, val_main_v122, val_main_v123, val_main_v124, val_main_v125, val_main_cst_34, val_main_call0_v0, val_main_call0_v1, val_main_call0_v2, val_main_v126]
  rfl

/-- The row's maximum, the sink included. -/
theorem ref_m (b : Fin 32) (n : Fin 4) (g : Fin 3) (r : Fin 128) :
    val_main_v132 (F := Ideal) proj kv gk gq sk (ix5 b n g r 0)
      = max (Finset.univ.fold max (Ideal.ofBits .f32 0xFF800000#32) fun y : Fin 256 => val_main_v126 (F := Ideal) proj kv gk gq (ix5 b n g r y)) (sk (ix1 ⟨n.val * 3 + g.val, by omega⟩)) := by
  rw [val_main_v132_apply, val_main_v130_apply]
  unfold val_main_v129
  rw [hostMax5]
  refine congrArg₂ max rfl ?_
  pointwise [val_main_v127, val_main_v128, val_main_v131]

/-- The exponentials. -/
theorem ref_e (b : Fin 32) (n : Fin 4) (g : Fin 3) (r : Fin 128) (y : Fin 256) :
    val_main_v135 (F := Ideal) proj kv gk gq sk (ix5 b n g r y)
      = Ideal.exp (val_main_v126 (F := Ideal) proj kv gk gq (ix5 b n g r y) - val_main_v132 (F := Ideal) proj kv gk gq sk (ix5 b n g r 0)) := by
  pointwise [val_main_v133, val_main_v134, val_main_v135]

theorem ref_es (b : Fin 32) (n : Fin 4) (g : Fin 3) (r : Fin 128) :
    val_main_v138 (F := Ideal) proj kv gk gq sk (ix5 b n g r 0)
      = Ideal.exp (sk (ix1 ⟨n.val * 3 + g.val, by omega⟩) - val_main_v132 (F := Ideal) proj kv gk gq sk (ix5 b n g r 0)) := by
  pointwise [val_main_v127, val_main_v128, val_main_v136, val_main_v137, val_main_v138]

/-- The sum. -/
theorem ref_z (b : Fin 32) (n : Fin 4) (g : Fin 3) (r : Fin 128) :
    val_main_v141 (F := Ideal) proj kv gk gq sk (ix5 b n g r 0)
      = (∑ y : Fin 256, val_main_v135 (F := Ideal) proj kv gk gq sk (ix5 b n g r y)) + val_main_v138 (F := Ideal) proj kv gk gq sk (ix5 b n g r 0) := by
  pointwise [val_main_cst_36, val_main_v139, val_main_v140, val_main_v141]

/-- The probabilities. -/
theorem ref_p (b : Fin 32) (n : Fin 4) (g : Fin 3) (r : Fin 128) (y : Fin 256) :
    val_main_v143 (F := Ideal) proj kv gk gq sk (ix5 b n g r y)
      = Ideal.div (val_main_v135 (F := Ideal) proj kv gk gq sk (ix5 b n g r y)) (val_main_v141 (F := Ideal) proj kv gk gq sk (ix5 b n g r 0)) := by
  pointwise [val_main_v142, val_main_v143]

/-- The saved probabilities. -/
theorem ref_saved (b : Fin 32) (n : Fin 4) (g : Fin 3) (r : Fin 128) (y : Fin 256) :
    val_main_v160 (F := Ideal) proj kv gk gq sk (ix4 b n ⟨g.val * 128 + r.val, by omega⟩ y) = val_main_v143 (F := Ideal) proj kv gk gq sk (ix5 b n g r y) := by
  rw [val_main_v160_apply, Ideal.truncf_def]
  pointwise [val_main_v159]

/-- The saved probabilities of the sinks. -/
theorem ref_sink (b : Fin 32) (n : Fin 4) (g : Fin 3) (r : Fin 128) :
    val_main_v161 (F := Ideal) proj kv gk gq sk (ix2 ⟨b.val * 128 + r.val, by omega⟩ ⟨n.val * 3 + g.val, by omega⟩)
      = Ideal.div (val_main_v138 (F := Ideal) proj kv gk gq sk (ix5 b n g r 0)) (val_main_v141 (F := Ideal) proj kv gk gq sk (ix5 b n g r 0)) := by
  pointwise [val_main_v144, val_main_v157, val_main_v158, val_main_v161]
  rw [dif_pos ⟨by omega, by omega⟩]

/-- The lanes that hold no head. -/
theorem ref_rest (R : Fin 4096) (l : Fin 128) (h : 12 ≤ l.val) : val_main_v161 (F := Ideal) proj kv gk gq sk (ix2 R l) = Ideal.ofBits .f32 0x00000000#32 := by
  pointwise [val_main_c_38, val_main_call1_v0, val_main_v161]
  rw [dif_neg (by omega)]
  show (((0#32 : BitVec 32).toInt : ℝ) : EReal) = 0
  simp

/-- The read values. -/
theorem ref_o (b : Fin 31) (n : Fin 4) (g : Fin 3) (r : Fin 128) (i : Fin 64) :
    val_main_v156 (F := Ideal) proj kv gk gq sk (ix2 ⟨b.val * 128 + r.val, by omega⟩ ⟨(n.val * 3 + g.val) * 64 + i.val, by omega⟩)
      = ∑ y : Fin 256, val_main_v151 (F := Ideal) kv (ix4 ⟨b.val + 1, by omega⟩ y n i) * val_main_v143 (F := Ideal) proj kv gk gq sk (ix5 ⟨b.val + 1, by omega⟩ n g r y) := by
  rw [val_main_v156_apply, Ideal.truncf_def]
  pointwise [val_main_v152, val_main_v153, val_main_v154, val_main_v155]
  have e : (128 + (b.val * 128 + r.val)) / 128 = b.val + 1 := by omega
  simp only [e]

end stages

end Cert.Reference13Ideal.Proof

end
-- ==== Proof.SwaReal.lean ====
module

public import proofs.«01_k».proof.Proof.SwaRef

/-! The scores of the sliding-window attention's reference are real numbers when the gains are, and so are the softmax's terms when
the sinks are too. -/

@[expose] public section

set_option maxRecDepth 16384

noncomputable section

namespace Cert.Reference13Ideal.Proof

open Cert.Reference13Ideal Cert.Reference13Ideal.Gen Cert.Reference13Ideal.Read Idealize.ShloMosaic Idealize.SL.Sem
open Cert.Common

/-- Times the reciprocal of a positive sum is divided by it, for the terms and the sink of a softmax. -/
theorem softmax_sink {n : ℕ} (s : Fin (n + 1) → EReal) (k : EReal) (hs : ∀ j, ∃ x : ℝ, s j = x) (hk : ∃ x : ℝ, k = x) :
    (∀ i, Ideal.exp (s i - max (Finset.univ.fold max (⊥ : EReal) s) k)
        * Ideal.div ((1 : ℝ) : EReal) ((∑ j, Ideal.exp (s j - max (Finset.univ.fold max (⊥ : EReal) s) k)) + Ideal.exp (k - max (Finset.univ.fold max (⊥ : EReal) s) k))
      = Ideal.div (Ideal.exp (s i - max (Finset.univ.fold max (⊥ : EReal) s) k))
          ((∑ j, Ideal.exp (s j - max (Finset.univ.fold max (⊥ : EReal) s) k)) + Ideal.exp (k - max (Finset.univ.fold max (⊥ : EReal) s) k)))
    ∧ Ideal.exp (k - max (Finset.univ.fold max (⊥ : EReal) s) k)
        * Ideal.div ((1 : ℝ) : EReal) ((∑ j, Ideal.exp (s j - max (Finset.univ.fold max (⊥ : EReal) s) k)) + Ideal.exp (k - max (Finset.univ.fold max (⊥ : EReal) s) k))
      = Ideal.div (Ideal.exp (k - max (Finset.univ.fold max (⊥ : EReal) s) k))
          ((∑ j, Ideal.exp (s j - max (Finset.univ.fold max (⊥ : EReal) s) k)) + Ideal.exp (k - max (Finset.univ.fold max (⊥ : EReal) s) k)) := by
  obtain ⟨M, hM⟩ := max_real s hs
  obtain ⟨w, rfl⟩ := hk
  have hm : max (Finset.univ.fold max (⊥ : EReal) s) (w : EReal) = ((max M w : ℝ) : EReal) := by rw [hM]; exact (EReal.coe_strictMono.monotone.map_max).symm
  rw [hm]
  choose z hz using hs
  have he : ∀ j, ∃ u : ℝ, 0 < u ∧ Ideal.exp (s j - ((max M w : ℝ) : EReal)) = u := fun j => by rw [hz j]; exact exp_real (z j) _
  choose e he0 he using he
  obtain ⟨u, hu0, hu⟩ := exp_real w (max M w)
  have hS : (0 : ℝ) < (∑ j, e j) + u := add_pos_of_nonneg_of_pos (Finset.sum_nonneg fun y _ => (he0 y).le) hu0
  simp only [he, hu, coe_sum', ← EReal.coe_add]
  rw [Ideal.div_coe hS.ne']
  refine ⟨fun i => ?_, ?_⟩
  · rw [Ideal.div_coe hS.ne']
    simp only [← EReal.coe_mul, one_mul, one_div]
  · rw [Ideal.div_coe hS.ne']
    simp only [← EReal.coe_mul, one_mul, one_div]

section real
variable (proj : S4096x1024.Idx → EReal) (kv : S4096x512.Idx → EReal) (gk gq : S64.Idx → EReal) (sk : S12.Idx → EReal)

/-- A word whose exponent is not all ones is a real number. -/
theorem word_real (w : BitVec 32) (h : (w.extractLsb' 23 8).toNat ≠ 255) : ∃ x : ℝ, Ideal.ofBits .f32 w = x := by
  show ∃ x : ℝ, Ideal.ieee 8 23 w = x
  unfold Ideal.ieee
  dsimp only
  rw [if_neg (by exact h)]
  split <;> exact ⟨_, rfl⟩

/-- The window's keys are real numbers. -/
theorem keys_real (hk : ∀ i, ∃ x : ℝ, gk i = x) (b : Fin 32) (y : Fin 256) (n : Fin 4) (i : Fin 64) :
    ∃ x : ℝ, val_main_v35 (F := Ideal) kv gk (ix4 b y n i) = x := by
  obtain ⟨ε, hε, he⟩ := eps_f32
  have hR : ∀ R : Fin 4096, ∃ x : ℝ, val_main_v29 (F := Ideal) kv gk (ix3 R n i) = x := fun R => by
    obtain ⟨a, ha⟩ := norm_real (fun k : Fin 64 => kv (ix2 R ⟨n.val * 64 + k.val, by omega⟩)) (N := 64) (by norm_num) hε i
    obtain ⟨u, hu⟩ := hk (ix1 i)
    refine ⟨a * u, ?_⟩
    rw [ref_k, xk, n64_f32, he, ha, hu, EReal.coe_mul]
  by_cases hy : y.val < 128
  · by_cases hb : 0 < b.val
    · rw [show y = ⟨(⟨y.val, hy⟩ : Fin 128).val, y.isLt⟩ from rfl, k_prev kv gk b hb ⟨y.val, hy⟩ n i]
      exact hR _
    · obtain rfl : b = 0 := Fin.ext (by show b.val = 0; omega)
      rw [show y = ⟨(⟨y.val, hy⟩ : Fin 128).val, y.isLt⟩ from rfl, k_zero kv gk ⟨y.val, hy⟩ n i]
      exact ⟨0, rfl⟩
  · rw [show y = ⟨128 + (⟨y.val - 128, by omega⟩ : Fin 128).val, by show 128 + (y.val - 128) < 256; omega⟩ from Fin.ext (by show y.val = 128 + (y.val - 128); omega), k_cur kv gk b _ n i]
    exact hR _

/-- The scores are real numbers. -/
theorem scores_real (hk : ∀ i, ∃ x : ℝ, gk i = x) (hq : ∀ i, ∃ x : ℝ, gq i = x) (b : Fin 32) (n : Fin 4) (g : Fin 3) (r : Fin 128) (y : Fin 256) :
    ∃ x : ℝ, val_main_v126 (F := Ideal) proj kv gk gq (ix5 b n g r y) = x := by
  obtain ⟨ε, hε, he⟩ := eps_f32
  obtain ⟨z, hz⟩ := dot_real (fun x : Fin 64 => val_main_v35 (F := Ideal) kv gk (ix4 b y n x))
    (fun x : Fin 64 => val_main_v14 (F := Ideal) proj gq (ix3 ⟨b.val * 128 + r.val, by omega⟩ ⟨n.val * 3 + g.val, by omega⟩ x)) (fun x => keys_real kv gk hk b y n x)
    (fun x => by
      obtain ⟨a, ha⟩ := norm_real (fun k : Fin 64 => proj (ix2 (⟨b.val * 128 + r.val, by omega⟩ : Fin 4096) ⟨(n.val * 3 + g.val) * 64 + k.val, by omega⟩)) (N := 64) (by norm_num) hε x
      obtain ⟨u, hu⟩ := hq (ix1 x)
      refine ⟨a * u, ?_⟩
      show val_main_v14 (F := Ideal) proj gq (ix3 ⟨b.val * 128 + r.val, by omega⟩ ⟨n.val * 3 + g.val, by omega⟩ x) = _
      rw [ref_q, xq, n64_f32, he, ha, hu, EReal.coe_mul])
  obtain ⟨l, hl⟩ := word_real (words ⟨n.val * 3 + g.val, by omega⟩) (by generalize (⟨n.val * 3 + g.val, by omega⟩ : Fin 12) = h; revert h; decide +kernel)
  obtain ⟨v, hv⟩ := word_real 0xFF7FFFFF#32 (by decide +kernel)
  rw [ref_s, ref_dot, hz, ref_slope, hl, hv, eighth_f32]
  unfold Scalar.select
  split
  · refine ⟨z * (1 / 8) - l * ((val_main_v60 (F := Ideal) (ix3 b r y)).toInt : ℝ), ?_⟩
    rw [EReal.coe_sub, EReal.coe_mul, EReal.coe_mul]
    rfl
  · exact ⟨v, rfl⟩

end real

end Cert.Reference13Ideal.Proof

end
-- ==== Proof.SwaKern.lean ====
module

public import proofs.«01_k».proof.Proof.SwaPoint
public import proofs.«01_k».proof.Proof.SwaReal
public import proofs.«01_k».proof.Proof.Gen.Kernel13Ideal.Frame
public import Idealize.ShloMosaic.Lib.Pipeline.ReadBack

/-! The sliding-window attention, forward: what a point reads, and that its scores and values are the reference's. -/

@[expose] public section

set_option maxRecDepth 16384

noncomputable section

namespace Cert.Kernel13Ideal.Proof

open Cert.Kernel13Ideal Cert.Kernel13Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The projection. -/
abbrev Proj (c : Dev nD) : S4096x1024.Idx → EReal := m ((c : Thread nD τ).loc main_arg0)
/-- The keys and values. -/
abbrev Kv (c : Dev nD) : S4096x512.Idx → EReal := m ((c : Thread nD τ).loc main_arg1)
/-- The keys' gain. -/
abbrev Gk (c : Dev nD) : S64.Idx → EReal := m ((c : Thread nD τ).loc main_arg2)
/-- The queries' gain. -/
abbrev Gq (c : Dev nD) : S64.Idx → EReal := m ((c : Thread nD τ).loc main_arg3)
/-- The sinks. -/
abbrev Sk (c : Dev nD) : S12.Idx → EReal := m ((c : Thread nD τ).loc main_arg4)

/-- A point's block of the sequence. -/
abbrev bt (t : Fin cfg0.N) : Fin 32 := ⟨t.val, t.isLt⟩

/-- The windows' block indices. -/
theorem idx : ∀ t : Fin cfg0.N, win0_0.index t 0 = t.val ∧ win0_0.index t 1 = 0 ∧ win0_1.index t 0 = t.val - 1 ∧ win0_1.index t 1 = 0 ∧ win0_2.index t 0 = t.val ∧ win0_2.index t 1 = 0
    ∧ win0_3.index t 0 = t.val - 1 ∧ win0_3.index t 1 = 0 ∧ win0_4.index t 0 = t.val ∧ win0_4.index t 1 = 0 ∧ (∀ i, win0_5.index t i = 0) ∧ (∀ i, win0_6.index t i = 0)
    ∧ win0_7.index t 0 = t.val ∧ win0_7.index t 1 = 0 ∧ win0_8.index t = ![t.val, 0, 0, 0] ∧ win0_9.index t 0 = t.val ∧ win0_9.index t 1 = 0 :=
  (by decide +kernel : ∀ t : Fin grid0.N, win0_0.index t 0 = t.val ∧ win0_0.index t 1 = 0 ∧ win0_1.index t 0 = t.val - 1 ∧ win0_1.index t 1 = 0 ∧ win0_2.index t 0 = t.val ∧ win0_2.index t 1 = 0
    ∧ win0_3.index t 0 = t.val - 1 ∧ win0_3.index t 1 = 0 ∧ win0_4.index t 0 = t.val ∧ win0_4.index t 1 = 0 ∧ (∀ i, win0_5.index t i = 0) ∧ (∀ i, win0_6.index t i = 0)
    ∧ win0_7.index t 0 = t.val ∧ win0_7.index t 1 = 0 ∧ win0_8.index t = ![t.val, 0, 0, 0] ∧ win0_9.index t 0 = t.val ∧ win0_9.index t 1 = 0)

theorem coord : ∀ t : Fin grid0.N, (grid0.coords t 0).val = t.val := by decide +kernel

theorem a_read (c : Dev nD) (t : Fin cfg0.N) (r : Fin 128) (x : Fin 768) :
    X0_0 m c t (ix2 r x) = Proj m c (ix2 ⟨t.val * 128 + r.val, by have : t.val < 32 := t.isLt; omega⟩ ⟨x.val, by omega⟩) := by
  have h : ∀ j : S4096x1024.Idx, j = ix2 ⟨t.val * 128 + r.val, by have : t.val < 32 := t.isLt; omega⟩ ⟨x.val, by omega⟩ → V m c main_arg0 j = Proj m c (ix2 ⟨t.val * 128 + r.val, by have : t.val < 32 := t.isLt; omega⟩ ⟨x.val, by omega⟩) := by
    rintro _ rfl
    rw [V_main_arg0]
  unfold X0_0 Pipeline.Window.fill
  rw [dif_pos (moved0_0 t _)]
  refine h _ ?_
  blk_ext [idx t]

theorem q_read (c : Dev nD) (t : Fin cfg0.N) (i : Fin 64) : iblk m c 5 t (ix2 0 i) = Gq m c (ix1 i) := by
  have h : ∀ j : S1x64.Idx, j = ix2 0 i → V m c main_v59 j = Gq m c (ix1 i) := by
    rintro _ rfl
    unfold V V0
    simp only [hostOps0, hostOps0_1, hostOps0_2, List.flatten_cons, List.flatten_nil, List.append_nil, List.cons_append, List.nil_append]
    entry_read
    pointwise []
  refine h _ ?_
  blk_ext [idx t]

/-- The sinks, padded to a row of lanes. -/
theorem s_arr (c : Dev nD) : V m c main_v58 = pad S1x128 ![0, 0] ![0, 116] ![0, 0] (shapeCast S1x12 (Sk m c) shapeCasts_S12_S1x12)
    (sitofp (F := Ideal) .f32 (constantI S_ 32 0#32)) pads_S1x12_S1x128_000_01160 h_S_ := by
  unfold V V0
  simp only [hostOps0, hostOps0_1, hostOps0_2, List.flatten_cons, List.flatten_nil, List.append_nil, List.cons_append, List.nil_append]
  entry_read
  rfl

theorem pad_at (s : S12.Idx → EReal) (h : Fin 12) : pad S1x128 ![0, 0] ![0, 116] ![0, 0] (shapeCast S1x12 s shapeCasts_S12_S1x12)
    (sitofp (F := Ideal) .f32 (constantI S_ 32 0#32)) pads_S1x12_S1x128_000_01160 h_S_ (ix2 0 ⟨h.val, by omega⟩) = s (ix1 h) := by
  pointwise []
  try rw [dif_pos (by omega)]

theorem s_read (c : Dev nD) (t : Fin cfg0.N) (h : Fin 12) : iblk m c 6 t (ix2 0 ⟨h.val, by omega⟩) = Sk m c (ix1 h) := by
  have e : ∀ j : S1x128.Idx, j = ix2 0 ⟨h.val, by omega⟩ → V m c main_v58 j = Sk m c (ix1 h) := by
    rintro _ rfl
    rw [s_arr]
    exact pad_at _ h
  refine e _ ?_
  blk_ext [idx t]

/-- A head's keys, normalised, as the host makes them. -/
def hd (x : FVec Ideal S4096x64 .f32) (g : FVec Ideal S64 .f32) : FVec Ideal S4096x64 .f32 :=
  mulf (mulf x (broadcastInDim S4096x64 ![0, 1] bcast_S4096x1_S4096x64_0_1 (Host.rsqrt (addf (Host.divf (broadcastInDim S4096x1 ![0] bcast_S4096_S4096x1_0
    (Host.reduceAdd (mulf x x) (constant S_ .f32 0x00000000#32) reducesTo_S4096x64_S4096_d1 h_S_)) (broadcastInDim S4096x1 ![] bcast_S_S4096x1 (constant S_ .f32 0x42800000#32)))
    (broadcastInDim S4096x1 ![] bcast_S_S4096x1 (constant S_ .f32 0x358637BD#32))))))
    (broadcastInDim S4096x64 ![0, 1] bcast_S1x64_S4096x64_0_1 (shapeCast S1x64 g shapeCasts_S64_S1x64))

/-- An entry of a head's keys. -/
theorem hd_at (x : S4096x64.Idx → EReal) (g : S64.Idx → EReal) (R : Fin 4096) (i : Fin 64) :
    hd x g (ix2 R i) = x (ix2 R i) * Ideal.rsqrt (Ideal.div (∑ k : Fin 64, x (ix2 R k) * x (ix2 R k)) (Ideal.ofBits .f32 0x42800000#32) + Ideal.ofBits .f32 0x358637BD#32) * g (ix1 i) := by
  pointwise [hd]

/-- The four heads' keys side by side. -/
abbrev kcat (k : FVec Ideal S4096x512 .f32) (g : FVec Ideal S64 .f32) : FVec Ideal S4096x256 .bf16 :=
  truncf .bf16 (concatenate S4096x256 1
    [⟨S4096x64, hd (extractStridedSlice S4096x64 ![0, 0] k slices_S4096x512_S4096x64_0_0) g⟩, ⟨S4096x64, hd (extractStridedSlice S4096x64 ![0, 64] k slices_S4096x512_S4096x64_0_64) g⟩,
     ⟨S4096x64, hd (extractStridedSlice S4096x64 ![0, 128] k slices_S4096x512_S4096x64_0_128) g⟩, ⟨S4096x64, hd (extractStridedSlice S4096x64 ![0, 192] k slices_S4096x512_S4096x64_0_192) g⟩]
    concatenates_S4096x64_S4096x64_S4096x64_S4096x64_S4096x256_d1 : FVec Ideal S4096x256 .f32) bitsLt_bf16_f32

/-- The keys the call is given. -/
theorem kn_whole (c : Dev nD) : V m c main_v54 = kcat (Kv m c) (Gk m c) := by
  rfl

/-- An entry of them. -/
theorem kcat_at (k : S4096x512.Idx → EReal) (g : S64.Idx → EReal) (R : Fin 4096) (n : Fin 4) (i : Fin 64) :
    kcat k g (ix2 R ⟨n.val * 64 + i.val, by omega⟩) = Cert.Reference13Ideal.Read.val_main_v29 (F := Ideal) k g (ix3 R n i) := by
  rw [Cert.Reference13Ideal.Proof.ref_k]
  match n with
  | ⟨0, _⟩ => exact Eq.trans (b := hd (extractStridedSlice S4096x64 ![0, 0] k slices_S4096x512_S4096x64_0_0) g (ix2 R i)) (by pointwise [kcat]) (by rw [hd_at]; pointwise [Cert.Reference13Ideal.Proof.xk])
  | ⟨1, _⟩ => exact Eq.trans (b := hd (extractStridedSlice S4096x64 ![0, 64] k slices_S4096x512_S4096x64_0_64) g (ix2 R i)) (by pointwise [kcat]) (by rw [hd_at]; pointwise [Cert.Reference13Ideal.Proof.xk])
  | ⟨2, _⟩ =>
    refine Eq.trans (b := hd (extractStridedSlice S4096x64 ![0, 128] k slices_S4096x512_S4096x64_0_128) g (ix2 R i)) ?_ (by rw [hd_at]; pointwise [Cert.Reference13Ideal.Proof.xk])
    pointwise [kcat]
    rw [dif_neg (by omega), dif_neg (by omega), dif_pos (by omega)]
    have e : 128 + i.val - 64 - 64 = i.val := by omega
    simp only [e]
  | ⟨3, _⟩ =>
    refine Eq.trans (b := hd (extractStridedSlice S4096x64 ![0, 192] k slices_S4096x512_S4096x64_0_192) g (ix2 R i)) ?_ (by rw [hd_at]; pointwise [Cert.Reference13Ideal.Proof.xk])
    pointwise [kcat]
    rw [dif_neg (by omega), dif_neg (by omega), dif_neg (by omega)]
    have e : 192 + i.val - 64 - 64 - 64 = i.val := by omega
    simp only [e]

/-- The normalised keys the call is given. -/
theorem kn_arr (c : Dev nD) (R : Fin 4096) (n : Fin 4) (i : Fin 64) :
    V m c main_v54 (ix2 R ⟨n.val * 64 + i.val, by omega⟩) = Cert.Reference13Ideal.Read.val_main_v29 (F := Ideal) (Kv m c) (Gk m c) (ix3 R n i) := by
  rw [kn_whole]
  exact kcat_at _ _ R n i

theorem v_arr (c : Dev nD) (R : Fin 4096) (x : Fin 256) : V m c main_v56 (ix2 R x) = Kv m c (ix2 R ⟨256 + x.val, by omega⟩) := by
  unfold V V0
  simp only [hostOps0, hostOps0_1, hostOps0_2, List.flatten_cons, List.flatten_nil, List.append_nil, List.cons_append, List.nil_append]
  entry_read
  pointwise []

/-- The two blocks' rows one under the other. -/
theorem k_low (a b : S128x256.Idx → EReal) (y : Fin 128) (x : Fin 256) : k0_pay6 (F := Ideal) a b (ix2 ⟨y.val, by omega⟩ x) = a (ix2 y x) := by
  pointwise [k0_pay6]
theorem k_high (a b : S128x256.Idx → EReal) (y : Fin 128) (x : Fin 256) : k0_pay6 (F := Ideal) a b (ix2 ⟨128 + y.val, by omega⟩ x) = b (ix2 y x) := by
  pointwise [k0_pay6]
theorem v_low (a b : S128x256.Idx → EReal) (y : Fin 128) (x : Fin 256) : k0_pay7 (F := Ideal) a b (ix2 ⟨y.val, by omega⟩ x) = a (ix2 y x) := by
  pointwise [k0_pay7]
theorem v_high (a b : S128x256.Idx → EReal) (y : Fin 128) (x : Fin 256) : k0_pay7 (F := Ideal) a b (ix2 ⟨128 + y.val, by omega⟩ x) = b (ix2 y x) := by
  pointwise [k0_pay7]

/-- The keys of a point's window. -/
abbrev KA (c : Dev nD) (t : Fin cfg0.N) : S256x256.Idx → EReal := k0_pay6 (F := Ideal) (iblk m c 1 t) (iblk m c 2 t)
/-- The values of a point's window. -/
abbrev VA (c : Dev nD) (t : Fin cfg0.N) : S256x256.Idx → EReal := k0_pay7 (F := Ideal) (iblk m c 3 t) (iblk m c 4 t)
/-- The queries' gain as a point reads it. -/
abbrev QA (c : Dev nD) (t : Fin cfg0.N) : S1x64.Idx → EReal := k0_pay8 (F := Ideal) (iblk m c 5 t)
/-- The sinks as a point reads them. -/
abbrev SA (c : Dev nD) (t : Fin cfg0.N) : S1x128.Idx → EReal := k0_pay9 (F := Ideal) (iblk m c 6 t)

theorem q_at (c : Dev nD) (t : Fin cfg0.N) (i : Fin 64) : QA m c t (ix2 0 i) = Gq m c (ix1 i) := by
  have h : ∀ w : S1x64.Idx → EReal, k0_pay8 (F := Ideal) w (ix2 0 i) = w (ix2 0 i) := fun w => by pointwise [k0_pay8]
  exact (h _).trans (q_read m c t i)

theorem s_at (c : Dev nD) (t : Fin cfg0.N) (h : Fin 12) : SA m c t (ix2 0 ⟨h.val, by omega⟩) = Sk m c (ix1 h) := by
  have e : ∀ w : S1x128.Idx → EReal, k0_pay9 (F := Ideal) w (ix2 0 ⟨h.val, by omega⟩) = w (ix2 0 ⟨h.val, by omega⟩) := fun w => by pointwise [k0_pay9]
  exact (e _).trans (s_read m c t h)

theorem k_prev_read (c : Dev nD) (t : Fin cfg0.N) (y : Fin 128) (n : Fin 4) (i : Fin 64) : iblk m c 1 t (ix2 y ⟨n.val * 64 + i.val, by omega⟩)
    = Cert.Reference13Ideal.Read.val_main_v29 (F := Ideal) (Kv m c) (Gk m c) (ix3 ⟨(t.val - 1) * 128 + y.val, by have : t.val < 32 := t.isLt; omega⟩ n i) := by
  have h : ∀ j : S4096x256.Idx, j = ix2 ⟨(t.val - 1) * 128 + y.val, by have : t.val < 32 := t.isLt; omega⟩ ⟨n.val * 64 + i.val, by omega⟩ → V m c main_v54 j
      = Cert.Reference13Ideal.Read.val_main_v29 (F := Ideal) (Kv m c) (Gk m c) (ix3 ⟨(t.val - 1) * 128 + y.val, by have : t.val < 32 := t.isLt; omega⟩ n i) := by
    rintro _ rfl
    exact kn_arr m c _ n i
  refine h _ ?_
  blk_ext [idx t]

theorem k_cur_read (c : Dev nD) (t : Fin cfg0.N) (y : Fin 128) (n : Fin 4) (i : Fin 64) : iblk m c 2 t (ix2 y ⟨n.val * 64 + i.val, by omega⟩)
    = Cert.Reference13Ideal.Read.val_main_v29 (F := Ideal) (Kv m c) (Gk m c) (ix3 ⟨t.val * 128 + y.val, by have : t.val < 32 := t.isLt; omega⟩ n i) := by
  have h : ∀ j : S4096x256.Idx, j = ix2 ⟨t.val * 128 + y.val, by have : t.val < 32 := t.isLt; omega⟩ ⟨n.val * 64 + i.val, by omega⟩ → V m c main_v54 j
      = Cert.Reference13Ideal.Read.val_main_v29 (F := Ideal) (Kv m c) (Gk m c) (ix3 ⟨t.val * 128 + y.val, by have : t.val < 32 := t.isLt; omega⟩ n i) := by
    rintro _ rfl
    exact kn_arr m c _ n i
  refine h _ ?_
  blk_ext [idx t]

theorem v_prev_read (c : Dev nD) (t : Fin cfg0.N) (y : Fin 128) (x : Fin 256) : iblk m c 3 t (ix2 y x)
    = Kv m c (ix2 ⟨(t.val - 1) * 128 + y.val, by have : t.val < 32 := t.isLt; omega⟩ ⟨256 + x.val, by omega⟩) := by
  have h : ∀ j : S4096x256.Idx, j = ix2 ⟨(t.val - 1) * 128 + y.val, by have : t.val < 32 := t.isLt; omega⟩ x → V m c main_v56 j
      = Kv m c (ix2 ⟨(t.val - 1) * 128 + y.val, by have : t.val < 32 := t.isLt; omega⟩ ⟨256 + x.val, by omega⟩) := by
    rintro _ rfl
    exact v_arr m c _ x
  refine h _ ?_
  blk_ext [idx t]

theorem v_cur_read (c : Dev nD) (t : Fin cfg0.N) (y : Fin 128) (x : Fin 256) : iblk m c 4 t (ix2 y x)
    = Kv m c (ix2 ⟨t.val * 128 + y.val, by have : t.val < 32 := t.isLt; omega⟩ ⟨256 + x.val, by omega⟩) := by
  have h : ∀ j : S4096x256.Idx, j = ix2 ⟨t.val * 128 + y.val, by have : t.val < 32 := t.isLt; omega⟩ x → V m c main_v56 j
      = Kv m c (ix2 ⟨t.val * 128 + y.val, by have : t.val < 32 := t.isLt; omega⟩ ⟨256 + x.val, by omega⟩) := by
    rintro _ rfl
    exact v_arr m c _ x
  refine h _ ?_
  blk_ext [idx t]

/-- A row of the window is one of the block before or one of the block's own. -/
theorem window (y : Fin 256) : (∃ z : Fin 128, y = ⟨z.val, by omega⟩) ∨ ∃ z : Fin 128, y = ⟨128 + z.val, by omega⟩ := by
  by_cases h : y.val < 128
  · exact .inl ⟨⟨y.val, h⟩, rfl⟩
  · exact .inr ⟨⟨y.val - 128, by omega⟩, Fin.ext (by show y.val = 128 + (y.val - 128); omega)⟩

/-- The keys of the window are the reference's, but before the first block. -/
theorem keys_at (c : Dev nD) (t : Fin cfg0.N) (y : Fin 256) (n : Fin 4) (i : Fin 64) (h : 0 < t.val ∨ 128 ≤ y.val) :
    KA m c t (ix2 y ⟨n.val * 64 + i.val, by omega⟩) = Cert.Reference13Ideal.Read.val_main_v35 (F := Ideal) (Kv m c) (Gk m c) (ix4 (bt t) y n i) := by
  rcases window y with ⟨z, rfl⟩ | ⟨z, rfl⟩
  · have hz := z.isLt
    have ht : 0 < t.val := by rcases h with h | h; exacts [h, absurd (show 128 ≤ z.val from h) (by omega)]
    exact (k_low _ _ z _).trans ((k_prev_read m c t z n i).trans (Cert.Reference13Ideal.Proof.k_prev (Kv m c) (Gk m c) (bt t) ht z n i).symm)
  · exact (k_high _ _ z _).trans ((k_cur_read m c t z n i).trans (Cert.Reference13Ideal.Proof.k_cur (Kv m c) (Gk m c) (bt t) z n i).symm)

/-- The values of the window are the reference's, but before the first block. -/
theorem values_at (c : Dev nD) (t : Fin cfg0.N) (y : Fin 256) (n : Fin 4) (i : Fin 64) (h : 0 < t.val) :
    VA m c t (ix2 y ⟨n.val * 64 + i.val, by omega⟩) = Cert.Reference13Ideal.Read.val_main_v151 (F := Ideal) (Kv m c) (ix4 (bt t) y n i) := by
  rcases window y with ⟨z, rfl⟩ | ⟨z, rfl⟩
  · exact (v_low _ _ z _).trans ((v_prev_read m c t z _).trans (Cert.Reference13Ideal.Proof.v_prev (Kv m c) (bt t) h z n i).symm)
  · exact (v_high _ _ z _).trans ((v_cur_read m c t z _).trans (Cert.Reference13Ideal.Proof.v_cur (Kv m c) (bt t) z n i).symm)

/-- The distance of a row and a key. -/
theorem dist_at (b : Fin 32) (r : Fin 128) (y : Fin 256) : k0_pay11 (ix2 r y) = Cert.Reference13Ideal.Read.val_main_v60 (F := Ideal) (ix3 b r y) := by
  rw [Cert.Reference13Ideal.Proof.ref_dist]
  pointwise [k0_pay11]

/-- The mask of a point. -/
theorem mask_at (i : grid0.Coords) (b : Fin 32) (hb : (i 0).val = b.val) (r : Fin 128) (y : Fin 256) :
    k0_pay12 i (ix2 r y) = Cert.Reference13Ideal.Read.val_main_v70 (F := Ideal) (ix3 b r y) := by
  rw [Cert.Reference13Ideal.Proof.ref_mask, ← hb]
  pointwise [k0_pay12, k0_pay11]

/-- The unmasked scores are the reference's, where the keys are. -/
theorem dot_at (c : Dev nD) (t : Fin cfg0.N) (n : Fin 4) (g : Fin 3) (r : Fin 128) (y : Fin 256) (h : 0 < t.val ∨ 128 ≤ y.val) :
    sc (X0_0 m c t) (QA m c t) (KA m c t) n g r y
      = Cert.Reference13Ideal.Read.val_main_v39 (F := Ideal) (Proj m c) (Kv m c) (Gk m c) (Gq m c) (ix5 (bt t) n g r y) := by
  rw [Cert.Reference13Ideal.Proof.ref_dot, mul_comm, eighth_f32, const_mul_sum _ _ (by norm_num)]
  refine Finset.sum_congr rfl fun x _ => ?_
  rw [keys_at m c t y n x h, q_at, Cert.Reference13Ideal.Proof.ref_q, eighth_f32]
  simp only [a_read]
  unfold Cert.Reference13Ideal.Proof.xq
  dsimp only
  ac_rfl

/-- The scores of a point are the reference's. -/
theorem s_eq (c : Dev nD) (t : Fin cfg0.N) (n : Fin 4) (g : Fin 3) (r : Fin 128) (y : Fin 256) :
    ms (grid0.coords t) (X0_0 m c t) (QA m c t) (KA m c t) n g r y
      = Cert.Reference13Ideal.Read.val_main_v126 (F := Ideal) (Proj m c) (Kv m c) (Gk m c) (Gq m c) (ix5 (bt t) n g r y) := by
  rw [Cert.Reference13Ideal.Proof.ref_s, ms, mask_at (grid0.coords t) (bt t) (coord t) r y, dist_at (bt t) r y]
  by_cases h : 0 < t.val ∨ 128 ≤ y.val
  · rw [dot_at m c t n g r y h, Cert.Reference13Ideal.Proof.ref_slope]
    rfl
  · have ht : bt t = 0 := Fin.ext (by show t.val = 0; omega)
    have hy : y.val < 128 := by omega
    have hm := Cert.Reference13Ideal.Proof.mask_zero r ⟨y.val, hy⟩
    rw [ht]
    rw [show Cert.Reference13Ideal.Read.val_main_v70 (F := Ideal) (ix3 0 r y) = 0#1 from hm]
    rfl

end Cert.Kernel13Ideal.Proof

end
-- ==== Proof.SwaFwd.lean ====
module

public import proofs.«01_k».proof.Defs
public import proofs.«01_k».proof.Proof.MemFwd
public import proofs.«01_k».proof.Proof.SwaKern
public import proofs.«01_k».proof.Proof.Gen.Reference13Ideal.Run
public import proofs.«01_k».proof.Proof.Gen.Pre_gains_and_sinks_finite

/-! The value of the sliding-window attention, forward. -/

@[expose] public section

set_option maxRecDepth 16384

noncomputable section

namespace Cert.Kernel13Ideal.Proof

open Cert.Kernel13Ideal Cert.Kernel13Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The probabilities of a group, as a point makes them. -/
abbrev PA (c : Dev nD) (t : Fin cfg0.N) : Fin 4 → S384x256.Idx → EReal
  | 0 => P0 (grid0.coords t) (KA m c t) (X0_0 m c t) (QA m c t) (SA m c t)
  | 1 => P1 (grid0.coords t) (KA m c t) (X0_0 m c t) (QA m c t) (SA m c t)
  | 2 => P2 (grid0.coords t) (KA m c t) (X0_0 m c t) (QA m c t) (SA m c t)
  | 3 => P3 (grid0.coords t) (KA m c t) (X0_0 m c t) (QA m c t) (SA m c t)

/-- What a point stores of the read values. -/
theorem o_at (c : Dev nD) (t : Fin cfg0.N) :
    (outsAt0 m c t).1 = oOf (grid0.coords t) (KA m c t) (VA m c t) (X0_0 m c t) (QA m c t) (SA m c t) := by
  unfold outsAt0
  funext y
  frame_out

/-- What a point stores of the sinks' probabilities. -/
theorem z_at (c : Dev nD) (t : Fin cfg0.N) :
    (outsAt0 m c t).2.2 = zOf (grid0.coords t) (KA m c t) (X0_0 m c t) (QA m c t) (SA m c t) := by
  unfold outsAt0
  funext y
  frame_out

/-- A group's block of the probabilities. -/
theorem block_at (v : S384x256.Idx → EReal) (j : S1x1x384x256.Idx) : shapeCast S1x1x384x256 v shapeCasts_S384x256_S1x1x384x256 j = v (ix2 (j 2) (j 3)) := by
  obtain ⟨R, y, rfl⟩ : ∃ (R : Fin 384) (y : Fin 256), j = ix4 0 0 R y := ⟨j 2, j 3, by blk_ext⟩
  pointwise []

/-- What a point stores of the probabilities. -/
theorem p_at (c : Dev nD) (t : Fin cfg0.N) (y : S1x4x384x256.Idx) : (outsAt0 m c t).2.1 y = PA m c t (y 1) (ix2 (y 2) (y 3)) := by
  unfold outsAt0
  frame_out
  canon_tiles x h
  case piece0 => exact (block_at _ x).trans (congrArg₂ (PA m c t) (show (3 : Fin 4) = y 1 from Fin.ext (show 3 = (y 1).val by omega)) (congrArg₂ ix2 (Fin.ext h2.symm) (Fin.ext h3.symm)))
  case piece1 => exact (block_at _ x).trans (congrArg₂ (PA m c t) (show (2 : Fin 4) = y 1 from Fin.ext (show 2 = (y 1).val by omega)) (congrArg₂ ix2 (Fin.ext h2.symm) (Fin.ext h3.symm)))
  case piece2 => exact (block_at _ x).trans (congrArg₂ (PA m c t) (show (1 : Fin 4) = y 1 from Fin.ext (show 1 = (y 1).val by omega)) (congrArg₂ ix2 (Fin.ext h2.symm) (Fin.ext h3.symm)))
  case piece3 => exact (block_at _ x).trans (congrArg₂ (PA m c t) (show (0 : Fin 4) = y 1 from Fin.ext (show 0 = (y 1).val by omega)) (congrArg₂ ix2 (Fin.ext h2.symm) (Fin.ext h3.symm)))

section values
variable (c : Dev nD) (hk : ∀ i, ∃ x : ℝ, Gk m c i = x) (hq : ∀ i, ∃ x : ℝ, Gq m c i = x) (hs : ∀ i, ∃ x : ℝ, Sk m c i = x)
include hq hk hs

/-- The probabilities of scores that are the reference's are the reference's. -/
theorem pr_eq (S : S384x256.Idx → EReal) (k : S384x1.Idx → EReal) (b : Fin 32) (n : Fin 4) (g : Fin 3) (r : Fin 128)
    (hS : ∀ y, S (ix2 ⟨g.val * 128 + r.val, by omega⟩ y) = Cert.Reference13Ideal.Read.val_main_v126 (F := Ideal) (Proj m c) (Kv m c) (Gk m c) (Gq m c) (ix5 b n g r y))
    (hK : k (ix2 ⟨g.val * 128 + r.val, by omega⟩ 0) = Sk m c (ix1 ⟨n.val * 3 + g.val, by omega⟩)) :
    (∀ y, pr S k ⟨g.val * 128 + r.val, by omega⟩ y = Cert.Reference13Ideal.Read.val_main_v143 (F := Ideal) (Proj m c) (Kv m c) (Gk m c) (Gq m c) (Sk m c) (ix5 b n g r y))
    ∧ ps S k ⟨g.val * 128 + r.val, by omega⟩ = Ideal.div (Cert.Reference13Ideal.Read.val_main_v138 (F := Ideal) (Proj m c) (Kv m c) (Gk m c) (Gq m c) (Sk m c) (ix5 b n g r 0))
        (Cert.Reference13Ideal.Read.val_main_v141 (F := Ideal) (Proj m c) (Kv m c) (Gk m c) (Gq m c) (Sk m c) (ix5 b n g r 0)) := by
  have h := Cert.Reference13Ideal.Proof.softmax_sink (n := 255) (fun y => Cert.Reference13Ideal.Read.val_main_v126 (F := Ideal) (Proj m c) (Kv m c) (Gk m c) (Gq m c) (ix5 b n g r y))
    (Sk m c (ix1 ⟨n.val * 3 + g.val, by omega⟩)) (Cert.Reference13Ideal.Proof.scores_real (Proj m c) (Kv m c) (Gk m c) (Gq m c) hk hq b n g r) (hs _)
  simp only [Cert.Reference13Ideal.Proof.ref_p, Cert.Reference13Ideal.Proof.ref_z, Cert.Reference13Ideal.Proof.ref_e, Cert.Reference13Ideal.Proof.ref_es, Cert.Reference13Ideal.Proof.ref_m, pr, ps, iv, mx, hS, hK, ninf_f32, one_f32]
  exact h

/-- A point's probabilities are the reference's. -/
theorem p_eq (t : Fin cfg0.N) (n : Fin 4) (g : Fin 3) (r : Fin 128) (y : Fin 256) : PA m c t n (ix2 ⟨g.val * 128 + r.val, by omega⟩ y)
    = Cert.Reference13Ideal.Read.val_main_v143 (F := Ideal) (Proj m c) (Kv m c) (Gk m c) (Gq m c) (Sk m c) (ix5 (bt t) n g r y) := by
  match n with
  | ⟨0, _⟩ => exact (p0_at _ _ _ _ _ _ y).trans ((pr_eq m c hk hq hs _ _ (bt t) 0 g r (fun y => (s0_at _ _ _ _ g r y).trans (s_eq m c t 0 g r y)) ((k0_at _ g r).trans (s_at m c t ⟨0 * 3 + g.val, by omega⟩))).1 y)
  | ⟨1, _⟩ => exact (p1_at _ _ _ _ _ _ y).trans ((pr_eq m c hk hq hs _ _ (bt t) 1 g r (fun y => (s1_at _ _ _ _ g r y).trans (s_eq m c t 1 g r y)) ((k1_at _ g r).trans (s_at m c t ⟨1 * 3 + g.val, by omega⟩))).1 y)
  | ⟨2, _⟩ => exact (p2_at _ _ _ _ _ _ y).trans ((pr_eq m c hk hq hs _ _ (bt t) 2 g r (fun y => (s2_at _ _ _ _ g r y).trans (s_eq m c t 2 g r y)) ((k2_at _ g r).trans (s_at m c t ⟨2 * 3 + g.val, by omega⟩))).1 y)
  | ⟨3, _⟩ => exact (p3_at _ _ _ _ _ _ y).trans ((pr_eq m c hk hq hs _ _ (bt t) 3 g r (fun y => (s3_at _ _ _ _ g r y).trans (s_eq m c t 3 g r y)) ((k3_at _ g r).trans (s_at m c t ⟨3 * 3 + g.val, by omega⟩))).1 y)

/-- A point's probabilities of the sinks are the reference's. -/
theorem z_eq (t : Fin cfg0.N) (n : Fin 4) (g : Fin 3) (r : Fin 128) : zOf (grid0.coords t) (KA m c t) (X0_0 m c t) (QA m c t) (SA m c t) (ix2 r ⟨n.val * 3 + g.val, by omega⟩)
    = Ideal.div (Cert.Reference13Ideal.Read.val_main_v138 (F := Ideal) (Proj m c) (Kv m c) (Gk m c) (Gq m c) (Sk m c) (ix5 (bt t) n g r 0))
        (Cert.Reference13Ideal.Read.val_main_v141 (F := Ideal) (Proj m c) (Kv m c) (Gk m c) (Gq m c) (Sk m c) (ix5 (bt t) n g r 0)) := by
  match n with
  | ⟨0, _⟩ => exact (z0_at _ _ _ _ _ r g).trans (pr_eq m c hk hq hs _ _ (bt t) 0 g r (fun y => (s0_at _ _ _ _ g r y).trans (s_eq m c t 0 g r y)) ((k0_at _ g r).trans (s_at m c t ⟨0 * 3 + g.val, by omega⟩))).2
  | ⟨1, _⟩ => exact (z1_at _ _ _ _ _ r g).trans (pr_eq m c hk hq hs _ _ (bt t) 1 g r (fun y => (s1_at _ _ _ _ g r y).trans (s_eq m c t 1 g r y)) ((k1_at _ g r).trans (s_at m c t ⟨1 * 3 + g.val, by omega⟩))).2
  | ⟨2, _⟩ => exact (z2_at _ _ _ _ _ r g).trans (pr_eq m c hk hq hs _ _ (bt t) 2 g r (fun y => (s2_at _ _ _ _ g r y).trans (s_eq m c t 2 g r y)) ((k2_at _ g r).trans (s_at m c t ⟨2 * 3 + g.val, by omega⟩))).2
  | ⟨3, _⟩ => exact (z3_at _ _ _ _ _ r g).trans (pr_eq m c hk hq hs _ _ (bt t) 3 g r (fun y => (s3_at _ _ _ _ g r y).trans (s_eq m c t 3 g r y)) ((k3_at _ g r).trans (s_at m c t ⟨3 * 3 + g.val, by omega⟩))).2

omit hk hq hs in
/-- A point's read values, by group. -/
theorem o_sum (t : Fin cfg0.N) (r : Fin 128) (n : Fin 4) (g : Fin 3) (x : Fin 64) :
    oOf (grid0.coords t) (KA m c t) (VA m c t) (X0_0 m c t) (QA m c t) (SA m c t) (ix2 r ⟨(n.val * 3 + g.val) * 64 + x.val, by omega⟩)
      = ∑ y : Fin 256, PA m c t n (ix2 ⟨g.val * 128 + r.val, by omega⟩ y) * VA m c t (ix2 y ⟨n.val * 64 + x.val, by omega⟩) := by
  match n with
  | ⟨0, _⟩ => exact o0_at _ _ _ _ _ _ r g x
  | ⟨1, _⟩ => exact o1_at _ _ _ _ _ _ r g x
  | ⟨2, _⟩ => exact o2_at _ _ _ _ _ _ r g x
  | ⟨3, _⟩ => exact o3_at _ _ _ _ _ _ r g x

/-- The saved probabilities, over the whole array. -/
theorem final_p : (dats m 0 c).arrAt 8 cfg0.N = Cert.Reference13Ideal.Read.val_main_v160 (F := Ideal) (Proj m c) (Kv m c) (Gk m c) (Gq m c) (Sk m c) := by
  refine (dats m 0 c).arrAt_eq_of_covers 8 _ (by decide +kernel) fun t hf y => ?_
  blk_simp
  rw [after0_8, p_at]
  obtain ⟨n, g, r, x, rfl⟩ : ∃ (n : Fin 4) (g : Fin 3) (r : Fin 128) (x : Fin 256), y = ix4 0 n ⟨g.val * 128 + r.val, by omega⟩ x :=
    ⟨y 1, ⟨(y 2).val / 128, by have : (y 2).val < 384 := (y 2).isLt; omega⟩, ⟨(y 2).val % 128, Nat.mod_lt _ (by norm_num)⟩, y 3, by blk_ext⟩
  have ht : t.val < 32 := t.isLt
  have he : ((cfg0.win 8).blk t).view.emb (ix4 0 n ⟨g.val * 128 + r.val, by omega⟩ x) = ix4 (bt t) n ⟨g.val * 128 + r.val, by omega⟩ x := by blk_ext [idx t]
  rw [he]
  exact (p_eq m c hk hq hs t n g r x).trans (Cert.Reference13Ideal.Proof.ref_saved _ _ _ _ _ (bt t) n g r x).symm

/-- The sinks' probabilities, over the whole array. -/
theorem final_z : (dats m 0 c).arrAt 9 cfg0.N = Cert.Reference13Ideal.Read.val_main_v161 (F := Ideal) (Proj m c) (Kv m c) (Gk m c) (Gq m c) (Sk m c) := by
  refine (dats m 0 c).arrAt_eq_of_covers 9 _ (by decide +kernel) fun t hf y => ?_
  blk_simp
  rw [after0_9, z_at]
  obtain ⟨r, l, rfl⟩ : ∃ (r l : Fin 128), y = ix2 r l := ⟨y 0, y 1, by blk_ext⟩
  have ht : t.val < 32 := t.isLt
  have he : ((cfg0.win 9).blk t).view.emb (ix2 r l) = ix2 ⟨t.val * 128 + r.val, by omega⟩ l := by blk_ext [idx t]
  rw [he]
  by_cases hl : 12 ≤ l.val
  · exact (z_rest _ _ _ _ _ r l hl).trans (Cert.Reference13Ideal.Proof.ref_rest _ _ _ _ _ _ l hl).symm
  · obtain ⟨n, g, e⟩ : ∃ (n : Fin 4) (g : Fin 3), l = ⟨n.val * 3 + g.val, by omega⟩ :=
      ⟨⟨l.val / 3, by omega⟩, ⟨l.val % 3, Nat.mod_lt _ (by norm_num)⟩, Fin.ext (by show l.val = l.val / 3 * 3 + l.val % 3; omega)⟩
    rw [e]
    exact (z_eq m c hk hq hs t n g r).trans (Cert.Reference13Ideal.Proof.ref_sink _ _ _ _ _ (bt t) n g r).symm

omit hk hq hs in
/-- The read values at an entry of the result's columns. -/
theorem o_entry (i : S4096x1024.Idx) (h : (i 1).val < 768) : (dats m 0 c).arrAt 7 cfg0.N i
    = (outsAt0 m c ⟨(i 0).val / 128, by have : (i 0).val < 4096 := (i 0).isLt; show _ < 32; omega⟩).1 (ix2 ⟨(i 0).val % 128, Nat.mod_lt _ (by norm_num)⟩ ⟨(i 1).val % 768, Nat.mod_lt _ (by norm_num)⟩) := by
  refine ((dats m 0 c).arrAt_apply_of_coversWhere 7
    (fun i : S4096x1024.Idx => (outsAt0 m c ⟨(i 0).val / 128, by have : (i 0).val < 4096 := (i 0).isLt; show _ < 32; omega⟩).1 (ix2 ⟨(i 0).val % 128, Nat.mod_lt _ (by norm_num)⟩ ⟨(i 1).val % 768, Nat.mod_lt _ (by norm_num)⟩))
    (P := fun i : S4096x1024.Idx => (i 1).val / 768 = 0) (fun β => β (1 : Fin 2) = 0) (by decide +kernel) (fun t hf y => ?_) (fun j => Iff.rfl) i).trans (if_pos (by omega))
  blk_simp
  rw [after0_7]
  have hy0 : (y 0).val < 128 := ((cfg0.win 7).xinj (cfg0.grid.coords t) y 0).isLt
  have hy1 : (y 1).val < 768 := ((cfg0.win 7).xinj (cfg0.grid.coords t) y 1).isLt
  have hx : (cfg0.win 7).xinj (cfg0.grid.coords t) y = ix2 ⟨(y 0).val, hy0⟩ ⟨(y 1).val, hy1⟩ := by blk_ext
  have i0 : win0_7.index t 0 = t.val := (idx t).2.2.2.2.2.2.2.2.2.2.2.2.1
  have i1 : win0_7.index t 1 = 0 := (idx t).2.2.2.2.2.2.2.2.2.2.2.2.2.1
  have key : ∀ a b : ℕ, b < 128 → (a * 128 + b) / 128 = a ∧ (a * 128 + b) % 128 = b := fun a b h => by omega
  have key' : ∀ b : ℕ, b < 768 → (0 * 768 + b) % 768 = b := fun b h => by omega
  have e0 := (key t.val _ hy0).1
  have e1 := (key t.val _ hy0).2
  have e2 := key' _ hy1
  rw [hx]
  simp only [i0, i1, e0, e1, e2]

/-- The read values of the rows the step keeps. -/
theorem final_o (j : S3968x768.Idx) : extractStridedSlice S3968x768 ![128, 0] ((dats m 0 c).arrAt 7 cfg0.N : S4096x1024.Idx → EReal) slices_S4096x1024_S3968x768_128_0 j
    = Cert.Reference13Ideal.Read.val_main_v156 (F := Ideal) (Proj m c) (Kv m c) (Gk m c) (Gq m c) (Sk m c) j := by
  obtain ⟨b, n, g, r, x, rfl⟩ : ∃ (b : Fin 31) (n : Fin 4) (g : Fin 3) (r : Fin 128) (x : Fin 64), j = ix2 ⟨b.val * 128 + r.val, by omega⟩ ⟨(n.val * 3 + g.val) * 64 + x.val, by omega⟩ :=
    ⟨⟨(j 0).val / 128, by have : (j 0).val < 3968 := (j 0).isLt; omega⟩, ⟨(j 1).val / 192, by have : (j 1).val < 768 := (j 1).isLt; omega⟩, ⟨(j 1).val / 64 % 3, Nat.mod_lt _ (by norm_num)⟩,
      ⟨(j 0).val % 128, Nat.mod_lt _ (by norm_num)⟩, ⟨(j 1).val % 64, Nat.mod_lt _ (by norm_num)⟩, by
        refine (show j = ix2 (j 0) (j 1) by blk_ext).trans (congrArg₂ ix2 (Fin.ext ?_) (Fin.ext ?_))
        · show (j 0).val = (j 0).val / 128 * 128 + (j 0).val % 128
          omega
        · show (j 1).val = ((j 1).val / 192 * 3 + (j 1).val / 64 % 3) * 64 + (j 1).val % 64
          omega⟩
  have e : extractStridedSlice S3968x768 ![128, 0] ((dats m 0 c).arrAt 7 cfg0.N : S4096x1024.Idx → EReal) slices_S4096x1024_S3968x768_128_0 (ix2 ⟨b.val * 128 + r.val, by omega⟩ ⟨(n.val * 3 + g.val) * 64 + x.val, by omega⟩)
      = ((dats m 0 c).arrAt 7 cfg0.N : S4096x1024.Idx → EReal) (ix2 ⟨128 + (b.val * 128 + r.val), by omega⟩ ⟨(n.val * 3 + g.val) * 64 + x.val, by omega⟩) := by
    generalize ((dats m 0 c).arrAt 7 cfg0.N : S4096x1024.Idx → EReal) = w
    pointwise []
  refine e.trans ((o_entry m c _ (show (n.val * 3 + g.val) * 64 + x.val < 768 by omega)).trans ?_)
  have hb : (128 + (b.val * 128 + r.val)) / 128 = b.val + 1 := by omega
  have hr : (128 + (b.val * 128 + r.val)) % 128 = r.val := by omega
  have hx : ((n.val * 3 + g.val) * 64 + x.val) % 768 = (n.val * 3 + g.val) * 64 + x.val := Nat.mod_eq_of_lt (by omega)
  simp only [ix2_0, ix2_1, hb, hr, hx]
  have hN : b.val + 1 < cfg0.N := by show b.val + 1 < 32; omega
  rw [o_at]
  refine (o_sum m c ⟨b.val + 1, hN⟩ r n g x).trans (Eq.trans ?_ (Cert.Reference13Ideal.Proof.ref_o _ _ _ _ _ b n g r x).symm)
  refine Finset.sum_congr rfl fun y _ => ?_
  rw [p_eq m c hk hq hs, values_at m c ⟨b.val + 1, hN⟩ y n x (Nat.succ_pos _), mul_comm]

end values

/-- What the host keeps of the read values: the rows after the first block. -/
theorem kept_rows (c : Dev nD) : Pipeline.afterTail₀ cfgs (dats m) 0 (V0 m) [hostOps1] c main_v61
    = extractStridedSlice S3968x768 ![128, 0] ((dats m 0 c).arrAt 7 cfg0.N : S4096x1024.Idx → EReal) slices_S4096x1024_S3968x768_128_0 := by
  unfold Pipeline.afterTail₀
  after_results
  exact congrArg (fun w => extractStridedSlice S3968x768 ![128, 0] w slices_S4096x1024_S3968x768_128_0) (Dat.withArrays_arrAt (dats m 0 c) sharedIn0 (V0 m c) (A_eq m c) 7)

/-- The run: its results, each read, and the arguments unchanged. -/
theorem swa_run (ρ : Dev nD → PrngReg) : θ_run defs (onTc (τ := τ) (main (F := Ideal))) ⟨m, fun _ => 0, ρ⟩ fun r => ∀ c : Dev nD,
      r.2.mem ((c.tc : Thread nD τ).loc main_v61) = extractStridedSlice S3968x768 ![128, 0] ((dats m 0 c).arrAt 7 cfg0.N : S4096x1024.Idx → EReal) slices_S4096x1024_S3968x768_128_0
      ∧ r.2.mem ((c.tc : Thread nD τ).loc main_v60_1) = (dats m 0 c).arrAt 8 cfg0.N
      ∧ r.2.mem ((c.tc : Thread nD τ).loc main_v60_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).2 main_v61 (Pipeline.mem_restRefs_of main_v61 (by decide) (by decide))).trans (kept_rows m c),
      (h c).1 8, (h c).1 9,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

/-- The first of two bits whose conjunction is set. -/
theorem left_bit {p q : BitVec 1} (h : IntOp.andi p q = 1#1) : p = 1#1 := by
  revert h
  unfold IntOp.andi
  revert p q
  decide

/-- The second of them. -/
theorem right_bit {p q : BitVec 1} (h : IntOp.andi p q = 1#1) : q = 1#1 := by
  revert h
  unfold IntOp.andi
  revert p q
  decide

/-- What a set bit says. -/
theorem of_bit {p : Prop} [Decidable p] (h : BitVec.ofBool (decide p) = 1#1) : p := by
  by_cases hp : p <;> simp [hp] at h ⊢

/-- Every bit of a family whose conjunction is set is set. -/
theorem every_bit {n : ℕ} (f : Fin n → BitVec 1) (h : Finset.univ.fold IntOp.andi (1#1) f = 1#1) (k : Fin n) : f k = 1#1 := by
  rw [← Finset.insert_erase (Finset.mem_univ k), Finset.fold_insert (Finset.notMem_erase k _)] at h
  exact left_bit h

/-- Where the precondition holds the gains and the sinks are real numbers. -/
theorem gains_real (h : Cert.Pre_Kernel13Ideal_gains_and_sinks_finite m) (c : Dev nD) :
    (∀ i, ∃ x : ℝ, Gk m c i = x) ∧ (∀ i, ∃ x : ℝ, Gq m c i = x) ∧ (∀ i, ∃ x : ℝ, Sk m c i = x) := by
  have hc : ∀ j, Cert.Pre_gains_and_sinks_finite.fn (F := Ideal) (Proj m c) (Kv m c) (Gk m c) (Gq m c) (Sk m c) j = 1#1 := fun j => congrFun (h c) j
  have hb : ∀ i : Fin 64, ((max (Gk m c (ix1 i)) (-Gk m c (ix1 i)) < ⊤) ∧ (max (Gq m c (ix1 i)) (-Gq m c (ix1 i)) < ⊤))
      ∧ ∀ k : Fin 12, max (Sk m c (ix1 k)) (-Sk m c (ix1 k)) < ⊤ := by
    intro i
    have hi := hc (ix1 i)
    unfold Cert.Pre_gains_and_sinks_finite.fn at hi
    revert hi
    pointwise []
    rw [Cert.Kernel6Ideal.Proof.pinf_f32]
    intro hi
    have hl := left_bit hi
    exact ⟨Cert.Kernel6Ideal.Proof.both hl, fun k => of_bit (every_bit _ (right_bit hi) k)⟩
  refine ⟨fun i => ?_, fun i => ?_, fun i => ?_⟩
  · obtain ⟨k, rfl⟩ : ∃ k : Fin 64, i = ix1 k := ⟨i 0, by blk_ext⟩
    exact Cert.Kernel6Ideal.Proof.fin_real (hb k).1.1
  · obtain ⟨k, rfl⟩ : ∃ k : Fin 64, i = ix1 k := ⟨i 0, by blk_ext⟩
    exact Cert.Kernel6Ideal.Proof.fin_real (hb k).1.2
  · obtain ⟨k, rfl⟩ : ∃ k : Fin 12, i = ix1 k := ⟨i 0, by blk_ext⟩
    exact Cert.Kernel6Ideal.Proof.fin_real ((hb 0).2 k)

end Cert.Kernel13Ideal.Proof

namespace Cert.Proof

open Idealize.ShloMosaic Idealize.ShloMosaic.TcCoe Idealize.SL.Sem

set_option maxHeartbeats 2000000 in
/-- The idealized sliding-window attention computes what the reference does, for finite gains and sinks. -/
theorem swafwd_value : Cert.algebraic_Kernel13Ideal_Reference13Ideal_pre_gains_and_sinks_finite := by
  pair_intro
  · run_from Cert.Kernel13Ideal.Proof.swa_run m g
  · have hr := Cert.Kernel13Ideal.Proof.gains_real m hpre
    run_from Cert.Reference13Ideal.Value.run m' g'
    · refine (Cert.Reference13Ideal.Read.val_main_v156_eq (F := Ideal) (StableHlo.launchContents m' c)).trans ?_
      exact (congr5 (Cert.Reference13Ideal.Read.val_main_v156 (F := Ideal)) (hagree c).1 (hagree c).2.1 (hagree c).2.2.1 (hagree c).2.2.2.1 (hagree c).2.2.2.2).trans (funext fun j => (Cert.Kernel13Ideal.Proof.final_o m c (hr c).1 (hr c).2.1 (hr c).2.2 j).symm)
    · refine (Cert.Reference13Ideal.Read.val_main_v160_eq (F := Ideal) (StableHlo.launchContents m' c)).trans ?_
      exact (congr5 (Cert.Reference13Ideal.Read.val_main_v160 (F := Ideal)) (hagree c).1 (hagree c).2.1 (hagree c).2.2.1 (hagree c).2.2.2.1 (hagree c).2.2.2.2).trans (Cert.Kernel13Ideal.Proof.final_p m c (hr c).1 (hr c).2.1 (hr c).2.2).symm
    · refine (Cert.Reference13Ideal.Read.val_main_v161_eq (F := Ideal) (StableHlo.launchContents m' c)).trans ?_
      exact (congr5 (Cert.Reference13Ideal.Read.val_main_v161 (F := Ideal)) (hagree c).1 (hagree c).2.1 (hagree c).2.2.1 (hagree c).2.2.2.1 (hagree c).2.2.2.2).trans (Cert.Kernel13Ideal.Proof.final_z m c (hr c).1 (hr c).2.1 (hr c).2.2).symm

end Cert.Proof

end
-- ==== Proof.PoolRef.lean ====
module

public import proofs.«01_k».proof.Proof.Common
public import proofs.«01_k».proof.Proof.Attn
public import proofs.«01_k».proof.Proof.Gen.Reference14Ideal.Read

/-! The reference of the window means, forward, entry by entry. -/

@[expose] public section

set_option maxRecDepth 16384

noncomputable section

namespace Cert.Reference14Ideal.Proof

open Cert.Reference14Ideal Cert.Reference14Ideal.Gen Cert.Reference14Ideal.Read Idealize.ShloMosaic Idealize.SL.Sem
open Cert.Common

/-- A left fold of additions is the start plus the list's sum. -/
theorem foldl_sum {α : Type} (f : α → EReal) : ∀ (l : List α) (v : EReal), l.foldl (fun r n => r + f n) v = v + (l.map f).sum
  | [], v => by simp
  | a :: l, v => by rw [List.foldl_cons, foldl_sum f l, List.map_cons, List.sum_cons, add_assoc]

/-- A fold of additions over all positions, started at zero, is their sum. -/
theorem fold_fin (N : ℕ) (F : Fin N → EReal) (f : EReal → Fin N → EReal) (v : EReal) (hv : v = 0) (hf : ∀ r n, f r n = r + F n) :
    (List.finRange N).foldl f v = ∑ n, F n := by
  rw [show f = fun r n => r + F n from funext fun r => funext fun n => hf r n, foldl_sum, hv, zero_add, Fin.sum_univ_def]

/-- The window positions of the running sum, numbered. -/
def winEquiv : (⟨3, ![4096, 1, 1]⟩ : Shape).Idx ≃ Fin 4096 where
  toFun w := w 0
  invFun k := ix3 k 0 0
  left_inv w := by
    funext b
    match b with
    | ⟨0, _⟩ => rfl
    | ⟨1, _⟩ => exact Fin.ext (by have : (w 1).val < 1 := (w 1).isLt; show 0 = (w 1).val; omega)
    | ⟨2, _⟩ => exact Fin.ext (by have : (w 2).val < 1 := (w 2).isLt; show 0 = (w 2).val; omega)
  right_inv k := rfl

/-- A window's positions before the array's start contribute nothing. -/
theorem window_range (U : ℕ → EReal) (d t : ℕ) :
    (∑ k : Fin (d + (t + 1)), if d + t ≤ t + k.val then U (t + k.val - (d + t)) else 0) = ∑ j ∈ Finset.range (t + 1), U j := by
  rw [Fin.sum_univ_eq_sum_range (fun k => if d + t ≤ t + k then U (t + k - (d + t)) else 0) (d + (t + 1)), Finset.sum_range_add,
    Finset.sum_eq_zero (fun k hk => if_neg (by have := Finset.mem_range.mp hk; omega)), zero_add]
  refine Finset.sum_congr rfl fun k _ => ?_
  rw [if_pos (by omega)]
  congr 1
  omega

/-- The same at the array's own length. -/
theorem window_rows (U : ℕ → EReal) (t n N : ℕ) (hn : N = n + 1) (ht : t < N) :
    (∑ k : Fin N, if n ≤ t + k.val then U (t + k.val - n) else 0) = ∑ j ∈ Finset.range (t + 1), U j := by
  obtain ⟨d, rfl⟩ : ∃ d, n = d + t := ⟨n - t, by omega⟩
  subst hn
  exact window_range U d t

/-- The running sum along the rows. -/
theorem cumsum_at (u : S4096x4x192.Idx → EReal) (v : S_.Idx → EReal) (hv : ∀ j, v j = 0) (h : S4096x4x192.ReduceWindows ![4096, 1, 1] ![1, 1, 1] ![4095, 0, 0] ![0, 0, 0] S4096x4x192) (hu : 0 < S_.numel) (t : Fin 4096) (g : Fin 4) (a : Fin 192) :
    Host.reduceWindowAdd (F := Ideal) (φ := .f32) ![4096, 1, 1] ![1, 1, 1] ![4095, 0, 0] ![0, 0, 0] u v h hu (ix3 t g a)
      = ∑ j ∈ Finset.range (t.val + 1), if h : j < 4096 then u (ix3 ⟨j, h⟩ g a) else 0 := by
  refine Eq.trans ?_ (window_rows (fun j => if h : j < 4096 then u (ix3 ⟨j, h⟩ g a) else 0) t.val 4095 4096 rfl t.isLt)
  refine Eq.trans ?_ (Equiv.sum_comp winEquiv (fun k : Fin 4096 => if 4095 ≤ t.val + k.val then (if h : t.val + k.val - 4095 < 4096 then u (ix3 ⟨t.val + k.val - 4095, h⟩ g a) else 0) else 0))
  refine Eq.trans ?_ (Equiv.sum_comp (⟨3, ![4096, 1, 1]⟩ : Shape).rowMajor.symm _)
  refine fold_fin _ _ _ _ (hv _) fun r n => congrArg (r + ·) ?_
  have h0 : ((⟨3, ![4096, 1, 1]⟩ : Shape).rowMajor.symm n 0).val = (winEquiv ((⟨3, ![4096, 1, 1]⟩ : Shape).rowMajor.symm n)).val := rfl
  have h1 : ((⟨3, ![4096, 1, 1]⟩ : Shape).rowMajor.symm n 1).val = 0 := by
    have : ((⟨3, ![4096, 1, 1]⟩ : Shape).rowMajor.symm n 1).val < 1 := ((⟨3, ![4096, 1, 1]⟩ : Shape).rowMajor.symm n 1).isLt
    omega
  have h2 : ((⟨3, ![4096, 1, 1]⟩ : Shape).rowMajor.symm n 2).val = 0 := by
    have : ((⟨3, ![4096, 1, 1]⟩ : Shape).rowMajor.symm n 2).val < 1 := ((⟨3, ![4096, 1, 1]⟩ : Shape).rowMajor.symm n 2).isLt
    omega
  generalize winEquiv ((⟨3, ![4096, 1, 1]⟩ : Shape).rowMajor.symm n) = k at h0 ⊢
  by_cases hk : 4095 ≤ t.val + k.val
  · rw [if_pos hk, dif_pos (show t.val + k.val - 4095 < 4096 by omega)]
    refine (dif_pos ?_).trans (congrArg u ?_)
    · intro b
      match b with
      | ⟨0, _⟩ =>
        show 4095 ≤ t.val * 1 + ((⟨3, ![4096, 1, 1]⟩ : Shape).rowMajor.symm n 0).val ∧ t.val * 1 + ((⟨3, ![4096, 1, 1]⟩ : Shape).rowMajor.symm n 0).val - 4095 < 4096
        omega
      | ⟨1, _⟩ =>
        show 0 ≤ g.val * 1 + ((⟨3, ![4096, 1, 1]⟩ : Shape).rowMajor.symm n 1).val ∧ g.val * 1 + ((⟨3, ![4096, 1, 1]⟩ : Shape).rowMajor.symm n 1).val - 0 < 4
        omega
      | ⟨2, _⟩ =>
        show 0 ≤ a.val * 1 + ((⟨3, ![4096, 1, 1]⟩ : Shape).rowMajor.symm n 2).val ∧ a.val * 1 + ((⟨3, ![4096, 1, 1]⟩ : Shape).rowMajor.symm n 2).val - 0 < 192
        omega
    · funext b
      match b with
      | ⟨0, _⟩ =>
        refine Fin.ext ?_
        show t.val * 1 + ((⟨3, ![4096, 1, 1]⟩ : Shape).rowMajor.symm n 0).val - 4095 = t.val + k.val - 4095
        omega
      | ⟨1, _⟩ =>
        refine Fin.ext ?_
        show g.val * 1 + ((⟨3, ![4096, 1, 1]⟩ : Shape).rowMajor.symm n 1).val - 0 = g.val
        omega
      | ⟨2, _⟩ =>
        refine Fin.ext ?_
        show a.val * 1 + ((⟨3, ![4096, 1, 1]⟩ : Shape).rowMajor.symm n 2).val - 0 = a.val
        omega
  · rw [if_neg hk]
    refine (dif_neg fun h => hk ?_).trans (hv _)
    have h3 : 4095 ≤ t.val * 1 + ((⟨3, ![4096, 1, 1]⟩ : Shape).rowMajor.symm n 0).val := (h 0).1
    omega

/-- The gather's axes. -/
abbrev gDims := gather_S4097x4x192_S4096x4x2_S4096x4x192_2_01_n_n_01_2_11192

/-- The row of the running sum the gather reads. -/
theorem gather_at (x : S4097x4x192.Idx → EReal) (idx : S4096x4x2.Idx → BitVec 32) (t : Fin 4096) (g : Fin 4) (a : Fin 192) (n : Fin 4097)
    (hn : idx (ix3 t g 0) = BitVec.ofNat 32 n.val) (hg : idx (ix3 t g 1) = BitVec.ofNat 32 g.val) :
    Host.gather gather_S4097x4x192_S4096x4x2_S4096x4x192_2_01_n_n_01_2_11192 x idx (ix3 t g a) = x (ix3 n g a) := by
  have hi : ∀ k : ℕ, k < 5000 → (BitVec.ofNat 32 k).toInt.toNat = k := fun k hk => by
    rw [BitVec.toInt_eq_toNat_of_lt (by rw [BitVec.toNat_ofNat]; omega), BitVec.toNat_ofNat]; omega
  unfold Host.gather
  refine congrArg x (funext fun b => Fin.ext ?_)
  show gDims.start (ix3 t g a) idx b + gDims.batchCoord (ix3 t g a) b + gDims.offCoord (ix3 t g a) b = _
  rw [GatherDims.batchCoord_eq_zero _ _ _ (fun h => by simp [gDims, gather_S4097x4x192_S4096x4x2_S4096x4x192_2_01_n_n_01_2_11192] at h)]
  match b with
  | ⟨0, _⟩ =>
    show gDims.start (ix3 t g a) idx (0 : Fin 3) + 0 + gDims.offCoord (ix3 t g a) (0 : Fin 3) = _
    rw [GatherDims.offCoord_eq_zero _ _ _ (show (0 : Fin 3) ∉ gDims.sKept by decide)]
    unfold GatherDims.start
    rw [dif_pos (show (0 : Fin 3) ∈ gDims.startIndexMap by decide)]
    have hs : gDims.siIdx (ix3 t g a) ⟨List.idxOf (0 : Fin 3) gDims.startIndexMap, List.idxOf_lt_length_iff.2 (by decide)⟩ = ix3 t g 0 := by
      funext b; refine Fin.ext ?_
      match b with
      | ⟨0, _⟩ => rfl
      | ⟨1, _⟩ => rfl
      | ⟨2, _⟩ => rfl
    refine Eq.trans (b := min (idx (ix3 t g 0)).toInt.toNat 4096 + 0 + 0) (by rw [← hs]; rfl) ?_
    rw [hn, hi _ (by omega)]
    show min n.val 4096 + 0 + 0 = n.val
    omega
  | ⟨1, _⟩ =>
    show gDims.start (ix3 t g a) idx (1 : Fin 3) + 0 + gDims.offCoord (ix3 t g a) (1 : Fin 3) = _
    rw [GatherDims.offCoord_eq_zero _ _ _ (show (1 : Fin 3) ∉ gDims.sKept by decide)]
    unfold GatherDims.start
    rw [dif_pos (show (1 : Fin 3) ∈ gDims.startIndexMap by decide)]
    have hs : gDims.siIdx (ix3 t g a) ⟨List.idxOf (1 : Fin 3) gDims.startIndexMap, List.idxOf_lt_length_iff.2 (by decide)⟩ = ix3 t g 1 := by
      funext b; refine Fin.ext ?_
      match b with
      | ⟨0, _⟩ => rfl
      | ⟨1, _⟩ => rfl
      | ⟨2, _⟩ => rfl
    refine Eq.trans (b := min (idx (ix3 t g 1)).toInt.toNat 3 + 0 + 0) (by rw [← hs]; rfl) ?_
    rw [hg, hi _ (by omega)]
    show min g.val 3 + 0 + 0 = g.val
    omega
  | ⟨2, _⟩ =>
    have h1 : gDims.start (ix3 t g a) idx (2 : Fin 3) = 0 := by
      unfold GatherDims.start
      exact dif_neg (by decide)
    have h2 : gDims.offCoord (ix3 t g a) (2 : Fin 3) = a.val := by
      unfold GatherDims.offCoord
      rw [dif_pos (by decide)]
      rfl
    show gDims.start (ix3 t g a) idx (2 : Fin 3) + 0 + gDims.offCoord (ix3 t g a) (2 : Fin 3) = a.val
    rw [h1, h2]
    omega

/-- The window widths of the four groups. -/
def wd : Fin 4 → ℕ := ![2, 4, 8, 16]

/-- The widths' words. -/
theorem ref_width (g : Fin 4) : val_main_v14 (F := Ideal) (ix1 g) = BitVec.ofNat 32 (wd g) := by
  pointwise [val_main_v5, val_main_v6, val_main_v7, val_main_v8, val_main_v9, val_main_v10, val_main_v11, val_main_v12, val_main_v13, val_main_v14, val_main_call1_v0, val_main_call1_v1, val_main_call2_v0, val_main_call3_v0, val_main_c, val_main_c_0, val_main_c_1, val_main_c_2, val_main_c_3, val_main_c_4, val_main_c_5]
  revert g
  decide +kernel

/-- The first row of a window, as a word. -/
theorem lo_word (t w : ℕ) (ht : t < 4096) (hw : w ≤ 16) :
    IntOp.maxsi (IntOp.subi (IntOp.addi (BitVec.ofNat 32 t) 1#32) (BitVec.ofNat 32 w)) 0#32 = BitVec.ofNat 32 (t + 1 - w) := by
  have h1 : IntOp.addi (BitVec.ofNat 32 t) 1#32 = BitVec.ofNat 32 (t + 1) := by
    unfold IntOp.addi; apply BitVec.eq_of_toNat_eq; simp
  rw [h1]
  by_cases h : w ≤ t + 1
  · have h2 : IntOp.subi (BitVec.ofNat 32 (t + 1)) (BitVec.ofNat 32 w) = BitVec.ofNat 32 (t + 1 - w) := by
      unfold IntOp.subi; apply BitVec.eq_of_toNat_eq; simp; omega
    rw [h2]
    unfold IntOp.maxsi
    have h3 : (BitVec.ofNat 32 (t + 1 - w)).toInt = (t + 1 - w : ℕ) := by
      rw [BitVec.toInt_eq_toNat_of_lt (by rw [BitVec.toNat_ofNat]; omega), BitVec.toNat_ofNat]; omega
    by_cases h0 : t + 1 - w = 0
    · rw [h0]; rfl
    · have hs : BitVec.slt 0#32 (BitVec.ofNat 32 (t + 1 - w)) = true := by
        rw [BitVec.slt_iff_toInt_lt, h3]; simp; omega
      have hs' : BitVec.slt (BitVec.ofNat 32 (t + 1 - w)) 0#32 = false := by
        rw [Bool.eq_false_iff, Ne, BitVec.slt_iff_toInt_lt, h3]; simp
      simp [BitVec.sle, hs, hs', h3]
  · have h4 : t + 1 - w = 0 := by omega
    rw [h4]
    have : ∀ t : Fin 16, ∀ w : Fin 17, ¬w.val ≤ t.val + 1 → IntOp.maxsi (IntOp.subi (BitVec.ofNat 32 (t.val + 1)) (BitVec.ofNat 32 w.val)) 0#32 = BitVec.ofNat 32 0 := by decide +kernel
    exact this ⟨t, by omega⟩ ⟨w, by omega⟩ h

/-- A small word is not negative. -/
theorem not_neg (n : ℕ) (hn : n < 5000) : IntOp.cmpi .slt (BitVec.ofNat 32 n) 0#32 = 0#1 := by
  have h3 : (BitVec.ofNat 32 n).toInt = (n : ℕ) := by
    rw [BitVec.toInt_eq_toNat_of_lt (by rw [BitVec.toNat_ofNat]; omega), BitVec.toNat_ofNat]; omega
  have hs' : BitVec.slt (BitVec.ofNat 32 n) 0#32 = false := by
    rw [Bool.eq_false_iff, Ne, BitVec.slt_iff_toInt_lt, h3]; simp
  show BitVec.ofBool (BitVec.slt (BitVec.ofNat 32 n) 0#32) = 0#1
  rw [hs']
  rfl

/-- The window's first row. -/
theorem ref_lo (t : Fin 4096) (g : Fin 4) : val_main_v25 (F := Ideal) (ix2 t g) = BitVec.ofNat 32 (t.val + 1 - wd g) := by
  rw [← lo_word t.val (wd g) t.isLt (by revert g; decide), ← ref_width g]
  pointwise [val_main_v25, val_main_v24, val_main_v23, val_main_v22, val_main_v21, val_main_v20, val_main_v19, val_main_v18, val_main_v17, val_main_v16, val_main_v15, val_main_c_6, val_main_c_7]
  try rfl

/-- The gather's row index. -/
theorem ref_row (t : Fin 4096) (g : Fin 4) : val_main_v50 (F := Ideal) (ix3 t g 0) = BitVec.ofNat 32 (t.val + 1 - wd g) := by
  have e : val_main_v50 (F := Ideal) (ix3 t g 0) = Scalar.select (IntOp.cmpi .slt (val_main_v25 (F := Ideal) (ix2 t g)) 0#32) (IntOp.addi (val_main_v25 (F := Ideal) (ix2 t g)) 4097#32) (val_main_v25 (F := Ideal) (ix2 t g)) := by
    pointwise [val_main_v50, val_main_v49, val_main_v48, val_main_v41, val_main_v40, val_main_v39, val_main_v38, val_main_v37, val_main_c_9, val_main_c_10]
    try rfl
  rw [e, ref_lo, not_neg _ (by omega)]
  rfl

/-- The gather's group index. -/
theorem ref_grp (t : Fin 4096) (g : Fin 4) : val_main_v50 (F := Ideal) (ix3 t g 1) = BitVec.ofNat 32 g.val := by
  have e : val_main_v50 (F := Ideal) (ix3 t g 1) = Scalar.select (IntOp.cmpi .slt (BitVec.ofNat 32 g.val) 0#32) (IntOp.addi (BitVec.ofNat 32 g.val) 4#32) (BitVec.ofNat 32 g.val) := by
    pointwise [val_main_v50, val_main_v49, val_main_v48, val_main_v47, val_main_v46, val_main_v45, val_main_v44, val_main_v43, val_main_v42, val_main_v36, val_main_v35, val_main_c_11, val_main_c_12]
    try rfl
  rw [e, not_neg _ (by omega)]
  rfl

section reference
variable (proj : S4096x1024.Idx → EReal) (pw : S4x192x192.Idx → EReal) (ps : S768.Idx → EReal)

/-- A column of the pooled part, by row number. -/
def col (x : Fin 768) : ℕ → EReal := fun j => if h : j < 4096 then proj (ix2 ⟨j, h⟩ ⟨x.val, by omega⟩) else 0

/-- The running sum with its leading zero. -/
theorem ref_csum (n : Fin 4097) (g : Fin 4) (a : Fin 192) : val_main_v4 (F := Ideal) proj (ix3 n g a) = ∑ j ∈ Finset.range n.val, col proj ⟨g.val * 192 + a.val, by omega⟩ j := by
  have hz : ∀ j, val_main_call0_call0_v0 (F := Ideal) j = 0 := fun j => by
    rw [val_main_call0_call0_v0_apply, val_main_call0_call0_cst_apply]; exact Ideal.ofBits_zero_f32
  have hu : ∀ (j : Fin 4096), val_main_v1 (F := Ideal) proj (ix3 j g a) = proj (ix2 j ⟨g.val * 192 + a.val, by omega⟩) := fun j => by
    pointwise [val_main_v1, val_main_v0]
  have e : val_main_v4 (F := Ideal) proj (ix3 n g a) = if h : n.val < 1 then 0 else val_main_v3 (F := Ideal) proj (ix3 ⟨n.val - 1, by omega⟩ g a) := by
    unfold val_main_v4
    generalize val_main_v3 (F := Ideal) proj = w
    pointwise [val_main_v2, val_main_cst]
  rw [e]
  by_cases h : n.val < 1
  · rw [dif_pos h, show n.val = 0 by omega, Finset.sum_range_zero]
  · rw [dif_neg h]
    refine (cumsum_at _ _ hz _ _ ⟨n.val - 1, by omega⟩ g a).trans ?_
    rw [show n.val - 1 + 1 = n.val by omega]
    refine Finset.sum_congr rfl fun j _ => ?_
    unfold col
    simp only [hu]

/-- The window's sum. -/
theorem ref_diff (t : Fin 4096) (g : Fin 4) (a : Fin 192) : val_main_v52 (F := Ideal) proj (ix3 t g a)
    = (∑ j ∈ Finset.range (t.val + 1), col proj ⟨g.val * 192 + a.val, by omega⟩ j) - ∑ j ∈ Finset.range (t.val + 1 - wd g), col proj ⟨g.val * 192 + a.val, by omega⟩ j := by
  have h1 : val_main_v34 (F := Ideal) proj (ix3 t g a) = val_main_v4 (F := Ideal) proj (ix3 ⟨t.val + 1, by omega⟩ g a) := by
    unfold val_main_v34
    generalize val_main_v4 (F := Ideal) proj = w
    pointwise []
    try simp only [add_comm]
  have h2 : val_main_v51 (F := Ideal) proj (ix3 t g a) = val_main_v4 (F := Ideal) proj (ix3 ⟨t.val + 1 - wd g, by omega⟩ g a) :=
    gather_at _ _ t g a ⟨t.val + 1 - wd g, by omega⟩ (ref_row t g) (ref_grp t g)
  rw [val_main_v52_apply, h1, h2, ref_csum, ref_csum]
  rfl

/-- The coercion of a finite sum. -/
theorem coe_range (f : ℕ → ℝ) (s : Finset ℕ) : ∑ k ∈ s, (f k : EReal) = ((∑ k ∈ s, f k : ℝ) : EReal) :=
  (map_sum (⟨⟨fun x : ℝ => (x : EReal), rfl⟩, EReal.coe_add⟩ : ℝ →+ EReal) _ _).symm

/-- Of real numbers, the difference of two running sums is the window's sum. -/
theorem diff_window_real (u : ℕ → ℝ) (t : ℕ) : ∀ w : ℕ,
    (∑ j ∈ Finset.range (t + 1), u j) - ∑ j ∈ Finset.range (t + 1 - w), u j = ∑ k ∈ Finset.range w, if k ≤ t then u (t - k) else 0
  | 0 => by simp
  | w + 1 => by
    rw [Finset.sum_range_succ _ w, ← diff_window_real u t w]
    by_cases h : w ≤ t
    · rw [if_pos h, show t + 1 - w = (t - w) + 1 by omega, Finset.sum_range_succ _ (t - w), show t + 1 - (w + 1) = t - w by omega]
      ring
    · rw [if_neg h, show t + 1 - w = 0 by omega, show t + 1 - (w + 1) = 0 by omega]
      ring

/-- The difference of two running sums of real numbers is the window's sum, taken backwards from its last row. -/
theorem diff_window (U : ℕ → EReal) (hU : ∀ j, ∃ x : ℝ, U j = x) (t w : ℕ) :
    (∑ j ∈ Finset.range (t + 1), U j) - ∑ j ∈ Finset.range (t + 1 - w), U j = ∑ k ∈ Finset.range w, if k ≤ t then U (t - k) else 0 := by
  choose u hu using hU
  have hc : ∀ n, ∑ j ∈ Finset.range n, U j = ((∑ j ∈ Finset.range n, u j : ℝ) : EReal) := fun n => by
    rw [← coe_range]; exact Finset.sum_congr rfl fun j _ => hu j
  have hd : ∑ k ∈ Finset.range w, (if k ≤ t then U (t - k) else 0) = ((∑ k ∈ Finset.range w, if k ≤ t then u (t - k) else 0 : ℝ) : EReal) := by
    rw [← coe_range]
    refine Finset.sum_congr rfl fun k _ => ?_
    split
    · exact hu _
    · rfl
  rw [hc, hc, hd, ← EReal.coe_sub, diff_window_real]

/-- How many rows a window holds. -/
abbrev cnt (t : ℕ) (g : Fin 4) : EReal := FloatOps.sitofp (F := Ideal) .f32 (IntOp.minsi (IntOp.addi (BitVec.ofNat 32 t) 1#32) (BitVec.ofNat 32 (wd g)))

/-- The window's mean less the row itself. -/
theorem ref_mean (t : Fin 4096) (g : Fin 4) (a : Fin 192) : val_main_v56 (F := Ideal) proj (ix3 t g a)
    = Ideal.div (val_main_v52 (F := Ideal) proj (ix3 t g a)) (cnt t.val g) - proj (ix2 t ⟨g.val * 192 + a.val, by omega⟩) := by
  unfold cnt
  rw [← ref_width g]
  unfold val_main_v56 val_main_v55
  generalize val_main_v52 (F := Ideal) proj = w
  pointwise [val_main_v54, val_main_v53, val_main_v33, val_main_v32, val_main_v31, val_main_v30, val_main_v29, val_main_v28, val_main_v27, val_main_v26, val_main_v16, val_main_v15, val_main_c_8, val_main_v1, val_main_v0]
  try rfl

/-- The pooled columns of the result. -/
theorem ref_pool (mkv : S256x512.Idx → EReal) (gq gk : S64.Idx → EReal) (t : Fin 4096) (g : Fin 4) (b : Fin 192) :
    val_main_v113 (F := Ideal) proj mkv pw ps gq gk (ix2 t ⟨g.val * 192 + b.val, by omega⟩)
      = (∑ a : Fin 192, pw (ix3 g a b) * val_main_v56 (F := Ideal) proj (ix3 t g a)) * ps (ix1 ⟨g.val * 192 + b.val, by omega⟩) := by
  have h1 : ∀ x : Fin 1024, x.val < 768 → val_main_v113 (F := Ideal) proj mkv pw ps gq gk (ix2 t x) = if h : x.val < 768 then val_main_v62 (F := Ideal) proj pw ps (ix2 t ⟨x.val, h⟩) else 0 := by
    intro x hx
    rw [dif_pos hx]
    unfold val_main_v113 val_main_v112
    generalize val_main_v62 (F := Ideal) proj pw ps = w
    generalize val_main_v111 (F := Ideal) proj mkv gq gk = w'
    pointwise []
    rw [dif_pos hx]
  refine (h1 _ (show g.val * 192 + b.val < 768 by omega)).trans ((dif_pos (by show g.val * 192 + b.val < 768; omega)).trans ?_)
  unfold val_main_v62 val_main_v59 val_main_v58 val_main_v57
  generalize val_main_v56 (F := Ideal) proj = w
  pointwise [val_main_v61, val_main_v60]

end reference

end Cert.Reference14Ideal.Proof

end
-- ==== Proof.PoolPoint.lean ====
module

public import proofs.«01_k».proof.Proof.Common
public import proofs.«01_k».proof.Proof.Attn
public import proofs.«01_k».proof.Proof.MemFwd
public import proofs.«01_k».proof.Proof.Gen.Kernel14Ideal.Skeleton
public import proofs.«01_k».proof.Proof.PoolRef
public import Idealize.ShloMosaic.Lib.KernelVsHost

/-! What a point of the window-mean mixer computes, forward, entry by entry. -/

@[expose] public section

set_option maxRecDepth 16384

noncomputable section

namespace Cert.Kernel14Ideal.Proof

open Cert.Kernel14Ideal Cert.Kernel14Ideal.Gen Idealize.ShloMosaic Idealize.SL.Sem
open Cert.Common
open Cert.Reference14Ideal.Proof (wd cnt)

/-- The rows and the same rows moved down. -/
abbrev dbl (n : BitVec 32) (w : S1040x768.Idx → EReal) : S1040x768.Idx → EReal :=
  addf (F := Ideal) (φ := .f32) w (dynamicRotate 0 n none w rotates_S1040x768_d0)

/-- A sum with the rows moved down, where they are not wrapped round. -/
theorem dbl_at (n : BitVec 32) (k : ℕ) (hn : n.toNat = k) (w : S1040x768.Idx → EReal) (q : Fin 1040) (x : Fin 768) (h : k ≤ q.val) :
    dbl n w (ix2 q x) = w (ix2 q x) + w (ix2 ⟨q.val - k, by omega⟩ x) := by
  refine congrArg (w (ix2 q x) + ·) (dynamicRotate_apply 0 n w rotates_S1040x768_d0 (ix2 q x) (ix2 ⟨q.val - k, by omega⟩ x) fun b => ?_)
  match b with
  | ⟨0, _⟩ =>
    show q.val - k = (q.val + 1040 - n.toNat % 1040) % 1040
    rw [hn]
    omega
  | ⟨1, _⟩ => rfl

/-- A sum over a window, doubled. -/
theorem dbl_sum (N lo : ℕ) (n : BitVec 32) (hn : n.toNat = N) (w : S1040x768.Idx → EReal) (x : Fin 768) (C : ℕ → EReal)
    (hw : ∀ q : Fin 1040, lo ≤ q.val → w (ix2 q x) = ∑ k ∈ Finset.range N, C (q.val - k)) (q : Fin 1040) (h : lo + N ≤ q.val) :
    dbl n w (ix2 q x) = ∑ k ∈ Finset.range (N + N), C (q.val - k) := by
  rw [dbl_at n N hn w q x (by omega), hw q (by omega), hw ⟨q.val - N, by omega⟩ (by show lo ≤ q.val - N; omega), Finset.sum_range_add]
  refine congrArg (_ + ·) (Finset.sum_congr rfl fun k _ => ?_)
  show C (q.val - N - k) = C (q.val - (N + k))
  rw [Nat.sub_sub]

/-- The rows a point works on: the halo, or zeros at the first point, above its own. -/
abbrev rows (i : grid0.Coords) (v4 : S16x768.Idx → EReal) (v7 : S1024x768.Idx → EReal) : S1040x768.Idx → EReal :=
  concatenate S1040x768 0 [⟨S16x768, Scalar.select (Scalar.cmpi .sgt (BitVec.ofNat 32 (i 0).val) 0#32) v4 (broadcast S16x768 (Scalar.ofBits (F := Ideal) .f32 0x00000000#32))⟩, ⟨S1024x768, v7⟩] concatenates_S16x768_S1024x768_S1040x768_d0

/-- A comparison of small words. -/
theorem slt_word (n c : ℕ) (hn : n < 5000) (hc : c < 5000) : IntOp.cmpi .slt (BitVec.ofNat 32 n) (BitVec.ofNat 32 c) = if n < c then 1#1 else 0#1 := by
  have h3 : ∀ n : ℕ, n < 5000 → (BitVec.ofNat 32 n).toInt = (n : ℕ) := fun n hn => by
    rw [BitVec.toInt_eq_toNat_of_lt (by rw [BitVec.toNat_ofNat]; omega), BitVec.toNat_ofNat]; omega
  show BitVec.ofBool (BitVec.slt (BitVec.ofNat 32 n) (BitVec.ofNat 32 c)) = _
  by_cases h : n < c
  · have hs' : BitVec.slt (BitVec.ofNat 32 n) (BitVec.ofNat 32 c) = true := by
      rw [BitVec.slt_iff_toInt_lt, h3 _ hn, h3 _ hc]; omega
    rw [hs', if_pos h]; rfl
  · have hs' : BitVec.slt (BitVec.ofNat 32 n) (BitVec.ofNat 32 c) = false := by
      rw [Bool.eq_false_iff, Ne, BitVec.slt_iff_toInt_lt, h3 _ hn, h3 _ hc]; omega
    rw [hs', if_neg h]; rfl

/-- A choice by column group. -/
theorem pick {α : Type} (g : Fin 4) (a : Fin 192) (f : Fin 4 → α) :
    Scalar.select (IntOp.cmpi .slt (BitVec.ofNat 32 (g.val * 192 + a.val)) 192#32) (f 0)
      (Scalar.select (IntOp.cmpi .slt (BitVec.ofNat 32 (g.val * 192 + a.val)) 384#32) (f 1)
        (Scalar.select (IntOp.cmpi .slt (BitVec.ofNat 32 (g.val * 192 + a.val)) 576#32) (f 2) (f 3))) = f g := by
  rw [show (192#32) = BitVec.ofNat 32 192 from rfl, show (384#32) = BitVec.ofNat 32 384 from rfl, show (576#32) = BitVec.ofNat 32 576 from rfl,
    slt_word _ _ (by omega) (by omega), slt_word _ _ (by omega) (by omega), slt_word _ _ (by omega) (by omega)]
  match g with
  | ⟨0, _⟩ => rw [if_pos (show 0 * 192 + a.val < 192 by omega)]; rfl
  | ⟨1, _⟩ => rw [if_neg (show ¬1 * 192 + a.val < 192 by omega), if_pos (show 1 * 192 + a.val < 384 by omega)]; rfl
  | ⟨2, _⟩ => rw [if_neg (show ¬2 * 192 + a.val < 192 by omega), if_neg (show ¬2 * 192 + a.val < 384 by omega), if_pos (show 2 * 192 + a.val < 576 by omega)]; rfl
  | ⟨3, _⟩ => rw [if_neg (show ¬3 * 192 + a.val < 192 by omega), if_neg (show ¬3 * 192 + a.val < 384 by omega), if_neg (show ¬3 * 192 + a.val < 576 by omega)]; rfl

/-- A column group's own doubled sums, of the rows a point keeps. -/
abbrev chosen (s2 s4 s8 s16 : S1040x768.Idx → EReal) : S1024x768.Idx → EReal := extractStridedSlice S1024x768 ![16, 0]
      (select (cmpi .slt (iota .tc S1040x768 32 [1] iota_S1040x768_d1_w32) (broadcast S1040x768 192#32)) s2
        (select (cmpi .slt (iota .tc S1040x768 32 [1] iota_S1040x768_d1_w32) (broadcast S1040x768 384#32)) s4
          (select (cmpi .slt (iota .tc S1040x768 32 [1] iota_S1040x768_d1_w32) (broadcast S1040x768 576#32)) s8 s16))) slices_S1040x768_o16_0_S1024x768

/-- The chosen sums at an entry. -/
theorem chosen_at (s2 s4 s8 s16 : S1040x768.Idx → EReal) (r : Fin 1024) (g : Fin 4) (a : Fin 192) :
    chosen s2 s4 s8 s16 (ix2 r ⟨g.val * 192 + a.val, by omega⟩) = (![s2, s4, s8, s16] g) (ix2 ⟨16 + r.val, by omega⟩ ⟨g.val * 192 + a.val, by omega⟩) := by
  rw [← pick g a (fun g' => (![s2, s4, s8, s16] g') (ix2 ⟨16 + r.val, by omega⟩ ⟨g.val * 192 + a.val, by omega⟩))]
  unfold chosen
  pointwise []
  try rfl

/-- The windowed sums are the chosen ones. -/
theorem sums_eq (i : grid0.Coords) (v4 : S16x768.Idx → EReal) (v7 : S1024x768.Idx → EReal) :
    k0_pay12 (F := Ideal) i v4 v7 = chosen (dbl 1#32 (rows i v4 v7)) (dbl 2#32 (dbl 1#32 (rows i v4 v7))) (dbl 4#32 (dbl 2#32 (dbl 1#32 (rows i v4 v7))))
      (dbl 8#32 (dbl 4#32 (dbl 2#32 (dbl 1#32 (rows i v4 v7))))) := rfl

/-- The windowed sums of rows. -/
theorem window_sum (w : S1040x768.Idx → EReal) (r : Fin 1024) (g : Fin 4) (x : Fin 768) (C : ℕ → EReal)
    (hC : ∀ q : Fin 1040, w (ix2 q x) = C q.val) :
    (![dbl 1#32 w, dbl 2#32 (dbl 1#32 w), dbl 4#32 (dbl 2#32 (dbl 1#32 w)), dbl 8#32 (dbl 4#32 (dbl 2#32 (dbl 1#32 w)))] g) (ix2 ⟨16 + r.val, by omega⟩ x)
      = ∑ k ∈ Finset.range (wd g), C (16 + r.val - k) := by
  have h1 : ∀ q : Fin 1040, 0 ≤ q.val → w (ix2 q x) = ∑ k ∈ Finset.range 1, C (q.val - k) := fun q _ => by
    rw [hC q]; simp
  have h2 := dbl_sum 1 0 1#32 rfl w _ C h1
  have h4 := dbl_sum 2 1 2#32 rfl (dbl 1#32 w) _ C fun q hq => h2 q (by omega)
  have h8 := dbl_sum 4 3 4#32 rfl (dbl 2#32 (dbl 1#32 w)) _ C fun q hq => h4 q (by omega)
  have h16 := dbl_sum 8 7 8#32 rfl (dbl 4#32 (dbl 2#32 (dbl 1#32 w))) _ C fun q hq => h8 q (by omega)
  match g with
  | ⟨0, _⟩ => exact h2 ⟨16 + r.val, by omega⟩ (by show _ ≤ 16 + r.val; omega)
  | ⟨1, _⟩ => exact h4 ⟨16 + r.val, by omega⟩ (by show _ ≤ 16 + r.val; omega)
  | ⟨2, _⟩ => exact h8 ⟨16 + r.val, by omega⟩ (by show _ ≤ 16 + r.val; omega)
  | ⟨3, _⟩ => exact h16 ⟨16 + r.val, by omega⟩ (by show _ ≤ 16 + r.val; omega)

/-- The windowed sums of a point. -/
theorem point_sum (i : grid0.Coords) (v4 : S16x768.Idx → EReal) (v7 : S1024x768.Idx → EReal) (r : Fin 1024) (g : Fin 4) (a : Fin 192) (C : ℕ → EReal)
    (hC : ∀ q : Fin 1040, rows i v4 v7 (ix2 q ⟨g.val * 192 + a.val, by omega⟩) = C q.val) :
    k0_pay12 (F := Ideal) i v4 v7 (ix2 r ⟨g.val * 192 + a.val, by omega⟩) = ∑ k ∈ Finset.range (wd g), C (16 + r.val - k) := by
  rw [sums_eq, chosen_at]
  exact window_sum _ r g _ C hC

/-- The rows of a point, at an entry. -/
theorem rows_at (i : grid0.Coords) (v4 : S16x768.Idx → EReal) (v7 : S1024x768.Idx → EReal) (q : Fin 1040) (x : Fin 768) :
    rows i v4 v7 (ix2 q x) = if h : q.val < 16 then (if 0 < (i 0).val then v4 (ix2 ⟨q.val, h⟩ x) else 0) else v7 (ix2 ⟨q.val - 16, by omega⟩ x) := by
  have hi : (i 0).val < 4 := (i 0).isLt
  have hs : Scalar.cmpi .sgt (BitVec.ofNat 32 (i 0).val) 0#32 = if 0 < (i 0).val then 1#1 else 0#1 := by
    have : ∀ k : Fin 4, Scalar.cmpi .sgt (BitVec.ofNat 32 k.val) 0#32 = if 0 < k.val then 1#1 else 0#1 := by decide +kernel
    exact this ⟨_, hi⟩
  unfold rows
  rw [hs]
  by_cases h0 : 0 < (i 0).val
  · rw [if_pos h0]
    pointwise []
    try simp [h0, Scalar.select]
  · rw [if_neg h0]
    pointwise []
    try simp [h0, Scalar.select]

/-- The pooled part of a point. -/
abbrev poolOf (i : grid0.Coords) (v4 : S16x768.Idx → EReal) (v7 : S1024x768.Idx → EReal) (B : S768x768.Idx → EReal) (s : S1x768.Idx → EReal) : S1024x768.Idx → EReal :=
  k0_pay17 (F := Ideal) v7 (k0_pay12 i v4 v7) (k0_pay13 i) k0_pay14 k0_pay15 k0_pay16 B s

/-- The pooled part at an entry, the sums and the widths as the body computes them. -/
theorem point_pool (i : grid0.Coords) (v4 : S16x768.Idx → EReal) (v7 : S1024x768.Idx → EReal) (B : S768x768.Idx → EReal) (s : S1x768.Idx → EReal) (r : Fin 1024) (y : Fin 768) :
    poolOf i v4 v7 B s (ix2 r y) = (∑ x : Fin 768, (Ideal.div (k0_pay12 (F := Ideal) i v4 v7 (ix2 r x)) (FloatOps.sitofp (F := Ideal) .f32
        (IntOp.minsi (IntOp.addi (BitVec.ofNat 32 ((i 0).val * 1024 + r.val)) 1#32)
          (Scalar.select (IntOp.cmpi .slt (BitVec.ofNat 32 x.val) 192#32) 2#32 (Scalar.select (IntOp.cmpi .slt (BitVec.ofNat 32 x.val) 384#32) 4#32
            (Scalar.select (IntOp.cmpi .slt (BitVec.ofNat 32 x.val) 576#32) 8#32 16#32))))) - v7 (ix2 r x)) * B (ix2 x y)) * s (ix2 0 y) := by
  have hi : ∀ k : ℕ, k < 4 → IntOp.addi (IntOp.muli (BitVec.ofNat 32 k) 1024#32) (BitVec.ofNat 32 r.val) = BitVec.ofNat 32 (k * 1024 + r.val) := fun k hk => by
    unfold IntOp.addi IntOp.muli
    apply BitVec.eq_of_toNat_eq
    simp
  rw [← hi _ (i 0).isLt]
  unfold poolOf
  generalize k0_pay12 (F := Ideal) i v4 v7 = w
  pointwise [k0_pay17, k0_pay13, k0_pay14, k0_pay15, k0_pay16]
  try rfl

end Cert.Kernel14Ideal.Proof

end
-- ==== Proof.PoolFwd.lean ====
module

public import proofs.«01_k».proof.Defs
public import proofs.«01_k».proof.Proof.PoolPoint
public import proofs.«01_k».proof.Proof.SwaFwd
public import proofs.«01_k».proof.Proof.Gen.Kernel14Ideal.Frame
public import proofs.«01_k».proof.Proof.Gen.Reference14Ideal.Read
public import proofs.«01_k».proof.Proof.Gen.Pre_pool_input_and_gains_finite
public import Idealize.ShloMosaic.Lib.Pipeline.ReadBack

/-! The value of the window means and the memory attention, forward. -/

@[expose] public section

set_option maxRecDepth 16384

noncomputable section

namespace Cert.Kernel14Ideal.Proof

open Cert.Kernel14Ideal Cert.Kernel14Ideal.Gen Idealize.ShloMosaic Idealize.ShloMosaic.TcCoe Idealize.SL.Sem
open Idealize.ShloMosaic.Pipeline (Dat)
open Cert.Common
open Cert.Reference14Ideal.Proof (wd cnt col)

/-- What the body stores of the probabilities. -/
abbrev pOf (a : S1024x256.Idx → EReal) (q : S1x64.Idx → EReal) (MK : S256x256.Idx → EReal) : S1024x1024.Idx → EReal :=
  k0_pay2 (F := Ideal) MK (k0_pay18 q) (k0_pay20 MK (k0_pay19 a q)) (k0_pay24 (k0_pay22 a MK (k0_pay18 q)) (k0_pay23 a MK (k0_pay18 q))) (k0_pay26 a MK (k0_pay18 q)) (k0_pay28 a) (k0_pay29 a)

/-- What the body stores of the mixer's result. -/
abbrev oOf (P : S1024x768.Idx → EReal) (a : S1024x256.Idx → EReal) (q : S1x64.Idx → EReal) (MK MV : S256x256.Idx → EReal) : S1024x1024.Idx → EReal :=
  k0_pay3 (F := Ideal) P MK MV (k0_pay18 q) (k0_pay21 MK MV (k0_pay19 a q)) (k0_pay25 MV (k0_pay22 a MK (k0_pay18 q)) (k0_pay23 a MK (k0_pay18 q))) (k0_pay27 a MK MV (k0_pay18 q)) (k0_pay28 a) (k0_pay29 a)

/-- The memory keys a point keeps. -/
abbrev mkOf (kv : S256x512.Idx → EReal) (gk : S1x64.Idx → EReal) : S256x256.Idx → EReal :=
  k0_pay10 (F := Ideal) (k0_pay4 gk) (k0_pay5 kv gk) (k0_pay6 kv gk) (k0_pay7 kv gk) (k0_pay8 kv) (k0_pay9 kv)

/-- The probabilities are those of the memory attention alone. -/
theorem p_same (a : S1024x256.Idx → EReal) (q : S1x64.Idx → EReal) (MK : S256x256.Idx → EReal) : pOf a q MK = Cert.Kernel11Ideal.Proof.pOf a q MK := rfl

/-- The memory keys are those of the memory attention alone. -/
theorem mk_same (kv : S256x512.Idx → EReal) (gk : S1x64.Idx → EReal) : mkOf kv gk = Cert.Kernel11Ideal.Proof.mkOf kv gk := rfl

/-- So are the memory values. -/
theorem mv_same (kv : S256x512.Idx → EReal) : k0_pay11 (F := Ideal) kv = Cert.Kernel11Ideal.Gen.k0_pay11 (F := Ideal) kv := rfl

/-- The result is the pooled part beside the memory attention. -/
theorem o_same (P : S1024x768.Idx → EReal) (a : S1024x256.Idx → EReal) (q : S1x64.Idx → EReal) (MK MV : S256x256.Idx → EReal) : oOf P a q MK MV
    = truncf (F := Ideal) (φ := .f32) .bf16 (concatenate S1024x1024 1 [⟨S1024x768, P⟩, ⟨S1024x256, Cert.Kernel11Ideal.Proof.oOf a q MK MV⟩] concatenates_S1024x768_S1024x256_S1024x1024_d1) bitsLt_bf16_f32 := rfl

/-- The pooled columns of the result. -/
theorem o_pool (P : S1024x768.Idx → EReal) (a : S1024x256.Idx → EReal) (q : S1x64.Idx → EReal) (MK MV : S256x256.Idx → EReal) (r : Fin 1024) (x : Fin 768) :
    oOf P a q MK MV (ix2 r ⟨x.val, by omega⟩) = P (ix2 r x) := by
  rw [o_same]
  generalize Cert.Kernel11Ideal.Proof.oOf a q MK MV = w
  pointwise []
  try simp

/-- The memory columns of the result. -/
theorem o_mem (P : S1024x768.Idx → EReal) (a : S1024x256.Idx → EReal) (q : S1x64.Idx → EReal) (MK MV : S256x256.Idx → EReal) (r : Fin 1024) (x : Fin 256) :
    oOf P a q MK MV (ix2 r ⟨768 + x.val, by omega⟩) = Cert.Kernel11Ideal.Proof.oOf a q MK MV (ix2 r x) := by
  rw [o_same]
  generalize Cert.Kernel11Ideal.Proof.oOf a q MK MV = w
  pointwise []
  try simp

section reference
variable (proj : S4096x1024.Idx → EReal) (mkv : S256x512.Idx → EReal) (pw : S4x192x192.Idx → EReal) (ps : S768.Idx → EReal) (gq gk : S64.Idx → EReal)

/-- The reference's saved probabilities are those of the memory attention alone. -/
theorem ref_same : Cert.Reference14Ideal.Read.val_main_v162 (F := Ideal) proj mkv gq gk = Cert.Reference11Ideal.Read.val_main_v100 (F := Ideal) proj mkv gq gk := rfl

/-- So are the probabilities it multiplies with. -/
theorem ref_same' : Cert.Reference14Ideal.Read.val_main_v108 (F := Ideal) proj mkv gq gk = Cert.Reference11Ideal.Read.val_main_v45 (F := Ideal) proj mkv gq gk := rfl

/-- The memory columns of the reference's result. -/
theorem ref_mem (n : Fin 4) (r : Fin 4096) (i : Fin 64) :
    Cert.Reference14Ideal.Read.val_main_v113 (F := Ideal) proj mkv pw ps gq gk (ix2 r ⟨768 + (n.val * 64 + i.val), by omega⟩)
      = ∑ x : Fin 256, Cert.Reference11Ideal.Read.val_main_v45 (F := Ideal) proj mkv gq gk (ix3 n r x) * mkv (ix2 x ⟨256 + (n.val * 64 + i.val), by omega⟩) := by
  rw [← ref_same']
  unfold Cert.Reference14Ideal.Read.val_main_v113 Cert.Reference14Ideal.Read.val_main_v112
  generalize Cert.Reference14Ideal.Read.val_main_v62 (F := Ideal) proj pw ps = w
  pointwise [Cert.Reference14Ideal.Read.val_main_v111, Cert.Reference14Ideal.Read.val_main_v110, Cert.Reference14Ideal.Read.val_main_v109, Cert.Reference14Ideal.Read.val_main_v80, Cert.Reference14Ideal.Read.val_main_v79]
  try simp only [mul_comm]

end reference

/-- A sum over all columns, group by group. -/
theorem sum_groups (f : Fin 768 → EReal) : ∑ x, f x = ∑ g : Fin 4, ∑ a : Fin 192, f ⟨g.val * 192 + a.val, by omega⟩ := by
  rw [← Fintype.sum_prod_type' (fun (g : Fin 4) (a : Fin 192) => f ⟨g.val * 192 + a.val, by omega⟩)]
  refine (Equiv.sum_comp (finProdFinEquiv : Fin 4 × Fin 192 ≃ Fin (4 * 192)) f).symm.trans (Finset.sum_congr rfl fun p _ => congrArg f (Fin.ext ?_))
  show p.2.val + 192 * p.1.val = p.1.val * 192 + p.2.val
  omega

/-- The unit matrix's entry. -/
theorem eye_at (g h : Fin 4) : FloatOps.uitofp (F := Ideal) .f32 (IntOp.cmpi .eq (IntOp.addi (BitVec.ofNat 32 g.val) 0#32) (BitVec.ofNat 32 h.val)) = if g = h then 1 else 0 := by
  have e : ∀ g h : Fin 4, IntOp.cmpi .eq (IntOp.addi (BitVec.ofNat 32 g.val) 0#32) (BitVec.ofNat 32 h.val) = if g = h then 1#1 else 0#1 := by decide +kernel
  rw [e]
  split
  · show (((1#1).toNat : ℝ) : EReal) = 1
    simp
  · show (((0#1).toNat : ℝ) : EReal) = 0
    simp

/-- A product with a matrix of diagonal blocks keeps the column's own block. -/
theorem block_sum (D : Fin 768 → EReal) (pw : S4x192x192.Idx → EReal) (g : Fin 4) (b : Fin 192) (B : Fin 768 → EReal)
    (hB : ∀ (h : Fin 4) (a : Fin 192), B ⟨h.val * 192 + a.val, by omega⟩ = (if h = g then 1 else 0) * pw (ix3 h a b)) :
    ∑ x, D x * B x = ∑ a : Fin 192, pw (ix3 g a b) * D ⟨g.val * 192 + a.val, by omega⟩ := by
  rw [sum_groups, Finset.sum_eq_single g]
  · refine Finset.sum_congr rfl fun a _ => ?_
    rw [hB, if_pos rfl, one_mul, mul_comm]
  · intro h _ hne
    refine Finset.sum_eq_zero fun a _ => ?_
    rw [hB, if_neg hne, zero_mul, mul_zero]
  · intro h
    exact absurd (Finset.mem_univ _) h

variable (m : (ℓ : Loc nD τ sig) → Buf (Elt Ideal) ℓ)

/-- The projection. -/
abbrev Proj (c : Dev nD) : S4096x1024.Idx → EReal := m ((c : Thread nD τ).loc main_arg0)
/-- The memory's keys and values. -/
abbrev Mkv (c : Dev nD) : S256x512.Idx → EReal := m ((c : Thread nD τ).loc main_arg1)
/-- The pooled groups' weights. -/
abbrev Pw (c : Dev nD) : S4x192x192.Idx → EReal := m ((c : Thread nD τ).loc main_arg2)
/-- The pooled columns' scales. -/
abbrev Ps (c : Dev nD) : S768.Idx → EReal := m ((c : Thread nD τ).loc main_arg3)
/-- The queries' gain. -/
abbrev Gq (c : Dev nD) : S64.Idx → EReal := m ((c : Thread nD τ).loc main_arg4)
/-- The keys' gain. -/
abbrev Gk (c : Dev nD) : S64.Idx → EReal := m ((c : Thread nD τ).loc main_arg5)

/-- The windows' block indices. -/
theorem idx : ∀ t : Fin cfg0.N, win0_0.index t 0 = t.val ∧ win0_0.index t 1 = 0 ∧ win0_1.index t 0 = t.val * 64 - 1 ∧ win0_1.index t 1 = 0 ∧ win0_2.index t 0 = t.val ∧ win0_2.index t 1 = 3
    ∧ (∀ i, win0_3.index t i = 0) ∧ (∀ i, win0_4.index t i = 0) ∧ (∀ i, win0_5.index t i = 0) ∧ (∀ i, win0_6.index t i = 0) ∧ (∀ i, win0_7.index t i = 0)
    ∧ win0_8.index t 0 = t.val ∧ win0_8.index t 1 = 0 ∧ win0_9.index t 0 = t.val ∧ win0_9.index t 1 = 0 :=
  (by decide +kernel : ∀ t : Fin grid0.N, win0_0.index t 0 = t.val ∧ win0_0.index t 1 = 0 ∧ win0_1.index t 0 = t.val * 64 - 1 ∧ win0_1.index t 1 = 0 ∧ win0_2.index t 0 = t.val ∧ win0_2.index t 1 = 3
    ∧ (∀ i, win0_3.index t i = 0) ∧ (∀ i, win0_4.index t i = 0) ∧ (∀ i, win0_5.index t i = 0) ∧ (∀ i, win0_6.index t i = 0) ∧ (∀ i, win0_7.index t i = 0)
    ∧ win0_8.index t 0 = t.val ∧ win0_8.index t 1 = 0 ∧ win0_9.index t 0 = t.val ∧ win0_9.index t 1 = 0)

theorem coord : ∀ t : Fin grid0.N, (grid0.coords t 0).val = t.val := by decide +kernel

/-- A row of the sequence: a point's own. -/
abbrev rw0 (t : Fin cfg0.N) (r : Fin 1024) : Fin 4096 := ⟨t.val * 1024 + r.val, by have : t.val < 4 := t.isLt; omega⟩
/-- A row of the sequence: a halo's. -/
abbrev rw1 (t : Fin cfg0.N) (q : Fin 16) : Fin 4096 := ⟨(t.val * 64 - 1) * 16 + q.val, by have : t.val < 4 := t.isLt; omega⟩

theorem u_read (c : Dev nD) (t : Fin cfg0.N) (r : Fin 1024) (x : Fin 768) : X0_0 m c t (ix2 r x) = Proj m c (ix2 (rw0 t r) ⟨x.val, by omega⟩) := by
  have h : ∀ j : S4096x1024.Idx, j = ix2 (rw0 t r) ⟨x.val, by omega⟩ → V m c main_arg0 j = Proj m c (ix2 (rw0 t r) ⟨x.val, by omega⟩) := by
    rintro _ rfl
    rw [V_main_arg0]
  unfold X0_0 Pipeline.Window.fill
  rw [dif_pos (moved0_0 t _)]
  refine h _ ?_
  blk_ext [idx t]

theorem halo_read (c : Dev nD) (t : Fin cfg0.N) (q : Fin 16) (x : Fin 768) : X0_1 m c t (ix2 q x) = Proj m c (ix2 (rw1 t q) ⟨x.val, by omega⟩) := by
  have h : ∀ j : S4096x1024.Idx, j = ix2 (rw1 t q) ⟨x.val, by omega⟩ → V m c main_arg0 j = Proj m c (ix2 (rw1 t q) ⟨x.val, by omega⟩) := by
    rintro _ rfl
    rw [V_main_arg0]
  unfold X0_1 Pipeline.Window.fill
  rw [dif_pos (moved0_1 t _)]
  refine h _ ?_
  blk_ext [idx t]

theorem a_read (c : Dev nD) (t : Fin cfg0.N) (r : Fin 1024) (x : Fin 256) : iblk m c 2 t (ix2 r x) = Proj m c (ix2 (rw0 t r) ⟨768 + x.val, by omega⟩) := by
  blk_ext [iblk, V, idx t]

theorem kv_read (c : Dev nD) (t : Fin cfg0.N) : iblk m c 3 t = Mkv m c := by
  funext j
  blk_ext [iblk, V, idx t]

theorem q_read (c : Dev nD) (t : Fin cfg0.N) (i : Fin 64) : iblk m c 6 t (ix2 0 i) = Gq m c (ix1 i) := by
  have h : ∀ j : S1x64.Idx, j = ix2 0 i → V m c main_v0 j = Gq m c (ix1 i) := by
    rintro _ rfl
    entry_read
    pointwise []
  refine h _ ?_
  blk_ext [idx t]

theorem k_read (c : Dev nD) (t : Fin cfg0.N) (i : Fin 64) : iblk m c 7 t (ix2 0 i) = Gk m c (ix1 i) := by
  have h : ∀ j : S1x64.Idx, j = ix2 0 i → V m c main_v1 j = Gk m c (ix1 i) := by
    rintro _ rfl
    entry_read
    pointwise []
  refine h _ ?_
  blk_ext [idx t]

theorem s_read (c : Dev nD) (t : Fin cfg0.N) (y : Fin 768) : iblk m c 5 t (ix2 0 y) = Ps m c (ix1 y) := by
  have h : ∀ j : S1x768.Idx, j = ix2 0 y → V m c main_v15 j = Ps m c (ix1 y) := by
    rintro _ rfl
    entry_read
    pointwise []
  refine h _ ?_
  blk_ext [idx t]

theorem b_read (c : Dev nD) (t : Fin cfg0.N) (h : Fin 4) (a : Fin 192) (g : Fin 4) (b : Fin 192) :
    iblk m c 4 t (ix2 ⟨h.val * 192 + a.val, by omega⟩ ⟨g.val * 192 + b.val, by omega⟩) = (if h = g then 1 else 0) * Pw m c (ix3 h a b) := by
  have e : ∀ j : S768x768.Idx, j = ix2 ⟨h.val * 192 + a.val, by omega⟩ ⟨g.val * 192 + b.val, by omega⟩ → V m c main_v14 j
      = FloatOps.uitofp (F := Ideal) .f32 (IntOp.cmpi .eq (IntOp.addi (BitVec.ofNat 32 h.val) 0#32) (BitVec.ofNat 32 g.val)) * Pw m c (ix3 h a b) := by
    rintro _ rfl
    entry_read
    pointwise []
    have e0 : (h.val * 192 + a.val) / 192 = h.val := by omega
    have e1 : (h.val * 192 + a.val) % 192 = a.val := by omega
    have e2 : (g.val * 192 + b.val) / 192 = g.val := by omega
    have e3 : (g.val * 192 + b.val) % 192 = b.val := by omega
    simp only [e0, e1, e2, e3]
  rw [← eye_at]
  refine e _ ?_
  blk_ext [idx t]

/-- The first point. -/
abbrev t00 : Fin cfg0.N := ⟨0, by show 0 < 4; omega⟩
/-- The memory keys, normalised. -/
abbrev MKA (c : Dev nD) := mkOf (Mkv m c) (iblk m c 7 t00)
/-- The memory values. -/
abbrev MVA (c : Dev nD) := k0_pay11 (F := Ideal) (Mkv m c)
/-- The pooled part of a point. -/
abbrev PA (c : Dev nD) (t : Fin cfg0.N) := poolOf (grid0.coords t) (X0_1 m c t) (X0_0 m c t) (iblk m c 4 t) (iblk m c 5 t)

theorem gk_block (c : Dev nD) (t : Fin cfg0.N) : iblk m c 7 t = iblk m c 7 t00 := by
  funext j
  obtain ⟨i, rfl⟩ : ∃ i : Fin 64, j = ix2 0 i := ⟨j 1, by blk_ext⟩
  rw [k_read, k_read]

/-- The keys kept in the scratch. -/
theorem mk_A (c : Dev nD) (t : Fin cfg0.N) (h : t.val % 4 = 0) : (outsAt0 m c t.val t.isLt).2.2.1 = MKA m c := by
  rw [outsAt0_A m c t h, MKA, ← kv_read m c t, ← gk_block m c t]
  funext y
  frame_out
/-- The values kept in the scratch. -/
theorem mv_A (c : Dev nD) (t : Fin cfg0.N) (h : t.val % 4 = 0) : (outsAt0 m c t.val t.isLt).2.2.2 = MVA m c := by
  rw [outsAt0_A m c t h, MVA, ← kv_read m c t]
  funext y
  frame_out

/-- The scratches hold them at every point. -/
theorem mk_at (c : Dev nD) : ∀ (n : ℕ) (h : n < cfg0.N), (outsAt0 m c n h).2.2.1 = MKA m c ∧ (outsAt0 m c n h).2.2.2 = MVA m c
  | 0, h => ⟨mk_A m c ⟨0, h⟩ rfl, mv_A m c ⟨0, h⟩ rfl⟩
  | n + 1, h => by
    have hn : n + 1 < 4 := h
    have h0 : ¬(n + 1) % 4 = 0 := by omega
    have ih := mk_at c n (Nat.lt_of_succ_lt h)
    have e := outsAt0_B m c ⟨n + 1, h⟩ h0
    refine ⟨Eq.trans ?_ ih.1, Eq.trans ?_ ih.2⟩
    · show (outsAt0 m c (⟨n + 1, h⟩ : Fin cfg0.N).val (⟨n + 1, h⟩ : Fin cfg0.N).isLt).2.2.1 = _
      rw [e]; rfl
    · show (outsAt0 m c (⟨n + 1, h⟩ : Fin cfg0.N).val (⟨n + 1, h⟩ : Fin cfg0.N).isLt).2.2.2 = _
      rw [e]; rfl

/-- What a point stores of the result. -/
theorem o_at (c : Dev nD) (t : Fin cfg0.N) :
    (outsAt0 m c t.val t.isLt).1 = oOf (PA m c t) (iblk m c 2 t) (iblk m c 6 t) (MKA m c) (MVA m c) := by
  have e := mk_at m c (t.val - 1) (Nat.lt_of_le_of_lt (Nat.sub_le _ _) t.isLt)
  by_cases h : t.val % 4 = 0
  · rw [outsAt0_A m c t h, MKA, MVA, ← kv_read m c t, ← gk_block m c t]
    funext y
    frame_out
  · rw [outsAt0_B m c t h]
    funext y
    frame_out
    rw [read_unread_whole, read_unread_whole, e.1, e.2]

/-- What a point stores of the probabilities. -/
theorem p_at (c : Dev nD) (t : Fin cfg0.N) :
    (outsAt0 m c t.val t.isLt).2.1 = pOf (iblk m c 2 t) (iblk m c 6 t) (MKA m c) := by
  have e := mk_at m c (t.val - 1) (Nat.lt_of_le_of_lt (Nat.sub_le _ _) t.isLt)
  by_cases h : t.val % 4 = 0
  · rw [outsAt0_A m c t h, MKA, ← kv_read m c t, ← gk_block m c t]
    funext y
    frame_out
  · rw [outsAt0_B m c t h]
    funext y
    frame_out
    rw [read_unread_whole, e.1]

/-- The memory values, at an entry. -/
theorem mv_entry (c : Dev nD) (x : Fin 256) (n : Fin 4) (k : Fin 64) :
    MVA m c (ix2 x ⟨n.val * 64 + k.val, by omega⟩) = Mkv m c (ix2 x ⟨256 + (n.val * 64 + k.val), by omega⟩) := by
  rw [MVA, mv_same]
  exact Cert.Kernel11Ideal.Proof.point_mv _ x ⟨n.val * 64 + k.val, by omega⟩

/-- The memory keys, at an entry. -/
theorem mk_entry (c : Dev nD) (x : Fin 256) (n : Fin 4) (k : Fin 64) :
    MKA m c (ix2 x ⟨n.val * 64 + k.val, by omega⟩) = Cert.Kernel11Ideal.Proof.xkb (Mkv m c) x n k * Gk m c (ix1 k) := by
  rw [MKA, mk_same]
  refine (Cert.Kernel11Ideal.Proof.point_mk _ _ x n k).trans ?_
  rw [k_read]

/-- The scores of a point are the reference's. -/
theorem s_eq (c : Dev nD) (t : Fin cfg0.N) (r : Fin 1024) (n : Fin 4) (x : Fin 256) :
    Cert.Kernel11Ideal.Proof.sb (iblk m c 2 t) (iblk m c 6 t) (MKA m c) r n x
      = Cert.Reference11Ideal.Read.val_main_v34 (F := Ideal) (Proj m c) (Mkv m c) (Gq m c) (Gk m c) (ix3 n (rw0 t r) x) := by
  rw [Cert.Kernel11Ideal.Proof.ref_s, mul_comm, eighth_f32, const_mul_sum _ _ (by norm_num)]
  refine Finset.sum_congr rfl fun k _ => ?_
  rw [mk_entry, q_read, eighth_f32]
  simp only [a_read]
  unfold Cert.Kernel11Ideal.Proof.xq
  ac_rfl

/-- The windowed sum of a point's rows. -/
theorem sum_at (c : Dev nD) (t : Fin cfg0.N) (r : Fin 1024) (g : Fin 4) (a : Fin 192) :
    k0_pay12 (F := Ideal) (grid0.coords t) (X0_1 m c t) (X0_0 m c t) (ix2 r ⟨g.val * 192 + a.val, by omega⟩)
      = ∑ k ∈ Finset.range (wd g), if k ≤ (rw0 t r).val then col (Proj m c) ⟨g.val * 192 + a.val, by omega⟩ ((rw0 t r).val - k) else 0 := by
  have ht : t.val < 4 := t.isLt
  refine (point_sum (grid0.coords t) _ _ r g a (fun q => if 16 ≤ t.val * 1024 + q then col (Proj m c) ⟨g.val * 192 + a.val, by omega⟩ (t.val * 1024 + q - 16) else 0) fun q => ?_).trans ?_
  · rw [rows_at, coord t]
    unfold col
    by_cases hq : q.val < 16
    · rw [dif_pos hq]
      by_cases h0 : 0 < t.val
      · rw [if_pos h0, if_pos (by omega), halo_read, dif_pos (by omega)]
        refine congrArg (Proj m c) (congrArg₂ ix2 (Fin.ext ?_) rfl)
        show (t.val * 64 - 1) * 16 + q.val = t.val * 1024 + q.val - 16
        omega
      · rw [if_neg h0, if_neg (by omega)]
    · rw [dif_neg hq, if_pos (by omega), u_read, dif_pos (by omega)]
      refine congrArg (Proj m c) (congrArg₂ ix2 (Fin.ext ?_) rfl)
      show t.val * 1024 + (q.val - 16) = t.val * 1024 + q.val - 16
      omega
  · refine Finset.sum_congr rfl fun k hk => ?_
    have hw : ∀ g : Fin 4, wd g ≤ 16 := by decide
    have hk' := Finset.mem_range.mp hk
    have hk16 : k < 16 := lt_of_lt_of_le hk' (hw g)
    show (if 16 ≤ t.val * 1024 + (16 + r.val - k) then _ else _) = if k ≤ t.val * 1024 + r.val then _ else _
    by_cases h : k ≤ t.val * 1024 + r.val
    · rw [if_pos h, if_pos (by omega)]
      congr 1
      show t.val * 1024 + (16 + r.val - k) - 16 = t.val * 1024 + r.val - k
      omega
    · rw [if_neg h, if_neg (by omega)]

section values
variable (c : Dev nD) (hu : ∀ (r : Fin 4096) (x : Fin 768), ∃ z : ℝ, Proj m c (ix2 r ⟨x.val, by omega⟩) = z) (hq : ∀ i, ∃ x : ℝ, Gq m c i = x) (hk : ∀ i, ∃ x : ℝ, Gk m c i = x)
include hu hq hk

omit hq hk in
/-- A point's mean less its row is the reference's. -/
theorem mean_eq (t : Fin cfg0.N) (r : Fin 1024) (g : Fin 4) (a : Fin 192) :
    Cert.Reference14Ideal.Read.val_main_v56 (F := Ideal) (Proj m c) (ix3 (rw0 t r) g a)
      = Ideal.div (k0_pay12 (F := Ideal) (grid0.coords t) (X0_1 m c t) (X0_0 m c t) (ix2 r ⟨g.val * 192 + a.val, by omega⟩)) (cnt (t.val * 1024 + r.val) g) - X0_0 m c t (ix2 r ⟨g.val * 192 + a.val, by omega⟩) := by
  rw [Cert.Reference14Ideal.Proof.ref_mean, Cert.Reference14Ideal.Proof.ref_diff, Cert.Reference14Ideal.Proof.diff_window _ (fun j => ?_), sum_at, u_read]
  unfold col
  split
  · exact hu _ _
  · exact ⟨0, rfl⟩

omit hq hk in
/-- The pooled part of a point is the reference's. -/
theorem pool_eq (t : Fin cfg0.N) (r : Fin 1024) (g : Fin 4) (b : Fin 192) : PA m c t (ix2 r ⟨g.val * 192 + b.val, by omega⟩)
    = Cert.Reference14Ideal.Read.val_main_v113 (F := Ideal) (Proj m c) (Mkv m c) (Pw m c) (Ps m c) (Gq m c) (Gk m c) (ix2 (rw0 t r) ⟨g.val * 192 + b.val, by omega⟩) := by
  rw [Cert.Reference14Ideal.Proof.ref_pool, PA, point_pool, s_read, coord t]
  refine congrArg (· * Ps m c (ix1 ⟨g.val * 192 + b.val, by omega⟩)) ((block_sum _ (Pw m c) g b _ (fun h a => b_read m c t h a g b)).trans (Finset.sum_congr rfl fun a _ => ?_))
  rw [mean_eq m c hu]
  refine congrArg (fun w => Pw m c (ix3 g a b) * (Ideal.div _ (FloatOps.sitofp (F := Ideal) .f32 (IntOp.minsi _ w)) - _)) ?_
  exact (pick g a (fun g' => BitVec.ofNat 32 (wd g')))

omit hu in
/-- The probabilities of a point are the reference's. -/
theorem p_eq (t : Fin cfg0.N) (r : Fin 1024) (n : Fin 4) (x : Fin 256) :
    Cert.Kernel11Ideal.Proof.pb (iblk m c 2 t) (iblk m c 6 t) (MKA m c) r n x
      = Cert.Reference11Ideal.Read.val_main_v45 (F := Ideal) (Proj m c) (Mkv m c) (Gq m c) (Gk m c) (ix3 n (rw0 t r) x) := by
  have hs := Cert.Kernel11Ideal.Proof.s_real (Proj m c) (Mkv m c) (Gq m c) (Gk m c) hq hk n (rw0 t r)
  rw [Cert.Kernel11Ideal.Proof.ref_p]
  simp only [Cert.Kernel11Ideal.Proof.ref_e, Cert.Kernel11Ideal.Proof.pb, s_eq, ninf_f32, one_f32]
  exact Cert.Kernel11Ideal.Proof.softmax_fwd (n := 255) (fun y => Cert.Reference11Ideal.Read.val_main_v34 (F := Ideal) (Proj m c) (Mkv m c) (Gq m c) (Gk m c) (ix3 n (rw0 t r) y)) hs x

/-- The result, over the whole array. -/
theorem final_o : (dats m 0 c).arrAt 8 cfg0.N
    = Cert.Reference14Ideal.Read.val_main_v113 (F := Ideal) (Proj m c) (Mkv m c) (Pw m c) (Ps m c) (Gq m c) (Gk m c) := by
  refine (dats m 0 c).arrAt_eq_of_covers 8 _ (by decide +kernel) fun t hf y => ?_
  blk_simp
  rw [after0_8, o_at]
  obtain ⟨r, z, rfl⟩ : ∃ (r : Fin 1024) (z : Fin 1024), y = ix2 r z := ⟨y 0, y 1, by blk_ext⟩
  have ht : t.val < 4 := t.isLt
  have he : ((cfg0.win 8).blk t).view.emb (ix2 r z) = ix2 (rw0 t r) z := by blk_ext [idx t]
  rw [he]
  by_cases hz : z.val < 768
  · obtain ⟨g, b, e⟩ : ∃ (g : Fin 4) (b : Fin 192), z = ⟨g.val * 192 + b.val, by omega⟩ :=
      ⟨⟨z.val / 192, by omega⟩, ⟨z.val % 192, Nat.mod_lt _ (by norm_num)⟩, Fin.ext (by show z.val = z.val / 192 * 192 + z.val % 192; omega)⟩
    rw [e]
    exact (o_pool _ _ _ _ _ r ⟨g.val * 192 + b.val, by omega⟩).trans (pool_eq m c hu t r g b)
  · obtain ⟨n, i, e⟩ : ∃ (n : Fin 4) (i : Fin 64), z = ⟨768 + (n.val * 64 + i.val), by omega⟩ :=
      ⟨⟨(z.val - 768) / 64, by omega⟩, ⟨(z.val - 768) % 64, Nat.mod_lt _ (by norm_num)⟩, Fin.ext (by show z.val = 768 + ((z.val - 768) / 64 * 64 + (z.val - 768) % 64); omega)⟩
    rw [e]
    refine (o_mem _ _ _ _ _ r ⟨n.val * 64 + i.val, by omega⟩).trans ((Cert.Kernel11Ideal.Proof.point_o _ _ _ _ r n i).trans (Eq.trans ?_ (ref_mem _ _ _ _ _ _ n _ i).symm))
    refine Finset.sum_congr rfl fun x _ => ?_
    rw [p_eq m c hq hk, mv_entry]

omit hu in
/-- The probabilities, over the whole array. -/
theorem final_p : (dats m 0 c).arrAt 9 cfg0.N = Cert.Reference14Ideal.Read.val_main_v162 (F := Ideal) (Proj m c) (Mkv m c) (Gq m c) (Gk m c) := by
  refine (dats m 0 c).arrAt_eq_of_covers 9 _ (by decide +kernel) fun t hf y => ?_
  blk_simp
  rw [after0_9, p_at]
  obtain ⟨r, n, x, rfl⟩ : ∃ (r : Fin 1024) (n : Fin 4) (x : Fin 256), y = ix2 r ⟨n.val * 256 + x.val, by omega⟩ :=
    ⟨y 0, ⟨(y 1).val / 256, by have : (y 1).val < 1024 := (y 1).isLt; omega⟩, ⟨(y 1).val % 256, Nat.mod_lt _ (by norm_num)⟩, by blk_ext⟩
  have ht : t.val < 4 := t.isLt
  have he : ((cfg0.win 9).blk t).view.emb (ix2 r ⟨n.val * 256 + x.val, by omega⟩) = ix2 (rw0 t r) ⟨n.val * 256 + x.val, by omega⟩ := by blk_ext [idx t]
  rw [he, p_same, ref_same]
  exact (Cert.Kernel11Ideal.Proof.point_p _ _ _ r n x).trans ((p_eq m c hq hk t r n x).trans (Cert.Kernel11Ideal.Proof.ref_probs _ _ _ _ n _ x).symm)

end values

/-- The run: its results, and the arguments unchanged. -/
theorem pool_run (ρ : Dev nD → PrngReg) : θ_run defs (onTc (τ := τ) (main (F := Ideal))) ⟨m, fun _ => 0, ρ⟩ fun r => ∀ c : Dev nD,
      r.2.mem ((c.tc : Thread nD τ).loc main_v16_0) = (dats m 0 c).arrAt 8 cfg0.N
      ∧ r.2.mem ((c.tc : Thread nD τ).loc main_v16_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1 8, (h c).1 9,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

/-- Where the precondition holds the pooled columns and the gains are real numbers. -/
theorem inputs_real (h : Cert.Pre_Kernel14Ideal_pool_input_and_gains_finite m) (c : Dev nD) :
    (∀ (r : Fin 4096) (x : Fin 768), ∃ z : ℝ, Proj m c (ix2 r ⟨x.val, by omega⟩) = z) ∧ (∀ i, ∃ x : ℝ, Gq m c i = x) ∧ (∀ i, ∃ x : ℝ, Gk m c i = x) := by
  have hc : ∀ j, Cert.Pre_pool_input_and_gains_finite.fn (F := Ideal) (Proj m c) (Mkv m c) (Pw m c) (Ps m c) (Gq m c) (Gk m c) j = 1#1 := fun j => congrFun (h c) j
  have hb : ∀ (r : Fin 4096) (n : Fin 12) (i : Fin 64), ((max (Proj m c (ix2 r ⟨n.val * 64 + i.val, by omega⟩)) (-Proj m c (ix2 r ⟨n.val * 64 + i.val, by omega⟩)) < ⊤)
      ∧ (max (Gq m c (ix1 i)) (-Gq m c (ix1 i)) < ⊤)) ∧ (max (Gk m c (ix1 i)) (-Gk m c (ix1 i)) < ⊤) := by
    intro r n i
    have hi := hc (ix3 r n i)
    unfold Cert.Pre_pool_input_and_gains_finite.fn at hi
    revert hi
    pointwise []
    rw [Cert.Kernel6Ideal.Proof.pinf_f32]
    intro hi
    exact ⟨Cert.Kernel6Ideal.Proof.both (Cert.Kernel13Ideal.Proof.left_bit hi), Cert.Kernel13Ideal.Proof.of_bit (Cert.Kernel13Ideal.Proof.right_bit hi)⟩
  refine ⟨fun r x => ?_, fun i => ?_, fun i => ?_⟩
  · have e : (⟨x.val, by omega⟩ : Fin 1024) = ⟨(⟨x.val / 64, by omega⟩ : Fin 12).val * 64 + (⟨x.val % 64, Nat.mod_lt _ (by norm_num)⟩ : Fin 64).val, by show x.val / 64 * 64 + x.val % 64 < 1024; omega⟩ :=
      Fin.ext (by show x.val = x.val / 64 * 64 + x.val % 64; omega)
    rw [e]
    exact Cert.Kernel6Ideal.Proof.fin_real (hb r ⟨x.val / 64, by omega⟩ ⟨x.val % 64, Nat.mod_lt _ (by norm_num)⟩).1.1
  · obtain ⟨k, rfl⟩ : ∃ k : Fin 64, i = ix1 k := ⟨i 0, by blk_ext⟩
    exact Cert.Kernel6Ideal.Proof.fin_real (hb 0 0 k).1.2
  · obtain ⟨k, rfl⟩ : ∃ k : Fin 64, i = ix1 k := ⟨i 0, by blk_ext⟩
    exact Cert.Kernel6Ideal.Proof.fin_real (hb 0 0 k).2

end Cert.Kernel14Ideal.Proof

namespace Cert.Proof

open Idealize.ShloMosaic Idealize.ShloMosaic.TcCoe Idealize.SL.Sem

set_option maxHeartbeats 2000000 in
/-- The idealized window means and memory attention compute what the reference does, for finite pooled columns and gains. -/
theorem poolfwd_value : Cert.algebraic_Kernel14Ideal_Reference14Ideal_pre_pool_input_and_gains_finite := by
  pair_intro
  · run_from Cert.Kernel14Ideal.Proof.pool_run m g
  · have hr := Cert.Kernel14Ideal.Proof.inputs_real m hpre
    run_from Cert.Reference14Ideal.Value.run m' g'
    · refine (Cert.Reference14Ideal.Read.val_main_v113_eq (F := Ideal) (StableHlo.launchContents m' c)).trans ?_
      exact (congr6 (Cert.Reference14Ideal.Read.val_main_v113 (F := Ideal)) (hagree c).1 (hagree c).2.1 (hagree c).2.2.1 (hagree c).2.2.2.1 (hagree c).2.2.2.2.1 (hagree c).2.2.2.2.2).trans (Cert.Kernel14Ideal.Proof.final_o m c (hr c).1 (hr c).2.1 (hr c).2.2).symm
    · refine (Cert.Reference14Ideal.Read.val_main_v162_eq (F := Ideal) (StableHlo.launchContents m' c)).trans ?_
      exact (congr4 (Cert.Reference14Ideal.Read.val_main_v162 (F := Ideal)) (hagree c).1 (hagree c).2.1 (hagree c).2.2.2.2.1 (hagree c).2.2.2.2.2).trans (Cert.Kernel14Ideal.Proof.final_p m c (hr c).2.1 (hr c).2.2).symm

end Cert.Proof

end
-- ==== Proof.DCat.lean ====
module

public import proofs.«01_k».proof.Defs
public import proofs.«01_k».proof.Proof.Common
public import proofs.«01_k».proof.Proof.Gen.Kernel15Ideal.Value
public import proofs.«01_k».proof.Proof.Gen.Reference15Ideal.Read

/-! The value of the output product's gradient to the mixer: rows times the transposed output weights, gathered from four chips. -/

@[expose] public section

set_option maxRecDepth 16384

noncomputable section

namespace Cert.Kernel15Ideal.Proof

open Cert.Kernel15Ideal Cert.Kernel15Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![0, 9, 0] ∧ win0_2.index t = ![t.val, 0] := by decide +kernel

/-- The gathered weights as the call finds them. -/
theorem w_arr (c : Dev nD) : V m c main_v6 = (truncf .bf16 (concatenate S4x2560x1024 1
    [⟨S4x1024x1024, shapeCast S4x1024x1024 (m ((c : Thread nD τ).loc main_arg1)) shapeCasts_S4096x1024_S4x1024x1024⟩,
     ⟨S4x1024x1024, transpose S4x1024x1024 [1, 0, 2] (shapeCast S1024x4x1024 (m ((c : Thread nD τ).loc main_arg2)) shapeCasts_S1024x4096_S1024x4x1024) transposes_S1024x4x1024_S4x1024x1024_1_0_2⟩,
     ⟨S4x256x1024, shapeCast S4x256x1024 (m ((c : Thread nD τ).loc main_arg3)) shapeCasts_S1024x1024_S4x256x1024⟩,
     ⟨S4x256x1024, shapeCast S4x256x1024 (m ((c : Thread nD τ).loc main_arg4)) shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16) := by
  unfold V
  after_results
  rfl

/-- The rows of the output weights inside the gathered weights. -/
theorem packed_out (a : S4096x1024.Idx → EReal) (b : S1024x4096.Idx → EReal) (u d : S1024x1024.Idx → EReal) (k : Fin 4) (q : Fin 256) (x : Fin 1024) :
    (truncf .bf16 (concatenate S4x2560x1024 1
    [⟨S4x1024x1024, shapeCast S4x1024x1024 a shapeCasts_S4096x1024_S4x1024x1024⟩,
     ⟨S4x1024x1024, transpose S4x1024x1024 [1, 0, 2] (shapeCast S1024x4x1024 b shapeCasts_S1024x4096_S1024x4x1024) transposes_S1024x4x1024_S4x1024x1024_1_0_2⟩,
     ⟨S4x256x1024, shapeCast S4x256x1024 u shapeCasts_S1024x1024_S4x256x1024⟩,
     ⟨S4x256x1024, shapeCast S4x256x1024 d shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16)
     (ix3 k ⟨2304 + q.val, by omega⟩ x) = d (ix2 ⟨k.val * 256 + q.val, by omega⟩ x) := by
  pointwise []
  rw [dif_neg (by omega), dif_neg (by omega), dif_neg (by omega)]
  refine congrArg d ?_
  blk_ext

abbrev Dh (c : Dev nD) : S4096x1024.Idx → EReal := m ((c : Thread nD τ).loc main_arg0)
abbrev W (c : Dev nD) : S1024x1024.Idx → EReal := m ((c : Thread nD τ).loc main_arg4)

/-- The weights' block read at a row of `w_out`. -/
theorem w_read (c : Dev nD) (t : Fin cfg0.N) (k x : Fin 1024) :
    iblk m c 1 t (ix3 ⟨k.val / 256, by omega⟩ ⟨k.val % 256, by omega⟩ x) = W m c (ix2 k x) := by
  have h : ∀ j : S4x2560x1024.Idx, j = ix3 ⟨k.val / 256, by omega⟩ ⟨2304 + k.val % 256, by omega⟩ x → V m c main_v6 j = W m c (ix2 k x) := by
    rintro _ rfl
    rw [w_arr]
    refine (packed_out _ _ _ _ ⟨k.val / 256, by omega⟩ ⟨k.val % 256, by omega⟩ x).trans ?_
    blk_ext
  refine h _ ?_
  blk_ext [idx t]

/-- The rows of the gradient a point is given. -/
theorem dh_read (c : Dev nD) (t : Fin cfg0.N) (a x : Fin 1024) :
    iblk m c 0 t (ix2 a x) = Dh m c (ix2 ⟨t.val * 1024 + a.val, by have : t.val < 4 := t.isLt; omega⟩ x) := by
  blk_ext [iblk, V, idx t]

/-- One entry of the product, when the block's row is row `r` of the array. -/
theorem point (v : S1024x1024.Idx → EReal) (w : S4x256x1024.Idx → EReal) (dh : S4096x1024.Idx → EReal) (wo : S1024x1024.Idx → EReal)
    (a b : Fin 1024) (r : Fin 4096) (h0 : ∀ x, v (ix2 a x) = dh (ix2 r x))
    (h1 : ∀ k x : Fin 1024, w (ix3 ⟨k.val / 256, by omega⟩ ⟨k.val % 256, by omega⟩ x) = wo (ix2 k x)) :
    k0_pay1 (F := Ideal) v w (ix2 a b) = Cert.Reference15Ideal.Read.val_main_v3 (F := Ideal) dh wo (ix2 r b) := by
  pointwise [k0_pay1, Cert.Reference15Ideal.Read.val_main_cst, Cert.Reference15Ideal.Read.val_main_v0, Cert.Reference15Ideal.Read.val_main_v1, Cert.Reference15Ideal.Read.val_main_v2, Cert.Reference15Ideal.Read.val_main_v3]
  simp only [h0, h1]

/-- The gradient, over the whole array. -/
theorem final (c : Dev nD) : (dats m 0 c).arrAt 2 cfg0.N = Cert.Reference15Ideal.Read.val_main_v3 (F := Ideal) (Dh m c) (W m c) := by
  refine (dats m 0 c).arrAt_eq_of_covers 2 _ (by decide +kernel) fun t hf y => ?_
  blk_simp
  rw [after0_2]
  frame_out
  have ht : t.val < 4 := t.isLt
  have hy : y = ix2 (y 0) (y 1) := by blk_ext
  have he : ((cfg0.win 2).blk t).view.emb y = ix2 ⟨t.val * 1024 + (y 0).val, by have : (y 0).val < 1024 := (y 0).isLt; omega⟩ (y 1) := by blk_ext [idx t]
  rw [he, hy]
  exact point _ _ _ _ _ _ _ (dh_read m c t _) (w_read m c t)

end Cert.Kernel15Ideal.Proof

namespace Cert.Proof

open Idealize.ShloMosaic Idealize.ShloMosaic.TcCoe Idealize.SL.Sem

/-- The idealized gradient to the mixer is what the reference computes. -/
theorem dcat_value : Cert.algebraic_Kernel15Ideal_Reference15Ideal := by
  pair_intro
  · run_from Cert.Kernel15Ideal.Value.run_blocks m g
  · run_from Cert.Reference15Ideal.Value.run m' g'
    refine Eq.trans (b := Cert.Reference15Ideal.Read.val_main_v3 (F := Ideal) (m (c.tc.loc Cert.Kernel15Ideal.main_arg0)) (m (c.tc.loc Cert.Kernel15Ideal.main_arg4))) rfl ?_
    exact (Cert.Kernel15Ideal.Proof.final m c).symm

end Cert.Proof

end
-- ==== Proof.MmRes.lean ====
module

public import proofs.«01_k».proof.Defs
public import proofs.«01_k».proof.Proof.Common
public import proofs.«01_k».proof.Proof.Gen.Kernel16Ideal.Value
public import proofs.«01_k».proof.Proof.Gen.Reference16Ideal.Read

/-! The value of the MLP's down product added to the residual stream. -/

@[expose] public section

set_option maxRecDepth 16384

noncomputable section

namespace Cert.Kernel16Ideal.Proof

open Cert.Kernel16Ideal Cert.Kernel16Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The row blocks of every window. -/
theorem idx : ∀ t : Fin cfg0.N, win0_0.index t = ![t.val, 0] ∧ win0_1.index t = ![t.val, 0] ∧ win0_2.index t = ![0, 0, 0]
    ∧ win0_3.index t = ![t.val, 0] := by decide +kernel

/-- The gathered weights as the call finds them. -/
theorem w_arr (c : Dev nD) : V m c main_v6 = (truncf .bf16 (concatenate S4x2560x1024 1
    [⟨S4x1024x1024, shapeCast S4x1024x1024 (m ((c : Thread nD τ).loc main_arg2)) shapeCasts_S4096x1024_S4x1024x1024⟩,
     ⟨S4x1024x1024, transpose S4x1024x1024 [1, 0, 2] (shapeCast S1024x4x1024 (m ((c : Thread nD τ).loc main_arg3)) shapeCasts_S1024x4096_S1024x4x1024) transposes_S1024x4x1024_S4x1024x1024_1_0_2⟩,
     ⟨S4x256x1024, shapeCast S4x256x1024 (m ((c : Thread nD τ).loc main_arg4)) shapeCasts_S1024x1024_S4x256x1024⟩,
     ⟨S4x256x1024, shapeCast S4x256x1024 (m ((c : Thread nD τ).loc main_arg5)) shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16) := by
  unfold V
  after_results
  rfl

/-- The rows of `w_down` inside the gathered weights, chip by chip. -/
theorem packed_down (a : S4096x1024.Idx → EReal) (b : S1024x4096.Idx → EReal) (u d : S1024x1024.Idx → EReal) (k : Fin 4) (q x : Fin 1024) :
    (truncf .bf16 (concatenate S4x2560x1024 1
    [⟨S4x1024x1024, shapeCast S4x1024x1024 a shapeCasts_S4096x1024_S4x1024x1024⟩,
     ⟨S4x1024x1024, transpose S4x1024x1024 [1, 0, 2] (shapeCast S1024x4x1024 b shapeCasts_S1024x4096_S1024x4x1024) transposes_S1024x4x1024_S4x1024x1024_1_0_2⟩,
     ⟨S4x256x1024, shapeCast S4x256x1024 u shapeCasts_S1024x1024_S4x256x1024⟩,
     ⟨S4x256x1024, shapeCast S4x256x1024 d shapeCasts_S1024x1024_S4x256x1024⟩]
     concatenates_S4x1024x1024_S4x1024x1024_S4x256x1024_S4x256x1024_S4x2560x1024_d1 : FVec Ideal S4x2560x1024 .f32) bitsLt_bf16_f32 : FVec Ideal S4x2560x1024 .bf16)
     (ix3 k ⟨q.val, by omega⟩ x) = a (ix2 ⟨k.val * 1024 + q.val, by omega⟩ x) := by
  pointwise []
  blk_ext

abbrev H (c : Dev nD) : S4096x1024.Idx → EReal := m ((c : Thread nD τ).loc main_arg0)
abbrev A (c : Dev nD) : S4096x4096.Idx → EReal := m ((c : Thread nD τ).loc main_arg1)
abbrev W (c : Dev nD) : S4096x1024.Idx → EReal := m ((c : Thread nD τ).loc main_arg2)

/-- The weights' block read at a row of `w_down`. -/
theorem w_read (c : Dev nD) (t : Fin cfg0.N) (k : Fin 4096) (x : Fin 1024) :
    X0_2 m c t (ix3 ⟨k.val / 1024, by omega⟩ ⟨k.val % 1024, by omega⟩ x) = W m c (ix2 k x) := by
  have h : ∀ j : S4x2560x1024.Idx, j = ix3 ⟨k.val / 1024, by omega⟩ ⟨k.val % 1024, by omega⟩ x → V m c main_v6 j = W m c (ix2 k x) := by
    rintro _ rfl
    rw [w_arr]
    refine (packed_down _ _ _ _ ⟨k.val / 1024, by omega⟩ ⟨k.val % 1024, by omega⟩ x).trans ?_
    blk_ext
  unfold X0_2 Pipeline.Window.fill
  rw [dif_pos (moved0_2 t _)]
  refine h _ ?_
  blk_ext [idx t]

/-- The rows of the residual stream a point is given. -/
theorem h_read (c : Dev nD) (t : Fin cfg0.N) (a : Fin 512) (x : Fin 1024) :
    iblk m c 0 t (ix2 a x) = H m c (ix2 ⟨t.val * 512 + a.val, by have : t.val < 8 := t.isLt; omega⟩ x) := by
  blk_ext [iblk, V, idx t]

/-- The rows of the activations a point is given. -/
theorem a_read (c : Dev nD) (t : Fin cfg0.N) (a : Fin 512) (x : Fin 4096) :
    iblk m c 1 t (ix2 a x) = A m c (ix2 ⟨t.val * 512 + a.val, by have : t.val < 8 := t.isLt; omega⟩ x) := by
  blk_ext [iblk, V, idx t]

/-- One entry of the sum, when the blocks' rows are row `r` of the arrays. -/
theorem point (v0 : S512x1024.Idx → EReal) (v1 : S512x4096.Idx → EReal) (w : S4x1024x1024.Idx → EReal) (h : S4096x1024.Idx → EReal) (hh : S4096x4096.Idx → EReal)
    (wd : S4096x1024.Idx → EReal) (a : Fin 512) (b : Fin 1024) (r : Fin 4096) (h0 : ∀ x, v0 (ix2 a x) = h (ix2 r x)) (h1 : ∀ x, v1 (ix2 a x) = hh (ix2 r x))
    (h2 : ∀ (k : Fin 4096) (x : Fin 1024), w (ix3 ⟨k.val / 1024, by omega⟩ ⟨k.val % 1024, by omega⟩ x) = wd (ix2 k x)) :
    k0_pay1 (F := Ideal) v0 v1 w (ix2 a b) = Cert.Reference16Ideal.Read.val_main_v2 (F := Ideal) h hh wd (ix2 r b) := by
  pointwise [k0_pay1, Cert.Reference16Ideal.Read.val_main_v0, Cert.Reference16Ideal.Read.val_main_v1, Cert.Reference16Ideal.Read.val_main_v2]
  simp only [h0, h1, h2]

/-- The sum, over the whole array. -/
theorem final (c : Dev nD) : (dats m 0 c).arrAt 3 cfg0.N = Cert.Reference16Ideal.Read.val_main_v2 (F := Ideal) (H m c) (A m c) (W m c) := by
  refine (dats m 0 c).arrAt_eq_of_covers 3 _ (by decide +kernel) fun t hf y => ?_
  blk_simp
  rw [after0_3]
  unfold outsAt0
  frame_out
  have ht : t.val < 8 := t.isLt
  have hy : y = ix2 (y 0) (y 1) := by blk_ext
  have he : ((cfg0.win 3).blk t).view.emb y = ix2 ⟨t.val * 512 + (y 0).val, by have : (y 0).val < 512 := (y 0).isLt; omega⟩ (y 1) := by blk_ext [idx t]
  rw [he, hy]
  exact point _ _ _ _ _ _ _ _ _ (h_read m c t _) (a_read m c t _) (w_read m c t)

end Cert.Kernel16Ideal.Proof

namespace Cert.Proof

open Idealize.ShloMosaic Idealize.ShloMosaic.TcCoe Idealize.SL.Sem

/-- The idealized down product and residual are what the reference computes. -/
theorem mmres_value : Cert.algebraic_Kernel16Ideal_Reference16Ideal := by
  pair_intro
  · run_from Cert.Kernel16Ideal.Value.run_blocks m g
  · run_from Cert.Reference16Ideal.Value.run m' g'
    rw [Cert.Reference16Ideal.Read.val_main_v2_eq]
    exact (Cert.Kernel16Ideal.Proof.final m c).symm

end Cert.Proof

end
-- ==== Proof.MmTn.lean ====
module

public import proofs.«01_k».proof.Defs
public import proofs.«01_k».proof.Proof.Common
public import proofs.«01_k».proof.Proof.Gen.Kernel17Ideal.Value
public import proofs.«01_k».proof.Proof.Gen.Reference17Ideal.Read

/-! The value of the gradient of `w_down`, written into its rows of the packed gradients; the other rows stay as given. -/

@[expose] public section

set_option maxRecDepth 16384

noncomputable section

namespace Cert.Kernel17Ideal.Proof

open Cert.Kernel17Ideal Cert.Kernel17Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The blocks of every window. -/
theorem idx : ∀ t : Fin cfg0.N, win0_0.index t = ![0, t.val] ∧ win0_1.index t = ![0, 0] ∧ win0_2.index t = ![t.val / 2, t.val % 2, 0] := by decide +kernel

abbrev A (c : Dev nD) : S4096x4096.Idx → EReal := m ((c : Thread nD τ).loc main_arg0)
abbrev Dh (c : Dev nD) : S4096x1024.Idx → EReal := m ((c : Thread nD τ).loc main_arg1)
abbrev G (c : Dev nD) : S4x2560x1024.Idx → EReal := m ((c : Thread nD τ).loc main_arg2)

/-- The columns of the activations a point is given. -/
theorem a_read (c : Dev nD) (t : Fin cfg0.N) (k : Fin 4096) (a : Fin 512) :
    iblk m c 0 t (ix2 k a) = A m c (ix2 k ⟨t.val * 512 + a.val, by have : t.val < 8 := t.isLt; omega⟩) := by
  blk_ext [iblk, V, idx t]

/-- The gradient's rows. -/
theorem dh_read (c : Dev nD) (t : Fin cfg0.N) (k : Fin 4096) (x : Fin 1024) : iblk m c 1 t (ix2 k x) = Dh m c (ix2 k x) := by
  blk_ext [iblk, V, idx t]

/-- One entry of the product. -/
theorem point (v : S4096x512.Idx → EReal) (w : S4096x1024.Idx → EReal) (j : Fin 1) (a : Fin 512) (b : Fin 1024) :
    k0_pay1 (F := Ideal) v w (ix3 j a b) = ∑ k : Fin 4096, v (ix2 k a) * w (ix2 k b) := by
  pointwise [k0_pay1]

/-- The written rows of the reference. -/
theorem ref_new (a : S4096x4096.Idx → EReal) (dh : S4096x1024.Idx → EReal) (g : S4x2560x1024.Idx → EReal) (p : Fin 4) (q : Fin 1024) (x : Fin 1024) :
    Cert.Reference17Ideal.Read.val_main_v8 (F := Ideal) a dh g (ix3 p ⟨q.val, by omega⟩ x)
      = ∑ k : Fin 4096, dh (ix2 k x) * a (ix2 k ⟨p.val * 1024 + q.val, by omega⟩) := by
  pointwise [Cert.Reference17Ideal.Read.val_main_cst, Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8]

/-- The rows the reference keeps. -/
theorem ref_keep (a : S4096x4096.Idx → EReal) (dh : S4096x1024.Idx → EReal) (g : S4x2560x1024.Idx → EReal) (p : Fin 4) (q : Fin 2560) (x : Fin 1024) (h : 1024 ≤ q.val) :
    Cert.Reference17Ideal.Read.val_main_v8 (F := Ideal) a dh g (ix3 p q x) = g (ix3 p q x) := by
  pointwise [Cert.Reference17Ideal.Read.val_main_cst, Cert.Reference17Ideal.Read.val_main_v0, Cert.Reference17Ideal.Read.val_main_v1, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8]
  rw [dif_neg (by omega)]
  blk_ext

/-- What the aliased result holds before the call. -/
theorem g_entry (c : Dev nD) (j : S4x2560x1024.Idx) : V m c main_v0 j = G m c j := by
  entry_read
  rfl

/-- The packed gradients, over the whole array. -/
theorem final (c : Dev nD) : (dats m 0 c).arrAt 2 cfg0.N = Cert.Reference17Ideal.Read.val_main_v8 (F := Ideal) (A m c) (Dh m c) (G m c) := by
  refine ((dats m 0 c).arrAt_eq_of_coversWhere 2 (Cert.Reference17Ideal.Read.val_main_v8 (F := Ideal) (A m c) (Dh m c) (G m c))
    (P := fun i : S4x2560x1024.Idx => (i 1).val / 512 < 2) (fun β => β (1 : Fin 3) < 2) (by decide +kernel) (fun t hf y => ?_) (fun j => Iff.rfl)).trans (funext fun i => ?_)
  · blk_simp
    rw [after0_2]
    unfold outsAt0
    frame_out
    obtain ⟨j, a, b, rfl⟩ : ∃ (j : Fin 1) (a : Fin 512) (b : Fin 1024), y = ix3 j a b := ⟨y 0, y 1, y 2, by blk_ext⟩
    have ht : t.val < 8 := t.isLt
    have he : ((cfg0.win 2).blk t).view.emb (ix3 j a b) = ix3 ⟨t.val / 2, by omega⟩ ⟨t.val % 2 * 512 + a.val, by omega⟩ b := by blk_ext [idx t]
    rw [he]
    refine (point _ _ j a b).trans (Eq.trans (Finset.sum_congr rfl fun k _ => ?_) (ref_new _ _ _ ⟨t.val / 2, by omega⟩ ⟨t.val % 2 * 512 + a.val, by omega⟩ b).symm)
    rw [a_read m c t k a, dh_read m c t k b, mul_comm]
    refine congrArg _ (congrArg _ ?_)
    blk_ext
  · split
    · rfl
    · rename_i h
      obtain ⟨p, q, x, rfl⟩ : ∃ (p : Fin 4) (q : Fin 2560) (x : Fin 1024), i = ix3 p q x := ⟨i 0, i 1, i 2, by blk_ext⟩
      have h' : ¬q.val / 512 < 2 := h
      refine Eq.trans ?_ (ref_keep _ _ _ p q x (by omega)).symm
      exact g_entry m c _

end Cert.Kernel17Ideal.Proof

namespace Cert.Proof

open Idealize.ShloMosaic Idealize.ShloMosaic.TcCoe Idealize.SL.Sem

/-- The idealized gradient of `w_down` is what the reference computes. -/
theorem mmtn_value : Cert.algebraic_Kernel17Ideal_Reference17Ideal := by
  pair_intro
  · run_from Cert.Kernel17Ideal.Value.run_blocks m g
  · run_from Cert.Reference17Ideal.Value.run m' g'
    rw [Cert.Reference17Ideal.Read.val_main_v8_eq]
    exact (congrArg (Cert.Reference17Ideal.Read.val_main_v8 (F := Ideal) _ _) (hagree c).2.2).trans (Cert.Kernel17Ideal.Proof.final m c).symm

end Cert.Proof

end
-- ==== Proof.AdamW.lean ====
module

public import proofs.«01_k».proof.Defs
public import proofs.«01_k».proof.Proof.Common
public import proofs.«01_k».proof.Proof.Gen.Kernel18Ideal.Value
public import proofs.«01_k».proof.Proof.Gen.Reference18Ideal.Read

/-! The value of the optimiser's step on `w_kv`: the moments, the step and the gradient it reads out of the packed gradients. -/

@[expose] public section

set_option maxRecDepth 16384

noncomputable section

namespace Cert.Kernel18Ideal.Proof

open Cert.Kernel18Ideal Cert.Kernel18Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- The blocks of every window. -/
theorem idx : ∀ t : Fin cfg0.N, win0_0.index t = ![2, 1, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

abbrev G2 (c : Dev nD) : S4x512x512.Idx → EReal := m ((c : Thread nD τ).loc main_arg0)
abbrev W (c : Dev nD) : S256x512.Idx → EReal := m ((c : Thread nD τ).loc main_arg1)
abbrev Mo (c : Dev nD) : S256x512.Idx → EReal := m ((c : Thread nD τ).loc main_arg2)
abbrev Ve (c : Dev nD) : S256x512.Idx → EReal := m ((c : Thread nD τ).loc main_arg3)

/-- The gradient's rows inside the packed gradients. -/
theorem g_read (c : Dev nD) (t : Fin cfg0.N) (a : Fin 256) (b : Fin 512) : iblk m c 0 t (ix3 0 a b) = G2 m c (ix3 2 ⟨256 + a.val, by omega⟩ b) := by
  blk_ext [iblk, V, idx t]

/-- The block of argument 1. -/
theorem w_read (c : Dev nD) (t : Fin cfg0.N) (a : Fin 256) (b : Fin 512) : iblk m c 1 t (ix2 a b) = W m c (ix2 a b) := by
  blk_ext [iblk, V, idx t]

/-- The block of argument 2. -/
theorem m_read (c : Dev nD) (t : Fin cfg0.N) (a : Fin 256) (b : Fin 512) : iblk m c 2 t (ix2 a b) = Mo m c (ix2 a b) := by
  blk_ext [iblk, V, idx t]

/-- The block of argument 3. -/
theorem v_read (c : Dev nD) (t : Fin cfg0.N) (a : Fin 256) (b : Fin 512) : iblk m c 3 t (ix2 a b) = Ve m c (ix2 a b) := by
  blk_ext [iblk, V, idx t]

/-- One entry of result 1. -/
theorem point1 (v0 : S1x256x512.Idx → EReal) (w m v : S256x512.Idx → EReal) (g : S4x512x512.Idx → EReal) (w' m' v' : S256x512.Idx → EReal) (a : Fin 256) (b : Fin 512)
    (h0 : v0 (ix3 0 a b) = g (ix3 2 ⟨256 + a.val, by omega⟩ b)) (h1 : w (ix2 a b) = w' (ix2 a b)) (h2 : m (ix2 a b) = m' (ix2 a b)) (h3 : v (ix2 a b) = v' (ix2 a b)) :
    k0_pay1 (F := Ideal) v0 (ix2 a b) = Cert.Reference18Ideal.Read.val_main_v1 (F := Ideal) g (ix2 a b) := by
  pointwise [k0_pay1, k0_pay2, k0_pay3, k0_pay4, Cert.Reference18Ideal.Read.val_main_v0, Cert.Reference18Ideal.Read.val_main_v1, Cert.Reference18Ideal.Read.val_main_cst, Cert.Reference18Ideal.Read.val_main_v2, Cert.Reference18Ideal.Read.val_main_v3, Cert.Reference18Ideal.Read.val_main_cst_0, Cert.Reference18Ideal.Read.val_main_v4, Cert.Reference18Ideal.Read.val_main_v5, Cert.Reference18Ideal.Read.val_main_v6, Cert.Reference18Ideal.Read.val_main_cst_1, Cert.Reference18Ideal.Read.val_main_v7, Cert.Reference18Ideal.Read.val_main_v8, Cert.Reference18Ideal.Read.val_main_v9, Cert.Reference18Ideal.Read.val_main_cst_2, Cert.Reference18Ideal.Read.val_main_v10, Cert.Reference18Ideal.Read.val_main_v11, Cert.Reference18Ideal.Read.val_main_v12, Cert.Reference18Ideal.Read.val_main_cst_3, Cert.Reference18Ideal.Read.val_main_v13, Cert.Reference18Ideal.Read.val_main_v14, Cert.Reference18Ideal.Read.val_main_cst_4, Cert.Reference18Ideal.Read.val_main_v15, Cert.Reference18Ideal.Read.val_main_v16, Cert.Reference18Ideal.Read.val_main_v17, Cert.Reference18Ideal.Read.val_main_cst_5, Cert.Reference18Ideal.Read.val_main_v18, Cert.Reference18Ideal.Read.val_main_v19, Cert.Reference18Ideal.Read.val_main_v20, Cert.Reference18Ideal.Read.val_main_cst_6, Cert.Reference18Ideal.Read.val_main_v21, Cert.Reference18Ideal.Read.val_main_v22, Cert.Reference18Ideal.Read.val_main_v23, Cert.Reference18Ideal.Read.val_main_cst_7, Cert.Reference18Ideal.Read.val_main_v24, Cert.Reference18Ideal.Read.val_main_v25]
  try simp only [h0, h1, h2, h3]

/-- One entry of result 4. -/
theorem point4 (v0 : S1x256x512.Idx → EReal) (w m v : S256x512.Idx → EReal) (g : S4x512x512.Idx → EReal) (w' m' v' : S256x512.Idx → EReal) (a : Fin 256) (b : Fin 512)
    (h0 : v0 (ix3 0 a b) = g (ix3 2 ⟨256 + a.val, by omega⟩ b)) (h1 : w (ix2 a b) = w' (ix2 a b)) (h2 : m (ix2 a b) = m' (ix2 a b)) (h3 : v (ix2 a b) = v' (ix2 a b)) :
    k0_pay4 (F := Ideal) v0 w m v (ix2 a b) = Cert.Reference18Ideal.Read.val_main_v25 (F := Ideal) g w' m' v' (ix2 a b) := by
  pointwise [k0_pay1, k0_pay2, k0_pay3, k0_pay4, Cert.Reference18Ideal.Read.val_main_v0, Cert.Reference18Ideal.Read.val_main_v1, Cert.Reference18Ideal.Read.val_main_cst, Cert.Reference18Ideal.Read.val_main_v2, Cert.Reference18Ideal.Read.val_main_v3, Cert.Reference18Ideal.Read.val_main_cst_0, Cert.Reference18Ideal.Read.val_main_v4, Cert.Reference18Ideal.Read.val_main_v5, Cert.Reference18Ideal.Read.val_main_v6, Cert.Reference18Ideal.Read.val_main_cst_1, Cert.Reference18Ideal.Read.val_main_v7, Cert.Reference18Ideal.Read.val_main_v8, Cert.Reference18Ideal.Read.val_main_v9, Cert.Reference18Ideal.Read.val_main_cst_2, Cert.Reference18Ideal.Read.val_main_v10, Cert.Reference18Ideal.Read.val_main_v11, Cert.Reference18Ideal.Read.val_main_v12, Cert.Reference18Ideal.Read.val_main_cst_3, Cert.Reference18Ideal.Read.val_main_v13, Cert.Reference18Ideal.Read.val_main_v14, Cert.Reference18Ideal.Read.val_main_cst_4, Cert.Reference18Ideal.Read.val_main_v15, Cert.Reference18Ideal.Read.val_main_v16, Cert.Reference18Ideal.Read.val_main_v17, Cert.Reference18Ideal.Read.val_main_cst_5, Cert.Reference18Ideal.Read.val_main_v18, Cert.Reference18Ideal.Read.val_main_v19, Cert.Reference18Ideal.Read.val_main_v20, Cert.Reference18Ideal.Read.val_main_cst_6, Cert.Reference18Ideal.Read.val_main_v21, Cert.Reference18Ideal.Read.val_main_v22, Cert.Reference18Ideal.Read.val_main_v23, Cert.Reference18Ideal.Read.val_main_cst_7, Cert.Reference18Ideal.Read.val_main_v24, Cert.Reference18Ideal.Read.val_main_v25]
  try simp only [h0, h1, h2, h3]

/-- One entry of result 2. -/
theorem point2 (v0 : S1x256x512.Idx → EReal) (w m v : S256x512.Idx → EReal) (g : S4x512x512.Idx → EReal) (w' m' v' : S256x512.Idx → EReal) (a : Fin 256) (b : Fin 512)
    (h0 : v0 (ix3 0 a b) = g (ix3 2 ⟨256 + a.val, by omega⟩ b)) (h1 : w (ix2 a b) = w' (ix2 a b)) (h2 : m (ix2 a b) = m' (ix2 a b)) (h3 : v (ix2 a b) = v' (ix2 a b)) :
    k0_pay2 (F := Ideal) v0 m (ix2 a b) = Cert.Reference18Ideal.Read.val_main_v6 (F := Ideal) g m' (ix2 a b) := by
  pointwise [k0_pay1, k0_pay2, k0_pay3, k0_pay4, Cert.Reference18Ideal.Read.val_main_v0, Cert.Reference18Ideal.Read.val_main_v1, Cert.Reference18Ideal.Read.val_main_cst, Cert.Reference18Ideal.Read.val_main_v2, Cert.Reference18Ideal.Read.val_main_v3, Cert.Reference18Ideal.Read.val_main_cst_0, Cert.Reference18Ideal.Read.val_main_v4, Cert.Reference18Ideal.Read.val_main_v5, Cert.Reference18Ideal.Read.val_main_v6, Cert.Reference18Ideal.Read.val_main_cst_1, Cert.Reference18Ideal.Read.val_main_v7, Cert.Reference18Ideal.Read.val_main_v8, Cert.Reference18Ideal.Read.val_main_v9, Cert.Reference18Ideal.Read.val_main_cst_2, Cert.Reference18Ideal.Read.val_main_v10, Cert.Reference18Ideal.Read.val_main_v11, Cert.Reference18Ideal.Read.val_main_v12, Cert.Reference18Ideal.Read.val_main_cst_3, Cert.Reference18Ideal.Read.val_main_v13, Cert.Reference18Ideal.Read.val_main_v14, Cert.Reference18Ideal.Read.val_main_cst_4, Cert.Reference18Ideal.Read.val_main_v15, Cert.Reference18Ideal.Read.val_main_v16, Cert.Reference18Ideal.Read.val_main_v17, Cert.Reference18Ideal.Read.val_main_cst_5, Cert.Reference18Ideal.Read.val_main_v18, Cert.Reference18Ideal.Read.val_main_v19, Cert.Reference18Ideal.Read.val_main_v20, Cert.Reference18Ideal.Read.val_main_cst_6, Cert.Reference18Ideal.Read.val_main_v21, Cert.Reference18Ideal.Read.val_main_v22, Cert.Reference18Ideal.Read.val_main_v23, Cert.Reference18Ideal.Read.val_main_cst_7, Cert.Reference18Ideal.Read.val_main_v24, Cert.Reference18Ideal.Read.val_main_v25]
  try simp only [h0, h1, h2, h3]

/-- One entry of result 3. -/
theorem point3 (v0 : S1x256x512.Idx → EReal) (w m v : S256x512.Idx → EReal) (g : S4x512x512.Idx → EReal) (w' m' v' : S256x512.Idx → EReal) (a : Fin 256) (b : Fin 512)
    (h0 : v0 (ix3 0 a b) = g (ix3 2 ⟨256 + a.val, by omega⟩ b)) (h1 : w (ix2 a b) = w' (ix2 a b)) (h2 : m (ix2 a b) = m' (ix2 a b)) (h3 : v (ix2 a b) = v' (ix2 a b)) :
    k0_pay3 (F := Ideal) v0 v (ix2 a b) = Cert.Reference18Ideal.Read.val_main_v12 (F := Ideal) g v' (ix2 a b) := by
  pointwise [k0_pay1, k0_pay2, k0_pay3, k0_pay4, Cert.Reference18Ideal.Read.val_main_v0, Cert.Reference18Ideal.Read.val_main_v1, Cert.Reference18Ideal.Read.val_main_cst, Cert.Reference18Ideal.Read.val_main_v2, Cert.Reference18Ideal.Read.val_main_v3, Cert.Reference18Ideal.Read.val_main_cst_0, Cert.Reference18Ideal.Read.val_main_v4, Cert.Reference18Ideal.Read.val_main_v5, Cert.Reference18Ideal.Read.val_main_v6, Cert.Reference18Ideal.Read.val_main_cst_1, Cert.Reference18Ideal.Read.val_main_v7, Cert.Reference18Ideal.Read.val_main_v8, Cert.Reference18Ideal.Read.val_main_v9, Cert.Reference18Ideal.Read.val_main_cst_2, Cert.Reference18Ideal.Read.val_main_v10, Cert.Reference18Ideal.Read.val_main_v11, Cert.Reference18Ideal.Read.val_main_v12, Cert.Reference18Ideal.Read.val_main_cst_3, Cert.Reference18Ideal.Read.val_main_v13, Cert.Reference18Ideal.Read.val_main_v14, Cert.Reference18Ideal.Read.val_main_cst_4, Cert.Reference18Ideal.Read.val_main_v15, Cert.Reference18Ideal.Read.val_main_v16, Cert.Reference18Ideal.Read.val_main_v17, Cert.Reference18Ideal.Read.val_main_cst_5, Cert.Reference18Ideal.Read.val_main_v18, Cert.Reference18Ideal.Read.val_main_v19, Cert.Reference18Ideal.Read.val_main_v20, Cert.Reference18Ideal.Read.val_main_cst_6, Cert.Reference18Ideal.Read.val_main_v21, Cert.Reference18Ideal.Read.val_main_v22, Cert.Reference18Ideal.Read.val_main_v23, Cert.Reference18Ideal.Read.val_main_cst_7, Cert.Reference18Ideal.Read.val_main_v24, Cert.Reference18Ideal.Read.val_main_v25]
  try simp only [h0, h1, h2, h3]

/-- The gradient handed out. -/
theorem final_g (c : Dev nD) : (dats m 0 c).arrAt 4 cfg0.N = Cert.Reference18Ideal.Read.val_main_v1 (F := Ideal) (G2 m c) := by
  refine (dats m 0 c).arrAt_eq_of_covers 4 _ (by decide +kernel) fun t hf y => ?_
  blk_simp
  rw [after0_4]
  frame_out
  have hy : y = ix2 (y 0) (y 1) := by blk_ext
  have he : ((cfg0.win 4).blk t).view.emb y = ix2 (y 0) (y 1) := by blk_ext [idx t]
  rw [he, hy]
  exact point1 (iblk m c 0 t) (iblk m c 1 t) (iblk m c 2 t) (iblk m c 3 t) (G2 m c) (W m c) (Mo m c) (Ve m c) (y 0) (y 1) (g_read m c t _ _) (w_read m c t _ _) (m_read m c t _ _) (v_read m c t _ _)

/-- The step. -/
theorem final_d (c : Dev nD) : (dats m 0 c).arrAt 5 cfg0.N = Cert.Reference18Ideal.Read.val_main_v25 (F := Ideal) (G2 m c) (W m c) (Mo m c) (Ve m c) := by
  refine (dats m 0 c).arrAt_eq_of_covers 5 _ (by decide +kernel) fun t hf y => ?_
  blk_simp
  rw [after0_5]
  frame_out
  have hy : y = ix2 (y 0) (y 1) := by blk_ext
  have he : ((cfg0.win 5).blk t).view.emb y = ix2 (y 0) (y 1) := by blk_ext [idx t]
  rw [he, hy]
  exact point4 (iblk m c 0 t) (iblk m c 1 t) (iblk m c 2 t) (iblk m c 3 t) (G2 m c) (W m c) (Mo m c) (Ve m c) (y 0) (y 1) (g_read m c t _ _) (w_read m c t _ _) (m_read m c t _ _) (v_read m c t _ _)

/-- The new first moment. -/
theorem final_m (c : Dev nD) : (dats m 0 c).arrAt 6 cfg0.N = Cert.Reference18Ideal.Read.val_main_v6 (F := Ideal) (G2 m c) (Mo m c) := by
  refine (dats m 0 c).arrAt_eq_of_covers 6 _ (by decide +kernel) fun t hf y => ?_
  blk_simp
  rw [after0_6]
  frame_out
  have hy : y = ix2 (y 0) (y 1) := by blk_ext
  have he : ((cfg0.win 6).blk t).view.emb y = ix2 (y 0) (y 1) := by blk_ext [idx t]
  rw [he, hy]
  exact point2 (iblk m c 0 t) (iblk m c 1 t) (iblk m c 2 t) (iblk m c 3 t) (G2 m c) (W m c) (Mo m c) (Ve m c) (y 0) (y 1) (g_read m c t _ _) (w_read m c t _ _) (m_read m c t _ _) (v_read m c t _ _)

/-- The new second moment. -/
theorem final_v (c : Dev nD) : (dats m 0 c).arrAt 7 cfg0.N = Cert.Reference18Ideal.Read.val_main_v12 (F := Ideal) (G2 m c) (Ve m c) := by
  refine (dats m 0 c).arrAt_eq_of_covers 7 _ (by decide +kernel) fun t hf y => ?_
  blk_simp
  rw [after0_7]
  frame_out
  have hy : y = ix2 (y 0) (y 1) := by blk_ext
  have he : ((cfg0.win 7).blk t).view.emb y = ix2 (y 0) (y 1) := by blk_ext [idx t]
  rw [he, hy]
  exact point3 (iblk m c 0 t) (iblk m c 1 t) (iblk m c 2 t) (iblk m c 3 t) (G2 m c) (W m c) (Mo m c) (Ve m c) (y 0) (y 1) (g_read m c t _ _) (w_read m c t _ _) (m_read m c t _ _) (v_read m c t _ _)

end Cert.Kernel18Ideal.Proof

namespace Cert.Proof

open Idealize.ShloMosaic Idealize.ShloMosaic.TcCoe Idealize.SL.Sem

/-- The idealized optimiser step of `w_kv` is what the reference computes. -/
theorem adamw_value : Cert.algebraic_Kernel18Ideal_Reference18Ideal := by
  pair_intro
  · run_from Cert.Kernel18Ideal.Value.run_blocks m g
  · run_from Cert.Reference18Ideal.Value.run m' g'
    · rw [Cert.Reference18Ideal.Read.val_main_v1_eq]
      exact (Cert.Kernel18Ideal.Proof.final_g m c).symm
    · rw [Cert.Reference18Ideal.Read.val_main_v25_eq]
      exact (Cert.Kernel18Ideal.Proof.final_d m c).symm
    · rw [Cert.Reference18Ideal.Read.val_main_v6_eq]
      exact (Cert.Kernel18Ideal.Proof.final_m m c).symm
    · rw [Cert.Reference18Ideal.Read.val_main_v12_eq]
      exact (Cert.Kernel18Ideal.Proof.final_v m c).symm

end Cert.Proof

end
-- ==== Proof.PoolMemBwd.lean ====
module

public import proofs.«01_k».proof.Defs
public import proofs.«01_k».proof.Proof.Common
public import proofs.«01_k».proof.Proof.Attn
public import proofs.«01_k».proof.Proof.Gen.Kernel19Ideal.Frame
public import Idealize.ShloMosaic.Lib.Pipeline.Value
public import proofs.«01_k».proof.Proof.Gen.Reference19Ideal.Read
public import proofs.«01_k».proof.Proof.Mem
public import Idealize.ShloMosaic.Lib.Pipeline.ReadBack

/-! The value of the memory attention's gradient, where the call also makes the pooling mixer's. -/

@[expose] public section

set_option maxRecDepth 16384

noncomputable section

namespace Cert.Kernel19Ideal.Proof

open Cert.Kernel19Ideal Cert.Kernel19Ideal.Gen Idealize.ShloMosaic Idealize.ShloMosaic.TcCoe Idealize.SL.Sem
open Idealize.ShloMosaic.Pipeline (Dat)
open Cert.Common
open Cert.Kernel6Ideal.Proof (dsb qnb xkb dkOf dvOf dgqOf mkOf dmkvOf dvAdd dgAdd both col_hi col_lo fin_real pinf_f32 point_dgk point_dgq point_dk point_dmk point_dmv point_dv point_mk point_mv ref_dgk ref_dgq ref_dmk ref_dmv ref_ds ref_mk ref_qn)

variable (m : (ℓ : Loc nD τ sig) → Buf (Elt Ideal) ℓ)

/-- The projection. -/
abbrev Proj (c : Dev nD) : S4096x1024.Idx → EReal := m ((c : Thread nD τ).loc main_arg0)
/-- The gradient of the concatenated mixers. -/
abbrev Dcat (c : Dev nD) : S4096x1024.Idx → EReal := m ((c : Thread nD τ).loc main_arg1)
/-- The memory's keys and values. -/
abbrev Mkv (c : Dev nD) : S256x512.Idx → EReal := m ((c : Thread nD τ).loc main_arg2)
/-- The queries' gain. -/
abbrev Gq (c : Dev nD) : S64.Idx → EReal := m ((c : Thread nD τ).loc main_arg5)
/-- The keys' gain. -/
abbrev Gk (c : Dev nD) : S64.Idx → EReal := m ((c : Thread nD τ).loc main_arg6)

/-- The windows' block indices. -/
theorem idx : ∀ t : Fin cfg0.N, win0_2.index t 0 = t.val ∧ win0_2.index t 1 = 3 ∧ win0_5.index t 0 = t.val ∧ win0_5.index t 1 = 3
    ∧ (∀ i, win0_6.index t i = 0) ∧ (∀ i, win0_9.index t i = 0) ∧ (∀ i, win0_10.index t i = 0) ∧ win0_11.index t 0 = t.val ∧ win0_11.index t 1 = 0
    ∧ (∀ i, win0_15.index t i = 0) ∧ (∀ i, win0_16.index t i = 0) ∧ (∀ i, win0_17.index t i = 0) :=
  (by decide +kernel : ∀ t : Fin grid0.N, win0_2.index t 0 = t.val ∧ win0_2.index t 1 = 3 ∧ win0_5.index t 0 = t.val ∧ win0_5.index t 1 = 3
    ∧ (∀ i, win0_6.index t i = 0) ∧ (∀ i, win0_9.index t i = 0) ∧ (∀ i, win0_10.index t i = 0) ∧ win0_11.index t 0 = t.val ∧ win0_11.index t 1 = 0
    ∧ (∀ i, win0_15.index t i = 0) ∧ (∀ i, win0_16.index t i = 0) ∧ (∀ i, win0_17.index t i = 0))

theorem a_read (c : Dev nD) (t : Fin cfg0.N) (r : Fin 1024) (x : Fin 256) :
    iblk m c 2 t (ix2 r x) = Proj m c (ix2 ⟨t.val * 1024 + r.val, by have : t.val < 4 := t.isLt; omega⟩ ⟨768 + x.val, by omega⟩) := by
  blk_ext [iblk, V, idx t]

theorem d_read (c : Dev nD) (t : Fin cfg0.N) (r : Fin 1024) (x : Fin 256) :
    iblk m c 5 t (ix2 r x) = Dcat m c (ix2 ⟨t.val * 1024 + r.val, by have : t.val < 4 := t.isLt; omega⟩ ⟨768 + x.val, by omega⟩) := by
  blk_ext [iblk, V, idx t]

theorem kv_read (c : Dev nD) (t : Fin cfg0.N) : iblk m c 6 t = Mkv m c := by
  funext j
  blk_ext [iblk, V, idx t]

theorem q_read (c : Dev nD) (t : Fin cfg0.N) (i : Fin 64) : iblk m c 9 t (ix2 0 i) = Gq m c (ix1 i) := by
  have h : ∀ j : S1x64.Idx, j = ix2 0 i → V m c main_v0 j = Gq m c (ix1 i) := by
    rintro _ rfl
    entry_read
    pointwise []
  refine h _ ?_
  blk_ext [idx t]

theorem k_read (c : Dev nD) (t : Fin cfg0.N) (i : Fin 64) : iblk m c 10 t (ix2 0 i) = Gk m c (ix1 i) := by
  have h : ∀ j : S1x64.Idx, j = ix2 0 i → V m c main_v1 j = Gk m c (ix1 i) := by
    rintro _ rfl
    entry_read
    pointwise []
  refine h _ ?_
  blk_ext [idx t]

theorem p_read (c : Dev nD) (t : Fin cfg0.N) (r : Fin 1024) (n : Fin 4) (x : Fin 256) :
    iblk m c 11 t (ix2 r ⟨n.val * 256 + x.val, by omega⟩) = Cert.Reference6Ideal.Read.val_main_v65 (F := Ideal) (Proj m c) (Mkv m c) (Gq m c) (Gk m c) (ix3 n ⟨t.val * 1024 + r.val, by have : t.val < 4 := t.isLt; omega⟩ x) := by
  have h : ∀ j : S4096x1024.Idx, j = ix2 ⟨t.val * 1024 + r.val, by have : t.val < 4 := t.isLt; omega⟩ ⟨n.val * 256 + x.val, by omega⟩ → V m c main_v50 j = Cert.Reference6Ideal.Read.val_main_v65 (F := Ideal) (Proj m c) (Mkv m c) (Gq m c) (Gk m c) (ix3 n ⟨t.val * 1024 + r.val, by have : t.val < 4 := t.isLt; omega⟩ x) := by
    rintro _ rfl
    entry_read
    show truncf (F := Ideal) .bf16 (shapeCast S4096x1024 (transpose S4096x4x256 [1, 0, 2] (Cert.Reference6Ideal.Read.val_main_v65 (F := Ideal) (Proj m c) (Mkv m c) (Gq m c) (Gk m c)) transposes_S4x4096x256_S4096x4x256_1_0_2) shapeCasts_S4096x4x256_S4096x1024) bitsLt_bf16_f32 (ix2 ⟨t.val * 1024 + r.val, by have : t.val < 4 := t.isLt; omega⟩ ⟨n.val * 256 + x.val, by omega⟩) = _
    generalize Cert.Reference6Ideal.Read.val_main_v65 (F := Ideal) (Proj m c) (Mkv m c) (Gq m c) (Gk m c) = T
    pointwise []
  refine h _ ?_
  blk_ext [idx t]

/-- The memory keys, normalised. -/
abbrev MKA (c : Dev nD) := mkOf (Mkv m c) (iblk m c 10 t0_3)
/-- The memory values. -/
abbrev MVA (c : Dev nD) := Cert.Kernel6Ideal.Gen.k0_pay37 (F := Ideal) (Mkv m c)

theorem gk_block (c : Dev nD) (t : Fin cfg0.N) : iblk m c 10 t = iblk m c 10 t0_3 := by
  funext j
  obtain ⟨i, rfl⟩ : ∃ i : Fin 64, j = ix2 0 i := ⟨j 1, by blk_ext⟩
  rw [k_read, k_read]

/-- The keys kept in the scratch. -/
theorem mk_A (c : Dev nD) (t : Fin cfg0.N) (h : t.val % 4 = 0) : (outsAt0 m c t.val t.isLt).2.2.2.2.2.2.1 = MKA m c := by
  rw [outsAt0_A m c t h (by omega), MKA, ← kv_read m c t, ← gk_block m c t]
  funext y
  frame_out
  all_goals rfl
theorem mk_B (c : Dev nD) (t : Fin cfg0.N) (h : ¬t.val % 4 = 0) :
    (outsAt0 m c t.val t.isLt).2.2.2.2.2.2.1 = (outsAt0 m c (t.val - 1) (Nat.lt_of_le_of_lt (Nat.sub_le _ _) t.isLt)).2.2.2.2.2.2.1 := by
  by_cases h1 : t.val % 4 = 3
  · rw [outsAt0_C m c t h h1]; rfl
  · rw [outsAt0_B m c t h h1]; rfl
theorem mv_A (c : Dev nD) (t : Fin cfg0.N) (h : t.val % 4 = 0) : (outsAt0 m c t.val t.isLt).2.2.2.2.2.2.2.1 = MVA m c := by
  rw [outsAt0_A m c t h (by omega), MVA, ← kv_read m c t]
  funext y
  frame_out
  all_goals rfl
theorem mv_B (c : Dev nD) (t : Fin cfg0.N) (h : ¬t.val % 4 = 0) :
    (outsAt0 m c t.val t.isLt).2.2.2.2.2.2.2.1 = (outsAt0 m c (t.val - 1) (Nat.lt_of_le_of_lt (Nat.sub_le _ _) t.isLt)).2.2.2.2.2.2.2.1 := by
  by_cases h1 : t.val % 4 = 3
  · rw [outsAt0_C m c t h h1]; rfl
  · rw [outsAt0_B m c t h h1]; rfl

/-- The scratches hold them at every point. -/
theorem mk_at (c : Dev nD) : ∀ (n : ℕ) (h : n < cfg0.N), (outsAt0 m c n h).2.2.2.2.2.2.1 = MKA m c ∧ (outsAt0 m c n h).2.2.2.2.2.2.2.1 = MVA m c
  | 0, h => ⟨mk_A m c ⟨0, h⟩ rfl, mv_A m c ⟨0, h⟩ rfl⟩
  | n + 1, h => by
    have hn : n + 1 < 4 := h
    have h0 : ¬(n + 1) % 4 = 0 := by omega
    have ih := mk_at c n (Nat.lt_of_succ_lt h)
    exact ⟨(mk_B m c ⟨n + 1, h⟩ h0).trans ih.1, (mv_B m c ⟨n + 1, h⟩ h0).trans ih.2⟩

/-- What a point adds to the keys' gradient. -/
abbrev dkOn (c : Dev nD) (t : Fin cfg0.N) (x : Fin 256) (n : Fin 4) (i : Fin 64) : EReal :=
  ∑ r : Fin 1024, dsb (iblk m c 11 t) (iblk m c 5 t) (MVA m c) r n x * qnb (iblk m c 2 t) (iblk m c 9 t) r n i
theorem dk_A (c : Dev nD) (t : Fin cfg0.N) (h : t.val % 4 = 0) (x : Fin 256) (n : Fin 4) (i : Fin 64) :
    (outsAt0 m c t.val t.isLt).2.2.2.2.2.2.2.2.1 (ix2 x ⟨n.val * 64 + i.val, by omega⟩) = 0 + dkOn m c t x n i := by
  rw [dkOn, outsAt0_A m c t h (by omega), MVA, ← kv_read m c t]
  frame_out
  refine (point_dk (iblk m c 2 t) (iblk m c 5 t) (iblk m c 9 t) (iblk m c 11 t) (Cert.Kernel6Ideal.Gen.k0_pay37 (F := Ideal) (iblk m c 6 t)) (Cert.Kernel19Ideal.Gen.k0_pay14 (F := Ideal)) x n i).trans ?_
  congr 1
  exact Ideal.ofBits_zero_f32
theorem dk_B (c : Dev nD) (t : Fin cfg0.N) (h : ¬t.val % 4 = 0) (x : Fin 256) (n : Fin 4) (i : Fin 64) :
    (outsAt0 m c t.val t.isLt).2.2.2.2.2.2.2.2.1 (ix2 x ⟨n.val * 64 + i.val, by omega⟩)
      = (outsAt0 m c (t.val - 1) (Nat.lt_of_le_of_lt (Nat.sub_le _ _) t.isLt)).2.2.2.2.2.2.2.2.1 (ix2 x ⟨n.val * 64 + i.val, by omega⟩) + dkOn m c t x n i := by
  have e := mk_at m c (t.val - 1) (Nat.lt_of_le_of_lt (Nat.sub_le _ _) t.isLt)
  by_cases h1 : t.val % 4 = 3
  · rw [outsAt0_C m c t h h1]
    frame_out
    rw [read_unread_whole, read_unread_whole, e.2]
    exact point_dk (iblk m c 2 t) (iblk m c 5 t) (iblk m c 9 t) (iblk m c 11 t) (MVA m c) (outsAt0 m c (t.val - 1) (Nat.lt_of_le_of_lt (Nat.sub_le _ _) t.isLt)).2.2.2.2.2.2.2.2.1 x n i
  · rw [outsAt0_B m c t h h1]
    frame_out
    rw [read_unread_whole, read_unread_whole, e.2]
    exact point_dk (iblk m c 2 t) (iblk m c 5 t) (iblk m c 9 t) (iblk m c 11 t) (MVA m c) (outsAt0 m c (t.val - 1) (Nat.lt_of_le_of_lt (Nat.sub_le _ _) t.isLt)).2.2.2.2.2.2.2.2.1 x n i

/-- The same, of the point's blocks. -/
abbrev dvOn (c : Dev nD) (t : Fin cfg0.N) (x : Fin 256) (n : Fin 4) (i : Fin 64) : EReal := dvAdd (iblk m c 11 t) (iblk m c 5 t) x n i
theorem dv_A (c : Dev nD) (t : Fin cfg0.N) (h : t.val % 4 = 0) (x : Fin 256) (n : Fin 4) (i : Fin 64) :
    (outsAt0 m c t.val t.isLt).2.2.2.2.2.2.2.2.2 (ix2 x ⟨n.val * 64 + i.val, by omega⟩) = 0 + dvOn m c t x n i := by
  rw [dvOn, outsAt0_A m c t h (by omega)]
  frame_out
  refine (point_dv (iblk m c 5 t) (iblk m c 11 t) (Cert.Kernel19Ideal.Gen.k0_pay14 (F := Ideal)) x n i).trans ?_
  congr 1
  exact Ideal.ofBits_zero_f32
theorem dv_B (c : Dev nD) (t : Fin cfg0.N) (h : ¬t.val % 4 = 0) (x : Fin 256) (n : Fin 4) (i : Fin 64) :
    (outsAt0 m c t.val t.isLt).2.2.2.2.2.2.2.2.2 (ix2 x ⟨n.val * 64 + i.val, by omega⟩)
      = (outsAt0 m c (t.val - 1) (Nat.lt_of_le_of_lt (Nat.sub_le _ _) t.isLt)).2.2.2.2.2.2.2.2.2 (ix2 x ⟨n.val * 64 + i.val, by omega⟩) + dvOn m c t x n i := by
  by_cases h1 : t.val % 4 = 3
  · rw [outsAt0_C m c t h h1]
    frame_out
    rw [read_unread_whole]
    exact point_dv (iblk m c 5 t) (iblk m c 11 t) (outsAt0 m c (t.val - 1) (Nat.lt_of_le_of_lt (Nat.sub_le _ _) t.isLt)).2.2.2.2.2.2.2.2.2 x n i
  · rw [outsAt0_B m c t h h1]
    frame_out
    rw [read_unread_whole]
    exact point_dv (iblk m c 5 t) (iblk m c 11 t) (outsAt0 m c (t.val - 1) (Nat.lt_of_le_of_lt (Nat.sub_le _ _) t.isLt)).2.2.2.2.2.2.2.2.2 x n i

/-- The same, of the point's blocks. -/
abbrev dgOn (c : Dev nD) (t : Fin cfg0.N) (i : Fin 64) : EReal := dgAdd (iblk m c 2 t) (iblk m c 5 t) (iblk m c 11 t) (MKA m c) (MVA m c) i
theorem dg_A (c : Dev nD) (t : Fin cfg0.N) (h : t.val % 4 = 0) (i : Fin 64) : (outsAt0 m c t.val t.isLt).2.2.2.2.1 (ix2 0 i) = 0 + dgOn m c t i := by
  rw [dgOn, outsAt0_A m c t h (by omega), MKA, MVA, ← kv_read m c t, ← gk_block m c t]
  frame_out
  refine (point_dgq _ _ _ _ _ _ _).trans ?_
  congr 1
  exact Ideal.ofBits_zero_f32
theorem dg_B (c : Dev nD) (t : Fin cfg0.N) (h : ¬t.val % 4 = 0) (i : Fin 64) : (outsAt0 m c t.val t.isLt).2.2.2.2.1 (ix2 0 i)
    = (outsAt0 m c (t.val - 1) (Nat.lt_of_le_of_lt (Nat.sub_le _ _) t.isLt)).2.2.2.2.1 (ix2 0 i) + dgOn m c t i := by
  have e := mk_at m c (t.val - 1) (Nat.lt_of_le_of_lt (Nat.sub_le _ _) t.isLt)
  by_cases h1 : t.val % 4 = 3
  · rw [outsAt0_C m c t h h1]
    frame_out
    rw [read_unread_whole, read_unread_whole, e.1, e.2]
    exact point_dgq (iblk m c 2 t) (iblk m c 5 t) (iblk m c 11 t) (MKA m c) (MVA m c) (outsAt0 m c (t.val - 1) (Nat.lt_of_le_of_lt (Nat.sub_le _ _) t.isLt)).2.2.2.2.1 i
  · rw [outsAt0_B m c t h h1]
    frame_out
    rw [read_unread_whole, read_unread_whole, e.1, e.2]
    exact point_dgq (iblk m c 2 t) (iblk m c 5 t) (iblk m c 11 t) (MKA m c) (MVA m c) (outsAt0 m c (t.val - 1) (Nat.lt_of_le_of_lt (Nat.sub_le _ _) t.isLt)).2.2.2.2.1 i

/-- The keys' gradient after the last point. -/
theorem dk_last (c : Dev nD) (x : Fin 256) (n : Fin 4) (i : Fin 64) :
    (outsAt0 m c t0_3.val t0_3.isLt).2.2.2.2.2.2.2.2.1 (ix2 x ⟨n.val * 64 + i.val, by omega⟩) = ∑ t : Fin cfg0.N, dkOn m c t x n i := by
  rw [Pipeline.eq_sum_fin_of_reset_step_apply_last (fun k h (_ : Unit) => (outsAt0 m c k h).2.2.2.2.2.2.2.2.1 (ix2 x ⟨n.val * 64 + i.val, by omega⟩)) 4 (fun _ => (0 : EReal))
    (fun t _ => dkOn m c t x n i) (fun t h _ => dk_A m c t h x n i) (fun t h _ => dk_B m c t h x n i) (le_of_eq N_0) t0_3 rfl (), zero_add]
/-- The values' gradient after the last point. -/
theorem dv_last (c : Dev nD) (x : Fin 256) (n : Fin 4) (i : Fin 64) :
    (outsAt0 m c t0_3.val t0_3.isLt).2.2.2.2.2.2.2.2.2 (ix2 x ⟨n.val * 64 + i.val, by omega⟩) = ∑ t : Fin cfg0.N, dvOn m c t x n i := by
  rw [Pipeline.eq_sum_fin_of_reset_step_apply_last (fun k h (_ : Unit) => (outsAt0 m c k h).2.2.2.2.2.2.2.2.2 (ix2 x ⟨n.val * 64 + i.val, by omega⟩)) 4 (fun _ => (0 : EReal))
    (fun t _ => dvOn m c t x n i) (fun t h _ => dv_A m c t h x n i) (fun t h _ => dv_B m c t h x n i) (le_of_eq N_0) t0_3 rfl (), zero_add]
/-- The queries' gain's gradient after the last point. -/
theorem dg_last (c : Dev nD) (i : Fin 64) : (outsAt0 m c t0_3.val t0_3.isLt).2.2.2.2.1 (ix2 0 i) = ∑ t : Fin cfg0.N, dgOn m c t i := by
  rw [Pipeline.eq_sum_fin_of_reset_step_apply_last (fun k h (_ : Unit) => (outsAt0 m c k h).2.2.2.2.1 (ix2 0 i)) 4 (fun _ => (0 : EReal))
    (fun t _ => dgOn m c t i) (fun t h _ => dg_A m c t h i) (fun t h _ => dg_B m c t h i) (le_of_eq N_0) t0_3 rfl (), zero_add]

/-- What the last point stores of the memory's gradient. -/
theorem dmkv_last (c : Dev nD) : (outsAt0 m c t0_3.val t0_3.isLt).2.2.2.1
    = dmkvOf (iblk m c 6 t0_3) (iblk m c 10 t0_3) (outsAt0 m c t0_3.val t0_3.isLt).2.2.2.2.2.2.2.2.1 (outsAt0 m c t0_3.val t0_3.isLt).2.2.2.2.2.2.2.2.2 := by
  rw [outsAt0_C m c t0_3 (by decide) (by decide)]
  funext y
  frame_out
  all_goals rfl
/-- What the last point stores of the keys' gain's gradient. -/
theorem dgk_last (c : Dev nD) (i : Fin 64) : (outsAt0 m c t0_3.val t0_3.isLt).2.2.2.2.2.1 (ix2 0 i)
    = ∑ x : Fin 256, ∑ n : Fin 4, (outsAt0 m c t0_3.val t0_3.isLt).2.2.2.2.2.2.2.2.1 (ix2 x ⟨n.val * 64 + i.val, by omega⟩) * xkb (iblk m c 6 t0_3) x n i := by
  rw [outsAt0_C m c t0_3 (by decide) (by decide)]
  frame_out
  exact point_dgk _ _ _

/-- The memory values, at an entry. -/
theorem mv_entry (c : Dev nD) (x : Fin 256) (n : Fin 4) (k : Fin 64) :
    MVA m c (ix2 x ⟨n.val * 64 + k.val, by omega⟩) = Mkv m c (ix2 x ⟨256 + (n.val * 64 + k.val), by omega⟩) := point_mv _ x ⟨n.val * 64 + k.val, by omega⟩

/-- The memory keys, at an entry. -/
theorem mk_entry (c : Dev nD) (x : Fin 256) (n : Fin 4) (k : Fin 64) :
    MKA m c (ix2 x ⟨n.val * 64 + k.val, by omega⟩) = Cert.Reference6Ideal.Read.val_main_v18 (F := Ideal) (Mkv m c) (Gk m c) (ix3 x n k) := by
  rw [ref_mk, MKA, point_mk, k_read]

section values
variable (c : Dev nD) (hq : ∀ i, ∃ x : ℝ, Gq m c i = x) (hk : ∀ i, ∃ x : ℝ, Gk m c i = x)
include hq hk

/-- The scores' gradient. -/
theorem ds_eq (t : Fin cfg0.N) (r : Fin 1024) (n : Fin 4) (x : Fin 256) :
    dsb (iblk m c 11 t) (iblk m c 5 t) (MVA m c) r n x * Ideal.ofBits .f32 0x3E000000#32
      = Cert.Reference6Ideal.Read.val_main_v91 (F := Ideal) (Proj m c) (Dcat m c) (Mkv m c) (Gq m c) (Gk m c)
          (ix3 n ⟨t.val * 1024 + r.val, by have : t.val < 4 := t.isLt; omega⟩ x) := by
  rw [ref_ds _ _ _ _ _ hq hk, eighth_f32]
  simp only [dsb, p_read, d_read, mv_entry]

/-- What a point adds to the keys' gradient, in the reference's terms. -/
theorem dk_eq (t : Fin cfg0.N) (x : Fin 256) (n : Fin 4) (i : Fin 64) :
    dkOn m c t x n i = ∑ r : Fin 1024,
      Cert.Reference6Ideal.Read.val_main_v91 (F := Ideal) (Proj m c) (Dcat m c) (Mkv m c) (Gq m c) (Gk m c)
          (ix3 n ⟨t.val * 1024 + r.val, by have : t.val < 4 := t.isLt; omega⟩ x)
      * Cert.Reference6Ideal.Read.val_main_v37 (F := Ideal) (Proj m c) (Gq m c) (ix3 ⟨t.val * 1024 + r.val, by have : t.val < 4 := t.isLt; omega⟩ n i) := by
  refine Finset.sum_congr rfl fun r _ => ?_
  rw [← ds_eq m c hq hk t r n x, ref_qn, qnb]
  simp only [a_read, q_read]
  ac_rfl

/-- What a point adds to the queries' gain's gradient, in the reference's terms. -/
theorem dg_eq (t : Fin cfg0.N) (i : Fin 64) :
    dgOn m c t i = ∑ r : Fin 1024, ∑ n : Fin 4,
      Proj m c (ix2 ⟨t.val * 1024 + r.val, by have : t.val < 4 := t.isLt; omega⟩ ⟨768 + (n.val * 64 + i.val), by omega⟩)
      * Ideal.rsqrt (Ideal.div (∑ k : Fin 64, Proj m c (ix2 ⟨t.val * 1024 + r.val, by have : t.val < 4 := t.isLt; omega⟩ ⟨768 + (n.val * 64 + k.val), by omega⟩) * Proj m c (ix2 ⟨t.val * 1024 + r.val, by have : t.val < 4 := t.isLt; omega⟩ ⟨768 + (n.val * 64 + k.val), by omega⟩))
            (Ideal.ofBits .f32 0x42800000#32) + Ideal.ofBits .f32 0x358637BD#32)
      * ∑ x : Fin 256, Cert.Reference6Ideal.Read.val_main_v91 (F := Ideal) (Proj m c) (Dcat m c) (Mkv m c) (Gq m c) (Gk m c)
          (ix3 n ⟨t.val * 1024 + r.val, by have : t.val < 4 := t.isLt; omega⟩ x)
        * Cert.Reference6Ideal.Read.val_main_v18 (F := Ideal) (Mkv m c) (Gk m c) (ix3 x n i) := by
  refine Finset.sum_congr rfl fun r _ => Finset.sum_congr rfl fun n _ => ?_
  rw [mul_comm]
  refine congrArg₂ (· * ·) ?_ ?_
  · simp only [a_read]
  · rw [mul_comm, eighth_f32, const_mul_sum _ _ (by norm_num)]
    refine Finset.sum_congr rfl fun x _ => ?_
    rw [← ds_eq m c hq hk t r n x, mk_entry, eighth_f32]
    ac_rfl

/-- The memory's gradient, over the whole array. -/
theorem final_dmkv : (dats m 0 c).arrAt 15 cfg0.N
    = Cert.Reference6Ideal.Read.val_main_v141 (F := Ideal) (Proj m c) (Dcat m c) (Mkv m c) (Gq m c) (Gk m c) := by
  refine (dats m 0 c).arrAt_eq_of_after_last 15 t0_3 (by decide +kernel) _ fun j => ?_
  blk_simp
  rw [after0_15, dmkv_last]
  obtain ⟨x, y, rfl⟩ : ∃ (x : Fin 256) (y : Fin 512), j = ix2 x y := ⟨j 0, j 1, by blk_ext⟩
  by_cases h : y.val < 256
  · obtain ⟨n, i, rfl⟩ := col_lo y h
    refine (point_dmk _ _ _ _ _ _ _).trans (Eq.trans ?_ (ref_dmk _ _ _ _ _ _ _ _).symm)
    refine congrArg₂ (fun p q => headGrad p q i) (funext fun k => congrFun (kv_read m c t0_3) _) (funext fun k => congrArg₂ (· * ·) ?_ (k_read m c t0_3 k))
    rw [dk_last]
    simp only [dk_eq m c hq hk]
    exact Fin.sum_mul_add_congr (S := 4) (n := 1024) fun t k hl => rfl
  · obtain ⟨n, i, rfl⟩ := col_hi y h
    refine (point_dmv _ _ _ _ _ ⟨n.val * 64 + i.val, by omega⟩).trans (Eq.trans ?_ (ref_dmv _ _ _ _ _ _ _ _).symm)
    rw [dv_last]
    refine Fin.sum_mul_add_congr (S := 4) (n := 1024) fun t k hl => ?_
    rw [mul_comm]
    exact congrArg₂ (· * ·) (d_read m c t k ⟨n.val * 64 + i.val, by omega⟩) (p_read m c t k n x)

/-- The queries' gain's gradient. -/
theorem final_dgq : (dats m 0 c).arrAt 16 cfg0.N
    = Cert.Reference6Ideal.Read.val_main_v145 (F := Ideal) (Proj m c) (Dcat m c) (Mkv m c) (Gq m c) (Gk m c) := by
  refine (dats m 0 c).arrAt_eq_of_after_last 16 t0_3 (by decide +kernel) _ fun j => ?_
  blk_simp
  rw [after0_16]
  obtain ⟨i, rfl⟩ : ∃ i : Fin 64, j = ix2 0 i := ⟨j 1, by blk_ext⟩
  refine (dg_last m c i).trans (Eq.trans ?_ (ref_dgq _ _ _ _ _ _).symm)
  simp only [dg_eq m c hq hk]
  exact Fin.sum_mul_add_congr (S := 4) (n := 1024) fun t k hl => rfl

/-- The keys' gain's gradient. -/
theorem final_dgk : (dats m 0 c).arrAt 17 cfg0.N
    = Cert.Reference6Ideal.Read.val_main_v146 (F := Ideal) (Proj m c) (Dcat m c) (Mkv m c) (Gq m c) (Gk m c) := by
  refine (dats m 0 c).arrAt_eq_of_after_last 17 t0_3 (by decide +kernel) _ fun j => ?_
  blk_simp
  rw [after0_17]
  obtain ⟨i, rfl⟩ : ∃ i : Fin 64, j = ix2 0 i := ⟨j 1, by blk_ext⟩
  refine (dgk_last m c i).trans (Eq.trans ?_ (ref_dgk _ _ _ _ _ _).symm)
  refine Finset.sum_congr rfl fun x _ => Finset.sum_congr rfl fun n _ => ?_
  rw [mul_comm, dk_last, kv_read]
  simp only [dk_eq m c hq hk]
  refine congrArg₂ (· * ·) rfl ?_
  exact Fin.sum_mul_add_congr (S := 4) (n := 1024) fun t k hl => rfl

end values

end Cert.Kernel19Ideal.Proof

end
-- ==== Proof.PoolMix.lean ====
module

public import proofs.«01_k».proof.Proof.Common
public import proofs.«01_k».proof.Proof.PoolFwd
public import proofs.«01_k».proof.Proof.Gen.Kernel19Ideal.Skeleton
public import proofs.«01_k».proof.Proof.Gen.Reference19Ideal.Read

/-! What a point adds to the gradients of the pooling mixer's weights and scales, and what the reference's are. -/

@[expose] public section

set_option maxRecDepth 16384

noncomputable section

namespace Cert.Kernel19Ideal.Proof

open Cert.Kernel19Ideal Cert.Kernel19Ideal.Gen Idealize.ShloMosaic Idealize.SL.Sem
open Cert.Common
open Cert.Reference14Ideal.Proof (wd cnt col)
open Cert.Kernel14Ideal.Proof (pick point_sum rows rows_at)

/-- The columns' numbers. -/
abbrev colNo : S1024x768.Idx → BitVec 32 := iota .tc S1024x768 32 [1] iota_S1024x768_d1_w32

/-- The means less the rows, of a point. -/
abbrev difOf (i : grid0.Coords) (v8 : S16x768.Idx → EReal) (v11 : S1024x768.Idx → EReal) : S1024x768.Idx → EReal :=
  k0_pay44 (F := Ideal) v11 (k0_pay42 i v8 v11) colNo (k0_pay43 i) 192#32

/-- The windowed sums are the forward call's. -/
theorem sums_same (i : grid0.Coords) (v8 : S16x768.Idx → EReal) (v11 : S1024x768.Idx → EReal) :
    k0_pay42 (F := Ideal) i v8 v11 = Cert.Kernel14Ideal.Gen.k0_pay12 (F := Ideal) i v8 v11 := rfl

/-- The means less the rows, at an entry. -/
theorem point_dif (i : grid0.Coords) (v8 : S16x768.Idx → EReal) (v11 : S1024x768.Idx → EReal) (r : Fin 1024) (g : Fin 4) (a : Fin 192) :
    difOf i v8 v11 (ix2 r ⟨g.val * 192 + a.val, by omega⟩)
      = Ideal.div (k0_pay42 (F := Ideal) i v8 v11 (ix2 r ⟨g.val * 192 + a.val, by omega⟩)) (cnt ((i 0).val * 1024 + r.val) g) - v11 (ix2 r ⟨g.val * 192 + a.val, by omega⟩) := by
  have hi : ∀ k : ℕ, k < 4 → IntOp.addi (IntOp.muli (BitVec.ofNat 32 k) 1024#32) (BitVec.ofNat 32 r.val) = BitVec.ofNat 32 (k * 1024 + r.val) := fun k hk => by
    unfold IntOp.addi IntOp.muli
    apply BitVec.eq_of_toNat_eq
    simp
  unfold cnt
  rw [← hi _ (i 0).isLt]
  have e : ∀ x : Fin 768, difOf i v8 v11 (ix2 r x) = Ideal.div (k0_pay42 (F := Ideal) i v8 v11 (ix2 r x)) (FloatOps.sitofp (F := Ideal) .f32
        (IntOp.minsi (IntOp.addi (IntOp.addi (IntOp.muli (BitVec.ofNat 32 (i 0).val) 1024#32) (BitVec.ofNat 32 r.val)) 1#32)
          (Scalar.select (IntOp.cmpi .slt (BitVec.ofNat 32 x.val) 192#32) 2#32 (Scalar.select (IntOp.cmpi .slt (BitVec.ofNat 32 x.val) 384#32) 4#32
            (Scalar.select (IntOp.cmpi .slt (BitVec.ofNat 32 x.val) 576#32) 8#32 16#32))))) - v11 (ix2 r x) := by
    intro x
    unfold difOf
    generalize k0_pay42 (F := Ideal) i v8 v11 = w
    pointwise [k0_pay44, k0_pay43]
    try rfl
  rw [e]
  refine congrArg (fun w => Ideal.div _ (FloatOps.sitofp (F := Ideal) .f32 (IntOp.minsi _ w)) - _) ?_
  exact (pick g a (fun g' => BitVec.ofNat 32 (wd g')))

/-- What a point makes of the weights' gradient. -/
theorem point_dw (s : S1x768.Idx → EReal) (v11 w : S1024x768.Idx → EReal) (n : S1024x768.Idx → BitVec 32) (d : S1024x768.Idx → EReal) (acc : S768x768.Idx → EReal)
    (D : S1024x768.Idx → EReal) (hD : k0_pay44 (F := Ideal) v11 w colNo n 192#32 = D) (x y : Fin 768) :
    k0_pay47 (F := Ideal) (k0_pay41 s) v11 w colNo n 192#32 d acc (ix2 x y) = acc (ix2 x y) + ∑ r : Fin 1024, D (ix2 r x) * (d (ix2 r y) * s (ix2 0 y)) := by
  unfold k0_pay47
  rw [hD]
  pointwise [k0_pay46, k0_pay41]

/-- What a point makes of the scales' gradient. -/
theorem point_ds (B : S768x768.Idx → EReal) (v11 w : S1024x768.Idx → EReal) (n : S1024x768.Idx → BitVec 32) (d : S1024x768.Idx → EReal) (acc : S1x768.Idx → EReal)
    (D : S1024x768.Idx → EReal) (hD : k0_pay44 (F := Ideal) v11 w colNo n 192#32 = D) (y : Fin 768) :
    k0_pay45 (F := Ideal) (k0_pay40 B) v11 w colNo n 192#32 d acc (ix2 0 y) = acc (ix2 0 y) + ∑ r : Fin 1024, d (ix2 r y) * ∑ x : Fin 768, D (ix2 r x) * B (ix2 x y) := by
  unfold k0_pay45
  rw [hD]
  pointwise [k0_pay40]

section reference
open Cert.Reference19Ideal.Read
variable (proj dcat : S4096x1024.Idx → EReal) (pw : S4x192x192.Idx → EReal) (ps : S768.Idx → EReal)

/-- The means less the rows are those of the forward call's reference. -/
theorem mean_same : val_main_v199 (F := Ideal) proj = Cert.Reference14Ideal.Read.val_main_v56 (F := Ideal) proj := rfl

/-- The weights' gradient. -/
theorem ref_dw (g : Fin 4) (a : Fin 192) (y : Fin 768) : val_main_v209 (F := Ideal) proj dcat ps (ix2 ⟨g.val * 192 + a.val, by omega⟩ y)
    = ∑ s : Fin 4096, Cert.Reference14Ideal.Read.val_main_v56 (F := Ideal) proj (ix3 s g a) * (dcat (ix2 s ⟨y.val, by omega⟩) * ps (ix1 y)) := by
  rw [← mean_same]
  unfold val_main_v209 val_main_v208 val_main_v201
  generalize val_main_v199 (F := Ideal) proj = w
  pointwise [val_main_v207, val_main_v206, val_main_v203, val_main_v142]
  have e0 : (g.val * 192 + a.val) / 192 = g.val := by omega
  have e1 : (g.val * 192 + a.val) % 192 = a.val := by omega
  try simp only [e0, e1]
  try simp only [mul_comm]

/-- The mixed means. -/
theorem ref_mixed (t : Fin 4096) (g : Fin 4) (b : Fin 192) : val_main_v212 (F := Ideal) proj pw (ix2 t ⟨g.val * 192 + b.val, by omega⟩)
    = ∑ a : Fin 192, pw (ix3 g a b) * Cert.Reference14Ideal.Read.val_main_v56 (F := Ideal) proj (ix3 t g a) := by
  rw [← mean_same]
  unfold val_main_v212 val_main_v211 val_main_v210
  generalize val_main_v199 (F := Ideal) proj = w
  pointwise []

/-- The scales' gradient, of the products it sums. -/
theorem ref_rows (y : Fin 768) : val_main_v220 (F := Ideal) proj dcat pw (ix2 0 y) = ∑ s : Fin 4096, val_main_v216 (F := Ideal) proj dcat pw (ix2 s y) := by
  unfold val_main_v220 val_main_v219 val_main_v218 val_main_v217
  generalize val_main_v216 (F := Ideal) proj dcat pw = w
  pointwise [val_main_cst_48, val_main_cst_49]
  try simp

/-- The scales' gradient. -/
theorem ref_dscale (g : Fin 4) (b : Fin 192) : val_main_v220 (F := Ideal) proj dcat pw (ix2 0 ⟨g.val * 192 + b.val, by omega⟩)
    = ∑ s : Fin 4096, dcat (ix2 s ⟨g.val * 192 + b.val, by omega⟩) * ∑ a : Fin 192, pw (ix3 g a b) * Cert.Reference14Ideal.Read.val_main_v56 (F := Ideal) proj (ix3 s g a) := by
  rw [ref_rows]
  refine Finset.sum_congr rfl fun s _ => ?_
  rw [val_main_v216_apply, ref_mixed]
  refine (mul_comm _ _).trans (congrArg (· * _) ?_)
  pointwise [val_main_v142]

end reference

end Cert.Kernel19Ideal.Proof

end
-- ==== Proof.PoolMixBwd.lean ====
module

public import proofs.«01_k».proof.Defs
public import proofs.«01_k».proof.Proof.PoolMix
public import proofs.«01_k».proof.Proof.Gen.Kernel19Ideal.Frame
public import Idealize.ShloMosaic.Lib.Pipeline.Value
public import Idealize.ShloMosaic.Lib.Pipeline.ReadBack

/-! The gradients of the pooling mixer's weights and scales over the whole arrays. -/

@[expose] public section

set_option maxRecDepth 16384

noncomputable section

namespace Cert.Kernel19Ideal.Mix

open Cert.Kernel19Ideal Cert.Kernel19Ideal.Gen Idealize.ShloMosaic Idealize.ShloMosaic.TcCoe Idealize.SL.Sem
open Idealize.ShloMosaic.Pipeline (Dat)
open Cert.Common
open Cert.Reference14Ideal.Proof (wd cnt col)
open Cert.Kernel14Ideal.Proof (point_sum rows_at eye_at block_sum)
open Cert.Kernel19Ideal.Proof (colNo difOf sums_same point_dif point_dw point_ds ref_dw ref_dscale)

variable (m : (ℓ : Loc nD τ sig) → Buf (Elt Ideal) ℓ)

/-- The projection. -/
abbrev Proj (c : Dev nD) : S4096x1024.Idx → EReal := m ((c : Thread nD τ).loc main_arg0)
/-- The gradient of the concatenated mixers. -/
abbrev Dcat (c : Dev nD) : S4096x1024.Idx → EReal := m ((c : Thread nD τ).loc main_arg1)
/-- The pooled groups' weights. -/
abbrev Pw (c : Dev nD) : S4x192x192.Idx → EReal := m ((c : Thread nD τ).loc main_arg3)
/-- The pooled columns' scales. -/
abbrev Ps (c : Dev nD) : S768.Idx → EReal := m ((c : Thread nD τ).loc main_arg4)

/-- The windows' block indices. -/
theorem idx : ∀ t : Fin cfg0.N, win0_0.index t 0 = t.val ∧ win0_0.index t 1 = 0 ∧ win0_1.index t 0 = t.val * 64 - 1 ∧ win0_1.index t 1 = 0 ∧ win0_3.index t 0 = t.val ∧ win0_3.index t 1 = 0
    ∧ (∀ i, win0_7.index t i = 0) ∧ (∀ i, win0_8.index t i = 0) ∧ (∀ i, win0_13.index t i = 0) ∧ (∀ i, win0_14.index t i = 0) :=
  (by decide +kernel : ∀ t : Fin grid0.N, win0_0.index t 0 = t.val ∧ win0_0.index t 1 = 0 ∧ win0_1.index t 0 = t.val * 64 - 1 ∧ win0_1.index t 1 = 0 ∧ win0_3.index t 0 = t.val ∧ win0_3.index t 1 = 0
    ∧ (∀ i, win0_7.index t i = 0) ∧ (∀ i, win0_8.index t i = 0) ∧ (∀ i, win0_13.index t i = 0) ∧ (∀ i, win0_14.index t i = 0))

theorem coord : ∀ t : Fin grid0.N, (grid0.coords t 0).val = t.val := by decide +kernel

/-- A row of the sequence: a point's own. -/
abbrev rw0 (t : Fin cfg0.N) (r : Fin 1024) : Fin 4096 := ⟨t.val * 1024 + r.val, by have : t.val < 4 := t.isLt; omega⟩
/-- A row of the sequence: a halo's. -/
abbrev rw1 (t : Fin cfg0.N) (q : Fin 16) : Fin 4096 := ⟨(t.val * 64 - 1) * 16 + q.val, by have : t.val < 4 := t.isLt; omega⟩

theorem u_read (c : Dev nD) (t : Fin cfg0.N) (r : Fin 1024) (x : Fin 768) : X0_0 m c t (ix2 r x) = Proj m c (ix2 (rw0 t r) ⟨x.val, by omega⟩) := by
  have h : ∀ j : S4096x1024.Idx, j = ix2 (rw0 t r) ⟨x.val, by omega⟩ → V m c main_arg0 j = Proj m c (ix2 (rw0 t r) ⟨x.val, by omega⟩) := by
    rintro _ rfl
    rw [V_main_arg0]
  unfold X0_0 Pipeline.Window.fill
  rw [dif_pos (moved0_0 t _)]
  refine h _ ?_
  blk_ext [idx t]

theorem halo_read (c : Dev nD) (t : Fin cfg0.N) (q : Fin 16) (x : Fin 768) : X0_1 m c t (ix2 q x) = Proj m c (ix2 (rw1 t q) ⟨x.val, by omega⟩) := by
  have h : ∀ j : S4096x1024.Idx, j = ix2 (rw1 t q) ⟨x.val, by omega⟩ → V m c main_arg0 j = Proj m c (ix2 (rw1 t q) ⟨x.val, by omega⟩) := by
    rintro _ rfl
    rw [V_main_arg0]
  unfold X0_1 Pipeline.Window.fill
  rw [dif_pos (moved0_1 t _)]
  refine h _ ?_
  blk_ext [idx t]

theorem do_read (c : Dev nD) (t : Fin cfg0.N) (r : Fin 1024) (x : Fin 768) : X0_3 m c t (ix2 r x) = Dcat m c (ix2 (rw0 t r) ⟨x.val, by omega⟩) := by
  have h : ∀ j : S4096x1024.Idx, j = ix2 (rw0 t r) ⟨x.val, by omega⟩ → V m c main_arg1 j = Dcat m c (ix2 (rw0 t r) ⟨x.val, by omega⟩) := by
    rintro _ rfl
    rw [V_main_arg1]
  unfold X0_3 Pipeline.Window.fill
  rw [dif_pos (moved0_3 t _)]
  refine h _ ?_
  blk_ext [idx t]

theorem s_read (c : Dev nD) (t : Fin cfg0.N) (y : Fin 768) : iblk m c 8 t (ix2 0 y) = Ps m c (ix1 y) := by
  have h : ∀ j : S1x768.Idx, j = ix2 0 y → V m c main_v64 j = Ps m c (ix1 y) := by
    rintro _ rfl
    entry_read
    pointwise []
  refine h _ ?_
  blk_ext [idx t]

theorem b_read (c : Dev nD) (t : Fin cfg0.N) (h : Fin 4) (a : Fin 192) (g : Fin 4) (b : Fin 192) :
    iblk m c 7 t (ix2 ⟨h.val * 192 + a.val, by omega⟩ ⟨g.val * 192 + b.val, by omega⟩) = (if h = g then 1 else 0) * Pw m c (ix3 h a b) := by
  have e : ∀ j : S768x768.Idx, j = ix2 ⟨h.val * 192 + a.val, by omega⟩ ⟨g.val * 192 + b.val, by omega⟩ → V m c main_v63 j
      = FloatOps.uitofp (F := Ideal) .f32 (IntOp.cmpi .eq (IntOp.addi (BitVec.ofNat 32 h.val) 0#32) (BitVec.ofNat 32 g.val)) * Pw m c (ix3 h a b) := by
    rintro _ rfl
    entry_read
    pointwise []
    have e0 : (h.val * 192 + a.val) / 192 = h.val := by omega
    have e1 : (h.val * 192 + a.val) % 192 = a.val := by omega
    have e2 : (g.val * 192 + b.val) / 192 = g.val := by omega
    have e3 : (g.val * 192 + b.val) % 192 = b.val := by omega
    simp only [e0, e1, e2, e3]
  rw [← eye_at]
  refine e _ ?_
  blk_ext [idx t]

/-- The means less the rows, of a point. -/
abbrev DA (c : Dev nD) (t : Fin cfg0.N) : S1024x768.Idx → EReal := difOf (grid0.coords t) (X0_1 m c t) (X0_0 m c t)

/-- What a block of rows adds to the weights' gradient. -/
abbrev dwAdd (D d : S1024x768.Idx → EReal) (s : S1x768.Idx → EReal) (x y : Fin 768) : EReal := ∑ r : Fin 1024, D (ix2 r x) * (d (ix2 r y) * s (ix2 0 y))
/-- What a block of rows adds to the scales' gradient. -/
abbrev dsAdd (D d : S1024x768.Idx → EReal) (B : S768x768.Idx → EReal) (y : Fin 768) : EReal := ∑ r : Fin 1024, d (ix2 r y) * ∑ x : Fin 768, D (ix2 r x) * B (ix2 x y)

/-- What a point adds to the weights' gradient. -/
abbrev dwOn (c : Dev nD) (t : Fin cfg0.N) (x y : Fin 768) : EReal := dwAdd (DA m c t) (X0_3 m c t) (iblk m c 8 t) x y
theorem dw_A (c : Dev nD) (t : Fin cfg0.N) (h : t.val % 4 = 0) (x y : Fin 768) : (outsAt0 m c t.val t.isLt).2.1 (ix2 x y) = 0 + dwOn m c t x y := by
  rw [dwOn, outsAt0_A m c t h (by omega)]
  frame_out
  refine (point_dw (iblk m c 8 t) (X0_0 m c t) (k0_pay42 (F := Ideal) (grid0.coords t) (X0_1 m c t) (X0_0 m c t)) (k0_pay43 (grid0.coords t)) (X0_3 m c t) (k0_pay16 (F := Ideal)) _ rfl x y).trans ?_
  congr 1
  exact Ideal.ofBits_zero_f32
theorem dw_B (c : Dev nD) (t : Fin cfg0.N) (h : ¬t.val % 4 = 0) (x y : Fin 768) : (outsAt0 m c t.val t.isLt).2.1 (ix2 x y)
    = (outsAt0 m c (t.val - 1) (Nat.lt_of_le_of_lt (Nat.sub_le _ _) t.isLt)).2.1 (ix2 x y) + dwOn m c t x y := by
  by_cases h1 : t.val % 4 = 3
  · rw [outsAt0_C m c t h h1]
    frame_out
    exact point_dw (iblk m c 8 t) (X0_0 m c t) (k0_pay42 (F := Ideal) (grid0.coords t) (X0_1 m c t) (X0_0 m c t)) (k0_pay43 (grid0.coords t)) (X0_3 m c t) (outsAt0 m c (t.val - 1) (Nat.lt_of_le_of_lt (Nat.sub_le _ _) t.isLt)).2.1 _ rfl x y
  · rw [outsAt0_B m c t h h1]
    frame_out
    exact point_dw (iblk m c 8 t) (X0_0 m c t) (k0_pay42 (F := Ideal) (grid0.coords t) (X0_1 m c t) (X0_0 m c t)) (k0_pay43 (grid0.coords t)) (X0_3 m c t) (outsAt0 m c (t.val - 1) (Nat.lt_of_le_of_lt (Nat.sub_le _ _) t.isLt)).2.1 _ rfl x y

/-- What a point adds to the scales' gradient. -/
abbrev dsOn (c : Dev nD) (t : Fin cfg0.N) (y : Fin 768) : EReal := dsAdd (DA m c t) (X0_3 m c t) (iblk m c 7 t) y
theorem ds_A (c : Dev nD) (t : Fin cfg0.N) (h : t.val % 4 = 0) (y : Fin 768) : (outsAt0 m c t.val t.isLt).2.2.1 (ix2 0 y) = 0 + dsOn m c t y := by
  rw [dsOn, outsAt0_A m c t h (by omega)]
  frame_out
  refine (point_ds (iblk m c 7 t) (X0_0 m c t) (k0_pay42 (F := Ideal) (grid0.coords t) (X0_1 m c t) (X0_0 m c t)) (k0_pay43 (grid0.coords t)) (X0_3 m c t) (k0_pay17 (F := Ideal)) _ rfl y).trans ?_
  congr 1
  exact Ideal.ofBits_zero_f32
theorem ds_B (c : Dev nD) (t : Fin cfg0.N) (h : ¬t.val % 4 = 0) (y : Fin 768) : (outsAt0 m c t.val t.isLt).2.2.1 (ix2 0 y)
    = (outsAt0 m c (t.val - 1) (Nat.lt_of_le_of_lt (Nat.sub_le _ _) t.isLt)).2.2.1 (ix2 0 y) + dsOn m c t y := by
  by_cases h1 : t.val % 4 = 3
  · rw [outsAt0_C m c t h h1]
    frame_out
    exact point_ds (iblk m c 7 t) (X0_0 m c t) (k0_pay42 (F := Ideal) (grid0.coords t) (X0_1 m c t) (X0_0 m c t)) (k0_pay43 (grid0.coords t)) (X0_3 m c t) (outsAt0 m c (t.val - 1) (Nat.lt_of_le_of_lt (Nat.sub_le _ _) t.isLt)).2.2.1 _ rfl y
  · rw [outsAt0_B m c t h h1]
    frame_out
    exact point_ds (iblk m c 7 t) (X0_0 m c t) (k0_pay42 (F := Ideal) (grid0.coords t) (X0_1 m c t) (X0_0 m c t)) (k0_pay43 (grid0.coords t)) (X0_3 m c t) (outsAt0 m c (t.val - 1) (Nat.lt_of_le_of_lt (Nat.sub_le _ _) t.isLt)).2.2.1 _ rfl y

/-- The weights' gradient after the last point. -/
theorem dw_last (c : Dev nD) (x y : Fin 768) : (outsAt0 m c t0_3.val t0_3.isLt).2.1 (ix2 x y) = ∑ t : Fin cfg0.N, dwOn m c t x y := by
  rw [Pipeline.eq_sum_fin_of_reset_step_apply_last (fun k h (_ : Unit) => (outsAt0 m c k h).2.1 (ix2 x y)) 4 (fun _ => (0 : EReal))
    (fun t _ => dwOn m c t x y) (fun t h _ => dw_A m c t h x y) (fun t h _ => dw_B m c t h x y) (le_of_eq N_0) t0_3 rfl (), zero_add]
/-- The scales' gradient after the last point. -/
theorem ds_last (c : Dev nD) (y : Fin 768) : (outsAt0 m c t0_3.val t0_3.isLt).2.2.1 (ix2 0 y) = ∑ t : Fin cfg0.N, dsOn m c t y := by
  rw [Pipeline.eq_sum_fin_of_reset_step_apply_last (fun k h (_ : Unit) => (outsAt0 m c k h).2.2.1 (ix2 0 y)) 4 (fun _ => (0 : EReal))
    (fun t _ => dsOn m c t y) (fun t h _ => ds_A m c t h y) (fun t h _ => ds_B m c t h y) (le_of_eq N_0) t0_3 rfl (), zero_add]

/-- The windowed sum of a point's rows. -/
theorem sum_at (c : Dev nD) (t : Fin cfg0.N) (r : Fin 1024) (g : Fin 4) (a : Fin 192) :
    k0_pay42 (F := Ideal) (grid0.coords t) (X0_1 m c t) (X0_0 m c t) (ix2 r ⟨g.val * 192 + a.val, by omega⟩)
      = ∑ k ∈ Finset.range (wd g), if k ≤ (rw0 t r).val then col (Proj m c) ⟨g.val * 192 + a.val, by omega⟩ ((rw0 t r).val - k) else 0 := by
  have ht : t.val < 4 := t.isLt
  rw [sums_same]
  refine (point_sum (grid0.coords t) _ _ r g a (fun q => if 16 ≤ t.val * 1024 + q then col (Proj m c) ⟨g.val * 192 + a.val, by omega⟩ (t.val * 1024 + q - 16) else 0) fun q => ?_).trans ?_
  · rw [rows_at]
    have hc := coord t
    unfold col
    by_cases hq : q.val < 16
    · rw [dif_pos hq]
      by_cases h0 : 0 < t.val
      · rw [if_pos (by rw [hc]; exact h0), if_pos (by omega), halo_read, dif_pos (by omega)]
        refine congrArg (Proj m c) (congrArg₂ ix2 (Fin.ext ?_) rfl)
        show (t.val * 64 - 1) * 16 + q.val = t.val * 1024 + q.val - 16
        omega
      · rw [if_neg (by rw [hc]; exact h0), if_neg (by omega)]
    · rw [dif_neg hq, if_pos (by omega), u_read, dif_pos (by omega)]
      refine congrArg (Proj m c) (congrArg₂ ix2 (Fin.ext ?_) rfl)
      show t.val * 1024 + (q.val - 16) = t.val * 1024 + q.val - 16
      omega
  · refine Finset.sum_congr rfl fun k hk => ?_
    have hw : ∀ g : Fin 4, wd g ≤ 16 := by decide
    have hk' := Finset.mem_range.mp hk
    have hk16 : k < 16 := lt_of_lt_of_le hk' (hw g)
    show (if 16 ≤ t.val * 1024 + (16 + r.val - k) then _ else _) = if k ≤ t.val * 1024 + r.val then _ else _
    by_cases h : k ≤ t.val * 1024 + r.val
    · rw [if_pos h, if_pos (by omega)]
      congr 1
      show t.val * 1024 + (16 + r.val - k) - 16 = t.val * 1024 + r.val - k
      omega
    · rw [if_neg h, if_neg (by omega)]

section values
variable (c : Dev nD) (hu : ∀ (r : Fin 4096) (x : Fin 768), ∃ z : ℝ, Proj m c (ix2 r ⟨x.val, by omega⟩) = z)
include hu

/-- A point's mean less its row is the reference's. -/
theorem mean_eq (t : Fin cfg0.N) (r : Fin 1024) (g : Fin 4) (a : Fin 192) :
    DA m c t (ix2 r ⟨g.val * 192 + a.val, by omega⟩) = Cert.Reference14Ideal.Read.val_main_v56 (F := Ideal) (Proj m c) (ix3 (rw0 t r) g a) := by
  rw [Cert.Reference14Ideal.Proof.ref_mean, Cert.Reference14Ideal.Proof.ref_diff, Cert.Reference14Ideal.Proof.diff_window _ (fun j => ?_), DA, point_dif, sum_at, u_read, coord t]
  unfold col
  split
  · exact hu _ _
  · exact ⟨0, rfl⟩

/-- The weights' gradient, over the whole array. -/
theorem final_dw : (dats m 0 c).arrAt 13 cfg0.N = Cert.Reference19Ideal.Read.val_main_v209 (F := Ideal) (Proj m c) (Dcat m c) (Ps m c) := by
  refine (dats m 0 c).arrAt_eq_of_after_last 13 t0_3 (by decide +kernel) _ fun j => ?_
  blk_simp
  rw [after0_13]
  obtain ⟨g, a, y, rfl⟩ : ∃ (g : Fin 4) (a : Fin 192) (y : Fin 768), j = ix2 ⟨g.val * 192 + a.val, by omega⟩ y :=
    ⟨⟨(j 0).val / 192, by have : (j 0).val < 768 := (j 0).isLt; omega⟩, ⟨(j 0).val % 192, Nat.mod_lt _ (by norm_num)⟩, j 1, by blk_ext⟩
  refine (dw_last m c _ y).trans (Eq.trans ?_ (ref_dw _ _ _ g a y).symm)
  refine Fin.sum_mul_add_congr (S := 4) (n := 1024) fun t r hl => ?_
  exact congrArg₂ (· * ·) (mean_eq m c hu t r g a) (congrArg₂ (· * ·) (do_read m c t r y) (s_read m c t y))

/-- The scales' gradient. -/
theorem final_dscale : (dats m 0 c).arrAt 14 cfg0.N = Cert.Reference19Ideal.Read.val_main_v220 (F := Ideal) (Proj m c) (Dcat m c) (Pw m c) := by
  refine (dats m 0 c).arrAt_eq_of_after_last 14 t0_3 (by decide +kernel) _ fun j => ?_
  blk_simp
  rw [after0_14]
  obtain ⟨g, b, rfl⟩ : ∃ (g : Fin 4) (b : Fin 192), j = ix2 0 ⟨g.val * 192 + b.val, by omega⟩ :=
    ⟨⟨(j 1).val / 192, by have : (j 1).val < 768 := (j 1).isLt; omega⟩, ⟨(j 1).val % 192, Nat.mod_lt _ (by norm_num)⟩, by blk_ext⟩
  refine (ds_last m c _).trans (Eq.trans ?_ (ref_dscale _ _ _ g b).symm)
  refine Fin.sum_mul_add_congr (S := 4) (n := 1024) fun t r hl => ?_
  refine congrArg₂ (· * ·) (do_read m c t r _) ((block_sum _ (Pw m c) g b _ (fun h a => b_read m c t h a g b)).trans (Finset.sum_congr rfl fun a _ => ?_))
  exact congrArg (Pw m c (ix3 g a b) * ·) (mean_eq m c hu t r g a)

end values

end Cert.Kernel19Ideal.Mix

end
-- ==== Proof.PoolBwd.lean ====
module

public import proofs.«01_k».proof.Defs
public import proofs.«01_k».proof.Proof.PoolMemBwd
public import proofs.«01_k».proof.Proof.PoolMixBwd
public import proofs.«01_k».proof.Proof.Gen.Reference19Ideal.Run
public import proofs.«01_k».proof.Proof.Gen.Pre_pool_input_and_gains_finite19

/-! The value of the pooling mixer's backward call, all results but the input's gradient. -/

@[expose] public section

set_option maxRecDepth 16384

noncomputable section

namespace Cert.Kernel19Ideal.Proof

open Cert.Kernel19Ideal Cert.Kernel19Ideal.Gen Idealize.ShloMosaic Idealize.ShloMosaic.TcCoe Idealize.SL.Sem
open Idealize.ShloMosaic.Pipeline (Dat)
open Cert.Common

variable (m : (ℓ : Loc nD τ sig) → Buf (Elt Ideal) ℓ)

/-- What the call leaves: its results but the input's gradient as the windows left them, and the arguments as they were. -/
theorem run_bwd (ρ : Dev nD → PrngReg) : θ_run defs (onTc (τ := τ) (main (F := Ideal))) ⟨m, fun _ => 0, ρ⟩ fun r => ∀ c : Dev nD,
      r.2.mem ((c : Thread nD τ).loc main_v65_1) = (dats m 0 c).arrAt 13 cfg0.N
      ∧ r.2.mem ((c : Thread nD τ).loc main_v65_2) = (dats m 0 c).arrAt 14 cfg0.N
      ∧ r.2.mem ((c : Thread nD τ).loc main_v65_3) = (dats m 0 c).arrAt 15 cfg0.N
      ∧ r.2.mem ((c : Thread nD τ).loc main_v65_4) = (dats m 0 c).arrAt 16 cfg0.N
      ∧ r.2.mem ((c : Thread nD τ).loc main_v65_5) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 13, (h c).1 14, (h c).1 15, (h c).1 16, (h c).1 17,
      ((h c).1 2).trans (((dats m 0 c).arrAt_in 2 rfl _).trans ((A_eq m c 2).trans (V_main_arg0 m c))),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

/-- Where the precondition holds the pooled columns and the gains are real numbers. -/
theorem inputs_real (h : Cert.Pre_Kernel19Ideal_pool_input_and_gains_finite19 m) (c : Dev nD) :
    (∀ (r : Fin 4096) (x : Fin 768), ∃ z : ℝ, Proj m c (ix2 r ⟨x.val, by omega⟩) = z) ∧ (∀ i, ∃ x : ℝ, Gq m c i = x) ∧ (∀ i, ∃ x : ℝ, Gk m c i = x) := by
  have hc : ∀ j, Cert.Pre_pool_input_and_gains_finite19.fn (F := Ideal) (Proj m c) (Dcat m c) (Mkv m c) (m ((c : Thread nD τ).loc main_arg3)) (m ((c : Thread nD τ).loc main_arg4)) (Gq m c) (Gk m c) j = 1#1 := fun j => congrFun (h c) j
  have hb : ∀ (r : Fin 4096) (n : Fin 12) (i : Fin 64), ((max (Proj m c (ix2 r ⟨n.val * 64 + i.val, by omega⟩)) (-Proj m c (ix2 r ⟨n.val * 64 + i.val, by omega⟩)) < ⊤)
      ∧ (max (Gq m c (ix1 i)) (-Gq m c (ix1 i)) < ⊤)) ∧ (max (Gk m c (ix1 i)) (-Gk m c (ix1 i)) < ⊤) := by
    intro r n i
    have hi := hc (ix3 r n i)
    unfold Cert.Pre_pool_input_and_gains_finite19.fn at hi
    revert hi
    pointwise []
    rw [Cert.Kernel6Ideal.Proof.pinf_f32]
    intro hi
    exact ⟨Cert.Kernel6Ideal.Proof.both (Cert.Kernel13Ideal.Proof.left_bit hi), Cert.Kernel13Ideal.Proof.of_bit (Cert.Kernel13Ideal.Proof.right_bit hi)⟩
  refine ⟨fun r x => ?_, fun i => ?_, fun i => ?_⟩
  · have e : (⟨x.val, by omega⟩ : Fin 1024) = ⟨(⟨x.val / 64, by omega⟩ : Fin 12).val * 64 + (⟨x.val % 64, Nat.mod_lt _ (by norm_num)⟩ : Fin 64).val, by show x.val / 64 * 64 + x.val % 64 < 1024; omega⟩ :=
      Fin.ext (by show x.val = x.val / 64 * 64 + x.val % 64; omega)
    rw [e]
    exact Cert.Kernel6Ideal.Proof.fin_real (hb r ⟨x.val / 64, by omega⟩ ⟨x.val % 64, Nat.mod_lt _ (by norm_num)⟩).1.1
  · obtain ⟨k, rfl⟩ : ∃ k : Fin 64, i = ix1 k := ⟨i 0, by blk_ext⟩
    exact Cert.Kernel6Ideal.Proof.fin_real (hb 0 0 k).1.2
  · obtain ⟨k, rfl⟩ : ∃ k : Fin 64, i = ix1 k := ⟨i 0, by blk_ext⟩
    exact Cert.Kernel6Ideal.Proof.fin_real (hb 0 0 k).2

end Cert.Kernel19Ideal.Proof

namespace Cert.Proof

open Idealize.ShloMosaic Idealize.ShloMosaic.TcCoe Idealize.SL.Sem

/-- A function of three arguments at equal ones. -/
theorem congr3 {A B C R : Type*} (f : A → B → C → R) {a a' : A} {b b' : B} {c c' : C} (ha : a = a') (hb : b = b') (hc : c = c') : f a b c = f a' b' c' := by
  subst ha hb hc; rfl

set_option maxHeartbeats 2000000 in
/-- The idealized call's gradients of the mixer's weights and scales and of the memory's keys, values and gains are the reference's, for finite pooled columns and gains. -/
theorem poolbwd_value : Cert.algebraic_Kernel19Ideal_Reference19Ideal_pre_pool_input_and_gains_finite19 := by
  pair_intro
  · run_from Cert.Kernel19Ideal.Proof.run_bwd m g
  · have hr := Cert.Kernel19Ideal.Proof.inputs_real m hpre
    run_from Cert.Reference19Ideal.Value.run m' g'
    · refine (Cert.Reference19Ideal.Read.val_main_v209_eq (F := Ideal) (StableHlo.launchContents m' c)).trans ?_
      exact (congr3 (Cert.Reference19Ideal.Read.val_main_v209 (F := Ideal)) (hagree c).1 (hagree c).2.1 (hagree c).2.2.2.2.1).trans (Cert.Kernel19Ideal.Mix.final_dw m c (hr c).1).symm
    · refine (Cert.Reference19Ideal.Read.val_main_v220_eq (F := Ideal) (StableHlo.launchContents m' c)).trans ?_
      exact (congr3 (Cert.Reference19Ideal.Read.val_main_v220 (F := Ideal)) (hagree c).1 (hagree c).2.1 (hagree c).2.2.2.1).trans (Cert.Kernel19Ideal.Mix.final_dscale m c (hr c).1).symm
    · refine (Cert.Reference19Ideal.Read.val_main_v141_eq (F := Ideal) (StableHlo.launchContents m' c)).trans ?_
      exact (congr5 (Cert.Reference19Ideal.Read.val_main_v141 (F := Ideal)) (hagree c).1 (hagree c).2.1 (hagree c).2.2.1 (hagree c).2.2.2.2.2.1 (hagree c).2.2.2.2.2.2).trans (Cert.Kernel19Ideal.Proof.final_dmkv m c (hr c).2.1 (hr c).2.2).symm
    · refine (Cert.Reference19Ideal.Read.val_main_v221_eq (F := Ideal) (StableHlo.launchContents m' c)).trans ?_
      exact (congr5 (Cert.Reference19Ideal.Read.val_main_v221 (F := Ideal)) (hagree c).1 (hagree c).2.1 (hagree c).2.2.1 (hagree c).2.2.2.2.2.1 (hagree c).2.2.2.2.2.2).trans (Cert.Kernel19Ideal.Proof.final_dgq m c (hr c).2.1 (hr c).2.2).symm
    · refine (Cert.Reference19Ideal.Read.val_main_v222_eq (F := Ideal) (StableHlo.launchContents m' c)).trans ?_
      exact (congr5 (Cert.Reference19Ideal.Read.val_main_v222 (F := Ideal)) (hagree c).1 (hagree c).2.1 (hagree c).2.2.1 (hagree c).2.2.2.2.2.1 (hagree c).2.2.2.2.2.2).trans (Cert.Kernel19Ideal.Proof.final_dgk m c (hr c).2.1 (hr c).2.2).symm

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Loss
public import proofs.«01_k».proof.Proof.Gen.Kernel2.Frame
public import proofs.«01_k».proof.Proof.Gen.Kernel2Ideal.Frame
public import proofs.«01_k».proof.Proof.Gen.Kernel2
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Norm1
public import proofs.«01_k».proof.Proof.Gen.Kernel3.Frame
public import proofs.«01_k».proof.Proof.Gen.Kernel3Ideal.Frame
public import proofs.«01_k».proof.Proof.Gen.Kernel3
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Norm4
public import proofs.«01_k».proof.Proof.Gen.Kernel4.Frame
public import proofs.«01_k».proof.Proof.Gen.Kernel4Ideal.Frame
public import proofs.«01_k».proof.Proof.Gen.Kernel4
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.KvBwd
public import proofs.«01_k».proof.Proof.Gen.Kernel5.Frame
public import proofs.«01_k».proof.Proof.Gen.Kernel5Ideal.Frame
public import proofs.«01_k».proof.Proof.Gen.Kernel5
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Relu2
public import proofs.«01_k».proof.Proof.Gen.Kernel6.Frame
public import proofs.«01_k».proof.Proof.Gen.Kernel6Ideal.Frame
public import proofs.«01_k».proof.Proof.Gen.Kernel6
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Mem
public import proofs.«01_k».proof.Proof.Gen.Pre_gains_finite
public import proofs.«01_k».proof.Proof.Gen.Kernel7
public import proofs.«01_k».proof.Proof.Gen.Reference7Ideal
public import proofs.«01_k».proof.Proof.Gen.Reference7Ideal.Run
public import proofs.«01_k».proof.Proof.Gen.Reference7Ideal.Read
public import proofs.«01_k».proof.Proof.PoolFrame
public import proofs.«01_k».proof.Proof.PoolFrameBits
public import proofs.«01_k».proof.Proof.Gen.Kernel8
public import proofs.«01_k».proof.Proof.Gen.Reference8Ideal
public import proofs.«01_k».proof.Proof.Gen.Reference8Ideal.Run
public import proofs.«01_k».proof.Proof.Gen.Reference8Ideal.Read
public import proofs.«01_k».proof.Proof.SwaFrame
public import proofs.«01_k».proof.Proof.SwaFrameBits
public import proofs.«01_k».proof.Proof.Gen.Kernel9.Frame
public import proofs.«01_k».proof.Proof.Gen.Kernel9Ideal.Frame
public import proofs.«01_k».proof.Proof.Gen.Kernel9
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.NormAct
public import proofs.«01_k».proof.Proof.Gen.Kernel10.Frame
public import proofs.«01_k».proof.Proof.Gen.Kernel10Ideal.Frame
public import proofs.«01_k».proof.Proof.Gen.Kernel10
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.KvPrep
public import proofs.«01_k».proof.Proof.Gen.Kernel11.Frame
public import proofs.«01_k».proof.Proof.Gen.Kernel11Ideal.Frame
public import proofs.«01_k».proof.Proof.Gen.Kernel11
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.MemFwd
public import proofs.«01_k».proof.Proof.Gen.Pre_gains_finite11
public import proofs.«01_k».proof.Proof.Gen.Kernel12.Frame
public import proofs.«01_k».proof.Proof.Gen.Kernel12Ideal.Frame
public import proofs.«01_k».proof.Proof.Gen.Kernel12
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.NormIn
public import proofs.«01_k».proof.Proof.Gen.Kernel13.Frame
public import proofs.«01_k».proof.Proof.Gen.Kernel13Ideal.Frame
public import proofs.«01_k».proof.Proof.Gen.Kernel13
public import proofs.«01_k».proof.Proof.Gen.Reference13Ideal
public import proofs.«01_k».proof.Proof.Gen.Reference13Ideal.Run
public import proofs.«01_k».proof.Proof.Gen.Reference13Ideal.Read
public import proofs.«01_k».proof.Proof.SwaFwd
public import proofs.«01_k».proof.Proof.Gen.Pre_gains_and_sinks_finite
public import proofs.«01_k».proof.Proof.Gen.Kernel14.Frame
public import proofs.«01_k».proof.Proof.Gen.Kernel14Ideal.Frame
public import proofs.«01_k».proof.Proof.Gen.Kernel14
public import proofs.«01_k».proof.Proof.Gen.Reference14Ideal
public import proofs.«01_k».proof.Proof.Gen.Reference14Ideal.Run
public import proofs.«01_k».proof.Proof.Gen.Reference14Ideal.Read
public import proofs.«01_k».proof.Proof.PoolFwd
public import proofs.«01_k».proof.Proof.Gen.Pre_pool_input_and_gains_finite
public import proofs.«01_k».proof.Proof.Gen.Kernel15.Frame
public import proofs.«01_k».proof.Proof.Gen.Kernel15Ideal.Frame
public import proofs.«01_k».proof.Proof.Gen.Kernel15
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.DCat
public import proofs.«01_k».proof.Proof.Gen.Kernel16.Frame
public import proofs.«01_k».proof.Proof.Gen.Kernel16Ideal.Frame
public import proofs.«01_k».proof.Proof.Gen.Kernel16
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.MmRes
public import proofs.«01_k».proof.Proof.Gen.Kernel17.Frame
public import proofs.«01_k».proof.Proof.Gen.Kernel17Ideal.Frame
public import proofs.«01_k».proof.Proof.Gen.Kernel17
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.MmTn
public import proofs.«01_k».proof.Proof.Gen.Kernel18.Frame
public import proofs.«01_k».proof.Proof.Gen.Kernel18Ideal.Frame
public import proofs.«01_k».proof.Proof.Gen.Kernel18
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.AdamW
public import proofs.«01_k».proof.Proof.Gen.Kernel19.Frame
public import proofs.«01_k».proof.Proof.Gen.Kernel19Ideal.Frame
public import proofs.«01_k».proof.Proof.Gen.Kernel19
public import proofs.«01_k».proof.Proof.Gen.Kernel19Ideal
public import proofs.«01_k».proof.Proof.Gen.Reference19Ideal
public import proofs.«01_k».proof.Proof.Gen.Reference19Ideal.Run
public import proofs.«01_k».proof.Proof.Gen.Reference19Ideal.Read
public import proofs.«01_k».proof.Proof.PoolBwd
public import proofs.«01_k».proof.Proof.Gen.Pre_pool_input_and_gains_finite19
public import Idealize.ShloMosaic.Lib.Claim

@[expose] public section

set_option maxRecDepth 16384

noncomputable section

namespace Cert.Proof

open Idealize.ShloMosaic Idealize.ShloMosaic.TcCoe Idealize.SL.Sem

/-- Every claim of this certificate: the frames, then for each program the rewrites and the value. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Pre_gains_finite.Gen.facts,
  Cert.Pre_gains_finite11.Gen.facts,
  Cert.Pre_gains_and_sinks_finite.Gen.facts,
  Cert.Pre_pool_input_and_gains_finite.Gen.facts,
  Cert.Pre_pool_input_and_gains_finite19.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2.2.2,
      Idealize.ShloMosaic.sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2.2.2,
      Idealize.ShloMosaic.sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2.2.2,
      Idealize.ShloMosaic.sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2.2,
      Idealize.ShloMosaic.sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2,
      Idealize.ShloMosaic.sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => Cert.Kernel6Ideal.Gen.frame m ρ,
  fun m ρ _ => (θ_run Cert.Reference6Ideal.defs _ _).mono (fun r h => ⟨fun c => (h c).2.2.2.2,
      Idealize.ShloMosaic.sem_eq_zero_of_no_sems (by decide) r.2⟩) (Cert.Reference6Ideal.Value.run m ρ),
  fun m ρ _ => (θ_run Cert.Reference6Ideal.defs _ _).mono (fun r h => ⟨fun c => (h c).2.2.2.2,
      Idealize.ShloMosaic.sem_eq_zero_of_no_sems (by decide) r.2⟩) (Cert.Reference6Ideal.Value.run m ρ),
  fun m ρ _ => Cert.Proof.PoolFrameBits.frame m ρ,
  fun m ρ _ => Cert.Proof.PoolFrame.frame m ρ,
  fun m ρ _ => (θ_run Cert.Reference7Ideal.defs _ _).mono (fun r h => ⟨fun c => (h c).2.2.2.2.2.2,
      Idealize.ShloMosaic.sem_eq_zero_of_no_sems (by decide) r.2⟩) (Cert.Reference7Ideal.Value.run m ρ),
  fun m ρ _ => Cert.Proof.SwaFrameBits.frame m ρ,
  fun m ρ _ => Cert.Proof.SwaFrame.frame m ρ,
  fun m ρ _ => (θ_run Cert.Reference8Ideal.defs _ _).mono (fun r h => ⟨fun c => (h c).2.2.2.2.2,
      Idealize.ShloMosaic.sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run Cert.Reference9Ideal.defs _ _).mono (fun r h => ⟨fun c => (h c).2.2,
      Idealize.ShloMosaic.sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run Cert.Reference10Ideal.defs _ _).mono (fun r h => ⟨fun c => (h c).2.2,
      Idealize.ShloMosaic.sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => Cert.Kernel11Ideal.Gen.frame m ρ,
  fun m ρ _ => (θ_run Cert.Reference11Ideal.defs _ _).mono (fun r h => ⟨fun c => (h c).2.2,
      Idealize.ShloMosaic.sem_eq_zero_of_no_sems (by decide) r.2⟩) (Cert.Reference11Ideal.Value.run m ρ),
  fun m ρ _ => (θ_run Cert.Reference11Ideal.defs _ _).mono (fun r h => ⟨fun c => (h c).2.2,
      Idealize.ShloMosaic.sem_eq_zero_of_no_sems (by decide) r.2⟩) (Cert.Reference11Ideal.Value.run m ρ),
  fun m ρ _ => Cert.Kernel12.Gen.frame m ρ,
  fun m ρ _ => Cert.Kernel12Ideal.Gen.frame m ρ,
  fun m ρ _ => (θ_run Cert.Reference12Ideal.defs _ _).mono (fun r h => ⟨fun c => (h c).2.2,
      Idealize.ShloMosaic.sem_eq_zero_of_no_sems (by decide) r.2⟩) (Cert.Reference12Ideal.Value.run m ρ),
  fun m ρ _ => Cert.Kernel13.Gen.frame m ρ,
  fun m ρ _ => Cert.Kernel13Ideal.Gen.frame m ρ,
  fun m ρ _ => Cert.Kernel13Ideal.Gen.frame m ρ,
  fun m ρ _ => (θ_run Cert.Reference13Ideal.defs _ _).mono (fun r h => ⟨fun c => (h c).2.2.2,
      Idealize.ShloMosaic.sem_eq_zero_of_no_sems (by decide) r.2⟩) (Cert.Reference13Ideal.Value.run m ρ),
  fun m ρ _ => (θ_run Cert.Reference13Ideal.defs _ _).mono (fun r h => ⟨fun c => (h c).2.2.2,
      Idealize.ShloMosaic.sem_eq_zero_of_no_sems (by decide) r.2⟩) (Cert.Reference13Ideal.Value.run m ρ),
  fun m ρ _ => Cert.Kernel14.Gen.frame m ρ,
  fun m ρ _ => Cert.Kernel14Ideal.Gen.frame m ρ,
  fun m ρ _ => Cert.Kernel14Ideal.Gen.frame m ρ,
  fun m ρ _ => (θ_run Cert.Reference14Ideal.defs _ _).mono (fun r h => ⟨fun c => (h c).2.2,
      Idealize.ShloMosaic.sem_eq_zero_of_no_sems (by decide) r.2⟩) (Cert.Reference14Ideal.Value.run m ρ),
  fun m ρ _ => (θ_run Cert.Reference14Ideal.defs _ _).mono (fun r h => ⟨fun c => (h c).2.2,
      Idealize.ShloMosaic.sem_eq_zero_of_no_sems (by decide) r.2⟩) (Cert.Reference14Ideal.Value.run m ρ),
  fun m ρ _ => Cert.Kernel15.Gen.frame m ρ,
  fun m ρ _ => Cert.Kernel15Ideal.Gen.frame m ρ,
  fun m ρ _ => (θ_run Cert.Reference15Ideal.defs _ _).mono (fun r h => ⟨fun c => (h c).2,
      Idealize.ShloMosaic.sem_eq_zero_of_no_sems (by decide) r.2⟩) (Cert.Reference15Ideal.Value.run m ρ),
  fun m ρ _ => Cert.Kernel16.Gen.frame m ρ,
  fun m ρ _ => Cert.Kernel16Ideal.Gen.frame m ρ,
  fun m ρ _ => (θ_run Cert.Reference16Ideal.defs _ _).mono (fun r h => ⟨fun c => (h c).2,
      Idealize.ShloMosaic.sem_eq_zero_of_no_sems (by decide) r.2⟩) (Cert.Reference16Ideal.Value.run m ρ),
  fun m ρ _ => Cert.Kernel17.Gen.frame m ρ,
  fun m ρ _ => Cert.Kernel17Ideal.Gen.frame m ρ,
  fun m ρ _ => (θ_run Cert.Reference17Ideal.defs _ _).mono (fun r h => ⟨fun c => (h c).2,
      Idealize.ShloMosaic.sem_eq_zero_of_no_sems (by decide) r.2⟩) (Cert.Reference17Ideal.Value.run m ρ),
  fun m ρ _ => Cert.Kernel18.Gen.frame m ρ,
  fun m ρ _ => Cert.Kernel18Ideal.Gen.frame m ρ,
  fun m ρ _ => (θ_run Cert.Reference18Ideal.defs _ _).mono (fun r h => ⟨fun c => (h c).2.2.2.2,
      Idealize.ShloMosaic.sem_eq_zero_of_no_sems (by decide) r.2⟩) (Cert.Reference18Ideal.Value.run m ρ),
  fun m ρ _ => Cert.Kernel19.Gen.frame m ρ,
  fun m ρ _ => Cert.Kernel19Ideal.Gen.frame m ρ,
  fun m ρ _ => Cert.Kernel19Ideal.Gen.frame m ρ,
  fun m ρ _ => (θ_run Cert.Reference19Ideal.defs _ _).mono (fun r h => ⟨fun c => (h c).2.2.2.2.2,
      Idealize.ShloMosaic.sem_eq_zero_of_no_sems (by decide) r.2⟩) (Cert.Reference19Ideal.Value.run m ρ),
  fun m ρ _ => (θ_run Cert.Reference19Ideal.defs _ _).mono (fun r h => ⟨fun c => (h c).2.2.2.2.2,
      Idealize.ShloMosaic.sem_eq_zero_of_no_sems (by decide) r.2⟩) (Cert.Reference19Ideal.Value.run m ρ),
  trivial,
  loss_value,
  trivial,
  norm1_value,
  trivial,
  norm4_value,
  trivial,
  kvbwd_value,
  trivial,
  relu2_value,
  trivial,
  mem_value,
  trivial,
  trivial,
  trivial,
  normact_value,
  trivial,
  kvprep_value,
  trivial,
  memfwd_value,
  trivial,
  normin_value,
  trivial,
  swafwd_value,
  trivial,
  poolfwd_value,
  trivial,
  dcat_value,
  trivial,
  mmres_value,
  trivial,
  mmtn_value,
  trivial,
  adamw_value,
  trivial,
  poolbwd_value⟩

end Cert.Proof

end
